-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)) (v2 : (c : Dev Cert.KernelIdeal.nD) → Buf (Elt Ideal) ((c.tc : Thread Cert.KernelIdeal.nD Cert.KernelIdeal.τ).loc Cert.KernelIdeal.main_v47)) (v3 : (c : Dev Cert.KernelIdeal.nD) → Buf (Elt Ideal) ((c.tc : Thread Cert.KernelIdeal.nD Cert.KernelIdeal.τ).loc Cert.KernelIdeal.main_v48)) (v4 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_v47) = v2 c
          ∧ r.2.mem ((c.tc : Thread Cert.KernelIdeal.nD Cert.KernelIdeal.τ).loc Cert.KernelIdeal.main_v48) = v3 c
          ∧ r.2.mem ((c.tc : Thread Cert.KernelIdeal.nD Cert.KernelIdeal.τ).loc Cert.KernelIdeal.main_v49) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_v103) = v2 c
          ∧ r.2.mem ((c.tc : Thread Cert.ReferenceIdeal.nD Cert.ReferenceIdeal.τ).loc Cert.ReferenceIdeal.main_v94) = v3 c
          ∧ r.2.mem ((c.tc : Thread Cert.ReferenceIdeal.nD Cert.ReferenceIdeal.τ).loc Cert.ReferenceIdeal.main_v60) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v4)) (v2 : (c : Dev Cert.Kernel4Ideal.nD) → Buf (Elt Ideal) ((c.tc : Thread Cert.Kernel4Ideal.nD Cert.Kernel4Ideal.τ).loc Cert.Kernel4Ideal.main_v5)) (v3 : (c : Dev Cert.Kernel4Ideal.nD) → Buf (Elt Ideal) ((c.tc : Thread Cert.Kernel4Ideal.nD Cert.Kernel4Ideal.τ).loc Cert.Kernel4Ideal.main_v3_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v4) = v1 c
          ∧ r.2.mem ((c.tc : Thread Cert.Kernel4Ideal.nD Cert.Kernel4Ideal.τ).loc Cert.Kernel4Ideal.main_v5) = v2 c
          ∧ r.2.mem ((c.tc : Thread Cert.Kernel4Ideal.nD Cert.Kernel4Ideal.τ).loc Cert.Kernel4Ideal.main_v3_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v47) = v0 c
          ∧ r.2.mem ((c.tc : Thread Cert.Reference4Ideal.nD Cert.Reference4Ideal.τ).loc Cert.Reference4Ideal.main_v32) = v1 c
          ∧ r.2.mem ((c.tc : Thread Cert.Reference4Ideal.nD Cert.Reference4Ideal.τ).loc Cert.Reference4Ideal.main_v25) = v2 c
          ∧ r.2.mem ((c.tc : Thread Cert.Reference4Ideal.nD Cert.Reference4Ideal.τ).loc Cert.Reference4Ideal.main_v48) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v3) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v11) = v0 c
          ∧ r.2.mem ((c.tc : Thread Cert.Reference10Ideal.nD Cert.Reference10Ideal.τ).loc Cert.Reference10Ideal.main_v9) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v2_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v2_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v14) = v0 c
          ∧ r.2.mem ((c.tc : Thread Cert.Reference12Ideal.nD Cert.Reference12Ideal.τ).loc Cert.Reference12Ideal.main_v19) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v2_0)) (v1 : (c : Dev Cert.Kernel13Ideal.nD) → Buf (Elt Ideal) ((c.tc : Thread Cert.Kernel13Ideal.nD Cert.Kernel13Ideal.τ).loc Cert.Kernel13Ideal.main_v2_1)) (v2 : (c : Dev Cert.Kernel13Ideal.nD) → Buf (Elt Ideal) ((c.tc : Thread Cert.Kernel13Ideal.nD Cert.Kernel13Ideal.τ).loc Cert.Kernel13Ideal.main_v2_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2_0) = v0 c
          ∧ r.2.mem ((c.tc : Thread Cert.Kernel13Ideal.nD Cert.Kernel13Ideal.τ).loc Cert.Kernel13Ideal.main_v2_1) = v1 c
          ∧ r.2.mem ((c.tc : Thread Cert.Kernel13Ideal.nD Cert.Kernel13Ideal.τ).loc Cert.Kernel13Ideal.main_v2_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v18) = v0 c
          ∧ r.2.mem ((c.tc : Thread Cert.Reference13Ideal.nD Cert.Reference13Ideal.τ).loc Cert.Reference13Ideal.main_v19) = v1 c
          ∧ r.2.mem ((c.tc : Thread Cert.Reference13Ideal.nD Cert.Reference13Ideal.τ).loc Cert.Reference13Ideal.main_v28) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)) (v2 : (c : Dev Cert.Kernel9Ideal.nD) → Buf (Elt Ideal) ((c.tc : Thread Cert.Kernel9Ideal.nD Cert.Kernel9Ideal.τ).loc Cert.Kernel9Ideal.main_v3_2)) (v3 : (c : Dev Cert.Kernel9Ideal.nD) → Buf (Elt Ideal) ((c.tc : Thread Cert.Kernel9Ideal.nD Cert.Kernel9Ideal.τ).loc Cert.Kernel9Ideal.main_v3_3)) (v4 : (c : Dev Cert.Kernel9Ideal.nD) → Buf (Elt Ideal) ((c.tc : Thread Cert.Kernel9Ideal.nD Cert.Kernel9Ideal.τ).loc Cert.Kernel9Ideal.main_v3_4)) (v5 : (c : Dev Cert.Kernel9Ideal.nD) → Buf (Elt Ideal) ((c.tc : Thread Cert.Kernel9Ideal.nD Cert.Kernel9Ideal.τ).loc Cert.Kernel9Ideal.main_v4)) (v6 : (c : Dev Cert.Kernel9Ideal.nD) → Buf (Elt Ideal) ((c.tc : Thread Cert.Kernel9Ideal.nD Cert.Kernel9Ideal.τ).loc Cert.Kernel9Ideal.main_v3_6)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_v3_2) = v2 c
          ∧ r.2.mem ((c.tc : Thread Cert.Kernel9Ideal.nD Cert.Kernel9Ideal.τ).loc Cert.Kernel9Ideal.main_v3_3) = v3 c
          ∧ r.2.mem ((c.tc : Thread Cert.Kernel9Ideal.nD Cert.Kernel9Ideal.τ).loc Cert.Kernel9Ideal.main_v3_4) = v4 c
          ∧ r.2.mem ((c.tc : Thread Cert.Kernel9Ideal.nD Cert.Kernel9Ideal.τ).loc Cert.Kernel9Ideal.main_v4) = v5 c
          ∧ r.2.mem ((c.tc : Thread Cert.Kernel9Ideal.nD Cert.Kernel9Ideal.τ).loc Cert.Kernel9Ideal.main_v3_6) = v6 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v96) = v0 c
          ∧ r.2.mem ((c.tc : Thread Cert.Reference9Ideal.nD Cert.Reference9Ideal.τ).loc Cert.Reference9Ideal.main_v97) = v1 c
          ∧ r.2.mem ((c.tc : Thread Cert.Reference9Ideal.nD Cert.Reference9Ideal.τ).loc Cert.Reference9Ideal.main_v98) = v2 c
          ∧ r.2.mem ((c.tc : Thread Cert.Reference9Ideal.nD Cert.Reference9Ideal.τ).loc Cert.Reference9Ideal.main_v99) = v3 c
          ∧ r.2.mem ((c.tc : Thread Cert.Reference9Ideal.nD Cert.Reference9Ideal.τ).loc Cert.Reference9Ideal.main_v100) = v4 c
          ∧ r.2.mem ((c.tc : Thread Cert.Reference9Ideal.nD Cert.Reference9Ideal.τ).loc Cert.Reference9Ideal.main_v82) = v5 c
          ∧ r.2.mem ((c.tc : Thread Cert.Reference9Ideal.nD Cert.Reference9Ideal.τ).loc Cert.Reference9Ideal.main_v101) = v6 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v3_0)) (v1 : (c : Dev Cert.Kernel14Ideal.nD) → Buf (Elt Ideal) ((c.tc : Thread Cert.Kernel14Ideal.nD Cert.Kernel14Ideal.τ).loc Cert.Kernel14Ideal.main_v3_1)) (v2 : (c : Dev Cert.Kernel14Ideal.nD) → Buf (Elt Ideal) ((c.tc : Thread Cert.Kernel14Ideal.nD Cert.Kernel14Ideal.τ).loc Cert.Kernel14Ideal.main_v3_2)) (v3 : (c : Dev Cert.Kernel14Ideal.nD) → Buf (Elt Ideal) ((c.tc : Thread Cert.Kernel14Ideal.nD Cert.Kernel14Ideal.τ).loc Cert.Kernel14Ideal.main_v3_3)) (v4 : (c : Dev Cert.Kernel14Ideal.nD) → Buf (Elt Ideal) ((c.tc : Thread Cert.Kernel14Ideal.nD Cert.Kernel14Ideal.τ).loc Cert.Kernel14Ideal.main_v3_4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3_0) = v0 c
          ∧ r.2.mem ((c.tc : Thread Cert.Kernel14Ideal.nD Cert.Kernel14Ideal.τ).loc Cert.Kernel14Ideal.main_v3_1) = v1 c
          ∧ r.2.mem ((c.tc : Thread Cert.Kernel14Ideal.nD Cert.Kernel14Ideal.τ).loc Cert.Kernel14Ideal.main_v3_2) = v2 c
          ∧ r.2.mem ((c.tc : Thread Cert.Kernel14Ideal.nD Cert.Kernel14Ideal.τ).loc Cert.Kernel14Ideal.main_v3_3) = v3 c
          ∧ r.2.mem ((c.tc : Thread Cert.Kernel14Ideal.nD Cert.Kernel14Ideal.τ).loc Cert.Kernel14Ideal.main_v3_4) = v4 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v44) = v0 c
          ∧ r.2.mem ((c.tc : Thread Cert.Reference14Ideal.nD Cert.Reference14Ideal.τ).loc Cert.Reference14Ideal.main_v45) = v1 c
          ∧ r.2.mem ((c.tc : Thread Cert.Reference14Ideal.nD Cert.Reference14Ideal.τ).loc Cert.Reference14Ideal.main_v46) = v2 c
          ∧ r.2.mem ((c.tc : Thread Cert.Reference14Ideal.nD Cert.Reference14Ideal.τ).loc Cert.Reference14Ideal.main_v47) = v3 c
          ∧ r.2.mem ((c.tc : Thread Cert.Reference14Ideal.nD Cert.Reference14Ideal.τ).loc Cert.Reference14Ideal.main_v48) = v4 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel9 : Cert.Kernel9.Facts) (hKernel9Ideal : Cert.Kernel9Ideal.Facts) (hReference9Ideal : Cert.Reference9Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel9_Kernel9Ideal
    ∧ algebraic_Kernel9Ideal_Reference9Ideal (hKernel9Ideal := hKernel9Ideal) (hReference9Ideal := hReference9Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite.lean ====
abbrev S16384x1024 : Shape := ⟨2, ![16384, 1024]⟩
abbrev S1x1024 : Shape := ⟨2, ![1, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S3x2816 : S_.BroadcastsInDim S3x2816 (![] : Fin 0 → Fin S3x2816.rank)
  bcast_S_S2816 : S_.BroadcastsInDim S2816 (![] : Fin 0 → Fin S2816.rank)
  bcast_S_S2816x1024 : S_.BroadcastsInDim S2816x1024 (![] : Fin 0 → Fin S2816x1024.rank)

variable [Facts]

def fn_part1 {F : FTy → Type} [FloatOps F] (main_arg6 : FVec F S16384x1024 .f32) (main_v2 : IVec S16384x1024 1) (main_v5 : IVec S1x1024 1) (main_v8 : IVec S1024x5632 1) (main_v11 : IVec S3x2816 1) (main_v14 : IVec S2816 1) (main_v17 : IVec S2816x1024 1) : IVec S16384x1024 1 × IVec S1x1024 1 × IVec S1024x5632 1 × IVec S3x2816 1 × IVec S2816 1 × IVec S2816x1024 1 × IVec S16384x1024 1 :=
  let main_v18 : FVec F S16384x1024 .f32 := Host.absf main_arg6
  let main_cst_5 : FVec F S_ .f32 := constant S_ .f32 0x7F800000#32
  let main_v19 : FVec F S16384x1024 .f32 := broadcastInDim S16384x1024 ![] bcast_S_S16384x1024 main_cst_5
  let main_v20 : IVec S16384x1024 1 := cmpf .olt main_v18 main_v19
  (main_v2, main_v5, main_v8, main_v11, main_v14, main_v17, main_v20)

def fn {F : FTy → Type} [FloatOps F] (main_arg0 : FVec F S16384x1024 .f32) (main_arg1 : FVec F S1x1024 .f32) (main_arg2 : FVec F S1024x5632 .f32) (main_arg3 : FVec F S3x2816 .f32) (main_arg4 : FVec F S2816 .f32) (main_arg5 : FVec F S2816x1024 .f32) (main_arg6 : FVec F S16384x1024 .f32) : IVec S16384x1024 1 × IVec S1x1024 1 × IVec S1024x5632 1 × IVec S3x2816 1 × IVec S2816 1 × IVec S2816x1024 1 × IVec S16384x1024 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x5632 .f32 := Host.absf main_arg2
  let main_cst_1 : FVec F S_ .f32 := constant S_ .f32 0x7F800000#32
  let main_v7 : FVec F S1024x5632 .f32 := broadcastInDim S1024x5632 ![] bcast_S_S1024x5632 main_cst_1
  let main_v8 : IVec S1024x5632 1 := cmpf .olt main_v6 main_v7
  let main_v9 : FVec F S3x2816 .f32 := Host.absf main_arg3
  let main_cst_2 : FVec F S_ .f32 := constant S_ .f32 0x7F800000#32
  let main_v10 : FVec F S3x2816 .f32 := broadcastInDim S3x2816 ![] bcast_S_S3x2816 main_cst_2
  let main_v11 : IVec S3x2816 1 := cmpf .olt main_v9 main_v10
  let main_v12 : FVec F S2816 .f32 := Host.absf main_arg4
  let main_cst_3 : FVec F S_ .f32 := constant S_ .f32 0x7F800000#32
  let main_v13 : FVec F S2816 .f32 := broadcastInDim S2816 ![] bcast_S_S2816 main_cst_3
  let main_v14 : IVec S2816 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  fn_part1 (F := F) main_arg6 main_v2 main_v5 main_v8 main_v11 main_v14 main_v17
-- ==== Kernel.lean ====
abbrev S16384x1024 : Shape := ⟨2, ![16384, 1024]⟩
abbrev S1x1024 : Shape := ⟨2, ![1, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩
abbrev S1x2816 : Shape := ⟨2, ![1, 2816]⟩
abbrev S2x2816 : Shape := ⟨2, ![2, 2816]⟩
abbrev S16382x2816 : Shape := ⟨2, ![16382, 2816]⟩
abbrev S16383x2816 : Shape := ⟨2, ![16383, 2816]⟩
abbrev S8x1024 : Shape := ⟨2, ![8, 1024]⟩
abbrev S3x8x2816 : Shape := ⟨3, ![3, 8, 2816]⟩
abbrev S8x2816 : Shape := ⟨2, ![8, 2816]⟩
abbrev S256x1024 : Shape := ⟨2, ![256, 1024]⟩
abbrev S256x5632 : Shape := ⟨2, ![256, 5632]⟩
abbrev S256x2816 : Shape := ⟨2, ![256, 2816]⟩
abbrev S264x256 : Shape := ⟨2, ![264, 256]⟩
abbrev S256x256 : Shape := ⟨2, ![256, 256]⟩
abbrev S8x256 : Shape := ⟨2, ![8, 256]⟩
abbrev S32x8x256 : Shape := ⟨3, ![32, 8, 256]⟩
abbrev S1x8x256 : Shape := ⟨3, ![1, 8, 256]⟩
abbrev S1x256 : Shape := ⟨2, ![1, 256]⟩
abbrev S256 : Shape := ⟨1, ![256]⟩
abbrev S256x1 : Shape := ⟨2, ![256, 1]⟩
abbrev S32x8x1024 : Shape := ⟨3, ![32, 8, 1024]⟩

abbrev nBuf : Space → Nat
  | .hbm => 69
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S16384x1024, .f32⟩
  | .hbm, ⟨7, _⟩ => ⟨S1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x5632, .f32⟩
  | .hbm, ⟨25, _⟩ => ⟨S16384x2816, .f32⟩
  | .hbm, ⟨26, _⟩ => ⟨S1x2816, .f32⟩
  | .hbm, ⟨27, _⟩ => ⟨S2816, .f32⟩
  | .hbm, ⟨28, _⟩ => ⟨S_, .f32⟩
  | .hbm, ⟨29, _⟩ => ⟨S2x2816, .f32⟩
  | .hbm, ⟨30, _⟩ => ⟨S16382x2816, .f32⟩
  | .hbm, ⟨31, _⟩ => ⟨S16384x2816, .f32⟩
  | .hbm, ⟨32, _⟩ => ⟨S1x2816, .f32⟩
  | .hbm, ⟨33, _⟩ => ⟨S16384x2816, .f32⟩
  | .hbm, ⟨34, _⟩ => ⟨S16384x2816, .f32⟩
  | .hbm, ⟨35, _⟩ => ⟨S1x2816, .f32⟩
  | .hbm, ⟨36, _⟩ => ⟨S2816, .f32⟩
  | .hbm, ⟨37, _⟩ => ⟨S_, .f32⟩
  | .hbm, ⟨38, _⟩ => ⟨S1x2816, .f32⟩
  | .hbm, ⟨39, _⟩ => ⟨S16383x2816, .f32⟩
  | .hbm, ⟨40, _⟩ => ⟨S16384x2816, .f32⟩
  | .hbm, ⟨41, _⟩ => ⟨S1x2816, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S1x2816, .f32⟩
  | .hbm, ⟨46, _⟩ => ⟨S2816, .f32⟩
  | .hbm, ⟨47, _⟩ => ⟨S1x2816, .f32⟩
  | .hbm, ⟨48, _⟩ => ⟨S16384x2816, .f32⟩
  | .hbm, ⟨49, _⟩ => ⟨S16384x2816, .f32⟩
  | .hbm, ⟨50, _⟩ => ⟨S16384x2816, .f32⟩
  | .hbm, ⟨51, _⟩ => ⟨S1x2816, .f32⟩
  | .hbm, ⟨52, _⟩ => ⟨S16384x2816, .f32⟩
  | .hbm, ⟨53, _⟩ => ⟨S16384x2816, .f32⟩
  | .hbm, ⟨54, _⟩ => ⟨S16384x5632, .bf16⟩
  | .hbm, ⟨55, _⟩ => ⟨S16384x2816, .bf16⟩
  | .hbm, ⟨56, _⟩ => ⟨S2816x1024, .bf16⟩
  | .hbm, ⟨57, _⟩ => ⟨S1024x5632, .bf16⟩
  | .hbm, ⟨58, _⟩ => ⟨S16384x1024, .f32⟩
  | .hbm, ⟨59, _⟩ => ⟨S16384x5632, .bf16⟩
  | .hbm, ⟨60, _⟩ => ⟨S8x1024, .f32⟩
  | .hbm, ⟨61, _⟩ => ⟨S3x8x2816, .f32⟩
  | .hbm, ⟨62, _⟩ => ⟨S8x2816, .f32⟩
  | .hbm, ⟨63, _⟩ => ⟨S_, .f32⟩
  | .hbm, ⟨64, _⟩ => ⟨S1024, .f32⟩
  | .hbm, ⟨65, _⟩ => ⟨S_, .f32⟩
  | .hbm, ⟨66, _⟩ => ⟨S3x2816, .f32⟩
  | .hbm, ⟨67, _⟩ => ⟨S_, .f32⟩
  | .hbm, ⟨68, _⟩ => ⟨S2816, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x5632, .bf16⟩
  | .local _ .vmem, ⟨6, _⟩ => ⟨S256x5632, .bf16⟩
  | .local _ .vmem, ⟨7, _⟩ => ⟨S256x2816, .bf16⟩
  | .local _ .vmem, ⟨8, _⟩ => ⟨S256x2816, .bf16⟩
  | .local _ .vmem, ⟨9, _⟩ => ⟨S3x2816, .f32⟩
  | .local _ .vmem, ⟨10, _⟩ => ⟨S2816x1024, .bf16⟩
  | .local _ .vmem, ⟨11, _⟩ => ⟨S1024x5632, .bf16⟩
  | .local _ .vmem, ⟨12, _⟩ => ⟨S256x1024, .f32⟩
  | .local _ .vmem, ⟨13, _⟩ => ⟨S256x1024, .f32⟩
  | .local _ .vmem, ⟨14, _⟩ => ⟨S256x5632, .bf16⟩
  | .local _ .vmem, ⟨15, _⟩ => ⟨S256x5632, .bf16⟩
  | .local _ .vmem, ⟨16, _⟩ => ⟨S8x1024, .f32⟩
  | .local _ .vmem, ⟨17, _⟩ => ⟨S3x8x2816, .f32⟩
  | .local _ .vmem, ⟨18, _⟩ => ⟨S8x2816, .f32⟩
  | .local _ .vmem, ⟨19, _⟩ => ⟨S8x2816, .f32⟩
  | .local _ .vmem, ⟨20, _⟩ => ⟨S264x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46_0 : Ref sig .tc := ⟨.hbm, 58, rfl⟩
abbrev main_v46_1 : Ref sig .tc := ⟨.hbm, 59, rfl⟩
abbrev main_v46_2 : Ref sig .tc := ⟨.hbm, 60, rfl⟩
abbrev main_v46_3 : Ref sig .tc := ⟨.hbm, 61, rfl⟩
abbrev main_v46_4 : Ref sig .tc := ⟨.hbm, 62, rfl⟩
abbrev main_cst_4 : Ref sig .tc := ⟨.hbm, 63, rfl⟩
abbrev main_v47 : Ref sig .tc := ⟨.hbm, 64, rfl⟩
abbrev main_cst_5 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x8x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x2816 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S16384x1024 : Shape := ⟨2, ![16384, 1024]⟩
abbrev S1x1024 : Shape := ⟨2, ![1, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩
abbrev S1x2816 : Shape := ⟨2, ![1, 2816]⟩
abbrev S2x2816 : Shape := ⟨2, ![2, 2816]⟩
abbrev S16382x2816 : Shape := ⟨2, ![16382, 2816]⟩
abbrev S16383x2816 : Shape := ⟨2, ![16383, 2816]⟩

abbrev nBuf : Space → Nat
  | .hbm => 170
  | .vmem => 0
  | .smem => 0
  | _ => 0

abbrev hbmTy0_0 (i : Nat) : BufTy := match i % 128 with
  | 0 => ⟨S16384x1024, .f32⟩
  | 1 => ⟨S1x1024, .f32⟩
  | 2 => ⟨S1024x5632, .f32⟩
  | 3 => ⟨S3x2816, .f32⟩
  | 4 => ⟨S2816, .f32⟩
  | 5 => ⟨S2816x1024, .f32⟩
  | 6 => ⟨S16384x1024, .f32⟩
  | 7 => ⟨S1024, .f32⟩
  | 8 => ⟨S16384x1024, .f32⟩
  | 9 => ⟨S_, .f32⟩
  | 10 => ⟨S16384, .f32⟩
  | 11 => ⟨S16384x1, .f32⟩
  | 12 => ⟨S_, .f32⟩
  | 13 => ⟨S16384x1, .f32⟩
  | 14 => ⟨S16384x1, .f32⟩
  | 15 => ⟨S_, .f32⟩
  | 16 => ⟨S16384x1, .f32⟩
  | 17 => ⟨S16384x1, .f32⟩
  | 18 => ⟨S16384x1, .f32⟩
  | 19 => ⟨S16384x1, .f32⟩
  | 20 => ⟨S_, .f32⟩
  | 21 => ⟨S16384x1, .f32⟩
  | 22 => ⟨S16384x1, .f32⟩
  | 23 => ⟨S16384x1024, .f32⟩
  | 24 => ⟨S16384x1024, .f32⟩
  | 25 => ⟨S1x1024, .f32⟩
  | 26 => ⟨S16384x1024, .f32⟩
  | 27 => ⟨S16384x1024, .f32⟩
  | 28 => ⟨S16384x5632, .f32⟩
  | 29 => ⟨S16384x2816, .f32⟩
  | 30 => ⟨S1x2816, .f32⟩
  | 31 => ⟨S2816, .f32⟩
  | 32 => ⟨S_, .f32⟩
  | 33 => ⟨S2x2816, .f32⟩
  | 34 => ⟨S16382x2816, .f32⟩
  | 35 => ⟨S16384x2816, .f32⟩
  | 36 => ⟨S_, .f32⟩
  | 37 => ⟨S2x2816, .f32⟩
  | 38 => ⟨S1x2816, .f32⟩
  | 39 => ⟨S16384x2816, .f32⟩
  | 40 => ⟨S16384x2816, .f32⟩
  | 41 => ⟨S1x2816, .f32⟩
  | 42 => ⟨S2816, .f32⟩
  | 43 => ⟨S_, .f32⟩
  | 44 => ⟨S1x2816, .f32⟩
  | 45 => ⟨S16383x2816, .f32⟩
  | 46 => ⟨S16384x2816, .f32⟩
  | 47 => ⟨S_, .f32⟩
  | 48 => ⟨S1x2816, .f32⟩
  | 49 => ⟨S1x2816, .f32⟩
  | 50 => ⟨S16384x2816, .f32⟩
  | 51 => ⟨S16384x2816, .f32⟩
  | 52 => ⟨S16384x2816, .f32⟩
  | 53 => ⟨S1x2816, .f32⟩
  | 54 => ⟨S2816, .f32⟩
  | 55 => ⟨S1x2816, .f32⟩
  | 56 => ⟨S16384x2816, .f32⟩
  | 57 => ⟨S16384x2816, .f32⟩
  | 58 => ⟨S16384x2816, .f32⟩
  | 59 => ⟨S1x2816, .f32⟩
  | 60 => ⟨S16384x2816, .f32⟩
  | 61 => ⟨S16384x2816, .f32⟩
  | 62 => ⟨S16384x2816, .f32⟩
  | 63 => ⟨S16384x2816, .f32⟩
  | 64 => ⟨S_, .f32⟩
  | 65 => ⟨S16384x2816, .f32⟩
  | 66 => ⟨S16384x2816, .f32⟩
  | 67 => ⟨S_, .f32⟩
  | 68 => ⟨S16384x2816, .f32⟩
  | 69 => ⟨S16384x2816, .f32⟩
  | 70 => ⟨S_, .f32⟩
  | 71 => ⟨S16384x2816, .f32⟩
  | 72 => ⟨S16384x2816, .f32⟩
  | 73 => ⟨S16384x2816, .f32⟩
  | 74 => ⟨S16384x2816, .f32⟩
  | 75 => ⟨S16384x2816, .f32⟩
  | 76 => ⟨S16384x2816, .f32⟩
  | 77 => ⟨S16384x1024, .f32⟩
  | 78 => ⟨S16384x1024, .f32⟩
  | 79 => ⟨S16384x1024, .f32⟩
  | 80 => ⟨S16384x2816, .f32⟩
  | 81 => ⟨S16384x2816, .f32⟩
  | 82 => ⟨S16384x2816, .f32⟩
  | 83 => ⟨S_, .f32⟩
  | 84 => ⟨S16384x5632, .f32⟩
  | 85 => ⟨S16384x2816, .f32⟩
  | 86 => ⟨S16384x2816, .f32⟩
  | 87 => ⟨S16384x2816, .f32⟩
  | 88 => ⟨S16384x2816, .f32⟩
  | 89 => ⟨S_, .f32⟩
  | 90 => ⟨S2816, .f32⟩
  | 91 => ⟨S1x2816, .f32⟩
  | 92 => ⟨S_, .f32⟩
  | 93 => ⟨S2816, .f32⟩
  | 94 => ⟨S16384x2816, .f32⟩
  | 95 => ⟨S16384x2816, .f32⟩
  | 96 => ⟨S16384x2816, .f32⟩
  | 97 => ⟨S_, .f32⟩
  | 98 => ⟨S2816, .f32⟩
  | 99 => ⟨S1x2816, .f32⟩
  | 100 => ⟨S_, .f32⟩
  | 101 => ⟨S2816, .f32⟩
  | 102 => ⟨S1x2816, .f32⟩
  | 103 => ⟨S_, .f32⟩
  | 104 => ⟨S3x2816, .f32⟩
  | 105 => ⟨S16384x2816, .f32⟩
  | 106 => ⟨S16384x2816, .f32⟩
  | 107 => ⟨S16384x2816, .f32⟩
  | 108 => ⟨S_, .f32⟩
  | 109 => ⟨S2816, .f32⟩
  | 110 => ⟨S1x2816, .f32⟩
  | 111 => ⟨S_, .f32⟩
  | 112 => ⟨S2816, .f32⟩
  | 113 => ⟨S1x2816, .f32⟩
  | 114 => ⟨S16383x2816, .f32⟩
  | 115 => ⟨S_, .f32⟩
  | 116 => ⟨S16384x2816, .f32⟩
  | 117 => ⟨S16384x2816, .f32⟩
  | 118 => ⟨S1x2816, .f32⟩
  | 119 => ⟨S_, .f32⟩
  | 120 => ⟨S3x2816, .f32⟩
  | 121 => ⟨S3x2816, .f32⟩
  | 122 => ⟨S16384x2816, .f32⟩
  | 123 => ⟨S16384x2816, .f32⟩
  | 124 => ⟨S16384x2816, .f32⟩
  | 125 => ⟨S_, .f32⟩
  | 126 => ⟨S2816, .f32⟩
  | 127 => ⟨S1x2816, .f32⟩
  | _ => ⟨S16384x1024, .f32⟩

abbrev hbmTy0_1 (i : Nat) : BufTy := match i % 128 with
  | 0 => ⟨S_, .f32⟩
  | 1 => ⟨S2816, .f32⟩
  | 2 => ⟨S2x2816, .f32⟩
  | 3 => ⟨S16382x2816, .f32⟩
  | 4 => ⟨S_, .f32⟩
  | 5 => ⟨S16384x2816, .f32⟩
  | 6 => ⟨S16384x2816, .f32⟩
  | 7 => ⟨S1x2816, .f32⟩
  | 8 => ⟨S_, .f32⟩
  | 9 => ⟨S3x2816, .f32⟩
  | 10 => ⟨S3x2816, .f32⟩
  | 11 => ⟨S_, .f32⟩
  | 12 => ⟨S16384x5632, .f32⟩
  | 13 => ⟨S16384x5632, .f32⟩
  | 14 => ⟨S16384x1024, .f32⟩
  | 15 => ⟨S16384x1024, .f32⟩
  | 16 => ⟨S_, .f32⟩
  | 17 => ⟨S1024, .f32⟩
  | 18 => ⟨S1x1024, .f32⟩
  | 19 => ⟨S16384x1024, .f32⟩
  | 20 => ⟨S16384x1024, .f32⟩
  | 21 => ⟨S_, .f32⟩
  | 22 => ⟨S1024, .f32⟩
  | 23 => ⟨S16384x1024, .f32⟩
  | 24 => ⟨S_, .f32⟩
  | 25 => ⟨S16384, .f32⟩
  | 26 => ⟨S16384x1, .f32⟩
  | 27 => ⟨S16384x1024, .f32⟩
  | 28 => ⟨S16384x1024, .f32⟩
  | 29 => ⟨S16384x1, .f32⟩
  | 30 => ⟨S_, .f32⟩
  | 31 => ⟨S16384x1, .f32⟩
  | 32 => ⟨S16384x1, .f32⟩
  | 33 => ⟨S_, .f32⟩
  | 34 => ⟨S16384, .f32⟩
  | 35 => ⟨S16384x1024, .f32⟩
  | 36 => ⟨S16384x1024, .f32⟩
  | 37 => ⟨S16384x1024, .f32⟩
  | 38 => ⟨S16384x1024, .f32⟩
  | 39 => ⟨S16384x1024, .f32⟩
  | 40 => ⟨S16384x1024, .f32⟩
  | 41 => ⟨S16384x5632, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_v47_2 : Ref sig .tc := ⟨.hbm, 69, rfl⟩
abbrev main_call0_cst_1 : Ref sig .tc := ⟨.hbm, 70, rfl⟩
abbrev main_call0_v6 : Ref sig .tc := ⟨.hbm, 71, rfl⟩
abbrev main_call0_v7 : Ref sig .tc := ⟨.hbm, 72, rfl⟩
abbrev main_v47_1 : Ref sig .tc := ⟨.hbm, 73, rfl⟩
abbrev main_v47_0 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_7 : Ref sig .tc := ⟨.hbm, 83, rfl⟩
abbrev main_v56 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v57 : Ref sig .tc := ⟨.hbm, 88, rfl⟩
abbrev main_cst_8 : Ref sig .tc := ⟨.hbm, 89, rfl⟩
abbrev main_v58 : Ref sig .tc := ⟨.hbm, 90, rfl⟩
abbrev main_v59 : Ref sig .tc := ⟨.hbm, 91, rfl⟩
abbrev main_cst_9 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_10 : Ref sig .tc := ⟨.hbm, 97, rfl⟩
abbrev main_v64 : Ref sig .tc := ⟨.hbm, 98, rfl⟩
abbrev main_v65 : Ref sig .tc := ⟨.hbm, 99, rfl⟩
abbrev main_cst_11 : Ref sig .tc := ⟨.hbm, 100, rfl⟩
abbrev main_v66 : Ref sig .tc := ⟨.hbm, 101, rfl⟩
abbrev main_v67 : Ref sig .tc := ⟨.hbm, 102, rfl⟩
abbrev main_cst_12 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_13 : Ref sig .tc := ⟨.hbm, 108, rfl⟩
abbrev main_v72 : Ref sig .tc := ⟨.hbm, 109, rfl⟩
abbrev main_v73 : Ref sig .tc := ⟨.hbm, 110, rfl⟩
abbrev main_cst_14 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_cst_15 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_16 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_17 : Ref sig .tc := ⟨.hbm, 125, rfl⟩
abbrev main_v85 : Ref sig .tc := ⟨.hbm, 126, rfl⟩
abbrev main_v86 : Ref sig .tc := ⟨.hbm, 127, rfl⟩
abbrev main_cst_18 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_19 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_20 : Ref sig .tc := ⟨.hbm, 136, rfl⟩
abbrev main_v93 : Ref sig .tc := ⟨.hbm, 137, rfl⟩
abbrev main_v94 : Ref sig .tc := ⟨.hbm, 138, rfl⟩
abbrev main_cst_21 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_22 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_23 : Ref sig .tc := ⟨.hbm, 149, rfl⟩
abbrev main_v103 : Ref sig .tc := ⟨.hbm, 150, rfl⟩
abbrev main_v104 : Ref sig .tc := ⟨.hbm, 151, rfl⟩
abbrev main_cst_24 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_cst_25 : Ref sig .tc := ⟨.hbm, 158, rfl⟩
abbrev main_v110 : Ref sig .tc := ⟨.hbm, 159, rfl⟩
abbrev main_v111 : Ref sig .tc := ⟨.hbm, 160, rfl⟩
abbrev main_cst_26 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩

abbrev nD : Nat := 1
abbrev τ : Topo := Topo.v7x

variable {F : FTy → Type} [FloatOps F]
-- ==== Kernel2.lean ====
abbrev S16384x1024 : Shape := ⟨2, ![16384, 1024]⟩
abbrev S16384x5632 : Shape := ⟨2, ![16384, 5632]⟩
abbrev S2x4x512x1408 : Shape := ⟨4, ![2, 4, 512, 1408]⟩
abbrev S2048x1024 : Shape := ⟨2, ![2048, 1024]⟩
abbrev S2048x1408 : Shape := ⟨2, ![2048, 1408]⟩
abbrev S2x1x512x1408 : Shape := ⟨4, ![2, 1, 512, 1408]⟩
abbrev S1024x1408 : Shape := ⟨2, ![1024, 1408]⟩
abbrev S2x512x1408 : Shape := ⟨3, ![2, 512, 1408]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x5632, .f32⟩
  | .hbm, ⟨2, _⟩ => ⟨S16384x1024, .bf16⟩
  | .hbm, ⟨3, _⟩ => ⟨S16384x5632, .bf16⟩
  | .hbm, ⟨4, _⟩ => ⟨S2x4x512x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S2x1x512x1408, .f32⟩
  | .local _ .vmem, ⟨5, _⟩ => ⟨S2x1x512x1408, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S16384x1024 : Shape := ⟨2, ![16384, 1024]⟩
abbrev S16384x5632 : Shape := ⟨2, ![16384, 5632]⟩
abbrev S_ : Shape := ⟨0, ![]⟩
abbrev S1024x5632 : Shape := ⟨2, ![1024, 5632]⟩
abbrev S5632x1024 : Shape := ⟨2, ![5632, 1024]⟩
abbrev S2x512x4x1408 : Shape := ⟨4, ![2, 512, 4, 1408]⟩
abbrev S2x4x512x1408 : Shape := ⟨4, ![2, 4, 512, 1408]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x5632, .f32⟩
  | .hbm, ⟨2, _⟩ => ⟨S_, .f32⟩
  | .hbm, ⟨3, _⟩ => ⟨S1024x5632, .f32⟩
  | .hbm, ⟨4, _⟩ => ⟨S16384x5632, .f32⟩
  | .hbm, ⟨5, _⟩ => ⟨S5632x1024, .f32⟩
  | .hbm, ⟨6, _⟩ => ⟨S1024x5632, .f32⟩
  | .hbm, ⟨7, _⟩ => ⟨S2x512x4x1408, .f32⟩
  | .hbm, ⟨8, _⟩ => ⟨S2x4x512x1408, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S16384x2816 : Shape := ⟨2, ![16384, 2816]⟩
abbrev S16384x1024 : Shape := ⟨2, ![16384, 1024]⟩
abbrev S2x4x352x1024 : Shape := ⟨4, ![2, 4, 352, 1024]⟩
abbrev S2048x2816 : Shape := ⟨2, ![2048, 2816]⟩
abbrev S2048x512 : Shape := ⟨2, ![2048, 512]⟩
abbrev S2x4x352x512 : Shape := ⟨4, ![2, 4, 352, 512]⟩
abbrev S2816x512 : Shape := ⟨2, ![2816, 512]⟩
abbrev S1x1x352x512 : Shape := ⟨4, ![1, 1, 352, 512]⟩
abbrev S352x512 : Shape := ⟨2, ![352, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S16384x2816, .bf16⟩
  | .hbm, ⟨3, _⟩ => ⟨S2x4x352x1024, .f32⟩
  | .local _ .vmem, ⟨0, _⟩ => ⟨S2048x2816, .bf16⟩
  | .local _ .vmem, ⟨1, _⟩ => ⟨S2048x2816, .bf16⟩
  | .local _ .vmem, ⟨2, _⟩ => ⟨S2048x512, .f32⟩
  | .local _ .vmem, ⟨3, _⟩ => ⟨S2048x512, .f32⟩
  | .local _ .vmem, ⟨4, _⟩ => ⟨S2x4x352x512, .f32⟩
  | .local _ .vmem, ⟨5, _⟩ => ⟨S2x4x352x512, .f32⟩
  | _, _ => ⟨S16384x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x4x352x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩
abbrev S4x2x352x1024 : Shape := ⟨4, ![4, 2, 352, 1024]⟩
abbrev S2x4x352x1024 : Shape := ⟨4, ![2, 4, 352, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x2816, .f32⟩
  | .hbm, ⟨1, _⟩ => ⟨S16384x1024, .f32⟩
  | .hbm, ⟨2, _⟩ => ⟨S_, .f32⟩
  | .hbm, ⟨3, _⟩ => ⟨S2816x1024, .f32⟩
  | .hbm, ⟨4, _⟩ => ⟨S16384x1024, .f32⟩
  | .hbm, ⟨5, _⟩ => ⟨S1024x2816, .f32⟩
  | .hbm, ⟨6, _⟩ => ⟨S2816x1024, .f32⟩
  | .hbm, ⟨7, _⟩ => ⟨S4x2x352x1024, .f32⟩
  | .hbm, ⟨8, _⟩ => ⟨S2x4x352x1024, .f32⟩
  | _, _ => ⟨S16384x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S16384x1024 : Shape := ⟨2, ![16384, 1024]⟩
abbrev S1x1024 : Shape := ⟨2, ![1, 1024]⟩
abbrev S1024x1280 : Shape := ⟨2, ![1024, 1280]⟩
abbrev S16384x256 : Shape := ⟨2, ![16384, 256]⟩
abbrev S1280x1024 : Shape := ⟨2, ![1280, 1024]⟩
abbrev S8x1024 : Shape := ⟨2, ![8, 1024]⟩
abbrev S8x1280 : Shape := ⟨2, ![8, 1280]⟩
abbrev S1024x1024 : Shape := ⟨2, ![1024, 1024]⟩
abbrev S1024x256 : Shape := ⟨2, ![1024, 256]⟩
abbrev S256x1024 : Shape := ⟨2, ![256, 1024]⟩
abbrev S1024 : Shape := ⟨1, ![1024]⟩
abbrev S1024x1 : Shape := ⟨2, ![1024, 1]⟩
abbrev S128x8x1024 : Shape := ⟨3, ![128, 8, 1024]⟩
abbrev S8x256 : Shape := ⟨2, ![8, 256]⟩
abbrev S128x8x256 : Shape := ⟨3, ![128, 8, 256]⟩
abbrev S_ : Shape := ⟨0, ![]⟩
abbrev S1280 : Shape := ⟨1, ![1280]⟩

abbrev nBuf : Space → Nat
  | .hbm => 17
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x1280, .f32⟩
  | .hbm, ⟨3, _⟩ => ⟨S16384x1024, .f32⟩
  | .hbm, ⟨4, _⟩ => ⟨S16384x256, .f32⟩
  | .hbm, ⟨5, _⟩ => ⟨S16384x1024, .f32⟩
  | .hbm, ⟨6, _⟩ => ⟨S16384x1024, .bf16⟩
  | .hbm, ⟨7, _⟩ => ⟨S1024x1280, .bf16⟩
  | .hbm, ⟨8, _⟩ => ⟨S1280x1024, .bf16⟩
  | .hbm, ⟨9, _⟩ => ⟨S16384x1024, .f32⟩
  | .hbm, ⟨10, _⟩ => ⟨S8x1024, .f32⟩
  | .hbm, ⟨11, _⟩ => ⟨S8x1280, .f32⟩
  | .hbm, ⟨12, _⟩ => ⟨S16384x256, .bf16⟩
  | .hbm, ⟨13, _⟩ => ⟨S_, .f32⟩
  | .hbm, ⟨14, _⟩ => ⟨S1024, .f32⟩
  | .hbm, ⟨15, _⟩ => ⟨S_, .f32⟩
  | .hbm, ⟨16, _⟩ => ⟨S1280, .f32⟩
  | .local _ .vmem, ⟨0, _⟩ => ⟨S1024x1024, .bf16⟩
  | .local _ .vmem, ⟨1, _⟩ => ⟨S1024x1024, .bf16⟩
  | .local _ .vmem, ⟨2, _⟩ => ⟨S1024x256, .f32⟩
  | .local _ .vmem, ⟨3, _⟩ => ⟨S1024x256, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1280x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S8x1024, .f32⟩
  | .local _ .vmem, ⟨13, _⟩ => ⟨S8x1280, .f32⟩
  | .local _ .vmem, ⟨14, _⟩ => ⟨S1024x256, .bf16⟩
  | .local _ .vmem, ⟨15, _⟩ => ⟨S1024x256, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1280x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1280 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S16384x1024 : Shape := ⟨2, ![16384, 1024]⟩
abbrev S1x1024 : Shape := ⟨2, ![1, 1024]⟩
abbrev S1024x1280 : Shape := ⟨2, ![1024, 1280]⟩
abbrev S16384x256 : Shape := ⟨2, ![16384, 256]⟩
abbrev S1024 : Shape := ⟨1, ![1024]⟩
abbrev S_ : Shape := ⟨0, ![]⟩
abbrev S1280 : Shape := ⟨1, ![1280]⟩
abbrev S16384 : Shape := ⟨1, ![16384]⟩
abbrev S16384x1 : Shape := ⟨2, ![16384, 1]⟩
abbrev S16384x1280 : Shape := ⟨2, ![16384, 1280]⟩
abbrev S1x1280 : Shape := ⟨2, ![1, 1280]⟩

abbrev nBuf : Space → Nat
  | .hbm => 67
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x1280, .f32⟩
  | .hbm, ⟨3, _⟩ => ⟨S16384x1024, .f32⟩
  | .hbm, ⟨4, _⟩ => ⟨S16384x256, .f32⟩
  | .hbm, ⟨5, _⟩ => ⟨S16384x1024, .f32⟩
  | .hbm, ⟨6, _⟩ => ⟨S1024, .f32⟩
  | .hbm, ⟨7, _⟩ => ⟨S_, .f32⟩
  | .hbm, ⟨8, _⟩ => ⟨S1280, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1280, .f32⟩
  | .hbm, ⟨30, _⟩ => ⟨S1x1280, .f32⟩
  | .hbm, ⟨31, _⟩ => ⟨S16384x1280, .f32⟩
  | .hbm, ⟨32, _⟩ => ⟨S16384x1280, .f32⟩
  | .hbm, ⟨33, _⟩ => ⟨S16384x1280, .f32⟩
  | .hbm, ⟨34, _⟩ => ⟨S_, .f32⟩
  | .hbm, ⟨35, _⟩ => ⟨S1280, .f32⟩
  | .hbm, ⟨36, _⟩ => ⟨S1x1280, .f32⟩
  | .hbm, ⟨37, _⟩ => ⟨S_, .f32⟩
  | .hbm, ⟨38, _⟩ => ⟨S1280, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S1024, .f32⟩
  | .hbm, ⟨48, _⟩ => ⟨S16384x1024, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S_, .f32⟩
  | .hbm, ⟨60, _⟩ => ⟨S16384, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]
-- ==== Kernel5.lean ====
abbrev S16384x1024 : Shape := ⟨2, ![16384, 1024]⟩
abbrev S16384x2048 : Shape := ⟨2, ![16384, 2048]⟩
abbrev S2x4x512x512 : Shape := ⟨4, ![2, 4, 512, 512]⟩
abbrev S4096x1024 : Shape := ⟨2, ![4096, 1024]⟩
abbrev S4096x512 : Shape := ⟨2, ![4096, 512]⟩
abbrev S2x1x512x512 : Shape := ⟨4, ![2, 1, 512, 512]⟩
abbrev S1024x512 : Shape := ⟨2, ![1024, 512]⟩
abbrev S2x512x512 : Shape := ⟨3, ![2, 512, 512]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S16384x1024, .bf16⟩
  | .hbm, ⟨3, _⟩ => ⟨S16384x2048, .bf16⟩
  | .hbm, ⟨4, _⟩ => ⟨S2x4x512x512, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S2x1x512x512, .f32⟩
  | .local _ .vmem, ⟨5, _⟩ => ⟨S2x1x512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S16384x1024 : Shape := ⟨2, ![16384, 1024]⟩
abbrev S16384x2048 : Shape := ⟨2, ![16384, 2048]⟩
abbrev S_ : Shape := ⟨0, ![]⟩
abbrev S1024x2048 : Shape := ⟨2, ![1024, 2048]⟩
abbrev S2048x1024 : Shape := ⟨2, ![2048, 1024]⟩
abbrev S2x512x4x512 : Shape := ⟨4, ![2, 512, 4, 512]⟩
abbrev S2x4x512x512 : Shape := ⟨4, ![2, 4, 512, 512]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .hbm, ⟨2, _⟩ => ⟨S_, .f32⟩
  | .hbm, ⟨3, _⟩ => ⟨S1024x2048, .f32⟩
  | .hbm, ⟨4, _⟩ => ⟨S16384x2048, .f32⟩
  | .hbm, ⟨5, _⟩ => ⟨S2048x1024, .f32⟩
  | .hbm, ⟨6, _⟩ => ⟨S1024x2048, .f32⟩
  | .hbm, ⟨7, _⟩ => ⟨S2x512x4x512, .f32⟩
  | .hbm, ⟨8, _⟩ => ⟨S2x4x512x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S16384x1024 : Shape := ⟨2, ![16384, 1024]⟩
abbrev S2x4x128x1024 : Shape := ⟨4, ![2, 4, 128, 1024]⟩
abbrev S4096x1024 : Shape := ⟨2, ![4096, 1024]⟩
abbrev S4096x512 : Shape := ⟨2, ![4096, 512]⟩
abbrev S2x4x128x512 : Shape := ⟨4, ![2, 4, 128, 512]⟩
abbrev S1024x512 : Shape := ⟨2, ![1024, 512]⟩
abbrev S1x1x128x512 : Shape := ⟨4, ![1, 1, 128, 512]⟩
abbrev S128x512 : Shape := ⟨2, ![128, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S2x4x128x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .f32⟩
  | .local _ .vmem, ⟨3, _⟩ => ⟨S4096x512, .f32⟩
  | .local _ .vmem, ⟨4, _⟩ => ⟨S2x4x128x512, .f32⟩
  | .local _ .vmem, ⟨5, _⟩ => ⟨S2x4x128x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x4x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S16384x1024 : Shape := ⟨2, ![16384, 1024]⟩
abbrev S_ : Shape := ⟨0, ![]⟩
abbrev S1024x1024 : Shape := ⟨2, ![1024, 1024]⟩
abbrev S4x2x128x1024 : Shape := ⟨4, ![4, 2, 128, 1024]⟩
abbrev S2x4x128x1024 : Shape := ⟨4, ![2, 4, 128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S1024x1024, .f32⟩
  | .hbm, ⟨6, _⟩ => ⟨S1024x1024, .f32⟩
  | .hbm, ⟨7, _⟩ => ⟨S4x2x128x1024, .f32⟩
  | .hbm, ⟨8, _⟩ => ⟨S2x4x128x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S16384x1024 : Shape := ⟨2, ![16384, 1024]⟩
abbrev S1024x1024 : Shape := ⟨2, ![1024, 1024]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S16384x1024, .bf16⟩
  | .hbm, ⟨4, _⟩ => ⟨S1024x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S1024x1024, .f32⟩
  | .hbm, ⟨6, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S16384x1024 : Shape := ⟨2, ![16384, 1024]⟩
abbrev S16384x256 : Shape := ⟨2, ![16384, 256]⟩
abbrev S1024x256 : Shape := ⟨2, ![1024, 256]⟩
abbrev S4096x1024 : Shape := ⟨2, ![4096, 1024]⟩
abbrev S4096x256 : Shape := ⟨2, ![4096, 256]⟩

abbrev nBuf : Space → Nat
  | .hbm => 5
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x1024, .bf16⟩
  | .hbm, ⟨3, _⟩ => ⟨S16384x256, .bf16⟩
  | .hbm, ⟨4, _⟩ => ⟨S1024x256, .f32⟩
  | .local _ .vmem, ⟨0, _⟩ => ⟨S4096x1024, .bf16⟩
  | .local _ .vmem, ⟨1, _⟩ => ⟨S4096x1024, .bf16⟩
  | .local _ .vmem, ⟨2, _⟩ => ⟨S4096x256, .bf16⟩
  | .local _ .vmem, ⟨3, _⟩ => ⟨S4096x256, .bf16⟩
  | .local _ .vmem, ⟨4, _⟩ => ⟨S1024x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference8Ideal.lean ====
abbrev S16384x1024 : Shape := ⟨2, ![16384, 1024]⟩
abbrev S16384x256 : Shape := ⟨2, ![16384, 256]⟩
abbrev S_ : Shape := ⟨0, ![]⟩
abbrev S1024x256 : Shape := ⟨2, ![1024, 256]⟩
abbrev S256x1024 : Shape := ⟨2, ![256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S_, .f32⟩
  | .hbm, ⟨3, _⟩ => ⟨S1024x256, .f32⟩
  | .hbm, ⟨4, _⟩ => ⟨S16384x256, .f32⟩
  | .hbm, ⟨5, _⟩ => ⟨S256x1024, .f32⟩
  | .hbm, ⟨6, _⟩ => ⟨S1024x256, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S1024x1024 : Shape := ⟨2, ![1024, 1024]⟩
abbrev S16384x1024 : Shape := ⟨2, ![16384, 1024]⟩
abbrev S8x1024 : Shape := ⟨2, ![8, 1024]⟩
abbrev S128x8x1024 : Shape := ⟨3, ![128, 8, 1024]⟩
abbrev S_ : Shape := ⟨0, ![]⟩
abbrev S1024 : Shape := ⟨1, ![1024]⟩

abbrev nBuf : Space → Nat
  | .hbm => 8
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S16384x1024, .f32⟩
  | .hbm, ⟨2, _⟩ => ⟨S1024x1024, .bf16⟩
  | .hbm, ⟨3, _⟩ => ⟨S1024x1024, .bf16⟩
  | .hbm, ⟨4, _⟩ => ⟨S16384x1024, .bf16⟩
  | .hbm, ⟨5, _⟩ => ⟨S8x1024, .f32⟩
  | .hbm, ⟨6, _⟩ => ⟨S_, .f32⟩
  | .hbm, ⟨7, _⟩ => ⟨S1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S8x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference10Ideal.lean ====
abbrev S1024x1024 : Shape := ⟨2, ![1024, 1024]⟩
abbrev S16384x1024 : Shape := ⟨2, ![16384, 1024]⟩
abbrev S_ : Shape := ⟨0, ![]⟩
abbrev S1024 : Shape := ⟨1, ![1024]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S16384x1024, .f32⟩
  | .hbm, ⟨2, _⟩ => ⟨S_, .f32⟩
  | .hbm, ⟨3, _⟩ => ⟨S16384x1024, .f32⟩
  | .hbm, ⟨4, _⟩ => ⟨S_, .f32⟩
  | .hbm, ⟨5, _⟩ => ⟨S1024, .f32⟩
  | .hbm, ⟨6, _⟩ => ⟨S16384x1024, .f32⟩
  | .hbm, ⟨7, _⟩ => ⟨S1x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S_, .f32⟩
  | .hbm, ⟨15, _⟩ => ⟨S1024, .f32⟩
  | .hbm, ⟨16, _⟩ => ⟨S16384x1024, .f32⟩
  | .hbm, ⟨17, _⟩ => ⟨S16384x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Kernel11.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 8
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S16384x1024, .bf16⟩
  | .hbm, ⟨5, _⟩ => ⟨S1024x1024, .bf16⟩
  | .hbm, ⟨6, _⟩ => ⟨S1x1024, .f32⟩
  | .hbm, ⟨7, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024, .f32⟩
  | .hbm, ⟨4, _⟩ => ⟨S16384x1024, .f32⟩
  | .hbm, ⟨5, _⟩ => ⟨S1x1024, .f32⟩
  | .hbm, ⟨6, _⟩ => ⟨S16384x1024, .f32⟩
  | .hbm, ⟨7, _⟩ => ⟨S16384x1024, .f32⟩
  | .hbm, ⟨8, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel12.lean ====
abbrev S16384x1024 : Shape := ⟨2, ![16384, 1024]⟩
abbrev S1x1024 : Shape := ⟨2, ![1, 1024]⟩
abbrev S1024x1280 : Shape := ⟨2, ![1024, 1280]⟩
abbrev S1280 : Shape := ⟨1, ![1280]⟩
abbrev S1x1280 : Shape := ⟨2, ![1, 1280]⟩
abbrev S16384x1280 : Shape := ⟨2, ![16384, 1280]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x1280, .f32⟩
  | .hbm, ⟨3, _⟩ => ⟨S1280, .f32⟩
  | .hbm, ⟨4, _⟩ => ⟨S1024x1280, .bf16⟩
  | .hbm, ⟨5, _⟩ => ⟨S1x1280, .f32⟩
  | .hbm, ⟨6, _⟩ => ⟨S16384x1024, .bf16⟩
  | .hbm, ⟨7, _⟩ => ⟨S16384x1280, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1280, .bf16⟩
  | .local _ .vmem, ⟨4, _⟩ => ⟨S1x1280, .f32⟩
  | .local _ .vmem, ⟨5, _⟩ => ⟨S1024x1024, .bf16⟩
  | .local _ .vmem, ⟨6, _⟩ => ⟨S1024x1024, .bf16⟩
  | .local _ .vmem, ⟨7, _⟩ => ⟨S1024x1280, .bf16⟩
  | .local _ .vmem, ⟨8, _⟩ => ⟨S1024x1280, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference12Ideal.lean ====
abbrev S16384x1024 : Shape := ⟨2, ![16384, 1024]⟩
abbrev S1x1024 : Shape := ⟨2, ![1, 1024]⟩
abbrev S1024x1280 : Shape := ⟨2, ![1024, 1280]⟩
abbrev S1280 : Shape := ⟨1, ![1280]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x1280 : Shape := ⟨2, ![16384, 1280]⟩
abbrev S1x1280 : Shape := ⟨2, ![1, 1280]⟩

abbrev nBuf : Space → Nat
  | .hbm => 27
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x1280, .f32⟩
  | .hbm, ⟨3, _⟩ => ⟨S1280, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .bf16⟩
  | .hbm, ⟨22, _⟩ => ⟨S16384x1280, .f32⟩
  | .hbm, ⟨23, _⟩ => ⟨S1x1280, .f32⟩
  | .hbm, ⟨24, _⟩ => ⟨S16384x1280, .f32⟩
  | .hbm, ⟨25, _⟩ => ⟨S16384x1280, .f32⟩
  | .hbm, ⟨26, _⟩ => ⟨S16384x1280, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel13.lean ====
abbrev S16384x1024 : Shape := ⟨2, ![16384, 1024]⟩
abbrev S1x1024 : Shape := ⟨2, ![1, 1024]⟩
abbrev S1024x2048 : Shape := ⟨2, ![1024, 2048]⟩
abbrev S2048 : Shape := ⟨1, ![2048]⟩
abbrev S1x2048 : Shape := ⟨2, ![1, 2048]⟩
abbrev S16384x2048 : Shape := ⟨2, ![16384, 2048]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2048, .f32⟩
  | .hbm, ⟨3, _⟩ => ⟨S2048, .f32⟩
  | .hbm, ⟨4, _⟩ => ⟨S1024x2048, .bf16⟩
  | .hbm, ⟨5, _⟩ => ⟨S1x2048, .f32⟩
  | .hbm, ⟨6, _⟩ => ⟨S16384x1024, .bf16⟩
  | .hbm, ⟨7, _⟩ => ⟨S16384x2048, .bf16⟩
  | .hbm, ⟨8, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2048, .bf16⟩
  | .local _ .vmem, ⟨4, _⟩ => ⟨S1x2048, .f32⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | .local _ .vmem, ⟨8, _⟩ => ⟨S1024x2048, .bf16⟩
  | .local _ .vmem, ⟨9, _⟩ => ⟨S1024x1024, .f32⟩
  | .local _ .vmem, ⟨10, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S16384x1024 : Shape := ⟨2, ![16384, 1024]⟩
abbrev S1x1024 : Shape := ⟨2, ![1, 1024]⟩
abbrev S1024x2048 : Shape := ⟨2, ![1024, 2048]⟩
abbrev S2048 : Shape := ⟨1, ![2048]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x2048 : Shape := ⟨2, ![16384, 2048]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2048, .f32⟩
  | .hbm, ⟨3, _⟩ => ⟨S2048, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S16384x1024, .bf16⟩
  | .hbm, ⟨26, _⟩ => ⟨S16384x2048, .bf16⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel9.lean ====
abbrev S16384x1024 : Shape := ⟨2, ![16384, 1024]⟩
abbrev S1x1024 : Shape := ⟨2, ![1, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x2816 : Shape := ⟨2, ![1, 2816]⟩
abbrev S16384x5632 : Shape := ⟨2, ![16384, 5632]⟩
abbrev S16384x2816 : Shape := ⟨2, ![16384, 2816]⟩
abbrev S8x1024 : Shape := ⟨2, ![8, 1024]⟩
abbrev S1x1 : Shape := ⟨2, ![1, 1]⟩
abbrev S256x1024 : Shape := ⟨2, ![256, 1024]⟩
abbrev S256x5632 : Shape := ⟨2, ![256, 5632]⟩
abbrev S256x2816 : Shape := ⟨2, ![256, 2816]⟩
abbrev S8x2816 : Shape := ⟨2, ![8, 2816]⟩
abbrev S264x256 : Shape := ⟨2, ![264, 256]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S8x256 : Shape := ⟨2, ![8, 256]⟩
abbrev S1x256 : Shape := ⟨2, ![1, 256]⟩
abbrev S1 : Shape := ⟨1, ![1]⟩
abbrev S32x8x1024 : Shape := ⟨3, ![32, 8, 1024]⟩
abbrev S_ : Shape := ⟨0, ![]⟩
abbrev S1024 : Shape := ⟨1, ![1024]⟩

abbrev nBuf : Space → Nat
  | .hbm => 20
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1x1024, .f32⟩
  | .hbm, ⟨7, _⟩ => ⟨S16384x1024, .f32⟩
  | .hbm, ⟨8, _⟩ => ⟨S1024x5632, .bf16⟩
  | .hbm, ⟨9, _⟩ => ⟨S1x2816, .f32⟩
  | .hbm, ⟨10, _⟩ => ⟨S2816x1024, .bf16⟩
  | .hbm, ⟨11, _⟩ => ⟨S16384x1024, .f32⟩
  | .hbm, ⟨12, _⟩ => ⟨S16384x1024, .bf16⟩
  | .hbm, ⟨13, _⟩ => ⟨S16384x5632, .bf16⟩
  | .hbm, ⟨14, _⟩ => ⟨S16384x2816, .bf16⟩
  | .hbm, ⟨15, _⟩ => ⟨S16384x2816, .bf16⟩
  | .hbm, ⟨16, _⟩ => ⟨S8x1024, .f32⟩
  | .hbm, ⟨17, _⟩ => ⟨S1x1, .f32⟩
  | .hbm, ⟨18, _⟩ => ⟨S_, .f32⟩
  | .hbm, ⟨19, _⟩ => ⟨S1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5632, .bf16⟩
  | .local _ .vmem, ⟨4, _⟩ => ⟨S3x2816, .f32⟩
  | .local _ .vmem, ⟨5, _⟩ => ⟨S1x2816, .f32⟩
  | .local _ .vmem, ⟨6, _⟩ => ⟨S2816x1024, .bf16⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S256x5632, .bf16⟩
  | .local _ .vmem, ⟨15, _⟩ => ⟨S256x5632, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S8x1024, .f32⟩
  | .local _ .vmem, ⟨21, _⟩ => ⟨S1x1, .f32⟩
  | .local _ .vmem, ⟨22, _⟩ => ⟨S8x2816, .f32⟩
  | .local _ .vmem, ⟨23, _⟩ => ⟨S264x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev main_v3_6 : Ref sig .tc := ⟨.hbm, 17, rfl⟩
abbrev main_cst : Ref sig .tc := ⟨.hbm, 18, rfl⟩
abbrev main_v4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x5632 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference9Ideal.lean ====
abbrev S16384x1024 : Shape := ⟨2, ![16384, 1024]⟩
abbrev S1x1024 : Shape := ⟨2, ![1, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩
abbrev S1x2816 : Shape := ⟨2, ![1, 2816]⟩
abbrev S2x2816 : Shape := ⟨2, ![2, 2816]⟩
abbrev S16382x2816 : Shape := ⟨2, ![16382, 2816]⟩
abbrev S16383x2816 : Shape := ⟨2, ![16383, 2816]⟩
abbrev S1024 : Shape := ⟨1, ![1024]⟩
abbrev S1x1 : Shape := ⟨2, ![1, 1]⟩

abbrev nBuf : Space → Nat
  | .hbm => 140
  | .vmem => 0
  | .smem => 0
  | _ => 0

abbrev hbmTy0_0 (i : Nat) : BufTy := match i % 128 with
  | 0 => ⟨S16384x1024, .f32⟩
  | 1 => ⟨S1x1024, .f32⟩
  | 2 => ⟨S1024x5632, .f32⟩
  | 3 => ⟨S3x2816, .f32⟩
  | 4 => ⟨S2816, .f32⟩
  | 5 => ⟨S2816x1024, .f32⟩
  | 6 => ⟨S1x1024, .f32⟩
  | 7 => ⟨S16384x1024, .f32⟩
  | 8 => ⟨S16384x1024, .f32⟩
  | 9 => ⟨S_, .f32⟩
  | 10 => ⟨S16384, .f32⟩
  | 11 => ⟨S16384x1, .f32⟩
  | 12 => ⟨S_, .f32⟩
  | 13 => ⟨S16384x1, .f32⟩
  | 14 => ⟨S16384x1, .f32⟩
  | 15 => ⟨S_, .f32⟩
  | 16 => ⟨S16384x1, .f32⟩
  | 17 => ⟨S16384x1, .f32⟩
  | 18 => ⟨S16384x1, .f32⟩
  | 19 => ⟨S16384x1024, .f32⟩
  | 20 => ⟨S16384x1024, .f32⟩
  | 21 => ⟨S16384x1024, .f32⟩
  | 22 => ⟨S16384x1024, .f32⟩
  | 23 => ⟨S16384x5632, .f32⟩
  | 24 => ⟨S16384x2816, .f32⟩
  | 25 => ⟨S1x2816, .f32⟩
  | 26 => ⟨S2816, .f32⟩
  | 27 => ⟨S_, .f32⟩
  | 28 => ⟨S2x2816, .f32⟩
  | 29 => ⟨S16382x2816, .f32⟩
  | 30 => ⟨S16384x2816, .f32⟩
  | 31 => ⟨S1x2816, .f32⟩
  | 32 => ⟨S16384x2816, .f32⟩
  | 33 => ⟨S16384x2816, .f32⟩
  | 34 => ⟨S1x2816, .f32⟩
  | 35 => ⟨S2816, .f32⟩
  | 36 => ⟨S_, .f32⟩
  | 37 => ⟨S1x2816, .f32⟩
  | 38 => ⟨S16383x2816, .f32⟩
  | 39 => ⟨S16384x2816, .f32⟩
  | 40 => ⟨S1x2816, .f32⟩
  | 41 => ⟨S16384x2816, .f32⟩
  | 42 => ⟨S16384x2816, .f32⟩
  | 43 => ⟨S16384x2816, .f32⟩
  | 44 => ⟨S1x2816, .f32⟩
  | 45 => ⟨S2816, .f32⟩
  | 46 => ⟨S1x2816, .f32⟩
  | 47 => ⟨S16384x2816, .f32⟩
  | 48 => ⟨S16384x2816, .f32⟩
  | 49 => ⟨S16384x2816, .f32⟩
  | 50 => ⟨S1x2816, .f32⟩
  | 51 => ⟨S16384x2816, .f32⟩
  | 52 => ⟨S16384x2816, .f32⟩
  | 53 => ⟨S16384x2816, .f32⟩
  | 54 => ⟨S16384x2816, .f32⟩
  | 55 => ⟨S_, .f32⟩
  | 56 => ⟨S16384x2816, .f32⟩
  | 57 => ⟨S16384x2816, .f32⟩
  | 58 => ⟨S_, .f32⟩
  | 59 => ⟨S16384x2816, .f32⟩
  | 60 => ⟨S16384x2816, .f32⟩
  | 61 => ⟨S16384x2816, .f32⟩
  | 62 => ⟨S16384x2816, .f32⟩
  | 63 => ⟨S16384x2816, .f32⟩
  | 64 => ⟨S16384x1024, .f32⟩
  | 65 => ⟨S16384x1024, .f32⟩
  | 66 => ⟨S1024, .f32⟩
  | 67 => ⟨S16384x1024, .f32⟩
  | 68 => ⟨S_, .f32⟩
  | 69 => ⟨S16384, .f32⟩
  | 70 => ⟨S16384x1, .f32⟩
  | 71 => ⟨S_, .f32⟩
  | 72 => ⟨S16384x1, .f32⟩
  | 73 => ⟨S16384x1, .f32⟩
  | 74 => ⟨S_, .f32⟩
  | 75 => ⟨S16384x1, .f32⟩
  | 76 => ⟨S16384x1, .f32⟩
  | 77 => ⟨S16384x1, .f32⟩
  | 78 => ⟨S16384x1, .f32⟩
  | 79 => ⟨S_, .f32⟩
  | 80 => ⟨S16384x1, .f32⟩
  | 81 => ⟨S16384x1, .f32⟩
  | 82 => ⟨S16384x1024, .f32⟩
  | 83 => ⟨S16384x1024, .f32⟩
  | 84 => ⟨S1x1024, .f32⟩
  | 85 => ⟨S16384x1024, .f32⟩
  | 86 => ⟨S16384x1024, .f32⟩
  | 87 => ⟨S16384x1024, .f32⟩
  | 88 => ⟨S16384x1024, .f32⟩
  | 89 => ⟨S_, .f32⟩
  | 90 => ⟨S16384x1024, .f32⟩
  | 91 => ⟨S16384x1024, .f32⟩
  | 92 => ⟨S_, .f32⟩
  | 93 => ⟨S16384, .f32⟩
  | 94 => ⟨S_, .f32⟩
  | 95 => ⟨S16384, .f32⟩
  | 96 => ⟨S16384, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S16384, .f32⟩
  | 105 => ⟨S_, .f32⟩
  | 106 => ⟨S16384, .f32⟩
  | 107 => ⟨S16384, .f32⟩
  | 108 => ⟨S16384x1024, .f32⟩
  | 109 => ⟨S16384x1024, .f32⟩
  | 110 => ⟨S16384x1024, .f32⟩
  | 111 => ⟨S_, .f32⟩
  | 112 => ⟨S1024, .f32⟩
  | 113 => ⟨S1x1024, .f32⟩
  | 114 => ⟨S16384x1024, .f32⟩
  | 115 => ⟨S16384x1024, .f32⟩
  | 116 => ⟨S_, .f32⟩
  | 117 => ⟨S1024, .f32⟩
  | 118 => ⟨S16384x1024, .f32⟩
  | 119 => ⟨S_, .f32⟩
  | 120 => ⟨S16384, .f32⟩
  | 121 => ⟨S16384x1, .f32⟩
  | 122 => ⟨S16384x1024, .f32⟩
  | 123 => ⟨S16384x1024, .f32⟩
  | 124 => ⟨S16384x1, .f32⟩
  | 125 => ⟨S_, .f32⟩
  | 126 => ⟨S16384x1, .f32⟩
  | 127 => ⟨S16384x1, .f32⟩
  | _ => ⟨S16384x1024, .f32⟩

abbrev hbmTy0_1 (i : Nat) : BufTy := match i % 128 with
  | 0 => ⟨S_, .f32⟩
  | 1 => ⟨S16384, .f32⟩
  | 2 => ⟨S16384x1024, .f32⟩
  | 3 => ⟨S16384x1024, .f32⟩
  | 4 => ⟨S16384x1024, .f32⟩
  | 5 => ⟨S16384x1024, .f32⟩
  | 6 => ⟨S16384x1024, .f32⟩
  | 7 => ⟨S16384x1024, .bf16⟩
  | 8 => ⟨S16384x5632, .bf16⟩
  | 9 => ⟨S16384x2816, .bf16⟩
  | 10 => ⟨S16384x2816, .bf16⟩
  | 11 => ⟨S1x1, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_4 : Ref sig .tc := ⟨.hbm, 68, rfl⟩
abbrev main_v47 : Ref sig .tc := ⟨.hbm, 69, rfl⟩
abbrev main_v48 : Ref sig .tc := ⟨.hbm, 70, rfl⟩
abbrev main_cst_5 : Ref sig .tc := ⟨.hbm, 71, rfl⟩
abbrev main_v49 : Ref sig .tc := ⟨.hbm, 72, rfl⟩
abbrev main_v50 : Ref sig .tc := ⟨.hbm, 73, rfl⟩
abbrev main_cst_6 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_7 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_8 : Ref sig .tc := ⟨.hbm, 89, rfl⟩
abbrev main_v64 : Ref sig .tc := ⟨.hbm, 90, rfl⟩
abbrev main_v65 : Ref sig .tc := ⟨.hbm, 91, rfl⟩
abbrev main_cst_9 : Ref sig .tc := ⟨.hbm, 92, rfl⟩
abbrev main_v66 : Ref sig .tc := ⟨.hbm, 93, rfl⟩
abbrev main_cst_10 : Ref sig .tc := ⟨.hbm, 94, rfl⟩
abbrev main_v67 : Ref sig .tc := ⟨.hbm, 95, rfl⟩
abbrev main_v68 : Ref sig .tc := ⟨.hbm, 96, rfl⟩
abbrev main_cst_11 : Ref sig .tc := ⟨.hbm, 97, rfl⟩
abbrev main_v69 : Ref sig .tc := ⟨.hbm, 98, rfl⟩
abbrev main_cst_12 : Ref sig .tc := ⟨.hbm, 99, rfl⟩
abbrev main_v70 : Ref sig .tc := ⟨.hbm, 100, rfl⟩
abbrev main_cst_13 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_cst_15 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_16 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_17 : Ref sig .tc := ⟨.hbm, 116, rfl⟩
abbrev main_v82 : Ref sig .tc := ⟨.hbm, 117, rfl⟩
abbrev main_v83 : Ref sig .tc := ⟨.hbm, 118, rfl⟩
abbrev main_cst_18 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_19 : Ref sig .tc := ⟨.hbm, 125, rfl⟩
abbrev main_v89 : Ref sig .tc := ⟨.hbm, 126, rfl⟩
abbrev main_v90 : Ref sig .tc := ⟨.hbm, 127, rfl⟩
abbrev main_cst_20 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩

abbrev nD : Nat := 1
abbrev τ : Topo := Topo.v7x

variable {F : FTy → Type} [FloatOps F]
-- ==== Kernel14.lean ====
abbrev S16384x1024 : Shape := ⟨2, ![16384, 1024]⟩
abbrev S1x1024 : Shape := ⟨2, ![1, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x2816 : Shape := ⟨2, ![1, 2816]⟩
abbrev S16384x5632 : Shape := ⟨2, ![16384, 5632]⟩
abbrev S16384x2816 : Shape := ⟨2, ![16384, 2816]⟩
abbrev S256x1024 : Shape := ⟨2, ![256, 1024]⟩
abbrev S256x5632 : Shape := ⟨2, ![256, 5632]⟩
abbrev S256x2816 : Shape := ⟨2, ![256, 2816]⟩
abbrev S8x2816 : Shape := ⟨2, ![8, 2816]⟩
abbrev S264x256 : Shape := ⟨2, ![264, 256]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S8x256 : Shape := ⟨2, ![8, 256]⟩
abbrev S1x256 : Shape := ⟨2, ![1, 256]⟩

abbrev nBuf : Space → Nat
  | .hbm => 14
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S1024x5632, .bf16⟩
  | .hbm, ⟨7, _⟩ => ⟨S1x2816, .f32⟩
  | .hbm, ⟨8, _⟩ => ⟨S2816x1024, .bf16⟩
  | .hbm, ⟨9, _⟩ => ⟨S16384x1024, .f32⟩
  | .hbm, ⟨10, _⟩ => ⟨S16384x1024, .bf16⟩
  | .hbm, ⟨11, _⟩ => ⟨S16384x5632, .bf16⟩
  | .hbm, ⟨12, _⟩ => ⟨S16384x2816, .bf16⟩
  | .hbm, ⟨13, _⟩ => ⟨S16384x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5632, .bf16⟩
  | .local _ .vmem, ⟨4, _⟩ => ⟨S3x2816, .f32⟩
  | .local _ .vmem, ⟨5, _⟩ => ⟨S1x2816, .f32⟩
  | .local _ .vmem, ⟨6, _⟩ => ⟨S2816x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S256x5632, .bf16⟩
  | .local _ .vmem, ⟨12, _⟩ => ⟨S256x5632, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S8x2816, .f32⟩
  | .local _ .vmem, ⟨18, _⟩ => ⟨S264x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference14Ideal.lean ====
abbrev S16384x1024 : Shape := ⟨2, ![16384, 1024]⟩
abbrev S1x1024 : Shape := ⟨2, ![1, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S16384x5632 : Shape := ⟨2, ![16384, 5632]⟩
abbrev S16384x2816 : Shape := ⟨2, ![16384, 2816]⟩
abbrev S1x2816 : Shape := ⟨2, ![1, 2816]⟩
abbrev S2x2816 : Shape := ⟨2, ![2, 2816]⟩
abbrev S16382x2816 : Shape := ⟨2, ![16382, 2816]⟩
abbrev S16383x2816 : Shape := ⟨2, ![16383, 2816]⟩

abbrev nBuf : Space → Nat
  | .hbm => 68
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x5632, .f32⟩
  | .hbm, ⟨3, _⟩ => ⟨S3x2816, .f32⟩
  | .hbm, ⟨4, _⟩ => ⟨S2816, .f32⟩
  | .hbm, ⟨5, _⟩ => ⟨S2816x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x5632, .f32⟩
  | .hbm, ⟨22, _⟩ => ⟨S16384x2816, .f32⟩
  | .hbm, ⟨23, _⟩ => ⟨S1x2816, .f32⟩
  | .hbm, ⟨24, _⟩ => ⟨S2816, .f32⟩
  | .hbm, ⟨25, _⟩ => ⟨S_, .f32⟩
  | .hbm, ⟨26, _⟩ => ⟨S2x2816, .f32⟩
  | .hbm, ⟨27, _⟩ => ⟨S16382x2816, .f32⟩
  | .hbm, ⟨28, _⟩ => ⟨S16384x2816, .f32⟩
  | .hbm, ⟨29, _⟩ => ⟨S1x2816, .f32⟩
  | .hbm, ⟨30, _⟩ => ⟨S16384x2816, .f32⟩
  | .hbm, ⟨31, _⟩ => ⟨S16384x2816, .f32⟩
  | .hbm, ⟨32, _⟩ => ⟨S1x2816, .f32⟩
  | .hbm, ⟨33, _⟩ => ⟨S2816, .f32⟩
  | .hbm, ⟨34, _⟩ => ⟨S_, .f32⟩
  | .hbm, ⟨35, _⟩ => ⟨S1x2816, .f32⟩
  | .hbm, ⟨36, _⟩ => ⟨S16383x2816, .f32⟩
  | .hbm, ⟨37, _⟩ => ⟨S16384x2816, .f32⟩
  | .hbm, ⟨38, _⟩ => ⟨S1x2816, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S1x2816, .f32⟩
  | .hbm, ⟨43, _⟩ => ⟨S2816, .f32⟩
  | .hbm, ⟨44, _⟩ => ⟨S1x2816, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S1x2816, .f32⟩
  | .hbm, ⟨49, _⟩ => ⟨S16384x2816, .f32⟩
  | .hbm, ⟨50, _⟩ => ⟨S16384x2816, .f32⟩
  | .hbm, ⟨51, _⟩ => ⟨S16384x2816, .f32⟩
  | .hbm, ⟨52, _⟩ => ⟨S16384x2816, .f32⟩
  | .hbm, ⟨53, _⟩ => ⟨S_, .f32⟩
  | .hbm, ⟨54, _⟩ => ⟨S16384x2816, .f32⟩
  | .hbm, ⟨55, _⟩ => ⟨S16384x2816, .f32⟩
  | .hbm, ⟨56, _⟩ => ⟨S_, .f32⟩
  | .hbm, ⟨57, _⟩ => ⟨S16384x2816, .f32⟩
  | .hbm, ⟨58, _⟩ => ⟨S16384x2816, .f32⟩
  | .hbm, ⟨59, _⟩ => ⟨S16384x2816, .f32⟩
  | .hbm, ⟨60, _⟩ => ⟨S16384x2816, .f32⟩
  | .hbm, ⟨61, _⟩ => ⟨S16384x2816, .f32⟩
  | .hbm, ⟨62, _⟩ => ⟨S16384x1024, .f32⟩
  | .hbm, ⟨63, _⟩ => ⟨S16384x1024, .f32⟩
  | .hbm, ⟨64, _⟩ => ⟨S16384x1024, .bf16⟩
  | .hbm, ⟨65, _⟩ => ⟨S16384x5632, .bf16⟩
  | .hbm, ⟨66, _⟩ => ⟨S16384x2816, .bf16⟩
  | .hbm, ⟨67, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]
-- ==== Kernel15.lean ====
abbrev S1x1024x320 : Shape := ⟨3, ![1, 1024, 320]⟩
abbrev S1x512x320 : Shape := ⟨3, ![1, 512, 320]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x320, .f32⟩
  | .hbm, ⟨1, _⟩ => ⟨S1x1024x320, .f32⟩
  | .hbm, ⟨2, _⟩ => ⟨S1x1024x320, .f32⟩
  | .hbm, ⟨3, _⟩ => ⟨S1x1024x320, .f32⟩
  | .hbm, ⟨4, _⟩ => ⟨S1x1024x320, .f32⟩
  | .hbm, ⟨5, _⟩ => ⟨S1x1024x320, .f32⟩
  | .hbm, ⟨6, _⟩ => ⟨S1x1024x320, .f32⟩
  | .local _ .vmem, ⟨0, _⟩ => ⟨S1x512x320, .f32⟩
  | .local _ .vmem, ⟨1, _⟩ => ⟨S1x512x320, .f32⟩
  | .local _ .vmem, ⟨2, _⟩ => ⟨S1x512x320, .f32⟩
  | .local _ .vmem, ⟨3, _⟩ => ⟨S1x512x320, .f32⟩
  | .local _ .vmem, ⟨4, _⟩ => ⟨S1x512x320, .f32⟩
  | .local _ .vmem, ⟨5, _⟩ => ⟨S1x512x320, .f32⟩
  | .local _ .vmem, ⟨6, _⟩ => ⟨S1x512x320, .f32⟩
  | .local _ .vmem, ⟨7, _⟩ => ⟨S1x512x320, .f32⟩
  | .local _ .vmem, ⟨8, _⟩ => ⟨S1x512x320, .f32⟩
  | .local _ .vmem, ⟨9, _⟩ => ⟨S1x512x320, .f32⟩
  | .local _ .vmem, ⟨10, _⟩ => ⟨S1x512x320, .f32⟩
  | .local _ .vmem, ⟨11, _⟩ => ⟨S1x512x320, .f32⟩
  | .local _ .vmem, ⟨12, _⟩ => ⟨S1x512x320, .f32⟩
  | .local _ .vmem, ⟨13, _⟩ => ⟨S1x512x320, .f32⟩
  | _, _ => ⟨S1x1024x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x320 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x320 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x320 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference15Ideal.lean ====
abbrev S1x1024x320 : Shape := ⟨3, ![1, 1024, 320]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x320, .f32⟩
  | .hbm, ⟨1, _⟩ => ⟨S1x1024x320, .f32⟩
  | .hbm, ⟨2, _⟩ => ⟨S1x1024x320, .f32⟩
  | .hbm, ⟨3, _⟩ => ⟨S1x1024x320, .f32⟩
  | .hbm, ⟨4, _⟩ => ⟨S_, .f32⟩
  | .hbm, ⟨5, _⟩ => ⟨S1x1024x320, .f32⟩
  | .hbm, ⟨6, _⟩ => ⟨S1x1024x320, .f32⟩
  | .hbm, ⟨7, _⟩ => ⟨S_, .f32⟩
  | .hbm, ⟨8, _⟩ => ⟨S1x1024x320, .f32⟩
  | .hbm, ⟨9, _⟩ => ⟨S1x1024x320, .f32⟩
  | .hbm, ⟨10, _⟩ => ⟨S1x1024x320, .f32⟩
  | .hbm, ⟨11, _⟩ => ⟨S_, .f32⟩
  | .hbm, ⟨12, _⟩ => ⟨S1x1024x320, .f32⟩
  | .hbm, ⟨13, _⟩ => ⟨S1x1024x320, .f32⟩
  | .hbm, ⟨14, _⟩ => ⟨S1x1024x320, .f32⟩
  | .hbm, ⟨15, _⟩ => ⟨S_, .f32⟩
  | .hbm, ⟨16, _⟩ => ⟨S1x1024x320, .f32⟩
  | .hbm, ⟨17, _⟩ => ⟨S1x1024x320, .f32⟩
  | .hbm, ⟨18, _⟩ => ⟨S1x1024x320, .f32⟩
  | .hbm, ⟨19, _⟩ => ⟨S_, .f32⟩
  | .hbm, ⟨20, _⟩ => ⟨S1x1024x320, .f32⟩
  | .hbm, ⟨21, _⟩ => ⟨S1x1024x320, .f32⟩
  | .hbm, ⟨22, _⟩ => ⟨S_, .f32⟩
  | .hbm, ⟨23, _⟩ => ⟨S1x1024x320, .f32⟩
  | .hbm, ⟨24, _⟩ => ⟨S1x1024x320, .f32⟩
  | .hbm, ⟨25, _⟩ => ⟨S1x1024x320, .f32⟩
  | .hbm, ⟨26, _⟩ => ⟨S_, .f32⟩
  | .hbm, ⟨27, _⟩ => ⟨S1x1024x320, .f32⟩
  | .hbm, ⟨28, _⟩ => ⟨S1x1024x320, .f32⟩
  | .hbm, ⟨29, _⟩ => ⟨S1x1024x320, .f32⟩
  | .hbm, ⟨30, _⟩ => ⟨S_, .f32⟩
  | .hbm, ⟨31, _⟩ => ⟨S1x1024x320, .f32⟩
  | .hbm, ⟨32, _⟩ => ⟨S1x1024x320, .f32⟩
  | .hbm, ⟨33, _⟩ => ⟨S1x1024x320, .f32⟩
  | .hbm, ⟨34, _⟩ => ⟨S_, .f32⟩
  | .hbm, ⟨35, _⟩ => ⟨S1x1024x320, .f32⟩
  | .hbm, ⟨36, _⟩ => ⟨S1x1024x320, .f32⟩
  | _, _ => ⟨S1x1024x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S1x256x1024 : Shape := ⟨3, ![1, 256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference16Ideal.lean ====
abbrev S1x256x1024 : Shape := ⟨3, ![1, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S_, .f32⟩
  | .hbm, ⟨5, _⟩ => ⟨S1x256x1024, .f32⟩
  | .hbm, ⟨6, _⟩ => ⟨S1x256x1024, .f32⟩
  | .hbm, ⟨7, _⟩ => ⟨S_, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S_, .f32⟩
  | .hbm, ⟨12, _⟩ => ⟨S1x256x1024, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S_, .f32⟩
  | .hbm, ⟨23, _⟩ => ⟨S1x256x1024, .f32⟩
  | .hbm, ⟨24, _⟩ => ⟨S1x256x1024, .f32⟩
  | .hbm, ⟨25, _⟩ => ⟨S1x256x1024, .f32⟩
  | .hbm, ⟨26, _⟩ => ⟨S_, .f32⟩
  | .hbm, ⟨27, _⟩ => ⟨S1x256x1024, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S1x1024x512 : Shape := ⟨3, ![1, 1024, 512]⟩
abbrev S1x512x512 : Shape := ⟨3, ![1, 512, 512]⟩

abbrev nBuf : Space → Nat
  | .hbm => 7
  | .vmem => 14
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S1x1024x512, .f32⟩
  | .hbm, ⟨5, _⟩ => ⟨S1x1024x512, .f32⟩
  | .hbm, ⟨6, _⟩ => ⟨S1x1024x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference17Ideal.lean ====
abbrev S1x1024x512 : Shape := ⟨3, ![1, 1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024x512, .f32⟩
  | .hbm, ⟨1, _⟩ => ⟨S1x1024x512, .f32⟩
  | .hbm, ⟨2, _⟩ => ⟨S1x1024x512, .f32⟩
  | .hbm, ⟨3, _⟩ => ⟨S1x1024x512, .f32⟩
  | .hbm, ⟨4, _⟩ => ⟨S_, .f32⟩
  | .hbm, ⟨5, _⟩ => ⟨S1x1024x512, .f32⟩
  | .hbm, ⟨6, _⟩ => ⟨S1x1024x512, .f32⟩
  | .hbm, ⟨7, _⟩ => ⟨S_, .f32⟩
  | .hbm, ⟨8, _⟩ => ⟨S1x1024x512, .f32⟩
  | .hbm, ⟨9, _⟩ => ⟨S1x1024x512, .f32⟩
  | .hbm, ⟨10, _⟩ => ⟨S1x1024x512, .f32⟩
  | .hbm, ⟨11, _⟩ => ⟨S_, .f32⟩
  | .hbm, ⟨12, _⟩ => ⟨S1x1024x512, .f32⟩
  | .hbm, ⟨13, _⟩ => ⟨S1x1024x512, .f32⟩
  | .hbm, ⟨14, _⟩ => ⟨S1x1024x512, .f32⟩
  | .hbm, ⟨15, _⟩ => ⟨S_, .f32⟩
  | .hbm, ⟨16, _⟩ => ⟨S1x1024x512, .f32⟩
  | .hbm, ⟨17, _⟩ => ⟨S1x1024x512, .f32⟩
  | .hbm, ⟨18, _⟩ => ⟨S1x1024x512, .f32⟩
  | .hbm, ⟨19, _⟩ => ⟨S_, .f32⟩
  | .hbm, ⟨20, _⟩ => ⟨S1x1024x512, .f32⟩
  | .hbm, ⟨21, _⟩ => ⟨S1x1024x512, .f32⟩
  | .hbm, ⟨22, _⟩ => ⟨S_, .f32⟩
  | .hbm, ⟨23, _⟩ => ⟨S1x1024x512, .f32⟩
  | .hbm, ⟨24, _⟩ => ⟨S1x1024x512, .f32⟩
  | .hbm, ⟨25, _⟩ => ⟨S1x1024x512, .f32⟩
  | .hbm, ⟨26, _⟩ => ⟨S_, .f32⟩
  | .hbm, ⟨27, _⟩ => ⟨S1x1024x512, .f32⟩
  | .hbm, ⟨28, _⟩ => ⟨S1x1024x512, .f32⟩
  | .hbm, ⟨29, _⟩ => ⟨S1x1024x512, .f32⟩
  | .hbm, ⟨30, _⟩ => ⟨S_, .f32⟩
  | .hbm, ⟨31, _⟩ => ⟨S1x1024x512, .f32⟩
  | .hbm, ⟨32, _⟩ => ⟨S1x1024x512, .f32⟩
  | .hbm, ⟨33, _⟩ => ⟨S1x1024x512, .f32⟩
  | .hbm, ⟨34, _⟩ => ⟨S_, .f32⟩
  | .hbm, ⟨35, _⟩ => ⟨S1x1024x512, .f32⟩
  | .hbm, ⟨36, _⟩ => ⟨S1x1024x512, .f32⟩
  | _, _ => ⟨S1x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S2x1024x1408 : Shape := ⟨3, ![2, 1024, 1408]⟩
abbrev S1x128x1408 : Shape := ⟨3, ![1, 128, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .local _ .vmem, ⟨0, _⟩ => ⟨S1x128x1408, .f32⟩
  | .local _ .vmem, ⟨1, _⟩ => ⟨S1x128x1408, .f32⟩
  | .local _ .vmem, ⟨2, _⟩ => ⟨S1x128x1408, .f32⟩
  | .local _ .vmem, ⟨3, _⟩ => ⟨S1x128x1408, .f32⟩
  | .local _ .vmem, ⟨4, _⟩ => ⟨S1x128x1408, .f32⟩
  | .local _ .vmem, ⟨5, _⟩ => ⟨S1x128x1408, .f32⟩
  | .local _ .vmem, ⟨6, _⟩ => ⟨S1x128x1408, .f32⟩
  | .local _ .vmem, ⟨7, _⟩ => ⟨S1x128x1408, .f32⟩
  | .local _ .vmem, ⟨8, _⟩ => ⟨S1x128x1408, .f32⟩
  | .local _ .vmem, ⟨9, _⟩ => ⟨S1x128x1408, .f32⟩
  | .local _ .vmem, ⟨10, _⟩ => ⟨S1x128x1408, .f32⟩
  | .local _ .vmem, ⟨11, _⟩ => ⟨S1x128x1408, .f32⟩
  | .local _ .vmem, ⟨12, _⟩ => ⟨S1x128x1408, .f32⟩
  | .local _ .vmem, ⟨13, _⟩ => ⟨S1x128x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference18Ideal.lean ====
abbrev S2x1024x1408 : Shape := ⟨3, ![2, 1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S_, .f32⟩
  | .hbm, ⟨5, _⟩ => ⟨S2x1024x1408, .f32⟩
  | .hbm, ⟨6, _⟩ => ⟨S2x1024x1408, .f32⟩
  | .hbm, ⟨7, _⟩ => ⟨S_, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S_, .f32⟩
  | .hbm, ⟨23, _⟩ => ⟨S2x1024x1408, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S2x704x1024 : Shape := ⟨3, ![2, 704, 1024]⟩
abbrev S1x176x1024 : Shape := ⟨3, ![1, 176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .local _ .vmem, ⟨0, _⟩ => ⟨S1x176x1024, .f32⟩
  | .local _ .vmem, ⟨1, _⟩ => ⟨S1x176x1024, .f32⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference19Ideal.lean ====
abbrev S2x704x1024 : Shape := ⟨3, ![2, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Pieces.lean ====
module

public import Idealize.ShloMosaic.Lib.Pointwise
public import Idealize.ShloMosaic.Lib.WholeRead
public import Idealize.ShloMosaic.Lib.Writes
public import Idealize.ShloMosaic.Lib.WritesUnit

/-! Buffers read through the stores made to them. -/

@[expose] public section

noncomputable section

namespace Pieces

open Idealize.ShloMosaic

section
variable {sig : RefSig} {s : Shape} {e : EltTy}

/-- A whole load of a buffer at known contents is the contents. -/
theorem readAt_whole {m : Memref sig .tc .vmem s e} (h : m.IsWhole) (X : s.Idx → Elt Ideal e) (B : LoadRect s) (y : B.shape.Idx) (z : s.Idx)
    (hz : B.idx y = z) : View.readAt (Elt Ideal) m.view B (h.unread X) y = X z := by
  rw [Memref.IsWhole.readAt_unread, hz]

/-- Covering pieces that all agree with one function, read back at an element. -/
theorem readCov_pieces (v : View sig .tc .vmem s e) (L : List (View.Piece (Elt Ideal) s e)) (G : s.Idx → Elt Ideal e)
    (hL : ∀ p ∈ L, ∀ x : p.1.shape.Idx, p.2 x = G (p.1.emb x)) (hc : ∀ y, ∃ p ∈ L, y ∈ p.1.set) (B : LoadRect s) (y : B.shape.Idx)
    (z : s.Idx) (hz : B.idx y = z) : View.readCov v L B y = G z := by
  subst hz
  exact View.read_writes_apply_of_pieces v _ G L hL _ (hc _)

/-- Pieces over earlier ones: the later pieces agree with one function and cover. -/
theorem read_pieces_append (v : View sig .tc .vmem s e) (f) (L1 L2 : List (View.Piece (Elt Ideal) s e)) (G : s.Idx → Elt Ideal e)
    (hL : ∀ p ∈ L1, ∀ x : p.1.shape.Idx, p.2 x = G (p.1.emb x)) (hc : ∀ y, ∃ p ∈ L1, y ∈ p.1.set) (y : s.Idx) :
    v.read (Elt Ideal) (v.writes (Elt Ideal) f (L1 ++ L2)) y = G y := by
  rw [View.writes_append]
  exact View.read_writes_apply_of_pieces v _ G L1 hL y (hc y)

/-- Whether every piece of a list lies apart from the box at `o` of sizes `n`. -/
def missL (o n : Fin s.rank → ℕ) (L : List (View.Piece (Elt Ideal) s e)) : Bool :=
  L.all fun p => decide (∃ a, p.1.stride a = 1 ∧ (o a + n a ≤ p.1.off a ∨ p.1.off a + p.1.size a ≤ o a))

/-- An index that misses a rectangle on an axis is not in it. -/
theorem not_mem_of_missL {o n : Fin s.rank → ℕ} {L : List (View.Piece (Elt Ideal) s e)} (h : missL o n L = true) (y : s.Idx)
    (hy : ∀ a, o a ≤ (y a).val ∧ (y a).val < o a + n a) : ∀ p ∈ L, y ∉ p.1.set := by
  intro p hp
  obtain ⟨a, h1, h2⟩ := of_decide_eq_true (List.all_eq_true.mp h p hp)
  refine Rect.not_mem_set_of_axis p.1 y a _ _ rfl h1 rfl ?_
  have := hy a
  omega

/-- The earliest piece of a list, read where every later one lies apart. -/
theorem readCov_first (v : View sig .tc .vmem s e) (L : List (View.Piece (Elt Ideal) s e)) (r : Rect s) (w : r.shape.Idx → Elt Ideal e) (c : Elt Ideal e)
    (hw : ∀ x, w x = c) (hL : L = L.dropLast ++ [⟨r, w⟩]) (hr : ∀ y, y ∈ r.set) (o n : Fin s.rank → ℕ) (hm : missL o n L.dropLast = true) (B : LoadRect s) (y : B.shape.Idx)
    (hy : ∀ a, o a ≤ (B.idx y a).val ∧ (B.idx y a).val < o a + n a) : View.readCov v L B y = c := by
  show v.read (Elt Ideal) (v.writes (Elt Ideal) v.junk L) (B.idx y) = c
  rw [hL, View.writes_append, View.read_writes_apply_of_forall_not_mem _ _ _ _ (not_mem_of_missL hm _ hy)]
  obtain ⟨x, hx⟩ := r.exists_idx_of_mem (hr (B.idx y))
  rw [← hx]
  exact (View.read_writes_cons_emb v _ r w [] x).trans (hw x)
end

end Pieces

end
-- ==== Proof.Block.lean ====
module

public import proofs.«01_k».proof.Proof.Gen.KernelIdeal.Frame
public import proofs.«01_k».proof.Proof.Pieces
public import Idealize.ShloMosaic.Lib.Pointwise
public import Idealize.ShloMosaic.Lib.Pipeline.ValueKit
public import Idealize.ShloMosaic.Lib.WholeRead
public import Idealize.ShloMosaic.Lib.Writes
public import Idealize.ShloMosaic.Lib.WritesUnit

/-! What one grid point of the backward call computes, element by element. -/

@[expose] public section

set_option maxRecDepth 16384

noncomputable section

namespace FfnBwd

export Pieces (readAt_whole readCov_pieces read_pieces_append missL not_mem_of_missL readCov_first)

open Idealize.ShloMosaic Idealize.ShloMosaic.TcCoe Idealize.SL.Sem
open Cert.KernelIdeal Cert.KernelIdeal.Gen

/-- One half, as the kernel writes it. -/
def half : EReal := Ideal.ofBits FTy.f32 1056964608#32

/-- The kernel's sigmoid. -/
def sgK (z : EReal) : EReal := half * Ideal.tanh (half * z) + half

/-- The kernel's derivative of `z · σ z`. -/
def dsK (z : EReal) : EReal := sgK z * (1 + z * (1 - sgK z))

section
variable (x0 : FVec Ideal S256x1024 .f32) (x3 : FVec Ideal S256x5632 .bf16) (x4 : FVec Ideal S256x2816 .bf16)
  (x5 : FVec Ideal S3x2816 .f32) (x6 : FVec Ideal S2816x1024 .bf16) (cy : FVec Ideal S8x2816 .f32)

/-- The gradient of the activation of a block. -/
def DA (r : Fin 256) (c : Fin 2816) : EReal := ∑ d : Fin 1024, x0 (ix2 r d) * x6 (ix2 c d)

/-- The gradient of the gate of a block. -/
def DG (r : Fin 256) (c : Fin 2816) : EReal :=
  DA x0 x6 r c * x3 (ix2 r ⟨2816 + c.val, by omega⟩) * dsK (x4 (ix2 r c))

/-- The gradient of the gate `k` rows ahead, the rows beyond the block from `cy`. -/
def AH (k : ℕ) (r : Fin 256) (c : Fin 2816) : EReal :=
  if h : r.val + k < 256 then DG x0 x3 x4 x6 ⟨r.val + k, h⟩ c
  else cy (ix2 ⟨(r.val + k - 256) % 8, Nat.mod_lt _ (by decide)⟩ c)

/-- The gradient of the up projection of a block. -/
def DU (r : Fin 256) (f : Fin 5632) : EReal :=
  if h : f.val < 2816 then
    x5 (ix2 0 ⟨f.val, h⟩) * AH x0 x3 x4 x6 cy 2 r ⟨f.val, h⟩ + x5 (ix2 1 ⟨f.val, h⟩) * AH x0 x3 x4 x6 cy 1 r ⟨f.val, h⟩
      + x5 (ix2 2 ⟨f.val, h⟩) * DG x0 x3 x4 x6 r ⟨f.val, h⟩
  else DA x0 x6 r ⟨f.val - 2816, by omega⟩ *
    (x4 (ix2 r ⟨f.val - 2816, by omega⟩) * sgK (x4 (ix2 r ⟨f.val - 2816, by omega⟩)))

/-- The shifted gradients of the gate the three taps meet. -/
def SH (j : Fin 3) (r : Fin 256) (c : Fin 2816) : EReal :=
  if j.val = 0 then AH x0 x3 x4 x6 cy 2 r c else if j.val = 1 then AH x0 x3 x4 x6 cy 1 r c else DG x0 x3 x4 x6 r c
end

section
variable {x0 : FVec Ideal S256x1024 .f32} {x3 : FVec Ideal S256x5632 .bf16} {x4 : FVec Ideal S256x2816 .bf16}
  {x5 : FVec Ideal S3x2816 .f32} {x6 : FVec Ideal S2816x1024 .bf16} {CY : FVec Ideal S8x2816 .f32}

/-- A block's gradient of the gate, from the loads of one chunk of columns. -/
theorem dg_chunk {v3 : FVec Ideal S256x1024 .f32} {v5 : FVec Ideal S256x1024 .bf16} {v11 v14 : FVec Ideal S256x256 .bf16}
    {o : ℕ} (ho : o ≤ 2560) (h3 : v3 = x0) (h5 : ∀ (c : Fin 256) d, v5 (ix2 c d) = x6 (ix2 ⟨o + c.val, by omega⟩ d))
    (h11 : ∀ r (c : Fin 256), v11 (ix2 r c) = x3 (ix2 r ⟨2816 + (o + c.val), by omega⟩))
    (h14 : ∀ r (c : Fin 256), v14 (ix2 r c) = x4 (ix2 r ⟨o + c.val, by omega⟩)) (r c : Fin 256) :
    k0_pay13 (F := Ideal) v3 v5 v11 v14 (ix2 r c) = DG x0 x3 x4 x6 r ⟨o + c.val, by omega⟩ := by
  subst h3
  pointwise [k0_pay13, k0_pay12, k0_pay11, k0_pay10, k0_pay9, k0_pay8, k0_pay7]
  unfold DG DA dsK sgK half
  simp only [h5, h11, h14]

/-- A block's gradient of the ungated half, from the loads of one chunk of columns. -/
theorem duv_chunk {v3 : FVec Ideal S256x1024 .f32} {v5 : FVec Ideal S256x1024 .bf16} {v14 : FVec Ideal S256x256 .bf16}
    {o : ℕ} (ho : o ≤ 2560) (h3 : v3 = x0) (h5 : ∀ (c : Fin 256) d, v5 (ix2 c d) = x6 (ix2 ⟨o + c.val, by omega⟩ d))
    (h14 : ∀ r (c : Fin 256), v14 (ix2 r c) = x4 (ix2 r ⟨o + c.val, by omega⟩)) (r c : Fin 256) :
    k0_pay12 (F := Ideal) v3 v5 v14 (ix2 r c) = DU x0 x3 x4 x5 x6 CY r ⟨2816 + (o + c.val), by omega⟩ := by
  subst h3
  pointwise [k0_pay13, k0_pay12, k0_pay11, k0_pay10, k0_pay9, k0_pay8, k0_pay7]
  unfold DU
  rw [dif_neg (by simp)]
  have e : (⟨(⟨2816 + (o + c.val), by omega⟩ : Fin 5632).val - 2816, by simp; omega⟩ : Fin 2816) = ⟨o + c.val, by omega⟩ := by
    ext; simp
  rw [e]
  unfold DA sgK half
  simp only [h5, h14]

/-- The extended gradient read `k` rows ahead. -/
theorem ah_chunk {dg : FVec Ideal S256x256 .f32} {cy : FVec Ideal S8x256 .f32} {e : FVec Ideal S264x256 .f32} {o : ℕ} (ho : o ≤ 2560)
    (hdg : ∀ r (c : Fin 256), dg (ix2 r c) = DG x0 x3 x4 x6 r ⟨o + c.val, by omega⟩)
    (hcy : ∀ r (c : Fin 256), cy (ix2 r c) = CY (ix2 r ⟨o + c.val, by omega⟩))
    (he : ∀ (r : Fin 264) (c : Fin 256), e (ix2 r c) = if h : r.val < 256 then dg (ix2 ⟨r.val, h⟩ c) else cy (ix2 ⟨(r.val - 256) % 8, Nat.mod_lt _ (by decide)⟩ c))
    (k : ℕ) (hk : k ≤ 8) (n : ℕ) (hn : n = 264 - k) (r c : Fin 256) (hlt : (r.val + 264 - n) % 264 < 264) :
    e (ix2 ⟨(r.val + 264 - n) % 264, hlt⟩ c) = AH x0 x3 x4 x6 CY k r ⟨o + c.val, by omega⟩ := by
  have hm : (r.val + 264 - n) % 264 = r.val + k := by subst hn; omega
  rw [he]
  unfold AH
  simp only [hm]
  split
  · exact hdg _ _
  · exact hcy _ _

end

/-! ## The loads of one chunk of columns -/

section
variable {arg1 : Memref sig .tc .vmem S256x1024 .f32} (harg1 : arg1.IsWhole)
  {arg4 : Memref sig .tc .vmem S256x5632 .bf16} (harg4 : arg4.IsWhole) {arg5 : Memref sig .tc .vmem S256x2816 .bf16} (harg5 : arg5.IsWhole)
  {arg6 : Memref sig .tc .vmem S3x2816 .f32} (harg6 : arg6.IsWhole)
  {arg7 : Memref sig .tc .vmem S2816x1024 .bf16} (harg7 : arg7.IsWhole)
  (arg15 : Memref sig .tc .vmem S264x256 .f32)
  (x0 : FVec Ideal S256x1024 .f32) (x3 : FVec Ideal S256x5632 .bf16) (x4 : FVec Ideal S256x2816 .bf16)
  (x5 : FVec Ideal S3x2816 .f32) (x6 : FVec Ideal S2816x1024 .bf16) (CY : FVec Ideal S8x2816 .f32)

/-- The whole cotangent block. -/
abbrev ldA (i1 : ∀ a, (![0, 0] : Fin 2 → Nat) a + S256x1024.size a ≤ S256x1024.size a) : Vec Ideal S256x1024 .f32 :=
  View.readAt (Elt Ideal) arg1.view (Rect.unit (s := S256x1024) ![0, 0] S256x1024.size i1).toLoadRect (harg1.unread x0)
/-- A chunk of rows of the down weight. -/
abbrev ldW (o : ℕ) (i7 : ∀ a, (![o, 0] : Fin 2 → Nat) a + S256x1024.size a ≤ S2816x1024.size a) : Vec Ideal S256x1024 .bf16 :=
  View.readAt (Elt Ideal) arg7.view (Rect.unit (s := S2816x1024) ![o, 0] S256x1024.size i7).toLoadRect (harg7.unread x6)
/-- A chunk of columns of the up projection. -/
abbrev ldU (o : ℕ) (i4 : ∀ a, (![0, o] : Fin 2 → Nat) a + S256x256.size a ≤ S256x5632.size a) : Vec Ideal S256x256 .bf16 :=
  View.readAt (Elt Ideal) arg4.view (Rect.unit (s := S256x5632) ![0, o] S256x256.size i4).toLoadRect (harg4.unread x3)
/-- A chunk of columns of the gate. -/
abbrev ldG (o : ℕ) (i5 : ∀ a, (![0, o] : Fin 2 → Nat) a + S256x256.size a ≤ S256x2816.size a) : Vec Ideal S256x256 .bf16 :=
  View.readAt (Elt Ideal) arg5.view (Rect.unit (s := S256x2816) ![0, o] S256x256.size i5).toLoadRect (harg5.unread x4)
/-- One tap of a chunk of columns. -/
abbrev ldT (j o : ℕ) (i6 : ∀ a, (![j, o] : Fin 2 → Nat) a + S1x256.size a ≤ S3x2816.size a) : Vec Ideal S1x256 .f32 :=
  View.readAt (Elt Ideal) arg6.view (Rect.unit (s := S3x2816) ![j, o] S1x256.size i6).toLoadRect (harg6.unread x5)

/-- A whole load of the gradient block is the block. -/
theorem ldA_eq (i1) : ldA harg1 x0 i1 = x0 := by
  unfold ldA
  funext y
  idx_vars y
  rw [Memref.IsWhole.readAt_unread]
  refine congrArg x0 ?_
  idx_ext

/-- A chunk of the down weight, at an index. -/
theorem ldW_apply (o : ℕ) (ho : o ≤ 2560) (i7) (r : Fin 256) (d : Fin 1024) : ldW harg7 x6 o i7 (ix2 r d) = x6 (ix2 ⟨o + r.val, by omega⟩ d) := by
  unfold ldW
  rw [Memref.IsWhole.readAt_unread]
  refine congrArg x6 ?_
  idx_ext
/-- A chunk of the up projection, at an index. -/
theorem ldU_apply (o : ℕ) (ho : o ≤ 5376) (i4) (r : Fin 256) (d : Fin 256) : ldU harg4 x3 o i4 (ix2 r d) = x3 (ix2 r ⟨o + d.val, by omega⟩) := by
  unfold ldU
  rw [Memref.IsWhole.readAt_unread]
  refine congrArg x3 ?_
  idx_ext
/-- A chunk of the gate, at an index. -/
theorem ldG_apply (o : ℕ) (ho : o ≤ 2560) (i5) (r : Fin 256) (d : Fin 256) : ldG harg5 x4 o i5 (ix2 r d) = x4 (ix2 r ⟨o + d.val, by omega⟩) := by
  unfold ldG
  rw [Memref.IsWhole.readAt_unread]
  refine congrArg x4 ?_
  idx_ext
/-- A tap of a chunk of columns, at an index. -/
theorem ldT_apply (j o : ℕ) (hj : j < 3) (ho : o ≤ 2560) (i6) (d : Fin 256) : ldT harg6 x5 j o i6 (ix2 0 d) = x5 (ix2 ⟨j, hj⟩ ⟨o + d.val, by omega⟩) := by
  unfold ldT
  rw [Memref.IsWhole.readAt_unread]
  refine congrArg x5 ?_
  idx_ext
end

/-! ## One stored piece of each kind, at a chunk of columns that starts at `o` -/

section
variable {arg1 : Memref sig .tc .vmem S256x1024 .f32} (harg1 : arg1.IsWhole)
  {arg4 : Memref sig .tc .vmem S256x5632 .bf16} (harg4 : arg4.IsWhole) {arg5 : Memref sig .tc .vmem S256x2816 .bf16} (harg5 : arg5.IsWhole)
  {arg6 : Memref sig .tc .vmem S3x2816 .f32} (harg6 : arg6.IsWhole)
  {arg7 : Memref sig .tc .vmem S2816x1024 .bf16} (harg7 : arg7.IsWhole)
  {arg15 : Memref sig .tc .vmem S264x256 .f32}
  {x0 : FVec Ideal S256x1024 .f32} {x3 : FVec Ideal S256x5632 .bf16} {x4 : FVec Ideal S256x2816 .bf16}
  {x5 : FVec Ideal S3x2816 .f32} {x6 : FVec Ideal S2816x1024 .bf16} (CY : FVec Ideal S8x2816 .f32)

/-- The gradient of the gate of one chunk, as loaded. -/
abbrev dgL (o ou : ℕ) (i1 : ∀ a, (![0, 0] : Fin 2 → Nat) a + S256x1024.size a ≤ S256x1024.size a)
    (i7 : ∀ a, (![o, 0] : Fin 2 → Nat) a + S256x1024.size a ≤ S2816x1024.size a)
    (i4 : ∀ a, (![0, ou] : Fin 2 → Nat) a + S256x256.size a ≤ S256x5632.size a)
    (i5 : ∀ a, (![0, o] : Fin 2 → Nat) a + S256x256.size a ≤ S256x2816.size a) : FVec Ideal S256x256 .f32 :=
  k0_pay13 (ldA harg1 x0 i1) (ldW harg7 x6 o i7) (ldU harg4 x3 ou i4) (ldG harg5 x4 o i5)

/-- The gate's gradient of a chunk, at an index. -/
theorem dgL_apply {o ou : ℕ} (ho : o ≤ 2560) (hou : ou = 2816 + o) (i1 i7 i4 i5) (r c : Fin 256) :
    dgL (x0 := x0) (x3 := x3) (x4 := x4) (x6 := x6) harg1 harg4 harg5 harg7 o ou i1 i7 i4 i5 (ix2 r c) = DG x0 x3 x4 x6 r ⟨o + c.val, by omega⟩ := by
  subst hou
  refine dg_chunk ho (ldA_eq harg1 x0 i1) (fun c d => ldW_apply harg7 x6 o ho i7 c d) (fun r c => ?_) (fun r c => ldG_apply harg5 x4 o ho i5 r c) r c
  rw [ldU_apply harg4 x3 _ (by omega)]
  congr 2
  ext
  simp only
  omega

/-- The gradient of one chunk extended by the rows `cy`, as read back. -/
abbrev exL (o ou : ℕ) (i1 : ∀ a, (![0, 0] : Fin 2 → Nat) a + S256x1024.size a ≤ S256x1024.size a)
    (i7 : ∀ a, (![o, 0] : Fin 2 → Nat) a + S256x1024.size a ≤ S2816x1024.size a)
    (i4 : ∀ a, (![0, ou] : Fin 2 → Nat) a + S256x256.size a ≤ S256x5632.size a)
    (i5 : ∀ a, (![0, o] : Fin 2 → Nat) a + S256x256.size a ≤ S256x2816.size a)
    (ia : ∀ a, (![256, 0] : Fin 2 → Nat) a + S8x256.size a ≤ S264x256.size a)
    (ib : ∀ a, (![0, 0] : Fin 2 → Nat) a + S256x256.size a ≤ S264x256.size a)
    (ic : ∀ a, (![0, 0] : Fin 2 → Nat) a + S264x256.size a ≤ S264x256.size a)
    (cy : Vec Ideal S8x256 .f32) (rest : List (View.Piece (Elt Ideal) S264x256 .f32)) : Vec Ideal S264x256 .f32 :=
  View.readCov arg15.view (⟨Rect.unit (s := S264x256) ![256, 0] S8x256.size ia, k0_pay15 cy⟩ ::
    ⟨Rect.unit (s := S264x256) ![0, 0] S256x256.size ib, k0_pay14 (dgL (x0 := x0) (x3 := x3) (x4 := x4) (x6 := x6) harg1 harg4 harg5 harg7 o ou i1 i7 i4 i5)⟩ :: rest)
    (Rect.unit (s := S264x256) ![0, 0] S264x256.size ic).toLoadRect

/-- The rows of a chunk continued by the carried rows, at an index. -/
theorem exL_apply {o ou : ℕ} (i1 i7 i4 i5 ia ib ic cy rest) (r : Fin 264) (c : Fin 256) :
    exL (arg15 := arg15) (x0 := x0) (x3 := x3) (x4 := x4) (x6 := x6) harg1 harg4 harg5 harg7 o ou i1 i7 i4 i5 ia ib ic cy rest (ix2 r c) =
      if h : r.val < 256 then dgL (x0 := x0) (x3 := x3) (x4 := x4) (x6 := x6) harg1 harg4 harg5 harg7 o ou i1 i7 i4 i5 (ix2 ⟨r.val, h⟩ c)
      else cy (ix2 ⟨(r.val - 256) % 8, Nat.mod_lt _ (by decide)⟩ c) := by
  unfold exL View.readCov
  show View.read (Elt Ideal) arg15.view _ ((Rect.unit (s := S264x256) ![0, 0] S264x256.size ic).toLoadRect.idx (ix2 r c)) = _
  have hi : (Rect.unit (s := S264x256) ![0, 0] S264x256.size ic).toLoadRect.idx (ix2 r c) = ix2 r c := by idx_ext
  rw [hi]
  by_cases h : r.val < 256
  · rw [dif_pos h, View.read_writes_cons_unit_of_not_mem _ _ _ _ _ _ rfl (0 : Fin 2) (Or.inl h),
      View.read_writes_cons_unit_of_mem _ _ _ _ _ _ (ix2 ⟨r.val, h⟩ c) rfl (by intro a; fin_cases a <;> simp)]
    pointwise [k0_pay14]
  · have hr : (r.val - 256) % 8 = r.val - 256 := by omega
    rw [dif_neg h, View.read_writes_cons_unit_of_mem _ _ _ _ _ _ (ix2 ⟨(r.val - 256) % 8, Nat.mod_lt _ (by decide)⟩ c) rfl
      (by intro a; fin_cases a
          · show r.val = 256 + (r.val - 256) % 8
            omega
          · simp)]
    pointwise [k0_pay15]

/-- The extended gradient of one chunk read `k` rows ahead. -/
theorem exL_ahead {o ou : ℕ} (ho : o ≤ 2560) (hou : ou = 2816 + o) (i1 i7 i4 i5 ia ib ic cy rest)
    (hcy : ∀ r (c : Fin 256), cy (ix2 r c) = CY (ix2 r ⟨o + c.val, by omega⟩))
    (k : ℕ) (hk : k ≤ 8) (n : ℕ) (hn : n = 264 - k) (r : ℕ) (hr : r < 256) (c : Fin 256) (hlt : (r + 264 - n) % 264 < 264) :
    exL (arg15 := arg15) (x0 := x0) (x3 := x3) (x4 := x4) (x6 := x6) harg1 harg4 harg5 harg7 o ou i1 i7 i4 i5 ia ib ic cy rest
      (ix2 ⟨(r + 264 - n) % 264, hlt⟩ c) = AH x0 x3 x4 x6 CY k ⟨r, hr⟩ ⟨o + c.val, by omega⟩ :=
  ah_chunk ho (fun r c => dgL_apply harg1 harg4 harg5 harg7 ho hou i1 i7 i4 i5 r c) hcy
    (fun r c => exL_apply harg1 harg4 harg5 harg7 i1 i7 i4 i5 ia ib ic cy rest r c) k hk n hn ⟨r, hr⟩ c hlt

/-! ### The stored pieces -/

variable (x0 x3 x4 x5 x6)

/-- What the block of the up projection's gradient holds. -/
def G9 : S256x5632.Idx → Elt Ideal .bf16 := fun y => DU x0 x3 x4 x5 x6 CY (y 0) (y 1)
/-- What the eight partial sums of the taps' gradients hold. -/
def G11f (ACC : FVec Ideal S3x8x2816 .f32) (j : Fin 3) (r : Fin 8) (c : Fin 2816) : EReal :=
  ACC (ix3 j r c) + ∑ q : Fin 32, SH x0 x3 x4 x6 CY j ⟨q.val * 8 + r.val, by omega⟩ c *
    x3 (ix2 ⟨q.val * 8 + r.val, by omega⟩ ⟨c.val, by omega⟩)
/-- The same as a function of the index. -/
def G11 (ACC : FVec Ideal S3x8x2816 .f32) : S3x8x2816.Idx → Elt Ideal .f32 := fun y => G11f x0 x3 x4 x6 CY ACC (y 0) (y 1) (y 2)
/-- What the eight partial sums of the bias' gradient hold. -/
def G12f (ACC : FVec Ideal S8x2816 .f32) (r : Fin 8) (c : Fin 2816) : EReal :=
  ACC (ix2 r c) + ∑ q : Fin 32, DG x0 x3 x4 x6 ⟨q.val * 8 + r.val, by omega⟩ c
/-- The same as a function of the index. -/
def G12 (ACC : FVec Ideal S8x2816 .f32) : S8x2816.Idx → Elt Ideal .f32 := fun y => G12f x0 x3 x4 x6 ACC (y 0) (y 1)
/-- What the carried rows hold. -/
def GSf (r : Fin 8) (c : Fin 2816) : EReal := DG x0 x3 x4 x6 ⟨r.val, by omega⟩ c
/-- The same as a function of the index. -/
def GS : S8x2816.Idx → Elt Ideal .f32 := fun y => GSf x0 x3 x4 x6 (y 0) (y 1)

variable {x0 x3 x4 x5 x6}

/-- A value store of the up projection's gradient reads back its half. -/
theorem piece9v {o ou : ℕ} (ho : o ≤ 2560) (hou : ou = 2816 + o) (i1 i7 i5)
    (i : ∀ a, (![0, ou] : Fin 2 → Nat) a + S256x256.size a ≤ S256x5632.size a) (w : S256x256.Idx) :
    k0_pay12 (ldA harg1 x0 i1) (ldW harg7 x6 o i7) (ldG harg5 x4 o i5) w =
      G9 x0 x3 x4 x5 x6 CY ((Rect.unit (s := S256x5632) ![0, ou] S256x256.size i).emb w) := by
  subst hou
  idx_vars w
  have hi : (Rect.unit (s := S256x5632) ![0, 2816 + o] S256x256.size i).emb (ix2 w0 w1) = ix2 w0 ⟨2816 + (o + w1.val), by omega⟩ := by
    idx_ext
  rw [hi]
  exact duv_chunk ho (ldA_eq harg1 x0 i1) (fun c d => ldW_apply harg7 x6 o ho i7 c d) (fun r c => ldG_apply harg5 x4 o ho i5 r c) w0 w1

/-- A gate store of the up projection's gradient reads back its half. -/
theorem piece9u {o ou : ℕ} (ho : o ≤ 2560) (hou : ou = 2816 + o) (i1 i7 i4 i5 ia ib ic cy rest)
    (hcy : ∀ r (c : Fin 256), cy (ix2 r c) = CY (ix2 r ⟨o + c.val, by omega⟩)) (t0 t1 t2)
    (i : ∀ a, (![0, o] : Fin 2 → Nat) a + S256x256.size a ≤ S256x5632.size a) (w : S256x256.Idx) :
    k0_pay23 (dgL (x0 := x0) (x3 := x3) (x4 := x4) (x6 := x6) harg1 harg4 harg5 harg7 o ou i1 i7 i4 i5)
        (k0_pay17 (exL (arg15 := arg15) (x0 := x0) (x3 := x3) (x4 := x4) (x6 := x6) harg1 harg4 harg5 harg7 o ou i1 i7 i4 i5 ia ib ic cy rest))
        (k0_pay18 (exL (arg15 := arg15) (x0 := x0) (x3 := x3) (x4 := x4) (x6 := x6) harg1 harg4 harg5 harg7 o ou i1 i7 i4 i5 ia ib ic cy rest))
        (ldT harg6 x5 0 o t0) (ldT harg6 x5 1 o t1) (ldT harg6 x5 2 o t2) w =
      G9 x0 x3 x4 x5 x6 CY ((Rect.unit (s := S256x5632) ![0, o] S256x256.size i).emb w) := by
  idx_vars w
  have hi : (Rect.unit (s := S256x5632) ![0, o] S256x256.size i).emb (ix2 w0 w1) = ix2 w0 ⟨o + w1.val, by omega⟩ := by
    idx_ext
  rw [hi]
  show _ = DU x0 x3 x4 x5 x6 CY w0 ⟨o + w1.val, by omega⟩
  unfold DU
  rw [dif_pos (by show o + w1.val < 2816; omega)]
  pointwise [k0_pay23, k0_pay17, k0_pay18]
  rw [ldT_apply harg6 x5 0 o (by omega) ho, ldT_apply harg6 x5 1 o (by omega) ho, ldT_apply harg6 x5 2 o (by omega) ho,
    dgL_apply harg1 harg4 harg5 harg7 ho hou,
    exL_ahead harg1 harg4 harg5 harg7 CY ho hou i1 i7 i4 i5 ia ib ic cy rest hcy 1 (by omega) 263 rfl w0.val w0.2 w1,
    exL_ahead harg1 harg4 harg5 harg7 CY ho hou i1 i7 i4 i5 ia ib ic cy rest hcy 2 (by omega) 262 rfl w0.val w0.2 w1]
  rfl

/-- A store of the bias' partial rows reads back its columns. -/
theorem piece12 {o ou : ℕ} (ho : o ≤ 2560) (hou : ou = 2816 + o) (i1 i7 i4 i5 acc) (ACC : FVec Ideal S8x2816 .f32)
    (hacc : ∀ r (c : Fin 256), acc (ix2 r c) = ACC (ix2 r ⟨o + c.val, by omega⟩))
    (i : ∀ a, (![0, o] : Fin 2 → Nat) a + S8x256.size a ≤ S8x2816.size a) (w : S8x256.Idx) :
    k0_pay19 (dgL (x0 := x0) (x3 := x3) (x4 := x4) (x6 := x6) harg1 harg4 harg5 harg7 o ou i1 i7 i4 i5) acc w =
      G12 x0 x3 x4 x6 ACC ((Rect.unit (s := S8x2816) ![0, o] S8x256.size i).emb w) := by
  idx_vars w
  have hi : (Rect.unit (s := S8x2816) ![0, o] S8x256.size i).emb (ix2 w0 w1) = ix2 w0 ⟨o + w1.val, by omega⟩ := by
    idx_ext
  rw [hi]
  show _ = G12f x0 x3 x4 x6 ACC w0 ⟨o + w1.val, by omega⟩
  unfold G12f
  pointwise [k0_pay19]
  refine Ideal.add_congr (hacc w0 w1) (Finset.sum_congr rfl fun q _ => ?_)
  exact dgL_apply harg1 harg4 harg5 harg7 ho hou i1 i7 i4 i5 _ w1

/-- A store of the carried rows reads back its columns. -/
theorem pieceS {o ou : ℕ} (ho : o ≤ 2560) (hou : ou = 2816 + o) (i1 i7 i4 i5)
    (i : ∀ a, (![0, o] : Fin 2 → Nat) a + S8x256.size a ≤ S8x2816.size a) (w : S8x256.Idx) :
    k0_pay16 (dgL (x0 := x0) (x3 := x3) (x4 := x4) (x6 := x6) harg1 harg4 harg5 harg7 o ou i1 i7 i4 i5) w =
      GS x0 x3 x4 x6 ((Rect.unit (s := S8x2816) ![0, o] S8x256.size i).emb w) := by
  idx_vars w
  have hi : (Rect.unit (s := S8x2816) ![0, o] S8x256.size i).emb (ix2 w0 w1) = ix2 w0 ⟨o + w1.val, by omega⟩ := by
    idx_ext
  rw [hi]
  show _ = GSf x0 x3 x4 x6 w0 ⟨o + w1.val, by omega⟩
  unfold GSf
  pointwise [k0_pay16]
  exact dgL_apply harg1 harg4 harg5 harg7 ho hou i1 i7 i4 i5 _ w1

/-- A store of the last tap's partial rows reads back its columns. -/
theorem piece11_2 {o ou : ℕ} (ho : o ≤ 2560) (hou : ou = 2816 + o) (i1 i7 i4 i5 i4') (acc : Vec Ideal S1x8x256 .f32) (ACC : FVec Ideal S3x8x2816 .f32)
    (hacc : ∀ r (c : Fin 256), acc (ix3 0 r c) = ACC (ix3 2 r ⟨o + c.val, by omega⟩))
    (i : ∀ a, (![2, 0, o] : Fin 3 → Nat) a + S1x8x256.size a ≤ S3x8x2816.size a) (w : S1x8x256.Idx) :
    k0_pay22 (k0_pay9 (ldU harg4 x3 o i4')) (dgL (x0 := x0) (x3 := x3) (x4 := x4) (x6 := x6) harg1 harg4 harg5 harg7 o ou i1 i7 i4 i5) acc w =
      G11 x0 x3 x4 x6 CY ACC ((Rect.unit (s := S3x8x2816) ![2, 0, o] S1x8x256.size i).emb w) := by
  idx_vars w
  have hi : (Rect.unit (s := S3x8x2816) ![2, 0, o] S1x8x256.size i).emb (ix3 w0 w1 w2) = ix3 2 w1 ⟨o + w2.val, by omega⟩ := by
    idx_ext
  rw [hi]
  show _ = G11f x0 x3 x4 x6 CY ACC 2 w1 ⟨o + w2.val, by omega⟩
  obtain rfl : w0 = 0 := Subsingleton.elim _ _
  unfold G11f SH
  pointwise [k0_pay22, k0_pay9]
  refine Ideal.add_congr (hacc w1 w2) (Finset.sum_congr rfl fun q _ => ?_)
  refine Ideal.mul_congr ?_ ?_
  · exact dgL_apply harg1 harg4 harg5 harg7 ho hou i1 i7 i4 i5 _ w2
  · exact ldU_apply harg4 x3 o (by omega) _ _ _

/-- A store of the middle tap's partial rows reads back its columns. -/
theorem piece11_1 {o ou : ℕ} (ho : o ≤ 2560) (hou : ou = 2816 + o) (i1 i7 i4 i5 i4' ia ib ic cy rest)
    (hcy : ∀ r (c : Fin 256), cy (ix2 r c) = CY (ix2 r ⟨o + c.val, by omega⟩)) (acc : Vec Ideal S1x8x256 .f32) (ACC : FVec Ideal S3x8x2816 .f32)
    (hacc : ∀ r (c : Fin 256), acc (ix3 0 r c) = ACC (ix3 1 r ⟨o + c.val, by omega⟩))
    (i : ∀ a, (![1, 0, o] : Fin 3 → Nat) a + S1x8x256.size a ≤ S3x8x2816.size a) (w : S1x8x256.Idx) :
    k0_pay21 (k0_pay9 (ldU harg4 x3 o i4')) (k0_pay17 (exL (arg15 := arg15) (x0 := x0) (x3 := x3) (x4 := x4) (x6 := x6) harg1 harg4 harg5 harg7 o ou i1 i7 i4 i5 ia ib ic cy rest)) acc w =
      G11 x0 x3 x4 x6 CY ACC ((Rect.unit (s := S3x8x2816) ![1, 0, o] S1x8x256.size i).emb w) := by
  idx_vars w
  have hi : (Rect.unit (s := S3x8x2816) ![1, 0, o] S1x8x256.size i).emb (ix3 w0 w1 w2) = ix3 1 w1 ⟨o + w2.val, by omega⟩ := by
    idx_ext
  rw [hi]
  show _ = G11f x0 x3 x4 x6 CY ACC 1 w1 ⟨o + w2.val, by omega⟩
  obtain rfl : w0 = 0 := Subsingleton.elim _ _
  unfold G11f SH
  pointwise [k0_pay21, k0_pay9, k0_pay17]
  refine Ideal.add_congr (hacc w1 w2) (Finset.sum_congr rfl fun q _ => ?_)
  refine Ideal.mul_congr ?_ ?_
  · exact exL_ahead harg1 harg4 harg5 harg7 CY ho hou i1 i7 i4 i5 ia ib ic cy rest hcy 1 (by omega) 263 rfl _ _ w2 _
  · exact ldU_apply harg4 x3 o (by omega) _ _ _

/-- A store of the first tap's partial rows reads back its columns. -/
theorem piece11_0 {o ou : ℕ} (ho : o ≤ 2560) (hou : ou = 2816 + o) (i1 i7 i4 i5 i4' ia ib ic cy rest)
    (hcy : ∀ r (c : Fin 256), cy (ix2 r c) = CY (ix2 r ⟨o + c.val, by omega⟩)) (acc : Vec Ideal S1x8x256 .f32) (ACC : FVec Ideal S3x8x2816 .f32)
    (hacc : ∀ r (c : Fin 256), acc (ix3 0 r c) = ACC (ix3 0 r ⟨o + c.val, by omega⟩))
    (i : ∀ a, (![0, 0, o] : Fin 3 → Nat) a + S1x8x256.size a ≤ S3x8x2816.size a) (w : S1x8x256.Idx) :
    k0_pay20 (k0_pay9 (ldU harg4 x3 o i4')) (exL (arg15 := arg15) (x0 := x0) (x3 := x3) (x4 := x4) (x6 := x6) harg1 harg4 harg5 harg7 o ou i1 i7 i4 i5 ia ib ic cy rest) acc w =
      G11 x0 x3 x4 x6 CY ACC ((Rect.unit (s := S3x8x2816) ![0, 0, o] S1x8x256.size i).emb w) := by
  idx_vars w
  have hi : (Rect.unit (s := S3x8x2816) ![0, 0, o] S1x8x256.size i).emb (ix3 w0 w1 w2) = ix3 0 w1 ⟨o + w2.val, by omega⟩ := by
    idx_ext
  rw [hi]
  show _ = G11f x0 x3 x4 x6 CY ACC 0 w1 ⟨o + w2.val, by omega⟩
  obtain rfl : w0 = 0 := Subsingleton.elim _ _
  unfold G11f SH
  pointwise [k0_pay20, k0_pay9, k0_pay18]
  refine Ideal.add_congr (hacc w1 w2) (Finset.sum_congr rfl fun q _ => ?_)
  refine Ideal.mul_congr ?_ ?_
  · exact exL_ahead harg1 harg4 harg5 harg7 CY ho hou i1 i7 i4 i5 ia ib ic cy rest hcy 2 (by omega) 262 rfl _ _ w2 _
  · exact ldU_apply harg4 x3 o (by omega) _ _ _

end

/-! ## The block's norm backward -/

section
variable (x0 x1 : FVec Ideal S256x1024 .f32) (x2 : FVec Ideal S1x1024 .f32) (x7 : FVec Ideal S1024x5632 .bf16)
  (du : Fin 256 → Fin 5632 → EReal)

/-- The number of columns a mean divides by. -/
def cD : EReal := Ideal.ofBits FTy.f32 1149239296#32
/-- The norm's small constant. -/
def eps : EReal := Ideal.ofBits FTy.f32 897988541#32
/-- The reciprocal root of a row. -/
def RX (r : Fin 256) : EReal := Ideal.rsqrt (Ideal.div (∑ d : Fin 1024, x1 (ix2 r d) * x1 (ix2 r d)) cD + eps)
/-- The gradient of the normed block. -/
def DH (r : Fin 256) (d : Fin 1024) : EReal := ∑ f : Fin 5632, du r f * x7 (ix2 d f)
/-- What the block of the input's gradient holds. -/
def G8f (r : Fin 256) (d : Fin 1024) : EReal :=
  x0 (ix2 r d) + RX x1 r * (DH x7 du r d * x2 (ix2 0 d) - x1 (ix2 r d) * RX x1 r *
    Ideal.div (∑ e : Fin 1024, DH x7 du r e * x2 (ix2 0 e) * (x1 (ix2 r e) * RX x1 r)) cD)
/-- The same as a function of the index. -/
def G8 : S256x1024.Idx → Elt Ideal .f32 := fun y => G8f x0 x1 x2 x7 du (y 0) (y 1)
/-- What the eight partial sums of the scale's gradient hold. -/
def G10f (ACC : FVec Ideal S8x1024 .f32) (r : Fin 8) (d : Fin 1024) : EReal :=
  ACC (ix2 r d) + ∑ q : Fin 32, DH x7 du ⟨q.val * 8 + r.val, by omega⟩ d *
    (x1 (ix2 ⟨q.val * 8 + r.val, by omega⟩ d) * RX x1 ⟨q.val * 8 + r.val, by omega⟩)
/-- The same as a function of the index. -/
def G10 (ACC : FVec Ideal S8x1024 .f32) : S8x1024.Idx → Elt Ideal .f32 := fun y => G10f x1 x7 du ACC (y 0) (y 1)

/-- The input's gradient of a block, from the block of the up projection's gradient. -/
theorem tail8 {v : FVec Ideal S256x5632 .bf16} (hv : ∀ r f, v (ix2 r f) = du r f) (w : S256x1024.Idx) :
    k0_pay1 (F := Ideal) x0 (k0_pay210 v x7 x2 x1) w = G8 x0 x1 x2 x7 du w := by
  idx_vars w
  show _ = G8f x0 x1 x2 x7 du w0 w1
  unfold G8f DH RX cD eps
  pointwise [k0_pay1, k0_pay210, k0_pay207, k0_pay208, k0_pay209]
  simp only [hv]

/-- The scale's gradient of a block. -/
theorem tail10 {v : FVec Ideal S256x5632 .bf16} (hv : ∀ r f, v (ix2 r f) = du r f) (acc : FVec Ideal S8x1024 .f32) (w : S8x1024.Idx) :
    k0_pay2 (F := Ideal) (k0_pay211 v x7 x1) acc w = G10 x1 x7 du acc w := by
  idx_vars w
  show _ = G10f x1 x7 du acc w0 w1
  unfold G10f DH RX cD eps
  pointwise [k0_pay2, k0_pay211, k0_pay207, k0_pay208, k0_pay209]
  simp only [hv]
end

section
variable {arg1 : Memref sig .tc .vmem S256x1024 .f32} (harg1 : arg1.IsWhole) {arg2 : Memref sig .tc .vmem S256x1024 .f32} (harg2 : arg2.IsWhole)
  {arg3 : Memref sig .tc .vmem S1x1024 .f32} (harg3 : arg3.IsWhole) {arg8 : Memref sig .tc .vmem S1024x5632 .bf16} (harg8 : arg8.IsWhole)
  {x0 x1 : FVec Ideal S256x1024 .f32} {x2 : FVec Ideal S1x1024 .f32} {x7 : FVec Ideal S1024x5632 .bf16}
  {du : Fin 256 → Fin 5632 → EReal}

/-- The stored block of the input's gradient. -/
theorem piece8 {v : Vec Ideal S256x5632 .bf16} (hv : ∀ r f, v (ix2 r f) = du r f) (i1 i2)
    (i8 : ∀ a, (![0, 0] : Fin 2 → Nat) a + S1024x5632.size a ≤ S1024x5632.size a)
    (i3 : ∀ a, (![0, 0] : Fin 2 → Nat) a + S1x1024.size a ≤ S1x1024.size a)
    (i : ∀ a, (![0, 0] : Fin 2 → Nat) a + S256x1024.size a ≤ S256x1024.size a) (w : S256x1024.Idx) :
    k0_pay1 (F := Ideal) (ldA harg1 x0 i1) (k0_pay210 v
      (View.readAt (Elt Ideal) arg8.view (Rect.unit (s := S1024x5632) ![0, 0] S1024x5632.size i8).toLoadRect (harg8.unread x7))
      (View.readAt (Elt Ideal) arg3.view (Rect.unit (s := S1x1024) ![0, 0] S1x1024.size i3).toLoadRect (harg3.unread x2))
      (ldA harg2 x1 i2)) w = G8 x0 x1 x2 x7 du ((Rect.unit (s := S256x1024) ![0, 0] S256x1024.size i).emb w) := by
  have e8 : (View.readAt (Elt Ideal) arg8.view (Rect.unit (s := S1024x5632) ![0, 0] S1024x5632.size i8).toLoadRect (harg8.unread x7)) = x7 := by
    funext y
    idx_vars y
    rw [Memref.IsWhole.readAt_unread]
    refine congrArg x7 ?_
    idx_ext
  have e3 : (View.readAt (Elt Ideal) arg3.view (Rect.unit (s := S1x1024) ![0, 0] S1x1024.size i3).toLoadRect (harg3.unread x2)) = x2 := by
    funext y
    idx_vars y
    rw [Memref.IsWhole.readAt_unread]
    refine congrArg x2 ?_
    idx_ext
  rw [ldA_eq, ldA_eq, e8, e3, tail8 x0 x1 x2 x7 du hv]
  refine congrArg (G8 x0 x1 x2 x7 du) ?_
  idx_vars w
  idx_ext

/-- The stored partial sums of the scale's gradient. -/
theorem piece10 {v : Vec Ideal S256x5632 .bf16} (hv : ∀ r f, v (ix2 r f) = du r f) (i2)
    (i8 : ∀ a, (![0, 0] : Fin 2 → Nat) a + S1024x5632.size a ≤ S1024x5632.size a)
    (acc : Vec Ideal S8x1024 .f32) (ACC : FVec Ideal S8x1024 .f32) (hacc : ∀ r c, acc (ix2 r c) = ACC (ix2 r c))
    (i : ∀ a, (![0, 0] : Fin 2 → Nat) a + S8x1024.size a ≤ S8x1024.size a) (w : S8x1024.Idx) :
    k0_pay2 (F := Ideal) (k0_pay211 v
      (View.readAt (Elt Ideal) arg8.view (Rect.unit (s := S1024x5632) ![0, 0] S1024x5632.size i8).toLoadRect (harg8.unread x7))
      (ldA harg2 x1 i2)) acc w = G10 x1 x7 du ACC ((Rect.unit (s := S8x1024) ![0, 0] S8x1024.size i).emb w) := by
  have e8 : (View.readAt (Elt Ideal) arg8.view (Rect.unit (s := S1024x5632) ![0, 0] S1024x5632.size i8).toLoadRect (harg8.unread x7)) = x7 := by
    funext y
    idx_vars y
    rw [Memref.IsWhole.readAt_unread]
    refine congrArg x7 ?_
    idx_ext
  have ea : acc = ACC := by
    funext y
    idx_vars y
    exact hacc _ _
  rw [ldA_eq, e8, ea, tail10 x1 x7 du hv]
  refine congrArg (G10 x1 x7 du ACC) ?_
  idx_vars w
  idx_ext
end

/-- A box of a rank-two shape holds what a load of it reads. -/
theorem box2 {d0 d1 o0 o1 n0 n1 : ℕ} (i : ∀ a, (![o0, o1] : Fin 2 → Nat) a + (![n0, n1] : Fin 2 → ℕ) a ≤ (![d0, d1] : Fin 2 → ℕ) a)
    (y : (Rect.unit (s := ⟨2, ![d0, d1]⟩) ![o0, o1] ![n0, n1] i).toLoadRect.shape.Idx) :
    ∀ a, (![o0, o1] : Fin 2 → ℕ) a ≤ ((Rect.unit (s := ⟨2, ![d0, d1]⟩) ![o0, o1] ![n0, n1] i).toLoadRect.idx y a).val ∧
      ((Rect.unit (s := ⟨2, ![d0, d1]⟩) ![o0, o1] ![n0, n1] i).toLoadRect.idx y a).val < (![o0, o1] : Fin 2 → ℕ) a + (![n0, n1] : Fin 2 → ℕ) a := by
  intro a
  have h : ((Rect.unit (s := ⟨2, ![d0, d1]⟩) ![o0, o1] ![n0, n1] i).toLoadRect.idx y a).val = (![o0, o1] : Fin 2 → ℕ) a + 1 * (y a).val := rfl
  have h2 : (y a).val < (![n0, n1] : Fin 2 → ℕ) a := (y a).2
  omega

/-- A box of a rank-three shape holds what a load of it reads. -/
theorem box3 {d0 d1 d2 o0 o1 o2 n0 n1 n2 : ℕ} (i : ∀ a, (![o0, o1, o2] : Fin 3 → Nat) a + (![n0, n1, n2] : Fin 3 → ℕ) a ≤ (![d0, d1, d2] : Fin 3 → ℕ) a)
    (y : (Rect.unit (s := ⟨3, ![d0, d1, d2]⟩) ![o0, o1, o2] ![n0, n1, n2] i).toLoadRect.shape.Idx) :
    ∀ a, (![o0, o1, o2] : Fin 3 → ℕ) a ≤ ((Rect.unit (s := ⟨3, ![d0, d1, d2]⟩) ![o0, o1, o2] ![n0, n1, n2] i).toLoadRect.idx y a).val ∧
      ((Rect.unit (s := ⟨3, ![d0, d1, d2]⟩) ![o0, o1, o2] ![n0, n1, n2] i).toLoadRect.idx y a).val < (![o0, o1, o2] : Fin 3 → ℕ) a + (![n0, n1, n2] : Fin 3 → ℕ) a := by
  intro a
  have h : ((Rect.unit (s := ⟨3, ![d0, d1, d2]⟩) ![o0, o1, o2] ![n0, n1, n2] i).toLoadRect.idx y a).val = (![o0, o1, o2] : Fin 3 → ℕ) a + 1 * (y a).val := rfl
  have h2 : (y a).val < (![n0, n1, n2] : Fin 3 → ℕ) a := (y a).2
  omega

/-- A rectangle at the origin of the whole rank-two shape holds every element. -/
theorem whole2 {n0 n1 : ℕ} (i : ∀ a, (![0, 0] : Fin 2 → Nat) a + (![n0, n1] : Fin 2 → ℕ) a ≤ (![n0, n1] : Fin 2 → ℕ) a) (y : (⟨2, ![n0, n1]⟩ : Shape).Idx) :
    y ∈ (Rect.unit (s := ⟨2, ![n0, n1]⟩) ![0, 0] ![n0, n1] i).set := by
  refine Rect.mem_set_unit.2 fun a => ?_
  have h2 : (y a).val < (![n0, n1] : Fin 2 → ℕ) a := (y a).2
  have h0 : (![0, 0] : Fin 2 → ℕ) a = 0 := by fin_cases a <;> rfl
  exact ⟨by omega, by omega⟩

/-- A rectangle at the origin of the whole rank-three shape holds every element. -/
theorem whole3 {n0 n1 n2 : ℕ} (i : ∀ a, (![0, 0, 0] : Fin 3 → Nat) a + (![n0, n1, n2] : Fin 3 → ℕ) a ≤ (![n0, n1, n2] : Fin 3 → ℕ) a) (y : (⟨3, ![n0, n1, n2]⟩ : Shape).Idx) :
    y ∈ (Rect.unit (s := ⟨3, ![n0, n1, n2]⟩) ![0, 0, 0] ![n0, n1, n2] i).set := by
  refine Rect.mem_set_unit.2 fun a => ?_
  have h2 : (y a).val < (![n0, n1, n2] : Fin 3 → ℕ) a := (y a).2
  have h0 : (![0, 0, 0] : Fin 3 → ℕ) a = 0 := by fin_cases a <;> rfl
  exact ⟨by omega, by omega⟩

/-- The zero fills. -/
theorem zS : ∀ x, k0_pay3 (F := Ideal) x = (0 : EReal) := by intro x; idx_vars x; pointwise [k0_pay3]
/-- The zero fills. -/
theorem z10 : ∀ x, k0_pay4 (F := Ideal) x = (0 : EReal) := by intro x; idx_vars x; pointwise [k0_pay4]
/-- The zero fills. -/
theorem z11 : ∀ x, k0_pay5 (F := Ideal) x = (0 : EReal) := by intro x; idx_vars x; pointwise [k0_pay5]
/-- The zero fills. -/
theorem z12 : ∀ x, k0_pay6 (F := Ideal) x = (0 : EReal) := by intro x; idx_vars x; pointwise [k0_pay6]

/-! ### The zero fills read back -/

/-- The carry read where no chunk has been carried yet. -/
theorem zeroS {v : View sig .tc .vmem S8x2816 .f32} {L : List (View.Piece (Elt Ideal) S8x2816 .f32)} {o : ℕ}
    {i0 : ∀ a, (![0, 0] : Fin 2 → Nat) a + S8x2816.size a ≤ S8x2816.size a} (i : ∀ a, (![0, o] : Fin 2 → Nat) a + S8x256.size a ≤ S8x2816.size a)
    (hL : L = L.dropLast ++ [⟨Rect.unit (s := S8x2816) ![0, 0] S8x2816.size i0, k0_pay3 (F := Ideal)⟩])
    (hm : missL (s := S8x2816) ![0, o] ![8, 256] L.dropLast = true) (x : S8x256.Idx) :
    View.readCov v L (Rect.unit (s := S8x2816) ![0, o] S8x256.size i).toLoadRect x = (0 : EReal) := by
  refine readCov_first v L _ _ _ zS hL (whole2 i0) ![0, o] ![8, 256] hm (Rect.unit (s := S8x2816) ![0, o] S8x256.size i).toLoadRect x ?_
  exact box2 i x

/-- The bias' partial sums read where no chunk has been added yet. -/
theorem zero12 {v : View sig .tc .vmem S8x2816 .f32} {L : List (View.Piece (Elt Ideal) S8x2816 .f32)} {o : ℕ}
    {i0 : ∀ a, (![0, 0] : Fin 2 → Nat) a + S8x2816.size a ≤ S8x2816.size a} (i : ∀ a, (![0, o] : Fin 2 → Nat) a + S8x256.size a ≤ S8x2816.size a)
    (hL : L = L.dropLast ++ [⟨Rect.unit (s := S8x2816) ![0, 0] S8x2816.size i0, k0_pay6 (F := Ideal)⟩])
    (hm : missL (s := S8x2816) ![0, o] ![8, 256] L.dropLast = true) (x : S8x256.Idx) :
    View.readCov v L (Rect.unit (s := S8x2816) ![0, o] S8x256.size i).toLoadRect x = (0 : EReal) := by
  refine readCov_first v L _ _ _ z12 hL (whole2 i0) ![0, o] ![8, 256] hm (Rect.unit (s := S8x2816) ![0, o] S8x256.size i).toLoadRect x ?_
  exact box2 i x

/-- The taps' partial sums read where no chunk has been added yet. -/
theorem zero11 {v : View sig .tc .vmem S3x8x2816 .f32} {L : List (View.Piece (Elt Ideal) S3x8x2816 .f32)} {j o : ℕ}
    {i0 : ∀ a, (![0, 0, 0] : Fin 3 → Nat) a + S3x8x2816.size a ≤ S3x8x2816.size a}
    (i : ∀ a, (![j, 0, o] : Fin 3 → Nat) a + S1x8x256.size a ≤ S3x8x2816.size a)
    (hL : L = L.dropLast ++ [⟨Rect.unit (s := S3x8x2816) ![0, 0, 0] S3x8x2816.size i0, k0_pay5 (F := Ideal)⟩])
    (hm : missL (s := S3x8x2816) ![j, 0, o] ![1, 8, 256] L.dropLast = true) (x : S1x8x256.Idx) :
    View.readCov v L (Rect.unit (s := S3x8x2816) ![j, 0, o] S1x8x256.size i).toLoadRect x = (0 : EReal) := by
  refine readCov_first v L _ _ _ z11 hL (whole3 i0) ![j, 0, o] ![1, 8, 256] hm (Rect.unit (s := S3x8x2816) ![j, 0, o] S1x8x256.size i).toLoadRect x ?_
  exact box3 i x

/-- The scale's partial sums read before anything was added. -/
theorem zero10 {v : View sig .tc .vmem S8x1024 .f32} {L : List (View.Piece (Elt Ideal) S8x1024 .f32)}
    {i0 : ∀ a, (![0, 0] : Fin 2 → Nat) a + S8x1024.size a ≤ S8x1024.size a} (i : ∀ a, (![0, 0] : Fin 2 → Nat) a + S8x1024.size a ≤ S8x1024.size a)
    (hL : L = L.dropLast ++ [⟨Rect.unit (s := S8x1024) ![0, 0] S8x1024.size i0, k0_pay4 (F := Ideal)⟩])
    (hm : missL (s := S8x1024) ![0, 0] ![8, 1024] L.dropLast = true) (x : S8x1024.Idx) :
    View.readCov v L (Rect.unit (s := S8x1024) ![0, 0] S8x1024.size i).toLoadRect x = (0 : EReal) := by
  refine readCov_first v L _ _ _ z10 hL (whole2 i0) ![0, 0] ![8, 1024] hm (Rect.unit (s := S8x1024) ![0, 0] S8x1024.size i).toLoadRect x ?_
  exact box2 i x

end FfnBwd
-- ==== Proof.Rows.lean ====
module

public import proofs.«01_k».proof.Proof.Block

/-! The block's functions over the rows of the whole arrays. -/

@[expose] public section

set_option maxRecDepth 16384

noncomputable section

namespace FfnBwd

open Idealize.ShloMosaic Idealize.ShloMosaic.TcCoe
open Cert.KernelIdeal Cert.KernelIdeal.Gen

section
variable (CT X : Fin 16384 → Fin 1024 → EReal) (GN : Fin 1024 → EReal) (UP : Fin 16384 → Fin 5632 → EReal)
  (GT : Fin 16384 → Fin 2816 → EReal) (WT : Fin 3 → Fin 2816 → EReal) (WD : Fin 2816 → Fin 1024 → EReal)
  (WU : Fin 1024 → Fin 5632 → EReal)

/-- The gradient of the activation. -/
def gDA (s : Fin 16384) (c : Fin 2816) : EReal := ∑ d : Fin 1024, CT s d * WD c d
/-- The gradient of the gate. -/
def gDG (s : Fin 16384) (c : Fin 2816) : EReal :=
  gDA CT WD s c * UP s ⟨2816 + c.val, by omega⟩ * dsK (GT s c)
/-- The gradient of the gate `k` rows ahead, nothing beyond the end. -/
def gAH (k : ℕ) (s : Fin 16384) (c : Fin 2816) : EReal :=
  if h : s.val + k < 16384 then gDG CT UP GT WD ⟨s.val + k, h⟩ c else 0
/-- The gradient of the up projection. -/
def gDU (s : Fin 16384) (f : Fin 5632) : EReal :=
  if h : f.val < 2816 then
    WT 0 ⟨f.val, h⟩ * gAH CT UP GT WD 2 s ⟨f.val, h⟩ + WT 1 ⟨f.val, h⟩ * gAH CT UP GT WD 1 s ⟨f.val, h⟩
      + WT 2 ⟨f.val, h⟩ * gDG CT UP GT WD s ⟨f.val, h⟩
  else gDA CT WD s ⟨f.val - 2816, by omega⟩ *
    (GT s ⟨f.val - 2816, by omega⟩ * sgK (GT s ⟨f.val - 2816, by omega⟩))
/-- The shifted gradients of the gate the three taps meet. -/
def gSH (j : Fin 3) (s : Fin 16384) (c : Fin 2816) : EReal :=
  if j.val = 0 then gAH CT UP GT WD 2 s c else if j.val = 1 then gAH CT UP GT WD 1 s c else gDG CT UP GT WD s c
/-- The reciprocal root of a row. -/
def gRX (s : Fin 16384) : EReal := Ideal.rsqrt (Ideal.div (∑ d : Fin 1024, X s d * X s d) cD + eps)
/-- The gradient of the normed input. -/
def gDH (s : Fin 16384) (d : Fin 1024) : EReal := ∑ f : Fin 5632, gDU CT UP GT WT WD s f * WU d f
/-- The gradient of the input. -/
def gDX (s : Fin 16384) (d : Fin 1024) : EReal :=
  CT s d + gRX X s * (gDH CT UP GT WT WD WU s d * GN d - X s d * gRX X s *
    Ideal.div (∑ e : Fin 1024, gDH CT UP GT WT WD WU s e * GN e * (X s e * gRX X s)) cD)
end

/-- The row of the arrays the block of point `t` holds at `r`. -/
def row (t : Fin 64) (r : Fin 256) : Fin 16384 := ⟨(63 - t.val) * 256 + r.val, by omega⟩
/-- One of the first rows of the block of the point before `t`. -/
def prow (t : Fin 64) (q : Fin 8) : Fin 16384 := row ⟨t.val - 1, by omega⟩ ⟨q.val, by omega⟩

section
variable {CT X : Fin 16384 → Fin 1024 → EReal} {GN : Fin 1024 → EReal} {UP : Fin 16384 → Fin 5632 → EReal}
  {GT : Fin 16384 → Fin 2816 → EReal} {WT : Fin 3 → Fin 2816 → EReal} {WD : Fin 2816 → Fin 1024 → EReal}
  {WU : Fin 1024 → Fin 5632 → EReal}
  {x0 x1 : FVec Ideal S256x1024 .f32} {x2 : FVec Ideal S1x1024 .f32} {x3 : FVec Ideal S256x5632 .bf16} {x4 : FVec Ideal S256x2816 .bf16}
  {x5 : FVec Ideal S3x2816 .f32} {x6 : FVec Ideal S2816x1024 .bf16} {x7 : FVec Ideal S1024x5632 .bf16} {cy : FVec Ideal S8x2816 .f32}
  {t : Fin 64}
  (h0 : ∀ r d, x0 (ix2 r d) = CT (row t r) d) (h1 : ∀ r d, x1 (ix2 r d) = X (row t r) d) (h2 : ∀ d, x2 (ix2 0 d) = GN d)
  (h3 : ∀ r f, x3 (ix2 r f) = UP (row t r) f) (h4 : ∀ r f, x4 (ix2 r f) = GT (row t r) f) (h5 : ∀ j f, x5 (ix2 j f) = WT j f)
  (h6 : ∀ f d, x6 (ix2 f d) = WD f d) (h7 : ∀ d f, x7 (ix2 d f) = WU d f)
  (hcy : ∀ (q : Fin 8) c, cy (ix2 q c) = if h : t.val = 0 then 0 else gDG CT UP GT WD (prow t q) c)

include h0 h6 in
/-- The gradient of the activations, by rows of the block. -/
theorem DA_rows (r c) : DA x0 x6 r c = gDA CT WD (row t r) c := by
  unfold DA gDA
  simp only [h0, h6]

include h0 h3 h4 h6 in
/-- The gate's gradient, by rows of the block. -/
theorem DG_rows (r c) : DG x0 x3 x4 x6 r c = gDG CT UP GT WD (row t r) c := by
  unfold DG gDG
  rw [DA_rows h0 h6, h3, h4]

include h0 h3 h4 h6 hcy in
/-- The gate's gradient shifted back, by rows of the block. -/
theorem AH_rows {k : ℕ} (hk : k < 8) (r c) : AH x0 x3 x4 x6 cy k r c = gAH CT UP GT WD k (row t r) c := by
  unfold AH gAH
  by_cases h : r.val + k < 256
  · rw [dif_pos h, DG_rows h0 h3 h4 h6, dif_pos (by unfold row; dsimp only; omega)]
    congr 1
    unfold row
    ext
    dsimp only
    omega
  · rw [dif_neg h, hcy]
    by_cases h' : t.val = 0
    · rw [dif_pos h', dif_neg (by unfold row; dsimp only; omega)]
    · rw [dif_neg h', dif_pos (by unfold row; dsimp only; omega)]
      congr 1
      unfold prow row
      ext
      dsimp only
      omega

include h0 h3 h4 h5 h6 hcy in
/-- The up projection's gradient, by rows of the block. -/
theorem DU_rows (r f) : DU x0 x3 x4 x5 x6 cy r f = gDU CT UP GT WT WD (row t r) f := by
  unfold DU gDU
  by_cases h : f.val < 2816
  · rw [dif_pos h, dif_pos h, AH_rows h0 h3 h4 h6 hcy (by decide), AH_rows h0 h3 h4 h6 hcy (by decide), DG_rows h0 h3 h4 h6, h5, h5, h5]
  · rw [dif_neg h, dif_neg h, DA_rows h0 h6, h4]

include h0 h3 h4 h6 hcy in
/-- The gate's gradient a tap sees, by rows of the block. -/
theorem SH_rows (j r c) : SH x0 x3 x4 x6 cy j r c = gSH CT UP GT WD j (row t r) c := by
  unfold SH gSH
  rw [AH_rows h0 h3 h4 h6 hcy (by decide), AH_rows h0 h3 h4 h6 hcy (by decide), DG_rows h0 h3 h4 h6]

include h1 in
/-- The reciprocal root, by rows of the block. -/
theorem RX_rows (r) : RX x1 r = gRX X (row t r) := by
  unfold RX gRX
  simp only [h1]

include h0 h3 h4 h5 h6 h7 hcy in
/-- The gradient of the normed input, by rows of the block. -/
theorem DH_rows (r d) : DH x7 (DU x0 x3 x4 x5 x6 cy) r d = gDH CT UP GT WT WD WU (row t r) d := by
  unfold DH gDH
  refine Finset.sum_congr rfl fun f _ => ?_
  rw [DU_rows h0 h3 h4 h5 h6 hcy, h7]

include h0 h1 h2 h3 h4 h5 h6 h7 hcy in
/-- The input's gradient, by rows of the block. -/
theorem G8_rows (r d) : G8f x0 x1 x2 x7 (DU x0 x3 x4 x5 x6 cy) r d = gDX CT X GN UP GT WT WD WU (row t r) d := by
  unfold G8f gDX
  simp only [RX_rows h1, DH_rows h0 h3 h4 h5 h6 h7 hcy, h0, h1, h2]

include h0 h3 h4 h6 hcy in
/-- The block's part of the taps' gradients, by rows. -/
theorem G11_rows (ACC : FVec Ideal S3x8x2816 .f32) (j r c) : G11f x0 x3 x4 x6 cy ACC j r c = ACC (ix3 j r c) +
    ∑ q : Fin 32, gSH CT UP GT WD j (row t ⟨q.val * 8 + r.val, by omega⟩) c * UP (row t ⟨q.val * 8 + r.val, by omega⟩) ⟨c.val, by omega⟩ := by
  unfold G11f
  simp only [SH_rows h0 h3 h4 h6 hcy, h3]

include h0 h3 h4 h6 in
/-- The block's part of the bias' gradient, by rows. -/
theorem G12_rows (ACC : FVec Ideal S8x2816 .f32) (r c) : G12f x0 x3 x4 x6 ACC r c = ACC (ix2 r c) +
    ∑ q : Fin 32, gDG CT UP GT WD (row t ⟨q.val * 8 + r.val, by omega⟩) c := by
  unfold G12f
  simp only [DG_rows h0 h3 h4 h6]

include h0 h1 h3 h4 h5 h6 h7 hcy in
/-- The block's part of the scale's gradient, by rows. -/
theorem G10_rows (ACC : FVec Ideal S8x1024 .f32) (r d) : G10f x1 x7 (DU x0 x3 x4 x5 x6 cy) ACC r d = ACC (ix2 r d) +
    ∑ q : Fin 32, gDH CT UP GT WT WD WU (row t ⟨q.val * 8 + r.val, by omega⟩) d *
      (X (row t ⟨q.val * 8 + r.val, by omega⟩) d * gRX X (row t ⟨q.val * 8 + r.val, by omega⟩)) := by
  unfold G10f
  simp only [RX_rows h1, DH_rows h0 h3 h4 h5 h6 h7 hcy, h1]
end

/-- The rows of all points, eight partial sums of thirty-two rows each, are all rows. -/
theorem sum_rows (f : Fin 16384 → EReal) :
    ∑ r : Fin 8, ∑ t : Fin 64, ∑ q : Fin 32, f (row t ⟨q.val * 8 + r.val, by omega⟩) = ∑ s : Fin 16384, f s := by
  let e : (Fin 8 × Fin 64 × Fin 32) ≃ Fin 16384 :=
    { toFun := fun p => row p.2.1 ⟨p.2.2.val * 8 + p.1.val, by omega⟩
      invFun := fun s => (⟨s.val % 8, by omega⟩, ⟨63 - s.val / 256, by omega⟩, ⟨s.val % 256 / 8, by omega⟩)
      left_inv := by
        rintro ⟨r, t, q⟩
        unfold row
        ext <;> dsimp only <;> omega
      right_inv := by
        intro s
        unfold row
        ext
        dsimp only
        omega }
  rw [← e.sum_comp, Fintype.sum_prod_type]
  refine Finset.sum_congr rfl fun r _ => ?_
  rw [Fintype.sum_prod_type]
  rfl

end FfnBwd
-- ==== Proof.CaseA.lean ====
module

public import proofs.«01_k».proof.Proof.Block

/-! The contents the body leaves at a point that starts the carry. -/

@[expose] public section

set_option maxRecDepth 16384

noncomputable section

namespace FfnBwd

open Idealize.ShloMosaic Idealize.ShloMosaic.TcCoe Idealize.SL.Sem
open Cert.KernelIdeal Cert.KernelIdeal.Gen

variable (c : Dev nD) (i : grid0.Coords) (a1 : Memref sig .tc .vmem S256x1024 .f32) (h1 : a1.IsWhole) (a2 : Memref sig .tc .vmem S256x1024 .f32) (h2 : a2.IsWhole) (a3 : Memref sig .tc .vmem S1x1024 .f32) (h3 : a3.IsWhole) (a4 : Memref sig .tc .vmem S256x5632 .bf16) (h4 : a4.IsWhole) (a5 : Memref sig .tc .vmem S256x2816 .bf16) (h5 : a5.IsWhole) (a6 : Memref sig .tc .vmem S3x2816 .f32) (h6 : a6.IsWhole) (a7 : Memref sig .tc .vmem S2816x1024 .bf16) (h7 : a7.IsWhole) (a8 : Memref sig .tc .vmem S1024x5632 .bf16) (h8 : a8.IsWhole) (a9 : Memref sig .tc .vmem S256x1024 .f32) (h9 : a9.IsWhole) (a10 : Memref sig .tc .vmem S256x5632 .bf16) (h10 : a10.IsWhole) (a11 : Memref sig .tc .vmem S8x1024 .f32) (h11 : a11.IsWhole) (a12 : Memref sig .tc .vmem S3x8x2816 .f32) (h12 : a12.IsWhole) (a13 : Memref sig .tc .vmem S8x2816 .f32) (h13 : a13.IsWhole) (a14 : Memref sig .tc .vmem S8x2816 .f32) (h14 : a14.IsWhole) (a15 : Memref sig .tc .vmem S264x256 .f32) (h15 : a15.IsWhole) (hc0 : cond0_0 i)
    (x0 : Vec Ideal S256x1024 .f32) (x1 : Vec Ideal S256x1024 .f32) (x2 : Vec Ideal S1x1024 .f32) (x3 : Vec Ideal S256x5632 .bf16) (x4 : Vec Ideal S256x2816 .bf16) (x5 : Vec Ideal S3x2816 .f32) (x6 : Vec Ideal S2816x1024 .bf16) (x7 : Vec Ideal S1024x5632 .bf16)

set_option maxHeartbeats 4000000 in
/-- The stored pieces of the up projection's gradient. -/
theorem pA9 : ∀ p ∈ (kernelRun0_A c i a1 h1 a2 h2 a3 h3 a4 h4 a5 h5 a6 h6 a7 h7 a8 h8 a9 h9 a10 h10 a11 h11 a12 h12 a13 h13 a14 h14 a15 h15 hc0 x0 x1 x2 x3 x4 x5 x6 x7).2.1, ∀ x : p.1.shape.Idx, p.2 x = G9 x0 x3 x4 x5 x6 (fun _ => (0 : EReal)) (p.1.emb x) := by
  refine List.forall_mem_cons.2 ⟨?_, ?_⟩
  · exact fun w => piece9u (x5 := x5) h1 h4 h5 h6 h7 (fun _ => (0 : EReal)) (x0 := x0) (x3 := x3) (x4 := x4) (x6 := x6) (o := 2560) (ou := 5376) (by decide) rfl _ _ _ _ _ _ _ _ _ (fun r c => zeroS (o := 2560) (by decide) (by rfl) (by sl_kernel_rfl) (ix2 r c)) _ _ _ (by decide) w
  refine List.forall_mem_cons.2 ⟨?_, ?_⟩
  · exact fun w => piece9v (x5 := x5) h1 h5 h7 (fun _ => (0 : EReal)) (x0 := x0) (x3 := x3) (x4 := x4) (x6 := x6) (o := 2560) (ou := 5376) (by decide) rfl _ _ _ (by decide) w
  refine List.forall_mem_cons.2 ⟨?_, ?_⟩
  · exact fun w => piece9u (x5 := x5) h1 h4 h5 h6 h7 (fun _ => (0 : EReal)) (x0 := x0) (x3 := x3) (x4 := x4) (x6 := x6) (o := 2304) (ou := 5120) (by decide) rfl _ _ _ _ _ _ _ _ _ (fun r c => zeroS (o := 2304) (by decide) (by rfl) (by sl_kernel_rfl) (ix2 r c)) _ _ _ (by decide) w
  refine List.forall_mem_cons.2 ⟨?_, ?_⟩
  · exact fun w => piece9v (x5 := x5) h1 h5 h7 (fun _ => (0 : EReal)) (x0 := x0) (x3 := x3) (x4 := x4) (x6 := x6) (o := 2304) (ou := 5120) (by decide) rfl _ _ _ (by decide) w
  refine List.forall_mem_cons.2 ⟨?_, ?_⟩
  · exact fun w => piece9u (x5 := x5) h1 h4 h5 h6 h7 (fun _ => (0 : EReal)) (x0 := x0) (x3 := x3) (x4 := x4) (x6 := x6) (o := 2048) (ou := 4864) (by decide) rfl _ _ _ _ _ _ _ _ _ (fun r c => zeroS (o := 2048) (by decide) (by rfl) (by sl_kernel_rfl) (ix2 r c)) _ _ _ (by decide) w
  refine List.forall_mem_cons.2 ⟨?_, ?_⟩
  · exact fun w => piece9v (x5 := x5) h1 h5 h7 (fun _ => (0 : EReal)) (x0 := x0) (x3 := x3) (x4 := x4) (x6 := x6) (o := 2048) (ou := 4864) (by decide) rfl _ _ _ (by decide) w
  refine List.forall_mem_cons.2 ⟨?_, ?_⟩
  · exact fun w => piece9u (x5 := x5) h1 h4 h5 h6 h7 (fun _ => (0 : EReal)) (x0 := x0) (x3 := x3) (x4 := x4) (x6 := x6) (o := 1792) (ou := 4608) (by decide) rfl _ _ _ _ _ _ _ _ _ (fun r c => zeroS (o := 1792) (by decide) (by rfl) (by sl_kernel_rfl) (ix2 r c)) _ _ _ (by decide) w
  refine List.forall_mem_cons.2 ⟨?_, ?_⟩
  · exact fun w => piece9v (x5 := x5) h1 h5 h7 (fun _ => (0 : EReal)) (x0 := x0) (x3 := x3) (x4 := x4) (x6 := x6) (o := 1792) (ou := 4608) (by decide) rfl _ _ _ (by decide) w
  refine List.forall_mem_cons.2 ⟨?_, ?_⟩
  · exact fun w => piece9u (x5 := x5) h1 h4 h5 h6 h7 (fun _ => (0 : EReal)) (x0 := x0) (x3 := x3) (x4 := x4) (x6 := x6) (o := 1536) (ou := 4352) (by decide) rfl _ _ _ _ _ _ _ _ _ (fun r c => zeroS (o := 1536) (by decide) (by rfl) (by sl_kernel_rfl) (ix2 r c)) _ _ _ (by decide) w
  refine List.forall_mem_cons.2 ⟨?_, ?_⟩
  · exact fun w => piece9v (x5 := x5) h1 h5 h7 (fun _ => (0 : EReal)) (x0 := x0) (x3 := x3) (x4 := x4) (x6 := x6) (o := 1536) (ou := 4352) (by decide) rfl _ _ _ (by decide) w
  refine List.forall_mem_cons.2 ⟨?_, ?_⟩
  · exact fun w => piece9u (x5 := x5) h1 h4 h5 h6 h7 (fun _ => (0 : EReal)) (x0 := x0) (x3 := x3) (x4 := x4) (x6 := x6) (o := 1280) (ou := 4096) (by decide) rfl _ _ _ _ _ _ _ _ _ (fun r c => zeroS (o := 1280) (by decide) (by rfl) (by sl_kernel_rfl) (ix2 r c)) _ _ _ (by decide) w
  refine List.forall_mem_cons.2 ⟨?_, ?_⟩
  · exact fun w => piece9v (x5 := x5) h1 h5 h7 (fun _ => (0 : EReal)) (x0 := x0) (x3 := x3) (x4 := x4) (x6 := x6) (o := 1280) (ou := 4096) (by decide) rfl _ _ _ (by decide) w
  refine List.forall_mem_cons.2 ⟨?_, ?_⟩
  · exact fun w => piece9u (x5 := x5) h1 h4 h5 h6 h7 (fun _ => (0 : EReal)) (x0 := x0) (x3 := x3) (x4 := x4) (x6 := x6) (o := 1024) (ou := 3840) (by decide) rfl _ _ _ _ _ _ _ _ _ (fun r c => zeroS (o := 1024) (by decide) (by rfl) (by sl_kernel_rfl) (ix2 r c)) _ _ _ (by decide) w
  refine List.forall_mem_cons.2 ⟨?_, ?_⟩
  · exact fun w => piece9v (x5 := x5) h1 h5 h7 (fun _ => (0 : EReal)) (x0 := x0) (x3 := x3) (x4 := x4) (x6 := x6) (o := 1024) (ou := 3840) (by decide) rfl _ _ _ (by decide) w
  refine List.forall_mem_cons.2 ⟨?_, ?_⟩
  · exact fun w => piece9u (x5 := x5) h1 h4 h5 h6 h7 (fun _ => (0 : EReal)) (x0 := x0) (x3 := x3) (x4 := x4) (x6 := x6) (o := 768) (ou := 3584) (by decide) rfl _ _ _ _ _ _ _ _ _ (fun r c => zeroS (o := 768) (by decide) (by rfl) (by sl_kernel_rfl) (ix2 r c)) _ _ _ (by decide) w
  refine List.forall_mem_cons.2 ⟨?_, ?_⟩
  · exact fun w => piece9v (x5 := x5) h1 h5 h7 (fun _ => (0 : EReal)) (x0 := x0) (x3 := x3) (x4 := x4) (x6 := x6) (o := 768) (ou := 3584) (by decide) rfl _ _ _ (by decide) w
  refine List.forall_mem_cons.2 ⟨?_, ?_⟩
  · exact fun w => piece9u (x5 := x5) h1 h4 h5 h6 h7 (fun _ => (0 : EReal)) (x0 := x0) (x3 := x3) (x4 := x4) (x6 := x6) (o := 512) (ou := 3328) (by decide) rfl _ _ _ _ _ _ _ _ _ (fun r c => zeroS (o := 512) (by decide) (by rfl) (by sl_kernel_rfl) (ix2 r c)) _ _ _ (by decide) w
  refine List.forall_mem_cons.2 ⟨?_, ?_⟩
  · exact fun w => piece9v (x5 := x5) h1 h5 h7 (fun _ => (0 : EReal)) (x0 := x0) (x3 := x3) (x4 := x4) (x6 := x6) (o := 512) (ou := 3328) (by decide) rfl _ _ _ (by decide) w
  refine List.forall_mem_cons.2 ⟨?_, ?_⟩
  · exact fun w => piece9u (x5 := x5) h1 h4 h5 h6 h7 (fun _ => (0 : EReal)) (x0 := x0) (x3 := x3) (x4 := x4) (x6 := x6) (o := 256) (ou := 3072) (by decide) rfl _ _ _ _ _ _ _ _ _ (fun r c => zeroS (o := 256) (by decide) (by rfl) (by sl_kernel_rfl) (ix2 r c)) _ _ _ (by decide) w
  refine List.forall_mem_cons.2 ⟨?_, ?_⟩
  · exact fun w => piece9v (x5 := x5) h1 h5 h7 (fun _ => (0 : EReal)) (x0 := x0) (x3 := x3) (x4 := x4) (x6 := x6) (o := 256) (ou := 3072) (by decide) rfl _ _ _ (by decide) w
  refine List.forall_mem_cons.2 ⟨?_, ?_⟩
  · exact fun w => piece9u (x5 := x5) h1 h4 h5 h6 h7 (fun _ => (0 : EReal)) (x0 := x0) (x3 := x3) (x4 := x4) (x6 := x6) (o := 0) (ou := 2816) (by decide) rfl _ _ _ _ _ _ _ _ _ (fun r c => zeroS (o := 0) (by decide) (by rfl) (by sl_kernel_rfl) (ix2 r c)) _ _ _ (by decide) w
  refine List.forall_mem_cons.2 ⟨?_, ?_⟩
  · exact fun w => piece9v (x5 := x5) h1 h5 h7 (fun _ => (0 : EReal)) (x0 := x0) (x3 := x3) (x4 := x4) (x6 := x6) (o := 0) (ou := 2816) (by decide) rfl _ _ _ (by decide) w
  exact List.forall_mem_nil _

set_option maxHeartbeats 4000000 in
/-- The stored pieces of the taps' partial sums. -/
theorem pA11 : ∀ p ∈ (kernelRun0_A c i a1 h1 a2 h2 a3 h3 a4 h4 a5 h5 a6 h6 a7 h7 a8 h8 a9 h9 a10 h10 a11 h11 a12 h12 a13 h13 a14 h14 a15 h15 hc0 x0 x1 x2 x3 x4 x5 x6 x7).2.2.2.1.dropLast, ∀ x : p.1.shape.Idx, p.2 x = G11 x0 x3 x4 x6 (fun _ => (0 : EReal)) (fun _ => (0 : EReal)) (p.1.emb x) := by
  refine List.forall_mem_cons.2 ⟨?_, ?_⟩
  · exact fun w => piece11_2 h1 h4 h5 h7 (fun _ => (0 : EReal)) (x0 := x0) (x3 := x3) (x4 := x4) (x6 := x6) (o := 2560) (ou := 5376) (by decide) rfl _ _ _ _ _ _ (fun _ => (0 : EReal)) (fun r c => zero11 (j := 2) (o := 2560) (by decide) (by rfl) (by sl_kernel_rfl) (ix3 0 r c)) (by decide) w
  refine List.forall_mem_cons.2 ⟨?_, ?_⟩
  · exact fun w => piece11_1 h1 h4 h5 h7 (fun _ => (0 : EReal)) (x0 := x0) (x3 := x3) (x4 := x4) (x6 := x6) (o := 2560) (ou := 5376) (by decide) rfl _ _ _ _ _ _ _ _ _ _ (fun r c => zeroS (o := 2560) (by decide) (by rfl) (by sl_kernel_rfl) (ix2 r c)) _ (fun _ => (0 : EReal)) (fun r c => zero11 (j := 1) (o := 2560) (by decide) (by rfl) (by sl_kernel_rfl) (ix3 0 r c)) (by decide) w
  refine List.forall_mem_cons.2 ⟨?_, ?_⟩
  · exact fun w => piece11_0 h1 h4 h5 h7 (fun _ => (0 : EReal)) (x0 := x0) (x3 := x3) (x4 := x4) (x6 := x6) (o := 2560) (ou := 5376) (by decide) rfl _ _ _ _ _ _ _ _ _ _ (fun r c => zeroS (o := 2560) (by decide) (by rfl) (by sl_kernel_rfl) (ix2 r c)) _ (fun _ => (0 : EReal)) (fun r c => zero11 (j := 0) (o := 2560) (by decide) (by rfl) (by sl_kernel_rfl) (ix3 0 r c)) (by decide) w
  refine List.forall_mem_cons.2 ⟨?_, ?_⟩
  · exact fun w => piece11_2 h1 h4 h5 h7 (fun _ => (0 : EReal)) (x0 := x0) (x3 := x3) (x4 := x4) (x6 := x6) (o := 2304) (ou := 5120) (by decide) rfl _ _ _ _ _ (kernelRun0_A.sl.v913 (F := Ideal) c a1 h1 a4 h4 a5 h5 a7 h7 a12 a14 a15 x0 x3 x4 x6) (fun _ => (0 : EReal)) (fun r c => zero11 (j := 2) (o := 2304) (by decide) (by rfl) (by sl_kernel_rfl) (ix3 0 r c)) (by decide) w
  refine List.forall_mem_cons.2 ⟨?_, ?_⟩
  · exact fun w => piece11_1 h1 h4 h5 h7 (fun _ => (0 : EReal)) (x0 := x0) (x3 := x3) (x4 := x4) (x6 := x6) (o := 2304) (ou := 5120) (by decide) rfl _ _ _ _ _ _ _ _ _ _ (fun r c => zeroS (o := 2304) (by decide) (by rfl) (by sl_kernel_rfl) (ix2 r c)) _ (fun _ => (0 : EReal)) (fun r c => zero11 (j := 1) (o := 2304) (by decide) (by rfl) (by sl_kernel_rfl) (ix3 0 r c)) (by decide) w
  refine List.forall_mem_cons.2 ⟨?_, ?_⟩
  · exact fun w => piece11_0 h1 h4 h5 h7 (fun _ => (0 : EReal)) (x0 := x0) (x3 := x3) (x4 := x4) (x6 := x6) (o := 2304) (ou := 5120) (by decide) rfl _ _ _ _ _ _ _ _ _ _ (fun r c => zeroS (o := 2304) (by decide) (by rfl) (by sl_kernel_rfl) (ix2 r c)) _ (fun _ => (0 : EReal)) (fun r c => zero11 (j := 0) (o := 2304) (by decide) (by rfl) (by sl_kernel_rfl) (ix3 0 r c)) (by decide) w
  refine List.forall_mem_cons.2 ⟨?_, ?_⟩
  · exact fun w => piece11_2 h1 h4 h5 h7 (fun _ => (0 : EReal)) (x0 := x0) (x3 := x3) (x4 := x4) (x6 := x6) (o := 2048) (ou := 4864) (by decide) rfl _ _ _ _ _ _ (fun _ => (0 : EReal)) (fun r c => zero11 (j := 2) (o := 2048) (by decide) (by rfl) (by sl_kernel_rfl) (ix3 0 r c)) (by decide) w
  refine List.forall_mem_cons.2 ⟨?_, ?_⟩
  · exact fun w => piece11_1 h1 h4 h5 h7 (fun _ => (0 : EReal)) (x0 := x0) (x3 := x3) (x4 := x4) (x6 := x6) (o := 2048) (ou := 4864) (by decide) rfl _ _ _ _ _ _ _ _ _ _ (fun r c => zeroS (o := 2048) (by decide) (by rfl) (by sl_kernel_rfl) (ix2 r c)) (kernelRun0_A.sl.v811 (F := Ideal) c a1 h1 a4 h4 a5 h5 a7 h7 a12 a14 a15 x0 x3 x4 x6) (fun _ => (0 : EReal)) (fun r c => zero11 (j := 1) (o := 2048) (by decide) (by rfl) (by sl_kernel_rfl) (ix3 0 r c)) (by decide) w
  refine List.forall_mem_cons.2 ⟨?_, ?_⟩
  · exact fun w => piece11_0 h1 h4 h5 h7 (fun _ => (0 : EReal)) (x0 := x0) (x3 := x3) (x4 := x4) (x6 := x6) (o := 2048) (ou := 4864) (by decide) rfl _ _ _ _ _ _ _ _ _ _ (fun r c => zeroS (o := 2048) (by decide) (by rfl) (by sl_kernel_rfl) (ix2 r c)) _ (fun _ => (0 : EReal)) (fun r c => zero11 (j := 0) (o := 2048) (by decide) (by rfl) (by sl_kernel_rfl) (ix3 0 r c)) (by decide) w
  refine List.forall_mem_cons.2 ⟨?_, ?_⟩
  · exact fun w => piece11_2 h1 h4 h5 h7 (fun _ => (0 : EReal)) (x0 := x0) (x3 := x3) (x4 := x4) (x6 := x6) (o := 1792) (ou := 4608) (by decide) rfl _ _ _ _ _ _ (fun _ => (0 : EReal)) (fun r c => zero11 (j := 2) (o := 1792) (by decide) (by rfl) (by sl_kernel_rfl) (ix3 0 r c)) (by decide) w
  refine List.forall_mem_cons.2 ⟨?_, ?_⟩
  · exact fun w => piece11_1 h1 h4 h5 h7 (fun _ => (0 : EReal)) (x0 := x0) (x3 := x3) (x4 := x4) (x6 := x6) (o := 1792) (ou := 4608) (by decide) rfl _ _ _ _ _ _ _ _ _ _ (fun r c => zeroS (o := 1792) (by decide) (by rfl) (by sl_kernel_rfl) (ix2 r c)) _ (fun _ => (0 : EReal)) (fun r c => zero11 (j := 1) (o := 1792) (by decide) (by rfl) (by sl_kernel_rfl) (ix3 0 r c)) (by decide) w
  refine List.forall_mem_cons.2 ⟨?_, ?_⟩
  · exact fun w => piece11_0 h1 h4 h5 h7 (fun _ => (0 : EReal)) (x0 := x0) (x3 := x3) (x4 := x4) (x6 := x6) (o := 1792) (ou := 4608) (by decide) rfl _ _ _ _ _ _ _ _ _ _ (fun r c => zeroS (o := 1792) (by decide) (by rfl) (by sl_kernel_rfl) (ix2 r c)) _ (fun _ => (0 : EReal)) (fun r c => zero11 (j := 0) (o := 1792) (by decide) (by rfl) (by sl_kernel_rfl) (ix3 0 r c)) (by decide) w
  refine List.forall_mem_cons.2 ⟨?_, ?_⟩
  · exact fun w => piece11_2 h1 h4 h5 h7 (fun _ => (0 : EReal)) (x0 := x0) (x3 := x3) (x4 := x4) (x6 := x6) (o := 1536) (ou := 4352) (by decide) rfl _ _ _ _ _ _ (fun _ => (0 : EReal)) (fun r c => zero11 (j := 2) (o := 1536) (by decide) (by rfl) (by sl_kernel_rfl) (ix3 0 r c)) (by decide) w
  refine List.forall_mem_cons.2 ⟨?_, ?_⟩
  · exact fun w => piece11_1 h1 h4 h5 h7 (fun _ => (0 : EReal)) (x0 := x0) (x3 := x3) (x4 := x4) (x6 := x6) (o := 1536) (ou := 4352) (by decide) rfl _ _ _ _ _ _ _ _ _ _ (fun r c => zeroS (o := 1536) (by decide) (by rfl) (by sl_kernel_rfl) (ix2 r c)) _ (fun _ => (0 : EReal)) (fun r c => zero11 (j := 1) (o := 1536) (by decide) (by rfl) (by sl_kernel_rfl) (ix3 0 r c)) (by decide) w
  refine List.forall_mem_cons.2 ⟨?_, ?_⟩
  · exact fun w => piece11_0 h1 h4 h5 h7 (fun _ => (0 : EReal)) (x0 := x0) (x3 := x3) (x4 := x4) (x6 := x6) (o := 1536) (ou := 4352) (by decide) rfl _ _ _ _ _ _ _ _ _ _ (fun r c => zeroS (o := 1536) (by decide) (by rfl) (by sl_kernel_rfl) (ix2 r c)) _ (fun _ => (0 : EReal)) (fun r c => zero11 (j := 0) (o := 1536) (by decide) (by rfl) (by sl_kernel_rfl) (ix3 0 r c)) (by decide) w
  refine List.forall_mem_cons.2 ⟨?_, ?_⟩
  · exact fun w => piece11_2 h1 h4 h5 h7 (fun _ => (0 : EReal)) (x0 := x0) (x3 := x3) (x4 := x4) (x6 := x6) (o := 1280) (ou := 4096) (by decide) rfl _ _ _ _ _ _ (fun _ => (0 : EReal)) (fun r c => zero11 (j := 2) (o := 1280) (by decide) (by rfl) (by sl_kernel_rfl) (ix3 0 r c)) (by decide) w
  refine List.forall_mem_cons.2 ⟨?_, ?_⟩
  · exact fun w => piece11_1 h1 h4 h5 h7 (fun _ => (0 : EReal)) (x0 := x0) (x3 := x3) (x4 := x4) (x6 := x6) (o := 1280) (ou := 4096) (by decide) rfl _ _ _ _ _ _ _ _ _ _ (fun r c => zeroS (o := 1280) (by decide) (by rfl) (by sl_kernel_rfl) (ix2 r c)) _ (fun _ => (0 : EReal)) (fun r c => zero11 (j := 1) (o := 1280) (by decide) (by rfl) (by sl_kernel_rfl) (ix3 0 r c)) (by decide) w
  refine List.forall_mem_cons.2 ⟨?_, ?_⟩
  · exact fun w => piece11_0 h1 h4 h5 h7 (fun _ => (0 : EReal)) (x0 := x0) (x3 := x3) (x4 := x4) (x6 := x6) (o := 1280) (ou := 4096) (by decide) rfl _ _ _ _ _ _ _ _ _ _ (fun r c => zeroS (o := 1280) (by decide) (by rfl) (by sl_kernel_rfl) (ix2 r c)) _ (fun _ => (0 : EReal)) (fun r c => zero11 (j := 0) (o := 1280) (by decide) (by rfl) (by sl_kernel_rfl) (ix3 0 r c)) (by decide) w
  refine List.forall_mem_cons.2 ⟨?_, ?_⟩
  · exact fun w => piece11_2 h1 h4 h5 h7 (fun _ => (0 : EReal)) (x0 := x0) (x3 := x3) (x4 := x4) (x6 := x6) (o := 1024) (ou := 3840) (by decide) rfl _ _ _ _ _ _ (fun _ => (0 : EReal)) (fun r c => zero11 (j := 2) (o := 1024) (by decide) (by rfl) (by sl_kernel_rfl) (ix3 0 r c)) (by decide) w
  refine List.forall_mem_cons.2 ⟨?_, ?_⟩
  · exact fun w => piece11_1 h1 h4 h5 h7 (fun _ => (0 : EReal)) (x0 := x0) (x3 := x3) (x4 := x4) (x6 := x6) (o := 1024) (ou := 3840) (by decide) rfl _ _ _ _ _ _ _ _ _ _ (fun r c => zeroS (o := 1024) (by decide) (by rfl) (by sl_kernel_rfl) (ix2 r c)) (kernelRun0_A.sl.v439 (F := Ideal) c a1 h1 a4 h4 a5 h5 a7 h7 a12 a14 a15 x0 x3 x4 x6) (fun _ => (0 : EReal)) (fun r c => zero11 (j := 1) (o := 1024) (by decide) (by rfl) (by sl_kernel_rfl) (ix3 0 r c)) (by decide) w
  refine List.forall_mem_cons.2 ⟨?_, ?_⟩
  · exact fun w => piece11_0 h1 h4 h5 h7 (fun _ => (0 : EReal)) (x0 := x0) (x3 := x3) (x4 := x4) (x6 := x6) (o := 1024) (ou := 3840) (by decide) rfl _ _ _ _ _ _ _ _ _ _ (fun r c => zeroS (o := 1024) (by decide) (by rfl) (by sl_kernel_rfl) (ix2 r c)) _ (fun _ => (0 : EReal)) (fun r c => zero11 (j := 0) (o := 1024) (by decide) (by rfl) (by sl_kernel_rfl) (ix3 0 r c)) (by decide) w
  refine List.forall_mem_cons.2 ⟨?_, ?_⟩
  · exact fun w => piece11_2 h1 h4 h5 h7 (fun _ => (0 : EReal)) (x0 := x0) (x3 := x3) (x4 := x4) (x6 := x6) (o := 768) (ou := 3584) (by decide) rfl _ _ _ _ _ _ (fun _ => (0 : EReal)) (fun r c => zero11 (j := 2) (o := 768) (by decide) (by rfl) (by sl_kernel_rfl) (ix3 0 r c)) (by decide) w
  refine List.forall_mem_cons.2 ⟨?_, ?_⟩
  · exact fun w => piece11_1 h1 h4 h5 h7 (fun _ => (0 : EReal)) (x0 := x0) (x3 := x3) (x4 := x4) (x6 := x6) (o := 768) (ou := 3584) (by decide) rfl _ _ _ _ _ _ _ _ _ _ (fun r c => zeroS (o := 768) (by decide) (by rfl) (by sl_kernel_rfl) (ix2 r c)) _ (fun _ => (0 : EReal)) (fun r c => zero11 (j := 1) (o := 768) (by decide) (by rfl) (by sl_kernel_rfl) (ix3 0 r c)) (by decide) w
  refine List.forall_mem_cons.2 ⟨?_, ?_⟩
  · exact fun w => piece11_0 h1 h4 h5 h7 (fun _ => (0 : EReal)) (x0 := x0) (x3 := x3) (x4 := x4) (x6 := x6) (o := 768) (ou := 3584) (by decide) rfl _ _ _ _ _ _ _ _ _ _ (fun r c => zeroS (o := 768) (by decide) (by rfl) (by sl_kernel_rfl) (ix2 r c)) (kernelRun0_A.sl.v337 (F := Ideal) c a1 h1 a4 h4 a5 h5 a7 h7 a12 a14 a15 x0 x3 x4 x6) (fun _ => (0 : EReal)) (fun r c => zero11 (j := 0) (o := 768) (by decide) (by rfl) (by sl_kernel_rfl) (ix3 0 r c)) (by decide) w
  refine List.forall_mem_cons.2 ⟨?_, ?_⟩
  · exact fun w => piece11_2 h1 h4 h5 h7 (fun _ => (0 : EReal)) (x0 := x0) (x3 := x3) (x4 := x4) (x6 := x6) (o := 512) (ou := 3328) (by decide) rfl _ _ _ _ _ _ (fun _ => (0 : EReal)) (fun r c => zero11 (j := 2) (o := 512) (by decide) (by rfl) (by sl_kernel_rfl) (ix3 0 r c)) (by decide) w
  refine List.forall_mem_cons.2 ⟨?_, ?_⟩
  · exact fun w => piece11_1 h1 h4 h5 h7 (fun _ => (0 : EReal)) (x0 := x0) (x3 := x3) (x4 := x4) (x6 := x6) (o := 512) (ou := 3328) (by decide) rfl _ _ _ _ _ _ _ _ _ _ (fun r c => zeroS (o := 512) (by decide) (by rfl) (by sl_kernel_rfl) (ix2 r c)) _ (fun _ => (0 : EReal)) (fun r c => zero11 (j := 1) (o := 512) (by decide) (by rfl) (by sl_kernel_rfl) (ix3 0 r c)) (by decide) w
  refine List.forall_mem_cons.2 ⟨?_, ?_⟩
  · exact fun w => piece11_0 h1 h4 h5 h7 (fun _ => (0 : EReal)) (x0 := x0) (x3 := x3) (x4 := x4) (x6 := x6) (o := 512) (ou := 3328) (by decide) rfl _ _ _ _ _ _ _ _ _ _ (fun r c => zeroS (o := 512) (by decide) (by rfl) (by sl_kernel_rfl) (ix2 r c)) _ (fun _ => (0 : EReal)) (fun r c => zero11 (j := 0) (o := 512) (by decide) (by rfl) (by sl_kernel_rfl) (ix3 0 r c)) (by decide) w
  refine List.forall_mem_cons.2 ⟨?_, ?_⟩
  · exact fun w => piece11_2 h1 h4 h5 h7 (fun _ => (0 : EReal)) (x0 := x0) (x3 := x3) (x4 := x4) (x6 := x6) (o := 256) (ou := 3072) (by decide) rfl _ _ _ _ _ _ (fun _ => (0 : EReal)) (fun r c => zero11 (j := 2) (o := 256) (by decide) (by rfl) (by sl_kernel_rfl) (ix3 0 r c)) (by decide) w
  refine List.forall_mem_cons.2 ⟨?_, ?_⟩
  · exact fun w => piece11_1 h1 h4 h5 h7 (fun _ => (0 : EReal)) (x0 := x0) (x3 := x3) (x4 := x4) (x6 := x6) (o := 256) (ou := 3072) (by decide) rfl _ _ _ _ _ _ _ _ _ _ (fun r c => zeroS (o := 256) (by decide) (by rfl) (by sl_kernel_rfl) (ix2 r c)) _ (fun _ => (0 : EReal)) (fun r c => zero11 (j := 1) (o := 256) (by decide) (by rfl) (by sl_kernel_rfl) (ix3 0 r c)) (by decide) w
  refine List.forall_mem_cons.2 ⟨?_, ?_⟩
  · exact fun w => piece11_0 h1 h4 h5 h7 (fun _ => (0 : EReal)) (x0 := x0) (x3 := x3) (x4 := x4) (x6 := x6) (o := 256) (ou := 3072) (by decide) rfl _ _ _ _ _ _ _ _ _ _ (fun r c => zeroS (o := 256) (by decide) (by rfl) (by sl_kernel_rfl) (ix2 r c)) _ (fun _ => (0 : EReal)) (fun r c => zero11 (j := 0) (o := 256) (by decide) (by rfl) (by sl_kernel_rfl) (ix3 0 r c)) (by decide) w
  refine List.forall_mem_cons.2 ⟨?_, ?_⟩
  · exact fun w => piece11_2 h1 h4 h5 h7 (fun _ => (0 : EReal)) (x0 := x0) (x3 := x3) (x4 := x4) (x6 := x6) (o := 0) (ou := 2816) (by decide) rfl _ _ _ _ _ _ (fun _ => (0 : EReal)) (fun r c => zero11 (j := 2) (o := 0) (by decide) (by rfl) (by sl_kernel_rfl) (ix3 0 r c)) (by decide) w
  refine List.forall_mem_cons.2 ⟨?_, ?_⟩
  · exact fun w => piece11_1 h1 h4 h5 h7 (fun _ => (0 : EReal)) (x0 := x0) (x3 := x3) (x4 := x4) (x6 := x6) (o := 0) (ou := 2816) (by decide) rfl _ _ _ _ _ _ _ _ _ _ (fun r c => zeroS (o := 0) (by decide) (by rfl) (by sl_kernel_rfl) (ix2 r c)) _ (fun _ => (0 : EReal)) (fun r c => zero11 (j := 1) (o := 0) (by decide) (by rfl) (by sl_kernel_rfl) (ix3 0 r c)) (by decide) w
  refine List.forall_mem_cons.2 ⟨?_, ?_⟩
  · exact fun w => piece11_0 h1 h4 h5 h7 (fun _ => (0 : EReal)) (x0 := x0) (x3 := x3) (x4 := x4) (x6 := x6) (o := 0) (ou := 2816) (by decide) rfl _ _ _ _ _ _ _ _ _ _ (fun r c => zeroS (o := 0) (by decide) (by rfl) (by sl_kernel_rfl) (ix2 r c)) _ (fun _ => (0 : EReal)) (fun r c => zero11 (j := 0) (o := 0) (by decide) (by rfl) (by sl_kernel_rfl) (ix3 0 r c)) (by decide) w
  exact List.forall_mem_nil _

set_option maxHeartbeats 4000000 in
/-- The stored pieces of the bias' partial sums. -/
theorem pA12 : ∀ p ∈ (kernelRun0_A c i a1 h1 a2 h2 a3 h3 a4 h4 a5 h5 a6 h6 a7 h7 a8 h8 a9 h9 a10 h10 a11 h11 a12 h12 a13 h13 a14 h14 a15 h15 hc0 x0 x1 x2 x3 x4 x5 x6 x7).2.2.2.2.1.dropLast, ∀ x : p.1.shape.Idx, p.2 x = G12 x0 x3 x4 x6 (fun _ => (0 : EReal)) (p.1.emb x) := by
  refine List.forall_mem_cons.2 ⟨?_, ?_⟩
  · exact fun w => piece12 h1 h4 h5 h7 (x0 := x0) (x3 := x3) (x4 := x4) (x6 := x6) (o := 2560) (ou := 5376) (by decide) rfl _ _ _ _ _ (fun _ => (0 : EReal)) (fun r c => zero12 (o := 2560) (by decide) (by rfl) (by sl_kernel_rfl) (ix2 r c)) (by decide) w
  refine List.forall_mem_cons.2 ⟨?_, ?_⟩
  · exact fun w => piece12 h1 h4 h5 h7 (x0 := x0) (x3 := x3) (x4 := x4) (x6 := x6) (o := 2304) (ou := 5120) (by decide) rfl _ _ _ _ _ (fun _ => (0 : EReal)) (fun r c => zero12 (o := 2304) (by decide) (by rfl) (by sl_kernel_rfl) (ix2 r c)) (by decide) w
  refine List.forall_mem_cons.2 ⟨?_, ?_⟩
  · exact fun w => piece12 h1 h4 h5 h7 (x0 := x0) (x3 := x3) (x4 := x4) (x6 := x6) (o := 2048) (ou := 4864) (by decide) rfl _ _ _ _ _ (fun _ => (0 : EReal)) (fun r c => zero12 (o := 2048) (by decide) (by rfl) (by sl_kernel_rfl) (ix2 r c)) (by decide) w
  refine List.forall_mem_cons.2 ⟨?_, ?_⟩
  · exact fun w => piece12 h1 h4 h5 h7 (x0 := x0) (x3 := x3) (x4 := x4) (x6 := x6) (o := 1792) (ou := 4608) (by decide) rfl _ _ _ _ _ (fun _ => (0 : EReal)) (fun r c => zero12 (o := 1792) (by decide) (by rfl) (by sl_kernel_rfl) (ix2 r c)) (by decide) w
  refine List.forall_mem_cons.2 ⟨?_, ?_⟩
  · exact fun w => piece12 h1 h4 h5 h7 (x0 := x0) (x3 := x3) (x4 := x4) (x6 := x6) (o := 1536) (ou := 4352) (by decide) rfl _ _ _ _ (kernelRun0_A.sl.v610 (F := Ideal) c a1 h1 a4 h4 a5 h5 a7 h7 a13 x0 x3 x4 x6) (fun _ => (0 : EReal)) (fun r c => zero12 (o := 1536) (by decide) (by rfl) (by sl_kernel_rfl) (ix2 r c)) (by decide) w
  refine List.forall_mem_cons.2 ⟨?_, ?_⟩
  · exact fun w => piece12 h1 h4 h5 h7 (x0 := x0) (x3 := x3) (x4 := x4) (x6 := x6) (o := 1280) (ou := 4096) (by decide) rfl _ _ _ _ _ (fun _ => (0 : EReal)) (fun r c => zero12 (o := 1280) (by decide) (by rfl) (by sl_kernel_rfl) (ix2 r c)) (by decide) w
  refine List.forall_mem_cons.2 ⟨?_, ?_⟩
  · exact fun w => piece12 h1 h4 h5 h7 (x0 := x0) (x3 := x3) (x4 := x4) (x6 := x6) (o := 1024) (ou := 3840) (by decide) rfl _ _ _ _ _ (fun _ => (0 : EReal)) (fun r c => zero12 (o := 1024) (by decide) (by rfl) (by sl_kernel_rfl) (ix2 r c)) (by decide) w
  refine List.forall_mem_cons.2 ⟨?_, ?_⟩
  · exact fun w => piece12 h1 h4 h5 h7 (x0 := x0) (x3 := x3) (x4 := x4) (x6 := x6) (o := 768) (ou := 3584) (by decide) rfl _ _ _ _ _ (fun _ => (0 : EReal)) (fun r c => zero12 (o := 768) (by decide) (by rfl) (by sl_kernel_rfl) (ix2 r c)) (by decide) w
  refine List.forall_mem_cons.2 ⟨?_, ?_⟩
  · exact fun w => piece12 h1 h4 h5 h7 (x0 := x0) (x3 := x3) (x4 := x4) (x6 := x6) (o := 512) (ou := 3328) (by decide) rfl _ _ _ _ _ (fun _ => (0 : EReal)) (fun r c => zero12 (o := 512) (by decide) (by rfl) (by sl_kernel_rfl) (ix2 r c)) (by decide) w
  refine List.forall_mem_cons.2 ⟨?_, ?_⟩
  · exact fun w => piece12 h1 h4 h5 h7 (x0 := x0) (x3 := x3) (x4 := x4) (x6 := x6) (o := 256) (ou := 3072) (by decide) rfl _ _ _ _ _ (fun _ => (0 : EReal)) (fun r c => zero12 (o := 256) (by decide) (by rfl) (by sl_kernel_rfl) (ix2 r c)) (by decide) w
  refine List.forall_mem_cons.2 ⟨?_, ?_⟩
  · exact fun w => piece12 h1 h4 h5 h7 (x0 := x0) (x3 := x3) (x4 := x4) (x6 := x6) (o := 0) (ou := 2816) (by decide) rfl _ _ _ _ _ (fun _ => (0 : EReal)) (fun r c => zero12 (o := 0) (by decide) (by rfl) (by sl_kernel_rfl) (ix2 r c)) (by decide) w
  exact List.forall_mem_nil _

set_option maxHeartbeats 4000000 in
/-- The stored pieces of the carried rows. -/
theorem pAS : ∀ p ∈ (kernelRun0_A c i a1 h1 a2 h2 a3 h3 a4 h4 a5 h5 a6 h6 a7 h7 a8 h8 a9 h9 a10 h10 a11 h11 a12 h12 a13 h13 a14 h14 a15 h15 hc0 x0 x1 x2 x3 x4 x5 x6 x7).2.2.2.2.2.1.dropLast, ∀ x : p.1.shape.Idx, p.2 x = GS x0 x3 x4 x6 (p.1.emb x) := by
  refine List.forall_mem_cons.2 ⟨?_, ?_⟩
  · exact fun w => pieceS h1 h4 h5 h7 (x0 := x0) (x3 := x3) (x4 := x4) (x6 := x6) (o := 2560) (ou := 5376) (by decide) rfl _ _ _ _ (by decide) w
  refine List.forall_mem_cons.2 ⟨?_, ?_⟩
  · exact fun w => pieceS h1 h4 h5 h7 (x0 := x0) (x3 := x3) (x4 := x4) (x6 := x6) (o := 2304) (ou := 5120) (by decide) rfl _ _ _ _ (by decide) w
  refine List.forall_mem_cons.2 ⟨?_, ?_⟩
  · exact fun w => pieceS h1 h4 h5 h7 (x0 := x0) (x3 := x3) (x4 := x4) (x6 := x6) (o := 2048) (ou := 4864) (by decide) rfl _ _ _ _ (by decide) w
  refine List.forall_mem_cons.2 ⟨?_, ?_⟩
  · exact fun w => pieceS h1 h4 h5 h7 (x0 := x0) (x3 := x3) (x4 := x4) (x6 := x6) (o := 1792) (ou := 4608) (by decide) rfl _ _ _ _ (by decide) w
  refine List.forall_mem_cons.2 ⟨?_, ?_⟩
  · exact fun w => pieceS h1 h4 h5 h7 (x0 := x0) (x3 := x3) (x4 := x4) (x6 := x6) (o := 1536) (ou := 4352) (by decide) rfl _ _ _ _ (by decide) w
  refine List.forall_mem_cons.2 ⟨?_, ?_⟩
  · exact fun w => pieceS h1 h4 h5 h7 (x0 := x0) (x3 := x3) (x4 := x4) (x6 := x6) (o := 1280) (ou := 4096) (by decide) rfl _ _ _ _ (by decide) w
  refine List.forall_mem_cons.2 ⟨?_, ?_⟩
  · exact fun w => pieceS h1 h4 h5 h7 (x0 := x0) (x3 := x3) (x4 := x4) (x6 := x6) (o := 1024) (ou := 3840) (by decide) rfl _ _ _ _ (by decide) w
  refine List.forall_mem_cons.2 ⟨?_, ?_⟩
  · exact fun w => pieceS h1 h4 h5 h7 (x0 := x0) (x3 := x3) (x4 := x4) (x6 := x6) (o := 768) (ou := 3584) (by decide) rfl _ _ _ _ (by decide) w
  refine List.forall_mem_cons.2 ⟨?_, ?_⟩
  · exact fun w => pieceS h1 h4 h5 h7 (x0 := x0) (x3 := x3) (x4 := x4) (x6 := x6) (o := 512) (ou := 3328) (by decide) rfl _ _ _ _ (by decide) w
  refine List.forall_mem_cons.2 ⟨?_, ?_⟩
  · exact fun w => pieceS h1 h4 h5 h7 (x0 := x0) (x3 := x3) (x4 := x4) (x6 := x6) (o := 256) (ou := 3072) (by decide) rfl _ _ _ _ (by decide) w
  refine List.forall_mem_cons.2 ⟨?_, ?_⟩
  · exact fun w => pieceS h1 h4 h5 h7 (x0 := x0) (x3 := x3) (x4 := x4) (x6 := x6) (o := 0) (ou := 2816) (by decide) rfl _ _ _ _ (by decide) w
  exact List.forall_mem_nil _

set_option maxHeartbeats 400000 in
include c i a1 h1 a2 h2 a3 h3 a4 h4 a5 h5 a6 h6 a7 h7 a8 h8 a9 h9 a10 h10 a11 h11 a12 h12 a13 h13 a14 h14 a15 h15 hc0 x0 x1 x2 x3 x4 x5 x6 x7 in
/-- The read-back block of the up projection's gradient. -/
theorem vA9 (r f) : kernelRun0_A.sl.v1028 (F := Ideal) c a1 h1 a4 h4 a5 h5 a6 h6 a7 h7 a10 a14 a15 x0 x3 x4 x5 x6 (ix2 r f) = DU x0 x3 x4 x5 x6 (fun _ => (0 : EReal)) r f := by
  have hH : kernelRun0_A.sl.H9_22 (F := Ideal) c a1 h1 a4 h4 a5 h5 a6 h6 a7 h7 a14 a15 x0 x3 x4 x5 x6 = (kernelRun0_A c i a1 h1 a2 h2 a3 h3 a4 h4 a5 h5 a6 h6 a7 h7 a8 h8 a9 h9 a10 h10 a11 h11 a12 h12 a13 h13 a14 h14 a15 h15 hc0 x0 x1 x2 x3 x4 x5 x6 x7).2.1 := by rfl
  unfold kernelRun0_A.sl.v1028
  rw [hH]
  exact readCov_pieces a10.view _ (G9 x0 x3 x4 x5 x6 (fun _ => (0 : EReal))) (pA9 c i a1 h1 a2 h2 a3 h3 a4 h4 a5 h5 a6 h6 a7 h7 a8 h8 a9 h9 a10 h10 a11 h11 a12 h12 a13 h13 a14 h14 a15 h15 hc0 x0 x1 x2 x3 x4 x5 x6 x7) (cover0_A_9 c i a1 h1 a2 h2 a3 h3 a4 h4 a5 h5 a6 h6 a7 h7 a8 h8 a9 h9 a10 h10 a11 h11 a12 h12 a13 h13 a14 h14 a15 h15 hc0 x0 x1 x2 x3 x4 x5 x6 x7) (Rect.unit (s := S256x5632) ![0, 0] S256x5632.size inb_S256x5632_S256x5632_0_0).toLoadRect (ix2 r f) (ix2 r f) (by idx_ext)

/-- The block of the input's gradient. -/
theorem oA8 : out0_A_8 c i a1 h1 a2 h2 a3 h3 a4 h4 a5 h5 a6 h6 a7 h7 a8 h8 a9 h9 a10 h10 a11 h11 a12 h12 a13 h13 a14 h14 a15 h15 hc0 x0 x1 x2 x3 x4 x5 x6 x7 = G8 x0 x1 x2 x7 (DU x0 x3 x4 x5 x6 (fun _ => (0 : EReal))) := by
  funext y
  unfold out0_A_8
  refine View.read_writes_apply_of_pieces _ _ (G8 x0 x1 x2 x7 (DU x0 x3 x4 x5 x6 (fun _ => (0 : EReal)))) _ ?_ y (cover0_A_8 c i a1 h1 a2 h2 a3 h3 a4 h4 a5 h5 a6 h6 a7 h7 a8 h8 a9 h9 a10 h10 a11 h11 a12 h12 a13 h13 a14 h14 a15 h15 hc0 x0 x1 x2 x3 x4 x5 x6 x7 y)
  refine List.forall_mem_cons.2 ⟨?_, List.forall_mem_nil _⟩
  exact fun w => piece8 h1 h2 h3 h8 (vA9 c i a1 h1 a2 h2 a3 h3 a4 h4 a5 h5 a6 h6 a7 h7 a8 h8 a9 h9 a10 h10 a11 h11 a12 h12 a13 h13 a14 h14 a15 h15 hc0 x0 x1 x2 x3 x4 x5 x6 x7) _ _ _ _ (by decide) w

/-- The block of the up projection's gradient. -/
theorem oA9 : out0_A_9 c i a1 h1 a2 h2 a3 h3 a4 h4 a5 h5 a6 h6 a7 h7 a8 h8 a9 h9 a10 h10 a11 h11 a12 h12 a13 h13 a14 h14 a15 h15 hc0 x0 x1 x2 x3 x4 x5 x6 x7 = G9 x0 x3 x4 x5 x6 (fun _ => (0 : EReal)) := by
  funext y
  unfold out0_A_9
  exact View.read_writes_apply_of_pieces _ _ _ _ (pA9 c i a1 h1 a2 h2 a3 h3 a4 h4 a5 h5 a6 h6 a7 h7 a8 h8 a9 h9 a10 h10 a11 h11 a12 h12 a13 h13 a14 h14 a15 h15 hc0 x0 x1 x2 x3 x4 x5 x6 x7) y (cover0_A_9 c i a1 h1 a2 h2 a3 h3 a4 h4 a5 h5 a6 h6 a7 h7 a8 h8 a9 h9 a10 h10 a11 h11 a12 h12 a13 h13 a14 h14 a15 h15 hc0 x0 x1 x2 x3 x4 x5 x6 x7 y)

/-- The stored partial sums of the scale's gradient. -/
theorem pA10 : ∀ p ∈ (kernelRun0_A c i a1 h1 a2 h2 a3 h3 a4 h4 a5 h5 a6 h6 a7 h7 a8 h8 a9 h9 a10 h10 a11 h11 a12 h12 a13 h13 a14 h14 a15 h15 hc0 x0 x1 x2 x3 x4 x5 x6 x7).2.2.1.dropLast, ∀ x : p.1.shape.Idx, p.2 x = G10 x1 x7 (DU x0 x3 x4 x5 x6 (fun _ => (0 : EReal))) (fun _ => (0 : EReal)) (p.1.emb x) := by
  refine List.forall_mem_cons.2 ⟨?_, List.forall_mem_nil _⟩
  exact fun w => piece10 h2 h8 (vA9 c i a1 h1 a2 h2 a3 h3 a4 h4 a5 h5 a6 h6 a7 h7 a8 h8 a9 h9 a10 h10 a11 h11 a12 h12 a13 h13 a14 h14 a15 h15 hc0 x0 x1 x2 x3 x4 x5 x6 x7) _ _ _ (fun _ => (0 : EReal)) (fun r c => zero10 (by decide) (by rfl) (by sl_kernel_rfl) (ix2 r c)) (by decide) w

/-- The partial sums of the scale's gradient. -/
theorem oA10 : out0_A_10 c i a1 h1 a2 h2 a3 h3 a4 h4 a5 h5 a6 h6 a7 h7 a8 h8 a9 h9 a10 h10 a11 h11 a12 h12 a13 h13 a14 h14 a15 h15 hc0 x0 x1 x2 x3 x4 x5 x6 x7 = G10 x1 x7 (DU x0 x3 x4 x5 x6 (fun _ => (0 : EReal))) (fun _ => (0 : EReal)) := by
  funext y
  unfold out0_A_10
  have e : (kernelRun0_A c i a1 h1 a2 h2 a3 h3 a4 h4 a5 h5 a6 h6 a7 h7 a8 h8 a9 h9 a10 h10 a11 h11 a12 h12 a13 h13 a14 h14 a15 h15 hc0 x0 x1 x2 x3 x4 x5 x6 x7).2.2.1 = ((kernelRun0_A c i a1 h1 a2 h2 a3 h3 a4 h4 a5 h5 a6 h6 a7 h7 a8 h8 a9 h9 a10 h10 a11 h11 a12 h12 a13 h13 a14 h14 a15 h15 hc0 x0 x1 x2 x3 x4 x5 x6 x7).2.2.1).dropLast ++ [((kernelRun0_A c i a1 h1 a2 h2 a3 h3 a4 h4 a5 h5 a6 h6 a7 h7 a8 h8 a9 h9 a10 h10 a11 h11 a12 h12 a13 h13 a14 h14 a15 h15 hc0 x0 x1 x2 x3 x4 x5 x6 x7).2.2.1).getLast (List.cons_ne_nil _ _)] := (List.dropLast_append_getLast _).symm
  rw [e]
  exact read_pieces_append _ _ _ _ _ (pA10 c i a1 h1 a2 h2 a3 h3 a4 h4 a5 h5 a6 h6 a7 h7 a8 h8 a9 h9 a10 h10 a11 h11 a12 h12 a13 h13 a14 h14 a15 h15 hc0 x0 x1 x2 x3 x4 x5 x6 x7) (View.cover_of_tiledL _ S8x1024.size (by sl_kernel_rfl)) y

/-- The partial sums of the taps' gradients. -/
theorem oA11 : out0_A_11 c i a1 h1 a2 h2 a3 h3 a4 h4 a5 h5 a6 h6 a7 h7 a8 h8 a9 h9 a10 h10 a11 h11 a12 h12 a13 h13 a14 h14 a15 h15 hc0 x0 x1 x2 x3 x4 x5 x6 x7 = G11 x0 x3 x4 x6 (fun _ => (0 : EReal)) (fun _ => (0 : EReal)) := by
  funext y
  unfold out0_A_11
  have e : (kernelRun0_A c i a1 h1 a2 h2 a3 h3 a4 h4 a5 h5 a6 h6 a7 h7 a8 h8 a9 h9 a10 h10 a11 h11 a12 h12 a13 h13 a14 h14 a15 h15 hc0 x0 x1 x2 x3 x4 x5 x6 x7).2.2.2.1 = ((kernelRun0_A c i a1 h1 a2 h2 a3 h3 a4 h4 a5 h5 a6 h6 a7 h7 a8 h8 a9 h9 a10 h10 a11 h11 a12 h12 a13 h13 a14 h14 a15 h15 hc0 x0 x1 x2 x3 x4 x5 x6 x7).2.2.2.1).dropLast ++ [((kernelRun0_A c i a1 h1 a2 h2 a3 h3 a4 h4 a5 h5 a6 h6 a7 h7 a8 h8 a9 h9 a10 h10 a11 h11 a12 h12 a13 h13 a14 h14 a15 h15 hc0 x0 x1 x2 x3 x4 x5 x6 x7).2.2.2.1).getLast (List.cons_ne_nil _ _)] := (List.dropLast_append_getLast _).symm
  rw [e]
  exact read_pieces_append _ _ _ _ _ (pA11 c i a1 h1 a2 h2 a3 h3 a4 h4 a5 h5 a6 h6 a7 h7 a8 h8 a9 h9 a10 h10 a11 h11 a12 h12 a13 h13 a14 h14 a15 h15 hc0 x0 x1 x2 x3 x4 x5 x6 x7) (View.cover_of_tiledL _ S1x8x256.size (by sl_kernel_rfl)) y

/-- The partial sums of the bias' gradient. -/
theorem oA12 : out0_A_12 c i a1 h1 a2 h2 a3 h3 a4 h4 a5 h5 a6 h6 a7 h7 a8 h8 a9 h9 a10 h10 a11 h11 a12 h12 a13 h13 a14 h14 a15 h15 hc0 x0 x1 x2 x3 x4 x5 x6 x7 = G12 x0 x3 x4 x6 (fun _ => (0 : EReal)) := by
  funext y
  unfold out0_A_12
  have e : (kernelRun0_A c i a1 h1 a2 h2 a3 h3 a4 h4 a5 h5 a6 h6 a7 h7 a8 h8 a9 h9 a10 h10 a11 h11 a12 h12 a13 h13 a14 h14 a15 h15 hc0 x0 x1 x2 x3 x4 x5 x6 x7).2.2.2.2.1 = ((kernelRun0_A c i a1 h1 a2 h2 a3 h3 a4 h4 a5 h5 a6 h6 a7 h7 a8 h8 a9 h9 a10 h10 a11 h11 a12 h12 a13 h13 a14 h14 a15 h15 hc0 x0 x1 x2 x3 x4 x5 x6 x7).2.2.2.2.1).dropLast ++ [((kernelRun0_A c i a1 h1 a2 h2 a3 h3 a4 h4 a5 h5 a6 h6 a7 h7 a8 h8 a9 h9 a10 h10 a11 h11 a12 h12 a13 h13 a14 h14 a15 h15 hc0 x0 x1 x2 x3 x4 x5 x6 x7).2.2.2.2.1).getLast (List.cons_ne_nil _ _)] := (List.dropLast_append_getLast _).symm
  rw [e]
  exact read_pieces_append _ _ _ _ _ (pA12 c i a1 h1 a2 h2 a3 h3 a4 h4 a5 h5 a6 h6 a7 h7 a8 h8 a9 h9 a10 h10 a11 h11 a12 h12 a13 h13 a14 h14 a15 h15 hc0 x0 x1 x2 x3 x4 x5 x6 x7) (View.cover_of_tiledL _ S8x256.size (by sl_kernel_rfl)) y

/-- The carried rows. -/
theorem sA : sout0_A_0 c i a1 h1 a2 h2 a3 h3 a4 h4 a5 h5 a6 h6 a7 h7 a8 h8 a9 h9 a10 h10 a11 h11 a12 h12 a13 h13 a14 h14 a15 h15 hc0 x0 x1 x2 x3 x4 x5 x6 x7 = GS x0 x3 x4 x6 := by
  funext y
  unfold sout0_A_0
  have e : (kernelRun0_A c i a1 h1 a2 h2 a3 h3 a4 h4 a5 h5 a6 h6 a7 h7 a8 h8 a9 h9 a10 h10 a11 h11 a12 h12 a13 h13 a14 h14 a15 h15 hc0 x0 x1 x2 x3 x4 x5 x6 x7).2.2.2.2.2.1 = ((kernelRun0_A c i a1 h1 a2 h2 a3 h3 a4 h4 a5 h5 a6 h6 a7 h7 a8 h8 a9 h9 a10 h10 a11 h11 a12 h12 a13 h13 a14 h14 a15 h15 hc0 x0 x1 x2 x3 x4 x5 x6 x7).2.2.2.2.2.1).dropLast ++ [((kernelRun0_A c i a1 h1 a2 h2 a3 h3 a4 h4 a5 h5 a6 h6 a7 h7 a8 h8 a9 h9 a10 h10 a11 h11 a12 h12 a13 h13 a14 h14 a15 h15 hc0 x0 x1 x2 x3 x4 x5 x6 x7).2.2.2.2.2.1).getLast (List.cons_ne_nil _ _)] := (List.dropLast_append_getLast _).symm
  rw [e]
  exact read_pieces_append _ _ _ _ _ (pAS c i a1 h1 a2 h2 a3 h3 a4 h4 a5 h5 a6 h6 a7 h7 a8 h8 a9 h9 a10 h10 a11 h11 a12 h12 a13 h13 a14 h14 a15 h15 hc0 x0 x1 x2 x3 x4 x5 x6 x7) (View.cover_of_tiledL _ S8x256.size (by sl_kernel_rfl)) y

end FfnBwd
-- ==== Proof.CaseB.lean ====
module

public import proofs.«01_k».proof.Proof.Block

/-! The contents the body leaves at a point that continues the carry. -/

@[expose] public section

set_option maxRecDepth 16384

noncomputable section

namespace FfnBwd

open Idealize.ShloMosaic Idealize.ShloMosaic.TcCoe Idealize.SL.Sem
open Cert.KernelIdeal Cert.KernelIdeal.Gen

variable (c : Dev nD) (i : grid0.Coords) (a1 : Memref sig .tc .vmem S256x1024 .f32) (h1 : a1.IsWhole) (a2 : Memref sig .tc .vmem S256x1024 .f32) (h2 : a2.IsWhole) (a3 : Memref sig .tc .vmem S1x1024 .f32) (h3 : a3.IsWhole) (a4 : Memref sig .tc .vmem S256x5632 .bf16) (h4 : a4.IsWhole) (a5 : Memref sig .tc .vmem S256x2816 .bf16) (h5 : a5.IsWhole) (a6 : Memref sig .tc .vmem S3x2816 .f32) (h6 : a6.IsWhole) (a7 : Memref sig .tc .vmem S2816x1024 .bf16) (h7 : a7.IsWhole) (a8 : Memref sig .tc .vmem S1024x5632 .bf16) (h8 : a8.IsWhole) (a9 : Memref sig .tc .vmem S256x1024 .f32) (h9 : a9.IsWhole) (a10 : Memref sig .tc .vmem S256x5632 .bf16) (h10 : a10.IsWhole) (a11 : Memref sig .tc .vmem S8x1024 .f32) (h11 : a11.IsWhole) (a12 : Memref sig .tc .vmem S3x8x2816 .f32) (h12 : a12.IsWhole) (a13 : Memref sig .tc .vmem S8x2816 .f32) (h13 : a13.IsWhole) (a14 : Memref sig .tc .vmem S8x2816 .f32) (h14 : a14.IsWhole) (a15 : Memref sig .tc .vmem S264x256 .f32) (h15 : a15.IsWhole) (hc0 : ¬cond0_0 i)
    (x0 : Vec Ideal S256x1024 .f32) (x1 : Vec Ideal S256x1024 .f32) (x2 : Vec Ideal S1x1024 .f32) (x3 : Vec Ideal S256x5632 .bf16) (x4 : Vec Ideal S256x2816 .bf16) (x5 : Vec Ideal S3x2816 .f32) (x6 : Vec Ideal S2816x1024 .bf16) (x7 : Vec Ideal S1024x5632 .bf16) (xo10 : Vec Ideal S8x1024 .f32) (xo11 : Vec Ideal S3x8x2816 .f32) (xo12 : Vec Ideal S8x2816 .f32) (xs0 : Vec Ideal S8x2816 .f32)

set_option maxHeartbeats 4000000 in
/-- The stored pieces of the up projection's gradient. -/
theorem pB9 : ∀ p ∈ (kernelRun0_B c i a1 h1 a2 h2 a3 h3 a4 h4 a5 h5 a6 h6 a7 h7 a8 h8 a9 h9 a10 h10 a11 h11 a12 h12 a13 h13 a14 h14 a15 h15 hc0 x0 x1 x2 x3 x4 x5 x6 x7 xo10 xo11 xo12 xs0).2.1, ∀ x : p.1.shape.Idx, p.2 x = G9 x0 x3 x4 x5 x6 xs0 (p.1.emb x) := by
  refine List.forall_mem_cons.2 ⟨?_, ?_⟩
  · exact fun w => piece9u (x5 := x5) h1 h4 h5 h6 h7 xs0 (x0 := x0) (x3 := x3) (x4 := x4) (x6 := x6) (o := 2560) (ou := 5376) (by decide) rfl _ _ _ _ _ _ _ _ _ (fun r c => readAt_whole h14 xs0 _ _ _ (by idx_ext)) _ _ _ (by decide) w
  refine List.forall_mem_cons.2 ⟨?_, ?_⟩
  · exact fun w => piece9v (x5 := x5) h1 h5 h7 xs0 (x0 := x0) (x3 := x3) (x4 := x4) (x6 := x6) (o := 2560) (ou := 5376) (by decide) rfl _ _ _ (by decide) w
  refine List.forall_mem_cons.2 ⟨?_, ?_⟩
  · exact fun w => piece9u (x5 := x5) h1 h4 h5 h6 h7 xs0 (x0 := x0) (x3 := x3) (x4 := x4) (x6 := x6) (o := 2304) (ou := 5120) (by decide) rfl _ _ _ _ _ _ _ _ _ (fun r c => readAt_whole h14 xs0 _ _ _ (by idx_ext)) _ _ _ (by decide) w
  refine List.forall_mem_cons.2 ⟨?_, ?_⟩
  · exact fun w => piece9v (x5 := x5) h1 h5 h7 xs0 (x0 := x0) (x3 := x3) (x4 := x4) (x6 := x6) (o := 2304) (ou := 5120) (by decide) rfl _ _ _ (by decide) w
  refine List.forall_mem_cons.2 ⟨?_, ?_⟩
  · exact fun w => piece9u (x5 := x5) h1 h4 h5 h6 h7 xs0 (x0 := x0) (x3 := x3) (x4 := x4) (x6 := x6) (o := 2048) (ou := 4864) (by decide) rfl _ _ _ _ _ _ _ _ _ (fun r c => readAt_whole h14 xs0 _ _ _ (by idx_ext)) _ _ _ (by decide) w
  refine List.forall_mem_cons.2 ⟨?_, ?_⟩
  · exact fun w => piece9v (x5 := x5) h1 h5 h7 xs0 (x0 := x0) (x3 := x3) (x4 := x4) (x6 := x6) (o := 2048) (ou := 4864) (by decide) rfl _ _ _ (by decide) w
  refine List.forall_mem_cons.2 ⟨?_, ?_⟩
  · exact fun w => piece9u (x5 := x5) h1 h4 h5 h6 h7 xs0 (x0 := x0) (x3 := x3) (x4 := x4) (x6 := x6) (o := 1792) (ou := 4608) (by decide) rfl _ _ _ _ _ _ _ _ _ (fun r c => readAt_whole h14 xs0 _ _ _ (by idx_ext)) _ _ _ (by decide) w
  refine List.forall_mem_cons.2 ⟨?_, ?_⟩
  · exact fun w => piece9v (x5 := x5) h1 h5 h7 xs0 (x0 := x0) (x3 := x3) (x4 := x4) (x6 := x6) (o := 1792) (ou := 4608) (by decide) rfl _ _ _ (by decide) w
  refine List.forall_mem_cons.2 ⟨?_, ?_⟩
  · exact fun w => piece9u (x5 := x5) h1 h4 h5 h6 h7 xs0 (x0 := x0) (x3 := x3) (x4 := x4) (x6 := x6) (o := 1536) (ou := 4352) (by decide) rfl _ _ _ _ _ _ _ _ _ (fun r c => readAt_whole h14 xs0 _ _ _ (by idx_ext)) _ _ _ (by decide) w
  refine List.forall_mem_cons.2 ⟨?_, ?_⟩
  · exact fun w => piece9v (x5 := x5) h1 h5 h7 xs0 (x0 := x0) (x3 := x3) (x4 := x4) (x6 := x6) (o := 1536) (ou := 4352) (by decide) rfl _ _ _ (by decide) w
  refine List.forall_mem_cons.2 ⟨?_, ?_⟩
  · exact fun w => piece9u (x5 := x5) h1 h4 h5 h6 h7 xs0 (x0 := x0) (x3 := x3) (x4 := x4) (x6 := x6) (o := 1280) (ou := 4096) (by decide) rfl _ _ _ _ _ _ _ _ _ (fun r c => readAt_whole h14 xs0 _ _ _ (by idx_ext)) _ _ _ (by decide) w
  refine List.forall_mem_cons.2 ⟨?_, ?_⟩
  · exact fun w => piece9v (x5 := x5) h1 h5 h7 xs0 (x0 := x0) (x3 := x3) (x4 := x4) (x6 := x6) (o := 1280) (ou := 4096) (by decide) rfl _ _ _ (by decide) w
  refine List.forall_mem_cons.2 ⟨?_, ?_⟩
  · exact fun w => piece9u (x5 := x5) h1 h4 h5 h6 h7 xs0 (x0 := x0) (x3 := x3) (x4 := x4) (x6 := x6) (o := 1024) (ou := 3840) (by decide) rfl _ _ _ _ _ _ _ _ _ (fun r c => readAt_whole h14 xs0 _ _ _ (by idx_ext)) _ _ _ (by decide) w
  refine List.forall_mem_cons.2 ⟨?_, ?_⟩
  · exact fun w => piece9v (x5 := x5) h1 h5 h7 xs0 (x0 := x0) (x3 := x3) (x4 := x4) (x6 := x6) (o := 1024) (ou := 3840) (by decide) rfl _ _ _ (by decide) w
  refine List.forall_mem_cons.2 ⟨?_, ?_⟩
  · exact fun w => piece9u (x5 := x5) h1 h4 h5 h6 h7 xs0 (x0 := x0) (x3 := x3) (x4 := x4) (x6 := x6) (o := 768) (ou := 3584) (by decide) rfl _ _ _ _ _ _ _ _ _ (fun r c => readAt_whole h14 xs0 _ _ _ (by idx_ext)) _ _ _ (by decide) w
  refine List.forall_mem_cons.2 ⟨?_, ?_⟩
  · exact fun w => piece9v (x5 := x5) h1 h5 h7 xs0 (x0 := x0) (x3 := x3) (x4 := x4) (x6 := x6) (o := 768) (ou := 3584) (by decide) rfl _ _ _ (by decide) w
  refine List.forall_mem_cons.2 ⟨?_, ?_⟩
  · exact fun w => piece9u (x5 := x5) h1 h4 h5 h6 h7 xs0 (x0 := x0) (x3 := x3) (x4 := x4) (x6 := x6) (o := 512) (ou := 3328) (by decide) rfl _ _ _ _ _ _ _ _ _ (fun r c => readAt_whole h14 xs0 _ _ _ (by idx_ext)) _ _ _ (by decide) w
  refine List.forall_mem_cons.2 ⟨?_, ?_⟩
  · exact fun w => piece9v (x5 := x5) h1 h5 h7 xs0 (x0 := x0) (x3 := x3) (x4 := x4) (x6 := x6) (o := 512) (ou := 3328) (by decide) rfl _ _ _ (by decide) w
  refine List.forall_mem_cons.2 ⟨?_, ?_⟩
  · exact fun w => piece9u (x5 := x5) h1 h4 h5 h6 h7 xs0 (x0 := x0) (x3 := x3) (x4 := x4) (x6 := x6) (o := 256) (ou := 3072) (by decide) rfl _ _ _ _ _ _ _ _ _ (fun r c => readAt_whole h14 xs0 _ _ _ (by idx_ext)) _ _ _ (by decide) w
  refine List.forall_mem_cons.2 ⟨?_, ?_⟩
  · exact fun w => piece9v (x5 := x5) h1 h5 h7 xs0 (x0 := x0) (x3 := x3) (x4 := x4) (x6 := x6) (o := 256) (ou := 3072) (by decide) rfl _ _ _ (by decide) w
  refine List.forall_mem_cons.2 ⟨?_, ?_⟩
  · exact fun w => piece9u (x5 := x5) h1 h4 h5 h6 h7 xs0 (x0 := x0) (x3 := x3) (x4 := x4) (x6 := x6) (o := 0) (ou := 2816) (by decide) rfl _ _ _ _ _ _ _ _ _ (fun r c => readAt_whole h14 xs0 _ _ _ (by idx_ext)) _ _ _ (by decide) w
  refine List.forall_mem_cons.2 ⟨?_, ?_⟩
  · exact fun w => piece9v (x5 := x5) h1 h5 h7 xs0 (x0 := x0) (x3 := x3) (x4 := x4) (x6 := x6) (o := 0) (ou := 2816) (by decide) rfl _ _ _ (by decide) w
  exact List.forall_mem_nil _

set_option maxHeartbeats 4000000 in
/-- The stored pieces of the taps' partial sums. -/
theorem pB11 : ∀ p ∈ (kernelRun0_B c i a1 h1 a2 h2 a3 h3 a4 h4 a5 h5 a6 h6 a7 h7 a8 h8 a9 h9 a10 h10 a11 h11 a12 h12 a13 h13 a14 h14 a15 h15 hc0 x0 x1 x2 x3 x4 x5 x6 x7 xo10 xo11 xo12 xs0).2.2.2.1, ∀ x : p.1.shape.Idx, p.2 x = G11 x0 x3 x4 x6 xs0 xo11 (p.1.emb x) := by
  refine List.forall_mem_cons.2 ⟨?_, ?_⟩
  · exact fun w => piece11_2 h1 h4 h5 h7 xs0 (x0 := x0) (x3 := x3) (x4 := x4) (x6 := x6) (o := 2560) (ou := 5376) (by decide) rfl _ _ _ _ _ _ xo11 (fun r c => readAt_whole h12 xo11 _ _ _ (by idx_ext)) (by decide) w
  refine List.forall_mem_cons.2 ⟨?_, ?_⟩
  · exact fun w => piece11_1 h1 h4 h5 h7 xs0 (x0 := x0) (x3 := x3) (x4 := x4) (x6 := x6) (o := 2560) (ou := 5376) (by decide) rfl _ _ _ _ _ _ _ _ _ _ (fun r c => readAt_whole h14 xs0 _ _ _ (by idx_ext)) _ xo11 (fun r c => readAt_whole h12 xo11 _ _ _ (by idx_ext)) (by decide) w
  refine List.forall_mem_cons.2 ⟨?_, ?_⟩
  · exact fun w => piece11_0 h1 h4 h5 h7 xs0 (x0 := x0) (x3 := x3) (x4 := x4) (x6 := x6) (o := 2560) (ou := 5376) (by decide) rfl _ _ _ _ _ _ _ _ _ _ (fun r c => readAt_whole h14 xs0 _ _ _ (by idx_ext)) _ xo11 (fun r c => readAt_whole h12 xo11 _ _ _ (by idx_ext)) (by decide) w
  refine List.forall_mem_cons.2 ⟨?_, ?_⟩
  · exact fun w => piece11_2 h1 h4 h5 h7 xs0 (x0 := x0) (x3 := x3) (x4 := x4) (x6 := x6) (o := 2304) (ou := 5120) (by decide) rfl _ _ _ _ _ (kernelRun0_B.sl.v913 (F := Ideal) c a12 h12 xo11) xo11 (fun r c => readAt_whole h12 xo11 _ _ _ (by idx_ext)) (by decide) w
  refine List.forall_mem_cons.2 ⟨?_, ?_⟩
  · exact fun w => piece11_1 h1 h4 h5 h7 xs0 (x0 := x0) (x3 := x3) (x4 := x4) (x6 := x6) (o := 2304) (ou := 5120) (by decide) rfl _ _ _ _ _ _ _ _ _ _ (fun r c => readAt_whole h14 xs0 _ _ _ (by idx_ext)) _ xo11 (fun r c => readAt_whole h12 xo11 _ _ _ (by idx_ext)) (by decide) w
  refine List.forall_mem_cons.2 ⟨?_, ?_⟩
  · exact fun w => piece11_0 h1 h4 h5 h7 xs0 (x0 := x0) (x3 := x3) (x4 := x4) (x6 := x6) (o := 2304) (ou := 5120) (by decide) rfl _ _ _ _ _ _ _ _ _ _ (fun r c => readAt_whole h14 xs0 _ _ _ (by idx_ext)) _ xo11 (fun r c => readAt_whole h12 xo11 _ _ _ (by idx_ext)) (by decide) w
  refine List.forall_mem_cons.2 ⟨?_, ?_⟩
  · exact fun w => piece11_2 h1 h4 h5 h7 xs0 (x0 := x0) (x3 := x3) (x4 := x4) (x6 := x6) (o := 2048) (ou := 4864) (by decide) rfl _ _ _ _ _ _ xo11 (fun r c => readAt_whole h12 xo11 _ _ _ (by idx_ext)) (by decide) w
  refine List.forall_mem_cons.2 ⟨?_, ?_⟩
  · exact fun w => piece11_1 h1 h4 h5 h7 xs0 (x0 := x0) (x3 := x3) (x4 := x4) (x6 := x6) (o := 2048) (ou := 4864) (by decide) rfl _ _ _ _ _ _ _ _ _ _ (fun r c => readAt_whole h14 xs0 _ _ _ (by idx_ext)) (kernelRun0_B.sl.v811 (F := Ideal) c a12 h12 xo11) xo11 (fun r c => readAt_whole h12 xo11 _ _ _ (by idx_ext)) (by decide) w
  refine List.forall_mem_cons.2 ⟨?_, ?_⟩
  · exact fun w => piece11_0 h1 h4 h5 h7 xs0 (x0 := x0) (x3 := x3) (x4 := x4) (x6 := x6) (o := 2048) (ou := 4864) (by decide) rfl _ _ _ _ _ _ _ _ _ _ (fun r c => readAt_whole h14 xs0 _ _ _ (by idx_ext)) _ xo11 (fun r c => readAt_whole h12 xo11 _ _ _ (by idx_ext)) (by decide) w
  refine List.forall_mem_cons.2 ⟨?_, ?_⟩
  · exact fun w => piece11_2 h1 h4 h5 h7 xs0 (x0 := x0) (x3 := x3) (x4 := x4) (x6 := x6) (o := 1792) (ou := 4608) (by decide) rfl _ _ _ _ _ _ xo11 (fun r c => readAt_whole h12 xo11 _ _ _ (by idx_ext)) (by decide) w
  refine List.forall_mem_cons.2 ⟨?_, ?_⟩
  · exact fun w => piece11_1 h1 h4 h5 h7 xs0 (x0 := x0) (x3 := x3) (x4 := x4) (x6 := x6) (o := 1792) (ou := 4608) (by decide) rfl _ _ _ _ _ _ _ _ _ _ (fun r c => readAt_whole h14 xs0 _ _ _ (by idx_ext)) _ xo11 (fun r c => readAt_whole h12 xo11 _ _ _ (by idx_ext)) (by decide) w
  refine List.forall_mem_cons.2 ⟨?_, ?_⟩
  · exact fun w => piece11_0 h1 h4 h5 h7 xs0 (x0 := x0) (x3 := x3) (x4 := x4) (x6 := x6) (o := 1792) (ou := 4608) (by decide) rfl _ _ _ _ _ _ _ _ _ _ (fun r c => readAt_whole h14 xs0 _ _ _ (by idx_ext)) _ xo11 (fun r c => readAt_whole h12 xo11 _ _ _ (by idx_ext)) (by decide) w
  refine List.forall_mem_cons.2 ⟨?_, ?_⟩
  · exact fun w => piece11_2 h1 h4 h5 h7 xs0 (x0 := x0) (x3 := x3) (x4 := x4) (x6 := x6) (o := 1536) (ou := 4352) (by decide) rfl _ _ _ _ _ _ xo11 (fun r c => readAt_whole h12 xo11 _ _ _ (by idx_ext)) (by decide) w
  refine List.forall_mem_cons.2 ⟨?_, ?_⟩
  · exact fun w => piece11_1 h1 h4 h5 h7 xs0 (x0 := x0) (x3 := x3) (x4 := x4) (x6 := x6) (o := 1536) (ou := 4352) (by decide) rfl _ _ _ _ _ _ _ _ _ _ (fun r c => readAt_whole h14 xs0 _ _ _ (by idx_ext)) _ xo11 (fun r c => readAt_whole h12 xo11 _ _ _ (by idx_ext)) (by decide) w
  refine List.forall_mem_cons.2 ⟨?_, ?_⟩
  · exact fun w => piece11_0 h1 h4 h5 h7 xs0 (x0 := x0) (x3 := x3) (x4 := x4) (x6 := x6) (o := 1536) (ou := 4352) (by decide) rfl _ _ _ _ _ _ _ _ _ _ (fun r c => readAt_whole h14 xs0 _ _ _ (by idx_ext)) _ xo11 (fun r c => readAt_whole h12 xo11 _ _ _ (by idx_ext)) (by decide) w
  refine List.forall_mem_cons.2 ⟨?_, ?_⟩
  · exact fun w => piece11_2 h1 h4 h5 h7 xs0 (x0 := x0) (x3 := x3) (x4 := x4) (x6 := x6) (o := 1280) (ou := 4096) (by decide) rfl _ _ _ _ _ _ xo11 (fun r c => readAt_whole h12 xo11 _ _ _ (by idx_ext)) (by decide) w
  refine List.forall_mem_cons.2 ⟨?_, ?_⟩
  · exact fun w => piece11_1 h1 h4 h5 h7 xs0 (x0 := x0) (x3 := x3) (x4 := x4) (x6 := x6) (o := 1280) (ou := 4096) (by decide) rfl _ _ _ _ _ _ _ _ _ _ (fun r c => readAt_whole h14 xs0 _ _ _ (by idx_ext)) _ xo11 (fun r c => readAt_whole h12 xo11 _ _ _ (by idx_ext)) (by decide) w
  refine List.forall_mem_cons.2 ⟨?_, ?_⟩
  · exact fun w => piece11_0 h1 h4 h5 h7 xs0 (x0 := x0) (x3 := x3) (x4 := x4) (x6 := x6) (o := 1280) (ou := 4096) (by decide) rfl _ _ _ _ _ _ _ _ _ _ (fun r c => readAt_whole h14 xs0 _ _ _ (by idx_ext)) _ xo11 (fun r c => readAt_whole h12 xo11 _ _ _ (by idx_ext)) (by decide) w
  refine List.forall_mem_cons.2 ⟨?_, ?_⟩
  · exact fun w => piece11_2 h1 h4 h5 h7 xs0 (x0 := x0) (x3 := x3) (x4 := x4) (x6 := x6) (o := 1024) (ou := 3840) (by decide) rfl _ _ _ _ _ _ xo11 (fun r c => readAt_whole h12 xo11 _ _ _ (by idx_ext)) (by decide) w
  refine List.forall_mem_cons.2 ⟨?_, ?_⟩
  · exact fun w => piece11_1 h1 h4 h5 h7 xs0 (x0 := x0) (x3 := x3) (x4 := x4) (x6 := x6) (o := 1024) (ou := 3840) (by decide) rfl _ _ _ _ _ _ _ _ _ _ (fun r c => readAt_whole h14 xs0 _ _ _ (by idx_ext)) (kernelRun0_B.sl.v439 (F := Ideal) c a12 h12 xo11) xo11 (fun r c => readAt_whole h12 xo11 _ _ _ (by idx_ext)) (by decide) w
  refine List.forall_mem_cons.2 ⟨?_, ?_⟩
  · exact fun w => piece11_0 h1 h4 h5 h7 xs0 (x0 := x0) (x3 := x3) (x4 := x4) (x6 := x6) (o := 1024) (ou := 3840) (by decide) rfl _ _ _ _ _ _ _ _ _ _ (fun r c => readAt_whole h14 xs0 _ _ _ (by idx_ext)) _ xo11 (fun r c => readAt_whole h12 xo11 _ _ _ (by idx_ext)) (by decide) w
  refine List.forall_mem_cons.2 ⟨?_, ?_⟩
  · exact fun w => piece11_2 h1 h4 h5 h7 xs0 (x0 := x0) (x3 := x3) (x4 := x4) (x6 := x6) (o := 768) (ou := 3584) (by decide) rfl _ _ _ _ _ _ xo11 (fun r c => readAt_whole h12 xo11 _ _ _ (by idx_ext)) (by decide) w
  refine List.forall_mem_cons.2 ⟨?_, ?_⟩
  · exact fun w => piece11_1 h1 h4 h5 h7 xs0 (x0 := x0) (x3 := x3) (x4 := x4) (x6 := x6) (o := 768) (ou := 3584) (by decide) rfl _ _ _ _ _ _ _ _ _ _ (fun r c => readAt_whole h14 xs0 _ _ _ (by idx_ext)) _ xo11 (fun r c => readAt_whole h12 xo11 _ _ _ (by idx_ext)) (by decide) w
  refine List.forall_mem_cons.2 ⟨?_, ?_⟩
  · exact fun w => piece11_0 h1 h4 h5 h7 xs0 (x0 := x0) (x3 := x3) (x4 := x4) (x6 := x6) (o := 768) (ou := 3584) (by decide) rfl _ _ _ _ _ _ _ _ _ _ (fun r c => readAt_whole h14 xs0 _ _ _ (by idx_ext)) (kernelRun0_B.sl.v337 (F := Ideal) c a12 h12 xo11) xo11 (fun r c => readAt_whole h12 xo11 _ _ _ (by idx_ext)) (by decide) w
  refine List.forall_mem_cons.2 ⟨?_, ?_⟩
  · exact fun w => piece11_2 h1 h4 h5 h7 xs0 (x0 := x0) (x3 := x3) (x4 := x4) (x6 := x6) (o := 512) (ou := 3328) (by decide) rfl _ _ _ _ _ _ xo11 (fun r c => readAt_whole h12 xo11 _ _ _ (by idx_ext)) (by decide) w
  refine List.forall_mem_cons.2 ⟨?_, ?_⟩
  · exact fun w => piece11_1 h1 h4 h5 h7 xs0 (x0 := x0) (x3 := x3) (x4 := x4) (x6 := x6) (o := 512) (ou := 3328) (by decide) rfl _ _ _ _ _ _ _ _ _ _ (fun r c => readAt_whole h14 xs0 _ _ _ (by idx_ext)) _ xo11 (fun r c => readAt_whole h12 xo11 _ _ _ (by idx_ext)) (by decide) w
  refine List.forall_mem_cons.2 ⟨?_, ?_⟩
  · exact fun w => piece11_0 h1 h4 h5 h7 xs0 (x0 := x0) (x3 := x3) (x4 := x4) (x6 := x6) (o := 512) (ou := 3328) (by decide) rfl _ _ _ _ _ _ _ _ _ _ (fun r c => readAt_whole h14 xs0 _ _ _ (by idx_ext)) _ xo11 (fun r c => readAt_whole h12 xo11 _ _ _ (by idx_ext)) (by decide) w
  refine List.forall_mem_cons.2 ⟨?_, ?_⟩
  · exact fun w => piece11_2 h1 h4 h5 h7 xs0 (x0 := x0) (x3 := x3) (x4 := x4) (x6 := x6) (o := 256) (ou := 3072) (by decide) rfl _ _ _ _ _ _ xo11 (fun r c => readAt_whole h12 xo11 _ _ _ (by idx_ext)) (by decide) w
  refine List.forall_mem_cons.2 ⟨?_, ?_⟩
  · exact fun w => piece11_1 h1 h4 h5 h7 xs0 (x0 := x0) (x3 := x3) (x4 := x4) (x6 := x6) (o := 256) (ou := 3072) (by decide) rfl _ _ _ _ _ _ _ _ _ _ (fun r c => readAt_whole h14 xs0 _ _ _ (by idx_ext)) _ xo11 (fun r c => readAt_whole h12 xo11 _ _ _ (by idx_ext)) (by decide) w
  refine List.forall_mem_cons.2 ⟨?_, ?_⟩
  · exact fun w => piece11_0 h1 h4 h5 h7 xs0 (x0 := x0) (x3 := x3) (x4 := x4) (x6 := x6) (o := 256) (ou := 3072) (by decide) rfl _ _ _ _ _ _ _ _ _ _ (fun r c => readAt_whole h14 xs0 _ _ _ (by idx_ext)) _ xo11 (fun r c => readAt_whole h12 xo11 _ _ _ (by idx_ext)) (by decide) w
  refine List.forall_mem_cons.2 ⟨?_, ?_⟩
  · exact fun w => piece11_2 h1 h4 h5 h7 xs0 (x0 := x0) (x3 := x3) (x4 := x4) (x6 := x6) (o := 0) (ou := 2816) (by decide) rfl _ _ _ _ _ _ xo11 (fun r c => readAt_whole h12 xo11 _ _ _ (by idx_ext)) (by decide) w
  refine List.forall_mem_cons.2 ⟨?_, ?_⟩
  · exact fun w => piece11_1 h1 h4 h5 h7 xs0 (x0 := x0) (x3 := x3) (x4 := x4) (x6 := x6) (o := 0) (ou := 2816) (by decide) rfl _ _ _ _ _ _ _ _ _ _ (fun r c => readAt_whole h14 xs0 _ _ _ (by idx_ext)) _ xo11 (fun r c => readAt_whole h12 xo11 _ _ _ (by idx_ext)) (by decide) w
  refine List.forall_mem_cons.2 ⟨?_, ?_⟩
  · exact fun w => piece11_0 h1 h4 h5 h7 xs0 (x0 := x0) (x3 := x3) (x4 := x4) (x6 := x6) (o := 0) (ou := 2816) (by decide) rfl _ _ _ _ _ _ _ _ _ _ (fun r c => readAt_whole h14 xs0 _ _ _ (by idx_ext)) _ xo11 (fun r c => readAt_whole h12 xo11 _ _ _ (by idx_ext)) (by decide) w
  exact List.forall_mem_nil _

set_option maxHeartbeats 4000000 in
/-- The stored pieces of the bias' partial sums. -/
theorem pB12 : ∀ p ∈ (kernelRun0_B c i a1 h1 a2 h2 a3 h3 a4 h4 a5 h5 a6 h6 a7 h7 a8 h8 a9 h9 a10 h10 a11 h11 a12 h12 a13 h13 a14 h14 a15 h15 hc0 x0 x1 x2 x3 x4 x5 x6 x7 xo10 xo11 xo12 xs0).2.2.2.2.1, ∀ x : p.1.shape.Idx, p.2 x = G12 x0 x3 x4 x6 xo12 (p.1.emb x) := by
  refine List.forall_mem_cons.2 ⟨?_, ?_⟩
  · exact fun w => piece12 h1 h4 h5 h7 (x0 := x0) (x3 := x3) (x4 := x4) (x6 := x6) (o := 2560) (ou := 5376) (by decide) rfl _ _ _ _ _ xo12 (fun r c => readAt_whole h13 xo12 _ _ _ (by idx_ext)) (by decide) w
  refine List.forall_mem_cons.2 ⟨?_, ?_⟩
  · exact fun w => piece12 h1 h4 h5 h7 (x0 := x0) (x3 := x3) (x4 := x4) (x6 := x6) (o := 2304) (ou := 5120) (by decide) rfl _ _ _ _ _ xo12 (fun r c => readAt_whole h13 xo12 _ _ _ (by idx_ext)) (by decide) w
  refine List.forall_mem_cons.2 ⟨?_, ?_⟩
  · exact fun w => piece12 h1 h4 h5 h7 (x0 := x0) (x3 := x3) (x4 := x4) (x6 := x6) (o := 2048) (ou := 4864) (by decide) rfl _ _ _ _ _ xo12 (fun r c => readAt_whole h13 xo12 _ _ _ (by idx_ext)) (by decide) w
  refine List.forall_mem_cons.2 ⟨?_, ?_⟩
  · exact fun w => piece12 h1 h4 h5 h7 (x0 := x0) (x3 := x3) (x4 := x4) (x6 := x6) (o := 1792) (ou := 4608) (by decide) rfl _ _ _ _ _ xo12 (fun r c => readAt_whole h13 xo12 _ _ _ (by idx_ext)) (by decide) w
  refine List.forall_mem_cons.2 ⟨?_, ?_⟩
  · exact fun w => piece12 h1 h4 h5 h7 (x0 := x0) (x3 := x3) (x4 := x4) (x6 := x6) (o := 1536) (ou := 4352) (by decide) rfl _ _ _ _ (kernelRun0_B.sl.v610 (F := Ideal) c a13 h13 xo12) xo12 (fun r c => readAt_whole h13 xo12 _ _ _ (by idx_ext)) (by decide) w
  refine List.forall_mem_cons.2 ⟨?_, ?_⟩
  · exact fun w => piece12 h1 h4 h5 h7 (x0 := x0) (x3 := x3) (x4 := x4) (x6 := x6) (o := 1280) (ou := 4096) (by decide) rfl _ _ _ _ _ xo12 (fun r c => readAt_whole h13 xo12 _ _ _ (by idx_ext)) (by decide) w
  refine List.forall_mem_cons.2 ⟨?_, ?_⟩
  · exact fun w => piece12 h1 h4 h5 h7 (x0 := x0) (x3 := x3) (x4 := x4) (x6 := x6) (o := 1024) (ou := 3840) (by decide) rfl _ _ _ _ _ xo12 (fun r c => readAt_whole h13 xo12 _ _ _ (by idx_ext)) (by decide) w
  refine List.forall_mem_cons.2 ⟨?_, ?_⟩
  · exact fun w => piece12 h1 h4 h5 h7 (x0 := x0) (x3 := x3) (x4 := x4) (x6 := x6) (o := 768) (ou := 3584) (by decide) rfl _ _ _ _ _ xo12 (fun r c => readAt_whole h13 xo12 _ _ _ (by idx_ext)) (by decide) w
  refine List.forall_mem_cons.2 ⟨?_, ?_⟩
  · exact fun w => piece12 h1 h4 h5 h7 (x0 := x0) (x3 := x3) (x4 := x4) (x6 := x6) (o := 512) (ou := 3328) (by decide) rfl _ _ _ _ _ xo12 (fun r c => readAt_whole h13 xo12 _ _ _ (by idx_ext)) (by decide) w
  refine List.forall_mem_cons.2 ⟨?_, ?_⟩
  · exact fun w => piece12 h1 h4 h5 h7 (x0 := x0) (x3 := x3) (x4 := x4) (x6 := x6) (o := 256) (ou := 3072) (by decide) rfl _ _ _ _ _ xo12 (fun r c => readAt_whole h13 xo12 _ _ _ (by idx_ext)) (by decide) w
  refine List.forall_mem_cons.2 ⟨?_, ?_⟩
  · exact fun w => piece12 h1 h4 h5 h7 (x0 := x0) (x3 := x3) (x4 := x4) (x6 := x6) (o := 0) (ou := 2816) (by decide) rfl _ _ _ _ _ xo12 (fun r c => readAt_whole h13 xo12 _ _ _ (by idx_ext)) (by decide) w
  exact List.forall_mem_nil _

set_option maxHeartbeats 4000000 in
/-- The stored pieces of the carried rows. -/
theorem pBS : ∀ p ∈ (kernelRun0_B c i a1 h1 a2 h2 a3 h3 a4 h4 a5 h5 a6 h6 a7 h7 a8 h8 a9 h9 a10 h10 a11 h11 a12 h12 a13 h13 a14 h14 a15 h15 hc0 x0 x1 x2 x3 x4 x5 x6 x7 xo10 xo11 xo12 xs0).2.2.2.2.2.1, ∀ x : p.1.shape.Idx, p.2 x = GS x0 x3 x4 x6 (p.1.emb x) := by
  refine List.forall_mem_cons.2 ⟨?_, ?_⟩
  · exact fun w => pieceS h1 h4 h5 h7 (x0 := x0) (x3 := x3) (x4 := x4) (x6 := x6) (o := 2560) (ou := 5376) (by decide) rfl _ _ _ _ (by decide) w
  refine List.forall_mem_cons.2 ⟨?_, ?_⟩
  · exact fun w => pieceS h1 h4 h5 h7 (x0 := x0) (x3 := x3) (x4 := x4) (x6 := x6) (o := 2304) (ou := 5120) (by decide) rfl _ _ _ _ (by decide) w
  refine List.forall_mem_cons.2 ⟨?_, ?_⟩
  · exact fun w => pieceS h1 h4 h5 h7 (x0 := x0) (x3 := x3) (x4 := x4) (x6 := x6) (o := 2048) (ou := 4864) (by decide) rfl _ _ _ _ (by decide) w
  refine List.forall_mem_cons.2 ⟨?_, ?_⟩
  · exact fun w => pieceS h1 h4 h5 h7 (x0 := x0) (x3 := x3) (x4 := x4) (x6 := x6) (o := 1792) (ou := 4608) (by decide) rfl _ _ _ _ (by decide) w
  refine List.forall_mem_cons.2 ⟨?_, ?_⟩
  · exact fun w => pieceS h1 h4 h5 h7 (x0 := x0) (x3 := x3) (x4 := x4) (x6 := x6) (o := 1536) (ou := 4352) (by decide) rfl _ _ _ _ (by decide) w
  refine List.forall_mem_cons.2 ⟨?_, ?_⟩
  · exact fun w => pieceS h1 h4 h5 h7 (x0 := x0) (x3 := x3) (x4 := x4) (x6 := x6) (o := 1280) (ou := 4096) (by decide) rfl _ _ _ _ (by decide) w
  refine List.forall_mem_cons.2 ⟨?_, ?_⟩
  · exact fun w => pieceS h1 h4 h5 h7 (x0 := x0) (x3 := x3) (x4 := x4) (x6 := x6) (o := 1024) (ou := 3840) (by decide) rfl _ _ _ _ (by decide) w
  refine List.forall_mem_cons.2 ⟨?_, ?_⟩
  · exact fun w => pieceS h1 h4 h5 h7 (x0 := x0) (x3 := x3) (x4 := x4) (x6 := x6) (o := 768) (ou := 3584) (by decide) rfl _ _ _ _ (by decide) w
  refine List.forall_mem_cons.2 ⟨?_, ?_⟩
  · exact fun w => pieceS h1 h4 h5 h7 (x0 := x0) (x3 := x3) (x4 := x4) (x6 := x6) (o := 512) (ou := 3328) (by decide) rfl _ _ _ _ (by decide) w
  refine List.forall_mem_cons.2 ⟨?_, ?_⟩
  · exact fun w => pieceS h1 h4 h5 h7 (x0 := x0) (x3 := x3) (x4 := x4) (x6 := x6) (o := 256) (ou := 3072) (by decide) rfl _ _ _ _ (by decide) w
  refine List.forall_mem_cons.2 ⟨?_, ?_⟩
  · exact fun w => pieceS h1 h4 h5 h7 (x0 := x0) (x3 := x3) (x4 := x4) (x6 := x6) (o := 0) (ou := 2816) (by decide) rfl _ _ _ _ (by decide) w
  exact List.forall_mem_nil _

set_option maxHeartbeats 400000 in
include c i a1 h1 a2 h2 a3 h3 a4 h4 a5 h5 a6 h6 a7 h7 a8 h8 a9 h9 a10 h10 a11 h11 a12 h12 a13 h13 a14 h14 a15 h15 hc0 x0 x1 x2 x3 x4 x5 x6 x7 xo10 xo11 xo12 xs0 in
/-- The read-back block of the up projection's gradient. -/
theorem vB9 (r f) : kernelRun0_B.sl.v1028 (F := Ideal) c a1 h1 a4 h4 a5 h5 a6 h6 a7 h7 a10 a14 h14 a15 x0 x3 x4 x5 x6 xs0 (ix2 r f) = DU x0 x3 x4 x5 x6 xs0 r f := by
  have hH : kernelRun0_B.sl.H9_22 (F := Ideal) c a1 h1 a4 h4 a5 h5 a6 h6 a7 h7 a14 h14 a15 x0 x3 x4 x5 x6 xs0 = (kernelRun0_B c i a1 h1 a2 h2 a3 h3 a4 h4 a5 h5 a6 h6 a7 h7 a8 h8 a9 h9 a10 h10 a11 h11 a12 h12 a13 h13 a14 h14 a15 h15 hc0 x0 x1 x2 x3 x4 x5 x6 x7 xo10 xo11 xo12 xs0).2.1 := by rfl
  unfold kernelRun0_B.sl.v1028
  rw [hH]
  exact readCov_pieces a10.view _ (G9 x0 x3 x4 x5 x6 xs0) (pB9 c i a1 h1 a2 h2 a3 h3 a4 h4 a5 h5 a6 h6 a7 h7 a8 h8 a9 h9 a10 h10 a11 h11 a12 h12 a13 h13 a14 h14 a15 h15 hc0 x0 x1 x2 x3 x4 x5 x6 x7 xo10 xo11 xo12 xs0) (cover0_B_9 c i a1 h1 a2 h2 a3 h3 a4 h4 a5 h5 a6 h6 a7 h7 a8 h8 a9 h9 a10 h10 a11 h11 a12 h12 a13 h13 a14 h14 a15 h15 hc0 x0 x1 x2 x3 x4 x5 x6 x7 xo10 xo11 xo12 xs0) (Rect.unit (s := S256x5632) ![0, 0] S256x5632.size inb_S256x5632_S256x5632_0_0).toLoadRect (ix2 r f) (ix2 r f) (by idx_ext)

/-- The block of the input's gradient. -/
theorem oB8 : out0_B_8 c i a1 h1 a2 h2 a3 h3 a4 h4 a5 h5 a6 h6 a7 h7 a8 h8 a9 h9 a10 h10 a11 h11 a12 h12 a13 h13 a14 h14 a15 h15 hc0 x0 x1 x2 x3 x4 x5 x6 x7 xo10 xo11 xo12 xs0 = G8 x0 x1 x2 x7 (DU x0 x3 x4 x5 x6 xs0) := by
  funext y
  unfold out0_B_8
  refine View.read_writes_apply_of_pieces _ _ (G8 x0 x1 x2 x7 (DU x0 x3 x4 x5 x6 xs0)) _ ?_ y (cover0_B_8 c i a1 h1 a2 h2 a3 h3 a4 h4 a5 h5 a6 h6 a7 h7 a8 h8 a9 h9 a10 h10 a11 h11 a12 h12 a13 h13 a14 h14 a15 h15 hc0 x0 x1 x2 x3 x4 x5 x6 x7 xo10 xo11 xo12 xs0 y)
  refine List.forall_mem_cons.2 ⟨?_, List.forall_mem_nil _⟩
  exact fun w => piece8 h1 h2 h3 h8 (vB9 c i a1 h1 a2 h2 a3 h3 a4 h4 a5 h5 a6 h6 a7 h7 a8 h8 a9 h9 a10 h10 a11 h11 a12 h12 a13 h13 a14 h14 a15 h15 hc0 x0 x1 x2 x3 x4 x5 x6 x7 xo10 xo11 xo12 xs0) _ _ _ _ (by decide) w

/-- The block of the up projection's gradient. -/
theorem oB9 : out0_B_9 c i a1 h1 a2 h2 a3 h3 a4 h4 a5 h5 a6 h6 a7 h7 a8 h8 a9 h9 a10 h10 a11 h11 a12 h12 a13 h13 a14 h14 a15 h15 hc0 x0 x1 x2 x3 x4 x5 x6 x7 xo10 xo11 xo12 xs0 = G9 x0 x3 x4 x5 x6 xs0 := by
  funext y
  unfold out0_B_9
  exact View.read_writes_apply_of_pieces _ _ _ _ (pB9 c i a1 h1 a2 h2 a3 h3 a4 h4 a5 h5 a6 h6 a7 h7 a8 h8 a9 h9 a10 h10 a11 h11 a12 h12 a13 h13 a14 h14 a15 h15 hc0 x0 x1 x2 x3 x4 x5 x6 x7 xo10 xo11 xo12 xs0) y (cover0_B_9 c i a1 h1 a2 h2 a3 h3 a4 h4 a5 h5 a6 h6 a7 h7 a8 h8 a9 h9 a10 h10 a11 h11 a12 h12 a13 h13 a14 h14 a15 h15 hc0 x0 x1 x2 x3 x4 x5 x6 x7 xo10 xo11 xo12 xs0 y)

/-- The partial sums of the scale's gradient. -/
theorem oB10 : out0_B_10 c i a1 h1 a2 h2 a3 h3 a4 h4 a5 h5 a6 h6 a7 h7 a8 h8 a9 h9 a10 h10 a11 h11 a12 h12 a13 h13 a14 h14 a15 h15 hc0 x0 x1 x2 x3 x4 x5 x6 x7 xo10 xo11 xo12 xs0 = G10 x1 x7 (DU x0 x3 x4 x5 x6 xs0) xo10 := by
  funext y
  unfold out0_B_10
  refine View.read_writes_apply_of_pieces _ _ (G10 x1 x7 (DU x0 x3 x4 x5 x6 xs0) xo10) _ ?_ y (cover0_B_10 c i a1 h1 a2 h2 a3 h3 a4 h4 a5 h5 a6 h6 a7 h7 a8 h8 a9 h9 a10 h10 a11 h11 a12 h12 a13 h13 a14 h14 a15 h15 hc0 x0 x1 x2 x3 x4 x5 x6 x7 xo10 xo11 xo12 xs0 y)
  refine List.forall_mem_cons.2 ⟨?_, List.forall_mem_nil _⟩
  exact fun w => piece10 h2 h8 (vB9 c i a1 h1 a2 h2 a3 h3 a4 h4 a5 h5 a6 h6 a7 h7 a8 h8 a9 h9 a10 h10 a11 h11 a12 h12 a13 h13 a14 h14 a15 h15 hc0 x0 x1 x2 x3 x4 x5 x6 x7 xo10 xo11 xo12 xs0) _ _ _ xo10 (fun r c => readAt_whole h11 xo10 _ _ _ (by idx_ext)) (by decide) w

/-- The partial sums of the taps' gradients. -/
theorem oB11 : out0_B_11 c i a1 h1 a2 h2 a3 h3 a4 h4 a5 h5 a6 h6 a7 h7 a8 h8 a9 h9 a10 h10 a11 h11 a12 h12 a13 h13 a14 h14 a15 h15 hc0 x0 x1 x2 x3 x4 x5 x6 x7 xo10 xo11 xo12 xs0 = G11 x0 x3 x4 x6 xs0 xo11 := by
  funext y
  unfold out0_B_11
  exact View.read_writes_apply_of_pieces _ _ _ _ (pB11 c i a1 h1 a2 h2 a3 h3 a4 h4 a5 h5 a6 h6 a7 h7 a8 h8 a9 h9 a10 h10 a11 h11 a12 h12 a13 h13 a14 h14 a15 h15 hc0 x0 x1 x2 x3 x4 x5 x6 x7 xo10 xo11 xo12 xs0) y (cover0_B_11 c i a1 h1 a2 h2 a3 h3 a4 h4 a5 h5 a6 h6 a7 h7 a8 h8 a9 h9 a10 h10 a11 h11 a12 h12 a13 h13 a14 h14 a15 h15 hc0 x0 x1 x2 x3 x4 x5 x6 x7 xo10 xo11 xo12 xs0 y)

/-- The partial sums of the bias' gradient. -/
theorem oB12 : out0_B_12 c i a1 h1 a2 h2 a3 h3 a4 h4 a5 h5 a6 h6 a7 h7 a8 h8 a9 h9 a10 h10 a11 h11 a12 h12 a13 h13 a14 h14 a15 h15 hc0 x0 x1 x2 x3 x4 x5 x6 x7 xo10 xo11 xo12 xs0 = G12 x0 x3 x4 x6 xo12 := by
  funext y
  unfold out0_B_12
  exact View.read_writes_apply_of_pieces _ _ _ _ (pB12 c i a1 h1 a2 h2 a3 h3 a4 h4 a5 h5 a6 h6 a7 h7 a8 h8 a9 h9 a10 h10 a11 h11 a12 h12 a13 h13 a14 h14 a15 h15 hc0 x0 x1 x2 x3 x4 x5 x6 x7 xo10 xo11 xo12 xs0) y (cover0_B_12 c i a1 h1 a2 h2 a3 h3 a4 h4 a5 h5 a6 h6 a7 h7 a8 h8 a9 h9 a10 h10 a11 h11 a12 h12 a13 h13 a14 h14 a15 h15 hc0 x0 x1 x2 x3 x4 x5 x6 x7 xo10 xo11 xo12 xs0 y)

/-- The carried rows. -/
theorem sB : sout0_B_0 c i a1 h1 a2 h2 a3 h3 a4 h4 a5 h5 a6 h6 a7 h7 a8 h8 a9 h9 a10 h10 a11 h11 a12 h12 a13 h13 a14 h14 a15 h15 hc0 x0 x1 x2 x3 x4 x5 x6 x7 xo10 xo11 xo12 xs0 = GS x0 x3 x4 x6 := by
  funext y
  unfold sout0_B_0
  exact View.read_writes_apply_of_pieces _ _ _ _ (pBS c i a1 h1 a2 h2 a3 h3 a4 h4 a5 h5 a6 h6 a7 h7 a8 h8 a9 h9 a10 h10 a11 h11 a12 h12 a13 h13 a14 h14 a15 h15 hc0 x0 x1 x2 x3 x4 x5 x6 x7 xo10 xo11 xo12 xs0) y (scover0_B_0 c i a1 h1 a2 h2 a3 h3 a4 h4 a5 h5 a6 h6 a7 h7 a8 h8 a9 h9 a10 h10 a11 h11 a12 h12 a13 h13 a14 h14 a15 h15 hc0 x0 x1 x2 x3 x4 x5 x6 x7 xo10 xo11 xo12 xs0 y)

end FfnBwd
-- ==== Proof.Points.lean ====
module

public import proofs.«01_k».proof.Proof.Rows
public import proofs.«01_k».proof.Proof.CaseA
public import proofs.«01_k».proof.Proof.CaseB

/-! What the arrays hold after the grid. -/

@[expose] public section

set_option maxRecDepth 16384

noncomputable section

namespace FfnBwd

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- The output's gradient. -/
def aCT (s : Fin 16384) (d : Fin 1024) : EReal := (V m c main_arg6 : FVec Ideal S16384x1024 .f32) (ix2 s d)
/-- The input. -/
def aX (s : Fin 16384) (d : Fin 1024) : EReal := (V m c main_arg0 : FVec Ideal S16384x1024 .f32) (ix2 s d)
/-- The scale. -/
def aG (d : Fin 1024) : EReal := (V m c main_arg1 : FVec Ideal S1x1024 .f32) (ix2 0 d)
/-- The up projection. -/
def aUP (s : Fin 16384) (f : Fin 5632) : EReal := (V m c main_v42 : FVec Ideal S16384x5632 .bf16) (ix2 s f)
/-- The gate. -/
def aGT (s : Fin 16384) (f : Fin 2816) : EReal := (V m c main_v43 : FVec Ideal S16384x2816 .bf16) (ix2 s f)
/-- The taps. -/
def aWT (j : Fin 3) (f : Fin 2816) : EReal := (V m c main_arg3 : FVec Ideal S3x2816 .f32) (ix2 j f)
/-- The down weight. -/
def aWD (f : Fin 2816) (d : Fin 1024) : EReal := (V m c main_v44 : FVec Ideal S2816x1024 .bf16) (ix2 f d)
/-- The up weight. -/
def aWU (d : Fin 1024) (f : Fin 5632) : EReal := (V m c main_v45 : FVec Ideal S1024x5632 .bf16) (ix2 d f)

/-- The block index of an operand cut into row blocks runs backwards. -/
theorem idx_big : ∀ t : Fin cfg0.N, win0_0.index t = ![63 - t.val, 0] ∧ win0_1.index t = ![63 - t.val, 0] ∧ win0_3.index t = ![63 - t.val, 0]
    ∧ win0_4.index t = ![63 - t.val, 0] ∧ win0_8.index t = ![63 - t.val, 0] ∧ win0_9.index t = ![63 - t.val, 0] :=
  (by decide +kernel : ∀ t : Fin grid0.N, win0_0.index t = ![63 - t.val, 0] ∧ win0_1.index t = ![63 - t.val, 0] ∧ win0_3.index t = ![63 - t.val, 0]
    ∧ win0_4.index t = ![63 - t.val, 0] ∧ win0_8.index t = ![63 - t.val, 0] ∧ win0_9.index t = ![63 - t.val, 0])
/-- The block index of a whole operand is zero. -/
theorem idx_small : ∀ t : Fin cfg0.N, win0_2.index t = ![0, 0] ∧ win0_5.index t = ![0, 0] ∧ win0_6.index t = ![0, 0]
    ∧ win0_7.index t = ![0, 0] ∧ win0_10.index t = ![0, 0] ∧ win0_11.index t = ![0, 0, 0] ∧ win0_12.index t = ![0, 0] :=
  (by decide +kernel : ∀ t : Fin grid0.N, win0_2.index t = ![0, 0] ∧ win0_5.index t = ![0, 0] ∧ win0_6.index t = ![0, 0]
    ∧ win0_7.index t = ![0, 0] ∧ win0_10.index t = ![0, 0] ∧ win0_11.index t = ![0, 0, 0] ∧ win0_12.index t = ![0, 0])

/-- A point as a number below the count of points. -/
abbrev pt (t : Fin cfg0.N) : Fin 64 := ⟨t.val, lt_of_lt_of_eq t.isLt N_0⟩

variable (t : Fin cfg0.N)

/-- The point's block of the gradient is its rows. -/
theorem ib0 (r d) : (iblk m c 0 t : FVec Ideal S256x1024 .f32) (ix2 r d) = aCT m c (row (pt t) r) d := by
  unfold aCT row
  blk_ext [iblk, idx_big t]
/-- The point's block of the input is its rows. -/
theorem ib1 (r d) : (iblk m c 1 t : FVec Ideal S256x1024 .f32) (ix2 r d) = aX m c (row (pt t) r) d := by
  unfold aX row
  blk_ext [iblk, idx_big t]
/-- The point's block of the scale is the scale. -/
theorem ib2 (d) : (iblk m c 2 t : FVec Ideal S1x1024 .f32) (ix2 0 d) = aG m c d := by
  unfold aG
  blk_ext [iblk, idx_small t]
/-- The point's block of the up projection is its rows. -/
theorem ib3 (r d) : (iblk m c 3 t : FVec Ideal S256x5632 .bf16) (ix2 r d) = aUP m c (row (pt t) r) d := by
  unfold aUP row
  blk_ext [iblk, idx_big t]
/-- The point's block of the gate is its rows. -/
theorem ib4 (r d) : (iblk m c 4 t : FVec Ideal S256x2816 .bf16) (ix2 r d) = aGT m c (row (pt t) r) d := by
  unfold aGT row
  blk_ext [iblk, idx_big t]
/-- The point's block of the taps is the taps. -/
theorem ib5 (j f) : (iblk m c 5 t : FVec Ideal S3x2816 .f32) (ix2 j f) = aWT m c j f := by
  unfold aWT
  blk_ext [iblk, idx_small t]
/-- The point's block of the down weight is the weight. -/
theorem ib6 (f d) : (iblk m c 6 t : FVec Ideal S2816x1024 .bf16) (ix2 f d) = aWD m c f d := by
  unfold aWD
  blk_ext [iblk, idx_small t]
/-- The point's block of the up weight is the weight. -/
theorem ib7 (d f) : (iblk m c 7 t : FVec Ideal S1024x5632 .bf16) (ix2 d f) = aWU m c d f := by
  unfold aWU
  blk_ext [iblk, idx_small t]

/-- The gradient of the gate over the whole arrays. -/
abbrev kDG := gDG (aCT m c) (aUP m c) (aGT m c) (aWD m c)
/-- The shifted gradients of the gate over the whole arrays. -/
abbrev kSH := gSH (aCT m c) (aUP m c) (aGT m c) (aWD m c)
/-- The gradient of the up projection over the whole arrays. -/
abbrev kDU := gDU (aCT m c) (aUP m c) (aGT m c) (aWT m c) (aWD m c)
/-- The gradient of the normed input over the whole arrays. -/
abbrev kDH := gDH (aCT m c) (aUP m c) (aGT m c) (aWT m c) (aWD m c) (aWU m c)
/-- The gradient of the input over the whole arrays. -/
abbrev kDX := gDX (aCT m c) (aX m c) (aG m c) (aUP m c) (aGT m c) (aWT m c) (aWD m c) (aWU m c)

/-- The carried rows after a point are the first rows of its own block. -/
theorem carry (q : Fin 8) (f : Fin 2816) : ((outsAt0 m c t.val t.isLt).2.2.2.2.2 : FVec Ideal S8x2816 .f32) (ix2 q f)
    = kDG m c (row (pt t) ⟨q.val, by omega⟩) f := by
  by_cases h : t.val % 64 = 0
  · rw [outsAt0_A m c t h]
    dsimp only
    rw [sA]
    exact DG_rows (ib0 m c t) (ib3 m c t) (ib4 m c t) (ib6 m c t) _ _
  · rw [outsAt0_B m c t h]
    dsimp only
    rw [sB]
    exact DG_rows (ib0 m c t) (ib3 m c t) (ib4 m c t) (ib6 m c t) _ _

/-- At the first point nothing is carried. -/
theorem cyA (h : t.val % 64 = 0) (q : Fin 8) (f : Fin 2816) : (fun _ => (0 : EReal) : FVec Ideal S8x2816 .f32) (ix2 q f)
    = if h : (pt t).val = 0 then 0 else kDG m c (prow (pt t) q) f := by
  rw [dif_pos]
  have := lt_of_lt_of_eq t.isLt N_0
  show t.val = 0
  omega

/-- At another point the carried rows are those of the point before. -/
theorem cyB (h : ¬t.val % 64 = 0) (q : Fin 8) (f : Fin 2816) :
    ((outsAt0 m c (t.val - 1) (Nat.lt_of_le_of_lt (Nat.sub_le _ _) t.isLt)).2.2.2.2.2 : FVec Ideal S8x2816 .f32) (ix2 q f)
    = if h : (pt t).val = 0 then 0 else kDG m c (prow (pt t) q) f := by
  rw [dif_neg (fun h' => h (by rw [show t.val = 0 from h']))]
  exact carry m c ⟨t.val - 1, Nat.lt_of_le_of_lt (Nat.sub_le _ _) t.isLt⟩ q f

/-- The block of the input's gradient after a point. -/
theorem at8 (r : Fin 256) (d : Fin 1024) : ((outsAt0 m c t.val t.isLt).1 : FVec Ideal S256x1024 .f32) (ix2 r d)
    = kDX m c (row (pt t) r) d := by
  by_cases h : t.val % 64 = 0
  · rw [outsAt0_A m c t h]
    dsimp only
    rw [oA8]
    exact G8_rows (ib0 m c t) (ib1 m c t) (ib2 m c t) (ib3 m c t) (ib4 m c t) (ib5 m c t) (ib6 m c t) (ib7 m c t) (cyA m c t h) _ _
  · rw [outsAt0_B m c t h]
    dsimp only
    rw [oB8]
    exact G8_rows (ib0 m c t) (ib1 m c t) (ib2 m c t) (ib3 m c t) (ib4 m c t) (ib5 m c t) (ib6 m c t) (ib7 m c t) (cyB m c t h) _ _

/-- The block of the up projection's gradient after a point. -/
theorem at9 (r : Fin 256) (f : Fin 5632) : ((outsAt0 m c t.val t.isLt).2.1 : FVec Ideal S256x5632 .bf16) (ix2 r f)
    = kDU m c (row (pt t) r) f := by
  by_cases h : t.val % 64 = 0
  · rw [outsAt0_A m c t h]
    dsimp only
    rw [oA9]
    exact DU_rows (ib0 m c t) (ib3 m c t) (ib4 m c t) (ib5 m c t) (ib6 m c t) (cyA m c t h) _ _
  · rw [outsAt0_B m c t h]
    dsimp only
    rw [oB9]
    exact DU_rows (ib0 m c t) (ib3 m c t) (ib4 m c t) (ib5 m c t) (ib6 m c t) (cyB m c t h) _ _

/-- One point's part of the scale's gradient. -/
def T10 (t : Fin cfg0.N) (y : S8x1024.Idx) : EReal := ∑ q : Fin 32, kDH m c (row (pt t) ⟨q.val * 8 + (y 0).val, by have := (y 0).isLt; dsimp at this; omega⟩) (y 1) *
  (aX m c (row (pt t) ⟨q.val * 8 + (y 0).val, by have := (y 0).isLt; dsimp at this; omega⟩) (y 1) * gRX (aX m c) (row (pt t) ⟨q.val * 8 + (y 0).val, by have := (y 0).isLt; dsimp at this; omega⟩))
/-- One point's part of the taps' gradients. -/
def T11 (t : Fin cfg0.N) (y : S3x8x2816.Idx) : EReal := ∑ q : Fin 32, kSH m c (y 0) (row (pt t) ⟨q.val * 8 + (y 1).val, by have := (y 1).isLt; dsimp at this; omega⟩) (y 2) *
  aUP m c (row (pt t) ⟨q.val * 8 + (y 1).val, by have := (y 1).isLt; dsimp at this; omega⟩) ⟨(y 2).val, by have := (y 2).isLt; dsimp at this; omega⟩
/-- One point's part of the bias' gradient. -/
def T12 (t : Fin cfg0.N) (y : S8x2816.Idx) : EReal := ∑ q : Fin 32, kDG m c (row (pt t) ⟨q.val * 8 + (y 0).val, by have := (y 0).isLt; dsimp at this; omega⟩) (y 1)

/-- The partial sums of the scale's gradient at the last point. -/
theorem at10 (ht : t.val % 64 = 63) (y : S8x1024.Idx) : ((outsAt0 m c t.val t.isLt).2.2.1 : FVec Ideal S8x1024 .f32) y = ∑ s : Fin 64, T10 m c ⟨s.val, lt_of_lt_of_eq s.isLt N_0.symm⟩ y := by
  rw [Pipeline.eq_sum_fin_of_reset_step_apply_of_flush (fun n h => ((outsAt0 m c n h).2.2.1 : S8x1024.Idx → EReal)) 64 (fun _ => 0) (T10 m c) ?_ ?_ t ht y, zero_add]
  · refine Finset.sum_congr rfl fun s _ => ?_
    congr 1
    ext
    have := t.isLt
    have := (pt t).isLt
    dsimp only at *
    omega
  · intro t h y
    idx_vars y
    rw [outsAt0_A m c t h]
    dsimp only
    rw [oA10]
    exact G10_rows (ib0 m c t) (ib1 m c t) (ib3 m c t) (ib4 m c t) (ib5 m c t) (ib6 m c t) (ib7 m c t) (cyA m c t h) _ _ _
  · intro t h y
    idx_vars y
    rw [outsAt0_B m c t h]
    dsimp only
    rw [oB10]
    exact G10_rows (ib0 m c t) (ib1 m c t) (ib3 m c t) (ib4 m c t) (ib5 m c t) (ib6 m c t) (ib7 m c t) (cyB m c t h) _ _ _

/-- The partial sums of the taps' gradients at the last point. -/
theorem at11 (ht : t.val % 64 = 63) (y : S3x8x2816.Idx) : ((outsAt0 m c t.val t.isLt).2.2.2.1 : FVec Ideal S3x8x2816 .f32) y = ∑ s : Fin 64, T11 m c ⟨s.val, lt_of_lt_of_eq s.isLt N_0.symm⟩ y := by
  rw [Pipeline.eq_sum_fin_of_reset_step_apply_of_flush (fun n h => ((outsAt0 m c n h).2.2.2.1 : S3x8x2816.Idx → EReal)) 64 (fun _ => 0) (T11 m c) ?_ ?_ t ht y, zero_add]
  · refine Finset.sum_congr rfl fun s _ => ?_
    congr 1
    ext
    have := t.isLt
    have := (pt t).isLt
    dsimp only at *
    omega
  · intro t h y
    idx_vars y
    rw [outsAt0_A m c t h]
    dsimp only
    rw [oA11]
    exact G11_rows (ib0 m c t) (ib3 m c t) (ib4 m c t) (ib6 m c t) (cyA m c t h) _ _ _ _
  · intro t h y
    idx_vars y
    rw [outsAt0_B m c t h]
    dsimp only
    rw [oB11]
    exact G11_rows (ib0 m c t) (ib3 m c t) (ib4 m c t) (ib6 m c t) (cyB m c t h) _ _ _ _

/-- The partial sums of the bias' gradient at the last point. -/
theorem at12 (ht : t.val % 64 = 63) (y : S8x2816.Idx) : ((outsAt0 m c t.val t.isLt).2.2.2.2.1 : FVec Ideal S8x2816 .f32) y = ∑ s : Fin 64, T12 m c ⟨s.val, lt_of_lt_of_eq s.isLt N_0.symm⟩ y := by
  rw [Pipeline.eq_sum_fin_of_reset_step_apply_of_flush (fun n h => ((outsAt0 m c n h).2.2.2.2.1 : S8x2816.Idx → EReal)) 64 (fun _ => 0) (T12 m c) ?_ ?_ t ht y, zero_add]
  · refine Finset.sum_congr rfl fun s _ => ?_
    congr 1
    ext
    have := t.isLt
    have := (pt t).isLt
    dsimp only at *
    omega
  · intro t h y
    idx_vars y
    rw [outsAt0_A m c t h]
    dsimp only
    rw [oA12]
    exact G12_rows (ib0 m c t) (ib3 m c t) (ib4 m c t) (ib6 m c t) _ _ _
  · intro t h y
    idx_vars y
    rw [outsAt0_B m c t h]
    dsimp only
    rw [oB12]
    exact G12_rows (ib0 m c t) (ib3 m c t) (ib4 m c t) (ib6 m c t) _ _ _

/-- The array of the input's gradient. -/
theorem fin8 : (dats m 0 c).arrAt 8 cfg0.N = (fun y : S16384x1024.Idx => kDX m c (y 0) (y 1)) := by
  refine (dats m 0 c).arrAt_eq_of_covers 8 _ (by decide +kernel) fun t hf y => ?_
  blk_simp
  rw [after0_8]
  idx_vars y
  refine (at8 m c t y0 y1).trans ?_
  refine congrArg₂ (kDX m c) (Fin.ext ?_) (Fin.ext ?_) <;> ((try unfold row); blk_simp [idx_big t]; try omega)

/-- The array of the up projection's gradient. -/
theorem fin9 : (dats m 0 c).arrAt 9 cfg0.N = (fun y : S16384x5632.Idx => kDU m c (y 0) (y 1)) := by
  refine (dats m 0 c).arrAt_eq_of_covers 9 _ (by decide +kernel) fun t hf y => ?_
  blk_simp
  rw [after0_9]
  idx_vars y
  refine (at9 m c t y0 y1).trans ?_
  refine congrArg₂ (kDU m c) (Fin.ext ?_) (Fin.ext ?_) <;> ((try unfold row); blk_simp [idx_big t]; try omega)

/-- The array of the partial sums of the scale's gradient. -/
theorem fin10 : (dats m 0 c).arrAt 10 cfg0.N = (fun y : S8x1024.Idx => ∑ s : Fin 64, T10 m c ⟨s.val, lt_of_lt_of_eq s.isLt N_0.symm⟩ y) := by
  refine (dats m 0 c).arrAt_eq_of_covers 10 _ (by decide +kernel) fun t hf y => ?_
  blk_simp
  rw [after0_10]
  refine (at10 m c t ((flush0_10 t).mp hf) y).trans ?_
  refine Finset.sum_congr rfl fun s _ => congrArg _ ?_
  idx_vars y
  blk_ext [idx_small t]

/-- The array of the partial sums of the taps' gradients. -/
theorem fin11 : (dats m 0 c).arrAt 11 cfg0.N = (fun y : S3x8x2816.Idx => ∑ s : Fin 64, T11 m c ⟨s.val, lt_of_lt_of_eq s.isLt N_0.symm⟩ y) := by
  refine (dats m 0 c).arrAt_eq_of_covers 11 _ (by decide +kernel) fun t hf y => ?_
  blk_simp
  rw [after0_11]
  refine (at11 m c t ((flush0_11 t).mp hf) y).trans ?_
  refine Finset.sum_congr rfl fun s _ => congrArg _ ?_
  idx_vars y
  blk_ext [idx_small t]

/-- The array of the partial sums of the bias' gradient. -/
theorem fin12 : (dats m 0 c).arrAt 12 cfg0.N = (fun y : S8x2816.Idx => ∑ s : Fin 64, T12 m c ⟨s.val, lt_of_lt_of_eq s.isLt N_0.symm⟩ y) := by
  refine (dats m 0 c).arrAt_eq_of_covers 12 _ (by decide +kernel) fun t hf y => ?_
  blk_simp
  rw [after0_12]
  refine (at12 m c t ((flush0_12 t).mp hf) y).trans ?_
  refine Finset.sum_congr rfl fun s _ => congrArg _ ?_
  idx_vars y
  blk_ext [idx_small t]

end FfnBwd
-- ==== Proof.Reals.lean ====
module

public import proofs.«01_k».proof.Proof.Rows
public import Mathlib.Analysis.SpecialFunctions.Trigonometric.DerivHyp
public import Mathlib.Analysis.SpecialFunctions.Exp

/-! The equations over the real numbers. -/

@[expose] public section

noncomputable section

namespace FfnBwd

open Idealize.ShloMosaic

/-- A real number among the extended reals. -/
def IsR (e : EReal) : Prop := ∃ r : ℝ, e = (r : EReal)

/-- A real number is real. -/
theorem isR_coe (r : ℝ) : IsR (r : EReal) := ⟨r, rfl⟩
/-- Sums of real entries are real. -/
theorem IsR.add {a b : EReal} (ha : IsR a) (hb : IsR b) : IsR (a + b) := by
  obtain ⟨x, rfl⟩ := ha; obtain ⟨y, rfl⟩ := hb; exact ⟨x + y, (EReal.coe_add x y).symm⟩
/-- Products of real entries are real. -/
theorem IsR.mul {a b : EReal} (ha : IsR a) (hb : IsR b) : IsR (a * b) := by
  obtain ⟨x, rfl⟩ := ha; obtain ⟨y, rfl⟩ := hb; exact ⟨x * y, (EReal.coe_mul x y).symm⟩
/-- Differences of real entries are real. -/
theorem IsR.sub {a b : EReal} (ha : IsR a) (hb : IsR b) : IsR (a - b) := by
  obtain ⟨x, rfl⟩ := ha; obtain ⟨y, rfl⟩ := hb; exact ⟨x - y, (EReal.coe_sub x y).symm⟩
/-- Zero is real. -/
theorem isR_zero : IsR 0 := ⟨0, rfl⟩
/-- One is real. -/
theorem isR_one : IsR 1 := ⟨1, rfl⟩

/-- A sum of real numbers is the sum in the reals. -/
theorem sum_coe {n : ℕ} (f : Fin n → ℝ) : ∑ i, ((f i : ℝ) : EReal) = ((∑ i, f i : ℝ) : EReal) :=
  (map_sum (⟨⟨Real.toEReal, rfl⟩, EReal.coe_add⟩ : ℝ →+ EReal) f Finset.univ).symm
/-- Finite sums of real entries are real. -/
theorem isR_sum {n : ℕ} {f : Fin n → EReal} (h : ∀ i, IsR (f i)) : IsR (∑ i, f i) := by
  choose g hg using h
  exact ⟨∑ i, g i, by rw [← sum_coe]; exact Finset.sum_congr rfl fun i _ => hg i⟩

/-- The kernel's half is one half. -/
theorem half_eq : half = ((1 / 2 : ℝ) : EReal) := by
  unfold half
  simp [Ideal.ofBits, Ideal.ieee, -EReal.coe_mul]; norm_num
/-- The row length is 1024. -/
theorem cD_eq : cD = ((1024 : ℝ) : EReal) := by
  unfold cD
  simp [Ideal.ofBits, Ideal.ieee, -EReal.coe_mul]; norm_num
/-- The reference's minus half is minus one half. -/
theorem nhalf_eq : Ideal.ofBits FTy.f32 3204448256#32 = ((-(1 / 2) : ℝ) : EReal) := by
  simp [Ideal.ofBits, Ideal.ieee, -EReal.coe_mul, -EReal.coe_neg]; norm_num
/-- The norm's small constant is a positive real. -/
theorem eps_pos : ∃ e : ℝ, 0 < e ∧ eps = (e : EReal) := by
  unfold eps
  simp only [Ideal.ofBits, Ideal.ieee]
  norm_num
  refine ⟨_, ?_, (EReal.coe_mul _ _).symm⟩
  positivity

/-- The reference's sigmoid. -/
def sgR (z : EReal) : EReal := Ideal.div 1 (1 + Ideal.exp (-z))

/-- The reference's logistic at a real number. -/
theorem sgR_coe (z : ℝ) : sgR (z : EReal) = ((1 / (1 + Real.exp (-z)) : ℝ) : EReal) := by
  unfold sgR
  rw [← EReal.coe_neg, Ideal.exp_coe, show (1 : EReal) = ((1 : ℝ) : EReal) from rfl, ← EReal.coe_add,
    Ideal.div_coe (by positivity), ← EReal.coe_mul, one_mul]

/-- The kernel's logistic at a real number. -/
theorem sgK_coe (z : ℝ) : sgK (z : EReal) = ((1 / (1 + Real.exp (-z)) : ℝ) : EReal) := by
  unfold sgK
  rw [half_eq, ← EReal.coe_mul, Ideal.tanh_coe, ← EReal.coe_mul, ← EReal.coe_add]
  congr 1
  rw [Real.tanh_eq_sinh_div_cosh, Real.sinh_eq, Real.cosh_eq]
  have h1 : Real.exp (1 / 2 * z) = Real.exp (z / 2) := by ring_nf
  have h2 : Real.exp (-(1 / 2 * z)) = Real.exp (-(z / 2)) := by ring_nf
  have h3 : Real.exp (-z) = Real.exp (-(z / 2)) * Real.exp (-(z / 2)) := by rw [← Real.exp_add]; ring_nf
  have h4 : Real.exp (z / 2) * Real.exp (-(z / 2)) = 1 := by rw [← Real.exp_add]; simp
  rw [h1, h2, h3]
  have p := Real.exp_pos (z / 2)
  have q := Real.exp_pos (-(z / 2))
  generalize Real.exp (z / 2) = a at *
  generalize Real.exp (-(z / 2)) = b at *
  have ha : a = 1 / b := by field_simp; linarith
  subst ha
  field_simp
  ring

/-- The two sigmoids agree. -/
theorem sg_eq {z : EReal} (hz : IsR z) : sgK z = sgR z := by
  obtain ⟨z, rfl⟩ := hz
  rw [sgK_coe, sgR_coe]

/-- The kernel's logistic of a real entry is real. -/
theorem isR_sgK {z : EReal} (hz : IsR z) : IsR (sgK z) := by
  obtain ⟨z, rfl⟩ := hz
  exact ⟨_, sgK_coe z⟩

/-- The gate's derivative at a real entry is real. -/
theorem isR_dsK {z : EReal} (hz : IsR z) : IsR (dsK z) :=
  (isR_sgK hz).mul (isR_one.add (hz.mul (isR_one.sub (isR_sgK hz))))

/-- The two derivatives of `z · σ z` agree. -/
theorem ds_eq {p z : EReal} (hp : IsR p) (hz : IsR z) : p * dsK z = p * sgR z + z * p * (sgR z * (1 - sgR z)) := by
  rw [← sg_eq hz]
  unfold dsK
  obtain ⟨s, hs⟩ := isR_sgK hz
  obtain ⟨z, rfl⟩ := hz
  obtain ⟨p, rfl⟩ := hp
  rw [hs, show (1 : EReal) = ((1 : ℝ) : EReal) from rfl]
  simp only [← EReal.coe_sub, ← EReal.coe_mul, ← EReal.coe_add]
  congr 1
  ring

section
variable {x dy : Fin 1024 → EReal} (hx : ∀ d, IsR (x d)) (hdy : ∀ d, IsR (dy d))

include hx in
/-- The reciprocal root of a row of real numbers, and the number under it. -/
theorem root_eq : ∃ v : ℝ, 0 < v ∧ Ideal.div (∑ d : Fin 1024, x d * x d) cD + eps = (v : EReal) ∧
    Ideal.rsqrt (Ideal.div (∑ d : Fin 1024, x d * x d) cD + eps) = (((Real.sqrt v)⁻¹ : ℝ) : EReal) := by
  choose a ha using hx
  obtain ⟨e, he, hee⟩ := eps_pos
  have hv : Ideal.div (∑ d : Fin 1024, x d * x d) cD + eps = (((∑ d, a d * a d) * (1 / 1024) + e : ℝ) : EReal) := by
    simp only [ha]
    simp only [← EReal.coe_mul]
    rw [sum_coe, cD_eq, Ideal.div_coe (by norm_num), hee, ← EReal.coe_mul, ← EReal.coe_add]
  have hp : 0 < (∑ d, a d * a d) * (1 / 1024) + e := by
    have : 0 ≤ ∑ d, a d * a d := Finset.sum_nonneg fun i _ => mul_self_nonneg _
    positivity
  refine ⟨_, hp, hv, ?_⟩
  rw [hv]
  show (if _ then _ else if _ then _ else _ : EReal) = _
  rw [if_neg (not_lt.2 hp.le), if_neg hp.ne']

include hx in
/-- The reciprocal root of a row of reals is real. -/
theorem isR_root : IsR (Ideal.rsqrt (Ideal.div (∑ d : Fin 1024, x d * x d) cD + eps)) := by
  obtain ⟨v, -, -, h⟩ := root_eq hx
  exact ⟨_, h⟩

include hx hdy in
/-- The two spellings of the norm's gradient agree. -/
theorem norm_eq (ct : EReal) (d : Fin 1024) {v r : EReal} (hv : v = Ideal.div (∑ d : Fin 1024, x d * x d) cD + eps) (hr : r = Ideal.rsqrt v) :
    ct + r * (dy d - x d * r * Ideal.div (∑ e : Fin 1024, dy e * (x e * r)) cD)
      = ct + ((dy d * r + x d * Ideal.div ((∑ e : Fin 1024, x e * dy e) * (Ideal.ofBits FTy.f32 3204448256#32 * Ideal.div r v)) cD)
        + Ideal.div ((∑ e : Fin 1024, x e * dy e) * (Ideal.ofBits FTy.f32 3204448256#32 * Ideal.div r v)) cD * x d) := by
  obtain ⟨w, hw, h1, h2⟩ := root_eq hx
  rw [hv] at hr
  rw [h2] at hr
  rw [h1] at hv
  subst hv hr
  choose a ha using hx
  choose b hb using hdy
  simp only [ha, hb]
  simp only [← EReal.coe_mul]
  rw [sum_coe, sum_coe, cD_eq, nhalf_eq]
  simp only [Ideal.div_coe hw.ne', Ideal.div_coe (show (1024 : ℝ) ≠ 0 by norm_num), ← EReal.coe_mul, ← EReal.coe_sub, ← EReal.coe_add]
  congr 2
  have hs : Real.sqrt w * Real.sqrt w = w := Real.mul_self_sqrt hw.le
  have hs0 : Real.sqrt w ≠ 0 := (Real.sqrt_pos.2 hw).ne'
  have e1 : ∑ i, b i * (a i * (Real.sqrt w)⁻¹) = (∑ i, a i * b i) * (Real.sqrt w)⁻¹ := by
    rw [Finset.sum_mul]
    exact Finset.sum_congr rfl fun i _ => by ring
  rw [e1]
  generalize (∑ i, a i * b i) = T
  generalize Real.sqrt w = q at *
  subst hs
  field_simp
  ring
end

end FfnBwd
-- ==== Proof.Ref.lean ====
module

public import proofs.«01_k».proof.Proof.Reals
public import proofs.«01_k».proof.Proof.Gen.ReferenceIdeal.Read

/-! What the reference computes, at an index. -/

@[expose] public section

set_option maxRecDepth 16384

noncomputable section

namespace FfnBwd

open Idealize.ShloMosaic Idealize.ShloMosaic.TcCoe
open Cert.ReferenceIdeal Cert.ReferenceIdeal.Gen Cert.ReferenceIdeal.Read

variable (x0 : FVec Ideal S16384x1024 .f32) (x1 : FVec Ideal S1x1024 .f32) (x2 : FVec Ideal S1024x5632 .f32) (x3 : FVec Ideal S3x2816 .f32)
  (x4 : FVec Ideal S2816 .f32) (x5 : FVec Ideal S2816x1024 .f32) (x6 : FVec Ideal S16384x1024 .f32)

/-- The up projection. -/
def rUP (s : Fin 16384) (f : Fin 5632) : EReal := val_main_v17 (F := Ideal) x0 x1 x2 (ix2 s f)
/-- The gate. -/
def rGT (s : Fin 16384) (f : Fin 2816) : EReal := val_main_v46 (F := Ideal) x0 x1 x2 x3 x4 (ix2 s f)
/-- The output's gradient. -/
def rCT (s : Fin 16384) (d : Fin 1024) : EReal := x6 (ix2 s d)
/-- The input. -/
def rX (s : Fin 16384) (d : Fin 1024) : EReal := x0 (ix2 s d)
/-- The scale. -/
def rG (d : Fin 1024) : EReal := x1 (ix2 0 d)
/-- The taps. -/
def rWT (j : Fin 3) (f : Fin 2816) : EReal := x3 (ix2 j f)
/-- The down weight. -/
def rWD (f : Fin 2816) (d : Fin 1024) : EReal := x5 (ix2 f d)
/-- The up weight. -/
def rWU (d : Fin 1024) (f : Fin 5632) : EReal := x2 (ix2 d f)

/-- The gradient of the activations is the gradient through the down weight. -/
theorem r53 (s c) : val_main_v53 (F := Ideal) x5 x6 (ix2 s c) = gDA (rCT x6) (rWD x5) s c := by
  unfold gDA rCT rWD
  pointwise [val_main_v53, val_main_v52]

/-- The logistic of the gate. -/
theorem r47 (s c) : val_main_v47_2 (F := Ideal) x0 x1 x2 x3 x4 (ix2 s c) = sgR (rGT x0 x1 x2 x3 x4 s c) := by
  unfold sgR rGT
  pointwise [val_main_v47_2, val_main_call0_v4, val_main_call0_cst_0, val_main_call0_v3, val_main_call0_v2, val_main_call0_cst, val_main_call0_v1, val_main_call0_v0]

/-- The gate's gradient as the reference spells it. -/
theorem r57 (s c) : val_main_v57 (F := Ideal) x0 x1 x2 x3 x4 x5 x6 (ix2 s c) =
    (gDA (rCT x6) (rWD x5) s c * rUP x0 x1 x2 s ⟨2816 + c.val, by omega⟩) * sgR (rGT x0 x1 x2 x3 x4 s c)
      + rGT x0 x1 x2 x3 x4 s c * (gDA (rCT x6) (rWD x5) s c * rUP x0 x1 x2 s ⟨2816 + c.val, by omega⟩)
        * (sgR (rGT x0 x1 x2 x3 x4 s c) * (1 - sgR (rGT x0 x1 x2 x3 x4 s c))) := by
  rw [← r47, ← r53]
  unfold rGT rUP
  pointwise [val_main_v57, val_main_call1_v2, val_main_call1_v1, val_main_call1_v0, val_main_v55, val_main_v48, val_main_v47_1, val_main_call0_v7, val_main_call0_v6, val_main_call0_cst_1]

/-- A row's mean square and the small constant. -/
theorem r7 (s) : val_main_v7 (F := Ideal) x0 (ix2 s 0) = Ideal.div (∑ d : Fin 1024, rX x0 s d * rX x0 s d) cD + eps := by
  unfold rX cD eps
  pointwise [val_main_v7, val_main_v6, val_main_cst_1, val_main_v5, val_main_v4, val_main_cst_0, val_main_v3, val_main_v2, val_main_v1, val_main_cst]
/-- A row's reciprocal root. -/
theorem r8 (s) : val_main_v8 (F := Ideal) x0 (ix2 s 0) = gRX (rX x0) s := by
  unfold gRX
  rw [← r7]
  pointwise [val_main_v8]
/-- The derivative of a row's reciprocal root. -/
theorem r11 (s) : val_main_v11 (F := Ideal) x0 (ix2 s 0) = Ideal.ofBits FTy.f32 3204448256#32 * Ideal.div (gRX (rX x0) s) (Ideal.div (∑ d : Fin 1024, rX x0 s d * rX x0 s d) cD + eps) := by
  rw [← r8, ← r7]
  pointwise [val_main_v11, val_main_v10, val_main_cst_2, val_main_v9]
/-- The up projection. -/
theorem r17 (s f) : val_main_v17 (F := Ideal) x0 x1 x2 (ix2 s f) = ∑ d : Fin 1024, rX x0 s d * gRX (rX x0) s * rG x1 d * rWU x2 d f := by
  rw [← r8]
  unfold rX rG rWU
  pointwise [val_main_v17, val_main_v16, val_main_v15, val_main_v14, val_main_v13, val_main_v12, val_main_v0]
/-- The gate: the convolved values and the bias. -/
theorem r46 (s f) : val_main_v46 (F := Ideal) x0 x1 x2 x3 x4 (ix2 s f) = ((x3 (ix2 0 f) * if h : s.val < 2 then 0 else rUP x0 x1 x2 ⟨s.val - 2, by omega⟩ ⟨f.val, by omega⟩) +
          x3 (ix2 1 f) * if h : s.val < 1 then 0 else rUP x0 x1 x2 ⟨s.val - 1, by omega⟩ ⟨f.val, by omega⟩) +
        x3 (ix2 2 f) * rUP x0 x1 x2 s ⟨f.val, by omega⟩ + x4 (ix1 f) := by
  unfold rUP
  pointwise [val_main_v46, val_main_v45, val_main_v44, val_main_v43, val_main_v42, val_main_v41, val_main_v40, val_main_v39, val_main_v38, val_main_v37, val_main_v36, val_main_v35, val_main_v34, val_main_v33, val_main_v32, val_main_v31, val_main_v30, val_main_cst_5, val_main_v29, val_main_v28, val_main_v27, val_main_v26, val_main_v25, val_main_v24, val_main_v23, val_main_v22, val_main_v21, val_main_cst_3, val_main_v20, val_main_v19, val_main_v18]

/-- A sum against a shifted row is the sum against the row shifted back. -/
theorem sum_shift {N n k : ℕ} (h : n + k = N) (F U : Fin N → EReal) :
    ∑ s : Fin N, (if h : s.val + k < N then F ⟨s.val + k, h⟩ else 0) * U s
      = ∑ x : Fin n, F ⟨k + x.val, by omega⟩ * U ⟨x.val, by omega⟩ := by
  subst h
  rw [Fin.sum_univ_add]
  have e : ∑ i : Fin k, (if h : (Fin.natAdd n i).val + k < n + k then F ⟨(Fin.natAdd n i).val + k, h⟩ else 0) * U (Fin.natAdd n i) = 0 := by
    refine Finset.sum_eq_zero fun i _ => ?_
    rw [dif_neg (by simp), zero_mul]
  rw [e, add_zero]
  refine Finset.sum_congr rfl fun x _ => ?_
  rw [dif_pos (by simp)]
  congr 2
  ext
  simp [add_comm]

section
variable {x0 x1 x2 x3 x4 x5 x6}
variable (H : ∀ s c, val_main_v57 (F := Ideal) x0 x1 x2 x3 x4 x5 x6 (ix2 s c) = gDG (rCT x6) (rUP x0 x1 x2) (rGT x0 x1 x2 x3 x4) (rWD x5) s c)

include H in
/-- The gradient of the value half: the taps against the gate's gradient shifted back. -/
theorem r91 (s c) : val_main_v91 (F := Ideal) x0 x1 x2 x3 x4 x5 x6 (ix2 s c) =
    rWT x3 0 c * gAH (rCT x6) (rUP x0 x1 x2) (rGT x0 x1 x2 x3 x4) (rWD x5) 2 s c + rWT x3 1 c * gAH (rCT x6) (rUP x0 x1 x2) (rGT x0 x1 x2 x3 x4) (rWD x5) 1 s c
      + rWT x3 2 c * gDG (rCT x6) (rUP x0 x1 x2) (rGT x0 x1 x2 x3 x4) (rWD x5) s c := by
  pointwise [val_main_v91, val_main_v90, val_main_cst_19, val_main_v89, val_main_v83, val_main_v82, val_main_v25, val_main_v20, val_main_v19, val_main_v78, val_main_v77, val_main_cst_15, val_main_v76, val_main_v70, val_main_v69, val_main_v34, val_main_v29, val_main_v28, val_main_v62, val_main_v61, val_main_v40, val_main_v39, val_main_v38]
  simp only [H]
  unfold gAH rWT
  rw [add_comm, ← add_assoc]
  rw [show (∀ a b c : EReal, a + b + c = a + c + b) from fun a b c => by rw [add_assoc, add_comm b, ← add_assoc]]
  congr 1
  congr 1
  · by_cases h : s.val < 16382
    · rw [dif_pos h, dif_pos (by omega)]
      congr 2
      ext
      dsimp only
      omega
    · rw [dif_neg h, dif_neg (by omega), mul_zero]
  · by_cases h : s.val < 16383
    · rw [dif_pos h, dif_pos (by omega)]
      congr 2
      ext
      dsimp only
      omega
    · rw [dif_neg h, dif_neg (by omega), mul_zero]

include H in
/-- The up projection's gradient, its two halves side by side. -/
theorem r96 (hz : ∀ s c, IsR (rGT x0 x1 x2 x3 x4 s c)) (s f) : val_main_v96 (F := Ideal) x0 x1 x2 x3 x4 x5 x6 (ix2 s f) =
    gDU (rCT x6) (rUP x0 x1 x2) (rGT x0 x1 x2 x3 x4) (rWT x3) (rWD x5) s f := by
  pointwise [val_main_v96, val_main_v95, val_main_cst_21, val_main_v56, val_main_cst_7, val_main_v54, val_main_v47_0]
  unfold gDU
  by_cases h : f.val < 2816
  · rw [dif_neg (by omega), dif_pos h, dif_pos h, zero_add, r91 H]
  · rw [dif_pos (by omega), dif_neg h, dif_neg h, add_zero, r47, r53, mul_comm, sg_eq (hz _ _)]
    rfl

include H in
/-- The bias' gradient. -/
theorem r60 (f) : val_main_v60 (F := Ideal) x0 x1 x2 x3 x4 x5 x6 (ix1 f) = ∑ s : Fin 16384, gDG (rCT x6) (rUP x0 x1 x2) (rGT x0 x1 x2 x3 x4) (rWD x5) s f := by
  pointwise [val_main_v60, val_main_cst_9, val_main_v59, val_main_v58, val_main_cst_8]
  rw [Fin.sum_univ_one]
  simp only [H]

include H in
/-- The taps' gradients. -/
theorem r94 (j f) : val_main_v94 (F := Ideal) x0 x1 x2 x3 x4 x5 x6 (ix2 j f) =
    ∑ s : Fin 16384, gSH (rCT x6) (rUP x0 x1 x2) (rGT x0 x1 x2 x3 x4) (rWD x5) j s f * rUP x0 x1 x2 s ⟨f.val, by omega⟩ := by
  have h66 : val_main_v66 (F := Ideal) x0 x1 x2 x3 x4 x5 x6 (ix1 f) = ∑ s : Fin 16384, gDG (rCT x6) (rUP x0 x1 x2) (rGT x0 x1 x2 x3 x4) (rWD x5) s f * rUP x0 x1 x2 s ⟨f.val, by omega⟩ := by
    pointwise [val_main_v66, val_main_cst_11, val_main_v65, val_main_v64, val_main_cst_10, val_main_v63, val_main_v18]
    rw [Fin.sum_univ_one]
    simp only [H]
    rfl
  have h74 : val_main_v74 (F := Ideal) x0 x1 x2 x3 x4 x5 x6 (ix1 f) = ∑ s : Fin 16384, gAH (rCT x6) (rUP x0 x1 x2) (rGT x0 x1 x2 x3 x4) (rWD x5) 1 s f * rUP x0 x1 x2 s ⟨f.val, by omega⟩ := by
    unfold gAH
    refine Eq.trans ?_ (sum_shift (n := 16383) (k := 1) rfl (fun s => gDG (rCT x6) (rUP x0 x1 x2) (rGT x0 x1 x2 x3 x4) (rWD x5) s f) _).symm
    pointwise [val_main_v74, val_main_cst_14, val_main_v73, val_main_v72, val_main_cst_13, val_main_v71, val_main_v32, val_main_v31, val_main_v30, val_main_cst_5, val_main_v18]
    rw [Fin.sum_univ_one]
    simp only [H, mul_zero, Finset.sum_const_zero, zero_add]
    rfl
  have h87 : val_main_v87 (F := Ideal) x0 x1 x2 x3 x4 x5 x6 (ix1 f) = ∑ s : Fin 16384, gAH (rCT x6) (rUP x0 x1 x2) (rGT x0 x1 x2 x3 x4) (rWD x5) 2 s f * rUP x0 x1 x2 s ⟨f.val, by omega⟩ := by
    unfold gAH
    refine Eq.trans ?_ (sum_shift (n := 16382) (k := 2) rfl (fun s => gDG (rCT x6) (rUP x0 x1 x2) (rGT x0 x1 x2 x3 x4) (rWD x5) s f) _).symm
    pointwise [val_main_v87, val_main_cst_18, val_main_v86, val_main_v85, val_main_cst_17, val_main_v84, val_main_v23, val_main_v22, val_main_v21, val_main_cst_3, val_main_v18]
    rw [Fin.sum_univ_one]
    simp only [H, mul_zero, Finset.sum_const_zero, zero_add]
    rfl
  pointwise [val_main_v94, val_main_v93, val_main_cst_20, val_main_v92, val_main_v81, val_main_v80, val_main_cst_16, val_main_v79, val_main_v68, val_main_cst_12, val_main_v67]
  unfold gSH
  rw [h66, h74, h87]
  fin_cases j <;> simp

include H in
/-- The gradient of the normed input. -/
theorem r97 (hz : ∀ s c, IsR (rGT x0 x1 x2 x3 x4 s c)) (s d) : val_main_v97 (F := Ideal) x0 x1 x2 x3 x4 x5 x6 (ix2 s d) =
    gDH (rCT x6) (rUP x0 x1 x2) (rGT x0 x1 x2 x3 x4) (rWT x3) (rWD x5) (rWU x2) s d := by
  pointwise [val_main_v97]
  simp only [r96 H hz]
  rfl

include H in
/-- The scale's gradient. -/
theorem r103 (hz : ∀ s c, IsR (rGT x0 x1 x2 x3 x4 s c)) (d) : val_main_v103 (F := Ideal) x0 x1 x2 x3 x4 x5 x6 (ix1 d) =
    ∑ s : Fin 16384, gDH (rCT x6) (rUP x0 x1 x2) (rGT x0 x1 x2 x3 x4) (rWT x3) (rWD x5) (rWU x2) s d * (rX x0 s d * gRX (rX x0) s) := by
  pointwise [val_main_v103, val_main_cst_23, val_main_v100, val_main_v99, val_main_cst_22, val_main_v98, val_main_v13, val_main_v12]
  rw [Fin.sum_univ_one]
  refine Finset.sum_congr rfl fun s _ => ?_
  rw [r97 H hz, r8, mul_comm]
  rfl

include H in
/-- The input's gradient. -/
theorem r118 (hz : ∀ s c, IsR (rGT x0 x1 x2 x3 x4 s c)) (hx : ∀ s d, IsR (rX x0 s d))
    (hd : ∀ s d, IsR (gDH (rCT x6) (rUP x0 x1 x2) (rGT x0 x1 x2 x3 x4) (rWT x3) (rWD x5) (rWU x2) s d * rG x1 d)) (s d) :
    val_main_v118 (F := Ideal) x0 x1 x2 x3 x4 x5 x6 (ix2 s d) =
      gDX (rCT x6) (rX x0) (rG x1) (rUP x0 x1 x2) (rGT x0 x1 x2 x3 x4) (rWT x3) (rWD x5) (rWU x2) s d := by
  unfold gDX gRX
  rw [norm_eq (hx s) (hd s) (rCT x6 s d) d rfl rfl]
  pointwise [val_main_v118, val_main_v117, val_main_v116, val_main_v115, val_main_v114, val_main_v113, val_main_v112, val_main_cst_26, val_main_v111, val_main_v110, val_main_cst_25, val_main_v109, val_main_v108, val_main_v107, val_main_v106, val_main_v105, val_main_cst_24, val_main_v104, val_main_v102, val_main_v101, val_main_v14, val_main_v0]
  rw [Fin.sum_univ_one, r11, r8]
  simp only [r97 H hz]
  rfl
end

section
variable {x0 x1 x2 x3 x4 x5 x6}
variable (f0 : ∀ i, IsR (x0 i)) (f1 : ∀ i, IsR (x1 i)) (f2 : ∀ i, IsR (x2 i)) (f3 : ∀ i, IsR (x3 i)) (f4 : ∀ i, IsR (x4 i)) (f5 : ∀ i, IsR (x5 i)) (f6 : ∀ i, IsR (x6 i))

include f0 f1 f2 in
/-- The up projection is real. -/
theorem fUP (s f) : IsR (rUP x0 x1 x2 s f) := by
  unfold rUP
  rw [r17]
  exact isR_sum fun d => (((f0 _).mul (isR_root fun d => f0 _)).mul (f1 _)).mul (f2 _)

include f0 f1 f2 f3 f4 in
/-- The gate is real. -/
theorem fGT (s f) : IsR (rGT x0 x1 x2 x3 x4 s f) := by
  unfold rGT
  rw [r46]
  refine (((IsR.mul (f3 _) ?_).add (IsR.mul (f3 _) ?_)).add (IsR.mul (f3 _) (fUP f0 f1 f2 _ _))).add (f4 _)
  · split
    · exact isR_zero
    · exact fUP f0 f1 f2 _ _
  · split
    · exact isR_zero
    · exact fUP f0 f1 f2 _ _

include f5 f6 in
/-- The gradient of the activations is real. -/
theorem fDA (s c) : IsR (gDA (rCT x6) (rWD x5) s c) := isR_sum fun d => (f6 _).mul (f5 _)

include f0 f1 f2 f3 f4 f5 f6 in
/-- The gate's gradient is real. -/
theorem fDG (s c) : IsR (gDG (rCT x6) (rUP x0 x1 x2) (rGT x0 x1 x2 x3 x4) (rWD x5) s c) :=
  ((fDA f5 f6 _ _).mul (fUP f0 f1 f2 _ _)).mul (isR_dsK (fGT f0 f1 f2 f3 f4 _ _))

include f0 f1 f2 f3 f4 f5 f6 in
/-- The gate's gradient shifted back is real. -/
theorem fAH (k s c) : IsR (gAH (rCT x6) (rUP x0 x1 x2) (rGT x0 x1 x2 x3 x4) (rWD x5) k s c) := by
  unfold gAH
  split
  · exact fDG f0 f1 f2 f3 f4 f5 f6 _ _
  · exact isR_zero

include f0 f1 f2 f3 f4 f5 f6 in
/-- The up projection's gradient is real. -/
theorem fDU (s c) : IsR (gDU (rCT x6) (rUP x0 x1 x2) (rGT x0 x1 x2 x3 x4) (rWT x3) (rWD x5) s c) := by
  unfold gDU
  split
  · exact (((f3 _).mul (fAH f0 f1 f2 f3 f4 f5 f6 _ _ _)).add ((f3 _).mul (fAH f0 f1 f2 f3 f4 f5 f6 _ _ _))).add ((f3 _).mul (fDG f0 f1 f2 f3 f4 f5 f6 _ _))
  · exact (fDA f5 f6 _ _).mul ((fGT f0 f1 f2 f3 f4 _ _).mul (isR_sgK (fGT f0 f1 f2 f3 f4 _ _)))

include f0 f1 f2 f3 f4 f5 f6 in
/-- The gradient of the scaled norm is real. -/
theorem fDH (s d) : IsR (gDH (rCT x6) (rUP x0 x1 x2) (rGT x0 x1 x2 x3 x4) (rWT x3) (rWD x5) (rWU x2) s d * rG x1 d) :=
  (isR_sum fun f => (fDU f0 f1 f2 f3 f4 f5 f6 _ _).mul (f2 _)).mul (f1 _)

include f0 f1 f2 f3 f4 f5 f6 in
/-- The gradient of the gate, as the kernel spells it. -/
theorem dg_eq (s c) : val_main_v57 (F := Ideal) x0 x1 x2 x3 x4 x5 x6 (ix2 s c) = gDG (rCT x6) (rUP x0 x1 x2) (rGT x0 x1 x2 x3 x4) (rWD x5) s c := by
  rw [r57, ← ds_eq ((fDA f5 f6 _ _).mul (fUP f0 f1 f2 _ _)) (fGT f0 f1 f2 f3 f4 _ _)]
  rfl

include f0 f1 f2 f3 f4 f5 f6 in
/-- The input's gradient. -/
theorem ref_dx (y) : val_main_v118 (F := Ideal) x0 x1 x2 x3 x4 x5 x6 y =
    gDX (rCT x6) (rX x0) (rG x1) (rUP x0 x1 x2) (rGT x0 x1 x2 x3 x4) (rWT x3) (rWD x5) (rWU x2) (y 0) (y 1) := by
  idx_vars y
  exact r118 (dg_eq f0 f1 f2 f3 f4 f5 f6) (fGT f0 f1 f2 f3 f4) (fun _ _ => f0 _) (fDH f0 f1 f2 f3 f4 f5 f6) _ _

include f0 f1 f2 f3 f4 f5 f6 in
/-- The up projection's gradient. -/
theorem ref_dup (y) : val_main_v119 (F := Ideal) x0 x1 x2 x3 x4 x5 x6 y =
    gDU (rCT x6) (rUP x0 x1 x2) (rGT x0 x1 x2 x3 x4) (rWT x3) (rWD x5) (y 0) (y 1) := by
  idx_vars y
  exact r96 (dg_eq f0 f1 f2 f3 f4 f5 f6) (fGT f0 f1 f2 f3 f4) _ _

include f0 f1 f2 f3 f4 f5 f6 in
/-- The scale's gradient. -/
theorem ref_dg (y) : val_main_v103 (F := Ideal) x0 x1 x2 x3 x4 x5 x6 y =
    ∑ s : Fin 16384, gDH (rCT x6) (rUP x0 x1 x2) (rGT x0 x1 x2 x3 x4) (rWT x3) (rWD x5) (rWU x2) s (y 0) * (rX x0 s (y 0) * gRX (rX x0) s) := by
  idx_vars y
  exact r103 (dg_eq f0 f1 f2 f3 f4 f5 f6) (fGT f0 f1 f2 f3 f4) _

include f0 f1 f2 f3 f4 f5 f6 in
/-- The taps' gradients. -/
theorem ref_dwt (y) : val_main_v94 (F := Ideal) x0 x1 x2 x3 x4 x5 x6 y =
    ∑ s : Fin 16384, gSH (rCT x6) (rUP x0 x1 x2) (rGT x0 x1 x2 x3 x4) (rWD x5) (y 0) s (y 1) * rUP x0 x1 x2 s ⟨(y 1).val, by have := (y 1).isLt; dsimp at this; omega⟩ := by
  idx_vars y
  exact r94 (dg_eq f0 f1 f2 f3 f4 f5 f6) _ _

include f0 f1 f2 f3 f4 f5 f6 in
/-- The bias' gradient. -/
theorem ref_db (y) : val_main_v60 (F := Ideal) x0 x1 x2 x3 x4 x5 x6 y =
    ∑ s : Fin 16384, gDG (rCT x6) (rUP x0 x1 x2) (rGT x0 x1 x2 x3 x4) (rWD x5) s (y 0) := by
  idx_vars y
  exact r60 (dg_eq f0 f1 f2 f3 f4 f5 f6) _
end

end FfnBwd
-- ==== Proof.Prefix.lean ====
module

public import proofs.«01_k».proof.Proof.Points
public import proofs.«01_k».proof.Proof.Ref

/-! What the host hands the kernel. -/

@[expose] public section

set_option maxRecDepth 16384

noncomputable section

namespace FfnBwd

open Idealize.ShloMosaic Idealize.ShloMosaic.TcCoe Idealize.SL.Sem
open Idealize.ShloMosaic.Pipeline (Dat)
open Cert.KernelIdeal Cert.KernelIdeal.Gen
open Cert.ReferenceIdeal.Read

variable (m : (ℓ : Loc nD τ sig) → Buf (Elt Ideal) ℓ) (c : Dev nD)

set_option maxHeartbeats 2000000 in
/-- The host computes the up projection by the reference's own lines. -/
theorem V_v42 : (V m c main_v42 : FVec Ideal S16384x5632 .bf16) = (truncf .bf16 · bitsLt_bf16_f32 : FVec Ideal _ .f32 → _) (val_main_v17 (F := Ideal) (V m c main_arg0) (V m c main_arg1) (V m c main_arg2)) := by
  unfold V
  after_results
  rfl

set_option maxHeartbeats 2000000 in
/-- The host computes the gate by the reference's own lines. -/
theorem V_v43 : (V m c main_v43 : FVec Ideal S16384x2816 .bf16) = (truncf .bf16 · bitsLt_bf16_f32 : FVec Ideal _ .f32 → _) (val_main_v46 (F := Ideal) (V m c main_arg0) (V m c main_arg1) (V m c main_arg2) (V m c main_arg3) (V m c main_arg4)) := by
  unfold V
  after_results
  rfl

set_option maxHeartbeats 2000000 in
/-- The down weight is the argument, cast. -/
theorem V_v44 : (V m c main_v44 : FVec Ideal S2816x1024 .bf16) = (truncf .bf16 · bitsLt_bf16_f32 : FVec Ideal _ .f32 → _) (V m c main_arg5) := by
  unfold V
  after_results
  rfl

set_option maxHeartbeats 2000000 in
/-- The up weight is the argument, cast. -/
theorem V_v45 : (V m c main_v45 : FVec Ideal S1024x5632 .bf16) = (truncf .bf16 · bitsLt_bf16_f32 : FVec Ideal _ .f32 → _) (V m c main_arg2) := by
  unfold V
  after_results
  rfl

end FfnBwd
-- ==== Proof.Tail.lean ====
module

public import proofs.«01_k».proof.Proof.Points

/-! What the host makes of the kernel's partial sums. -/

@[expose] public section

set_option maxRecDepth 16384

noncomputable section

namespace FfnBwd

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (c : Dev nD)

/-- The last host lines sum the scale's partial rows. -/
theorem sum_v47 (W : Valuation τ sig (Elt Ideal)) : @Eq (FVec Ideal S1024 .f32) (StableHlo.after (List.flatten [hostOps1]) W (Proc.devRef .tc main_v47))
    (Host.reduceAdd (W (Proc.devRef .tc main_v46_2) : FVec Ideal S8x1024 .f32) (constant S_ .f32 0x00000000#32) reducesTo_S8x1024_S1024_d0 h_S_) := by
  simp only [List.flatten_cons, List.flatten_nil, List.append_nil]
  after_results

/-- The scale's gradient is the sum of its partial rows. -/
theorem W_v47 : @Eq (FVec Ideal S1024 .f32) (Pipeline.afterTail₀ cfgs (dats m) 0 (V0 m) [hostOps1] c main_v47)
    (Host.reduceAdd ((dats m 0 c).arrAt 10 cfg0.N : FVec Ideal S8x1024 .f32) (constant S_ .f32 0x00000000#32) reducesTo_S8x1024_S1024_d0 h_S_) := by
  unfold Pipeline.afterTail₀
  refine (sum_v47 _).trans ?_
  exact congrArg (fun a => Host.reduceAdd (a : FVec Ideal S8x1024 .f32) (constant S_ .f32 0x00000000#32) reducesTo_S8x1024_S1024_d0 h_S_)
    (Pipeline.withArrays_arr spec0 launch0.win.arr_inj c (V0 m c) (fun w => (dats m 0 c).arrAt w cfg0.N) 10)

/-- The last host lines sum the taps' partial rows. -/
theorem sum_v48 (W : Valuation τ sig (Elt Ideal)) : @Eq (FVec Ideal S3x2816 .f32) (StableHlo.after (List.flatten [hostOps1]) W (Proc.devRef .tc main_v48))
    (Host.reduceAdd (W (Proc.devRef .tc main_v46_3) : FVec Ideal S3x8x2816 .f32) (constant S_ .f32 0x00000000#32) reducesTo_S3x8x2816_S3x2816_d1 h_S_) := by
  simp only [List.flatten_cons, List.flatten_nil, List.append_nil]
  after_results

/-- The taps' gradient is the sum of its partial rows. -/
theorem W_v48 : @Eq (FVec Ideal S3x2816 .f32) (Pipeline.afterTail₀ cfgs (dats m) 0 (V0 m) [hostOps1] c main_v48)
    (Host.reduceAdd ((dats m 0 c).arrAt 11 cfg0.N : FVec Ideal S3x8x2816 .f32) (constant S_ .f32 0x00000000#32) reducesTo_S3x8x2816_S3x2816_d1 h_S_) := by
  unfold Pipeline.afterTail₀
  refine (sum_v48 _).trans ?_
  exact congrArg (fun a => Host.reduceAdd (a : FVec Ideal S3x8x2816 .f32) (constant S_ .f32 0x00000000#32) reducesTo_S3x8x2816_S3x2816_d1 h_S_)
    (Pipeline.withArrays_arr spec0 launch0.win.arr_inj c (V0 m c) (fun w => (dats m 0 c).arrAt w cfg0.N) 11)

/-- The last host lines sum the bias' partial rows. -/
theorem sum_v49 (W : Valuation τ sig (Elt Ideal)) : @Eq (FVec Ideal S2816 .f32) (StableHlo.after (List.flatten [hostOps1]) W (Proc.devRef .tc main_v49))
    (Host.reduceAdd (W (Proc.devRef .tc main_v46_4) : FVec Ideal S8x2816 .f32) (constant S_ .f32 0x00000000#32) reducesTo_S8x2816_S2816_d0 h_S_) := by
  simp only [List.flatten_cons, List.flatten_nil, List.append_nil]
  after_results

/-- The bias' gradient is the sum of its partial rows. -/
theorem W_v49 : @Eq (FVec Ideal S2816 .f32) (Pipeline.afterTail₀ cfgs (dats m) 0 (V0 m) [hostOps1] c main_v49)
    (Host.reduceAdd ((dats m 0 c).arrAt 12 cfg0.N : FVec Ideal S8x2816 .f32) (constant S_ .f32 0x00000000#32) reducesTo_S8x2816_S2816_d0 h_S_) := by
  unfold Pipeline.afterTail₀
  refine (sum_v49 _).trans ?_
  exact congrArg (fun a => Host.reduceAdd (a : FVec Ideal S8x2816 .f32) (constant S_ .f32 0x00000000#32) reducesTo_S8x2816_S2816_d0 h_S_)
    (Pipeline.withArrays_arr spec0 launch0.win.arr_inj c (V0 m c) (fun w => (dats m 0 c).arrAt w cfg0.N) 12)

/-- A point's part of the scale's gradient, by its rows. -/
theorem T10_eq (s : Fin 64) (r : Fin 8) (d : Fin 1024) : T10 m c ⟨s.val, lt_of_lt_of_eq s.isLt N_0.symm⟩ (ix2 r d) =
    ∑ q : Fin 32, (fun s => kDH m c s d * (aX m c s d * gRX (aX m c) s)) (row s ⟨q.val * 8 + r.val, by omega⟩) := rfl
/-- A point's part of the taps' gradients, by its rows. -/
theorem T11_eq (s : Fin 64) (j : Fin 3) (r : Fin 8) (f : Fin 2816) : T11 m c ⟨s.val, lt_of_lt_of_eq s.isLt N_0.symm⟩ (ix3 j r f) =
    ∑ q : Fin 32, (fun s => kSH m c j s f * aUP m c s ⟨f.val, by omega⟩) (row s ⟨q.val * 8 + r.val, by omega⟩) := rfl
/-- A point's part of the bias' gradient, by its rows. -/
theorem T12_eq (s : Fin 64) (r : Fin 8) (f : Fin 2816) : T12 m c ⟨s.val, lt_of_lt_of_eq s.isLt N_0.symm⟩ (ix2 r f) =
    ∑ q : Fin 32, (fun s => kDG m c s f) (row s ⟨q.val * 8 + r.val, by omega⟩) := rfl

/-- The scale's gradient, summed over all rows. -/
theorem res_dg (y : S1024.Idx) : @Eq EReal ((Pipeline.afterTail₀ cfgs (dats m) 0 (V0 m) [hostOps1] c main_v47 : FVec Ideal S1024 .f32) y)
    (∑ s : Fin 16384, kDH m c s (y 0) * (aX m c s (y 0) * gRX (aX m c) s)) := by
  rw [W_v47, fin10]
  idx_vars y
  pointwise
  refine Eq.trans ?_ (sum_rows (fun s => kDH m c s y0 * (aX m c s y0 * gRX (aX m c) s)))
  refine Finset.sum_congr rfl fun r _ => Finset.sum_congr rfl fun s _ => T10_eq m c s r y0

/-- The taps' gradients, summed over all rows. -/
theorem res_dwt (y : S3x2816.Idx) : @Eq EReal ((Pipeline.afterTail₀ cfgs (dats m) 0 (V0 m) [hostOps1] c main_v48 : FVec Ideal S3x2816 .f32) y)
    (∑ s : Fin 16384, kSH m c (y 0) s (y 1) * aUP m c s ⟨(y 1).val, by have := (y 1).isLt; dsimp at this; omega⟩) := by
  rw [W_v48, fin11]
  idx_vars y
  pointwise
  refine Eq.trans ?_ (sum_rows (fun s => kSH m c y0 s y1 * aUP m c s ⟨y1.val, by omega⟩))
  refine Finset.sum_congr rfl fun r _ => Finset.sum_congr rfl fun s _ => T11_eq m c s y0 r y1

/-- The bias' gradient, summed over all rows. -/
theorem res_db (y : S2816.Idx) : @Eq EReal ((Pipeline.afterTail₀ cfgs (dats m) 0 (V0 m) [hostOps1] c main_v49 : FVec Ideal S2816 .f32) y)
    (∑ s : Fin 16384, kDG m c s (y 0)) := by
  rw [W_v49, fin12]
  idx_vars y
  pointwise
  refine Eq.trans ?_ (sum_rows (fun s => kDG m c s y0))
  refine Finset.sum_congr rfl fun r _ => Finset.sum_congr rfl fun s _ => T12_eq m c s r y0

end FfnBwd
-- ==== Proof.Finite.lean ====
module

public import proofs.«01_k».proof.Proof.Reals
public import proofs.«01_k».proof.Proof.Gen.Pre_finite
public import proofs.«01_k».proof.Defs

/-! The precondition says every entry of every argument is a real number. -/

@[expose] public section

set_option maxRecDepth 16384

noncomputable section

namespace FfnBwd

open Idealize.ShloMosaic Idealize.ShloMosaic.TcCoe

/-- An entry whose magnitude is below infinity is a real number. -/
theorem isR_of_lt {s : Shape} (h : (⟨0, ![]⟩ : Shape).BroadcastsInDim s (![] : Fin 0 → Fin s.rank)) (x : FVec Ideal s .f32)
    (e : cmpf .olt (Host.absf x) (broadcastInDim s ![] h (constant ⟨0, ![]⟩ .f32 0x7F800000#32)) = fun _ => 1#1) (i : s.Idx) : IsR (x i) := by
  have e := congrFun e i
  revert e
  pointwise
  intro e
  have hi : Ideal.ofBits FTy.f32 2139095040#32 = ⊤ := by simp [Ideal.ofBits, Ideal.ieee]
  rw [hi, show FloatOps.absf (x i) = max (x i) (-(x i)) from rfl] at e
  have e' : max (x i) (-(x i)) < (⊤ : EReal) := by
    by_contra hn
    rw [decide_eq_false hn] at e
    exact absurd e (by decide)
  have h1 : x i ≠ (⊤ : EReal) := ((le_max_left _ _).trans_lt e').ne
  have h2 : x i ≠ (⊥ : EReal) := fun hb => by
    have := (le_max_right (x i) (-(x i))).trans_lt e'
    rw [hb, EReal.neg_bot] at this
    exact lt_irrefl _ this
  exact ⟨EReal.toReal (x i), (EReal.coe_toReal h1 h2).symm⟩

open Cert.KernelIdeal in
/-- Every entry of every argument is a real number. -/
theorem finite_args (m : (ℓ : Loc nD τ sig) → Buf (Elt Ideal) ℓ) (h : Cert.Pre_KernelIdeal_finite (hPre_finite := Cert.Pre_finite.Gen.facts) m) (c : Dev nD) :
    (∀ i, IsR ((m ((c.tc : Thread nD τ).loc main_arg0) : FVec Ideal S16384x1024 .f32) i))
    ∧ (∀ i, IsR ((m ((c.tc : Thread nD τ).loc main_arg1) : FVec Ideal S1x1024 .f32) i))
    ∧ (∀ i, IsR ((m ((c.tc : Thread nD τ).loc main_arg2) : FVec Ideal S1024x5632 .f32) i))
    ∧ (∀ i, IsR ((m ((c.tc : Thread nD τ).loc main_arg3) : FVec Ideal S3x2816 .f32) i))
    ∧ (∀ i, IsR ((m ((c.tc : Thread nD τ).loc main_arg4) : FVec Ideal S2816 .f32) i))
    ∧ (∀ i, IsR ((m ((c.tc : Thread nD τ).loc main_arg5) : FVec Ideal S2816x1024 .f32) i))
    ∧ (∀ i, IsR ((m ((c.tc : Thread nD τ).loc main_arg6) : FVec Ideal S16384x1024 .f32) i)) :=
  ⟨isR_of_lt _ _ (h c).1, isR_of_lt _ _ (h c).2.1, isR_of_lt _ _ (h c).2.2.1, isR_of_lt _ _ (h c).2.2.2.1, isR_of_lt _ _ (h c).2.2.2.2.1,
    isR_of_lt _ _ (h c).2.2.2.2.2.1, isR_of_lt _ _ (h c).2.2.2.2.2.2⟩

end FfnBwd
-- ==== Proof.Equation.lean ====
module

public import proofs.«01_k».proof.Proof.Prefix
public import proofs.«01_k».proof.Proof.Tail
public import proofs.«01_k».proof.Proof.Finite

/-! The kernel's results are the reference's. -/

@[expose] public section

set_option maxRecDepth 16384

noncomputable section

namespace FfnBwd

open Idealize.ShloMosaic Idealize.ShloMosaic.TcCoe Idealize.SL.Sem
open Cert.KernelIdeal Cert.KernelIdeal.Gen
open Cert.ReferenceIdeal.Read

variable (m : (ℓ : Loc nD τ sig) → Buf (Elt Ideal) ℓ) (c : Dev nD)

/-- The input at launch. -/
abbrev z0 : FVec Ideal S16384x1024 .f32 := m ((c.tc : Thread nD τ).loc main_arg0)
/-- The scale at launch. -/
abbrev z1 : FVec Ideal S1x1024 .f32 := m ((c.tc : Thread nD τ).loc main_arg1)
/-- The up weight at launch. -/
abbrev z2 : FVec Ideal S1024x5632 .f32 := m ((c.tc : Thread nD τ).loc main_arg2)
/-- The taps at launch. -/
abbrev z3 : FVec Ideal S3x2816 .f32 := m ((c.tc : Thread nD τ).loc main_arg3)
/-- The bias at launch. -/
abbrev z4 : FVec Ideal S2816 .f32 := m ((c.tc : Thread nD τ).loc main_arg4)
/-- The down weight at launch. -/
abbrev z5 : FVec Ideal S2816x1024 .f32 := m ((c.tc : Thread nD τ).loc main_arg5)
/-- The output's gradient at launch. -/
abbrev z6 : FVec Ideal S16384x1024 .f32 := m ((c.tc : Thread nD τ).loc main_arg6)

/-- The kernel's gradient operand is the argument. -/
theorem aCT_eq : aCT m c = rCT (z6 m c) := by unfold aCT; rw [V_main_arg6]; rfl
/-- The kernel's input operand is the argument. -/
theorem aX_eq : aX m c = rX (z0 m c) := by unfold aX; rw [V_main_arg0]; rfl
/-- The kernel's scale operand is the argument. -/
theorem aG_eq : aG m c = rG (z1 m c) := by unfold aG; rw [V_main_arg1]; rfl
/-- The kernel's taps are the argument. -/
theorem aWT_eq : aWT m c = rWT (z3 m c) := by unfold aWT; rw [V_main_arg3]; rfl
/-- The kernel's down weight is the argument. -/
theorem aWD_eq : aWD m c = rWD (z5 m c) := by unfold aWD; rw [V_v44, V_main_arg5]; rfl
/-- The kernel's up weight is the argument. -/
theorem aWU_eq : aWU m c = rWU (z2 m c) := by unfold aWU; rw [V_v45, V_main_arg2]; rfl
/-- The kernel's up projection is the reference's. -/
theorem aUP_eq : aUP m c = rUP (z0 m c) (z1 m c) (z2 m c) := by unfold aUP; rw [V_v42, V_main_arg0, V_main_arg1, V_main_arg2]; rfl
/-- The kernel's gate is the reference's. -/
theorem aGT_eq : aGT m c = rGT (z0 m c) (z1 m c) (z2 m c) (z3 m c) (z4 m c) := by
  unfold aGT; rw [V_v43, V_main_arg0, V_main_arg1, V_main_arg2, V_main_arg3, V_main_arg4]; rfl

variable (h : Cert.Pre_KernelIdeal_finite (hPre_finite := Cert.Pre_finite.Gen.facts) m)

include h in
/-- The input's gradient is the reference's. -/
theorem eq_dx : ((dats m 0 c).arrAt 8 cfg0.N : FVec Ideal S16384x1024 .f32) = val_main_v118 (F := Ideal) (z0 m c) (z1 m c) (z2 m c) (z3 m c) (z4 m c) (z5 m c) (z6 m c) := by
  obtain ⟨f0, f1, f2, f3, f4, f5, f6⟩ := finite_args m h c
  rw [fin8]
  funext y
  refine Eq.trans ?_ (ref_dx f0 f1 f2 f3 f4 f5 f6 y).symm
  unfold kDX
  rw [aCT_eq, aX_eq, aG_eq, aUP_eq, aGT_eq, aWT_eq, aWD_eq, aWU_eq]

include h in
/-- The up projection's gradient is the reference's. -/
theorem eq_dup : ((dats m 0 c).arrAt 9 cfg0.N : FVec Ideal S16384x5632 .bf16) = val_main_v119 (F := Ideal) (z0 m c) (z1 m c) (z2 m c) (z3 m c) (z4 m c) (z5 m c) (z6 m c) := by
  obtain ⟨f0, f1, f2, f3, f4, f5, f6⟩ := finite_args m h c
  rw [fin9]
  funext y
  refine Eq.trans ?_ (ref_dup f0 f1 f2 f3 f4 f5 f6 y).symm
  unfold kDU
  rw [aCT_eq, aUP_eq, aGT_eq, aWT_eq, aWD_eq]

include h in
/-- The scale's gradient is the reference's. -/
theorem eq_dg : (Pipeline.afterTail₀ cfgs (dats m) 0 (V0 m) [hostOps1] c main_v47 : FVec Ideal S1024 .f32) = val_main_v103 (F := Ideal) (z0 m c) (z1 m c) (z2 m c) (z3 m c) (z4 m c) (z5 m c) (z6 m c) := by
  obtain ⟨f0, f1, f2, f3, f4, f5, f6⟩ := finite_args m h c
  funext y
  refine (res_dg m c y).trans (Eq.trans ?_ (ref_dg f0 f1 f2 f3 f4 f5 f6 y).symm)
  unfold kDH
  rw [aCT_eq, aX_eq, aUP_eq, aGT_eq, aWT_eq, aWD_eq, aWU_eq]

include h in
/-- The taps' gradients are the reference's. -/
theorem eq_dwt : (Pipeline.afterTail₀ cfgs (dats m) 0 (V0 m) [hostOps1] c main_v48 : FVec Ideal S3x2816 .f32) = val_main_v94 (F := Ideal) (z0 m c) (z1 m c) (z2 m c) (z3 m c) (z4 m c) (z5 m c) (z6 m c) := by
  obtain ⟨f0, f1, f2, f3, f4, f5, f6⟩ := finite_args m h c
  funext y
  refine (res_dwt m c y).trans (Eq.trans ?_ (ref_dwt f0 f1 f2 f3 f4 f5 f6 y).symm)
  unfold kSH
  rw [aCT_eq, aUP_eq, aGT_eq, aWD_eq]

include h in
/-- The bias' gradient is the reference's. -/
theorem eq_db : (Pipeline.afterTail₀ cfgs (dats m) 0 (V0 m) [hostOps1] c main_v49 : FVec Ideal S2816 .f32) = val_main_v60 (F := Ideal) (z0 m c) (z1 m c) (z2 m c) (z3 m c) (z4 m c) (z5 m c) (z6 m c) := by
  obtain ⟨f0, f1, f2, f3, f4, f5, f6⟩ := finite_args m h c
  funext y
  refine (res_db m c y).trans (Eq.trans ?_ (ref_db f0 f1 f2 f3 f4 f5 f6 y).symm)
  unfold kDG
  rw [aCT_eq, aUP_eq, aGT_eq, aWD_eq]

end FfnBwd
-- ==== Proof.Run.lean ====
module

public import proofs.«01_k».proof.Proof.Equation
public import proofs.«01_k».proof.Proof.Gen.ReferenceIdeal.Run
public import Idealize.ShloMosaic.Adequacy
public import Idealize.ShloMosaic.Init

/-! The two runs end with the same results. -/

@[expose] public section

set_option maxRecDepth 16384

noncomputable section

namespace FfnBwd

open Idealize.ShloMosaic Idealize.ShloMosaic.TcCoe Idealize.SL.Sem
open Idealize.ShloMosaic.Pipeline (Dat)
open Cert.ReferenceIdeal.Read

section
open Cert.KernelIdeal Cert.KernelIdeal.Gen

set_option maxHeartbeats 4000000 in
/-- The kernel's run ends with the reference's functions of the arguments. -/
theorem run_kernel (m : (ℓ : Loc nD τ sig) → Buf (Elt Ideal) ℓ) (ρ : Dev nD → PrngReg)
    (h : Cert.Pre_KernelIdeal_finite (hPre_finite := Cert.Pre_finite.Gen.facts) m) :
    θ_run (defs (F := Ideal)) (onTc (τ := τ) (main (F := Ideal))) ⟨m, fun _ => 0, ρ⟩ (fun r => ∀ c : Dev nD,
      r.2.mem ((c.tc : Thread nD τ).loc main_v46_0) = val_main_v118 (F := Ideal) (z0 m c) (z1 m c) (z2 m c) (z3 m c) (z4 m c) (z5 m c) (z6 m c)
      ∧ r.2.mem ((c.tc : Thread nD τ).loc main_v46_1) = val_main_v119 (F := Ideal) (z0 m c) (z1 m c) (z2 m c) (z3 m c) (z4 m c) (z5 m c) (z6 m c)
      ∧ r.2.mem ((c.tc : Thread nD τ).loc main_v47) = val_main_v103 (F := Ideal) (z0 m c) (z1 m c) (z2 m c) (z3 m c) (z4 m c) (z5 m c) (z6 m c)
      ∧ r.2.mem ((c.tc : Thread nD τ).loc main_v48) = val_main_v94 (F := Ideal) (z0 m c) (z1 m c) (z2 m c) (z3 m c) (z4 m c) (z5 m c) (z6 m c)
      ∧ r.2.mem ((c.tc : Thread nD τ).loc main_v49) = val_main_v60 (F := Ideal) (z0 m c) (z1 m c) (z2 m c) (z3 m c) (z4 m c) (z5 m c) (z6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r hr c => ⟨((hr c).1 8).trans (eq_dx m c h), ((hr c).1 9).trans (eq_dup m c h),
      ((hr c).2 main_v47 (Pipeline.mem_restRefs_of main_v47 (by decide) (by decide))).trans (eq_dg m c h),
      ((hr c).2 main_v48 (Pipeline.mem_restRefs_of main_v48 (by decide) (by decide))).trans (eq_dwt m c h),
      ((hr c).2 main_v49 (Pipeline.mem_restRefs_of main_v49 (by decide) (by decide))).trans (eq_db m c h),
      ((hr c).1 1).trans (((dats m 0 c).arrAt_in 1 rfl _).trans ((A_eq m c 1).trans (V_main_arg0 m c))),
      ((hr c).1 2).trans (((dats m 0 c).arrAt_in 2 rfl _).trans ((A_eq m c 2).trans (V_main_arg1 m c))),
      ((hr c).2 main_arg2 (Pipeline.mem_restRefs_of main_arg2 (by decide) (by decide))).trans (W_main_arg2 m (dats m) c),
      ((hr c).1 5).trans (((dats m 0 c).arrAt_in 5 rfl _).trans ((A_eq m c 5).trans (V_main_arg3 m c))),
      ((hr c).2 main_arg4 (Pipeline.mem_restRefs_of main_arg4 (by decide) (by decide))).trans (W_main_arg4 m (dats m) c),
      ((hr c).2 main_arg5 (Pipeline.mem_restRefs_of main_arg5 (by decide) (by decide))).trans (W_main_arg5 m (dats m) c),
      ((hr c).1 0).trans (((dats m 0 c).arrAt_in 0 rfl _).trans ((A_eq m c 0).trans (V_main_arg6 m c)))⟩) (run_main m ρ)
end

/-- The kernel and the reference end with equal results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' h e
  refine ⟨fun c => val_main_v118 (F := Ideal) (z0 m c) (z1 m c) (z2 m c) (z3 m c) (z4 m c) (z5 m c) (z6 m c),
    fun c => val_main_v119 (F := Ideal) (z0 m c) (z1 m c) (z2 m c) (z3 m c) (z4 m c) (z5 m c) (z6 m c),
    fun c => val_main_v103 (F := Ideal) (z0 m c) (z1 m c) (z2 m c) (z3 m c) (z4 m c) (z5 m c) (z6 m c),
    fun c => val_main_v94 (F := Ideal) (z0 m c) (z1 m c) (z2 m c) (z3 m c) (z4 m c) (z5 m c) (z6 m c),
    fun c => val_main_v60 (F := Ideal) (z0 m c) (z1 m c) (z2 m c) (z3 m c) (z4 m c) (z5 m c) (z6 m c), run_kernel m g h,
    (θ_run _ _ _).mono (fun r hr c => ?_) (Cert.ReferenceIdeal.Value.run (F := Ideal) m' g')⟩
  obtain ⟨e0, e1, e2, e3, e4, e5, e6⟩ := e c
  have E0 : StableHlo.launchContents m' c (Proc.tc.devRef Cert.ReferenceIdeal.main_arg0) = z0 m c := e0
  have E1 : StableHlo.launchContents m' c (Proc.tc.devRef Cert.ReferenceIdeal.main_arg1) = z1 m c := e1
  have E2 : StableHlo.launchContents m' c (Proc.tc.devRef Cert.ReferenceIdeal.main_arg2) = z2 m c := e2
  have E3 : StableHlo.launchContents m' c (Proc.tc.devRef Cert.ReferenceIdeal.main_arg3) = z3 m c := e3
  have E4 : StableHlo.launchContents m' c (Proc.tc.devRef Cert.ReferenceIdeal.main_arg4) = z4 m c := e4
  have E5 : StableHlo.launchContents m' c (Proc.tc.devRef Cert.ReferenceIdeal.main_arg5) = z5 m c := e5
  have E6 : StableHlo.launchContents m' c (Proc.tc.devRef Cert.ReferenceIdeal.main_arg6) = z6 m c := e6
  obtain ⟨h0, h1, h2, h3, h4, hargs⟩ := hr c
  refine ⟨h0.trans ((val_main_v118_eq _).trans ?_), h1.trans ((val_main_v119_eq _).trans ?_), h2.trans ((val_main_v103_eq _).trans ?_),
    h3.trans ((val_main_v94_eq _).trans ?_), h4.trans ((val_main_v60_eq _).trans ?_), hargs⟩
  all_goals rw [E0, E1, E2, E3, E4, E5, E6]

end FfnBwd
-- ==== Proof.WgradUp.lean ====
module

public import proofs.«01_k».proof.Defs
public import proofs.«01_k».proof.Proof.Gen.Kernel2Ideal.Frame
public import proofs.«01_k».proof.Proof.Gen.Reference2Ideal.Run
public import Idealize.ShloMosaic.Lib.Pipeline.ValueKit
public import Idealize.ShloMosaic.Lib.Claim

/-! The gradient of the up-projection's weight: the sum over eight blocks of tokens is the sum over all tokens. -/

@[expose] public section

set_option maxRecDepth 16384

noncomputable section

namespace WgradUp

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ) (c : Dev nD)

/-- The reference's result as a function of the two arguments. -/
abbrev REF (X0 : FVec Ideal S16384x1024 .f32) (X1 : FVec Ideal S16384x5632 .f32) : FVec Ideal S2x4x512x1408 .f32 :=
  transpose S2x4x512x1408 [0, 2, 1, 3] (shapeCast Cert.Reference2Ideal.S2x512x4x1408 (transpose Cert.Reference2Ideal.S1024x5632 [1, 0] (Host.dotGeneral Cert.Reference2Ideal.dot_S16384x5632_S16384x1024_S5632x1024_0_0_1_1_n_n none X1 X0) Cert.Reference2Ideal.Gen.transposes_S5632x1024_S1024x5632_1_0) Cert.Reference2Ideal.Gen.shapeCasts_S1024x5632_S2x512x4x1408) Cert.Reference2Ideal.Gen.transposes_S2x512x4x1408_S2x4x512x1408_0_2_1_3

/-- The block indices: the token block runs fastest, the chip's column block slowest. -/
theorem idx : ∀ t : Fin cfg0.N, win0_0.index t = ![t.val % 8, 0] ∧ win0_1.index t = ![t.val % 8, t.val / 8]
    ∧ win0_2.index t = ![0, t.val / 8, 0, 0] :=
  (by decide +kernel : ∀ t : Fin grid0.N, win0_0.index t = ![t.val % 8, 0] ∧ win0_1.index t = ![t.val % 8, t.val / 8]
    ∧ win0_2.index t = ![0, t.val / 8, 0, 0])

/-- The block is filled with zeros. -/
theorem hzero (j) : k0_pay1 (F := Ideal) j = 0 := by pointwise [k0_pay1]

/-- A token block's products, by elements of the result's block. -/
def part (a : FVec Ideal S2048x1024 .bf16) (b : FVec Ideal S2048x1408 .bf16) (y : S2x1x512x1408.Idx) : EReal :=
  ∑ k : Fin 2048, a (ix2 k ⟨(y 0).val * 512 + (y 2).val, by idx_bounds y; omega⟩) * b (ix2 k (y 3))

/-- A token block's products are added. -/
theorem hpay (a : FVec Ideal S2048x1024 .bf16) (b : FVec Ideal S2048x1408 .bf16) (acc : FVec Ideal S2x1x512x1408 .f32)
    (y : S2x1x512x1408.Idx) : k0_pay2 a b acc y = acc y + part a b y := by
  unfold part
  idx_vars y
  pointwise [k0_pay2]
  rw [Fin.eq_zero y1]

/-- The reference's result, by elements. -/
theorem href (X0 : FVec Ideal S16384x1024 .f32) (X1 : FVec Ideal S16384x5632 .f32) (h : Fin 2) (j : Fin 4) (r : Fin 512) (q : Fin 1408) :
    REF X0 X1 (ix4 h j r q) = ∑ l : Fin 16384, X0 (ix2 l ⟨h.val * 512 + r.val, by omega⟩) * X1 (ix2 l ⟨j.val * 1408 + q.val, by omega⟩) := by
  pointwise [REF]
  exact Finset.sum_congr rfl fun _ _ => mul_comm _ _

set_option maxHeartbeats 2000000 in
/-- The result array after the grid is the reference's result. -/
theorem final : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0)
    (fun t y => part (iblk m c 0 t) (iblk m c 1 t) y)
    (fun t h j => by rw [outsAt0_A m c t h]; frame_out; rw [hpay, hzero])
    (fun t h j => by rw [outsAt0_B m c t h]; frame_out; rw [hpay])
    t ((flush0_2 t).mp hf) _, zero_add]
  have hN := lt_of_lt_of_eq t.isLt N_0
  idx_vars y
  have e : (((View.whole main_v2).slice (win0_2.rect t)).emb (ix4 y0 y1 y2 y3)) = ix4 y0 (⟨t.val / 8, by omega⟩ : Fin 4) y2 y3 := by
    blk_ext [idx t]
  rw [e, href]
  unfold part
  refine Fin.sum_mul_add_congr fun s k hl => ?_
  blk_point [iblk, V, idx t, idx ⟨_, Pipeline.run_point_lt_of_flush t ((flush0_2 t).mp hf) s⟩]

/-- The kernel and the reference end with equal results. -/
theorem algebraic : Cert.algebraic_Kernel2Ideal_Reference2Ideal (hKernel2Ideal := Cert.Kernel2Ideal.Gen.facts)
    (hReference2Ideal := Cert.Reference2Ideal.Gen.facts) := by
  intro m g m' g' _ e
  refine ⟨fun c => REF (m ((c : Thread nD τ).loc main_arg0)) (m ((c : Thread nD τ).loc main_arg1)), ?_,
    (θ_run _ _ _).mono (fun r hr c => ?_) (Cert.Reference2Ideal.Value.run (F := Ideal) m' g')⟩
  · run_from Cert.Kernel2Ideal.Gen.run_main m g
    exact final m c
  · obtain ⟨e0, e1⟩ := e c
    obtain ⟨h0, hargs⟩ := hr c
    refine ⟨h0.trans ?_, hargs⟩
    rw [e0, e1]

end WgradUp

end
-- ==== Proof.WgradDown.lean ====
module

public import proofs.«01_k».proof.Defs
public import proofs.«01_k».proof.Proof.Gen.Kernel3Ideal.Frame
public import proofs.«01_k».proof.Proof.Pieces
public import proofs.«01_k».proof.Proof.Gen.Reference3Ideal.Run
public import Idealize.ShloMosaic.Lib.Pipeline.ValueKit
public import Idealize.ShloMosaic.Lib.Claim

/-! The gradient of the down-projection's weight: the sum over eight blocks of tokens is the sum over all tokens. -/

@[expose] public section

set_option maxRecDepth 16384

noncomputable section

namespace WgradDown

open Idealize.ShloMosaic Idealize.ShloMosaic.TcCoe Idealize.SL.Sem
open Idealize.ShloMosaic.Pipeline (Dat)
open Cert.Kernel3Ideal Cert.Kernel3Ideal.Gen
open Pieces

variable (m : (ℓ : Loc nD τ sig) → Buf (Elt Ideal) ℓ) (c : Dev nD)

/-- The reference's result as a function of the two arguments. -/
abbrev REF (X0 : FVec Ideal S16384x2816 .f32) (X1 : FVec Ideal S16384x1024 .f32) : FVec Ideal S2x4x352x1024 .f32 :=
  transpose S2x4x352x1024 [1, 0, 2, 3] (shapeCast Cert.Reference3Ideal.S4x2x352x1024 (transpose Cert.Reference3Ideal.S2816x1024 [1, 0] (Host.dotGeneral Cert.Reference3Ideal.dot_S16384x1024_S16384x2816_S1024x2816_0_0_1_1_n_n none X1 X0) Cert.Reference3Ideal.Gen.transposes_S1024x2816_S2816x1024_1_0) Cert.Reference3Ideal.Gen.shapeCasts_S2816x1024_S4x2x352x1024) Cert.Reference3Ideal.Gen.transposes_S4x2x352x1024_S2x4x352x1024_1_0_2_3

/-- The block indices: the token block runs fastest, the column block slowest. -/
theorem idx : ∀ t : Fin cfg0.N, win0_0.index t = ![t.val % 8, 0] ∧ win0_1.index t = ![t.val % 8, t.val / 8]
    ∧ win0_2.index t = ![0, 0, 0, t.val / 8] :=
  (by decide +kernel : ∀ t : Fin grid0.N, win0_0.index t = ![t.val % 8, 0] ∧ win0_1.index t = ![t.val % 8, t.val / 8]
    ∧ win0_2.index t = ![0, 0, 0, t.val / 8])

/-- The block is filled with zeros. -/
theorem hzero (j) : k0_pay3 (F := Ideal) j = 0 := by pointwise [k0_pay3]

/-- A token block's products, by elements of the result's block. -/
def part (a : FVec Ideal S2048x2816 .bf16) (b : FVec Ideal S2048x512 .f32) (y : S2x4x352x512.Idx) : EReal :=
  ∑ k : Fin 2048, a (ix2 k ⟨(2 * (y 1).val + (y 0).val) * 352 + (y 2).val, by idx_bounds y; omega⟩) * b (ix2 k (y 3))

/-- The reference's result, by elements. -/
theorem href (X0 : FVec Ideal S16384x2816 .f32) (X1 : FVec Ideal S16384x1024 .f32) (h : Fin 2) (j : Fin 4) (r : Fin 352) (q : Fin 1024) :
    REF X0 X1 (ix4 h j r q) = ∑ l : Fin 16384, X0 (ix2 l ⟨(2 * j.val + h.val) * 352 + r.val, by omega⟩) * X1 (ix2 l q) := by
  pointwise [REF]
  refine Finset.sum_congr rfl fun l _ => ?_
  rw [mul_comm]
  refine congrArg (fun i => X0 (ix2 l i) * X1 (ix2 l q)) (Fin.ext ?_)
  show j.val * 704 + h.val * 352 + r.val = (2 * j.val + h.val) * 352 + r.val
  omega

/-- One entry of a token block's product. -/
def prod (a : FVec Ideal S2048x2816 .bf16) (b : FVec Ideal S2048x512 .f32) (R : Fin 2816) (q : Fin 512) : EReal :=
  ∑ k : Fin 2048, a (ix2 k R) * b (ix2 k q)

/-- What a point leaves: what it found and its products. -/
def G (a : FVec Ideal S2048x2816 .bf16) (b : FVec Ideal S2048x512 .f32) (X : FVec Ideal S2x4x352x512 .f32) : FVec Ideal S2x4x352x512 .f32 :=
  fun y => X y + part a b y

section
variable (a : FVec Ideal S2048x2816 .bf16) (b : FVec Ideal S2048x512 .f32) (ld : FVec Ideal S1x1x352x512 .f32)

/-- The rows from 2464 of the product, added to a tile. -/
theorem q2 (r : Fin 352) (q : Fin 512) : (k0_pay2 (F := Ideal) (k0_pay4 a b) ld) (ix4 0 0 r q) = ld (ix4 0 0 r q) + prod a b ⟨2464 + r.val, by omega⟩ q := by
  unfold prod; pointwise [k0_pay2, k0_pay4]

/-- The rows from 2112 of the product, added to a tile. -/
theorem q1 (r : Fin 352) (q : Fin 512) : (k0_pay1 (F := Ideal) (k0_pay4 a b) (k0_pay12 ld)) (ix4 0 0 r q) = ld (ix4 0 0 r q) + prod a b ⟨2112 + r.val, by omega⟩ q := by
  unfold prod; pointwise [k0_pay1, k0_pay12, k0_pay4]

/-- The rows from 1760 of the product, added to a tile. -/
theorem q11 (r : Fin 352) (q : Fin 512) : (k0_pay11 (F := Ideal) (k0_pay4 a b) ld) (ix4 0 0 r q) = ld (ix4 0 0 r q) + prod a b ⟨1760 + r.val, by omega⟩ q := by
  unfold prod; pointwise [k0_pay11, k0_pay4]

/-- The rows from 1408 of the product, added to a tile. -/
theorem q10 (r : Fin 352) (q : Fin 512) : (k0_pay10 (F := Ideal) (k0_pay4 a b) ld) (ix4 0 0 r q) = ld (ix4 0 0 r q) + prod a b ⟨1408 + r.val, by omega⟩ q := by
  unfold prod; pointwise [k0_pay10, k0_pay4]

/-- The rows from 1056 of the product, added to a tile. -/
theorem q9 (r : Fin 352) (q : Fin 512) : (k0_pay9 (F := Ideal) (k0_pay4 a b) ld) (ix4 0 0 r q) = ld (ix4 0 0 r q) + prod a b ⟨1056 + r.val, by omega⟩ q := by
  unfold prod; pointwise [k0_pay9, k0_pay4]

/-- The rows from 704 of the product, added to a tile. -/
theorem q8 (r : Fin 352) (q : Fin 512) : (k0_pay8 (F := Ideal) (k0_pay7 a b ld)) (ix4 0 0 r q) = ld (ix4 0 0 r q) + prod a b ⟨704 + r.val, by omega⟩ q := by
  unfold prod; pointwise [k0_pay8, k0_pay7, k0_pay4]

/-- The rows from 352 of the product, added to a tile. -/
theorem q6 (r : Fin 352) (q : Fin 512) : (k0_pay6 (F := Ideal) a b ld) (ix4 0 0 r q) = ld (ix4 0 0 r q) + prod a b ⟨352 + r.val, by omega⟩ q := by
  unfold prod; pointwise [k0_pay6, k0_pay4]

/-- The rows from 0 of the product, added to a tile. -/
theorem q5 (r : Fin 352) (q : Fin 512) : (k0_pay5 (F := Ideal) a b ld) (ix4 0 0 r q) = ld (ix4 0 0 r q) + prod a b ⟨0 + r.val, by omega⟩ q := by
  unfold prod; pointwise [k0_pay5, k0_pay4]
end

/-- A stored tile is the tile found with its products added. -/
theorem fit {a2 : Memref sig .tc .vmem S2048x2816 .bf16} (h2 : a2.IsWhole) {a3 : Memref sig .tc .vmem S2048x512 .f32} (h3 : a3.IsWhole)
    {x0 : FVec Ideal S2048x2816 .bf16} {x1 : FVec Ideal S2048x512 .f32}
    {h j o : ℕ} (hh : h < 2) (hj : j < 4) (ho : (2 * j + h) * 352 = o) (i2 : ∀ a, (![0, 0] : Fin 2 → Nat) a + S2048x2816.size a ≤ S2048x2816.size a)
    (i3 : ∀ a, (![0, 0] : Fin 2 → Nat) a + S2048x512.size a ≤ S2048x512.size a)
    (P ld : FVec Ideal S1x1x352x512 .f32) (ACC : FVec Ideal S2x4x352x512 .f32)
    (hP : ∀ (r : Fin 352) (q : Fin 512), P (ix4 0 0 r q) = ld (ix4 0 0 r q) +
      prod (View.readAt (Elt Ideal) a2.view (Rect.unit (s := S2048x2816) ![0, 0] S2048x2816.size i2).toLoadRect (h2.unread x0))
        (View.readAt (Elt Ideal) a3.view (Rect.unit (s := S2048x512) ![0, 0] S2048x512.size i3).toLoadRect (h3.unread x1)) ⟨o + r.val, by omega⟩ q)
    (hld : ∀ (r : Fin 352) (q : Fin 512), ld (ix4 0 0 r q) = ACC (ix4 ⟨h, hh⟩ ⟨j, hj⟩ r q))
    (i : ∀ a, (![h, j, 0, 0] : Fin 4 → Nat) a + S1x1x352x512.size a ≤ S2x4x352x512.size a) (w : S1x1x352x512.Idx) :
    P w = G x0 x1 ACC ((Rect.unit (s := S2x4x352x512) ![h, j, 0, 0] S1x1x352x512.size i).emb w) := by
  idx_vars w
  obtain rfl : w0 = 0 := Subsingleton.elim _ _
  obtain rfl : w1 = 0 := Subsingleton.elim _ _
  have hi : (Rect.unit (s := S2x4x352x512) ![h, j, 0, 0] S1x1x352x512.size i).emb (ix4 0 0 w2 w3) = ix4 ⟨h, hh⟩ ⟨j, hj⟩ w2 w3 := by
    idx_ext
  subst ho
  rw [hi, hP, hld]
  refine congrArg (ACC (ix4 ⟨h, hh⟩ ⟨j, hj⟩ w2 w3) + ·) (Finset.sum_congr rfl fun k _ => congrArg₂ (· * ·) ?_ ?_)
  · exact readAt_whole h2 x0 (Rect.unit (s := S2048x2816) ![0, 0] S2048x2816.size i2).toLoadRect (ix2 k ⟨(2 * j + h) * 352 + w2.val, by omega⟩) (ix2 k ⟨(2 * j + h) * 352 + w2.val, by omega⟩) (by idx_ext)
  · exact readAt_whole h3 x1 (Rect.unit (s := S2048x512) ![0, 0] S2048x512.size i3).toLoadRect (ix2 k w3) (ix2 k w3) (by idx_ext)

/-- A tile of a buffer, loaded. -/
theorem tile {a4 : Memref sig .tc .vmem S2x4x352x512 .f32} (h4 : a4.IsWhole) (xo : FVec Ideal S2x4x352x512 .f32) {h j : ℕ} (hh : h < 2) (hj : j < 4)
    (i : ∀ a, (![h, j, 0, 0] : Fin 4 → Nat) a + S1x1x352x512.size a ≤ S2x4x352x512.size a) (r : Fin 352) (q : Fin 512) :
    View.readAt (Elt Ideal) a4.view (Rect.unit (s := S2x4x352x512) ![h, j, 0, 0] S1x1x352x512.size i).toLoadRect (h4.unread xo) (ix4 0 0 r q) =
      xo (ix4 ⟨h, hh⟩ ⟨j, hj⟩ r q) :=
  readAt_whole h4 xo (Rect.unit (s := S2x4x352x512) ![h, j, 0, 0] S1x1x352x512.size i).toLoadRect (ix4 0 0 r q) (ix4 ⟨h, hh⟩ ⟨j, hj⟩ r q) (by idx_ext)

/-- A rectangle at the origin of the whole shape holds every element. -/
theorem whole4 (i : ∀ a, (![0, 0, 0, 0] : Fin 4 → Nat) a + S2x4x352x512.size a ≤ S2x4x352x512.size a) (y : S2x4x352x512.Idx) :
    y ∈ (Rect.unit (s := S2x4x352x512) ![0, 0, 0, 0] S2x4x352x512.size i).set := by
  refine Rect.mem_set_unit.2 fun a => ?_
  have h2 : (y a).val < S2x4x352x512.size a := (y a).2
  have h0 : (![0, 0, 0, 0] : Fin 4 → ℕ) a = 0 := by fin_cases a <;> rfl
  exact ⟨by omega, by omega⟩

/-- A tile read before it was stored holds zeros. -/
theorem zeroT {v : View sig .tc .vmem S2x4x352x512 .f32} {L : List (View.Piece (Elt Ideal) S2x4x352x512 .f32)} {h j : ℕ}
    {i0 : ∀ a, (![0, 0, 0, 0] : Fin 4 → Nat) a + S2x4x352x512.size a ≤ S2x4x352x512.size a}
    (i : ∀ a, (![h, j, 0, 0] : Fin 4 → Nat) a + S1x1x352x512.size a ≤ S2x4x352x512.size a)
    (hL : L = L.dropLast ++ [⟨Rect.unit (s := S2x4x352x512) ![0, 0, 0, 0] S2x4x352x512.size i0, k0_pay3 (F := Ideal)⟩])
    (hm : missL (s := S2x4x352x512) ![h, j, 0, 0] ![1, 1, 352, 512] L.dropLast = true) (x : S1x1x352x512.Idx) :
    View.readCov v L (Rect.unit (s := S2x4x352x512) ![h, j, 0, 0] S1x1x352x512.size i).toLoadRect x = (0 : EReal) := by
  refine readCov_first v L _ _ _ hzero hL (whole4 i0) ![h, j, 0, 0] ![1, 1, 352, 512] hm (Rect.unit (s := S2x4x352x512) ![h, j, 0, 0] S1x1x352x512.size i).toLoadRect x ?_
  intro a
  have e : ((Rect.unit (s := S2x4x352x512) ![h, j, 0, 0] S1x1x352x512.size i).toLoadRect.idx x a).val = (![h, j, 0, 0] : Fin 4 → ℕ) a + 1 * (x a).val := rfl
  have e2 : (x a).val < (![1, 1, 352, 512] : Fin 4 → ℕ) a := (x a).2
  omega

section
variable (i : grid0.Coords) (a2 : Memref sig .tc .vmem S2048x2816 .bf16) (h2 : a2.IsWhole) (a3 : Memref sig .tc .vmem S2048x512 .f32) (h3 : a3.IsWhole)
  (a4 : Memref sig .tc .vmem S2x4x352x512 .f32) (h4 : a4.IsWhole)
  (x0 : FVec Ideal S2048x2816 .bf16) (x1 : FVec Ideal S2048x512 .f32) (xo : FVec Ideal S2x4x352x512 .f32)

section
variable (hc : cond0_0 i)

set_option maxHeartbeats 4000000 in
/-- The tiles stored at the first block of tokens. -/
theorem pA : ∀ p ∈ (kernelRun0_A (F := Ideal) c i a2 h2 a3 h3 a4 h4 hc x0 x1).1.dropLast, ∀ x : p.1.shape.Idx, p.2 x = G x0 x1 (fun _ => (0 : EReal)) (p.1.emb x) := by
  refine List.forall_mem_cons.2 ⟨?_, ?_⟩
  · exact fun w => fit h2 h3 (h := 1) (j := 3) (by decide) (by decide) (o := 2464) rfl _ _ _ _ (fun _ => (0 : EReal)) (fun r q => q2 _ _ _ r q) (fun r q => zeroT (h := 1) (j := 3) (by decide) (by rfl) (by sl_kernel_rfl) (ix4 0 0 r q)) inb_S2x4x352x512_S1x1x352x512_1_3_0_0 w
  refine List.forall_mem_cons.2 ⟨?_, ?_⟩
  · exact fun w => fit h2 h3 (h := 0) (j := 3) (by decide) (by decide) (o := 2112) rfl _ _ _ _ (fun _ => (0 : EReal)) (fun r q => q1 _ _ _ r q) (fun r q => zeroT (h := 0) (j := 3) (by decide) (by rfl) (by sl_kernel_rfl) (ix4 0 0 r q)) inb_S2x4x352x512_S1x1x352x512_0_3_0_0 w
  refine List.forall_mem_cons.2 ⟨?_, ?_⟩
  · exact fun w => fit h2 h3 (h := 1) (j := 2) (by decide) (by decide) (o := 1760) rfl _ _ _ _ (fun _ => (0 : EReal)) (fun r q => q11 _ _ _ r q) (fun r q => zeroT (h := 1) (j := 2) (by decide) (by rfl) (by sl_kernel_rfl) (ix4 0 0 r q)) inb_S2x4x352x512_S1x1x352x512_1_2_0_0 w
  refine List.forall_mem_cons.2 ⟨?_, ?_⟩
  · exact fun w => fit h2 h3 (h := 0) (j := 2) (by decide) (by decide) (o := 1408) rfl _ _ _ _ (fun _ => (0 : EReal)) (fun r q => q10 _ _ _ r q) (fun r q => zeroT (h := 0) (j := 2) (by decide) (by rfl) (by sl_kernel_rfl) (ix4 0 0 r q)) inb_S2x4x352x512_S1x1x352x512_0_2_0_0 w
  refine List.forall_mem_cons.2 ⟨?_, ?_⟩
  · exact fun w => fit h2 h3 (h := 1) (j := 1) (by decide) (by decide) (o := 1056) rfl _ _ _ _ (fun _ => (0 : EReal)) (fun r q => q9 _ _ _ r q) (fun r q => zeroT (h := 1) (j := 1) (by decide) (by rfl) (by sl_kernel_rfl) (ix4 0 0 r q)) inb_S2x4x352x512_S1x1x352x512_1_1_0_0 w
  refine List.forall_mem_cons.2 ⟨?_, ?_⟩
  · exact fun w => fit h2 h3 (h := 0) (j := 1) (by decide) (by decide) (o := 704) rfl _ _ _ _ (fun _ => (0 : EReal)) (fun r q => q8 _ _ _ r q) (fun r q => zeroT (h := 0) (j := 1) (by decide) (by rfl) (by sl_kernel_rfl) (ix4 0 0 r q)) inb_S2x4x352x512_S1x1x352x512_0_1_0_0 w
  refine List.forall_mem_cons.2 ⟨?_, ?_⟩
  · exact fun w => fit h2 h3 (h := 1) (j := 0) (by decide) (by decide) (o := 352) rfl _ _ _ _ (fun _ => (0 : EReal)) (fun r q => q6 _ _ _ r q) (fun r q => zeroT (h := 1) (j := 0) (by decide) (by rfl) (by sl_kernel_rfl) (ix4 0 0 r q)) inb_S2x4x352x512_S1x1x352x512_1_0_0_0 w
  refine List.forall_mem_cons.2 ⟨?_, ?_⟩
  · exact fun w => fit h2 h3 (h := 0) (j := 0) (by decide) (by decide) (o := 0) rfl _ _ _ _ (fun _ => (0 : EReal)) (fun r q => q5 _ _ _ r q) (fun r q => zeroT (h := 0) (j := 0) (by decide) (by rfl) (by sl_kernel_rfl) (ix4 0 0 r q)) inb_S2x4x352x512_S1x1x352x512_0_0_0_0 w
  · exact List.forall_mem_nil _

/-- The first block of tokens leaves its products. -/
theorem oA : out0_A_2 (F := Ideal) c i a2 h2 a3 h3 a4 h4 hc x0 x1 = G x0 x1 (fun _ => (0 : EReal)) := by
  funext y
  unfold out0_A_2
  have e : (kernelRun0_A (F := Ideal) c i a2 h2 a3 h3 a4 h4 hc x0 x1).1 = (kernelRun0_A (F := Ideal) c i a2 h2 a3 h3 a4 h4 hc x0 x1).1.dropLast ++ [(kernelRun0_A (F := Ideal) c i a2 h2 a3 h3 a4 h4 hc x0 x1).1.getLast (List.cons_ne_nil _ _)] := (List.dropLast_append_getLast _).symm
  rw [e]
  exact read_pieces_append _ _ _ _ _ (pA c i a2 h2 a3 h3 a4 h4 x0 x1 hc) (View.cover_of_tiledL _ S1x1x352x512.size (by sl_kernel_rfl)) y
end

section
variable (hc : ¬cond0_0 i)

set_option maxHeartbeats 4000000 in
/-- The tiles stored at a later block of tokens. -/
theorem pB : ∀ p ∈ (kernelRun0_B (F := Ideal) c i a2 h2 a3 h3 a4 h4 hc x0 x1 xo).1, ∀ x : p.1.shape.Idx, p.2 x = G x0 x1 xo (p.1.emb x) := by
  refine List.forall_mem_cons.2 ⟨?_, ?_⟩
  · exact fun w => fit h2 h3 (h := 1) (j := 3) (by decide) (by decide) (o := 2464) rfl _ _ _ _ xo (fun r q => q2 _ _ _ r q) (fun r q => tile h4 xo (by decide) (by decide) inb_S2x4x352x512_S1x1x352x512_1_3_0_0 r q) inb_S2x4x352x512_S1x1x352x512_1_3_0_0 w
  refine List.forall_mem_cons.2 ⟨?_, ?_⟩
  · exact fun w => fit h2 h3 (h := 0) (j := 3) (by decide) (by decide) (o := 2112) rfl _ _ _ _ xo (fun r q => q1 _ _ _ r q) (fun r q => tile h4 xo (by decide) (by decide) inb_S2x4x352x512_S1x1x352x512_0_3_0_0 r q) inb_S2x4x352x512_S1x1x352x512_0_3_0_0 w
  refine List.forall_mem_cons.2 ⟨?_, ?_⟩
  · exact fun w => fit h2 h3 (h := 1) (j := 2) (by decide) (by decide) (o := 1760) rfl _ _ _ _ xo (fun r q => q11 _ _ _ r q) (fun r q => tile h4 xo (by decide) (by decide) inb_S2x4x352x512_S1x1x352x512_1_2_0_0 r q) inb_S2x4x352x512_S1x1x352x512_1_2_0_0 w
  refine List.forall_mem_cons.2 ⟨?_, ?_⟩
  · exact fun w => fit h2 h3 (h := 0) (j := 2) (by decide) (by decide) (o := 1408) rfl _ _ _ _ xo (fun r q => q10 _ _ _ r q) (fun r q => tile h4 xo (by decide) (by decide) inb_S2x4x352x512_S1x1x352x512_0_2_0_0 r q) inb_S2x4x352x512_S1x1x352x512_0_2_0_0 w
  refine List.forall_mem_cons.2 ⟨?_, ?_⟩
  · exact fun w => fit h2 h3 (h := 1) (j := 1) (by decide) (by decide) (o := 1056) rfl _ _ _ _ xo (fun r q => q9 _ _ _ r q) (fun r q => tile h4 xo (by decide) (by decide) inb_S2x4x352x512_S1x1x352x512_1_1_0_0 r q) inb_S2x4x352x512_S1x1x352x512_1_1_0_0 w
  refine List.forall_mem_cons.2 ⟨?_, ?_⟩
  · exact fun w => fit h2 h3 (h := 0) (j := 1) (by decide) (by decide) (o := 704) rfl _ _ _ _ xo (fun r q => q8 _ _ _ r q) (fun r q => tile h4 xo (by decide) (by decide) inb_S2x4x352x512_S1x1x352x512_0_1_0_0 r q) inb_S2x4x352x512_S1x1x352x512_0_1_0_0 w
  refine List.forall_mem_cons.2 ⟨?_, ?_⟩
  · exact fun w => fit h2 h3 (h := 1) (j := 0) (by decide) (by decide) (o := 352) rfl _ _ _ _ xo (fun r q => q6 _ _ _ r q) (fun r q => tile h4 xo (by decide) (by decide) inb_S2x4x352x512_S1x1x352x512_1_0_0_0 r q) inb_S2x4x352x512_S1x1x352x512_1_0_0_0 w
  refine List.forall_mem_cons.2 ⟨?_, ?_⟩
  · exact fun w => fit h2 h3 (h := 0) (j := 0) (by decide) (by decide) (o := 0) rfl _ _ _ _ xo (fun r q => q5 _ _ _ r q) (fun r q => tile h4 xo (by decide) (by decide) inb_S2x4x352x512_S1x1x352x512_0_0_0_0 r q) inb_S2x4x352x512_S1x1x352x512_0_0_0_0 w
  · exact List.forall_mem_nil _

/-- A later block of tokens adds its products. -/
theorem oB : out0_B_2 (F := Ideal) c i a2 h2 a3 h3 a4 h4 hc x0 x1 xo = G x0 x1 xo := by
  funext y
  unfold out0_B_2
  have hc' : ∀ y, ∃ p ∈ (kernelRun0_B (F := Ideal) c i a2 h2 a3 h3 a4 h4 hc x0 x1 xo).1, y ∈ p.1.set := View.cover_of_tiledL _ S1x1x352x512.size (by sl_kernel_rfl)
  have hp := pB c i a2 h2 a3 h3 a4 h4 x0 x1 xo hc
  generalize (kernelRun0_B (F := Ideal) c i a2 h2 a3 h3 a4 h4 hc x0 x1 xo).1 = L at hc' hp ⊢
  exact View.read_writes_apply_of_pieces _ _ (G x0 x1 xo) L hp y (hc' y)
end
end

/-- The call's result is the reference's. -/
theorem final : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0)
    (fun t y => part (iblk m c 0 t) (iblk m c 1 t) y)
    (fun t h j => by rw [outsAt0_A m c t h, oA]; rfl)
    (fun t h j => by rw [outsAt0_B m c t h, oB]; rfl)
    t ((flush0_2 t).mp hf) _, zero_add]
  have hN := lt_of_lt_of_eq t.isLt N_0
  idx_vars y
  have e : (((View.whole main_v1).slice (win0_2.rect t)).emb (ix4 y0 y1 y2 y3)) = ix4 y0 y1 y2 (⟨t.val / 8 * 512 + y3.val, by omega⟩ : Fin 1024) := by
    blk_ext [idx t]
  rw [e, href]
  unfold part
  refine Fin.sum_mul_add_congr fun s k hl => ?_
  blk_point [iblk, V, idx t, idx ⟨_, Pipeline.run_point_lt_of_flush t ((flush0_2 t).mp hf) s⟩]

/-- The two runs end with the same weight gradient. -/
theorem algebraic : Cert.algebraic_Kernel3Ideal_Reference3Ideal (hKernel3Ideal := Cert.Kernel3Ideal.Gen.facts) (hReference3Ideal := Cert.Reference3Ideal.Gen.facts) := by
  intro m g m' g' _ e
  refine ⟨fun c => REF (m ((c : Thread nD τ).loc main_arg0)) (m ((c : Thread nD τ).loc main_arg1)), ?_,
    (θ_run _ _ _).mono (fun r hr c => ?_) (Cert.Reference3Ideal.Value.run (F := Ideal) m' g')⟩
  · run_from Cert.Kernel3Ideal.Gen.run_main m g
    exact final m c
  · obtain ⟨e0, e1⟩ := e c
    obtain ⟨h0, hargs⟩ := hr c
    refine ⟨h0.trans ?_, hargs⟩
    rw [e0, e1]

end WgradDown

end
-- ==== Proof.Norm.lean ====
module

public import proofs.«01_k».proof.Proof.Reals

/-! The norm's gradient over the extended reals. -/

@[expose] public section

noncomputable section

namespace FfnBwd

open Idealize.ShloMosaic

/-- A square is not negative. -/
theorem sq_nonneg (a : EReal) : 0 ≤ a * a := by
  induction a with
  | bot => simp
  | top => simp
  | coe r => rw [← EReal.coe_mul]; exact EReal.coe_nonneg.2 (mul_self_nonneg r)

/-- A mean square with the small constant is a positive real number or infinite. -/
theorem ms_cases (x : Fin 1024 → EReal) :
    (∃ w : ℝ, 0 < w ∧ Ideal.div (∑ d : Fin 1024, x d * x d) cD + eps = (w : EReal)) ∨ Ideal.div (∑ d : Fin 1024, x d * x d) cD + eps = ⊤ := by
  obtain ⟨e, he, hE⟩ := eps_pos
  have h : 0 ≤ ∑ d : Fin 1024, x d * x d := Finset.sum_nonneg fun d _ => sq_nonneg _
  rw [hE, cD_eq, Ideal.div_coe (by norm_num)]
  generalize ∑ d : Fin 1024, x d * x d = T at h ⊢
  induction T with
  | bot => exact absurd h (by simp)
  | top =>
    right
    rw [EReal.top_mul_coe_of_pos (by norm_num)]
    rfl
  | coe r =>
    left
    have hr : 0 ≤ r := EReal.coe_nonneg.1 h
    refine ⟨r * (1 / 1024 : ℝ) + e, by positivity, ?_⟩
    rw [EReal.coe_add, EReal.coe_mul]

/-- The reciprocal root is a real number that is not negative, and over its argument it is its cube. -/
theorem root_cases (x : Fin 1024 → EReal) {v r : EReal} (hv : v = Ideal.div (∑ d : Fin 1024, x d * x d) cD + eps) (hr : r = Ideal.rsqrt v) :
    ∃ q : ℝ, 0 ≤ q ∧ r = (q : EReal) ∧ Ideal.div r v = ((q * q * q : ℝ) : EReal) := by
  rcases ms_cases x with ⟨w, hw, h⟩ | h
  · rw [← hv] at h
    subst h
    have e : Ideal.rsqrt (w : EReal) = (((Real.sqrt w)⁻¹ : ℝ) : EReal) := by
      show (if w < 0 then ⊥ else if w = 0 then ⊤ else (((Real.sqrt w)⁻¹ : ℝ) : EReal)) = _
      rw [if_neg hw.le.not_gt, if_neg hw.ne']
    refine ⟨(Real.sqrt w)⁻¹, by positivity, hr.trans e, ?_⟩
    rw [hr, e, Ideal.div_coe hw.ne', ← EReal.coe_mul]
    congr 1
    have hs : Real.sqrt w * Real.sqrt w = w := Real.mul_self_sqrt hw.le
    have hs0 : Real.sqrt w ≠ 0 := (Real.sqrt_pos.2 hw).ne'
    generalize Real.sqrt w = q at *
    subst hs
    field_simp
  · rw [← hv] at h
    subst h
    have e : r = 0 := hr
    refine ⟨0, le_rfl, by rw [e]; rfl, ?_⟩
    rw [e]
    unfold Ideal.div
    rw [if_neg (by simp)]
    simp

/-- A factor that is a real number and not negative goes into a sum. -/
theorem coe_mul_add {q : ℝ} (hq : 0 ≤ q) (a b : EReal) : (q : EReal) * (a + b) = q * a + q * b :=
  EReal.left_distrib_of_nonneg_of_ne_top (EReal.coe_nonneg.2 hq) (EReal.coe_ne_top q) a b

/-- A factor that is a real number and not negative goes into a sum of many. -/
theorem coe_mul_sum {q : ℝ} (hq : 0 ≤ q) {n : ℕ} (f : Fin n → EReal) : (q : EReal) * ∑ i, f i = ∑ i, (q : EReal) * f i := by
  induction n with
  | zero => simp
  | succ n ih => rw [Fin.sum_univ_succ, Fin.sum_univ_succ, coe_mul_add hq, ih]

/-- Two halves of a negative are the negative. -/
theorem neg_halves (A : EReal) : ((-(1 / 2) : ℝ) : EReal) * A + ((-(1 / 2) : ℝ) : EReal) * A = -A := by
  induction A with
  | bot => rw [EReal.coe_mul_bot_of_neg (by norm_num)]; rfl
  | top => rw [EReal.coe_mul_top_of_neg (by norm_num)]; rfl
  | coe r =>
    rw [← EReal.coe_mul, ← EReal.coe_add, ← EReal.coe_neg]
    congr 1
    ring

/-- The two spellings of the norm's gradient agree at all extended reals. -/
theorem norm_all (x dy : Fin 1024 → EReal) (ct : EReal) (d : Fin 1024) {v r : EReal}
    (hv : v = Ideal.div (∑ d : Fin 1024, x d * x d) cD + eps) (hr : r = Ideal.rsqrt v) :
    ct + r * (dy d - x d * r * Ideal.div (∑ e : Fin 1024, dy e * (x e * r)) cD)
      = ct + ((dy d * r + x d * Ideal.div ((∑ e : Fin 1024, x e * dy e) * (Ideal.ofBits FTy.f32 3204448256#32 * Ideal.div r v)) cD)
        + Ideal.div ((∑ e : Fin 1024, x e * dy e) * (Ideal.ofBits FTy.f32 3204448256#32 * Ideal.div r v)) cD * x d) := by
  obtain ⟨q, hq, e1, e2⟩ := root_cases x hv hr
  rw [e2, e1, nhalf_eq, cD_eq]
  have e3 : ∑ e : Fin 1024, dy e * (x e * (q : EReal)) = (q : EReal) * ∑ e : Fin 1024, x e * dy e := by
    rw [coe_mul_sum hq]
    exact Finset.sum_congr rfl fun e _ => by ac_rfl
  rw [e3]
  simp only [Ideal.div_coe (show (1024 : ℝ) ≠ 0 by norm_num)]
  generalize (∑ e : Fin 1024, x e * dy e) = T
  rw [sub_eq_add_neg, coe_mul_add hq, EReal.coe_mul (q * q), EReal.coe_mul q q, mul_neg]
  generalize (1 / 1024 : ℝ) = k
  have h1 : (q : EReal) * (x d * q * (q * T * (k : EReal))) = x d * T * (q * q * q * k) := by ac_rfl
  have h2 : x d * (T * (((-(1 / 2) : ℝ) : EReal) * (q * q * q)) * (k : EReal)) = ((-(1 / 2) : ℝ) : EReal) * (x d * T * (q * q * q * k)) := by ac_rfl
  have h3 : T * (((-(1 / 2) : ℝ) : EReal) * (q * q * q)) * (k : EReal) * x d = ((-(1 / 2) : ℝ) : EReal) * (x d * T * (q * q * q * k)) := by ac_rfl
  rw [h1, h2, h3, add_assoc, neg_halves, mul_comm (q : EReal) (dy d)]

end FfnBwd
-- ==== Proof.QkvBwd.lean ====
module

public import proofs.«01_k».proof.Proof.Norm
public import proofs.«01_k».proof.Defs
public import proofs.«01_k».proof.Proof.Pieces
public import proofs.«01_k».proof.Proof.Gen.Kernel4Ideal.Frame
public import proofs.«01_k».proof.Proof.Gen.Reference4Ideal.Run
public import proofs.«01_k».proof.Proof.Gen.Reference4Ideal.Read
public import Idealize.ShloMosaic.Lib.Pipeline.ValueKit
public import Idealize.ShloMosaic.Lib.Claim

/-! The backward pass of attention's input projection and of the norm before it. -/

@[expose] public section

set_option maxRecDepth 16384

noncomputable section

namespace QkvBwd

open Idealize.ShloMosaic Idealize.ShloMosaic.TcCoe Idealize.SL.Sem
open Idealize.ShloMosaic.Pipeline (Dat)
open Cert.Kernel4Ideal Cert.Kernel4Ideal.Gen
open Pieces
open FfnBwd (cD eps gRX)

/-- The row of the arrays the block of point `t` holds at `r`. -/
def row (t : Fin 16) (r : Fin 1024) : Fin 16384 := ⟨t.val * 1024 + r.val, by omega⟩

/-- The rows of all points, eight partial sums of 128 rows each, are all rows. -/
theorem sum_rows (f : Fin 16384 → EReal) :
    ∑ r : Fin 8, ∑ t : Fin 16, ∑ q : Fin 128, f (row t ⟨q.val * 8 + r.val, by omega⟩) = ∑ s : Fin 16384, f s := by
  let e : (Fin 8 × Fin 16 × Fin 128) ≃ Fin 16384 :=
    { toFun := fun p => row p.2.1 ⟨p.2.2.val * 8 + p.1.val, by omega⟩
      invFun := fun s => (⟨s.val % 8, by omega⟩, ⟨s.val / 1024, by omega⟩, ⟨s.val % 1024 / 8, by omega⟩)
      left_inv := by
        rintro ⟨r, t, q⟩
        unfold row
        ext <;> dsimp only <;> omega
      right_inv := by
        intro s
        unfold row
        ext
        dsimp only
        omega }
  rw [← e.sum_comp, Fintype.sum_prod_type]
  refine Finset.sum_congr rfl fun r _ => ?_
  rw [Fintype.sum_prod_type]
  rfl

section
variable (X : Fin 16384 → Fin 1024 → EReal) (GN : Fin 1024 → EReal) (W : Fin 1024 → Fin 1280 → EReal)
  (DQ : Fin 16384 → Fin 1024 → EReal) (DKV : Fin 16384 → Fin 256 → EReal) (RES : Fin 16384 → Fin 1024 → EReal)

/-- The gradient of the projection's result: the queries', then the keys' and values'. -/
def gB (s : Fin 16384) (e : Fin 1280) : EReal := if h : e.val < 1024 then DQ s ⟨e.val, h⟩ else DKV s ⟨e.val - 1024, by omega⟩
/-- The gradient of the normed input. -/
def gDH (s : Fin 16384) (d : Fin 1024) : EReal :=
  ∑ e : Fin 1024, DQ s e * W d ⟨e.val, by omega⟩ + ∑ e : Fin 256, DKV s e * W d ⟨1024 + e.val, by omega⟩
/-- The gradient of the input. -/
def gDX (s : Fin 16384) (d : Fin 1024) : EReal :=
  RES s d + gRX X s * (gDH W DQ DKV s d * GN d - X s d * gRX X s *
    Ideal.div (∑ e : Fin 1024, gDH W DQ DKV s e * GN e * (X s e * gRX X s)) cD)
end

section
variable {X : Fin 16384 → Fin 1024 → EReal} {GN : Fin 1024 → EReal} {W : Fin 1024 → Fin 1280 → EReal}
  {DQ : Fin 16384 → Fin 1024 → EReal} {DKV : Fin 16384 → Fin 256 → EReal} {RES : Fin 16384 → Fin 1024 → EReal} {t : Fin 16}
variable {x0 : FVec Ideal S1024x1024 .bf16} (h0 : ∀ r e, x0 (ix2 r e) = DQ (row t r) e)
  {x1 : FVec Ideal S1024x256 .f32} (h1 : ∀ r e, x1 (ix2 r e) = DKV (row t r) e)
  {x2 : FVec Ideal S1024x1024 .f32} (h2 : ∀ r d, x2 (ix2 r d) = X (row t r) d)
  {x3 : FVec Ideal S1x1024 .f32} (h3 : ∀ d, x3 (ix2 0 d) = GN d)
  {w1 : FVec Ideal S1024x1024 .bf16} (k1 : ∀ (e : Fin 1024) d, w1 (ix2 e d) = W d ⟨e.val, by omega⟩)
  {w2 : FVec Ideal S256x1024 .bf16} (k2 : ∀ (e : Fin 256) d, w2 (ix2 e d) = W d ⟨1024 + e.val, by omega⟩)
  {x5 : FVec Ideal S1024x1024 .f32} (h5 : ∀ r d, x5 (ix2 r d) = RES (row t r) d)

include h0 h1 k1 k2 in
/-- A block of the gradient of the normed input. -/
theorem p9 (r d) : k0_pay9 (F := Ideal) x0 x1 w1 w2 (ix2 r d) = gDH W DQ DKV (row t r) d := by
  unfold gDH
  pointwise [k0_pay9, k0_pay7, k0_pay8]
  simp only [h0, h1, k1, k2]

include h2 in
/-- A block of rows' reciprocal roots. -/
theorem p10 (r) : k0_pay10 (F := Ideal) x2 (ix2 r 0) = gRX X (row t r) := by
  unfold gRX cD eps
  pointwise [k0_pay10]
  simp only [h2]

include h2 in
/-- A block of the normed input. -/
theorem p11 (r d) : k0_pay11 (F := Ideal) x2 (ix2 r d) = X (row t r) d * gRX X (row t r) := by
  rw [← p10 h2, ← h2]
  pointwise [k0_pay11]

include h0 h1 h2 h3 k1 k2 h5 in
/-- A block of the gradient of the input. -/
theorem p1 (r d) : k0_pay1 (F := Ideal) (k0_pay10 x2) (k0_pay11 x2) (k0_pay12 x0 x1 w1 w2 x3) (k0_pay13 x0 x1 w1 w2 x3 x2) x5 (ix2 r d)
    = gDX X GN W DQ DKV RES (row t r) d := by
  unfold gDX
  simp only [← p9 h0 h1 k1 k2, ← p11 h2, ← h3, ← h5]
  rw [← p10 h2]
  unfold cD
  pointwise [k0_pay1, k0_pay12, k0_pay13]

include h0 h1 h2 k1 k2 in
/-- A block's part of the scale's gradient. -/
theorem p2 (acc : FVec Ideal S8x1024 .f32) (r d) : k0_pay2 (F := Ideal) (k0_pay9 x0 x1 w1 w2) (k0_pay11 x2) acc (ix2 r d) = acc (ix2 r d) +
    ∑ q : Fin 128, gDH W DQ DKV (row t ⟨q.val * 8 + r.val, by omega⟩) d * (X (row t ⟨q.val * 8 + r.val, by omega⟩) d * gRX X (row t ⟨q.val * 8 + r.val, by omega⟩)) := by
  simp only [← p9 h0 h1 k1 k2, ← p11 h2]
  pointwise [k0_pay2]

include h0 in
/-- A block's part of the queries' bias' gradient. -/
theorem p3 (acc : FVec Ideal S8x1024 .f32) (r d) : k0_pay3 (F := Ideal) (k0_pay7 x0) acc (ix2 r d) = acc (ix2 r d) +
    ∑ q : Fin 128, DQ (row t ⟨q.val * 8 + r.val, by omega⟩) d := by
  simp only [← h0]
  pointwise [k0_pay3, k0_pay7]

include h1 in
/-- A block's part of the keys' and values' bias' gradient. -/
theorem p4 (acc : FVec Ideal S8x256 .f32) (r d) : k0_pay4 (F := Ideal) x1 acc (ix2 r d) = acc (ix2 r d) +
    ∑ q : Fin 128, DKV (row t ⟨q.val * 8 + r.val, by omega⟩) d := by
  simp only [← h1]
  pointwise [k0_pay4]

end

/-- The wide accumulator's two pieces, read at an element. -/
theorem canon2 (P : FVec Ideal S8x256 .f32) (Q : FVec Ideal S8x1024 .f32) (L : List (View.Piece (Elt Ideal) S8x1280 .f32)) (r : Fin 8) (e : Fin 1280) :
    View.canon ((⟨Rect.unit (s := S8x1280) ![0, 1024] ![8, 256] inb_S8x1280_S8x256_0_1024, P⟩ : View.Piece (Elt Ideal) S8x1280 .f32) ::
      ⟨Rect.unit (s := S8x1280) ![0, 0] ![8, 1024] inb_S8x1280_S8x1024_0_0, Q⟩ :: L) (ix2 r e) =
    if h : e.val < 1024 then Q (ix2 r ⟨e.val, h⟩) else P (ix2 r ⟨e.val - 1024, by omega⟩) := by
  split
  · rename_i h
    rw [View.canon_cons_of_not_mem _ _ (Rect.not_mem_set_of_axis _ _ 1 _ _ rfl rfl rfl (Or.inl h))]
    have e1 : (ix2 r e : S8x1280.Idx) = (Rect.unit (s := S8x1280) ![0, 0] ![8, 1024] inb_S8x1280_S8x1024_0_0).emb (ix2 r ⟨e.val, h⟩) := by
      idx_ext
    rw [e1]
    exact View.canon_cons_emb (Val := Elt Ideal) (e := .f32) (Rect.unit (s := S8x1280) ![0, 0] ![8, 1024] inb_S8x1280_S8x1024_0_0) Q L (ix2 r ⟨e.val, h⟩)
  · rename_i h
    have e1 : (ix2 r e : S8x1280.Idx) = (Rect.unit (s := S8x1280) ![0, 1024] ![8, 256] inb_S8x1280_S8x256_0_1024).emb (ix2 r ⟨e.val - 1024, by omega⟩) := by
      idx_ext
    rw [e1]
    exact View.canon_cons_emb (Val := Elt Ideal) (e := .f32) (Rect.unit (s := S8x1280) ![0, 1024] ![8, 256] inb_S8x1280_S8x256_0_1024) P _ (ix2 r ⟨e.val - 1024, by omega⟩)

variable (m : (ℓ : Loc nD τ sig) → Buf (Elt Ideal) ℓ) (c : Dev nD)

/-- The input at launch. -/
abbrev z0 : FVec Ideal S16384x1024 .f32 := m ((c.tc : Thread nD τ).loc main_arg0)
/-- The scale at launch. -/
abbrev z1 : FVec Ideal S1x1024 .f32 := m ((c.tc : Thread nD τ).loc main_arg1)
/-- The weight at launch. -/
abbrev z2 : FVec Ideal S1024x1280 .f32 := m ((c.tc : Thread nD τ).loc main_arg2)
/-- The queries' gradient at launch. -/
abbrev z3 : FVec Ideal S16384x1024 .f32 := m ((c.tc : Thread nD τ).loc main_arg3)
/-- The keys' and values' gradient at launch. -/
abbrev z4 : FVec Ideal S16384x256 .f32 := m ((c.tc : Thread nD τ).loc main_arg4)
/-- The residual's gradient at launch. -/
abbrev z5 : FVec Ideal S16384x1024 .f32 := m ((c.tc : Thread nD τ).loc main_arg5)

/-- The input. -/
def rX (x : FVec Ideal S16384x1024 .f32) (s : Fin 16384) (d : Fin 1024) : EReal := x (ix2 s d)
/-- The scale. -/
def rG (x : FVec Ideal S1x1024 .f32) (d : Fin 1024) : EReal := x (ix2 0 d)
/-- The weight. -/
def rW (x : FVec Ideal S1024x1280 .f32) (d : Fin 1024) (e : Fin 1280) : EReal := x (ix2 d e)
/-- The keys' and values' gradient. -/
def rKV (x : FVec Ideal S16384x256 .f32) (s : Fin 16384) (d : Fin 256) : EReal := x (ix2 s d)

/-- The block index of an operand cut into row blocks. -/
theorem idx_big : ∀ t : Fin cfg0.N, win0_0.index t = ![t.val, 0] ∧ win0_1.index t = ![t.val, 0] ∧ win0_2.index t = ![t.val, 0]
    ∧ win0_5.index t = ![t.val, 0] ∧ win0_6.index t = ![t.val, 0] ∧ win0_9.index t = ![t.val, 0] :=
  (by decide +kernel : ∀ t : Fin grid0.N, win0_0.index t = ![t.val, 0] ∧ win0_1.index t = ![t.val, 0] ∧ win0_2.index t = ![t.val, 0]
    ∧ win0_5.index t = ![t.val, 0] ∧ win0_6.index t = ![t.val, 0] ∧ win0_9.index t = ![t.val, 0])
/-- The block index of a whole operand is zero. -/
theorem idx_small : ∀ t : Fin cfg0.N, win0_3.index t = ![0, 0] ∧ win0_4.index t = ![0, 0] ∧ win0_7.index t = ![0, 0] ∧ win0_8.index t = ![0, 0] :=
  (by decide +kernel : ∀ t : Fin grid0.N, win0_3.index t = ![0, 0] ∧ win0_4.index t = ![0, 0] ∧ win0_7.index t = ![0, 0] ∧ win0_8.index t = ![0, 0])

/-- A point as a number below the count of points. -/
abbrev pt (t : Fin cfg0.N) : Fin 16 := ⟨t.val, lt_of_lt_of_eq t.isLt N_0⟩

variable (t : Fin cfg0.N)

/-- The kernel's weight is the argument, cast and transposed. -/
theorem V_v2 : (V m c main_v2 : FVec Ideal S1280x1024 .bf16) = transpose S1280x1024 [1, 0] (truncf .bf16 (z2 m c) bitsLt_bf16_f32 : FVec Ideal S1024x1280 .bf16) transposes_S1024x1280_S1280x1024_1_0 := by
  unfold V
  after_results
  rfl

/-- The point's block of the queries' gradient is its rows. -/
theorem ib0 (r d) : (iblk m c 0 t : FVec Ideal S1024x1024 .bf16) (ix2 r d) = rX (z3 m c) (row (pt t) r) d := by
  unfold rX row
  blk_point [iblk, V, idx_big t]
/-- The point's block of the keys' and values' gradient is its rows. -/
theorem ib1 (r d) : (iblk m c 1 t : FVec Ideal S1024x256 .f32) (ix2 r d) = rKV (z4 m c) (row (pt t) r) d := by
  unfold rKV row
  blk_point [iblk, V, idx_big t]
/-- The point's block of the input is its rows. -/
theorem ib2 (r d) : (iblk m c 2 t : FVec Ideal S1024x1024 .f32) (ix2 r d) = rX (z0 m c) (row (pt t) r) d := by
  unfold rX row
  blk_point [iblk, V, idx_big t]
/-- The point's block of the scale is the scale. -/
theorem ib3 (d) : (iblk m c 3 t : FVec Ideal S1x1024 .f32) (ix2 0 d) = rG (z1 m c) d := by
  unfold rG
  blk_point [iblk, V, idx_small t]
/-- The point's block of the weight is the weight, transposed. -/
theorem ib4 (e d) : (iblk m c 4 t : FVec Ideal S1280x1024 .bf16) (ix2 e d) = rW (z2 m c) d e := by
  have e1 : (iblk m c 4 t : FVec Ideal S1280x1024 .bf16) (ix2 e d) = (V m c main_v2 : FVec Ideal S1280x1024 .bf16) (ix2 e d) := by
    blk_ext [iblk, idx_small t]
  rw [e1, V_v2]
  unfold rW
  pointwise
/-- The point's block of the residual's gradient is its rows. -/
theorem ib5 (r d) : (iblk m c 5 t : FVec Ideal S1024x1024 .f32) (ix2 r d) = rX (z5 m c) (row (pt t) r) d := by
  unfold rX row
  blk_point [iblk, V, idx_big t]

/-- The queries' rows of the weight. -/
theorem iw1 (e : Fin 1024) (d) : (View.ld (iblk m c 4 t : FVec Ideal S1280x1024 .bf16) (Rect.unit (s := S1280x1024) ![0, 0] ![1024, 1024] inb_S1280x1024_S1024x1024_0_0) : FVec Ideal S1024x1024 .bf16) (ix2 e d)
    = rW (z2 m c) d ⟨e.val, by omega⟩ := by
  rw [← ib4 m c t]
  refine congrArg (iblk m c 4 t : FVec Ideal S1280x1024 .bf16) ?_
  idx_ext
/-- The keys' and values' rows of the weight. -/
theorem iw2 (e : Fin 256) (d) : (View.ld (iblk m c 4 t : FVec Ideal S1280x1024 .bf16) (Rect.unit (s := S1280x1024) ![1024, 0] ![256, 1024] inb_S1280x1024_S256x1024_1024_0) : FVec Ideal S256x1024 .bf16) (ix2 e d)
    = rW (z2 m c) d ⟨1024 + e.val, by omega⟩ := by
  rw [← ib4 m c t]
  refine congrArg (iblk m c 4 t : FVec Ideal S1280x1024 .bf16) ?_
  idx_ext

/-- The gradient of the normed input over the whole arrays. -/
abbrev kDH := gDH (rW (z2 m c)) (rX (z3 m c)) (rKV (z4 m c))
/-- The gradient of the projection's result over the whole arrays. -/
abbrev kB := gB (rX (z3 m c)) (rKV (z4 m c))
/-- The gradient of the input over the whole arrays. -/
abbrev kDX := gDX (rX (z0 m c)) (rG (z1 m c)) (rW (z2 m c)) (rX (z3 m c)) (rKV (z4 m c)) (rX (z5 m c))

/-- The block of the input's gradient after a point. -/
theorem at6 (r d) : ((outsAt0 m c t.val t.isLt).1 : FVec Ideal S1024x1024 .f32) (ix2 r d) = kDX m c (row (pt t) r) d := by
  by_cases h : t.val % 16 = 0
  · rw [outsAt0_A m c t h]
    frame_out
    exact p1 (ib0 m c t) (ib1 m c t) (ib2 m c t) (ib3 m c t) (iw1 m c t) (iw2 m c t) (ib5 m c t) r d
  · rw [outsAt0_B m c t h]
    frame_out
    exact p1 (ib0 m c t) (ib1 m c t) (ib2 m c t) (ib3 m c t) (iw1 m c t) (iw2 m c t) (ib5 m c t) r d

/-- The block of the cast gradient after a point. -/
theorem at9 (r d) : ((outsAt0 m c t.val t.isLt).2.2.2 : FVec Ideal S1024x256 .bf16) (ix2 r d) = rKV (z4 m c) (row (pt t) r) d := by
  by_cases h : t.val % 16 = 0
  · rw [outsAt0_A m c t h]
    frame_out
    rw [← ib1]
    pointwise [k0_pay8]
  · rw [outsAt0_B m c t h]
    frame_out
    rw [← ib1]
    pointwise [k0_pay8]

/-- One point's part of the scale's gradient. -/
def T7 (t : Fin cfg0.N) (y : S8x1024.Idx) : EReal := ∑ q : Fin 128, kDH m c (row (pt t) ⟨q.val * 8 + (y 0).val, by have := (y 0).isLt; dsimp at this; omega⟩) (y 1) *
  (rX (z0 m c) (row (pt t) ⟨q.val * 8 + (y 0).val, by have := (y 0).isLt; dsimp at this; omega⟩) (y 1) * gRX (rX (z0 m c)) (row (pt t) ⟨q.val * 8 + (y 0).val, by have := (y 0).isLt; dsimp at this; omega⟩))
/-- One point's part of the bias' gradient. -/
def T8 (t : Fin cfg0.N) (y : S8x1280.Idx) : EReal := ∑ q : Fin 128, kB m c (row (pt t) ⟨q.val * 8 + (y 0).val, by have := (y 0).isLt; dsimp at this; omega⟩) (y 1)

/-- A point's part of the bias' gradient, by coordinates. -/
theorem T8_eq (t : Fin cfg0.N) (r : Fin 8) (e : Fin 1280) : T8 m c t (ix2 r e) = ∑ q : Fin 128, kB m c (row (pt t) ⟨q.val * 8 + r.val, by omega⟩) e := rfl

/-- A cleared accumulator holds zeros. -/
theorem z5_apply (y) : k0_pay5 (F := Ideal) y = 0 := by pointwise [k0_pay5]
/-- The wide cleared accumulator holds zeros. -/
theorem z6_apply (y) : k0_pay6 (F := Ideal) y = 0 := by pointwise [k0_pay6]

/-- The cleared wide accumulator, read where nothing else was stored. -/
theorem zeroT {v : View sig .tc .vmem S8x1280 .f32} {L : List (View.Piece (Elt Ideal) S8x1280 .f32)} {o w : ℕ}
    (i : ∀ a, (![0, o] : Fin 2 → Nat) a + (![8, w] : Fin 2 → ℕ) a ≤ S8x1280.size a)
    (hL : L = L.dropLast ++ [⟨Rect.unit (s := S8x1280) ![0, 0] ![8, 1280] inb_S8x1280_S8x1280_0_0, k0_pay6 (F := Ideal)⟩])
    (hm : missL (s := S8x1280) ![0, o] ![8, w] L.dropLast = true) (x) :
    View.readCov v L (Rect.unit (s := S8x1280) ![0, o] ![8, w] i).toLoadRect x = (0 : EReal) := by
  refine readCov_first v L _ _ _ z6_apply hL (fun y => Rect.mem_set_unit.2 fun a => ?_) ![0, o] ![8, w] hm (Rect.unit (s := S8x1280) ![0, o] ![8, w] i).toLoadRect x ?_
  · have h2 : (y a).val < S8x1280.size a := (y a).2
    have h0 : (![0, 0] : Fin 2 → ℕ) a = 0 := by fin_cases a <;> rfl
    have h1 : (![8, 1280] : Fin 2 → ℕ) a = S8x1280.size a := by fin_cases a <;> rfl
    omega
  · intro a
    have e : ((Rect.unit (s := S8x1280) ![0, o] ![8, w] i).toLoadRect.idx x a).val = (![0, o] : Fin 2 → ℕ) a + 1 * (x a).val := rfl
    have e2 : (x a).val < (![8, w] : Fin 2 → ℕ) a := (x a).2
    omega

/-- The partial sums of the scale's gradient at the last point. -/
theorem at7 (ht : t.val % 16 = 15) (y : S8x1024.Idx) : ((outsAt0 m c t.val t.isLt).2.1 : FVec Ideal S8x1024 .f32) y = ∑ s : Fin 16, T7 m c ⟨s.val, lt_of_lt_of_eq s.isLt N_0.symm⟩ y := by
  rw [Pipeline.eq_sum_fin_of_reset_step_apply_of_flush (fun n h => ((outsAt0 m c n h).2.1 : S8x1024.Idx → EReal)) 16 (fun _ => 0) (T7 m c) ?_ ?_ t ht y, zero_add]
  · refine Finset.sum_congr rfl fun s _ => ?_
    congr 1
    ext
    have := t.isLt
    have := (pt t).isLt
    dsimp only at *
    omega
  · intro t h y
    idx_vars y
    rw [outsAt0_A m c t h]
    frame_out
    refine (p2 (ib0 m c t) (ib1 m c t) (ib2 m c t) (iw1 m c t) (iw2 m c t) _ _ _).trans ?_
    rw [z5_apply]
    rfl
  · intro t h y
    idx_vars y
    rw [outsAt0_B m c t h]
    frame_out
    exact p2 (ib0 m c t) (ib1 m c t) (ib2 m c t) (iw1 m c t) (iw2 m c t) _ _ _

/-- The partial sums of the bias' gradient at the last point. -/
theorem at8 (ht : t.val % 16 = 15) (y : S8x1280.Idx) : ((outsAt0 m c t.val t.isLt).2.2.1 : FVec Ideal S8x1280 .f32) y = ∑ s : Fin 16, T8 m c ⟨s.val, lt_of_lt_of_eq s.isLt N_0.symm⟩ y := by
  rw [Pipeline.eq_sum_fin_of_reset_step_apply_of_flush (fun n h => ((outsAt0 m c n h).2.2.1 : S8x1280.Idx → EReal)) 16 (fun _ => 0) (T8 m c) ?_ ?_ t ht y, zero_add]
  · refine Finset.sum_congr rfl fun s _ => ?_
    congr 1
    ext
    have := t.isLt
    have := (pt t).isLt
    dsimp only at *
    omega
  · intro t h y
    idx_vars y
    rw [outsAt0_A m c t h]
    frame_out
    refine (canon2 _ _ _ _ _).trans ?_
    rw [T8_eq]
    unfold kB gB
    split
    · rename_i hy
      refine (p3 (ib0 m c t) _ _ _).trans (congrArg₂ (· + ·) ?_ ?_)
      · exact zeroT inb_S8x1280_S8x1024_0_0 rfl (by sl_kernel_rfl) _
      · rfl
    · rename_i hy
      refine (p4 (ib1 m c t) _ _ _).trans (congrArg₂ (· + ·) ?_ ?_)
      · exact zeroT inb_S8x1280_S8x256_0_1024 rfl (by sl_kernel_rfl) _
      · rfl
  · intro t h y
    idx_vars y
    rw [outsAt0_B m c t h]
    frame_out
    refine (canon2 _ _ _ _ _).trans ?_
    rw [T8_eq]
    unfold kB gB
    split
    · rename_i hy
      refine (p3 (ib0 m c t) _ _ _).trans (congrArg₂ (· + ·) ?_ ?_)
      · refine congrArg (outsAt0 m c (t.val - 1) (Nat.lt_of_le_of_lt (Nat.sub_le _ _) t.isLt)).2.2.1 ?_
        idx_ext
      · rfl
    · rename_i hy
      refine (p4 (ib1 m c t) _ _ _).trans (congrArg₂ (· + ·) ?_ ?_)
      · refine congrArg (outsAt0 m c (t.val - 1) (Nat.lt_of_le_of_lt (Nat.sub_le _ _) t.isLt)).2.2.1 ?_
        idx_ext
      · rfl

/-- The array of the input's gradient. -/
theorem fin6 : (dats m 0 c).arrAt 6 cfg0.N = (fun y : S16384x1024.Idx => kDX m c (y 0) (y 1)) := by
  refine (dats m 0 c).arrAt_eq_of_covers 6 _ (by decide +kernel) fun t hf y => ?_
  blk_simp
  rw [after0_6]
  idx_vars y
  refine (at6 m c t y0 y1).trans ?_
  refine congrArg₂ (kDX m c) (Fin.ext ?_) (Fin.ext ?_) <;> ((try unfold row); blk_simp [idx_big t]; try omega)

/-- The array of the cast gradient. -/
theorem fin9 : (dats m 0 c).arrAt 9 cfg0.N = (fun y : S16384x256.Idx => rKV (z4 m c) (y 0) (y 1)) := by
  refine (dats m 0 c).arrAt_eq_of_covers 9 _ (by decide +kernel) fun t hf y => ?_
  blk_simp
  rw [after0_9]
  idx_vars y
  refine (at9 m c t y0 y1).trans ?_
  refine congrArg₂ (rKV (z4 m c)) (Fin.ext ?_) (Fin.ext ?_) <;> ((try unfold row); blk_simp [idx_big t]; try omega)

/-- The array of the partial sums of the scale's gradient. -/
theorem fin7 : (dats m 0 c).arrAt 7 cfg0.N = (fun y : S8x1024.Idx => ∑ s : Fin 16, T7 m c ⟨s.val, lt_of_lt_of_eq s.isLt N_0.symm⟩ y) := by
  refine (dats m 0 c).arrAt_eq_of_covers 7 _ (by decide +kernel) fun t hf y => ?_
  blk_simp
  rw [after0_7]
  refine (at7 m c t ((flush0_7 t).mp hf) y).trans ?_
  refine Finset.sum_congr rfl fun s _ => congrArg _ ?_
  idx_vars y
  blk_ext [idx_small t]

/-- The array of the partial sums of the bias' gradient. -/
theorem fin8 : (dats m 0 c).arrAt 8 cfg0.N = (fun y : S8x1280.Idx => ∑ s : Fin 16, T8 m c ⟨s.val, lt_of_lt_of_eq s.isLt N_0.symm⟩ y) := by
  refine (dats m 0 c).arrAt_eq_of_covers 8 _ (by decide +kernel) fun t hf y => ?_
  blk_simp
  rw [after0_8]
  refine (at8 m c t ((flush0_8 t).mp hf) y).trans ?_
  refine Finset.sum_congr rfl fun s _ => congrArg _ ?_
  idx_vars y
  blk_ext [idx_small t]

/-- The last host lines sum the scale's partial rows. -/
theorem sum_v4 (W : Valuation τ sig (Elt Ideal)) : @Eq (FVec Ideal S1024 .f32) (StableHlo.after (List.flatten [hostOps1]) W (Proc.devRef .tc main_v4))
    (Host.reduceAdd (W (Proc.devRef .tc main_v3_1) : FVec Ideal S8x1024 .f32) (constant S_ .f32 0x00000000#32) reducesTo_S8x1024_S1024_d0 h_S_) := by
  simp only [List.flatten_cons, List.flatten_nil, List.append_nil]
  after_results

/-- The scale's gradient is the sum of its partial rows. -/
theorem W_v4 : @Eq (FVec Ideal S1024 .f32) (Pipeline.afterTail₀ cfgs (dats m) 0 (V0 m) [hostOps1] c main_v4)
    (Host.reduceAdd ((dats m 0 c).arrAt 7 cfg0.N : FVec Ideal S8x1024 .f32) (constant S_ .f32 0x00000000#32) reducesTo_S8x1024_S1024_d0 h_S_) := by
  unfold Pipeline.afterTail₀
  refine (sum_v4 _).trans ?_
  exact congrArg (fun a => Host.reduceAdd (a : FVec Ideal S8x1024 .f32) (constant S_ .f32 0x00000000#32) reducesTo_S8x1024_S1024_d0 h_S_)
    (Pipeline.withArrays_arr spec0 launch0.win.arr_inj c (V0 m c) (fun w => (dats m 0 c).arrAt w cfg0.N) 7)

/-- The last host lines sum the bias' partial rows. -/
theorem sum_v5 (W : Valuation τ sig (Elt Ideal)) : @Eq (FVec Ideal S1280 .f32) (StableHlo.after (List.flatten [hostOps1]) W (Proc.devRef .tc main_v5))
    (Host.reduceAdd (W (Proc.devRef .tc main_v3_2) : FVec Ideal S8x1280 .f32) (constant S_ .f32 0x00000000#32) reducesTo_S8x1280_S1280_d0 h_S_) := by
  simp only [List.flatten_cons, List.flatten_nil, List.append_nil]
  after_results

/-- The bias' gradient is the sum of its partial rows. -/
theorem W_v5 : @Eq (FVec Ideal S1280 .f32) (Pipeline.afterTail₀ cfgs (dats m) 0 (V0 m) [hostOps1] c main_v5)
    (Host.reduceAdd ((dats m 0 c).arrAt 8 cfg0.N : FVec Ideal S8x1280 .f32) (constant S_ .f32 0x00000000#32) reducesTo_S8x1280_S1280_d0 h_S_) := by
  unfold Pipeline.afterTail₀
  refine (sum_v5 _).trans ?_
  exact congrArg (fun a => Host.reduceAdd (a : FVec Ideal S8x1280 .f32) (constant S_ .f32 0x00000000#32) reducesTo_S8x1280_S1280_d0 h_S_)
    (Pipeline.withArrays_arr spec0 launch0.win.arr_inj c (V0 m c) (fun w => (dats m 0 c).arrAt w cfg0.N) 8)

/-- A point's part of the scale's gradient, by its rows. -/
theorem T7_eq (s : Fin 16) (r : Fin 8) (d : Fin 1024) : T7 m c ⟨s.val, lt_of_lt_of_eq s.isLt N_0.symm⟩ (ix2 r d) =
    ∑ q : Fin 128, (fun s => kDH m c s d * (rX (z0 m c) s d * gRX (rX (z0 m c)) s)) (row s ⟨q.val * 8 + r.val, by omega⟩) := rfl

/-- The scale's gradient, summed over all rows. -/
theorem res_dg (y : S1024.Idx) : @Eq EReal ((Pipeline.afterTail₀ cfgs (dats m) 0 (V0 m) [hostOps1] c main_v4 : FVec Ideal S1024 .f32) y)
    (∑ s : Fin 16384, kDH m c s (y 0) * (rX (z0 m c) s (y 0) * gRX (rX (z0 m c)) s)) := by
  rw [W_v4, fin7]
  idx_vars y
  pointwise
  refine Eq.trans ?_ (sum_rows (fun s => kDH m c s y0 * (rX (z0 m c) s y0 * gRX (rX (z0 m c)) s)))
  refine Finset.sum_congr rfl fun r _ => Finset.sum_congr rfl fun s _ => T7_eq m c s r y0

/-- The bias' gradient, summed over all rows. -/
theorem res_db (y : S1280.Idx) : @Eq EReal ((Pipeline.afterTail₀ cfgs (dats m) 0 (V0 m) [hostOps1] c main_v5 : FVec Ideal S1280 .f32) y)
    (∑ s : Fin 16384, kB m c s (y 0)) := by
  rw [W_v5, fin8]
  idx_vars y
  pointwise
  refine Eq.trans ?_ (sum_rows (fun s => kB m c s y0))
  refine Finset.sum_congr rfl fun r _ => Finset.sum_congr rfl fun s _ => T8_eq m c _ r y0

section
open Cert.Reference4Ideal.Read
variable (x0 : FVec Ideal S16384x1024 .f32) (x1 : FVec Ideal S1x1024 .f32) (x2 : FVec Ideal S1024x1280 .f32) (x3 : FVec Ideal S16384x1024 .f32)
  (x4 : FVec Ideal S16384x256 .f32) (x5 : FVec Ideal S16384x1024 .f32)

/-- The mean of a row's squares and the small constant. -/
theorem r8 (s) : val_main_v8 (F := Ideal) x0 (ix2 s 0) = Ideal.div (∑ d : Fin 1024, rX x0 s d * rX x0 s d) cD + eps := by
  unfold rX cD eps
  pointwise [val_main_v8, val_main_v7, val_main_cst_2, val_main_v6, val_main_v5, val_main_cst_1, val_main_v4, val_main_v3, val_main_cst_0, val_main_v2]
/-- A row's reciprocal root. -/
theorem r9 (s) : val_main_v9 (F := Ideal) x0 (ix2 s 0) = gRX (rX x0) s := by
  unfold gRX
  rw [← r8]
  pointwise [val_main_v9]
/-- The derivative of a row's reciprocal root. -/
theorem r12 (s) : val_main_v12 (F := Ideal) x0 (ix2 s 0) = Ideal.ofBits FTy.f32 3204448256#32 * Ideal.div (gRX (rX x0) s) (Ideal.div (∑ d : Fin 1024, rX x0 s d * rX x0 s d) cD + eps) := by
  rw [← r9, ← r8]
  pointwise [val_main_v12, val_main_v11, val_main_cst_3, val_main_v10]
/-- The queries', keys' and values' gradients side by side. -/
theorem r22 (s e) : val_main_v22 (F := Ideal) x3 x4 (ix2 s e) = gB (rX x3) (rKV x4) s e := by
  unfold gB rX rKV
  pointwise [val_main_v22]
/-- The gradient of the normed input. -/
theorem r26 (s d) : val_main_v26 (F := Ideal) x2 x3 x4 (ix2 s d) = gDH (rW x2) (rX x3) (rKV x4) s d := by
  have e1 : val_main_v26 (F := Ideal) x2 x3 x4 (ix2 s d) = ∑ e : Fin 1280, val_main_v22 (F := Ideal) x3 x4 (ix2 s e) * x2 (ix2 d e) := by
    pointwise [val_main_v26]
  rw [e1]
  refine (Fin.sum_univ_add (a := 1024) (b := 256) _).trans (congrArg₂ (· + ·) (Finset.sum_congr rfl fun e _ => ?_) (Finset.sum_congr rfl fun e _ => ?_))
  · rw [r22]
    unfold gB
    rw [dif_pos (show (Fin.castAdd 256 e).val < 1024 from e.isLt)]
    rfl
  · rw [r22]
    unfold gB
    rw [dif_neg (show ¬(Fin.natAdd 1024 e).val < 1024 from by simp)]
    refine congrArg₂ (· * ·) (congrArg (rKV x4 s) (Fin.ext ?_)) rfl
    simp
/-- The scale's gradient. -/
theorem r32 (d) : val_main_v32 (F := Ideal) x0 x2 x3 x4 (ix1 d) = ∑ s : Fin 16384, gDH (rW x2) (rX x3) (rKV x4) s d * (rX x0 s d * gRX (rX x0) s) := by
  pointwise [val_main_v32, val_main_cst_7, val_main_v29, val_main_v28, val_main_cst_6, val_main_v27, val_main_v14, val_main_v13]
  rw [Fin.sum_univ_one]
  refine Finset.sum_congr rfl fun s _ => ?_
  rw [r26, r9, mul_comm]
  rfl
/-- The bias' gradient. -/
theorem r25 (e) : val_main_v25 (F := Ideal) x3 x4 (ix1 e) = ∑ s : Fin 16384, gB (rX x3) (rKV x4) s e := by
  pointwise [val_main_v25, val_main_cst_5, val_main_v24, val_main_v23, val_main_cst_4]
  rw [Fin.sum_univ_one]
  refine Finset.sum_congr rfl fun s _ => ?_
  rw [r22]
/-- The input's gradient. -/
theorem r47 (s d) : val_main_v47 (F := Ideal) x0 x1 x2 x3 x4 x5 (ix2 s d) = gDX (rX x0) (rG x1) (rW x2) (rX x3) (rKV x4) (rX x5) s d := by
  unfold gDX gRX
  rw [FfnBwd.norm_all (rX x0 s) (fun d => gDH (rW x2) (rX x3) (rKV x4) s d * rG x1 d) (rX x5 s d) d rfl rfl, ← add_assoc, ← add_assoc]
  pointwise [val_main_v47, val_main_v46, val_main_v45, val_main_v44, val_main_v43, val_main_v42, val_main_cst_10, val_main_v41, val_main_v40, val_main_cst_9, val_main_v39, val_main_v38, val_main_v37, val_main_v36, val_main_v35, val_main_v34, val_main_cst_8, val_main_v33, val_main_v31, val_main_v30, val_main_v15, val_main_v0]
  rw [Fin.sum_univ_one, r12, r9]
  simp only [r26]
  rfl
end

section
open Cert.Reference4Ideal.Read

/-- The input's gradient is the reference's. -/
theorem eq_dx : ((dats m 0 c).arrAt 6 cfg0.N : FVec Ideal S16384x1024 .f32) = val_main_v47 (F := Ideal) (z0 m c) (z1 m c) (z2 m c) (z3 m c) (z4 m c) (z5 m c) := by
  rw [fin6]
  funext y
  idx_vars y
  exact (r47 _ _ _ _ _ _ y0 y1).symm

/-- The scale's gradient is the reference's. -/
theorem eq_dg : (Pipeline.afterTail₀ cfgs (dats m) 0 (V0 m) [hostOps1] c main_v4 : FVec Ideal S1024 .f32) = val_main_v32 (F := Ideal) (z0 m c) (z2 m c) (z3 m c) (z4 m c) := by
  funext y
  refine (res_dg m c y).trans ?_
  idx_vars y
  exact (r32 _ _ _ _ y0).symm

/-- The bias' gradient is the reference's. -/
theorem eq_db : (Pipeline.afterTail₀ cfgs (dats m) 0 (V0 m) [hostOps1] c main_v5 : FVec Ideal S1280 .f32) = val_main_v25 (F := Ideal) (z3 m c) (z4 m c) := by
  funext y
  refine (res_db m c y).trans ?_
  idx_vars y
  exact (r25 _ _ y0).symm

/-- The cast gradient is the reference's. -/
theorem eq_dkv : ((dats m 0 c).arrAt 9 cfg0.N : FVec Ideal S16384x256 .bf16) = val_main_v48 (F := Ideal) (z4 m c) := by
  rw [fin9]
  funext y
  idx_vars y
  unfold rKV
  pointwise [val_main_v48]

set_option maxHeartbeats 4000000 in
/-- The kernel's run ends with the reference's functions of the arguments. -/
theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3_0) = val_main_v47 (F := Ideal) (z0 m c) (z1 m c) (z2 m c) (z3 m c) (z4 m c) (z5 m c)
      ∧ r.2.mem ((c.tc : Thread nD τ).loc main_v4) = val_main_v32 (F := Ideal) (z0 m c) (z2 m c) (z3 m c) (z4 m c)
      ∧ r.2.mem ((c.tc : Thread nD τ).loc main_v5) = val_main_v25 (F := Ideal) (z3 m c) (z4 m c)
      ∧ r.2.mem ((c.tc : Thread nD τ).loc main_v3_3) = val_main_v48 (F := Ideal) (z4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r hr c => ⟨((hr c).1 6).trans (eq_dx m c),
      ((hr c).2 main_v4 (Pipeline.mem_restRefs_of main_v4 (by decide) (by decide))).trans (eq_dg m c),
      ((hr c).2 main_v5 (Pipeline.mem_restRefs_of main_v5 (by decide) (by decide))).trans (eq_db m c),
      ((hr c).1 9).trans (eq_dkv m c),
      ((hr c).1 2).trans (((dats m 0 c).arrAt_in 2 rfl _).trans ((A_eq m c 2).trans (V_main_arg0 m c))),
      ((hr c).1 3).trans (((dats m 0 c).arrAt_in 3 rfl _).trans ((A_eq m c 3).trans (V_main_arg1 m c))),
      ((hr c).2 main_arg2 (Pipeline.mem_restRefs_of main_arg2 (by decide) (by decide))).trans (W_main_arg2 m (dats m) c),
      ((hr c).2 main_arg3 (Pipeline.mem_restRefs_of main_arg3 (by decide) (by decide))).trans (W_main_arg3 m (dats m) c),
      ((hr c).1 1).trans (((dats m 0 c).arrAt_in 1 rfl _).trans ((A_eq m c 1).trans (V_main_arg4 m c))),
      ((hr c).1 5).trans (((dats m 0 c).arrAt_in 5 rfl _).trans ((A_eq m c 5).trans (V_main_arg5 m c)))⟩) (run_main m ρ)
end

section
open Cert.Reference4Ideal.Read
/-- The kernel and the reference end with equal results. -/
theorem algebraic : Cert.algebraic_Kernel4Ideal_Reference4Ideal (hKernel4Ideal := Cert.Kernel4Ideal.Gen.facts)
    (hReference4Ideal := Cert.Reference4Ideal.Gen.facts) := by
  intro m g m' g' h e
  refine ⟨fun c => val_main_v47 (F := Ideal) (z0 m c) (z1 m c) (z2 m c) (z3 m c) (z4 m c) (z5 m c),
    fun c => val_main_v32 (F := Ideal) (z0 m c) (z2 m c) (z3 m c) (z4 m c), fun c => val_main_v25 (F := Ideal) (z3 m c) (z4 m c),
    fun c => val_main_v48 (F := Ideal) (z4 m c), run_kernel m g,
    (θ_run _ _ _).mono (fun r hr c => ?_) (Cert.Reference4Ideal.Value.run (F := Ideal) m' g')⟩
  obtain ⟨e0, e1, e2, e3, e4, e5⟩ := e c
  obtain ⟨h0, h1, h2, h3, hargs⟩ := hr c
  refine ⟨h0.trans ((val_main_v47_eq m' c).trans ?_), h1.trans ((val_main_v32_eq _ _ _ _).trans ?_), h2.trans ((val_main_v25_eq _ _).trans ?_),
    h3.trans ((val_main_v48_eq _).trans ?_), hargs⟩
  · rw [e0, e1, e2, e3, e4, e5]
  · rw [e0, e2, e3, e4]
  · rw [e3, e4]
  · rw [e4]
end

end QkvBwd

end
-- ==== Proof.WgradPw1.lean ====
module

public import proofs.«01_k».proof.Defs
public import proofs.«01_k».proof.Proof.Gen.Kernel5Ideal.Frame
public import proofs.«01_k».proof.Proof.Gen.Reference5Ideal.Run
public import Idealize.ShloMosaic.Lib.Pipeline.ValueKit
public import Idealize.ShloMosaic.Lib.Claim

/-! The gradient of the first pointwise weight: the sum over four blocks of tokens is the sum over all tokens. -/

@[expose] public section

set_option maxRecDepth 16384

noncomputable section

namespace WgradPw1

open Idealize.ShloMosaic Idealize.ShloMosaic.TcCoe Idealize.SL.Sem
open Idealize.ShloMosaic.Pipeline (Dat)
open Cert.Kernel5Ideal Cert.Kernel5Ideal.Gen

variable (m : (ℓ : Loc nD τ sig) → Buf (Elt Ideal) ℓ) (c : Dev nD)

/-- The reference's result as a function of the two arguments. -/
abbrev REF (X0 : FVec Ideal S16384x1024 .f32) (X1 : FVec Ideal S16384x2048 .f32) : FVec Ideal S2x4x512x512 .f32 :=
  transpose S2x4x512x512 [0, 2, 1, 3] (shapeCast Cert.Reference5Ideal.S2x512x4x512 (transpose Cert.Reference5Ideal.S1024x2048 [1, 0] (Host.dotGeneral Cert.Reference5Ideal.dot_S16384x2048_S16384x1024_S2048x1024_0_0_1_1_n_n none X1 X0) Cert.Reference5Ideal.Gen.transposes_S2048x1024_S1024x2048_1_0) Cert.Reference5Ideal.Gen.shapeCasts_S1024x2048_S2x512x4x512) Cert.Reference5Ideal.Gen.transposes_S2x512x4x512_S2x4x512x512_0_2_1_3

/-- The block indices: the token block runs fastest, the chip's column block slowest. -/
theorem idx : ∀ t : Fin cfg0.N, win0_0.index t = ![t.val % 4, 0] ∧ win0_1.index t = ![t.val % 4, t.val / 4]
    ∧ win0_2.index t = ![0, t.val / 4, 0, 0] :=
  (by decide +kernel : ∀ t : Fin grid0.N, win0_0.index t = ![t.val % 4, 0] ∧ win0_1.index t = ![t.val % 4, t.val / 4]
    ∧ win0_2.index t = ![0, t.val / 4, 0, 0])

/-- The block is filled with zeros. -/
theorem hzero (j) : k0_pay1 (F := Ideal) j = 0 := by pointwise [k0_pay1]

/-- A token block's products, by elements of the result's block. -/
def part (a : FVec Ideal S4096x1024 .bf16) (b : FVec Ideal S4096x512 .bf16) (y : S2x1x512x512.Idx) : EReal :=
  ∑ k : Fin 4096, a (ix2 k ⟨(y 0).val * 512 + (y 2).val, by idx_bounds y; omega⟩) * b (ix2 k (y 3))

/-- A token block's products are added. -/
theorem hpay (a : FVec Ideal S4096x1024 .bf16) (b : FVec Ideal S4096x512 .bf16) (acc : FVec Ideal S2x1x512x512 .f32)
    (y : S2x1x512x512.Idx) : k0_pay2 a b acc y = acc y + part a b y := by
  unfold part
  idx_vars y
  pointwise [k0_pay2]
  rw [Fin.eq_zero y1]

/-- The reference's result, by elements. -/
theorem href (X0 : FVec Ideal S16384x1024 .f32) (X1 : FVec Ideal S16384x2048 .f32) (h : Fin 2) (j : Fin 4) (r : Fin 512) (q : Fin 512) :
    REF X0 X1 (ix4 h j r q) = ∑ l : Fin 16384, X0 (ix2 l ⟨h.val * 512 + r.val, by omega⟩) * X1 (ix2 l ⟨j.val * 512 + q.val, by omega⟩) := by
  pointwise [REF]
  exact Finset.sum_congr rfl fun _ _ => mul_comm _ _

set_option maxHeartbeats 2000000 in
/-- The result array after the grid is the reference's result. -/
theorem final : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
    (fun t y => part (iblk m c 0 t) (iblk m c 1 t) y)
    (fun t h j => by rw [outsAt0_A m c t h]; frame_out; rw [hpay, hzero])
    (fun t h j => by rw [outsAt0_B m c t h]; frame_out; rw [hpay])
    t ((flush0_2 t).mp hf) _, zero_add]
  have hN := lt_of_lt_of_eq t.isLt N_0
  idx_vars y
  have e : (((View.whole main_v2).slice (win0_2.rect t)).emb (ix4 y0 y1 y2 y3)) = ix4 y0 (⟨t.val / 4, by omega⟩ : Fin 4) y2 y3 := by
    blk_ext [idx t]
  rw [e, href]
  unfold part
  refine Fin.sum_mul_add_congr fun s k hl => ?_
  blk_point [iblk, V, idx t, idx ⟨_, Pipeline.run_point_lt_of_flush t ((flush0_2 t).mp hf) s⟩]

/-- The kernel and the reference end with equal results. -/
theorem algebraic : Cert.algebraic_Kernel5Ideal_Reference5Ideal (hKernel5Ideal := Cert.Kernel5Ideal.Gen.facts)
    (hReference5Ideal := Cert.Reference5Ideal.Gen.facts) := by
  intro m g m' g' _ e
  refine ⟨fun c => REF (m ((c : Thread nD τ).loc main_arg0)) (m ((c : Thread nD τ).loc main_arg1)), ?_,
    (θ_run _ _ _).mono (fun r hr c => ?_) (Cert.Reference5Ideal.Value.run (F := Ideal) m' g')⟩
  · run_from Cert.Kernel5Ideal.Gen.run_main m g
    exact final m c
  · obtain ⟨e0, e1⟩ := e c
    obtain ⟨h0, hargs⟩ := hr c
    refine ⟨h0.trans ?_, hargs⟩
    rw [e0, e1]

end WgradPw1

end
-- ==== Proof.WgradPw2.lean ====
module

public import proofs.«01_k».proof.Defs
public import proofs.«01_k».proof.Proof.Gen.Kernel6Ideal.Frame
public import proofs.«01_k».proof.Proof.Pieces
public import proofs.«01_k».proof.Proof.Gen.Reference6Ideal.Run
public import Idealize.ShloMosaic.Lib.Pipeline.ValueKit
public import Idealize.ShloMosaic.Lib.Claim

/-! The gradient of the second pointwise weight: the sum over eight blocks of tokens is the sum over all tokens. -/

@[expose] public section

set_option maxRecDepth 16384

noncomputable section

namespace WgradPw2

open Idealize.ShloMosaic Idealize.ShloMosaic.TcCoe Idealize.SL.Sem
open Idealize.ShloMosaic.Pipeline (Dat)
open Cert.Kernel6Ideal Cert.Kernel6Ideal.Gen
open Pieces

variable (m : (ℓ : Loc nD τ sig) → Buf (Elt Ideal) ℓ) (c : Dev nD)

/-- The reference's result as a function of the two arguments. -/
abbrev REF (X0 : FVec Ideal S16384x1024 .f32) (X1 : FVec Ideal S16384x1024 .f32) : FVec Ideal S2x4x128x1024 .f32 :=
  transpose S2x4x128x1024 [1, 0, 2, 3] (shapeCast Cert.Reference6Ideal.S4x2x128x1024 (transpose Cert.Reference6Ideal.S1024x1024 [1, 0] (Host.dotGeneral Cert.Reference6Ideal.dot_S16384x1024_S16384x1024_S1024x1024_0_0_1_1_n_n none X1 X0) Cert.Reference6Ideal.Gen.transposes_S1024x1024_S1024x1024_1_0) Cert.Reference6Ideal.Gen.shapeCasts_S1024x1024_S4x2x128x1024) Cert.Reference6Ideal.Gen.transposes_S4x2x128x1024_S2x4x128x1024_1_0_2_3

/-- The block indices: the token block runs fastest, the column block slowest. -/
theorem idx : ∀ t : Fin cfg0.N, win0_0.index t = ![t.val % 4, 0] ∧ win0_1.index t = ![t.val % 4, t.val / 4]
    ∧ win0_2.index t = ![0, 0, 0, t.val / 4] :=
  (by decide +kernel : ∀ t : Fin grid0.N, win0_0.index t = ![t.val % 4, 0] ∧ win0_1.index t = ![t.val % 4, t.val / 4]
    ∧ win0_2.index t = ![0, 0, 0, t.val / 4])

/-- The block is filled with zeros. -/
theorem hzero (j) : k0_pay3 (F := Ideal) j = 0 := by pointwise [k0_pay3]

/-- A token block's products, by elements of the result's block. -/
def part (a : FVec Ideal S4096x1024 .bf16) (b : FVec Ideal S4096x512 .f32) (y : S2x4x128x512.Idx) : EReal :=
  ∑ k : Fin 4096, a (ix2 k ⟨(2 * (y 1).val + (y 0).val) * 128 + (y 2).val, by idx_bounds y; omega⟩) * b (ix2 k (y 3))

/-- The reference's result, by elements. -/
theorem href (X0 : FVec Ideal S16384x1024 .f32) (X1 : FVec Ideal S16384x1024 .f32) (h : Fin 2) (j : Fin 4) (r : Fin 128) (q : Fin 1024) :
    REF X0 X1 (ix4 h j r q) = ∑ l : Fin 16384, X0 (ix2 l ⟨(2 * j.val + h.val) * 128 + r.val, by omega⟩) * X1 (ix2 l q) := by
  pointwise [REF]
  refine Finset.sum_congr rfl fun l _ => ?_
  rw [mul_comm]
  refine congrArg (fun i => X0 (ix2 l i) * X1 (ix2 l q)) (Fin.ext ?_)
  show j.val * 256 + h.val * 128 + r.val = (2 * j.val + h.val) * 128 + r.val
  omega

/-- One entry of a token block's product. -/
def prod (a : FVec Ideal S4096x1024 .bf16) (b : FVec Ideal S4096x512 .f32) (R : Fin 1024) (q : Fin 512) : EReal :=
  ∑ k : Fin 4096, a (ix2 k R) * b (ix2 k q)

/-- What a point leaves: what it found and its products. -/
def G (a : FVec Ideal S4096x1024 .bf16) (b : FVec Ideal S4096x512 .f32) (X : FVec Ideal S2x4x128x512 .f32) : FVec Ideal S2x4x128x512 .f32 :=
  fun y => X y + part a b y

section
variable (a : FVec Ideal S4096x1024 .bf16) (b : FVec Ideal S4096x512 .f32) (ld : FVec Ideal S1x1x128x512 .f32)

/-- The rows from 896 of the product, added to a tile. -/
theorem q2 (r : Fin 128) (q : Fin 512) : (k0_pay2 (F := Ideal) (k0_pay4 a b) ld) (ix4 0 0 r q) = ld (ix4 0 0 r q) + prod a b ⟨896 + r.val, by omega⟩ q := by
  unfold prod; pointwise [k0_pay2, k0_pay4]

/-- The rows from 768 of the product, added to a tile. -/
theorem q1 (r : Fin 128) (q : Fin 512) : (k0_pay1 (F := Ideal) (k0_pay4 a b) (k0_pay12 ld)) (ix4 0 0 r q) = ld (ix4 0 0 r q) + prod a b ⟨768 + r.val, by omega⟩ q := by
  unfold prod; pointwise [k0_pay1, k0_pay12, k0_pay4]

/-- The rows from 640 of the product, added to a tile. -/
theorem q11 (r : Fin 128) (q : Fin 512) : (k0_pay11 (F := Ideal) (k0_pay4 a b) ld) (ix4 0 0 r q) = ld (ix4 0 0 r q) + prod a b ⟨640 + r.val, by omega⟩ q := by
  unfold prod; pointwise [k0_pay11, k0_pay4]

/-- The rows from 512 of the product, added to a tile. -/
theorem q10 (r : Fin 128) (q : Fin 512) : (k0_pay10 (F := Ideal) (k0_pay4 a b) ld) (ix4 0 0 r q) = ld (ix4 0 0 r q) + prod a b ⟨512 + r.val, by omega⟩ q := by
  unfold prod; pointwise [k0_pay10, k0_pay4]

/-- The rows from 384 of the product, added to a tile. -/
theorem q9 (r : Fin 128) (q : Fin 512) : (k0_pay9 (F := Ideal) (k0_pay4 a b) ld) (ix4 0 0 r q) = ld (ix4 0 0 r q) + prod a b ⟨384 + r.val, by omega⟩ q := by
  unfold prod; pointwise [k0_pay9, k0_pay4]

/-- The rows from 256 of the product, added to a tile. -/
theorem q8 (r : Fin 128) (q : Fin 512) : (k0_pay8 (F := Ideal) (k0_pay7 a b ld)) (ix4 0 0 r q) = ld (ix4 0 0 r q) + prod a b ⟨256 + r.val, by omega⟩ q := by
  unfold prod; pointwise [k0_pay8, k0_pay7, k0_pay4]

/-- The rows from 128 of the product, added to a tile. -/
theorem q6 (r : Fin 128) (q : Fin 512) : (k0_pay6 (F := Ideal) a b ld) (ix4 0 0 r q) = ld (ix4 0 0 r q) + prod a b ⟨128 + r.val, by omega⟩ q := by
  unfold prod; pointwise [k0_pay6, k0_pay4]

/-- The rows from 0 of the product, added to a tile. -/
theorem q5 (r : Fin 128) (q : Fin 512) : (k0_pay5 (F := Ideal) a b ld) (ix4 0 0 r q) = ld (ix4 0 0 r q) + prod a b ⟨0 + r.val, by omega⟩ q := by
  unfold prod; pointwise [k0_pay5, k0_pay4]
end

/-- A stored tile is the tile found with its products added. -/
theorem fit {a2 : Memref sig .tc .vmem S4096x1024 .bf16} (h2 : a2.IsWhole) {a3 : Memref sig .tc .vmem S4096x512 .f32} (h3 : a3.IsWhole)
    {x0 : FVec Ideal S4096x1024 .bf16} {x1 : FVec Ideal S4096x512 .f32}
    {h j o : ℕ} (hh : h < 2) (hj : j < 4) (ho : (2 * j + h) * 128 = o) (i2 : ∀ a, (![0, 0] : Fin 2 → Nat) a + S4096x1024.size a ≤ S4096x1024.size a)
    (i3 : ∀ a, (![0, 0] : Fin 2 → Nat) a + S4096x512.size a ≤ S4096x512.size a)
    (P ld : FVec Ideal S1x1x128x512 .f32) (ACC : FVec Ideal S2x4x128x512 .f32)
    (hP : ∀ (r : Fin 128) (q : Fin 512), P (ix4 0 0 r q) = ld (ix4 0 0 r q) +
      prod (View.readAt (Elt Ideal) a2.view (Rect.unit (s := S4096x1024) ![0, 0] S4096x1024.size i2).toLoadRect (h2.unread x0))
        (View.readAt (Elt Ideal) a3.view (Rect.unit (s := S4096x512) ![0, 0] S4096x512.size i3).toLoadRect (h3.unread x1)) ⟨o + r.val, by omega⟩ q)
    (hld : ∀ (r : Fin 128) (q : Fin 512), ld (ix4 0 0 r q) = ACC (ix4 ⟨h, hh⟩ ⟨j, hj⟩ r q))
    (i : ∀ a, (![h, j, 0, 0] : Fin 4 → Nat) a + S1x1x128x512.size a ≤ S2x4x128x512.size a) (w : S1x1x128x512.Idx) :
    P w = G x0 x1 ACC ((Rect.unit (s := S2x4x128x512) ![h, j, 0, 0] S1x1x128x512.size i).emb w) := by
  idx_vars w
  obtain rfl : w0 = 0 := Subsingleton.elim _ _
  obtain rfl : w1 = 0 := Subsingleton.elim _ _
  have hi : (Rect.unit (s := S2x4x128x512) ![h, j, 0, 0] S1x1x128x512.size i).emb (ix4 0 0 w2 w3) = ix4 ⟨h, hh⟩ ⟨j, hj⟩ w2 w3 := by
    idx_ext
  subst ho
  rw [hi, hP, hld]
  refine congrArg (ACC (ix4 ⟨h, hh⟩ ⟨j, hj⟩ w2 w3) + ·) (Finset.sum_congr rfl fun k _ => congrArg₂ (· * ·) ?_ ?_)
  · exact readAt_whole h2 x0 (Rect.unit (s := S4096x1024) ![0, 0] S4096x1024.size i2).toLoadRect (ix2 k ⟨(2 * j + h) * 128 + w2.val, by omega⟩) (ix2 k ⟨(2 * j + h) * 128 + w2.val, by omega⟩) (by idx_ext)
  · exact readAt_whole h3 x1 (Rect.unit (s := S4096x512) ![0, 0] S4096x512.size i3).toLoadRect (ix2 k w3) (ix2 k w3) (by idx_ext)

/-- A tile of a buffer, loaded. -/
theorem tile {a4 : Memref sig .tc .vmem S2x4x128x512 .f32} (h4 : a4.IsWhole) (xo : FVec Ideal S2x4x128x512 .f32) {h j : ℕ} (hh : h < 2) (hj : j < 4)
    (i : ∀ a, (![h, j, 0, 0] : Fin 4 → Nat) a + S1x1x128x512.size a ≤ S2x4x128x512.size a) (r : Fin 128) (q : Fin 512) :
    View.readAt (Elt Ideal) a4.view (Rect.unit (s := S2x4x128x512) ![h, j, 0, 0] S1x1x128x512.size i).toLoadRect (h4.unread xo) (ix4 0 0 r q) =
      xo (ix4 ⟨h, hh⟩ ⟨j, hj⟩ r q) :=
  readAt_whole h4 xo (Rect.unit (s := S2x4x128x512) ![h, j, 0, 0] S1x1x128x512.size i).toLoadRect (ix4 0 0 r q) (ix4 ⟨h, hh⟩ ⟨j, hj⟩ r q) (by idx_ext)

/-- A rectangle at the origin of the whole shape holds every element. -/
theorem whole4 (i : ∀ a, (![0, 0, 0, 0] : Fin 4 → Nat) a + S2x4x128x512.size a ≤ S2x4x128x512.size a) (y : S2x4x128x512.Idx) :
    y ∈ (Rect.unit (s := S2x4x128x512) ![0, 0, 0, 0] S2x4x128x512.size i).set := by
  refine Rect.mem_set_unit.2 fun a => ?_
  have h2 : (y a).val < S2x4x128x512.size a := (y a).2
  have h0 : (![0, 0, 0, 0] : Fin 4 → ℕ) a = 0 := by fin_cases a <;> rfl
  exact ⟨by omega, by omega⟩

/-- A tile read before it was stored holds zeros. -/
theorem zeroT {v : View sig .tc .vmem S2x4x128x512 .f32} {L : List (View.Piece (Elt Ideal) S2x4x128x512 .f32)} {h j : ℕ}
    {i0 : ∀ a, (![0, 0, 0, 0] : Fin 4 → Nat) a + S2x4x128x512.size a ≤ S2x4x128x512.size a}
    (i : ∀ a, (![h, j, 0, 0] : Fin 4 → Nat) a + S1x1x128x512.size a ≤ S2x4x128x512.size a)
    (hL : L = L.dropLast ++ [⟨Rect.unit (s := S2x4x128x512) ![0, 0, 0, 0] S2x4x128x512.size i0, k0_pay3 (F := Ideal)⟩])
    (hm : missL (s := S2x4x128x512) ![h, j, 0, 0] ![1, 1, 128, 512] L.dropLast = true) (x : S1x1x128x512.Idx) :
    View.readCov v L (Rect.unit (s := S2x4x128x512) ![h, j, 0, 0] S1x1x128x512.size i).toLoadRect x = (0 : EReal) := by
  refine readCov_first v L _ _ _ hzero hL (whole4 i0) ![h, j, 0, 0] ![1, 1, 128, 512] hm (Rect.unit (s := S2x4x128x512) ![h, j, 0, 0] S1x1x128x512.size i).toLoadRect x ?_
  intro a
  have e : ((Rect.unit (s := S2x4x128x512) ![h, j, 0, 0] S1x1x128x512.size i).toLoadRect.idx x a).val = (![h, j, 0, 0] : Fin 4 → ℕ) a + 1 * (x a).val := rfl
  have e2 : (x a).val < (![1, 1, 128, 512] : Fin 4 → ℕ) a := (x a).2
  omega

section
variable (i : grid0.Coords) (a2 : Memref sig .tc .vmem S4096x1024 .bf16) (h2 : a2.IsWhole) (a3 : Memref sig .tc .vmem S4096x512 .f32) (h3 : a3.IsWhole)
  (a4 : Memref sig .tc .vmem S2x4x128x512 .f32) (h4 : a4.IsWhole)
  (x0 : FVec Ideal S4096x1024 .bf16) (x1 : FVec Ideal S4096x512 .f32) (xo : FVec Ideal S2x4x128x512 .f32)

section
variable (hc : cond0_0 i)

set_option maxHeartbeats 4000000 in
/-- The tiles stored at the first block of tokens. -/
theorem pA : ∀ p ∈ (kernelRun0_A (F := Ideal) c i a2 h2 a3 h3 a4 h4 hc x0 x1).1.dropLast, ∀ x : p.1.shape.Idx, p.2 x = G x0 x1 (fun _ => (0 : EReal)) (p.1.emb x) := by
  refine List.forall_mem_cons.2 ⟨?_, ?_⟩
  · exact fun w => fit h2 h3 (h := 1) (j := 3) (by decide) (by decide) (o := 896) rfl _ _ _ _ (fun _ => (0 : EReal)) (fun r q => q2 _ _ _ r q) (fun r q => zeroT (h := 1) (j := 3) (by decide) (by rfl) (by sl_kernel_rfl) (ix4 0 0 r q)) inb_S2x4x128x512_S1x1x128x512_1_3_0_0 w
  refine List.forall_mem_cons.2 ⟨?_, ?_⟩
  · exact fun w => fit h2 h3 (h := 0) (j := 3) (by decide) (by decide) (o := 768) rfl _ _ _ _ (fun _ => (0 : EReal)) (fun r q => q1 _ _ _ r q) (fun r q => zeroT (h := 0) (j := 3) (by decide) (by rfl) (by sl_kernel_rfl) (ix4 0 0 r q)) inb_S2x4x128x512_S1x1x128x512_0_3_0_0 w
  refine List.forall_mem_cons.2 ⟨?_, ?_⟩
  · exact fun w => fit h2 h3 (h := 1) (j := 2) (by decide) (by decide) (o := 640) rfl _ _ _ _ (fun _ => (0 : EReal)) (fun r q => q11 _ _ _ r q) (fun r q => zeroT (h := 1) (j := 2) (by decide) (by rfl) (by sl_kernel_rfl) (ix4 0 0 r q)) inb_S2x4x128x512_S1x1x128x512_1_2_0_0 w
  refine List.forall_mem_cons.2 ⟨?_, ?_⟩
  · exact fun w => fit h2 h3 (h := 0) (j := 2) (by decide) (by decide) (o := 512) rfl _ _ _ _ (fun _ => (0 : EReal)) (fun r q => q10 _ _ _ r q) (fun r q => zeroT (h := 0) (j := 2) (by decide) (by rfl) (by sl_kernel_rfl) (ix4 0 0 r q)) inb_S2x4x128x512_S1x1x128x512_0_2_0_0 w
  refine List.forall_mem_cons.2 ⟨?_, ?_⟩
  · exact fun w => fit h2 h3 (h := 1) (j := 1) (by decide) (by decide) (o := 384) rfl _ _ _ _ (fun _ => (0 : EReal)) (fun r q => q9 _ _ _ r q) (fun r q => zeroT (h := 1) (j := 1) (by decide) (by rfl) (by sl_kernel_rfl) (ix4 0 0 r q)) inb_S2x4x128x512_S1x1x128x512_1_1_0_0 w
  refine List.forall_mem_cons.2 ⟨?_, ?_⟩
  · exact fun w => fit h2 h3 (h := 0) (j := 1) (by decide) (by decide) (o := 256) rfl _ _ _ _ (fun _ => (0 : EReal)) (fun r q => q8 _ _ _ r q) (fun r q => zeroT (h := 0) (j := 1) (by decide) (by rfl) (by sl_kernel_rfl) (ix4 0 0 r q)) inb_S2x4x128x512_S1x1x128x512_0_1_0_0 w
  refine List.forall_mem_cons.2 ⟨?_, ?_⟩
  · exact fun w => fit h2 h3 (h := 1) (j := 0) (by decide) (by decide) (o := 128) rfl _ _ _ _ (fun _ => (0 : EReal)) (fun r q => q6 _ _ _ r q) (fun r q => zeroT (h := 1) (j := 0) (by decide) (by rfl) (by sl_kernel_rfl) (ix4 0 0 r q)) inb_S2x4x128x512_S1x1x128x512_1_0_0_0 w
  refine List.forall_mem_cons.2 ⟨?_, ?_⟩
  · exact fun w => fit h2 h3 (h := 0) (j := 0) (by decide) (by decide) (o := 0) rfl _ _ _ _ (fun _ => (0 : EReal)) (fun r q => q5 _ _ _ r q) (fun r q => zeroT (h := 0) (j := 0) (by decide) (by rfl) (by sl_kernel_rfl) (ix4 0 0 r q)) inb_S2x4x128x512_S1x1x128x512_0_0_0_0 w
  · exact List.forall_mem_nil _

/-- The first block of tokens leaves its products. -/
theorem oA : out0_A_2 (F := Ideal) c i a2 h2 a3 h3 a4 h4 hc x0 x1 = G x0 x1 (fun _ => (0 : EReal)) := by
  funext y
  unfold out0_A_2
  have e : (kernelRun0_A (F := Ideal) c i a2 h2 a3 h3 a4 h4 hc x0 x1).1 = (kernelRun0_A (F := Ideal) c i a2 h2 a3 h3 a4 h4 hc x0 x1).1.dropLast ++ [(kernelRun0_A (F := Ideal) c i a2 h2 a3 h3 a4 h4 hc x0 x1).1.getLast (List.cons_ne_nil _ _)] := (List.dropLast_append_getLast _).symm
  rw [e]
  exact read_pieces_append _ _ _ _ _ (pA c i a2 h2 a3 h3 a4 h4 x0 x1 hc) (View.cover_of_tiledL _ S1x1x128x512.size (by sl_kernel_rfl)) y
end

section
variable (hc : ¬cond0_0 i)

set_option maxHeartbeats 4000000 in
/-- The tiles stored at a later block of tokens. -/
theorem pB : ∀ p ∈ (kernelRun0_B (F := Ideal) c i a2 h2 a3 h3 a4 h4 hc x0 x1 xo).1, ∀ x : p.1.shape.Idx, p.2 x = G x0 x1 xo (p.1.emb x) := by
  refine List.forall_mem_cons.2 ⟨?_, ?_⟩
  · exact fun w => fit h2 h3 (h := 1) (j := 3) (by decide) (by decide) (o := 896) rfl _ _ _ _ xo (fun r q => q2 _ _ _ r q) (fun r q => tile h4 xo (by decide) (by decide) inb_S2x4x128x512_S1x1x128x512_1_3_0_0 r q) inb_S2x4x128x512_S1x1x128x512_1_3_0_0 w
  refine List.forall_mem_cons.2 ⟨?_, ?_⟩
  · exact fun w => fit h2 h3 (h := 0) (j := 3) (by decide) (by decide) (o := 768) rfl _ _ _ _ xo (fun r q => q1 _ _ _ r q) (fun r q => tile h4 xo (by decide) (by decide) inb_S2x4x128x512_S1x1x128x512_0_3_0_0 r q) inb_S2x4x128x512_S1x1x128x512_0_3_0_0 w
  refine List.forall_mem_cons.2 ⟨?_, ?_⟩
  · exact fun w => fit h2 h3 (h := 1) (j := 2) (by decide) (by decide) (o := 640) rfl _ _ _ _ xo (fun r q => q11 _ _ _ r q) (fun r q => tile h4 xo (by decide) (by decide) inb_S2x4x128x512_S1x1x128x512_1_2_0_0 r q) inb_S2x4x128x512_S1x1x128x512_1_2_0_0 w
  refine List.forall_mem_cons.2 ⟨?_, ?_⟩
  · exact fun w => fit h2 h3 (h := 0) (j := 2) (by decide) (by decide) (o := 512) rfl _ _ _ _ xo (fun r q => q10 _ _ _ r q) (fun r q => tile h4 xo (by decide) (by decide) inb_S2x4x128x512_S1x1x128x512_0_2_0_0 r q) inb_S2x4x128x512_S1x1x128x512_0_2_0_0 w
  refine List.forall_mem_cons.2 ⟨?_, ?_⟩
  · exact fun w => fit h2 h3 (h := 1) (j := 1) (by decide) (by decide) (o := 384) rfl _ _ _ _ xo (fun r q => q9 _ _ _ r q) (fun r q => tile h4 xo (by decide) (by decide) inb_S2x4x128x512_S1x1x128x512_1_1_0_0 r q) inb_S2x4x128x512_S1x1x128x512_1_1_0_0 w
  refine List.forall_mem_cons.2 ⟨?_, ?_⟩
  · exact fun w => fit h2 h3 (h := 0) (j := 1) (by decide) (by decide) (o := 256) rfl _ _ _ _ xo (fun r q => q8 _ _ _ r q) (fun r q => tile h4 xo (by decide) (by decide) inb_S2x4x128x512_S1x1x128x512_0_1_0_0 r q) inb_S2x4x128x512_S1x1x128x512_0_1_0_0 w
  refine List.forall_mem_cons.2 ⟨?_, ?_⟩
  · exact fun w => fit h2 h3 (h := 1) (j := 0) (by decide) (by decide) (o := 128) rfl _ _ _ _ xo (fun r q => q6 _ _ _ r q) (fun r q => tile h4 xo (by decide) (by decide) inb_S2x4x128x512_S1x1x128x512_1_0_0_0 r q) inb_S2x4x128x512_S1x1x128x512_1_0_0_0 w
  refine List.forall_mem_cons.2 ⟨?_, ?_⟩
  · exact fun w => fit h2 h3 (h := 0) (j := 0) (by decide) (by decide) (o := 0) rfl _ _ _ _ xo (fun r q => q5 _ _ _ r q) (fun r q => tile h4 xo (by decide) (by decide) inb_S2x4x128x512_S1x1x128x512_0_0_0_0 r q) inb_S2x4x128x512_S1x1x128x512_0_0_0_0 w
  · exact List.forall_mem_nil _

/-- A later block of tokens adds its products. -/
theorem oB : out0_B_2 (F := Ideal) c i a2 h2 a3 h3 a4 h4 hc x0 x1 xo = G x0 x1 xo := by
  funext y
  unfold out0_B_2
  have hc' : ∀ y, ∃ p ∈ (kernelRun0_B (F := Ideal) c i a2 h2 a3 h3 a4 h4 hc x0 x1 xo).1, y ∈ p.1.set := View.cover_of_tiledL _ S1x1x128x512.size (by sl_kernel_rfl)
  have hp := pB c i a2 h2 a3 h3 a4 h4 x0 x1 xo hc
  generalize (kernelRun0_B (F := Ideal) c i a2 h2 a3 h3 a4 h4 hc x0 x1 xo).1 = L at hc' hp ⊢
  exact View.read_writes_apply_of_pieces _ _ (G x0 x1 xo) L hp y (hc' y)
end
end

/-- The call's result is the reference's. -/
theorem final : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
    (fun t y => part (iblk m c 0 t) (iblk m c 1 t) y)
    (fun t h j => by rw [outsAt0_A m c t h, oA]; rfl)
    (fun t h j => by rw [outsAt0_B m c t h, oB]; rfl)
    t ((flush0_2 t).mp hf) _, zero_add]
  have hN := lt_of_lt_of_eq t.isLt N_0
  idx_vars y
  have e : (((View.whole main_v1).slice (win0_2.rect t)).emb (ix4 y0 y1 y2 y3)) = ix4 y0 y1 y2 (⟨t.val / 4 * 512 + y3.val, by omega⟩ : Fin 1024) := by
    blk_ext [idx t]
  rw [e, href]
  unfold part
  refine Fin.sum_mul_add_congr fun s k hl => ?_
  blk_point [iblk, V, idx t, idx ⟨_, Pipeline.run_point_lt_of_flush t ((flush0_2 t).mp hf) s⟩]

/-- The two runs end with the same weight gradient. -/
theorem algebraic : Cert.algebraic_Kernel6Ideal_Reference6Ideal (hKernel6Ideal := Cert.Kernel6Ideal.Gen.facts) (hReference6Ideal := Cert.Reference6Ideal.Gen.facts) := by
  intro m g m' g' _ e
  refine ⟨fun c => REF (m ((c : Thread nD τ).loc main_arg0)) (m ((c : Thread nD τ).loc main_arg1)), ?_,
    (θ_run _ _ _).mono (fun r hr c => ?_) (Cert.Reference6Ideal.Value.run (F := Ideal) m' g')⟩
  · run_from Cert.Kernel6Ideal.Gen.run_main m g
    exact final m c
  · obtain ⟨e0, e1⟩ := e c
    obtain ⟨h0, hargs⟩ := hr c
    refine ⟨h0.trans ?_, hargs⟩
    rw [e0, e1]

end WgradPw2

end
-- ==== Proof.WgradQ.lean ====
module

public import proofs.«01_k».proof.Defs
public import proofs.«01_k».proof.Proof.Gen.Kernel7Ideal.Frame
public import proofs.«01_k».proof.Proof.Gen.Reference7Ideal.Run
public import Idealize.ShloMosaic.Lib.Pipeline.ValueKit
public import Idealize.ShloMosaic.Lib.Claim

/-! The gradient of attention's input weight, the queries' columns: the sum over four blocks of tokens is the sum over all tokens. -/

@[expose] public section

set_option maxRecDepth 16384

noncomputable section

namespace WgradQ

open Idealize.ShloMosaic Idealize.ShloMosaic.TcCoe Idealize.SL.Sem
open Idealize.ShloMosaic.Pipeline (Dat)
open Cert.Kernel7Ideal Cert.Kernel7Ideal.Gen

variable (m : (ℓ : Loc nD τ sig) → Buf (Elt Ideal) ℓ) (c : Dev nD)

/-- The reference's result as a function of the two arguments. -/
abbrev REF (X0 : FVec Ideal S16384x1024 .f32) (X1 : FVec Ideal S16384x1024 .f32) : FVec Ideal S1024x1024 .f32 :=
  transpose Cert.Reference7Ideal.S1024x1024 [1, 0] (Host.dotGeneral Cert.Reference7Ideal.dot_S16384x1024_S16384x1024_S1024x1024_0_0_1_1_n_n none X1 X0) Cert.Reference7Ideal.Gen.transposes_S1024x1024_S1024x1024_1_0

/-- The block indices: the token block runs fastest. -/
theorem idx : ∀ t : Fin cfg0.N, win0_0.index t = ![t.val % 4, 0] ∧ win0_1.index t = ![t.val % 4, t.val / 4]
    ∧ win0_2.index t = ![0, t.val / 4] :=
  (by decide +kernel : ∀ t : Fin grid0.N, win0_0.index t = ![t.val % 4, 0] ∧ win0_1.index t = ![t.val % 4, t.val / 4]
    ∧ win0_2.index t = ![0, t.val / 4])

/-- The block is filled with zeros. -/
theorem hzero (j) : k0_pay1 (F := Ideal) j = 0 := by pointwise [k0_pay1]

/-- A token block's products, by elements of the result's block. -/
def part (a : FVec Ideal S4096x1024 .bf16) (b : FVec Ideal S4096x512 .bf16) (y : S1024x512.Idx) : EReal :=
  ∑ k : Fin 4096, a (ix2 k (y 0)) * b (ix2 k (y 1))

/-- A token block's products are added. -/
theorem hpay (a : FVec Ideal S4096x1024 .bf16) (b : FVec Ideal S4096x512 .bf16) (acc : FVec Ideal S1024x512 .f32)
    (y : S1024x512.Idx) : k0_pay2 acc a b y = acc y + part a b y := by
  unfold part
  idx_vars y
  pointwise [k0_pay2]

/-- The reference's result, by elements. -/
theorem href (X0 : FVec Ideal S16384x1024 .f32) (X1 : FVec Ideal S16384x1024 .f32) (r : Fin 1024) (q : Fin 1024) :
    REF X0 X1 (ix2 r q) = ∑ l : Fin 16384, X0 (ix2 l r) * X1 (ix2 l q) := by
  pointwise [REF]
  exact Finset.sum_congr rfl fun _ _ => mul_comm _ _

set_option maxHeartbeats 2000000 in
/-- The result array after the grid is the reference's result. -/
theorem final : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
    (fun t y => part (iblk m c 0 t) (iblk m c 1 t) y)
    (fun t h j => by rw [outsAt0_A m c t h]; frame_out; rw [hpay, hzero])
    (fun t h j => by rw [outsAt0_B m c t h]; frame_out; rw [hpay])
    t ((flush0_2 t).mp hf) _, zero_add]
  have hN := lt_of_lt_of_eq t.isLt N_0
  idx_vars y
  have e : (((View.whole main_v2).slice (win0_2.rect t)).emb (ix2 y0 y1)) = ix2 y0 (⟨t.val / 4 * 512 + y1.val, by omega⟩ : Fin 1024) := by
    blk_ext [idx t]
  rw [e, href]
  unfold part
  refine Fin.sum_mul_add_congr fun s k hl => ?_
  blk_point [iblk, V, idx t, idx ⟨_, Pipeline.run_point_lt_of_flush t ((flush0_2 t).mp hf) s⟩]

/-- The kernel and the reference end with equal results. -/
theorem algebraic : Cert.algebraic_Kernel7Ideal_Reference7Ideal (hKernel7Ideal := Cert.Kernel7Ideal.Gen.facts)
    (hReference7Ideal := Cert.Reference7Ideal.Gen.facts) := by
  intro m g m' g' _ e
  refine ⟨fun c => REF (m ((c : Thread nD τ).loc main_arg0)) (m ((c : Thread nD τ).loc main_arg1)), ?_,
    (θ_run _ _ _).mono (fun r hr c => ?_) (Cert.Reference7Ideal.Value.run (F := Ideal) m' g')⟩
  · run_from Cert.Kernel7Ideal.Gen.run_main m g
    exact final m c
  · obtain ⟨e0, e1⟩ := e c
    obtain ⟨h0, hargs⟩ := hr c
    refine ⟨h0.trans ?_, hargs⟩
    rw [e0, e1]

end WgradQ

end
-- ==== Proof.WgradKv.lean ====
module

public import proofs.«01_k».proof.Defs
public import proofs.«01_k».proof.Proof.Gen.Kernel8Ideal.Frame
public import proofs.«01_k».proof.Proof.Gen.Reference8Ideal.Run
public import Idealize.ShloMosaic.Lib.Pipeline.ValueKit
public import Idealize.ShloMosaic.Lib.Claim

/-! The gradient of attention's input weight, the keys' and values' columns: the sum over four blocks of tokens is the sum over all tokens. -/

@[expose] public section

set_option maxRecDepth 16384

noncomputable section

namespace WgradKv

open Idealize.ShloMosaic Idealize.ShloMosaic.TcCoe Idealize.SL.Sem
open Idealize.ShloMosaic.Pipeline (Dat)
open Cert.Kernel8Ideal Cert.Kernel8Ideal.Gen

variable (m : (ℓ : Loc nD τ sig) → Buf (Elt Ideal) ℓ) (c : Dev nD)

/-- The reference's result as a function of the two arguments. -/
abbrev REF (X0 : FVec Ideal S16384x1024 .f32) (X1 : FVec Ideal S16384x256 .f32) : FVec Ideal S1024x256 .f32 :=
  transpose Cert.Reference8Ideal.S1024x256 [1, 0] (Host.dotGeneral Cert.Reference8Ideal.dot_S16384x256_S16384x1024_S256x1024_0_0_1_1_n_n none X1 X0) Cert.Reference8Ideal.Gen.transposes_S256x1024_S1024x256_1_0

/-- The block indices: the token block runs fastest. -/
theorem idx : ∀ t : Fin cfg0.N, win0_0.index t = ![t.val % 4, 0] ∧ win0_1.index t = ![t.val % 4, t.val / 4]
    ∧ win0_2.index t = ![0, t.val / 4] :=
  (by decide +kernel : ∀ t : Fin grid0.N, win0_0.index t = ![t.val % 4, 0] ∧ win0_1.index t = ![t.val % 4, t.val / 4]
    ∧ win0_2.index t = ![0, t.val / 4])

/-- The block is filled with zeros. -/
theorem hzero (j) : k0_pay1 (F := Ideal) j = 0 := by pointwise [k0_pay1]

/-- A token block's products, by elements of the result's block. -/
def part (a : FVec Ideal S4096x1024 .bf16) (b : FVec Ideal S4096x256 .bf16) (y : S1024x256.Idx) : EReal :=
  ∑ k : Fin 4096, a (ix2 k (y 0)) * b (ix2 k (y 1))

/-- A token block's products are added. -/
theorem hpay (a : FVec Ideal S4096x1024 .bf16) (b : FVec Ideal S4096x256 .bf16) (acc : FVec Ideal S1024x256 .f32)
    (y : S1024x256.Idx) : k0_pay2 acc a b y = acc y + part a b y := by
  unfold part
  idx_vars y
  pointwise [k0_pay2]

/-- The reference's result, by elements. -/
theorem href (X0 : FVec Ideal S16384x1024 .f32) (X1 : FVec Ideal S16384x256 .f32) (r : Fin 1024) (q : Fin 256) :
    REF X0 X1 (ix2 r q) = ∑ l : Fin 16384, X0 (ix2 l r) * X1 (ix2 l q) := by
  pointwise [REF]
  exact Finset.sum_congr rfl fun _ _ => mul_comm _ _

set_option maxHeartbeats 2000000 in
/-- The result array after the grid is the reference's result. -/
theorem final : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
    (fun t y => part (iblk m c 0 t) (iblk m c 1 t) y)
    (fun t h j => by rw [outsAt0_A m c t h]; frame_out; rw [hpay, hzero])
    (fun t h j => by rw [outsAt0_B m c t h]; frame_out; rw [hpay])
    t ((flush0_2 t).mp hf) _, zero_add]
  have hN := lt_of_lt_of_eq t.isLt N_0
  idx_vars y
  have e : (((View.whole main_v2).slice (win0_2.rect t)).emb (ix2 y0 y1)) = ix2 y0 (⟨t.val / 4 * 256 + y1.val, by omega⟩ : Fin 256) := by
    blk_ext [idx t]
  rw [e, href]
  unfold part
  refine Fin.sum_mul_add_congr fun s k hl => ?_
  blk_point [iblk, V, idx t, idx ⟨_, Pipeline.run_point_lt_of_flush t ((flush0_2 t).mp hf) s⟩]

/-- The kernel and the reference end with equal results. -/
theorem algebraic : Cert.algebraic_Kernel8Ideal_Reference8Ideal (hKernel8Ideal := Cert.Kernel8Ideal.Gen.facts)
    (hReference8Ideal := Cert.Reference8Ideal.Gen.facts) := by
  intro m g m' g' _ e
  refine ⟨fun c => REF (m ((c : Thread nD τ).loc main_arg0)) (m ((c : Thread nD τ).loc main_arg1)), ?_,
    (θ_run _ _ _).mono (fun r hr c => ?_) (Cert.Reference8Ideal.Value.run (F := Ideal) m' g')⟩
  · run_from Cert.Kernel8Ideal.Gen.run_main m g
    exact final m c
  · obtain ⟨e0, e1⟩ := e c
    obtain ⟨h0, hargs⟩ := hr c
    refine ⟨h0.trans ?_, hargs⟩
    rw [e0, e1]

end WgradKv

end
-- ==== Proof.AttnOutBwd.lean ====
module

public import proofs.«01_k».proof.Defs
public import proofs.«01_k».proof.Proof.QkvBwd
public import proofs.«01_k».proof.Proof.Gen.Kernel10Ideal.Frame
public import proofs.«01_k».proof.Proof.Gen.Reference10Ideal.Run
public import proofs.«01_k».proof.Proof.Gen.Reference10Ideal.Read
public import Idealize.ShloMosaic.Lib.Pipeline.ValueKit
public import Idealize.ShloMosaic.Lib.Claim

/-! The backward pass of attention's output projection. -/

@[expose] public section

set_option maxRecDepth 16384

noncomputable section

namespace AttnOutBwd

open Idealize.ShloMosaic Idealize.ShloMosaic.TcCoe Idealize.SL.Sem
open Idealize.ShloMosaic.Pipeline (Dat)
open Cert.Kernel10Ideal Cert.Kernel10Ideal.Gen
open Cert.Reference10Ideal.Read

open QkvBwd (row sum_rows)

/-- The gradient of attention's output. -/
def gO (w : FVec Ideal S1024x1024 .f32) (y : FVec Ideal S16384x1024 .f32) (s : Fin 16384) (d : Fin 1024) : EReal :=
  ∑ e : Fin 1024, y (ix2 s e) * w (ix2 d e)

variable (m : (ℓ : Loc nD τ sig) → Buf (Elt Ideal) ℓ) (c : Dev nD)

/-- The weight at launch. -/
abbrev z0 : FVec Ideal S1024x1024 .f32 := m ((c.tc : Thread nD τ).loc main_arg0)
/-- The result's gradient at launch. -/
abbrev z1 : FVec Ideal S16384x1024 .f32 := m ((c.tc : Thread nD τ).loc main_arg1)

/-- The block indices: rows of the streams, the whole weight and partial sums. -/
theorem idx : ∀ t : Fin cfg0.N, win0_0.index t = ![t.val, 0] ∧ win0_1.index t = ![0, 0] ∧ win0_2.index t = ![t.val, 0] ∧ win0_3.index t = ![0, 0] :=
  (by decide +kernel : ∀ t : Fin grid0.N, win0_0.index t = ![t.val, 0] ∧ win0_1.index t = ![0, 0] ∧ win0_2.index t = ![t.val, 0] ∧ win0_3.index t = ![0, 0])

/-- A point as a number below the count of points. -/
abbrev pt (t : Fin cfg0.N) : Fin 16 := ⟨t.val, lt_of_lt_of_eq t.isLt N_0⟩

variable (t : Fin cfg0.N)

/-- The kernel's weight is the argument, cast and transposed. -/
theorem V_w : (V m c main_v1 : FVec Ideal S1024x1024 .bf16) = transpose S1024x1024 [1, 0] (truncf .bf16 (z0 m c) bitsLt_bf16_f32 : FVec Ideal S1024x1024 .bf16) transposes_S1024x1024_S1024x1024_1_0 := by
  unfold V
  after_results
  rfl

/-- The point's block of the result's gradient is its rows. -/
theorem ib0 (r d) : (iblk m c 0 t : FVec Ideal S1024x1024 .f32) (ix2 r d) = z1 m c (ix2 (row (pt t) r) d) := by
  unfold row
  blk_point [iblk, V, idx t]
/-- The point's block of the weight is the weight, transposed. -/
theorem ib1 (e d) : (iblk m c 1 t : FVec Ideal S1024x1024 .bf16) (ix2 e d) = z0 m c (ix2 d e) := by
  have e1 : (iblk m c 1 t : FVec Ideal S1024x1024 .bf16) (ix2 e d) = (V m c main_v1 : FVec Ideal S1024x1024 .bf16) (ix2 e d) := by
    blk_ext [iblk, idx t]
  rw [e1, V_w]
  pointwise

/-- A block of the gradient of attention's output. -/
theorem p2 (r d) : k0_pay2 (F := Ideal) (iblk m c 0 t) (iblk m c 1 t) (ix2 r d) = gO (z0 m c) (z1 m c) (row (pt t) r) d := by
  unfold gO
  simp only [← ib0 m c t, ← ib1 m c t]
  pointwise [k0_pay2]

/-- One point's part of the bias' gradient. -/
def T (t : Fin cfg0.N) (y : S8x1024.Idx) : EReal := ∑ q : Fin 128, z1 m c (ix2 (row (pt t) ⟨q.val * 8 + (y 0).val, by have := (y 0).isLt; dsimp at this; omega⟩) (y 1))

/-- A block's part of the bias' gradient. -/
theorem p3 (acc : FVec Ideal S8x1024 .f32) (r d) : k0_pay3 (F := Ideal) (iblk m c 0 t) acc (ix2 r d) = acc (ix2 r d) + T m c t (ix2 r d) := by
  have e : T m c t (ix2 r d) = ∑ q : Fin 128, z1 m c (ix2 (row (pt t) ⟨q.val * 8 + r.val, by omega⟩) d) := rfl
  rw [e]
  simp only [← ib0 m c t]
  pointwise [k0_pay3]

/-- A cleared accumulator holds zeros. -/
theorem p1 (y) : k0_pay1 (F := Ideal) y = 0 := by pointwise [k0_pay1]

/-- The block of the gradient of attention's output after a point. -/
theorem at2 (r d) : ((outsAt0 m c t.val t.isLt).1 : FVec Ideal S1024x1024 .bf16) (ix2 r d) = gO (z0 m c) (z1 m c) (row (pt t) r) d := by
  by_cases h : t.val % 16 = 0
  · rw [outsAt0_A m c t h]
    frame_out
    exact p2 m c t r d
  · rw [outsAt0_B m c t h]
    frame_out
    exact p2 m c t r d

/-- The partial sums of the bias' gradient at the last point. -/
theorem at3 (ht : t.val % 16 = 15) (y : S8x1024.Idx) : ((outsAt0 m c t.val t.isLt).2 : FVec Ideal S8x1024 .f32) y = ∑ s : Fin 16, T m c ⟨s.val, lt_of_lt_of_eq s.isLt N_0.symm⟩ y := by
  rw [Pipeline.eq_sum_fin_of_reset_step_apply_of_flush (fun n h => ((outsAt0 m c n h).2 : S8x1024.Idx → EReal)) 16 (fun _ => 0) (T m c) ?_ ?_ t ht y, zero_add]
  · refine Finset.sum_congr rfl fun s _ => ?_
    congr 1
    ext
    have := t.isLt
    have := (pt t).isLt
    dsimp only at *
    omega
  · intro t h y
    idx_vars y
    rw [outsAt0_A m c t h]
    frame_out
    refine (p3 m c t _ _ _).trans ?_
    rw [p1]
  · intro t h y
    idx_vars y
    rw [outsAt0_B m c t h]
    frame_out
    exact p3 m c t _ _ _

/-- The array of the gradient of attention's output. -/
theorem fin2 : (dats m 0 c).arrAt 2 cfg0.N = (fun y : S16384x1024.Idx => gO (z0 m c) (z1 m c) (y 0) (y 1)) := by
  refine (dats m 0 c).arrAt_eq_of_covers 2 _ (by decide +kernel) fun t hf y => ?_
  blk_simp
  rw [after0_2]
  idx_vars y
  refine (at2 m c t y0 y1).trans ?_
  refine congrArg₂ (gO (z0 m c) (z1 m c)) (Fin.ext ?_) (Fin.ext ?_) <;> ((try unfold row); blk_simp [idx t]; try omega)

/-- The array of the partial sums of the bias' gradient. -/
theorem fin3 : (dats m 0 c).arrAt 3 cfg0.N = (fun y : S8x1024.Idx => ∑ s : Fin 16, T m c ⟨s.val, lt_of_lt_of_eq s.isLt N_0.symm⟩ y) := by
  refine (dats m 0 c).arrAt_eq_of_covers 3 _ (by decide +kernel) fun t hf y => ?_
  blk_simp
  rw [after0_3]
  refine (at3 m c t ((flush0_3 t).mp hf) y).trans ?_
  refine Finset.sum_congr rfl fun s _ => congrArg _ ?_
  idx_vars y
  blk_ext [idx t]

/-- The last host lines sum the bias' partial rows. -/
theorem sum_v3 (W : Valuation τ sig (Elt Ideal)) : @Eq (FVec Ideal S1024 .f32) (StableHlo.after (List.flatten [hostOps1]) W (Proc.devRef .tc main_v3))
    (Host.reduceAdd (W (Proc.devRef .tc main_v2_1) : FVec Ideal S8x1024 .f32) (constant S_ .f32 0x00000000#32) reducesTo_S8x1024_S1024_d0 h_S_) := by
  simp only [List.flatten_cons, List.flatten_nil, List.append_nil]
  after_results

/-- The bias' gradient is the sum of its partial rows. -/
theorem W_v3 : @Eq (FVec Ideal S1024 .f32) (Pipeline.afterTail₀ cfgs (dats m) 0 (V0 m) [hostOps1] c main_v3)
    (Host.reduceAdd ((dats m 0 c).arrAt 3 cfg0.N : FVec Ideal S8x1024 .f32) (constant S_ .f32 0x00000000#32) reducesTo_S8x1024_S1024_d0 h_S_) := by
  unfold Pipeline.afterTail₀
  refine (sum_v3 _).trans ?_
  exact congrArg (fun a => Host.reduceAdd (a : FVec Ideal S8x1024 .f32) (constant S_ .f32 0x00000000#32) reducesTo_S8x1024_S1024_d0 h_S_)
    (Pipeline.withArrays_arr spec0 launch0.win.arr_inj c (V0 m c) (fun w => (dats m 0 c).arrAt w cfg0.N) 3)

/-- A point's part of the bias' gradient, by its rows. -/
theorem T_eq (s : Fin 16) (r : Fin 8) (d : Fin 1024) : T m c ⟨s.val, lt_of_lt_of_eq s.isLt N_0.symm⟩ (ix2 r d) =
    ∑ q : Fin 128, (fun s => z1 m c (ix2 s d)) (row s ⟨q.val * 8 + r.val, by omega⟩) := rfl

/-- The bias' gradient, summed over all rows. -/
theorem res_db (y : S1024.Idx) : @Eq EReal ((Pipeline.afterTail₀ cfgs (dats m) 0 (V0 m) [hostOps1] c main_v3 : FVec Ideal S1024 .f32) y)
    (∑ s : Fin 16384, z1 m c (ix2 s (y 0))) := by
  rw [W_v3, fin3]
  idx_vars y
  pointwise
  refine Eq.trans ?_ (sum_rows (fun s => z1 m c (ix2 s y0)))
  refine Finset.sum_congr rfl fun r _ => Finset.sum_congr rfl fun s _ => T_eq m c s r y0

/-- The gradient of attention's output is the reference's. -/
theorem eq_do : ((dats m 0 c).arrAt 2 cfg0.N : FVec Ideal S16384x1024 .bf16) = val_main_v11 (F := Ideal) (z0 m c) (z1 m c) := by
  rw [fin2]
  funext y
  idx_vars y
  unfold gO
  pointwise [val_main_v11, val_main_v10, val_main_v6]

/-- The bias' gradient is the reference's. -/
theorem eq_db : (Pipeline.afterTail₀ cfgs (dats m) 0 (V0 m) [hostOps1] c main_v3 : FVec Ideal S1024 .f32) = val_main_v9 (F := Ideal) (z1 m c) := by
  funext y
  refine (res_db m c y).trans ?_
  idx_vars y
  pointwise [val_main_v9, val_main_cst_2, val_main_v8, val_main_v7, val_main_cst_1]
  rw [Fin.sum_univ_one]

/-- The kernel's run ends with the reference's functions of the arguments. -/
theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2_0) = val_main_v11 (F := Ideal) (z0 m c) (z1 m c)
      ∧ r.2.mem ((c.tc : Thread nD τ).loc main_v3) = val_main_v9 (F := Ideal) (z1 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r hr c => ⟨((hr c).1 2).trans (eq_do m c),
      ((hr c).2 main_v3 (Pipeline.mem_restRefs_of main_v3 (by decide) (by decide))).trans (eq_db m c),
      ((hr c).2 main_arg0 (Pipeline.mem_restRefs_of main_arg0 (by decide) (by decide))).trans (W_main_arg0 m (dats m) c),
      ((hr c).1 0).trans (((dats m 0 c).arrAt_in 0 rfl _).trans ((A_eq m c 0).trans (V_main_arg1 m c)))⟩) (run_main m ρ)

/-- The kernel and the reference end with equal results. -/
theorem algebraic : Cert.algebraic_Kernel10Ideal_Reference10Ideal (hKernel10Ideal := Cert.Kernel10Ideal.Gen.facts)
    (hReference10Ideal := Cert.Reference10Ideal.Gen.facts) := by
  intro m g m' g' h e
  refine ⟨fun c => val_main_v11 (F := Ideal) (z0 m c) (z1 m c), fun c => val_main_v9 (F := Ideal) (z1 m c), run_kernel m g,
    (θ_run _ _ _).mono (fun r hr c => ?_) (Cert.Reference10Ideal.Value.run (F := Ideal) m' g')⟩
  obtain ⟨e0, e1⟩ := e c
  obtain ⟨h0, h1, hargs⟩ := hr c
  refine ⟨h0.trans ((val_main_v11_eq _ _).trans ?_), h1.trans ((val_main_v9_eq _).trans ?_), hargs⟩
  · rw [e0, e1]
  · rw [e1]

end AttnOutBwd

end
-- ==== Proof.AttnOutFwd.lean ====
module

public import proofs.«01_k».proof.Defs
public import proofs.«01_k».proof.Proof.Pieces
public import proofs.«01_k».proof.Proof.Gen.Kernel11Ideal.Frame
public import proofs.«01_k».proof.Proof.Gen.Reference11Ideal.Run
public import proofs.«01_k».proof.Proof.Gen.Reference11Ideal.Read
public import Idealize.ShloMosaic.Lib.Pipeline.ValueKit
public import Idealize.ShloMosaic.Lib.Claim

/-! Attention's output projection onto the residual stream. -/

@[expose] public section

set_option maxRecDepth 16384

noncomputable section

namespace AttnOutFwd

open Idealize.ShloMosaic Idealize.ShloMosaic.TcCoe Idealize.SL.Sem
open Idealize.ShloMosaic.Pipeline (Dat)
open Cert.Kernel11Ideal Cert.Kernel11Ideal.Gen
open Cert.Reference11Ideal.Read

/-- The row of the arrays the block of point `t` holds at `r`. -/
def row (t : Fin 16) (r : Fin 1024) : Fin 16384 := ⟨t.val * 1024 + r.val, by omega⟩

/-- The result: the residual stream, the product and the bias. -/
def gY (x o : FVec Ideal S16384x1024 .f32) (w : FVec Ideal S1024x1024 .f32) (b : FVec Ideal S1024 .f32) (s : Fin 16384) (d : Fin 1024) : EReal :=
  x (ix2 s d) + ∑ e : Fin 1024, o (ix2 s e) * w (ix2 e d) + b (ix1 d)

variable (m : (ℓ : Loc nD τ sig) → Buf (Elt Ideal) ℓ) (c : Dev nD)

/-- The residual stream at launch. -/
abbrev z0 : FVec Ideal S16384x1024 .f32 := m ((c.tc : Thread nD τ).loc main_arg0)
/-- Attention's output at launch. -/
abbrev z1 : FVec Ideal S16384x1024 .f32 := m ((c.tc : Thread nD τ).loc main_arg1)
/-- The weight at launch. -/
abbrev z2 : FVec Ideal S1024x1024 .f32 := m ((c.tc : Thread nD τ).loc main_arg2)
/-- The bias at launch. -/
abbrev z3 : FVec Ideal S1024 .f32 := m ((c.tc : Thread nD τ).loc main_arg3)

/-- The block indices: rows of the streams, the whole weight and bias. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] :=
  (by decide +kernel : ∀ t : Fin grid0.N, win0_0.index t = ![t.val, 0] ∧ win0_1.index t = ![t.val, 0] ∧ win0_2.index t = ![0, 0]
    ∧ win0_3.index t = ![0, 0] ∧ win0_4.index t = ![t.val, 0])

/-- A point as a number below the count of points. -/
abbrev pt (t : Fin cfg0.N) : Fin 16 := ⟨t.val, lt_of_lt_of_eq t.isLt N_0⟩

variable (t : Fin cfg0.N)

/-- The point's block of the residual stream is its rows. -/
theorem ib0 (r d) : (iblk m c 0 t : FVec Ideal S1024x1024 .f32) (ix2 r d) = z0 m c (ix2 (row (pt t) r) d) := by
  unfold row
  blk_point [iblk, V, idx t]
/-- The point's block of attention's output is its rows. -/
theorem ib1 (r d) : (iblk m c 1 t : FVec Ideal S1024x1024 .bf16) (ix2 r d) = z1 m c (ix2 (row (pt t) r) d) := by
  unfold row
  blk_point [iblk, V, idx t]
/-- The point's block of the weight is the weight. -/
theorem ib2 (r d) : (iblk m c 2 t : FVec Ideal S1024x1024 .bf16) (ix2 r d) = z2 m c (ix2 r d) := by
  blk_point [iblk, V, idx t]
/-- The kernel's bias is the argument as one row. -/
theorem V_b : (V m c main_v2 : FVec Ideal S1x1024 .f32) = shapeCast S1x1024 (z3 m c) shapeCasts_S1024_S1x1024 := by
  unfold V
  after_results
  rfl
/-- The point's block of the bias is the bias. -/
theorem ib3 (d) : (iblk m c 3 t : FVec Ideal S1x1024 .f32) (ix2 0 d) = z3 m c (ix1 d) := by
  have e1 : (iblk m c 3 t : FVec Ideal S1x1024 .f32) (ix2 0 d) = (V m c main_v2 : FVec Ideal S1x1024 .f32) (ix2 0 d) := by
    blk_ext [iblk, idx t]
  rw [e1, V_b]
  pointwise

/-- The array of the result. -/
theorem fin4 : (dats m 0 c).arrAt 4 cfg0.N = (fun y : S16384x1024.Idx => gY (z0 m c) (z1 m c) (z2 m c) (z3 m c) (y 0) (y 1)) := by
  refine (dats m 0 c).arrAt_eq_of_covers 4 _ (by decide +kernel) fun t hf y => ?_
  blk_simp
  rw [after0_4]
  idx_vars y
  have e : (out0_4 (iblk m c 0 t) (iblk m c 1 t) (iblk m c 2 t) (iblk m c 3 t) : FVec Ideal S1024x1024 .f32) (ix2 y0 y1)
      = gY (z0 m c) (z1 m c) (z2 m c) (z3 m c) (row (pt t) y0) y1 := by
    frame_out
    unfold gY
    simp only [← ib0 m c t, ← ib1 m c t, ← ib2 m c t, ← ib3 m c t]
    pointwise [k0_pay1]
  refine e.trans ?_
  refine congrArg₂ (gY (z0 m c) (z1 m c) (z2 m c) (z3 m c)) (Fin.ext ?_) (Fin.ext ?_) <;> ((try unfold row); blk_simp [idx t]; try omega)

/-- The kernel's result is the reference's. -/
theorem eq_y : ((dats m 0 c).arrAt 4 cfg0.N : FVec Ideal S16384x1024 .f32) = val_main_v4 (F := Ideal) (z0 m c) (z1 m c) (z2 m c) (z3 m c) := by
  rw [fin4]
  funext y
  idx_vars y
  unfold gY
  pointwise [val_main_v4, val_main_v3, val_main_v2, val_main_v1, val_main_v0]
  rw [add_assoc]

/-- The kernel's run ends with the reference's function of the arguments. -/
theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3) = val_main_v4 (F := Ideal) (z0 m c) (z1 m c) (z2 m c) (z3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c => ⟨((hr c).1 4).trans (eq_y m c), ((hr c).1 0).trans (((dats m 0 c).arrAt_in 0 rfl _).trans ((A_eq m c 0).trans (V_main_arg0 m c))),
    ((hr c).2 main_arg1 (Pipeline.mem_restRefs_of main_arg1 (by decide) (by decide))).trans (V_main_arg1 m c),
    ((hr c).2 main_arg2 (Pipeline.mem_restRefs_of main_arg2 (by decide) (by decide))).trans (V_main_arg2 m c),
    ((hr c).2 main_arg3 (Pipeline.mem_restRefs_of main_arg3 (by decide) (by decide))).trans (V_main_arg3 m c)⟩) (run_main m ρ)

/-- The kernel and the reference end with equal results. -/
theorem algebraic : Cert.algebraic_Kernel11Ideal_Reference11Ideal (hKernel11Ideal := Cert.Kernel11Ideal.Gen.facts)
    (hReference11Ideal := Cert.Reference11Ideal.Gen.facts) := by
  intro m g m' g' h e
  refine ⟨fun c => val_main_v4 (F := Ideal) (z0 m c) (z1 m c) (z2 m c) (z3 m c), run_kernel m g,
    (θ_run _ _ _).mono (fun r hr c => ?_) (Cert.Reference11Ideal.Value.run (F := Ideal) m' g')⟩
  obtain ⟨e0, e1, e2, e3⟩ := e c
  obtain ⟨h0, hargs⟩ := hr c
  refine ⟨h0.trans ((val_main_v4_eq _ _ _ _).trans ?_), hargs⟩
  rw [e0, e1, e2, e3]

end AttnOutFwd

end
-- ==== Proof.QkvFwd.lean ====
module

public import proofs.«01_k».proof.Defs
public import proofs.«01_k».proof.Proof.Reals
public import proofs.«01_k».proof.Proof.Gen.Kernel12Ideal.Frame
public import proofs.«01_k».proof.Proof.Gen.Reference12Ideal.Run
public import proofs.«01_k».proof.Proof.Gen.Reference12Ideal.Read
public import Idealize.ShloMosaic.Lib.Pipeline.ValueKit
public import Idealize.ShloMosaic.Lib.Claim

/-! Attention's norm and its input projection. -/

@[expose] public section

set_option maxRecDepth 16384

noncomputable section

namespace QkvFwd

open Idealize.ShloMosaic Idealize.ShloMosaic.TcCoe Idealize.SL.Sem
open Idealize.ShloMosaic.Pipeline (Dat)
open Cert.Kernel12Ideal Cert.Kernel12Ideal.Gen
open Cert.Reference12Ideal.Read

open FfnBwd (cD eps gRX)

/-- The row of the arrays the block of point `t` holds at `r`. -/
def row (t : Fin 16) (r : Fin 1024) : Fin 16384 := ⟨t.val * 1024 + r.val, by omega⟩

/-- The normed input, a row of it. -/
def gH (x : FVec Ideal S16384x1024 .f32) (g : FVec Ideal S1x1024 .f32) (s : Fin 16384) (d : Fin 1024) : EReal :=
  x (ix2 s d) * gRX (fun s d => x (ix2 s d)) s * g (ix2 0 d)
/-- The projection of the normed input, with its bias. -/
def gP (x : FVec Ideal S16384x1024 .f32) (g : FVec Ideal S1x1024 .f32) (w : FVec Ideal S1024x1280 .f32) (b : FVec Ideal S1280 .f32) (s : Fin 16384) (e : Fin 1280) : EReal :=
  ∑ d : Fin 1024, gH x g s d * w (ix2 d e) + b (ix1 e)

variable (m : (ℓ : Loc nD τ sig) → Buf (Elt Ideal) ℓ) (c : Dev nD)

/-- The input at launch. -/
abbrev z0 : FVec Ideal S16384x1024 .f32 := m ((c.tc : Thread nD τ).loc main_arg0)
/-- The scale at launch. -/
abbrev z1 : FVec Ideal S1x1024 .f32 := m ((c.tc : Thread nD τ).loc main_arg1)
/-- The weight at launch. -/
abbrev z2 : FVec Ideal S1024x1280 .f32 := m ((c.tc : Thread nD τ).loc main_arg2)
/-- The bias at launch. -/
abbrev z3 : FVec Ideal S1280 .f32 := m ((c.tc : Thread nD τ).loc main_arg3)

/-- The block indices: rows of the streams, the whole scale, weight and bias. -/
theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] :=
  (by decide +kernel : ∀ t : Fin grid0.N, win0_0.index t = ![t.val, 0] ∧ win0_1.index t = ![0, 0] ∧ win0_2.index t = ![0, 0] ∧ win0_3.index t = ![0, 0]
    ∧ win0_4.index t = ![t.val, 0] ∧ win0_5.index t = ![t.val, 0])

/-- A point as a number below the count of points. -/
abbrev pt (t : Fin cfg0.N) : Fin 16 := ⟨t.val, lt_of_lt_of_eq t.isLt N_0⟩

variable (t : Fin cfg0.N)

/-- The point's block of the input is its rows. -/
theorem ib0 (r d) : (iblk m c 0 t : FVec Ideal S1024x1024 .f32) (ix2 r d) = z0 m c (ix2 (row (pt t) r) d) := by
  unfold row
  blk_point [iblk, V, idx t]
/-- The point's block of the scale is the scale. -/
theorem ib1 (d) : (iblk m c 1 t : FVec Ideal S1x1024 .f32) (ix2 0 d) = z1 m c (ix2 0 d) := by
  blk_point [iblk, V, idx t]
/-- The point's block of the weight is the weight. -/
theorem ib2 (r d) : (iblk m c 2 t : FVec Ideal S1024x1280 .bf16) (ix2 r d) = z2 m c (ix2 r d) := by
  blk_point [iblk, V, idx t]
/-- The kernel's bias is the argument as one row. -/
theorem V_b : (V m c main_v1 : FVec Ideal S1x1280 .f32) = shapeCast S1x1280 (z3 m c) shapeCasts_S1280_S1x1280 := by
  unfold V
  after_results
  rfl
/-- The point's block of the bias is the bias. -/
theorem ib3 (d) : (iblk m c 3 t : FVec Ideal S1x1280 .f32) (ix2 0 d) = z3 m c (ix1 d) := by
  have e1 : (iblk m c 3 t : FVec Ideal S1x1280 .f32) (ix2 0 d) = (V m c main_v1 : FVec Ideal S1x1280 .f32) (ix2 0 d) := by
    blk_ext [iblk, idx t]
  rw [e1, V_b]
  pointwise

/-- A block of the normed input. -/
theorem pH (r d) : k0_pay1 (F := Ideal) (iblk m c 0 t) (iblk m c 1 t) (ix2 r d) = gH (z0 m c) (z1 m c) (row (pt t) r) d := by
  unfold gH gRX cD eps
  simp only [← ib0 m c t, ← ib1 m c t]
  pointwise [k0_pay1]
/-- A block of the projection. -/
theorem pP (r e) : k0_pay2 (F := Ideal) (iblk m c 0 t) (iblk m c 1 t) (iblk m c 2 t) (iblk m c 3 t) (ix2 r e) = gP (z0 m c) (z1 m c) (z2 m c) (z3 m c) (row (pt t) r) e := by
  unfold gP
  simp only [← pH m c t, ← ib2 m c t, ← ib3 m c t]
  pointwise [k0_pay2]

/-- The array of the normed input. -/
theorem fin4 : (dats m 0 c).arrAt 4 cfg0.N = (fun y : S16384x1024.Idx => gH (z0 m c) (z1 m c) (y 0) (y 1)) := by
  refine (dats m 0 c).arrAt_eq_of_covers 4 _ (by decide +kernel) fun t hf y => ?_
  blk_simp
  rw [after0_4]
  idx_vars y
  have e : (out0_4 (iblk m c 0 t) (iblk m c 1 t) (iblk m c 2 t) (iblk m c 3 t) : FVec Ideal S1024x1024 .bf16) (ix2 y0 y1)
      = gH (z0 m c) (z1 m c) (row (pt t) y0) y1 := by
    frame_out
    exact pH m c t y0 y1
  refine e.trans ?_
  refine congrArg₂ (gH (z0 m c) (z1 m c)) (Fin.ext ?_) (Fin.ext ?_) <;> ((try unfold row); blk_simp [idx t]; try omega)

/-- The array of the projection. -/
theorem fin5 : (dats m 0 c).arrAt 5 cfg0.N = (fun y : S16384x1280.Idx => gP (z0 m c) (z1 m c) (z2 m c) (z3 m c) (y 0) (y 1)) := by
  refine (dats m 0 c).arrAt_eq_of_covers 5 _ (by decide +kernel) fun t hf y => ?_
  blk_simp
  rw [after0_5]
  idx_vars y
  have e : (out0_5 (iblk m c 0 t) (iblk m c 1 t) (iblk m c 2 t) (iblk m c 3 t) : FVec Ideal S1024x1280 .bf16) (ix2 y0 y1)
      = gP (z0 m c) (z1 m c) (z2 m c) (z3 m c) (row (pt t) y0) y1 := by
    frame_out
    exact pP m c t y0 y1
  refine e.trans ?_
  refine congrArg₂ (gP (z0 m c) (z1 m c) (z2 m c) (z3 m c)) (Fin.ext ?_) (Fin.ext ?_) <;> ((try unfold row); blk_simp [idx t]; try omega)

section
variable (x0 : FVec Ideal S16384x1024 .f32) (x1 : FVec Ideal S1x1024 .f32) (x2 : FVec Ideal S1024x1280 .f32) (x3 : FVec Ideal S1280 .f32)

/-- The reference's normed input. -/
theorem rH (s d) : val_main_v13 (F := Ideal) x0 x1 (ix2 s d) = gH x0 x1 s d := by
  unfold gH gRX cD eps
  pointwise [val_main_v13, val_main_v12, val_main_v11, val_main_v10, val_main_v9, val_main_v8, val_main_v7, val_main_v6, val_main_cst_1, val_main_v5, val_main_v4, val_main_cst_0, val_main_v3, val_main_v2, val_main_cst, val_main_v1, val_main_v0]
/-- The reference's projection. -/
theorem rP (s e) : val_main_v19 (F := Ideal) x0 x1 x2 x3 (ix2 s e) = gP x0 x1 x2 x3 s e := by
  unfold gP
  simp only [← rH]
  pointwise [val_main_v19, val_main_v18, val_main_v17, val_main_v16, val_main_v15]

/-- The reference's first result. -/
theorem q4 (s d) : val_main_v14 (F := Ideal) x0 x1 (ix2 s d) = gH x0 x1 s d := by
  rw [← rH]
  pointwise [val_main_v14]
/-- The reference's second result. -/
theorem q5 (s d) : val_main_v19 (F := Ideal) x0 x1 x2 x3 (ix2 s d) = gP x0 x1 x2 x3 s d := rP x0 x1 x2 x3 s d
end

/-- Result 0 of the kernel is the reference's. -/
theorem eq_4 : ((dats m 0 c).arrAt 4 cfg0.N : FVec Ideal S16384x1024 .bf16) = val_main_v14 (F := Ideal) (z0 m c) (z1 m c) := by
  rw [fin4]
  funext y
  idx_vars y
  exact (q4 _ _ y0 y1).symm

/-- Result 1 of the kernel is the reference's. -/
theorem eq_5 : ((dats m 0 c).arrAt 5 cfg0.N : FVec Ideal S16384x1280 .bf16) = val_main_v19 (F := Ideal) (z0 m c) (z1 m c) (z2 m c) (z3 m c) := by
  rw [fin5]
  funext y
  idx_vars y
  exact (q5 _ _ _ _ y0 y1).symm

/-- The kernel's run ends with the reference's functions of the arguments. -/
theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2_0) = val_main_v14 (F := Ideal) (z0 m c) (z1 m c)
      ∧ r.2.mem ((c.tc : Thread nD τ).loc main_v2_1) = val_main_v19 (F := Ideal) (z0 m c) (z1 m c) (z2 m c) (z3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c => ⟨((hr c).1 4).trans (eq_4 m c), ((hr c).1 5).trans (eq_5 m c),
      ((hr c).1 0).trans (((dats m 0 c).arrAt_in 0 rfl _).trans ((A_eq m c 0).trans (V_main_arg0 m c))),
      ((hr c).1 1).trans (((dats m 0 c).arrAt_in 1 rfl _).trans ((A_eq m c 1).trans (V_main_arg1 m c))),
      ((hr c).2 main_arg2 (Pipeline.mem_restRefs_of main_arg2 (by decide) (by decide))).trans (V_main_arg2 m c),
      ((hr c).2 main_arg3 (Pipeline.mem_restRefs_of main_arg3 (by decide) (by decide))).trans (V_main_arg3 m c)⟩) (run_main m ρ)

/-- The kernel and the reference end with equal results. -/
theorem algebraic : Cert.algebraic_Kernel12Ideal_Reference12Ideal (hKernel12Ideal := Cert.Kernel12Ideal.Gen.facts)
    (hReference12Ideal := Cert.Reference12Ideal.Gen.facts) := by
  intro m g m' g' h e
  refine ⟨fun c => val_main_v14 (F := Ideal) (z0 m c) (z1 m c), fun c => val_main_v19 (F := Ideal) (z0 m c) (z1 m c) (z2 m c) (z3 m c), run_kernel m g,
    (θ_run _ _ _).mono (fun r hr c => ?_) (Cert.Reference12Ideal.Value.run (F := Ideal) m' g')⟩
  obtain ⟨e0, e1, e2, e3⟩ := e c
  obtain ⟨h0, h1, hargs⟩ := hr c
  refine ⟨h0.trans ((val_main_v14_eq _ _).trans ?_), h1.trans ((val_main_v19_eq _ _ _ _).trans ?_), hargs⟩
  · rw [e0, e1]
  · rw [e0, e1, e2, e3]

end QkvFwd

end
-- ==== Proof.Pw1Fwd.lean ====
module

public import proofs.«01_k».proof.Defs
public import proofs.«01_k».proof.Proof.Reals
public import proofs.«01_k».proof.Proof.Gen.Kernel13Ideal.Frame
public import proofs.«01_k».proof.Proof.Gen.Reference13Ideal.Run
public import proofs.«01_k».proof.Proof.Gen.Reference13Ideal.Read
public import Idealize.ShloMosaic.Lib.Pipeline.ValueKit
public import Idealize.ShloMosaic.Lib.Claim

/-! The norm before the convolution, its first pointwise projection and the gate. -/

@[expose] public section

set_option maxRecDepth 16384

noncomputable section

namespace Pw1Fwd

open Idealize.ShloMosaic Idealize.ShloMosaic.TcCoe Idealize.SL.Sem
open Idealize.ShloMosaic.Pipeline (Dat)
open Cert.Kernel13Ideal Cert.Kernel13Ideal.Gen
open Cert.Reference13Ideal.Read

open FfnBwd (cD eps gRX half sgK sgR)

/-- The row of the arrays the block of point `t` holds at `r`. -/
def row (t : Fin 16) (r : Fin 1024) : Fin 16384 := ⟨t.val * 1024 + r.val, by omega⟩

/-- The normed input, a row of it. -/
def gH (x : FVec Ideal S16384x1024 .f32) (g : FVec Ideal S1x1024 .f32) (s : Fin 16384) (d : Fin 1024) : EReal :=
  x (ix2 s d) * gRX (fun s d => x (ix2 s d)) s * g (ix2 0 d)
/-- The projection of the normed input, with its bias. -/
def gP (x : FVec Ideal S16384x1024 .f32) (g : FVec Ideal S1x1024 .f32) (w : FVec Ideal S1024x2048 .f32) (b : FVec Ideal S2048 .f32) (s : Fin 16384) (e : Fin 2048) : EReal :=
  ∑ d : Fin 1024, gH x g s d * w (ix2 d e) + b (ix1 e)

/-- The gated projection, the gate's sigmoid written by `S`. -/
def gU (S : EReal → EReal) (x : FVec Ideal S16384x1024 .f32) (g : FVec Ideal S1x1024 .f32) (w : FVec Ideal S1024x2048 .f32) (b : FVec Ideal S2048 .f32) (s : Fin 16384) (d : Fin 1024) : EReal :=
  gP x g w b s ⟨d.val, by omega⟩ * S (gP x g w b s ⟨1024 + d.val, by omega⟩)

/-- The two sigmoids agree at the infinities as well. -/
theorem sg_all (z : EReal) : sgK z = sgR z := by
  induction z with
  | coe z => exact FfnBwd.sg_eq ⟨z, rfl⟩
  | top =>
    have hh : half = ((1 / 2 : ℝ) : EReal) := FfnBwd.half_eq
    unfold sgK sgR
    rw [hh, EReal.coe_mul_top_of_pos (by norm_num)]
    simp only [Ideal.tanh_top, EReal.neg_top, Ideal.exp_bot, add_zero, mul_one]
    rw [← EReal.coe_add]
    rw [show (1 : EReal) = ((1 : ℝ) : EReal) from rfl, Ideal.div_coe (by norm_num), ← EReal.coe_mul]
    norm_num
  | bot =>
    have hh : half = ((1 / 2 : ℝ) : EReal) := FfnBwd.half_eq
    unfold sgK sgR
    rw [hh, EReal.coe_mul_bot_of_pos (by norm_num)]
    simp only [Ideal.tanh_bot, EReal.neg_bot, Ideal.exp_top]
    have e : (1 : EReal) + ⊤ = ⊤ := EReal.add_top_of_ne_bot (by decide)
    rw [e, ← hh]
    simp [Ideal.div, hh, ← EReal.coe_neg, ← EReal.coe_add, ← EReal.coe_mul]

variable (m : (ℓ : Loc nD τ sig) → Buf (Elt Ideal) ℓ) (c : Dev nD)

/-- The input at launch. -/
abbrev z0 : FVec Ideal S16384x1024 .f32 := m ((c.tc : Thread nD τ).loc main_arg0)
/-- The scale at launch. -/
abbrev z1 : FVec Ideal S1x1024 .f32 := m ((c.tc : Thread nD τ).loc main_arg1)
/-- The weight at launch. -/
abbrev z2 : FVec Ideal S1024x2048 .f32 := m ((c.tc : Thread nD τ).loc main_arg2)
/-- The bias at launch. -/
abbrev z3 : FVec Ideal S2048 .f32 := m ((c.tc : Thread nD τ).loc main_arg3)

/-- The block indices: rows of the streams, the whole scale, weight and bias. -/
theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] :=
  (by decide +kernel : ∀ t : Fin grid0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0])

/-- A point as a number below the count of points. -/
abbrev pt (t : Fin cfg0.N) : Fin 16 := ⟨t.val, lt_of_lt_of_eq t.isLt N_0⟩

variable (t : Fin cfg0.N)

/-- The point's block of the input is its rows. -/
theorem ib0 (r d) : (iblk m c 0 t : FVec Ideal S1024x1024 .f32) (ix2 r d) = z0 m c (ix2 (row (pt t) r) d) := by
  unfold row
  blk_point [iblk, V, idx t]
/-- The point's block of the scale is the scale. -/
theorem ib1 (d) : (iblk m c 1 t : FVec Ideal S1x1024 .f32) (ix2 0 d) = z1 m c (ix2 0 d) := by
  blk_point [iblk, V, idx t]
/-- The point's block of the weight is the weight. -/
theorem ib2 (r d) : (iblk m c 2 t : FVec Ideal S1024x2048 .bf16) (ix2 r d) = z2 m c (ix2 r d) := by
  blk_point [iblk, V, idx t]
/-- The kernel's bias is the argument as one row. -/
theorem V_b : (V m c main_v1 : FVec Ideal S1x2048 .f32) = shapeCast S1x2048 (z3 m c) shapeCasts_S2048_S1x2048 := by
  unfold V
  after_results
  rfl
/-- The point's block of the bias is the bias. -/
theorem ib3 (d) : (iblk m c 3 t : FVec Ideal S1x2048 .f32) (ix2 0 d) = z3 m c (ix1 d) := by
  have e1 : (iblk m c 3 t : FVec Ideal S1x2048 .f32) (ix2 0 d) = (V m c main_v1 : FVec Ideal S1x2048 .f32) (ix2 0 d) := by
    blk_ext [iblk, idx t]
  rw [e1, V_b]
  pointwise

/-- A block of the normed input. -/
theorem pH (r d) : k0_pay1 (F := Ideal) (iblk m c 0 t) (iblk m c 1 t) (ix2 r d) = gH (z0 m c) (z1 m c) (row (pt t) r) d := by
  unfold gH gRX cD eps
  simp only [← ib0 m c t, ← ib1 m c t]
  pointwise [k0_pay1]
/-- A block of the projection. -/
theorem pP (r e) : k0_pay2 (F := Ideal) (iblk m c 0 t) (iblk m c 1 t) (iblk m c 2 t) (iblk m c 3 t) (ix2 r e) = gP (z0 m c) (z1 m c) (z2 m c) (z3 m c) (row (pt t) r) e := by
  unfold gP
  simp only [← pH m c t, ← ib2 m c t, ← ib3 m c t]
  pointwise [k0_pay2]

/-- A block of the projection, cast. -/
theorem pA (r e) : k0_pay3 (F := Ideal) (iblk m c 0 t) (iblk m c 1 t) (iblk m c 2 t) (iblk m c 3 t) (ix2 r e) = gP (z0 m c) (z1 m c) (z2 m c) (z3 m c) (row (pt t) r) e := by
  rw [← pP m c t]
  pointwise [k0_pay3]
/-- A block of the gated projection. -/
theorem pU (r e) : k0_pay4 (F := Ideal) (iblk m c 0 t) (iblk m c 1 t) (iblk m c 2 t) (iblk m c 3 t) (ix2 r e) = gU sgK (z0 m c) (z1 m c) (z2 m c) (z3 m c) (row (pt t) r) e := by
  unfold gU sgK half
  simp only [← pP m c t]
  pointwise [k0_pay4]

/-- The array of the normed input. -/
theorem fin4 : (dats m 0 c).arrAt 4 cfg0.N = (fun y : S16384x1024.Idx => gH (z0 m c) (z1 m c) (y 0) (y 1)) := by
  refine (dats m 0 c).arrAt_eq_of_covers 4 _ (by decide +kernel) fun t hf y => ?_
  blk_simp
  rw [after0_4]
  idx_vars y
  have e : (out0_4 (iblk m c 0 t) (iblk m c 1 t) (iblk m c 2 t) (iblk m c 3 t) : FVec Ideal S1024x1024 .bf16) (ix2 y0 y1)
      = gH (z0 m c) (z1 m c) (row (pt t) y0) y1 := by
    frame_out
    exact pH m c t y0 y1
  refine e.trans ?_
  refine congrArg₂ (gH (z0 m c) (z1 m c)) (Fin.ext ?_) (Fin.ext ?_) <;> ((try unfold row); blk_simp [idx t]; try omega)

/-- The array of the projection. -/
theorem fin5 : (dats m 0 c).arrAt 5 cfg0.N = (fun y : S16384x2048.Idx => gP (z0 m c) (z1 m c) (z2 m c) (z3 m c) (y 0) (y 1)) := by
  refine (dats m 0 c).arrAt_eq_of_covers 5 _ (by decide +kernel) fun t hf y => ?_
  blk_simp
  rw [after0_5]
  idx_vars y
  have e : (out0_5 (iblk m c 0 t) (iblk m c 1 t) (iblk m c 2 t) (iblk m c 3 t) : FVec Ideal S1024x2048 .bf16) (ix2 y0 y1)
      = gP (z0 m c) (z1 m c) (z2 m c) (z3 m c) (row (pt t) y0) y1 := by
    frame_out
    exact pA m c t y0 y1
  refine e.trans ?_
  refine congrArg₂ (gP (z0 m c) (z1 m c) (z2 m c) (z3 m c)) (Fin.ext ?_) (Fin.ext ?_) <;> ((try unfold row); blk_simp [idx t]; try omega)

/-- The array of the gated projection. -/
theorem fin6 : (dats m 0 c).arrAt 6 cfg0.N = (fun y : S16384x1024.Idx => gU sgK (z0 m c) (z1 m c) (z2 m c) (z3 m c) (y 0) (y 1)) := by
  refine (dats m 0 c).arrAt_eq_of_covers 6 _ (by decide +kernel) fun t hf y => ?_
  blk_simp
  rw [after0_6]
  idx_vars y
  have e : (out0_6 (iblk m c 0 t) (iblk m c 1 t) (iblk m c 2 t) (iblk m c 3 t) : FVec Ideal S1024x1024 .f32) (ix2 y0 y1)
      = gU sgK (z0 m c) (z1 m c) (z2 m c) (z3 m c) (row (pt t) y0) y1 := by
    frame_out
    exact pU m c t y0 y1
  refine e.trans ?_
  refine congrArg₂ (gU sgK (z0 m c) (z1 m c) (z2 m c) (z3 m c)) (Fin.ext ?_) (Fin.ext ?_) <;> ((try unfold row); blk_simp [idx t]; try omega)

section
variable (x0 : FVec Ideal S16384x1024 .f32) (x1 : FVec Ideal S1x1024 .f32) (x2 : FVec Ideal S1024x2048 .f32) (x3 : FVec Ideal S2048 .f32)

/-- The reference's normed input. -/
theorem rH (s d) : val_main_v13 (F := Ideal) x0 x1 (ix2 s d) = gH x0 x1 s d := by
  unfold gH gRX cD eps
  pointwise [val_main_v13, val_main_v12, val_main_v11, val_main_v10, val_main_v9, val_main_v8, val_main_v7, val_main_v6, val_main_cst_1, val_main_v5, val_main_v4, val_main_cst_0, val_main_v3, val_main_v2, val_main_cst, val_main_v1, val_main_v0]
/-- The reference's projection. -/
theorem rP (s e) : val_main_v17 (F := Ideal) x0 x1 x2 x3 (ix2 s e) = gP x0 x1 x2 x3 s e := by
  unfold gP
  simp only [← rH]
  pointwise [val_main_v17, val_main_v16, val_main_v15, val_main_v14]

/-- The reference's first result. -/
theorem q4 (s d) : val_main_v18 (F := Ideal) x0 x1 (ix2 s d) = gH x0 x1 s d := by
  rw [← rH]
  pointwise [val_main_v18]
/-- The reference's second result. -/
theorem q5 (s d) : val_main_v19 (F := Ideal) x0 x1 x2 x3 (ix2 s d) = gP x0 x1 x2 x3 s d := by
  rw [← rP]
  pointwise [val_main_v19]
/-- The reference's third result. -/
theorem q6 (s d) : val_main_v28 (F := Ideal) x0 x1 x2 x3 (ix2 s d) = gU sgK x0 x1 x2 x3 s d := by
  unfold gU
  rw [sg_all]
  unfold sgR
  simp only [← rP]
  pointwise [val_main_v28, val_main_v27, val_main_v26, val_main_cst_3, val_main_v25, val_main_v24, val_main_cst_2, val_main_v23, val_main_v22, val_main_v21, val_main_v20]
end

/-- Result 0 of the kernel is the reference's. -/
theorem eq_4 : ((dats m 0 c).arrAt 4 cfg0.N : FVec Ideal S16384x1024 .bf16) = val_main_v18 (F := Ideal) (z0 m c) (z1 m c) := by
  rw [fin4]
  funext y
  idx_vars y
  exact (q4 _ _ y0 y1).symm

/-- Result 1 of the kernel is the reference's. -/
theorem eq_5 : ((dats m 0 c).arrAt 5 cfg0.N : FVec Ideal S16384x2048 .bf16) = val_main_v19 (F := Ideal) (z0 m c) (z1 m c) (z2 m c) (z3 m c) := by
  rw [fin5]
  funext y
  idx_vars y
  exact (q5 _ _ _ _ y0 y1).symm

/-- Result 2 of the kernel is the reference's. -/
theorem eq_6 : ((dats m 0 c).arrAt 6 cfg0.N : FVec Ideal S16384x1024 .f32) = val_main_v28 (F := Ideal) (z0 m c) (z1 m c) (z2 m c) (z3 m c) := by
  rw [fin6]
  funext y
  idx_vars y
  exact (q6 _ _ _ _ y0 y1).symm

/-- The kernel's run ends with the reference's functions of the arguments. -/
theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2_0) = val_main_v18 (F := Ideal) (z0 m c) (z1 m c)
      ∧ r.2.mem ((c.tc : Thread nD τ).loc main_v2_1) = val_main_v19 (F := Ideal) (z0 m c) (z1 m c) (z2 m c) (z3 m c)
      ∧ r.2.mem ((c.tc : Thread nD τ).loc main_v2_2) = val_main_v28 (F := Ideal) (z0 m c) (z1 m c) (z2 m c) (z3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c => ⟨((hr c).1 4).trans (eq_4 m c), ((hr c).1 5).trans (eq_5 m c), ((hr c).1 6).trans (eq_6 m c),
      ((hr c).1 0).trans (((dats m 0 c).arrAt_in 0 rfl _).trans ((A_eq m c 0).trans (V_main_arg0 m c))),
      ((hr c).1 1).trans (((dats m 0 c).arrAt_in 1 rfl _).trans ((A_eq m c 1).trans (V_main_arg1 m c))),
      ((hr c).2 main_arg2 (Pipeline.mem_restRefs_of main_arg2 (by decide) (by decide))).trans (V_main_arg2 m c),
      ((hr c).2 main_arg3 (Pipeline.mem_restRefs_of main_arg3 (by decide) (by decide))).trans (V_main_arg3 m c)⟩) (run_main m ρ)

/-- The kernel and the reference end with equal results. -/
theorem algebraic : Cert.algebraic_Kernel13Ideal_Reference13Ideal (hKernel13Ideal := Cert.Kernel13Ideal.Gen.facts)
    (hReference13Ideal := Cert.Reference13Ideal.Gen.facts) := by
  intro m g m' g' h e
  refine ⟨fun c => val_main_v18 (F := Ideal) (z0 m c) (z1 m c), fun c => val_main_v19 (F := Ideal) (z0 m c) (z1 m c) (z2 m c) (z3 m c), fun c => val_main_v28 (F := Ideal) (z0 m c) (z1 m c) (z2 m c) (z3 m c), run_kernel m g,
    (θ_run _ _ _).mono (fun r hr c => ?_) (Cert.Reference13Ideal.Value.run (F := Ideal) m' g')⟩
  obtain ⟨e0, e1, e2, e3⟩ := e c
  obtain ⟨h0, h1, h2, hargs⟩ := hr c
  refine ⟨h0.trans ((val_main_v18_eq _ _).trans ?_), h1.trans ((val_main_v19_eq _ _ _ _).trans ?_), h2.trans ((val_main_v28_eq _ _ _ _).trans ?_), hargs⟩
  · rw [e0, e1]
  · rw [e0, e1, e2, e3]
  · rw [e0, e1, e2, e3]

end Pw1Fwd

end
-- ==== Proof.FwdMath.lean ====
module

public import proofs.«01_k».proof.Proof.Reals
public import proofs.«01_k».proof.Proof.Pw1Fwd

/-! The forward ConvFFN, the final norm and the loss, row by row. -/

@[expose] public section

noncomputable section

namespace FfnFwd

open Idealize.ShloMosaic
open FfnBwd (cD eps half sgK sgR)

/-- The reciprocal root of a row. -/
def rt (v : Fin 1024 → EReal) : EReal := Ideal.rsqrt (Ideal.div (∑ d : Fin 1024, v d * v d) cD + eps)
/-- A row normed and scaled. -/
def nrm (x g : Fin 1024 → EReal) (d : Fin 1024) : EReal := x d * rt x * g d
/-- A row projected up. -/
def upr (x g : Fin 1024 → EReal) (W : Fin 1024 → Fin 5632 → EReal) (f : Fin 5632) : EReal := ∑ d : Fin 1024, nrm x g d * W d f
/-- The gate from three consecutive rows, the earliest first. -/
def gat (T : Fin 3 → Fin 2816 → EReal) (b : Fin 2816 → EReal) (p q u : Fin 2816 → EReal) (c : Fin 2816) : EReal :=
  T 0 c * p c + T 1 c * q c + T 2 c * u c + b c
/-- The gated value. -/
def act (g u : EReal) : EReal := g * sgK g * u
/-- A row and its projection back down. -/
def res (x : Fin 1024 → EReal) (a : Fin 2816 → EReal) (W : Fin 2816 → Fin 1024 → EReal) (d : Fin 1024) : EReal :=
  x d + ∑ c : Fin 2816, a c * W c d
/-- The error of a row. -/
def err (x g t : Fin 1024 → EReal) (d : Fin 1024) : EReal := nrm x g d - t d
/-- The gradient of a row's output. -/
def dyr (x g t : Fin 1024 → EReal) (d : Fin 1024) : EReal := Ideal.div (err x g t d) cD
/-- The gradient of a row through the norm. -/
def dxr (x g t : Fin 1024 → EReal) (d : Fin 1024) : EReal :=
  rt x * (dyr x g t d * g d - x d * rt x * Ideal.div (∑ e : Fin 1024, dyr x g t e * g e * (x e * rt x)) cD)
/-- A row's part of the scale's gradient. -/
def dgr (x g t : Fin 1024 → EReal) (d : Fin 1024) : EReal := dyr x g t d * (x d * rt x)
/-- A row's mean square error. -/
def mse (x g t : Fin 1024 → EReal) : EReal := Ideal.div (∑ d : Fin 1024, err x g t d * err x g t d) cD

end FfnFwd
-- ==== Proof.FwdRef.lean ====
module

public import proofs.«01_k».proof.Proof.FwdMath
public import proofs.«01_k».proof.Proof.Norm
public import proofs.«01_k».proof.Proof.Gen.Reference9Ideal.Read

/-! What the reference of the forward ConvFFN and the loss computes, at an index. -/

@[expose] public section

set_option maxRecDepth 16384

noncomputable section

namespace FfnFwd

open Idealize.ShloMosaic Idealize.ShloMosaic.TcCoe
open Cert.Reference9Ideal Cert.Reference9Ideal.Gen Cert.Reference9Ideal.Read
open FfnBwd (cD eps half sgK sgR norm_all half_eq cD_eq)

variable (x0 : FVec Ideal S16384x1024 .f32) (x1 : FVec Ideal S1x1024 .f32) (x2 : FVec Ideal S1024x5632 .f32) (x3 : FVec Ideal S3x2816 .f32)
  (x4 : FVec Ideal S2816 .f32) (x5 : FVec Ideal S2816x1024 .f32) (x6 : FVec Ideal S1x1024 .f32) (x7 : FVec Ideal S16384x1024 .f32)

/-- The normed input. -/
def fH (s : Fin 16384) (d : Fin 1024) : EReal := nrm (fun d => x0 (ix2 s d)) (fun d => x1 (ix2 0 d)) d
/-- The up projection. -/
def fU (s : Fin 16384) (f : Fin 5632) : EReal := upr (fun d => x0 (ix2 s d)) (fun d => x1 (ix2 0 d)) (fun d f => x2 (ix2 d f)) f
/-- The gated half of the up projection `k` rows before, nothing before the first row. -/
def fP (k : ℕ) (s : Fin 16384) (c : Fin 2816) : EReal :=
  if h : s.val < k then 0 else fU x0 x1 x2 ⟨s.val - k, by omega⟩ ⟨c.val, by omega⟩
/-- The gate. -/
def fG (s : Fin 16384) (c : Fin 2816) : EReal :=
  gat (fun j c => x3 (ix2 j c)) (fun c => x4 (ix1 c)) (fP x0 x1 x2 2 s) (fP x0 x1 x2 1 s) (fun c => fU x0 x1 x2 s ⟨c.val, by omega⟩) c
/-- The activation. -/
def fA (s : Fin 16384) (c : Fin 2816) : EReal := act (fG x0 x1 x2 x3 x4 s c) (fU x0 x1 x2 s ⟨2816 + c.val, by omega⟩)
/-- The output. -/
def fX (s : Fin 16384) : Fin 1024 → EReal := res (fun d => x0 (ix2 s d)) (fA x0 x1 x2 x3 x4 s) (fun c d => x5 (ix2 c d))
/-- The gradient of the output. -/
def fDX (s : Fin 16384) (d : Fin 1024) : EReal := dxr (fX x0 x1 x2 x3 x4 x5 s) (fun d => x6 (ix2 0 d)) (fun d => x7 (ix2 s d)) d
/-- A row's part of the scale's gradient. -/
def fDG (s : Fin 16384) (d : Fin 1024) : EReal := dgr (fX x0 x1 x2 x3 x4 x5 s) (fun d => x6 (ix2 0 d)) (fun d => x7 (ix2 s d)) d
/-- A row's mean square error. -/
def fM (s : Fin 16384) : EReal := mse (fX x0 x1 x2 x3 x4 x5 s) (fun d => x6 (ix2 0 d)) (fun d => x7 (ix2 s d))

/-- The reference's normed input. -/
theorem r11 (s d) : val_main_v11 (F := Ideal) x0 x1 (ix2 s d) = fH x0 x1 s d := by
  unfold fH nrm rt cD eps
  pointwise [val_main_v11, val_main_v10, val_main_v9, val_main_v8, val_main_v7, val_main_v6, val_main_v5, val_main_cst_1, val_main_v4, val_main_v3, val_main_cst_0, val_main_v2, val_main_v1, val_main_cst, val_main_v0]
/-- The reference's up projection. -/
theorem r12 (s f) : val_main_v12 (F := Ideal) x0 x1 x2 (ix2 s f) = fU x0 x1 x2 s f := by
  have e : fU x0 x1 x2 s f = ∑ d : Fin 1024, fH x0 x1 s d * x2 (ix2 d f) := rfl
  rw [e]
  simp only [← r11]
  pointwise [val_main_v12]
/-- The reference's gate. -/
theorem r39 (s f) : val_main_v39 (F := Ideal) x0 x1 x2 x3 x4 (ix2 s f) = fG x0 x1 x2 x3 x4 s f := by
  unfold fG gat fP
  simp only [← r12]
  pointwise [val_main_v39, val_main_v38, val_main_v37, val_main_v36, val_main_v35, val_main_v34, val_main_v33, val_main_v32, val_main_v31, val_main_v30, val_main_v29, val_main_v28, val_main_v27, val_main_v26, val_main_v25, val_main_v24, val_main_cst_3, val_main_v23, val_main_v22, val_main_v21, val_main_v20, val_main_v19, val_main_v18, val_main_v17, val_main_v16, val_main_cst_2, val_main_v15, val_main_v14, val_main_v13]
/-- The reference's activation. -/
theorem r42 (s f) : val_main_v42 (F := Ideal) x0 x1 x2 x3 x4 (ix2 s f) = fA x0 x1 x2 x3 x4 s f := by
  unfold fA act
  rw [Pw1Fwd.sg_all]
  unfold sgR
  simp only [← r12, ← r39]
  pointwise [val_main_v42, val_main_v41, val_main_v40, val_main_call0_v5, val_main_call0_v4, val_main_call0_cst_0, val_main_call0_v3, val_main_call0_v2, val_main_call0_cst, val_main_call0_v1, val_main_call0_v0]
/-- The reference's output. -/
theorem r44 (s d) : val_main_v44 (F := Ideal) x0 x1 x2 x3 x4 x5 (ix2 s d) = fX x0 x1 x2 x3 x4 x5 s d := by
  unfold fX res
  simp only [← r42]
  pointwise [val_main_v44, val_main_v43]
/-- A row's mean square and the small constant. -/
theorem r52 (s) : val_main_v52 (F := Ideal) x0 x1 x2 x3 x4 x5 (ix2 s 0) = Ideal.div (∑ d : Fin 1024, fX x0 x1 x2 x3 x4 x5 s d * fX x0 x1 x2 x3 x4 x5 s d) cD + eps := by
  unfold cD eps
  simp only [← r44]
  pointwise [val_main_v52, val_main_v51, val_main_cst_6, val_main_v50, val_main_v49, val_main_cst_5, val_main_v48, val_main_v47, val_main_cst_4, val_main_v46]
/-- A row's reciprocal root. -/
theorem r53 (s) : val_main_v53 (F := Ideal) x0 x1 x2 x3 x4 x5 (ix2 s 0) = rt (fX x0 x1 x2 x3 x4 x5 s) := by
  unfold rt
  rw [← r52]
  pointwise [val_main_v53]
/-- The derivative of a row's reciprocal root. -/
theorem r56 (s) : val_main_v56 (F := Ideal) x0 x1 x2 x3 x4 x5 (ix2 s 0) = Ideal.ofBits FTy.f32 3204448256#32 * Ideal.div (rt (fX x0 x1 x2 x3 x4 x5 s)) (Ideal.div (∑ d : Fin 1024, fX x0 x1 x2 x3 x4 x5 s d * fX x0 x1 x2 x3 x4 x5 s d) cD + eps) := by
  rw [← r53, ← r52]
  pointwise [val_main_v56, val_main_v55, val_main_cst_7, val_main_v54]
/-- The output normed, before the scale. -/
theorem r58 (s d) : val_main_v58 (F := Ideal) x0 x1 x2 x3 x4 x5 (ix2 s d) = fX x0 x1 x2 x3 x4 x5 s d * rt (fX x0 x1 x2 x3 x4 x5 s) := by
  rw [← r53, ← r44]
  pointwise [val_main_v58, val_main_v57]
/-- The error. -/
theorem r62 (s d) : val_main_v62 (F := Ideal) x0 x1 x2 x3 x4 x5 x6 x7 (ix2 s d) = err (fX x0 x1 x2 x3 x4 x5 s) (fun d => x6 (ix2 0 d)) (fun d => x7 (ix2 s d)) d := by
  unfold err nrm
  rw [← r58]
  pointwise [val_main_v62, val_main_v61, val_main_v60, val_main_v59, val_main_v45]
/-- The mean square error of a row. -/
theorem r68 (s) : val_main_v68 (F := Ideal) x0 x1 x2 x3 x4 x5 x6 x7 (ix1 s) = fM x0 x1 x2 x3 x4 x5 x6 x7 s := by
  unfold fM mse cD
  simp only [← r62]
  pointwise [val_main_v68, val_main_v67, val_main_cst_10, val_main_v66, val_main_cst_9, val_main_v63]
/-- The loss. -/
theorem r101 : val_main_v101 (F := Ideal) x0 x1 x2 x3 x4 x5 x6 x7 (ix2 0 0) = half * ∑ s : Fin 16384, fM x0 x1 x2 x3 x4 x5 x6 x7 s := by
  unfold half
  simp only [← r68]
  pointwise [val_main_v101, val_main_v70, val_main_cst_12, val_main_v69, val_main_cst_11]

/-- The number of a mean square's derivative. -/
theorem two_eq : Ideal.ofBits FTy.f32 1073741824#32 = ((2 : ℝ) : EReal) := by
  simp [Ideal.ofBits, Ideal.ieee, -EReal.coe_mul]; norm_num

/-- Half of twice an error over the count is the error over the count. -/
theorem dy_eq (e : EReal) : Ideal.div (half * 1) cD * (((2 : ℝ) : EReal) * e) = Ideal.div e cD := by
  rw [half_eq, cD_eq, mul_one]
  simp only [Ideal.div_coe (show (1024 : ℝ) ≠ 0 by norm_num)]
  rw [← mul_assoc, ← EReal.coe_mul, ← EReal.coe_mul, mul_comm]
  congr 2
  norm_num

/-- The gradient of the output before the norm. -/
theorem r76 (s d) : val_main_v76 (F := Ideal) x0 x1 x2 x3 x4 x5 x6 x7 (ix2 s d) = dyr (fX x0 x1 x2 x3 x4 x5 s) (fun d => x6 (ix2 0 d)) (fun d => x7 (ix2 s d)) d := by
  unfold dyr
  rw [← dy_eq, ← r62, ← two_eq]
  unfold half cD
  pointwise [val_main_v76, val_main_v75, val_main_v74, val_main_v73, val_main_cst_15, val_main_v72, val_main_v71, val_main_cst_14, val_main_cst_13, val_main_v65, val_main_v64, val_main_cst_8]

/-- The scale's gradient. -/
theorem r82 (d) : val_main_v82 (F := Ideal) x0 x1 x2 x3 x4 x5 x6 x7 (ix1 d) = ∑ s : Fin 16384, fDG x0 x1 x2 x3 x4 x5 x6 x7 s d := by
  pointwise [val_main_v82, val_main_cst_17, val_main_v79, val_main_v78, val_main_cst_16, val_main_v77]
  rw [Fin.sum_univ_one]
  refine Finset.sum_congr rfl fun s _ => ?_
  rw [r76, r58, mul_comm]
  rfl

/-- The gradient of the output through the norm. -/
theorem r96 (s d) : val_main_v96 (F := Ideal) x0 x1 x2 x3 x4 x5 x6 x7 (ix2 s d) = fDX x0 x1 x2 x3 x4 x5 x6 x7 s d := by
  have e := norm_all (fX x0 x1 x2 x3 x4 x5 s)
    (fun d => dyr (fX x0 x1 x2 x3 x4 x5 s) (fun d => x6 (ix2 0 d)) (fun d => x7 (ix2 s d)) d * x6 (ix2 0 d)) 0 d rfl rfl
  rw [zero_add, zero_add] at e
  refine Eq.trans ?_ e.symm
  pointwise [val_main_v96, val_main_v95, val_main_v94, val_main_v93, val_main_v92, val_main_v91, val_main_cst_20, val_main_v90, val_main_v89, val_main_cst_19, val_main_v88, val_main_v87, val_main_v86, val_main_v85, val_main_v84, val_main_cst_18, val_main_v83, val_main_v81, val_main_v80, val_main_v59, val_main_v45]
  rw [Fin.sum_univ_one, r56, r53]
  simp only [r76, r44]
  rfl

/-- The second result. -/
theorem r97 (s d) : val_main_v97 (F := Ideal) x0 x1 (ix2 s d) = fH x0 x1 s d := by
  rw [← r11]
  pointwise [val_main_v97]
/-- The third result. -/
theorem r98 (s d) : val_main_v98 (F := Ideal) x0 x1 x2 (ix2 s d) = fU x0 x1 x2 s d := by
  rw [← r12]
  pointwise [val_main_v98]
/-- The fourth result. -/
theorem r99 (s d) : val_main_v99 (F := Ideal) x0 x1 x2 x3 x4 (ix2 s d) = fG x0 x1 x2 x3 x4 s d := by
  rw [← r39]
  pointwise [val_main_v99]
/-- The fifth result. -/
theorem r100 (s d) : val_main_v100 (F := Ideal) x0 x1 x2 x3 x4 (ix2 s d) = fA x0 x1 x2 x3 x4 s d := by
  rw [← r42]
  pointwise [val_main_v100]

end FfnFwd
-- ==== Proof.FwdBlock.lean ====
module

public import proofs.«01_k».proof.Proof.FwdMath
public import proofs.«01_k».proof.Proof.Block
public import proofs.«01_k».proof.Proof.Gen.Kernel9Ideal.Frame

/-! What one grid point of the forward call computes, element by element. -/

@[expose] public section

set_option maxRecDepth 16384

noncomputable section

namespace FfnFwd

open Pieces (readAt_whole readCov_pieces read_pieces_append missL not_mem_of_missL readCov_first)
open FfnBwd (cD eps half sgK sgR box2 whole2)
open Idealize.ShloMosaic Idealize.ShloMosaic.TcCoe Idealize.SL.Sem
open Cert.Kernel9Ideal Cert.Kernel9Ideal.Gen

section
variable (x0 : FVec Ideal S256x1024 .f32) (x1 : FVec Ideal S1x1024 .f32) (x2 : FVec Ideal S1024x5632 .bf16) (x3 : FVec Ideal S3x2816 .f32)
  (x4 : FVec Ideal S1x2816 .f32) (x5 : FVec Ideal S2816x1024 .bf16) (x6 : FVec Ideal S1x1024 .f32) (x7 : FVec Ideal S256x1024 .f32)
  (CY : FVec Ideal S8x2816 .f32)

/-- The normed block. -/
def BH (r : Fin 256) (d : Fin 1024) : EReal := nrm (fun d => x0 (ix2 r d)) (fun d => x1 (ix2 0 d)) d
/-- The up projection of a block. -/
def BU (r : Fin 256) (f : Fin 5632) : EReal := upr (fun d => x0 (ix2 r d)) (fun d => x1 (ix2 0 d)) (fun d f => x2 (ix2 d f)) f
/-- The gated half of the up projection `k` rows before, the rows before the block from `CY`. -/
def BP (k : ℕ) (r : Fin 256) (c : Fin 2816) : EReal :=
  if h : k ≤ r.val then BU x0 x1 x2 ⟨r.val - k, by omega⟩ ⟨c.val, by omega⟩
  else CY (ix2 ⟨(r.val + 8 - k) % 8, Nat.mod_lt _ (by decide)⟩ c)
/-- The gate of a block. -/
def BG (r : Fin 256) (c : Fin 2816) : EReal :=
  gat (fun j c => x3 (ix2 j c)) (fun c => x4 (ix2 0 c)) (BP x0 x1 x2 CY 2 r) (BP x0 x1 x2 CY 1 r) (fun c => BU x0 x1 x2 r ⟨c.val, by omega⟩) c
/-- The activation of a block. -/
def BA (r : Fin 256) (c : Fin 2816) : EReal := act (BG x0 x1 x2 x3 x4 CY r c) (BU x0 x1 x2 r ⟨2816 + c.val, by omega⟩)
end

section
variable {x0 : FVec Ideal S256x1024 .f32} {x1 : FVec Ideal S1x1024 .f32} {x2 : FVec Ideal S1024x5632 .bf16} {x3 : FVec Ideal S3x2816 .f32}
  {x4 : FVec Ideal S1x2816 .f32} {x5 : FVec Ideal S2816x1024 .bf16} {x6 : FVec Ideal S1x1024 .f32} {x7 : FVec Ideal S256x1024 .f32}
  {CY : FVec Ideal S8x2816 .f32}

/-- The normed block of the loaded input and scale. -/
theorem h_chunk (r d) : k0_pay4 (F := Ideal) x0 x1 (ix2 r d) = BH x0 x1 r d := by
  unfold BH nrm rt cD eps
  pointwise [k0_pay4]

/-- A chunk of the up projection. -/
theorem u_chunk {w : FVec Ideal S1024x256 .bf16} {o : ℕ} (ho : o ≤ 5376) (hw : ∀ d (c : Fin 256), w (ix2 d c) = x2 (ix2 d ⟨o + c.val, by omega⟩)) (r c : Fin 256) :
    k0_pay71 (F := Ideal) (k0_pay4 x0 x1) w (ix2 r c) = BU x0 x1 x2 r ⟨o + c.val, by omega⟩ := by
  have e : k0_pay71 (F := Ideal) (k0_pay4 x0 x1) w (ix2 r c) = ∑ d : Fin 1024, k0_pay4 (F := Ideal) x0 x1 (ix2 r d) * w (ix2 d c) := by
    generalize k0_pay4 (F := Ideal) x0 x1 = h
    pointwise [k0_pay71]
  rw [e]
  unfold BU upr
  refine Finset.sum_congr rfl fun d _ => ?_
  rw [h_chunk, hw]
  rfl
end

/-! ## The loads of one chunk of columns -/

section
variable {arg1 : Memref sig .tc .vmem S256x1024 .f32} (harg1 : arg1.IsWhole) {arg2 : Memref sig .tc .vmem S1x1024 .f32} (harg2 : arg2.IsWhole)
  {arg3 : Memref sig .tc .vmem S1024x5632 .bf16} (harg3 : arg3.IsWhole) {arg4 : Memref sig .tc .vmem S3x2816 .f32} (harg4 : arg4.IsWhole)
  {arg5 : Memref sig .tc .vmem S1x2816 .f32} (harg5 : arg5.IsWhole) {arg6 : Memref sig .tc .vmem S2816x1024 .bf16} (harg6 : arg6.IsWhole)
  (x0 : FVec Ideal S256x1024 .f32) (x1 : FVec Ideal S1x1024 .f32) (x2 : FVec Ideal S1024x5632 .bf16) (x3 : FVec Ideal S3x2816 .f32)
  (x4 : FVec Ideal S1x2816 .f32) (x5 : FVec Ideal S2816x1024 .bf16)

/-- The whole input block. -/
abbrev ldX (i : ∀ a, (![0, 0] : Fin 2 → Nat) a + S256x1024.size a ≤ S256x1024.size a) : Vec Ideal S256x1024 .f32 :=
  View.readAt (Elt Ideal) arg1.view (Rect.unit (s := S256x1024) ![0, 0] S256x1024.size i).toLoadRect (harg1.unread x0)
/-- The whole scale. -/
abbrev ldS (i : ∀ a, (![0, 0] : Fin 2 → Nat) a + S1x1024.size a ≤ S1x1024.size a) : Vec Ideal S1x1024 .f32 :=
  View.readAt (Elt Ideal) arg2.view (Rect.unit (s := S1x1024) ![0, 0] S1x1024.size i).toLoadRect (harg2.unread x1)
/-- A chunk of columns of the up weight. -/
abbrev ldW (o : ℕ) (i : ∀ a, (![0, o] : Fin 2 → Nat) a + S1024x256.size a ≤ S1024x5632.size a) : Vec Ideal S1024x256 .bf16 :=
  View.readAt (Elt Ideal) arg3.view (Rect.unit (s := S1024x5632) ![0, o] S1024x256.size i).toLoadRect (harg3.unread x2)
/-- One tap of a chunk of columns. -/
abbrev ldT (j o : ℕ) (i : ∀ a, (![j, o] : Fin 2 → Nat) a + S1x256.size a ≤ S3x2816.size a) : Vec Ideal S1x256 .f32 :=
  View.readAt (Elt Ideal) arg4.view (Rect.unit (s := S3x2816) ![j, o] S1x256.size i).toLoadRect (harg4.unread x3)
/-- The bias of a chunk of columns. -/
abbrev ldB (o : ℕ) (i : ∀ a, (![0, o] : Fin 2 → Nat) a + S1x256.size a ≤ S1x2816.size a) : Vec Ideal S1x256 .f32 :=
  View.readAt (Elt Ideal) arg5.view (Rect.unit (s := S1x2816) ![0, o] S1x256.size i).toLoadRect (harg5.unread x4)
/-- The whole down weight. -/
abbrev ldD (i : ∀ a, (![0, 0] : Fin 2 → Nat) a + S2816x1024.size a ≤ S2816x1024.size a) : Vec Ideal S2816x1024 .bf16 :=
  View.readAt (Elt Ideal) arg6.view (Rect.unit (s := S2816x1024) ![0, 0] S2816x1024.size i).toLoadRect (harg6.unread x5)

/-- A whole load of the input block is the block. -/
theorem ldX_eq (i) : ldX harg1 x0 i = x0 := by
  unfold ldX
  funext y
  idx_vars y
  rw [Memref.IsWhole.readAt_unread]
  refine congrArg x0 ?_
  idx_ext
/-- A whole load of the scale is the scale. -/
theorem ldS_eq (i) : ldS harg2 x1 i = x1 := by
  unfold ldS
  funext y
  idx_vars y
  rw [Memref.IsWhole.readAt_unread]
  refine congrArg x1 ?_
  idx_ext
/-- A whole load of the down weight is the weight. -/
theorem ldD_eq (i) : ldD harg6 x5 i = x5 := by
  unfold ldD
  funext y
  idx_vars y
  rw [Memref.IsWhole.readAt_unread]
  refine congrArg x5 ?_
  idx_ext
/-- A chunk of the up weight, at an index. -/
theorem ldW_apply (o : ℕ) (ho : o ≤ 5376) (i) (d : Fin 1024) (c : Fin 256) : ldW harg3 x2 o i (ix2 d c) = x2 (ix2 d ⟨o + c.val, by omega⟩) := by
  unfold ldW
  rw [Memref.IsWhole.readAt_unread]
  refine congrArg x2 ?_
  idx_ext
/-- A tap of a chunk of columns, at an index. -/
theorem ldT_apply (j o : ℕ) (hj : j < 3) (ho : o ≤ 2560) (i) (c : Fin 256) : ldT harg4 x3 j o i (ix2 0 c) = x3 (ix2 ⟨j, hj⟩ ⟨o + c.val, by omega⟩) := by
  unfold ldT
  rw [Memref.IsWhole.readAt_unread]
  refine congrArg x3 ?_
  idx_ext
/-- The bias of a chunk of columns, at an index. -/
theorem ldB_apply (o : ℕ) (ho : o ≤ 2560) (i) (c : Fin 256) : ldB harg5 x4 o i (ix2 0 c) = x4 (ix2 0 ⟨o + c.val, by omega⟩) := by
  unfold ldB
  rw [Memref.IsWhole.readAt_unread]
  refine congrArg x4 ?_
  idx_ext
end

/-! ## One stored piece of each kind, at a chunk of columns that starts at `o` -/

section
variable {arg1 : Memref sig .tc .vmem S256x1024 .f32} (harg1 : arg1.IsWhole) {arg2 : Memref sig .tc .vmem S1x1024 .f32} (harg2 : arg2.IsWhole)
  {arg3 : Memref sig .tc .vmem S1024x5632 .bf16} (harg3 : arg3.IsWhole) {arg4 : Memref sig .tc .vmem S3x2816 .f32} (harg4 : arg4.IsWhole)
  {arg5 : Memref sig .tc .vmem S1x2816 .f32} (harg5 : arg5.IsWhole)
  {arg17 : Memref sig .tc .vmem S264x256 .f32}
  {x0 : FVec Ideal S256x1024 .f32} {x1 : FVec Ideal S1x1024 .f32} {x2 : FVec Ideal S1024x5632 .bf16} {x3 : FVec Ideal S3x2816 .f32}
  {x4 : FVec Ideal S1x2816 .f32} (CY : FVec Ideal S8x2816 .f32)

/-- The up projection of one chunk, as loaded. -/
abbrev ugL (o : ℕ) (i1 : ∀ a, (![0, 0] : Fin 2 → Nat) a + S256x1024.size a ≤ S256x1024.size a)
    (i2 : ∀ a, (![0, 0] : Fin 2 → Nat) a + S1x1024.size a ≤ S1x1024.size a)
    (i3 : ∀ a, (![0, o] : Fin 2 → Nat) a + S1024x256.size a ≤ S1024x5632.size a) : FVec Ideal S256x256 .f32 :=
  k0_pay71 (k0_pay4 (ldX harg1 x0 i1) (ldS harg2 x1 i2)) (ldW harg3 x2 o i3)

/-- The up projection of one chunk, at an index. -/
theorem ugL_apply {o : ℕ} (ho : o ≤ 5376) (i1 i2 i3) (r c : Fin 256) :
    ugL (x0 := x0) (x1 := x1) (x2 := x2) harg1 harg2 harg3 o i1 i2 i3 (ix2 r c) = BU x0 x1 x2 r ⟨o + c.val, by omega⟩ := by
  unfold ugL
  rw [ldX_eq, ldS_eq]
  exact u_chunk ho (fun d c => ldW_apply harg3 x2 o ho i3 d c) r c

/-- The up projection of one chunk preceded by the rows `cy`, as read back. -/
abbrev exL (o : ℕ) (i1 : ∀ a, (![0, 0] : Fin 2 → Nat) a + S256x1024.size a ≤ S256x1024.size a)
    (i2 : ∀ a, (![0, 0] : Fin 2 → Nat) a + S1x1024.size a ≤ S1x1024.size a)
    (i3 : ∀ a, (![0, o] : Fin 2 → Nat) a + S1024x256.size a ≤ S1024x5632.size a)
    (ia : ∀ a, (![8, 0] : Fin 2 → Nat) a + S256x256.size a ≤ S264x256.size a)
    (ib : ∀ a, (![0, 0] : Fin 2 → Nat) a + S8x256.size a ≤ S264x256.size a)
    (ic : ∀ a, (![0, 0] : Fin 2 → Nat) a + S264x256.size a ≤ S264x256.size a)
    (cy : Vec Ideal S8x256 .f32) (rest : List (View.Piece (Elt Ideal) S264x256 .f32)) : Vec Ideal S264x256 .f32 :=
  View.readCov arg17.view (⟨Rect.unit (s := S264x256) ![8, 0] S256x256.size ia,
      k0_pay76 (k0_pay4 (ldX harg1 x0 i1) (ldS harg2 x1 i2)) (ldW harg3 x2 o i3)⟩ ::
    ⟨Rect.unit (s := S264x256) ![0, 0] S8x256.size ib, k0_pay75 cy⟩ :: rest)
    (Rect.unit (s := S264x256) ![0, 0] S264x256.size ic).toLoadRect

/-- The carried rows followed by the rows of a chunk, at an index. -/
theorem exL_apply {o : ℕ} (i1 i2 i3 ia ib ic cy rest) (r : Fin 264) (c : Fin 256) :
    exL (arg17 := arg17) (x0 := x0) (x1 := x1) (x2 := x2) harg1 harg2 harg3 o i1 i2 i3 ia ib ic cy rest (ix2 r c) =
      if h : 8 ≤ r.val then ugL (x0 := x0) (x1 := x1) (x2 := x2) harg1 harg2 harg3 o i1 i2 i3 (ix2 ⟨r.val - 8, by omega⟩ c)
      else cy (ix2 ⟨r.val % 8, Nat.mod_lt _ (by decide)⟩ c) := by
  unfold exL View.readCov
  show View.read (Elt Ideal) arg17.view _ ((Rect.unit (s := S264x256) ![0, 0] S264x256.size ic).toLoadRect.idx (ix2 r c)) = _
  have hi : (Rect.unit (s := S264x256) ![0, 0] S264x256.size ic).toLoadRect.idx (ix2 r c) = ix2 r c := by idx_ext
  rw [hi]
  by_cases h : 8 ≤ r.val
  · rw [dif_pos h, View.read_writes_cons_unit_of_mem _ _ _ _ _ _ (ix2 ⟨r.val - 8, by omega⟩ c) rfl
      (by intro a; fin_cases a
          · show r.val = 8 + (r.val - 8)
            omega
          · simp)]
    unfold ugL
    generalize k0_pay4 (F := Ideal) (ldX harg1 x0 i1) (ldS harg2 x1 i2) = hh
    pointwise [k0_pay76]
  · have hr : r.val % 8 = r.val := by omega
    rw [dif_neg h, View.read_writes_cons_unit_of_not_mem _ _ _ _ _ _ rfl (0 : Fin 2) (Or.inl (by show r.val < 8; omega)),
      View.read_writes_cons_unit_of_mem _ _ _ _ _ _ (ix2 ⟨r.val % 8, Nat.mod_lt _ (by decide)⟩ c) rfl
      (by intro a; fin_cases a
          · show r.val = 0 + r.val % 8
            omega
          · simp)]
    pointwise [k0_pay75]

/-- The extended chunk read `k` rows before. -/
theorem exL_before {o : ℕ} (ho : o ≤ 2560) (i1 i2 i3 ia ib ic cy rest)
    (hcy : ∀ r (c : Fin 256), cy (ix2 r c) = CY (ix2 r ⟨o + c.val, by omega⟩))
    (k : ℕ) (hk : 0 < k) (hk' : k < 8) (r : ℕ) (hr : r < 256) (c : Fin 256) (s : ℕ) (hs : s = r + 8 - k) (hlt : s < 264) :
    exL (arg17 := arg17) (x0 := x0) (x1 := x1) (x2 := x2) harg1 harg2 harg3 o i1 i2 i3 ia ib ic cy rest
      (ix2 ⟨s, hlt⟩ c) = BP x0 x1 x2 CY k ⟨r, hr⟩ ⟨o + c.val, by omega⟩ := by
  subst hs
  rw [exL_apply]
  unfold BP
  by_cases h : k ≤ r
  · rw [dif_pos (by show 8 ≤ r + 8 - k; omega), dif_pos h, ugL_apply harg1 harg2 harg3 (by omega)]
    congr 1
    ext
    show r + 8 - k - 8 = r - k
    omega
  · rw [dif_neg (by show ¬8 ≤ r + 8 - k; omega), dif_neg h]
    exact hcy _ _

/-! ### The stored pieces -/

variable (x0 x1 x2 x3 x4)

/-- What the normed block holds. -/
def G9 : S256x1024.Idx → Elt Ideal .bf16 := fun y => BH x0 x1 (y 0) (y 1)
/-- What the up projection's block holds. -/
def G10 : S256x5632.Idx → Elt Ideal .bf16 := fun y => BU x0 x1 x2 (y 0) (y 1)
/-- What the gate's block holds. -/
def G11 : S256x2816.Idx → Elt Ideal .bf16 := fun y => BG x0 x1 x2 x3 x4 CY (y 0) (y 1)
/-- What the activation's block holds. -/
def G12 : S256x2816.Idx → Elt Ideal .bf16 := fun y => BA x0 x1 x2 x3 x4 CY (y 0) (y 1)
/-- What the carried rows hold. -/
def GSf (r : Fin 8) (c : Fin 2816) : EReal := BU x0 x1 x2 ⟨248 + r.val, by omega⟩ ⟨c.val, by omega⟩
/-- The same as a function of the index. -/
def GS : S8x2816.Idx → Elt Ideal .f32 := fun y => GSf x0 x1 x2 (y 0) (y 1)

variable {x0 x1 x2 x3 x4}

/-- The store of the normed block. -/
theorem piece9 (i1 i2) (i : ∀ a, (![0, 0] : Fin 2 → Nat) a + S256x1024.size a ≤ S256x1024.size a) (w : S256x1024.Idx) :
    k0_pay4 (F := Ideal) (ldX harg1 x0 i1) (ldS harg2 x1 i2) w = G9 x0 x1 ((Rect.unit (s := S256x1024) ![0, 0] S256x1024.size i).emb w) := by
  idx_vars w
  have hi : (Rect.unit (s := S256x1024) ![0, 0] S256x1024.size i).emb (ix2 w0 w1) = ix2 w0 w1 := by idx_ext
  rw [hi, ldX_eq, ldS_eq]
  exact h_chunk w0 w1

/-- A store of the up projection reads back its columns. -/
theorem piece10 {o : ℕ} (ho : o ≤ 5376) (i1 i2 i3) (i : ∀ a, (![0, o] : Fin 2 → Nat) a + S256x256.size a ≤ S256x5632.size a) (w : S256x256.Idx) :
    k0_pay73 (k0_pay4 (ldX harg1 x0 i1) (ldS harg2 x1 i2)) (ldW harg3 x2 o i3) w = G10 x0 x1 x2 ((Rect.unit (s := S256x5632) ![0, o] S256x256.size i).emb w) := by
  idx_vars w
  have hi : (Rect.unit (s := S256x5632) ![0, o] S256x256.size i).emb (ix2 w0 w1) = ix2 w0 ⟨o + w1.val, by omega⟩ := by idx_ext
  rw [hi]
  exact ugL_apply harg1 harg2 harg3 ho i1 i2 i3 w0 w1

/-- A store of the carried rows reads back its columns. -/
theorem pieceS {o : ℕ} (ho : o ≤ 2560) (i1 i2 i3) (i : ∀ a, (![0, o] : Fin 2 → Nat) a + S8x256.size a ≤ S8x2816.size a) (w : S8x256.Idx) :
    k0_pay78 (k0_pay77 (k0_pay4 (ldX harg1 x0 i1) (ldS harg2 x1 i2)) (ldW harg3 x2 o i3)) w = GS x0 x1 x2 ((Rect.unit (s := S8x2816) ![0, o] S8x256.size i).emb w) := by
  idx_vars w
  have hi : (Rect.unit (s := S8x2816) ![0, o] S8x256.size i).emb (ix2 w0 w1) = ix2 w0 ⟨o + w1.val, by omega⟩ := by idx_ext
  rw [hi]
  refine Eq.trans ?_ (ugL_apply harg1 harg2 harg3 (by omega) i1 i2 i3 ⟨248 + w0.val, by omega⟩ w1)
  unfold ugL
  generalize k0_pay4 (F := Ideal) (ldX harg1 x0 i1) (ldS harg2 x1 i2) = hh
  pointwise [k0_pay78, k0_pay77]

/-- The gate of one chunk. -/
theorem gate_chunk {o : ℕ} (ho : o ≤ 2560) (i1 i2 i3 ia ib ic cy rest)
    (hcy : ∀ r (c : Fin 256), cy (ix2 r c) = CY (ix2 r ⟨o + c.val, by omega⟩)) (t0 t1 t2 b0) (r c : Fin 256) :
    k0_pay79 (ugL (x0 := x0) (x1 := x1) (x2 := x2) harg1 harg2 harg3 o i1 i2 i3)
        (exL (arg17 := arg17) (x0 := x0) (x1 := x1) (x2 := x2) harg1 harg2 harg3 o i1 i2 i3 ia ib ic cy rest)
        (ldT harg4 x3 0 o t0) (ldT harg4 x3 1 o t1) (ldT harg4 x3 2 o t2) (ldB harg5 x4 o b0) (ix2 r c) =
      BG x0 x1 x2 x3 x4 CY r ⟨o + c.val, by omega⟩ := by
  have e1 := ugL_apply (x0 := x0) (x1 := x1) (x2 := x2) harg1 harg2 harg3 (by omega : o ≤ 5376) i1 i2 i3 r c
  have e2 := fun k hk hk' => exL_before (arg17 := arg17) (x0 := x0) (x1 := x1) (x2 := x2) harg1 harg2 harg3 CY ho i1 i2 i3 ia ib ic cy rest hcy k hk hk' r.val r.2 c
  have d1 := ldT_apply harg4 x3 0 o (by omega) ho t0 c
  have d2 := ldT_apply harg4 x3 1 o (by omega) ho t1 c
  have d3 := ldT_apply harg4 x3 2 o (by omega) ho t2 c
  have d4 := ldB_apply harg5 x4 o ho b0 c
  revert e1 e2 d1 d2 d3 d4
  generalize ugL (x0 := x0) (x1 := x1) (x2 := x2) harg1 harg2 harg3 o i1 i2 i3 = ug
  generalize exL (arg17 := arg17) (x0 := x0) (x1 := x1) (x2 := x2) harg1 harg2 harg3 o i1 i2 i3 ia ib ic cy rest = ex
  generalize ldT harg4 x3 0 o t0 = a0
  generalize ldT harg4 x3 1 o t1 = a1
  generalize ldT harg4 x3 2 o t2 = a2
  generalize ldB harg5 x4 o b0 = a3
  intro e1 e2 d1 d2 d3 d4
  unfold BG gat
  pointwise [k0_pay79]
  rw [d1, d2, d3, d4, e1]
  refine Ideal.add_congr (Ideal.add_congr (Ideal.add_congr (Ideal.mul_congr rfl ?_) (Ideal.mul_congr rfl ?_)) rfl) rfl
  · exact e2 2 (by omega) (by omega) _ (by omega) _
  · exact e2 1 (by omega) (by omega) _ (by omega) _

/-- A store of the gate reads back its columns. -/
theorem piece11 {o : ℕ} (ho : o ≤ 2560) (i1 i2 i3 ia ib ic cy rest)
    (hcy : ∀ r (c : Fin 256), cy (ix2 r c) = CY (ix2 r ⟨o + c.val, by omega⟩)) (t0 t1 t2 b0)
    (i : ∀ a, (![0, o] : Fin 2 → Nat) a + S256x256.size a ≤ S256x2816.size a) (w : S256x256.Idx) :
    k0_pay80 (ugL (x0 := x0) (x1 := x1) (x2 := x2) harg1 harg2 harg3 o i1 i2 i3)
        (exL (arg17 := arg17) (x0 := x0) (x1 := x1) (x2 := x2) harg1 harg2 harg3 o i1 i2 i3 ia ib ic cy rest)
        (ldT harg4 x3 0 o t0) (ldT harg4 x3 1 o t1) (ldT harg4 x3 2 o t2) (ldB harg5 x4 o b0) w =
      G11 x0 x1 x2 x3 x4 CY ((Rect.unit (s := S256x2816) ![0, o] S256x256.size i).emb w) := by
  idx_vars w
  have hi : (Rect.unit (s := S256x2816) ![0, o] S256x256.size i).emb (ix2 w0 w1) = ix2 w0 ⟨o + w1.val, by omega⟩ := by idx_ext
  rw [hi]
  exact gate_chunk harg1 harg2 harg3 harg4 harg5 CY ho i1 i2 i3 ia ib ic cy rest hcy t0 t1 t2 b0 w0 w1

/-- A store of the activation reads back its columns. -/
theorem piece12 {o ou : ℕ} (ho : o ≤ 2560) (hou : ou = 2816 + o) (i1 i2 i3 i3' ia ib ic cy rest)
    (hcy : ∀ r (c : Fin 256), cy (ix2 r c) = CY (ix2 r ⟨o + c.val, by omega⟩)) (t0 t1 t2 b0)
    (i : ∀ a, (![0, o] : Fin 2 → Nat) a + S256x256.size a ≤ S256x2816.size a) (w : S256x256.Idx) :
    k0_pay81 (ugL (x0 := x0) (x1 := x1) (x2 := x2) harg1 harg2 harg3 o i1 i2 i3)
        (ugL (x0 := x0) (x1 := x1) (x2 := x2) harg1 harg2 harg3 ou i1 i2 i3')
        (exL (arg17 := arg17) (x0 := x0) (x1 := x1) (x2 := x2) harg1 harg2 harg3 o i1 i2 i3 ia ib ic cy rest)
        (ldT harg4 x3 0 o t0) (ldT harg4 x3 1 o t1) (ldT harg4 x3 2 o t2) (ldB harg5 x4 o b0) w =
      G12 x0 x1 x2 x3 x4 CY ((Rect.unit (s := S256x2816) ![0, o] S256x256.size i).emb w) := by
  subst hou
  idx_vars w
  have hi : (Rect.unit (s := S256x2816) ![0, o] S256x256.size i).emb (ix2 w0 w1) = ix2 w0 ⟨o + w1.val, by omega⟩ := by idx_ext
  rw [hi]
  have e1 := gate_chunk (arg17 := arg17) (x0 := x0) (x1 := x1) (x2 := x2) (x3 := x3) (x4 := x4) harg1 harg2 harg3 harg4 harg5 CY ho i1 i2 i3 ia ib ic cy rest hcy t0 t1 t2 b0 w0 w1
  have e2 := ugL_apply (x0 := x0) (x1 := x1) (x2 := x2) harg1 harg2 harg3 (by omega : 2816 + o ≤ 5376) i1 i2 i3' w0 w1
  show _ = act (BG x0 x1 x2 x3 x4 CY w0 ⟨o + w1.val, by omega⟩) (BU x0 x1 x2 w0 ⟨2816 + (o + w1.val), by omega⟩)
  have e3 : (⟨2816 + o + w1.val, by omega⟩ : Fin 5632) = ⟨2816 + (o + w1.val), by omega⟩ := by ext; simp only; omega
  rw [e3] at e2
  rw [← e1, ← e2]
  unfold act sgK half k0_pay81
  generalize k0_pay79 (F := Ideal) _ _ _ _ _ _ = g
  generalize ugL (x0 := x0) (x1 := x1) (x2 := x2) harg1 harg2 harg3 (2816 + o) i1 i2 i3' = uv
  pointwise
end

/-! ## The block's output, its error and the loss -/

section
variable (x0 : FVec Ideal S256x1024 .f32) (x5 : FVec Ideal S2816x1024 .bf16) (x6 : FVec Ideal S1x1024 .f32) (x7 : FVec Ideal S256x1024 .f32)
  (a : Fin 256 → Fin 2816 → EReal)

/-- The block's output row. -/
def BX (r : Fin 256) : Fin 1024 → EReal := res (fun d => x0 (ix2 r d)) (a r) (fun c d => x5 (ix2 c d))
/-- What the block of the gradient holds. -/
def G8f (r : Fin 256) (d : Fin 1024) : EReal := dxr (BX x0 x5 a r) (fun d => x6 (ix2 0 d)) (fun d => x7 (ix2 r d)) d
/-- The same as a function of the index. -/
def G8 : S256x1024.Idx → Elt Ideal .f32 := fun y => G8f x0 x5 x6 x7 a (y 0) (y 1)
/-- What the eight partial sums of the scale's gradient hold. -/
def G13f (ACC : FVec Ideal S8x1024 .f32) (r : Fin 8) (d : Fin 1024) : EReal :=
  ACC (ix2 r d) + ∑ q : Fin 32, dgr (BX x0 x5 a ⟨q.val * 8 + r.val, by omega⟩) (fun d => x6 (ix2 0 d)) (fun d => x7 (ix2 ⟨q.val * 8 + r.val, by omega⟩ d)) d
/-- The same as a function of the index. -/
def G13 (ACC : FVec Ideal S8x1024 .f32) : S8x1024.Idx → Elt Ideal .f32 := fun y => G13f x0 x5 x6 x7 a ACC (y 0) (y 1)
/-- What the loss holds. -/
def G14f (ACC : FVec Ideal S1x1 .f32) : EReal :=
  ACC (ix2 0 0) + half * ∑ r : Fin 256, mse (BX x0 x5 a r) (fun d => x6 (ix2 0 d)) (fun d => x7 (ix2 r d))
/-- The same as a function of the index. -/
def G14 (ACC : FVec Ideal S1x1 .f32) : S1x1.Idx → Elt Ideal .f32 := fun _ => G14f x0 x5 x6 x7 a ACC

variable {a} {v : FVec Ideal S256x2816 .bf16} (hv : ∀ r c, v (ix2 r c) = a r c)

include hv in
/-- The block's output. -/
theorem tailX (r d) : k0_pay126 (F := Ideal) x0 v x5 (ix2 r d) = BX x0 x5 a r d := by
  unfold BX res
  simp only [← hv]
  pointwise [k0_pay126]

include hv in
/-- The reciprocal root of the block's output. -/
theorem tailR (r) : k0_pay127 (F := Ideal) x0 v x5 (ix2 r 0) = rt (BX x0 x5 a r) := by
  unfold rt cD eps
  simp only [← tailX x0 x5 hv, k0_pay127]
  generalize k0_pay126 (F := Ideal) x0 v x5 = xo
  pointwise

include hv in
/-- The normed output. -/
theorem tailN (r d) : k0_pay128 (F := Ideal) x0 v x5 (ix2 r d) = BX x0 x5 a r d * rt (BX x0 x5 a r) := by
  rw [← tailR x0 x5 hv, ← tailX x0 x5 hv]
  unfold k0_pay128
  generalize k0_pay127 (F := Ideal) x0 v x5 = rr
  generalize k0_pay126 (F := Ideal) x0 v x5 = xo
  pointwise

include hv in
/-- The scaled output. -/
theorem tailY (r d) : k0_pay129 (F := Ideal) x0 v x5 x6 (ix2 r d) = nrm (BX x0 x5 a r) (fun d => x6 (ix2 0 d)) d := by
  unfold nrm
  rw [← tailN x0 x5 hv]
  unfold k0_pay129
  generalize k0_pay128 (F := Ideal) x0 v x5 = xo
  pointwise

include hv in
/-- The error. -/
theorem tailE (r d) : k0_pay130 (F := Ideal) (k0_pay129 x0 v x5 x6) x7 (ix2 r d) = err (BX x0 x5 a r) (fun d => x6 (ix2 0 d)) (fun d => x7 (ix2 r d)) d := by
  unfold err
  rw [← tailY x0 x5 x6 hv]
  generalize k0_pay129 (F := Ideal) x0 v x5 x6 = y
  pointwise [k0_pay130]

include hv in
/-- The gradient of the output. -/
theorem tailD (r d) : k0_pay132 (F := Ideal) (k0_pay129 x0 v x5 x6) x7 (ix2 r d) = dyr (BX x0 x5 a r) (fun d => x6 (ix2 0 d)) (fun d => x7 (ix2 r d)) d := by
  unfold dyr cD
  rw [← tailE x0 x5 x6 x7 hv]
  unfold k0_pay132
  generalize k0_pay130 (F := Ideal) _ _ = y
  pointwise

include hv in
/-- The block of the gradient. -/
theorem tail8 (w : S256x1024.Idx) : k0_pay133 (F := Ideal) x6 (k0_pay127 x0 v x5) (k0_pay128 x0 v x5) (k0_pay129 x0 v x5 x6) x7 w = G8 x0 x5 x6 x7 a w := by
  idx_vars w
  show _ = G8f x0 x5 x6 x7 a w0 w1
  unfold G8f dxr cD
  simp only [← tailD x0 x5 x6 x7 hv, ← tailN x0 x5 hv]
  simp only [← tailR x0 x5 hv]
  unfold k0_pay133
  generalize k0_pay132 (F := Ideal) _ _ = dh
  generalize k0_pay128 (F := Ideal) _ _ _ = xn
  generalize k0_pay127 (F := Ideal) _ _ _ = rr
  pointwise

include hv in
/-- The partial sums of the scale's gradient. -/
theorem tail13 (acc : FVec Ideal S8x1024 .f32) (w : S8x1024.Idx) : k0_pay134 (F := Ideal) (k0_pay128 x0 v x5) (k0_pay129 x0 v x5 x6) x7 acc w = G13 x0 x5 x6 x7 a acc w := by
  idx_vars w
  show _ = G13f x0 x5 x6 x7 a acc w0 w1
  unfold G13f dgr
  simp only [← tailD x0 x5 x6 x7 hv, ← tailN x0 x5 hv]
  unfold k0_pay134
  generalize k0_pay132 (F := Ideal) _ _ = dh
  generalize k0_pay128 (F := Ideal) _ _ _ = xn
  pointwise

include hv in
/-- The loss. -/
theorem tail14 (acc : FVec Ideal S1x1 .f32) (w : S1x1.Idx) : k0_pay131 (F := Ideal) (k0_pay129 x0 v x5 x6) x7 acc w = G14 x0 x5 x6 x7 a acc w := by
  idx_vars w
  obtain rfl : w0 = 0 := Subsingleton.elim _ _
  obtain rfl : w1 = 0 := Subsingleton.elim _ _
  show _ = G14f x0 x5 x6 x7 a acc
  unfold G14f mse cD half
  simp only [← tailE x0 x5 x6 x7 hv]
  unfold k0_pay131
  generalize k0_pay130 (F := Ideal) _ _ = e
  pointwise
end

section
variable {arg1 : Memref sig .tc .vmem S256x1024 .f32} (harg1 : arg1.IsWhole) {arg6 : Memref sig .tc .vmem S2816x1024 .bf16} (harg6 : arg6.IsWhole)
  {arg7 : Memref sig .tc .vmem S1x1024 .f32} (harg7 : arg7.IsWhole) {arg8 : Memref sig .tc .vmem S256x1024 .f32} (harg8 : arg8.IsWhole)
  {x0 : FVec Ideal S256x1024 .f32} {x5 : FVec Ideal S2816x1024 .bf16} {x6 : FVec Ideal S1x1024 .f32} {x7 : FVec Ideal S256x1024 .f32}
  {a : Fin 256 → Fin 2816 → EReal} {v : Vec Ideal S256x2816 .bf16} (hv : ∀ r c, v (ix2 r c) = a r c)

include hv in
/-- The stored block of the gradient. -/
theorem piece8 (i1 i6 i7 i8) (i : ∀ a, (![0, 0] : Fin 2 → Nat) a + S256x1024.size a ≤ S256x1024.size a) (w : S256x1024.Idx) :
    k0_pay133 (F := Ideal) (ldS harg7 x6 i7) (k0_pay127 (ldX harg1 x0 i1) v (ldD harg6 x5 i6)) (k0_pay128 (ldX harg1 x0 i1) v (ldD harg6 x5 i6))
      (k0_pay129 (ldX harg1 x0 i1) v (ldD harg6 x5 i6) (ldS harg7 x6 i7)) (ldX harg8 x7 i8) w
      = G8 x0 x5 x6 x7 a ((Rect.unit (s := S256x1024) ![0, 0] S256x1024.size i).emb w) := by
  rw [ldX_eq, ldX_eq, ldS_eq, ldD_eq, tail8 x0 x5 x6 x7 hv]
  refine congrArg (G8 x0 x5 x6 x7 a) ?_
  idx_vars w
  idx_ext

include hv in
/-- The stored partial sums of the scale's gradient. -/
theorem piece13 (i1 i6 i7 i8) (acc : Vec Ideal S8x1024 .f32) (ACC : FVec Ideal S8x1024 .f32) (hacc : ∀ r c, acc (ix2 r c) = ACC (ix2 r c))
    (i : ∀ a, (![0, 0] : Fin 2 → Nat) a + S8x1024.size a ≤ S8x1024.size a) (w : S8x1024.Idx) :
    k0_pay134 (F := Ideal) (k0_pay128 (ldX harg1 x0 i1) v (ldD harg6 x5 i6))
      (k0_pay129 (ldX harg1 x0 i1) v (ldD harg6 x5 i6) (ldS harg7 x6 i7)) (ldX harg8 x7 i8) acc w
      = G13 x0 x5 x6 x7 a ACC ((Rect.unit (s := S8x1024) ![0, 0] S8x1024.size i).emb w) := by
  have ea : acc = ACC := by
    funext y
    idx_vars y
    exact hacc _ _
  rw [ldX_eq, ldX_eq, ldS_eq, ldD_eq, ea, tail13 x0 x5 x6 x7 hv]
  refine congrArg (G13 x0 x5 x6 x7 a ACC) ?_
  idx_vars w
  idx_ext

include hv in
/-- The stored loss. -/
theorem piece14 (i1 i6 i7 i8) (acc : Vec Ideal S1x1 .f32) (ACC : FVec Ideal S1x1 .f32) (hacc : ∀ r c, acc (ix2 r c) = ACC (ix2 r c))
    (i : ∀ a, (![0, 0] : Fin 2 → Nat) a + S1x1.size a ≤ S1x1.size a) (w : S1x1.Idx) :
    k0_pay131 (F := Ideal) (k0_pay129 (ldX harg1 x0 i1) v (ldD harg6 x5 i6) (ldS harg7 x6 i7)) (ldX harg8 x7 i8) acc w
      = G14 x0 x5 x6 x7 a ACC ((Rect.unit (s := S1x1) ![0, 0] S1x1.size i).emb w) := by
  have ea : acc = ACC := by
    funext y
    idx_vars y
    exact hacc _ _
  rw [ldX_eq, ldX_eq, ldS_eq, ldD_eq, ea, tail14 x0 x5 x6 x7 hv]
  rfl
end

/-! ## The zero fills read back -/

/-- The zero fills. -/
theorem zS : ∀ x, k0_pay1 (F := Ideal) x = (0 : EReal) := by intro x; idx_vars x; pointwise [k0_pay1]
/-- The zero fills. -/
theorem z13 : ∀ x, k0_pay2 (F := Ideal) x = (0 : EReal) := by intro x; idx_vars x; pointwise [k0_pay2]
/-- The zero fills. -/
theorem z14 : ∀ x, k0_pay3 (F := Ideal) x = (0 : EReal) := by intro x; idx_vars x; pointwise [k0_pay3]

/-- The carry read where no chunk has been carried yet. -/
theorem zeroS {v : View sig .tc .vmem S8x2816 .f32} {L : List (View.Piece (Elt Ideal) S8x2816 .f32)} {o : ℕ}
    {i0 : ∀ a, (![0, 0] : Fin 2 → Nat) a + S8x2816.size a ≤ S8x2816.size a} (i : ∀ a, (![0, o] : Fin 2 → Nat) a + S8x256.size a ≤ S8x2816.size a)
    (hL : L = L.dropLast ++ [⟨Rect.unit (s := S8x2816) ![0, 0] S8x2816.size i0, k0_pay1 (F := Ideal)⟩])
    (hm : missL (s := S8x2816) ![0, o] ![8, 256] L.dropLast = true) (x : S8x256.Idx) :
    View.readCov v L (Rect.unit (s := S8x2816) ![0, o] S8x256.size i).toLoadRect x = (0 : EReal) := by
  refine readCov_first v L _ _ _ zS hL (whole2 i0) ![0, o] ![8, 256] hm (Rect.unit (s := S8x2816) ![0, o] S8x256.size i).toLoadRect x ?_
  exact box2 i x
/-- The scale's partial sums read before anything was added. -/
theorem zero13 {v : View sig .tc .vmem S8x1024 .f32} {L : List (View.Piece (Elt Ideal) S8x1024 .f32)}
    {i0 : ∀ a, (![0, 0] : Fin 2 → Nat) a + S8x1024.size a ≤ S8x1024.size a} (i : ∀ a, (![0, 0] : Fin 2 → Nat) a + S8x1024.size a ≤ S8x1024.size a)
    (hL : L = L.dropLast ++ [⟨Rect.unit (s := S8x1024) ![0, 0] S8x1024.size i0, k0_pay2 (F := Ideal)⟩])
    (hm : missL (s := S8x1024) ![0, 0] ![8, 1024] L.dropLast = true) (x : S8x1024.Idx) :
    View.readCov v L (Rect.unit (s := S8x1024) ![0, 0] S8x1024.size i).toLoadRect x = (0 : EReal) := by
  refine readCov_first v L _ _ _ z13 hL (whole2 i0) ![0, 0] ![8, 1024] hm (Rect.unit (s := S8x1024) ![0, 0] S8x1024.size i).toLoadRect x ?_
  exact box2 i x
/-- The loss read before anything was added. -/
theorem zero14 {v : View sig .tc .vmem S1x1 .f32} {L : List (View.Piece (Elt Ideal) S1x1 .f32)}
    {i0 : ∀ a, (![0, 0] : Fin 2 → Nat) a + S1x1.size a ≤ S1x1.size a} (i : ∀ a, (![0, 0] : Fin 2 → Nat) a + S1x1.size a ≤ S1x1.size a)
    (hL : L = L.dropLast ++ [⟨Rect.unit (s := S1x1) ![0, 0] S1x1.size i0, k0_pay3 (F := Ideal)⟩])
    (hm : missL (s := S1x1) ![0, 0] ![1, 1] L.dropLast = true) (x : S1x1.Idx) :
    View.readCov v L (Rect.unit (s := S1x1) ![0, 0] S1x1.size i).toLoadRect x = (0 : EReal) := by
  refine readCov_first v L _ _ _ z14 hL (whole2 i0) ![0, 0] ![1, 1] hm (Rect.unit (s := S1x1) ![0, 0] S1x1.size i).toLoadRect x ?_
  exact box2 i x

end FfnFwd
-- ==== Proof.FwdCaseA.lean ====
module

public import proofs.«01_k».proof.Proof.FwdBlock

/-! The contents the forward body leaves at a point that starts the carry. -/

@[expose] public section

set_option maxRecDepth 16384

noncomputable section

namespace FfnFwd

open Pieces (readAt_whole readCov_pieces read_pieces_append missL not_mem_of_missL readCov_first)
open Idealize.ShloMosaic Idealize.ShloMosaic.TcCoe Idealize.SL.Sem
open Cert.Kernel9Ideal Cert.Kernel9Ideal.Gen

variable (c : Dev nD) (i : grid0.Coords) (a1 : Memref sig .tc .vmem S256x1024 .f32) (h1 : a1.IsWhole) (a2 : Memref sig .tc .vmem S1x1024 .f32) (h2 : a2.IsWhole) (a3 : Memref sig .tc .vmem S1024x5632 .bf16) (h3 : a3.IsWhole) (a4 : Memref sig .tc .vmem S3x2816 .f32) (h4 : a4.IsWhole) (a5 : Memref sig .tc .vmem S1x2816 .f32) (h5 : a5.IsWhole) (a6 : Memref sig .tc .vmem S2816x1024 .bf16) (h6 : a6.IsWhole) (a7 : Memref sig .tc .vmem S1x1024 .f32) (h7 : a7.IsWhole) (a8 : Memref sig .tc .vmem S256x1024 .f32) (h8 : a8.IsWhole) (a9 : Memref sig .tc .vmem S256x1024 .f32) (h9 : a9.IsWhole) (a10 : Memref sig .tc .vmem S256x1024 .bf16) (h10 : a10.IsWhole) (a11 : Memref sig .tc .vmem S256x5632 .bf16) (h11 : a11.IsWhole) (a12 : Memref sig .tc .vmem S256x2816 .bf16) (h12 : a12.IsWhole) (a13 : Memref sig .tc .vmem S256x2816 .bf16) (h13 : a13.IsWhole) (a14 : Memref sig .tc .vmem S8x1024 .f32) (h14 : a14.IsWhole) (a15 : Memref sig .tc .vmem S1x1 .f32) (h15 : a15.IsWhole) (a16 : Memref sig .tc .vmem S8x2816 .f32) (h16 : a16.IsWhole) (a17 : Memref sig .tc .vmem S264x256 .f32) (h17 : a17.IsWhole) (hc0 : cond0_0 i)
    (x0 : Vec Ideal S256x1024 .f32) (x1 : Vec Ideal S1x1024 .f32) (x2 : Vec Ideal S1024x5632 .bf16) (x3 : Vec Ideal S3x2816 .f32) (x4 : Vec Ideal S1x2816 .f32) (x5 : Vec Ideal S2816x1024 .bf16) (x6 : Vec Ideal S1x1024 .f32) (x7 : Vec Ideal S256x1024 .f32)

set_option maxHeartbeats 4000000 in
/-- The stored pieces: up projection. -/
theorem pA10 : ∀ p ∈ (kernelRun0_A c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7).2.2.1, ∀ x : p.1.shape.Idx, p.2 x = G10 x0 x1 x2 (p.1.emb x) := by
  refine List.forall_mem_cons.2 ⟨?_, ?_⟩
  · exact fun w => piece10 h1 h2 h3 (x0 := x0) (x1 := x1) (x2 := x2) (o := 5376) (by decide) _ _ _ (by decide) w
  refine List.forall_mem_cons.2 ⟨?_, ?_⟩
  · exact fun w => piece10 h1 h2 h3 (x0 := x0) (x1 := x1) (x2 := x2) (o := 2560) (by decide) _ _ _ (by decide) w
  refine List.forall_mem_cons.2 ⟨?_, ?_⟩
  · exact fun w => piece10 h1 h2 h3 (x0 := x0) (x1 := x1) (x2 := x2) (o := 5120) (by decide) _ _ _ (by decide) w
  refine List.forall_mem_cons.2 ⟨?_, ?_⟩
  · exact fun w => piece10 h1 h2 h3 (x0 := x0) (x1 := x1) (x2 := x2) (o := 2304) (by decide) _ _ _ (by decide) w
  refine List.forall_mem_cons.2 ⟨?_, ?_⟩
  · exact fun w => piece10 h1 h2 h3 (x0 := x0) (x1 := x1) (x2 := x2) (o := 4864) (by decide) _ _ _ (by decide) w
  refine List.forall_mem_cons.2 ⟨?_, ?_⟩
  · exact fun w => piece10 h1 h2 h3 (x0 := x0) (x1 := x1) (x2 := x2) (o := 2048) (by decide) _ _ _ (by decide) w
  refine List.forall_mem_cons.2 ⟨?_, ?_⟩
  · exact fun w => piece10 h1 h2 h3 (x0 := x0) (x1 := x1) (x2 := x2) (o := 4608) (by decide) _ _ _ (by decide) w
  refine List.forall_mem_cons.2 ⟨?_, ?_⟩
  · exact fun w => piece10 h1 h2 h3 (x0 := x0) (x1 := x1) (x2 := x2) (o := 1792) (by decide) _ _ _ (by decide) w
  refine List.forall_mem_cons.2 ⟨?_, ?_⟩
  · exact fun w => piece10 h1 h2 h3 (x0 := x0) (x1 := x1) (x2 := x2) (o := 4352) (by decide) _ _ _ (by decide) w
  refine List.forall_mem_cons.2 ⟨?_, ?_⟩
  · exact fun w => piece10 h1 h2 h3 (x0 := x0) (x1 := x1) (x2 := x2) (o := 1536) (by decide) _ _ _ (by decide) w
  refine List.forall_mem_cons.2 ⟨?_, ?_⟩
  · exact fun w => piece10 h1 h2 h3 (x0 := x0) (x1 := x1) (x2 := x2) (o := 4096) (by decide) _ _ _ (by decide) w
  refine List.forall_mem_cons.2 ⟨?_, ?_⟩
  · exact fun w => piece10 h1 h2 h3 (x0 := x0) (x1 := x1) (x2 := x2) (o := 1280) (by decide) _ _ _ (by decide) w
  refine List.forall_mem_cons.2 ⟨?_, ?_⟩
  · exact fun w => piece10 h1 h2 h3 (x0 := x0) (x1 := x1) (x2 := x2) (o := 3840) (by decide) _ _ _ (by decide) w
  refine List.forall_mem_cons.2 ⟨?_, ?_⟩
  · exact fun w => piece10 h1 h2 h3 (x0 := x0) (x1 := x1) (x2 := x2) (o := 1024) (by decide) _ _ _ (by decide) w
  refine List.forall_mem_cons.2 ⟨?_, ?_⟩
  · exact fun w => piece10 h1 h2 h3 (x0 := x0) (x1 := x1) (x2 := x2) (o := 3584) (by decide) _ _ _ (by decide) w
  refine List.forall_mem_cons.2 ⟨?_, ?_⟩
  · exact fun w => piece10 h1 h2 h3 (x0 := x0) (x1 := x1) (x2 := x2) (o := 768) (by decide) _ _ _ (by decide) w
  refine List.forall_mem_cons.2 ⟨?_, ?_⟩
  · exact fun w => piece10 h1 h2 h3 (x0 := x0) (x1 := x1) (x2 := x2) (o := 3328) (by decide) _ _ _ (by decide) w
  refine List.forall_mem_cons.2 ⟨?_, ?_⟩
  · exact fun w => piece10 h1 h2 h3 (x0 := x0) (x1 := x1) (x2 := x2) (o := 512) (by decide) _ _ _ (by decide) w
  refine List.forall_mem_cons.2 ⟨?_, ?_⟩
  · exact fun w => piece10 h1 h2 h3 (x0 := x0) (x1 := x1) (x2 := x2) (o := 3072) (by decide) _ _ _ (by decide) w
  refine List.forall_mem_cons.2 ⟨?_, ?_⟩
  · exact fun w => piece10 h1 h2 h3 (x0 := x0) (x1 := x1) (x2 := x2) (o := 256) (by decide) _ _ _ (by decide) w
  refine List.forall_mem_cons.2 ⟨?_, ?_⟩
  · exact fun w => piece10 h1 h2 h3 (x0 := x0) (x1 := x1) (x2 := x2) (o := 2816) (by decide) _ _ _ (by decide) w
  refine List.forall_mem_cons.2 ⟨?_, ?_⟩
  · exact fun w => piece10 h1 h2 h3 (x0 := x0) (x1 := x1) (x2 := x2) (o := 0) (by decide) _ _ _ (by decide) w
  exact List.forall_mem_nil _

set_option maxHeartbeats 4000000 in
/-- The stored pieces: gate. -/
theorem pA11 : ∀ p ∈ (kernelRun0_A c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7).2.2.2.1, ∀ x : p.1.shape.Idx, p.2 x = G11 x0 x1 x2 x3 x4 (fun _ => (0 : EReal)) (p.1.emb x) := by
  refine List.forall_mem_cons.2 ⟨?_, ?_⟩
  · exact fun w => piece11 h1 h2 h3 h4 h5 (fun _ => (0 : EReal)) (x0 := x0) (x1 := x1) (x2 := x2) (x3 := x3) (x4 := x4) (o := 2560) (by decide) _ _ _ _ _ _ _ _ (fun r c => zeroS (o := 2560) (by decide) (by rfl) (by sl_kernel_rfl) (ix2 r c)) _ _ _ _ (by decide) w
  refine List.forall_mem_cons.2 ⟨?_, ?_⟩
  · exact fun w => piece11 h1 h2 h3 h4 h5 (fun _ => (0 : EReal)) (x0 := x0) (x1 := x1) (x2 := x2) (x3 := x3) (x4 := x4) (o := 2304) (by decide) _ _ _ _ _ _ _ _ (fun r c => zeroS (o := 2304) (by decide) (by rfl) (by sl_kernel_rfl) (ix2 r c)) _ _ _ _ (by decide) w
  refine List.forall_mem_cons.2 ⟨?_, ?_⟩
  · exact fun w => piece11 h1 h2 h3 h4 h5 (fun _ => (0 : EReal)) (x0 := x0) (x1 := x1) (x2 := x2) (x3 := x3) (x4 := x4) (o := 2048) (by decide) _ _ _ _ _ _ _ _ (fun r c => zeroS (o := 2048) (by decide) (by rfl) (by sl_kernel_rfl) (ix2 r c)) _ _ _ _ (by decide) w
  refine List.forall_mem_cons.2 ⟨?_, ?_⟩
  · exact fun w => piece11 h1 h2 h3 h4 h5 (fun _ => (0 : EReal)) (x0 := x0) (x1 := x1) (x2 := x2) (x3 := x3) (x4 := x4) (o := 1792) (by decide) _ _ _ _ _ _ _ _ (fun r c => zeroS (o := 1792) (by decide) (by rfl) (by sl_kernel_rfl) (ix2 r c)) _ _ _ _ (by decide) w
  refine List.forall_mem_cons.2 ⟨?_, ?_⟩
  · exact fun w => piece11 h1 h2 h3 h4 h5 (fun _ => (0 : EReal)) (x0 := x0) (x1 := x1) (x2 := x2) (x3 := x3) (x4 := x4) (o := 1536) (by decide) _ _ _ _ _ _ _ _ (fun r c => zeroS (o := 1536) (by decide) (by rfl) (by sl_kernel_rfl) (ix2 r c)) _ _ _ _ (by decide) w
  refine List.forall_mem_cons.2 ⟨?_, ?_⟩
  · exact fun w => piece11 h1 h2 h3 h4 h5 (fun _ => (0 : EReal)) (x0 := x0) (x1 := x1) (x2 := x2) (x3 := x3) (x4 := x4) (o := 1280) (by decide) _ _ _ _ _ _ _ _ (fun r c => zeroS (o := 1280) (by decide) (by rfl) (by sl_kernel_rfl) (ix2 r c)) _ _ _ _ (by decide) w
  refine List.forall_mem_cons.2 ⟨?_, ?_⟩
  · exact fun w => piece11 h1 h2 h3 h4 h5 (fun _ => (0 : EReal)) (x0 := x0) (x1 := x1) (x2 := x2) (x3 := x3) (x4 := x4) (o := 1024) (by decide) _ _ _ _ _ _ _ _ (fun r c => zeroS (o := 1024) (by decide) (by rfl) (by sl_kernel_rfl) (ix2 r c)) _ _ _ _ (by decide) w
  refine List.forall_mem_cons.2 ⟨?_, ?_⟩
  · exact fun w => piece11 h1 h2 h3 h4 h5 (fun _ => (0 : EReal)) (x0 := x0) (x1 := x1) (x2 := x2) (x3 := x3) (x4 := x4) (o := 768) (by decide) _ _ _ _ _ _ _ _ (fun r c => zeroS (o := 768) (by decide) (by rfl) (by sl_kernel_rfl) (ix2 r c)) _ _ _ _ (by decide) w
  refine List.forall_mem_cons.2 ⟨?_, ?_⟩
  · exact fun w => piece11 h1 h2 h3 h4 h5 (fun _ => (0 : EReal)) (x0 := x0) (x1 := x1) (x2 := x2) (x3 := x3) (x4 := x4) (o := 512) (by decide) _ _ _ _ _ _ _ _ (fun r c => zeroS (o := 512) (by decide) (by rfl) (by sl_kernel_rfl) (ix2 r c)) _ _ _ _ (by decide) w
  refine List.forall_mem_cons.2 ⟨?_, ?_⟩
  · exact fun w => piece11 h1 h2 h3 h4 h5 (fun _ => (0 : EReal)) (x0 := x0) (x1 := x1) (x2 := x2) (x3 := x3) (x4 := x4) (o := 256) (by decide) _ _ _ _ _ _ _ _ (fun r c => zeroS (o := 256) (by decide) (by rfl) (by sl_kernel_rfl) (ix2 r c)) _ _ _ _ (by decide) w
  refine List.forall_mem_cons.2 ⟨?_, ?_⟩
  · exact fun w => piece11 h1 h2 h3 h4 h5 (fun _ => (0 : EReal)) (x0 := x0) (x1 := x1) (x2 := x2) (x3 := x3) (x4 := x4) (o := 0) (by decide) _ _ _ _ _ _ _ _ (fun r c => zeroS (o := 0) (by decide) (by rfl) (by sl_kernel_rfl) (ix2 r c)) _ _ _ _ (by decide) w
  exact List.forall_mem_nil _

set_option maxHeartbeats 4000000 in
/-- The stored pieces: activation. -/
theorem pA12 : ∀ p ∈ (kernelRun0_A c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7).2.2.2.2.1, ∀ x : p.1.shape.Idx, p.2 x = G12 x0 x1 x2 x3 x4 (fun _ => (0 : EReal)) (p.1.emb x) := by
  refine List.forall_mem_cons.2 ⟨?_, ?_⟩
  · exact fun w => piece12 h1 h2 h3 h4 h5 (fun _ => (0 : EReal)) (x0 := x0) (x1 := x1) (x2 := x2) (x3 := x3) (x4 := x4) (o := 2560) (ou := 5376) (by decide) rfl _ _ _ _ _ _ _ _ _ (fun r c => zeroS (o := 2560) (by decide) (by rfl) (by sl_kernel_rfl) (ix2 r c)) _ _ _ _ (by decide) w
  refine List.forall_mem_cons.2 ⟨?_, ?_⟩
  · exact fun w => piece12 h1 h2 h3 h4 h5 (fun _ => (0 : EReal)) (x0 := x0) (x1 := x1) (x2 := x2) (x3 := x3) (x4 := x4) (o := 2304) (ou := 5120) (by decide) rfl _ _ _ _ _ _ _ _ _ (fun r c => zeroS (o := 2304) (by decide) (by rfl) (by sl_kernel_rfl) (ix2 r c)) _ _ _ _ (by decide) w
  refine List.forall_mem_cons.2 ⟨?_, ?_⟩
  · exact fun w => piece12 h1 h2 h3 h4 h5 (fun _ => (0 : EReal)) (x0 := x0) (x1 := x1) (x2 := x2) (x3 := x3) (x4 := x4) (o := 2048) (ou := 4864) (by decide) rfl _ _ _ _ _ _ _ _ _ (fun r c => zeroS (o := 2048) (by decide) (by rfl) (by sl_kernel_rfl) (ix2 r c)) _ _ _ _ (by decide) w
  refine List.forall_mem_cons.2 ⟨?_, ?_⟩
  · exact fun w => piece12 h1 h2 h3 h4 h5 (fun _ => (0 : EReal)) (x0 := x0) (x1 := x1) (x2 := x2) (x3 := x3) (x4 := x4) (o := 1792) (ou := 4608) (by decide) rfl _ _ _ _ _ _ _ _ _ (fun r c => zeroS (o := 1792) (by decide) (by rfl) (by sl_kernel_rfl) (ix2 r c)) _ _ _ _ (by decide) w
  refine List.forall_mem_cons.2 ⟨?_, ?_⟩
  · exact fun w => piece12 h1 h2 h3 h4 h5 (fun _ => (0 : EReal)) (x0 := x0) (x1 := x1) (x2 := x2) (x3 := x3) (x4 := x4) (o := 1536) (ou := 4352) (by decide) rfl _ _ _ _ _ _ _ _ _ (fun r c => zeroS (o := 1536) (by decide) (by rfl) (by sl_kernel_rfl) (ix2 r c)) _ _ _ _ (by decide) w
  refine List.forall_mem_cons.2 ⟨?_, ?_⟩
  · exact fun w => piece12 h1 h2 h3 h4 h5 (fun _ => (0 : EReal)) (x0 := x0) (x1 := x1) (x2 := x2) (x3 := x3) (x4 := x4) (o := 1280) (ou := 4096) (by decide) rfl _ _ _ _ _ _ _ _ _ (fun r c => zeroS (o := 1280) (by decide) (by rfl) (by sl_kernel_rfl) (ix2 r c)) _ _ _ _ (by decide) w
  refine List.forall_mem_cons.2 ⟨?_, ?_⟩
  · exact fun w => piece12 h1 h2 h3 h4 h5 (fun _ => (0 : EReal)) (x0 := x0) (x1 := x1) (x2 := x2) (x3 := x3) (x4 := x4) (o := 1024) (ou := 3840) (by decide) rfl _ _ _ _ _ _ _ _ _ (fun r c => zeroS (o := 1024) (by decide) (by rfl) (by sl_kernel_rfl) (ix2 r c)) _ _ _ _ (by decide) w
  refine List.forall_mem_cons.2 ⟨?_, ?_⟩
  · exact fun w => piece12 h1 h2 h3 h4 h5 (fun _ => (0 : EReal)) (x0 := x0) (x1 := x1) (x2 := x2) (x3 := x3) (x4 := x4) (o := 768) (ou := 3584) (by decide) rfl _ _ _ _ _ _ _ _ _ (fun r c => zeroS (o := 768) (by decide) (by rfl) (by sl_kernel_rfl) (ix2 r c)) _ _ _ _ (by decide) w
  refine List.forall_mem_cons.2 ⟨?_, ?_⟩
  · exact fun w => piece12 h1 h2 h3 h4 h5 (fun _ => (0 : EReal)) (x0 := x0) (x1 := x1) (x2 := x2) (x3 := x3) (x4 := x4) (o := 512) (ou := 3328) (by decide) rfl _ _ _ _ _ _ _ _ _ (fun r c => zeroS (o := 512) (by decide) (by rfl) (by sl_kernel_rfl) (ix2 r c)) _ _ _ _ (by decide) w
  refine List.forall_mem_cons.2 ⟨?_, ?_⟩
  · exact fun w => piece12 h1 h2 h3 h4 h5 (fun _ => (0 : EReal)) (x0 := x0) (x1 := x1) (x2 := x2) (x3 := x3) (x4 := x4) (o := 256) (ou := 3072) (by decide) rfl _ _ _ _ _ _ _ _ _ (fun r c => zeroS (o := 256) (by decide) (by rfl) (by sl_kernel_rfl) (ix2 r c)) _ _ _ _ (by decide) w
  refine List.forall_mem_cons.2 ⟨?_, ?_⟩
  · exact fun w => piece12 h1 h2 h3 h4 h5 (fun _ => (0 : EReal)) (x0 := x0) (x1 := x1) (x2 := x2) (x3 := x3) (x4 := x4) (o := 0) (ou := 2816) (by decide) rfl _ _ _ _ _ _ _ _ _ (fun r c => zeroS (o := 0) (by decide) (by rfl) (by sl_kernel_rfl) (ix2 r c)) _ _ _ _ (by decide) w
  exact List.forall_mem_nil _

set_option maxHeartbeats 4000000 in
/-- The stored pieces: carried rows. -/
theorem pAS : ∀ p ∈ (kernelRun0_A c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7).2.2.2.2.2.2.2.1.dropLast, ∀ x : p.1.shape.Idx, p.2 x = GS x0 x1 x2 (p.1.emb x) := by
  refine List.forall_mem_cons.2 ⟨?_, ?_⟩
  · exact fun w => pieceS h1 h2 h3 (x0 := x0) (x1 := x1) (x2 := x2) (o := 2560) (by decide) _ _ _ (by decide) w
  refine List.forall_mem_cons.2 ⟨?_, ?_⟩
  · exact fun w => pieceS h1 h2 h3 (x0 := x0) (x1 := x1) (x2 := x2) (o := 2304) (by decide) _ _ _ (by decide) w
  refine List.forall_mem_cons.2 ⟨?_, ?_⟩
  · exact fun w => pieceS h1 h2 h3 (x0 := x0) (x1 := x1) (x2 := x2) (o := 2048) (by decide) _ _ _ (by decide) w
  refine List.forall_mem_cons.2 ⟨?_, ?_⟩
  · exact fun w => pieceS h1 h2 h3 (x0 := x0) (x1 := x1) (x2 := x2) (o := 1792) (by decide) _ _ _ (by decide) w
  refine List.forall_mem_cons.2 ⟨?_, ?_⟩
  · exact fun w => pieceS h1 h2 h3 (x0 := x0) (x1 := x1) (x2 := x2) (o := 1536) (by decide) _ _ _ (by decide) w
  refine List.forall_mem_cons.2 ⟨?_, ?_⟩
  · exact fun w => pieceS h1 h2 h3 (x0 := x0) (x1 := x1) (x2 := x2) (o := 1280) (by decide) _ _ _ (by decide) w
  refine List.forall_mem_cons.2 ⟨?_, ?_⟩
  · exact fun w => pieceS h1 h2 h3 (x0 := x0) (x1 := x1) (x2 := x2) (o := 1024) (by decide) _ _ _ (by decide) w
  refine List.forall_mem_cons.2 ⟨?_, ?_⟩
  · exact fun w => pieceS h1 h2 h3 (x0 := x0) (x1 := x1) (x2 := x2) (o := 768) (by decide) _ _ _ (by decide) w
  refine List.forall_mem_cons.2 ⟨?_, ?_⟩
  · exact fun w => pieceS h1 h2 h3 (x0 := x0) (x1 := x1) (x2 := x2) (o := 512) (by decide) _ _ _ (by decide) w
  refine List.forall_mem_cons.2 ⟨?_, ?_⟩
  · exact fun w => pieceS h1 h2 h3 (x0 := x0) (x1 := x1) (x2 := x2) (o := 256) (by decide) _ _ _ (by decide) w
  refine List.forall_mem_cons.2 ⟨?_, ?_⟩
  · exact fun w => pieceS h1 h2 h3 (x0 := x0) (x1 := x1) (x2 := x2) (o := 0) (by decide) _ _ _ (by decide) w
  exact List.forall_mem_nil _

set_option maxHeartbeats 4000000 in
/-- The stored pieces: normed input. -/
theorem pA9 : ∀ p ∈ (kernelRun0_A c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7).2.1, ∀ x : p.1.shape.Idx, p.2 x = G9 x0 x1 (p.1.emb x) := by
  refine List.forall_mem_cons.2 ⟨?_, ?_⟩
  · exact fun w => piece9 h1 h2 _ _ (by decide) w
  exact List.forall_mem_nil _

set_option maxHeartbeats 4000000 in
/-- The stored pieces: gradient. -/
theorem pA8 : ∀ p ∈ (kernelRun0_A c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7).1, ∀ x : p.1.shape.Idx, p.2 x = G8 x0 x5 x6 x7 (BA x0 x1 x2 x3 x4 (fun _ => (0 : EReal))) (p.1.emb x) := by
  refine List.forall_mem_cons.2 ⟨?_, ?_⟩
  · exact fun w => piece8 h1 h6 h7 h8 (a := (BA x0 x1 x2 x3 x4 (fun _ => (0 : EReal)))) (fun r f => readCov_pieces a13.view (kernelRun0_A c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7).2.2.2.2.1 (G12 x0 x1 x2 x3 x4 (fun _ => (0 : EReal))) (pA12 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7) (cover0_A_12 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7) (Rect.unit (s := S256x2816) ![0, 0] S256x2816.size inb_S256x2816_S256x2816_0_0).toLoadRect (ix2 r f) (ix2 r f) (by idx_ext)) _ _ _ _ (by decide) w
  exact List.forall_mem_nil _

set_option maxHeartbeats 4000000 in
/-- The stored pieces: partial sums of the scale's gradient. -/
theorem pA13 : ∀ p ∈ (kernelRun0_A c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7).2.2.2.2.2.1.dropLast, ∀ x : p.1.shape.Idx, p.2 x = G13 x0 x5 x6 x7 (BA x0 x1 x2 x3 x4 (fun _ => (0 : EReal))) (fun _ => (0 : EReal)) (p.1.emb x) := by
  refine List.forall_mem_cons.2 ⟨?_, ?_⟩
  · exact fun w => piece13 h1 h6 h7 h8 (a := (BA x0 x1 x2 x3 x4 (fun _ => (0 : EReal)))) (fun r f => readCov_pieces a13.view (kernelRun0_A c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7).2.2.2.2.1 (G12 x0 x1 x2 x3 x4 (fun _ => (0 : EReal))) (pA12 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7) (cover0_A_12 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7) (Rect.unit (s := S256x2816) ![0, 0] S256x2816.size inb_S256x2816_S256x2816_0_0).toLoadRect (ix2 r f) (ix2 r f) (by idx_ext)) _ _ _ _ _ (fun _ => (0 : EReal)) (fun r c => zero13 (by decide) (by rfl) (by sl_kernel_rfl) (ix2 r c)) (by decide) w
  exact List.forall_mem_nil _

set_option maxHeartbeats 4000000 in
/-- The stored pieces: loss. -/
theorem pA14 : ∀ p ∈ (kernelRun0_A c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7).2.2.2.2.2.2.1.dropLast, ∀ x : p.1.shape.Idx, p.2 x = G14 x0 x5 x6 x7 (BA x0 x1 x2 x3 x4 (fun _ => (0 : EReal))) (fun _ => (0 : EReal)) (p.1.emb x) := by
  refine List.forall_mem_cons.2 ⟨?_, ?_⟩
  · exact fun w => piece14 h1 h6 h7 h8 (a := (BA x0 x1 x2 x3 x4 (fun _ => (0 : EReal)))) (fun r f => readCov_pieces a13.view (kernelRun0_A c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7).2.2.2.2.1 (G12 x0 x1 x2 x3 x4 (fun _ => (0 : EReal))) (pA12 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7) (cover0_A_12 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7) (Rect.unit (s := S256x2816) ![0, 0] S256x2816.size inb_S256x2816_S256x2816_0_0).toLoadRect (ix2 r f) (ix2 r f) (by idx_ext)) _ _ _ _ _ (fun _ => (0 : EReal)) (fun r c => zero14 (by decide) (by rfl) (by sl_kernel_rfl) (ix2 r c)) (by decide) w
  exact List.forall_mem_nil _

/-- What the point leaves: gradient. -/
theorem oA8 : out0_A_8 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 = G8 x0 x5 x6 x7 (BA x0 x1 x2 x3 x4 (fun _ => (0 : EReal))) := by
  funext y
  unfold out0_A_8
  exact View.read_writes_apply_of_pieces _ _ _ _ (pA8 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7) y (cover0_A_8 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 y)

/-- What the point leaves: normed input. -/
theorem oA9 : out0_A_9 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 = G9 x0 x1 := by
  funext y
  unfold out0_A_9
  exact View.read_writes_apply_of_pieces _ _ _ _ (pA9 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7) y (cover0_A_9 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 y)

/-- What the point leaves: up projection. -/
theorem oA10 : out0_A_10 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 = G10 x0 x1 x2 := by
  funext y
  unfold out0_A_10
  exact View.read_writes_apply_of_pieces _ _ _ _ (pA10 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7) y (cover0_A_10 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 y)

/-- What the point leaves: gate. -/
theorem oA11 : out0_A_11 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 = G11 x0 x1 x2 x3 x4 (fun _ => (0 : EReal)) := by
  funext y
  unfold out0_A_11
  exact View.read_writes_apply_of_pieces _ _ _ _ (pA11 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7) y (cover0_A_11 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 y)

/-- What the point leaves: activation. -/
theorem oA12 : out0_A_12 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 = G12 x0 x1 x2 x3 x4 (fun _ => (0 : EReal)) := by
  funext y
  unfold out0_A_12
  exact View.read_writes_apply_of_pieces _ _ _ _ (pA12 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7) y (cover0_A_12 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 y)

/-- What the point leaves: partial sums of the scale's gradient. -/
theorem oA13 : out0_A_13 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 = G13 x0 x5 x6 x7 (BA x0 x1 x2 x3 x4 (fun _ => (0 : EReal))) (fun _ => (0 : EReal)) := by
  funext y
  unfold out0_A_13
  have e : (kernelRun0_A c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7).2.2.2.2.2.1 = ((kernelRun0_A c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7).2.2.2.2.2.1).dropLast ++ [((kernelRun0_A c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7).2.2.2.2.2.1).getLast (List.cons_ne_nil _ _)] := (List.dropLast_append_getLast _).symm
  rw [e]
  exact read_pieces_append _ _ _ _ _ (pA13 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7) (View.cover_of_tiledL _ S8x1024.size (by sl_kernel_rfl)) y

/-- What the point leaves: loss. -/
theorem oA14 : out0_A_14 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 = G14 x0 x5 x6 x7 (BA x0 x1 x2 x3 x4 (fun _ => (0 : EReal))) (fun _ => (0 : EReal)) := by
  funext y
  unfold out0_A_14
  have e : (kernelRun0_A c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7).2.2.2.2.2.2.1 = ((kernelRun0_A c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7).2.2.2.2.2.2.1).dropLast ++ [((kernelRun0_A c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7).2.2.2.2.2.2.1).getLast (List.cons_ne_nil _ _)] := (List.dropLast_append_getLast _).symm
  rw [e]
  exact read_pieces_append _ _ _ _ _ (pA14 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7) (View.cover_of_tiledL _ S1x1.size (by sl_kernel_rfl)) y

/-- What the point leaves: carried rows. -/
theorem sA : sout0_A_0 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 = GS x0 x1 x2 := by
  funext y
  unfold sout0_A_0
  have e : (kernelRun0_A c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7).2.2.2.2.2.2.2.1 = ((kernelRun0_A c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7).2.2.2.2.2.2.2.1).dropLast ++ [((kernelRun0_A c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7).2.2.2.2.2.2.2.1).getLast (List.cons_ne_nil _ _)] := (List.dropLast_append_getLast _).symm
  rw [e]
  exact read_pieces_append _ _ _ _ _ (pAS c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7) (View.cover_of_tiledL _ S8x256.size (by sl_kernel_rfl)) y

end FfnFwd
-- ==== Proof.FwdCaseB.lean ====
module

public import proofs.«01_k».proof.Proof.FwdBlock

/-! The contents the forward body leaves at a point that continues the carry. -/

@[expose] public section

set_option maxRecDepth 16384

noncomputable section

namespace FfnFwd

open Pieces (readAt_whole readCov_pieces read_pieces_append missL not_mem_of_missL readCov_first)
open Idealize.ShloMosaic Idealize.ShloMosaic.TcCoe Idealize.SL.Sem
open Cert.Kernel9Ideal Cert.Kernel9Ideal.Gen

variable (c : Dev nD) (i : grid0.Coords) (a1 : Memref sig .tc .vmem S256x1024 .f32) (h1 : a1.IsWhole) (a2 : Memref sig .tc .vmem S1x1024 .f32) (h2 : a2.IsWhole) (a3 : Memref sig .tc .vmem S1024x5632 .bf16) (h3 : a3.IsWhole) (a4 : Memref sig .tc .vmem S3x2816 .f32) (h4 : a4.IsWhole) (a5 : Memref sig .tc .vmem S1x2816 .f32) (h5 : a5.IsWhole) (a6 : Memref sig .tc .vmem S2816x1024 .bf16) (h6 : a6.IsWhole) (a7 : Memref sig .tc .vmem S1x1024 .f32) (h7 : a7.IsWhole) (a8 : Memref sig .tc .vmem S256x1024 .f32) (h8 : a8.IsWhole) (a9 : Memref sig .tc .vmem S256x1024 .f32) (h9 : a9.IsWhole) (a10 : Memref sig .tc .vmem S256x1024 .bf16) (h10 : a10.IsWhole) (a11 : Memref sig .tc .vmem S256x5632 .bf16) (h11 : a11.IsWhole) (a12 : Memref sig .tc .vmem S256x2816 .bf16) (h12 : a12.IsWhole) (a13 : Memref sig .tc .vmem S256x2816 .bf16) (h13 : a13.IsWhole) (a14 : Memref sig .tc .vmem S8x1024 .f32) (h14 : a14.IsWhole) (a15 : Memref sig .tc .vmem S1x1 .f32) (h15 : a15.IsWhole) (a16 : Memref sig .tc .vmem S8x2816 .f32) (h16 : a16.IsWhole) (a17 : Memref sig .tc .vmem S264x256 .f32) (h17 : a17.IsWhole) (hc0 : ¬cond0_0 i)
    (x0 : Vec Ideal S256x1024 .f32) (x1 : Vec Ideal S1x1024 .f32) (x2 : Vec Ideal S1024x5632 .bf16) (x3 : Vec Ideal S3x2816 .f32) (x4 : Vec Ideal S1x2816 .f32) (x5 : Vec Ideal S2816x1024 .bf16) (x6 : Vec Ideal S1x1024 .f32) (x7 : Vec Ideal S256x1024 .f32) (xo13 : Vec Ideal S8x1024 .f32) (xo14 : Vec Ideal S1x1 .f32) (xs0 : Vec Ideal S8x2816 .f32)

set_option maxHeartbeats 4000000 in
/-- The stored pieces: up projection. -/
theorem pB10 : ∀ p ∈ (kernelRun0_B c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0).2.2.1, ∀ x : p.1.shape.Idx, p.2 x = G10 x0 x1 x2 (p.1.emb x) := by
  refine List.forall_mem_cons.2 ⟨?_, ?_⟩
  · exact fun w => piece10 h1 h2 h3 (x0 := x0) (x1 := x1) (x2 := x2) (o := 5376) (by decide) _ _ _ (by decide) w
  refine List.forall_mem_cons.2 ⟨?_, ?_⟩
  · exact fun w => piece10 h1 h2 h3 (x0 := x0) (x1 := x1) (x2 := x2) (o := 2560) (by decide) _ _ _ (by decide) w
  refine List.forall_mem_cons.2 ⟨?_, ?_⟩
  · exact fun w => piece10 h1 h2 h3 (x0 := x0) (x1 := x1) (x2 := x2) (o := 5120) (by decide) _ _ _ (by decide) w
  refine List.forall_mem_cons.2 ⟨?_, ?_⟩
  · exact fun w => piece10 h1 h2 h3 (x0 := x0) (x1 := x1) (x2 := x2) (o := 2304) (by decide) _ _ _ (by decide) w
  refine List.forall_mem_cons.2 ⟨?_, ?_⟩
  · exact fun w => piece10 h1 h2 h3 (x0 := x0) (x1 := x1) (x2 := x2) (o := 4864) (by decide) _ _ _ (by decide) w
  refine List.forall_mem_cons.2 ⟨?_, ?_⟩
  · exact fun w => piece10 h1 h2 h3 (x0 := x0) (x1 := x1) (x2 := x2) (o := 2048) (by decide) _ _ _ (by decide) w
  refine List.forall_mem_cons.2 ⟨?_, ?_⟩
  · exact fun w => piece10 h1 h2 h3 (x0 := x0) (x1 := x1) (x2 := x2) (o := 4608) (by decide) _ _ _ (by decide) w
  refine List.forall_mem_cons.2 ⟨?_, ?_⟩
  · exact fun w => piece10 h1 h2 h3 (x0 := x0) (x1 := x1) (x2 := x2) (o := 1792) (by decide) _ _ _ (by decide) w
  refine List.forall_mem_cons.2 ⟨?_, ?_⟩
  · exact fun w => piece10 h1 h2 h3 (x0 := x0) (x1 := x1) (x2 := x2) (o := 4352) (by decide) _ _ _ (by decide) w
  refine List.forall_mem_cons.2 ⟨?_, ?_⟩
  · exact fun w => piece10 h1 h2 h3 (x0 := x0) (x1 := x1) (x2 := x2) (o := 1536) (by decide) _ _ _ (by decide) w
  refine List.forall_mem_cons.2 ⟨?_, ?_⟩
  · exact fun w => piece10 h1 h2 h3 (x0 := x0) (x1 := x1) (x2 := x2) (o := 4096) (by decide) _ _ _ (by decide) w
  refine List.forall_mem_cons.2 ⟨?_, ?_⟩
  · exact fun w => piece10 h1 h2 h3 (x0 := x0) (x1 := x1) (x2 := x2) (o := 1280) (by decide) _ _ _ (by decide) w
  refine List.forall_mem_cons.2 ⟨?_, ?_⟩
  · exact fun w => piece10 h1 h2 h3 (x0 := x0) (x1 := x1) (x2 := x2) (o := 3840) (by decide) _ _ _ (by decide) w
  refine List.forall_mem_cons.2 ⟨?_, ?_⟩
  · exact fun w => piece10 h1 h2 h3 (x0 := x0) (x1 := x1) (x2 := x2) (o := 1024) (by decide) _ _ _ (by decide) w
  refine List.forall_mem_cons.2 ⟨?_, ?_⟩
  · exact fun w => piece10 h1 h2 h3 (x0 := x0) (x1 := x1) (x2 := x2) (o := 3584) (by decide) _ _ _ (by decide) w
  refine List.forall_mem_cons.2 ⟨?_, ?_⟩
  · exact fun w => piece10 h1 h2 h3 (x0 := x0) (x1 := x1) (x2 := x2) (o := 768) (by decide) _ _ _ (by decide) w
  refine List.forall_mem_cons.2 ⟨?_, ?_⟩
  · exact fun w => piece10 h1 h2 h3 (x0 := x0) (x1 := x1) (x2 := x2) (o := 3328) (by decide) _ _ _ (by decide) w
  refine List.forall_mem_cons.2 ⟨?_, ?_⟩
  · exact fun w => piece10 h1 h2 h3 (x0 := x0) (x1 := x1) (x2 := x2) (o := 512) (by decide) _ _ _ (by decide) w
  refine List.forall_mem_cons.2 ⟨?_, ?_⟩
  · exact fun w => piece10 h1 h2 h3 (x0 := x0) (x1 := x1) (x2 := x2) (o := 3072) (by decide) _ _ _ (by decide) w
  refine List.forall_mem_cons.2 ⟨?_, ?_⟩
  · exact fun w => piece10 h1 h2 h3 (x0 := x0) (x1 := x1) (x2 := x2) (o := 256) (by decide) _ _ _ (by decide) w
  refine List.forall_mem_cons.2 ⟨?_, ?_⟩
  · exact fun w => piece10 h1 h2 h3 (x0 := x0) (x1 := x1) (x2 := x2) (o := 2816) (by decide) _ _ _ (by decide) w
  refine List.forall_mem_cons.2 ⟨?_, ?_⟩
  · exact fun w => piece10 h1 h2 h3 (x0 := x0) (x1 := x1) (x2 := x2) (o := 0) (by decide) _ _ _ (by decide) w
  exact List.forall_mem_nil _

set_option maxHeartbeats 4000000 in
/-- The stored pieces: gate. -/
theorem pB11 : ∀ p ∈ (kernelRun0_B c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0).2.2.2.1, ∀ x : p.1.shape.Idx, p.2 x = G11 x0 x1 x2 x3 x4 xs0 (p.1.emb x) := by
  refine List.forall_mem_cons.2 ⟨?_, ?_⟩
  · exact fun w => piece11 h1 h2 h3 h4 h5 xs0 (x0 := x0) (x1 := x1) (x2 := x2) (x3 := x3) (x4 := x4) (o := 2560) (by decide) _ _ _ _ _ _ _ _ (fun r c => readAt_whole h16 xs0 _ _ _ (by idx_ext)) _ _ _ _ (by decide) w
  refine List.forall_mem_cons.2 ⟨?_, ?_⟩
  · exact fun w => piece11 h1 h2 h3 h4 h5 xs0 (x0 := x0) (x1 := x1) (x2 := x2) (x3 := x3) (x4 := x4) (o := 2304) (by decide) _ _ _ _ _ _ _ _ (fun r c => readAt_whole h16 xs0 _ _ _ (by idx_ext)) _ _ _ _ (by decide) w
  refine List.forall_mem_cons.2 ⟨?_, ?_⟩
  · exact fun w => piece11 h1 h2 h3 h4 h5 xs0 (x0 := x0) (x1 := x1) (x2 := x2) (x3 := x3) (x4 := x4) (o := 2048) (by decide) _ _ _ _ _ _ _ _ (fun r c => readAt_whole h16 xs0 _ _ _ (by idx_ext)) _ _ _ _ (by decide) w
  refine List.forall_mem_cons.2 ⟨?_, ?_⟩
  · exact fun w => piece11 h1 h2 h3 h4 h5 xs0 (x0 := x0) (x1 := x1) (x2 := x2) (x3 := x3) (x4 := x4) (o := 1792) (by decide) _ _ _ _ _ _ _ _ (fun r c => readAt_whole h16 xs0 _ _ _ (by idx_ext)) _ _ _ _ (by decide) w
  refine List.forall_mem_cons.2 ⟨?_, ?_⟩
  · exact fun w => piece11 h1 h2 h3 h4 h5 xs0 (x0 := x0) (x1 := x1) (x2 := x2) (x3 := x3) (x4 := x4) (o := 1536) (by decide) _ _ _ _ _ _ _ _ (fun r c => readAt_whole h16 xs0 _ _ _ (by idx_ext)) _ _ _ _ (by decide) w
  refine List.forall_mem_cons.2 ⟨?_, ?_⟩
  · exact fun w => piece11 h1 h2 h3 h4 h5 xs0 (x0 := x0) (x1 := x1) (x2 := x2) (x3 := x3) (x4 := x4) (o := 1280) (by decide) _ _ _ _ _ _ _ _ (fun r c => readAt_whole h16 xs0 _ _ _ (by idx_ext)) _ _ _ _ (by decide) w
  refine List.forall_mem_cons.2 ⟨?_, ?_⟩
  · exact fun w => piece11 h1 h2 h3 h4 h5 xs0 (x0 := x0) (x1 := x1) (x2 := x2) (x3 := x3) (x4 := x4) (o := 1024) (by decide) _ _ _ _ _ _ _ _ (fun r c => readAt_whole h16 xs0 _ _ _ (by idx_ext)) _ _ _ _ (by decide) w
  refine List.forall_mem_cons.2 ⟨?_, ?_⟩
  · exact fun w => piece11 h1 h2 h3 h4 h5 xs0 (x0 := x0) (x1 := x1) (x2 := x2) (x3 := x3) (x4 := x4) (o := 768) (by decide) _ _ _ _ _ _ _ _ (fun r c => readAt_whole h16 xs0 _ _ _ (by idx_ext)) _ _ _ _ (by decide) w
  refine List.forall_mem_cons.2 ⟨?_, ?_⟩
  · exact fun w => piece11 h1 h2 h3 h4 h5 xs0 (x0 := x0) (x1 := x1) (x2 := x2) (x3 := x3) (x4 := x4) (o := 512) (by decide) _ _ _ _ _ _ _ _ (fun r c => readAt_whole h16 xs0 _ _ _ (by idx_ext)) _ _ _ _ (by decide) w
  refine List.forall_mem_cons.2 ⟨?_, ?_⟩
  · exact fun w => piece11 h1 h2 h3 h4 h5 xs0 (x0 := x0) (x1 := x1) (x2 := x2) (x3 := x3) (x4 := x4) (o := 256) (by decide) _ _ _ _ _ _ _ _ (fun r c => readAt_whole h16 xs0 _ _ _ (by idx_ext)) _ _ _ _ (by decide) w
  refine List.forall_mem_cons.2 ⟨?_, ?_⟩
  · exact fun w => piece11 h1 h2 h3 h4 h5 xs0 (x0 := x0) (x1 := x1) (x2 := x2) (x3 := x3) (x4 := x4) (o := 0) (by decide) _ _ _ _ _ _ _ _ (fun r c => readAt_whole h16 xs0 _ _ _ (by idx_ext)) _ _ _ _ (by decide) w
  exact List.forall_mem_nil _

set_option maxHeartbeats 4000000 in
/-- The stored pieces: activation. -/
theorem pB12 : ∀ p ∈ (kernelRun0_B c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0).2.2.2.2.1, ∀ x : p.1.shape.Idx, p.2 x = G12 x0 x1 x2 x3 x4 xs0 (p.1.emb x) := by
  refine List.forall_mem_cons.2 ⟨?_, ?_⟩
  · exact fun w => piece12 h1 h2 h3 h4 h5 xs0 (x0 := x0) (x1 := x1) (x2 := x2) (x3 := x3) (x4 := x4) (o := 2560) (ou := 5376) (by decide) rfl _ _ _ _ _ _ _ _ _ (fun r c => readAt_whole h16 xs0 _ _ _ (by idx_ext)) _ _ _ _ (by decide) w
  refine List.forall_mem_cons.2 ⟨?_, ?_⟩
  · exact fun w => piece12 h1 h2 h3 h4 h5 xs0 (x0 := x0) (x1 := x1) (x2 := x2) (x3 := x3) (x4 := x4) (o := 2304) (ou := 5120) (by decide) rfl _ _ _ _ _ _ _ _ _ (fun r c => readAt_whole h16 xs0 _ _ _ (by idx_ext)) _ _ _ _ (by decide) w
  refine List.forall_mem_cons.2 ⟨?_, ?_⟩
  · exact fun w => piece12 h1 h2 h3 h4 h5 xs0 (x0 := x0) (x1 := x1) (x2 := x2) (x3 := x3) (x4 := x4) (o := 2048) (ou := 4864) (by decide) rfl _ _ _ _ _ _ _ _ _ (fun r c => readAt_whole h16 xs0 _ _ _ (by idx_ext)) _ _ _ _ (by decide) w
  refine List.forall_mem_cons.2 ⟨?_, ?_⟩
  · exact fun w => piece12 h1 h2 h3 h4 h5 xs0 (x0 := x0) (x1 := x1) (x2 := x2) (x3 := x3) (x4 := x4) (o := 1792) (ou := 4608) (by decide) rfl _ _ _ _ _ _ _ _ _ (fun r c => readAt_whole h16 xs0 _ _ _ (by idx_ext)) _ _ _ _ (by decide) w
  refine List.forall_mem_cons.2 ⟨?_, ?_⟩
  · exact fun w => piece12 h1 h2 h3 h4 h5 xs0 (x0 := x0) (x1 := x1) (x2 := x2) (x3 := x3) (x4 := x4) (o := 1536) (ou := 4352) (by decide) rfl _ _ _ _ _ _ _ _ _ (fun r c => readAt_whole h16 xs0 _ _ _ (by idx_ext)) _ _ _ _ (by decide) w
  refine List.forall_mem_cons.2 ⟨?_, ?_⟩
  · exact fun w => piece12 h1 h2 h3 h4 h5 xs0 (x0 := x0) (x1 := x1) (x2 := x2) (x3 := x3) (x4 := x4) (o := 1280) (ou := 4096) (by decide) rfl _ _ _ _ _ _ _ _ _ (fun r c => readAt_whole h16 xs0 _ _ _ (by idx_ext)) _ _ _ _ (by decide) w
  refine List.forall_mem_cons.2 ⟨?_, ?_⟩
  · exact fun w => piece12 h1 h2 h3 h4 h5 xs0 (x0 := x0) (x1 := x1) (x2 := x2) (x3 := x3) (x4 := x4) (o := 1024) (ou := 3840) (by decide) rfl _ _ _ _ _ _ _ _ _ (fun r c => readAt_whole h16 xs0 _ _ _ (by idx_ext)) _ _ _ _ (by decide) w
  refine List.forall_mem_cons.2 ⟨?_, ?_⟩
  · exact fun w => piece12 h1 h2 h3 h4 h5 xs0 (x0 := x0) (x1 := x1) (x2 := x2) (x3 := x3) (x4 := x4) (o := 768) (ou := 3584) (by decide) rfl _ _ _ _ _ _ _ _ _ (fun r c => readAt_whole h16 xs0 _ _ _ (by idx_ext)) _ _ _ _ (by decide) w
  refine List.forall_mem_cons.2 ⟨?_, ?_⟩
  · exact fun w => piece12 h1 h2 h3 h4 h5 xs0 (x0 := x0) (x1 := x1) (x2 := x2) (x3 := x3) (x4 := x4) (o := 512) (ou := 3328) (by decide) rfl _ _ _ _ _ _ _ _ _ (fun r c => readAt_whole h16 xs0 _ _ _ (by idx_ext)) _ _ _ _ (by decide) w
  refine List.forall_mem_cons.2 ⟨?_, ?_⟩
  · exact fun w => piece12 h1 h2 h3 h4 h5 xs0 (x0 := x0) (x1 := x1) (x2 := x2) (x3 := x3) (x4 := x4) (o := 256) (ou := 3072) (by decide) rfl _ _ _ _ _ _ _ _ _ (fun r c => readAt_whole h16 xs0 _ _ _ (by idx_ext)) _ _ _ _ (by decide) w
  refine List.forall_mem_cons.2 ⟨?_, ?_⟩
  · exact fun w => piece12 h1 h2 h3 h4 h5 xs0 (x0 := x0) (x1 := x1) (x2 := x2) (x3 := x3) (x4 := x4) (o := 0) (ou := 2816) (by decide) rfl _ _ _ _ _ _ _ _ _ (fun r c => readAt_whole h16 xs0 _ _ _ (by idx_ext)) _ _ _ _ (by decide) w
  exact List.forall_mem_nil _

set_option maxHeartbeats 4000000 in
/-- The stored pieces: carried rows. -/
theorem pBS : ∀ p ∈ (kernelRun0_B c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0).2.2.2.2.2.2.2.1, ∀ x : p.1.shape.Idx, p.2 x = GS x0 x1 x2 (p.1.emb x) := by
  refine List.forall_mem_cons.2 ⟨?_, ?_⟩
  · exact fun w => pieceS h1 h2 h3 (x0 := x0) (x1 := x1) (x2 := x2) (o := 2560) (by decide) _ _ _ (by decide) w
  refine List.forall_mem_cons.2 ⟨?_, ?_⟩
  · exact fun w => pieceS h1 h2 h3 (x0 := x0) (x1 := x1) (x2 := x2) (o := 2304) (by decide) _ _ _ (by decide) w
  refine List.forall_mem_cons.2 ⟨?_, ?_⟩
  · exact fun w => pieceS h1 h2 h3 (x0 := x0) (x1 := x1) (x2 := x2) (o := 2048) (by decide) _ _ _ (by decide) w
  refine List.forall_mem_cons.2 ⟨?_, ?_⟩
  · exact fun w => pieceS h1 h2 h3 (x0 := x0) (x1 := x1) (x2 := x2) (o := 1792) (by decide) _ _ _ (by decide) w
  refine List.forall_mem_cons.2 ⟨?_, ?_⟩
  · exact fun w => pieceS h1 h2 h3 (x0 := x0) (x1 := x1) (x2 := x2) (o := 1536) (by decide) _ _ _ (by decide) w
  refine List.forall_mem_cons.2 ⟨?_, ?_⟩
  · exact fun w => pieceS h1 h2 h3 (x0 := x0) (x1 := x1) (x2 := x2) (o := 1280) (by decide) _ _ _ (by decide) w
  refine List.forall_mem_cons.2 ⟨?_, ?_⟩
  · exact fun w => pieceS h1 h2 h3 (x0 := x0) (x1 := x1) (x2 := x2) (o := 1024) (by decide) _ _ _ (by decide) w
  refine List.forall_mem_cons.2 ⟨?_, ?_⟩
  · exact fun w => pieceS h1 h2 h3 (x0 := x0) (x1 := x1) (x2 := x2) (o := 768) (by decide) _ _ _ (by decide) w
  refine List.forall_mem_cons.2 ⟨?_, ?_⟩
  · exact fun w => pieceS h1 h2 h3 (x0 := x0) (x1 := x1) (x2 := x2) (o := 512) (by decide) _ _ _ (by decide) w
  refine List.forall_mem_cons.2 ⟨?_, ?_⟩
  · exact fun w => pieceS h1 h2 h3 (x0 := x0) (x1 := x1) (x2 := x2) (o := 256) (by decide) _ _ _ (by decide) w
  refine List.forall_mem_cons.2 ⟨?_, ?_⟩
  · exact fun w => pieceS h1 h2 h3 (x0 := x0) (x1 := x1) (x2 := x2) (o := 0) (by decide) _ _ _ (by decide) w
  exact List.forall_mem_nil _

set_option maxHeartbeats 4000000 in
/-- The stored pieces: normed input. -/
theorem pB9 : ∀ p ∈ (kernelRun0_B c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0).2.1, ∀ x : p.1.shape.Idx, p.2 x = G9 x0 x1 (p.1.emb x) := by
  refine List.forall_mem_cons.2 ⟨?_, ?_⟩
  · exact fun w => piece9 h1 h2 _ _ (by decide) w
  exact List.forall_mem_nil _

set_option maxHeartbeats 4000000 in
/-- The stored pieces: gradient. -/
theorem pB8 : ∀ p ∈ (kernelRun0_B c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0).1, ∀ x : p.1.shape.Idx, p.2 x = G8 x0 x5 x6 x7 (BA x0 x1 x2 x3 x4 xs0) (p.1.emb x) := by
  refine List.forall_mem_cons.2 ⟨?_, ?_⟩
  · exact fun w => piece8 h1 h6 h7 h8 (a := (BA x0 x1 x2 x3 x4 xs0)) (fun r f => readCov_pieces a13.view (kernelRun0_B c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0).2.2.2.2.1 (G12 x0 x1 x2 x3 x4 xs0) (pB12 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0) (cover0_B_12 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0) (Rect.unit (s := S256x2816) ![0, 0] S256x2816.size inb_S256x2816_S256x2816_0_0).toLoadRect (ix2 r f) (ix2 r f) (by idx_ext)) _ _ _ _ (by decide) w
  exact List.forall_mem_nil _

set_option maxHeartbeats 4000000 in
/-- The stored pieces: partial sums of the scale's gradient. -/
theorem pB13 : ∀ p ∈ (kernelRun0_B c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0).2.2.2.2.2.1, ∀ x : p.1.shape.Idx, p.2 x = G13 x0 x5 x6 x7 (BA x0 x1 x2 x3 x4 xs0) xo13 (p.1.emb x) := by
  refine List.forall_mem_cons.2 ⟨?_, ?_⟩
  · exact fun w => piece13 h1 h6 h7 h8 (a := (BA x0 x1 x2 x3 x4 xs0)) (fun r f => readCov_pieces a13.view (kernelRun0_B c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0).2.2.2.2.1 (G12 x0 x1 x2 x3 x4 xs0) (pB12 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0) (cover0_B_12 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0) (Rect.unit (s := S256x2816) ![0, 0] S256x2816.size inb_S256x2816_S256x2816_0_0).toLoadRect (ix2 r f) (ix2 r f) (by idx_ext)) _ _ _ _ _ xo13 (fun r c => readAt_whole h14 xo13 _ _ _ (by idx_ext)) (by decide) w
  exact List.forall_mem_nil _

set_option maxHeartbeats 4000000 in
/-- The stored pieces: loss. -/
theorem pB14 : ∀ p ∈ (kernelRun0_B c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0).2.2.2.2.2.2.1, ∀ x : p.1.shape.Idx, p.2 x = G14 x0 x5 x6 x7 (BA x0 x1 x2 x3 x4 xs0) xo14 (p.1.emb x) := by
  refine List.forall_mem_cons.2 ⟨?_, ?_⟩
  · exact fun w => piece14 h1 h6 h7 h8 (a := (BA x0 x1 x2 x3 x4 xs0)) (fun r f => readCov_pieces a13.view (kernelRun0_B c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0).2.2.2.2.1 (G12 x0 x1 x2 x3 x4 xs0) (pB12 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0) (cover0_B_12 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0) (Rect.unit (s := S256x2816) ![0, 0] S256x2816.size inb_S256x2816_S256x2816_0_0).toLoadRect (ix2 r f) (ix2 r f) (by idx_ext)) _ _ _ _ _ xo14 (fun r c => readAt_whole h15 xo14 _ _ _ (by idx_ext)) (by decide) w
  exact List.forall_mem_nil _

/-- What the point leaves: gradient. -/
theorem oB8 : out0_B_8 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0 = G8 x0 x5 x6 x7 (BA x0 x1 x2 x3 x4 xs0) := by
  funext y
  unfold out0_B_8
  exact View.read_writes_apply_of_pieces _ _ _ _ (pB8 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0) y (cover0_B_8 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0 y)

/-- What the point leaves: normed input. -/
theorem oB9 : out0_B_9 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0 = G9 x0 x1 := by
  funext y
  unfold out0_B_9
  exact View.read_writes_apply_of_pieces _ _ _ _ (pB9 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0) y (cover0_B_9 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0 y)

/-- What the point leaves: up projection. -/
theorem oB10 : out0_B_10 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0 = G10 x0 x1 x2 := by
  funext y
  unfold out0_B_10
  exact View.read_writes_apply_of_pieces _ _ _ _ (pB10 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0) y (cover0_B_10 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0 y)

/-- What the point leaves: gate. -/
theorem oB11 : out0_B_11 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0 = G11 x0 x1 x2 x3 x4 xs0 := by
  funext y
  unfold out0_B_11
  exact View.read_writes_apply_of_pieces _ _ _ _ (pB11 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0) y (cover0_B_11 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0 y)

/-- What the point leaves: activation. -/
theorem oB12 : out0_B_12 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0 = G12 x0 x1 x2 x3 x4 xs0 := by
  funext y
  unfold out0_B_12
  exact View.read_writes_apply_of_pieces _ _ _ _ (pB12 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0) y (cover0_B_12 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0 y)

/-- What the point leaves: partial sums of the scale's gradient. -/
theorem oB13 : out0_B_13 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0 = G13 x0 x5 x6 x7 (BA x0 x1 x2 x3 x4 xs0) xo13 := by
  funext y
  unfold out0_B_13
  exact View.read_writes_apply_of_pieces _ _ _ _ (pB13 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0) y (cover0_B_13 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0 y)

/-- What the point leaves: loss. -/
theorem oB14 : out0_B_14 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0 = G14 x0 x5 x6 x7 (BA x0 x1 x2 x3 x4 xs0) xo14 := by
  funext y
  unfold out0_B_14
  exact View.read_writes_apply_of_pieces _ _ _ _ (pB14 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0) y (cover0_B_14 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0 y)

/-- What the point leaves: carried rows. -/
theorem sB : sout0_B_0 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0 = GS x0 x1 x2 := by
  funext y
  unfold sout0_B_0
  exact View.read_writes_apply_of_pieces _ _ _ _ (pBS c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0) y (scover0_B_0 c i a1 h1 a2 h2 a3 h3 a4 h4 a5 h5 a6 h6 a7 h7 a8 h8 a9 h9 a10 h10 a11 h11 a12 h12 a13 h13 a14 h14 a15 h15 a16 h16 a17 h17 hc0 x0 x1 x2 x3 x4 x5 x6 x7 xo13 xo14 xs0 y)

end FfnFwd
-- ==== Proof.FwdPoints.lean ====
module

public import proofs.«01_k».proof.Proof.FwdRef
public import proofs.«01_k».proof.Proof.FwdCaseA
public import proofs.«01_k».proof.Proof.FwdCaseB
public import Idealize.ShloMosaic.Lib.Pipeline.ValueKit

/-! What the arrays of the forward ConvFFN hold after the grid. -/

@[expose] public section

set_option maxRecDepth 16384

noncomputable section

namespace FfnFwd

open Idealize.ShloMosaic Idealize.ShloMosaic.TcCoe Idealize.SL.Sem
open Idealize.ShloMosaic.Pipeline (Dat)
open Cert.Kernel9Ideal Cert.Kernel9Ideal.Gen
open FfnBwd (cD eps half sgK sgR)

/-- The row of the arrays the block of point `t` holds at `r`. -/
def row (t : Fin 64) (r : Fin 256) : Fin 16384 := ⟨t.val * 256 + r.val, by omega⟩

/-- The rows of all points, eight partial sums of thirty-two rows each, are all rows. -/
theorem sum_rows (f : Fin 16384 → EReal) :
    ∑ r : Fin 8, ∑ t : Fin 64, ∑ q : Fin 32, f (row t ⟨q.val * 8 + r.val, by omega⟩) = ∑ s : Fin 16384, f s := by
  let e : (Fin 8 × Fin 64 × Fin 32) ≃ Fin 16384 :=
    { toFun := fun p => row p.2.1 ⟨p.2.2.val * 8 + p.1.val, by omega⟩
      invFun := fun s => (⟨s.val % 8, by omega⟩, ⟨s.val / 256, by omega⟩, ⟨s.val % 256 / 8, by omega⟩)
      left_inv := by
        rintro ⟨r, t, q⟩
        unfold row
        ext <;> dsimp only <;> omega
      right_inv := by
        intro s
        unfold row
        ext
        dsimp only
        omega }
  rw [← e.sum_comp, Fintype.sum_prod_type]
  refine Finset.sum_congr rfl fun r _ => ?_
  rw [Fintype.sum_prod_type]
  rfl

/-- The rows of all points are all rows. -/
theorem sum_all (f : Fin 16384 → EReal) : ∑ t : Fin 64, ∑ r : Fin 256, f (row t r) = ∑ s : Fin 16384, f s := by
  let e : (Fin 64 × Fin 256) ≃ Fin 16384 :=
    { toFun := fun p => row p.1 p.2
      invFun := fun s => (⟨s.val / 256, by omega⟩, ⟨s.val % 256, by omega⟩)
      left_inv := by
        rintro ⟨t, r⟩
        unfold row
        ext <;> dsimp only <;> omega
      right_inv := by
        intro s
        unfold row
        ext
        dsimp only
        omega }
  rw [← e.sum_comp, Fintype.sum_prod_type]
  rfl

section
variable {z0 : FVec Ideal S16384x1024 .f32} {z1 : FVec Ideal S1x1024 .f32} {z2 : FVec Ideal S1024x5632 .f32} {z3 : FVec Ideal S3x2816 .f32}
  {z4 : FVec Ideal S2816 .f32} {z5 : FVec Ideal S2816x1024 .f32} {z6 : FVec Ideal S1x1024 .f32} {z7 : FVec Ideal S16384x1024 .f32}
  {x0 : FVec Ideal S256x1024 .f32} {x1 : FVec Ideal S1x1024 .f32} {x2 : FVec Ideal S1024x5632 .bf16} {x3 : FVec Ideal S3x2816 .f32}
  {x4 : FVec Ideal S1x2816 .f32} {x5 : FVec Ideal S2816x1024 .bf16} {x6 : FVec Ideal S1x1024 .f32} {x7 : FVec Ideal S256x1024 .f32}
  {cy : FVec Ideal S8x2816 .f32} {t : Fin 64}
  (h0 : ∀ r d, x0 (ix2 r d) = z0 (ix2 (row t r) d)) (h1 : ∀ d, x1 (ix2 0 d) = z1 (ix2 0 d)) (h2 : ∀ d f, x2 (ix2 d f) = z2 (ix2 d f))
  (h3 : ∀ j f, x3 (ix2 j f) = z3 (ix2 j f)) (h4 : ∀ f, x4 (ix2 0 f) = z4 (ix1 f)) (h5 : ∀ f d, x5 (ix2 f d) = z5 (ix2 f d))
  (h6 : ∀ d, x6 (ix2 0 d) = z6 (ix2 0 d)) (h7 : ∀ r d, x7 (ix2 r d) = z7 (ix2 (row t r) d))
  (hcy : ∀ (q : Fin 8) (c : Fin 2816), cy (ix2 q c) = if h : t.val = 0 then 0 else fU z0 z1 z2 (row ⟨t.val - 1, by omega⟩ ⟨248 + q.val, by omega⟩) ⟨c.val, by omega⟩)

include h0 h1 in
/-- The normed input, by rows of the block. -/
theorem H_rows (r d) : BH x0 x1 r d = fH z0 z1 (row t r) d := by
  unfold BH fH
  simp only [h0, h1]

include h0 h1 h2 in
/-- The up projection, by rows of the block. -/
theorem U_rows (r f) : BU x0 x1 x2 r f = fU z0 z1 z2 (row t r) f := by
  unfold BU fU
  simp only [h0, h1, h2]

include h0 h1 h2 hcy in
/-- The shifted up projection, by rows of the block. -/
theorem P_rows {k : ℕ} (hk : k < 8) (hk0 : 0 < k) (r c) : BP x0 x1 x2 cy k r c = fP z0 z1 z2 k (row t r) c := by
  unfold BP fP
  by_cases h : k ≤ r.val
  · rw [dif_pos h, U_rows h0 h1 h2, dif_neg (by unfold row; dsimp only; omega)]
    congr 1
    unfold row
    ext
    dsimp only
    omega
  · rw [dif_neg h, hcy]
    by_cases h' : t.val = 0
    · rw [dif_pos h', dif_pos (by unfold row; dsimp only; omega)]
    · rw [dif_neg h', dif_neg (by unfold row; dsimp only; omega)]
      congr 1
      unfold row
      ext
      dsimp only
      omega

include h0 h1 h2 h3 h4 hcy in
/-- The gate, by rows of the block. -/
theorem G_rows (r c) : BG x0 x1 x2 x3 x4 cy r c = fG z0 z1 z2 z3 z4 (row t r) c := by
  unfold BG fG gat
  simp only [P_rows h0 h1 h2 hcy (show 2 < 8 by decide) (by decide), P_rows h0 h1 h2 hcy (show 1 < 8 by decide) (by decide), U_rows h0 h1 h2, h3, h4]

include h0 h1 h2 h3 h4 hcy in
/-- The activation, by rows of the block. -/
theorem A_rows (r c) : BA x0 x1 x2 x3 x4 cy r c = fA z0 z1 z2 z3 z4 (row t r) c := by
  unfold BA fA
  rw [G_rows h0 h1 h2 h3 h4 hcy, U_rows h0 h1 h2]

include h0 h1 h2 h3 h4 h5 hcy in
/-- The output, by rows of the block. -/
theorem X_rows (r) : BX x0 x5 (BA x0 x1 x2 x3 x4 cy) r = fX z0 z1 z2 z3 z4 z5 (row t r) := by
  funext d
  unfold BX fX res
  simp only [A_rows h0 h1 h2 h3 h4 hcy, h0, h5]

include h0 h1 h2 h3 h4 h5 h6 h7 hcy in
/-- The gradient of the output, by rows of the block. -/
theorem DX_rows (r d) : G8f x0 x5 x6 x7 (BA x0 x1 x2 x3 x4 cy) r d = fDX z0 z1 z2 z3 z4 z5 z6 z7 (row t r) d := by
  unfold G8f fDX
  rw [X_rows h0 h1 h2 h3 h4 h5 hcy]
  simp only [h6, h7]

include h0 h1 h2 h3 h4 h5 h6 h7 hcy in
/-- The block's part of the scale's gradient, by rows. -/
theorem G13_rows (ACC : FVec Ideal S8x1024 .f32) (r d) : G13f x0 x5 x6 x7 (BA x0 x1 x2 x3 x4 cy) ACC r d = ACC (ix2 r d) +
    ∑ q : Fin 32, fDG z0 z1 z2 z3 z4 z5 z6 z7 (row t ⟨q.val * 8 + r.val, by omega⟩) d := by
  unfold G13f fDG
  simp only [X_rows h0 h1 h2 h3 h4 h5 hcy, h6, h7]

include h0 h1 h2 h3 h4 h5 h6 h7 hcy in
/-- The block's part of the loss, by rows. -/
theorem G14_rows (ACC : FVec Ideal S1x1 .f32) : G14f x0 x5 x6 x7 (BA x0 x1 x2 x3 x4 cy) ACC = ACC (ix2 0 0) +
    half * ∑ r : Fin 256, fM z0 z1 z2 z3 z4 z5 z6 z7 (row t r) := by
  unfold G14f fM
  simp only [X_rows h0 h1 h2 h3 h4 h5 hcy, h6, h7]
end

variable (m : (ℓ : Loc nD τ sig) → Buf (Elt Ideal) ℓ) (c : Dev nD)

/-- The input at launch. -/
abbrev z0 : FVec Ideal S16384x1024 .f32 := m ((c.tc : Thread nD τ).loc main_arg0)
/-- The scale at launch. -/
abbrev z1 : FVec Ideal S1x1024 .f32 := m ((c.tc : Thread nD τ).loc main_arg1)
/-- The up weight at launch. -/
abbrev z2 : FVec Ideal S1024x5632 .f32 := m ((c.tc : Thread nD τ).loc main_arg2)
/-- The taps at launch. -/
abbrev z3 : FVec Ideal S3x2816 .f32 := m ((c.tc : Thread nD τ).loc main_arg3)
/-- The bias at launch. -/
abbrev z4 : FVec Ideal S2816 .f32 := m ((c.tc : Thread nD τ).loc main_arg4)
/-- The down weight at launch. -/
abbrev z5 : FVec Ideal S2816x1024 .f32 := m ((c.tc : Thread nD τ).loc main_arg5)
/-- The final scale at launch. -/
abbrev z6 : FVec Ideal S1x1024 .f32 := m ((c.tc : Thread nD τ).loc main_arg6)
/-- The target at launch. -/
abbrev z7 : FVec Ideal S16384x1024 .f32 := m ((c.tc : Thread nD τ).loc main_arg7)

/-- The block index of an operand cut into row blocks. -/
theorem idx_big : ∀ t : Fin cfg0.N, win0_0.index t = ![t.val, 0] ∧ win0_7.index t = ![t.val, 0] ∧ win0_8.index t = ![t.val, 0]
    ∧ win0_9.index t = ![t.val, 0] ∧ win0_10.index t = ![t.val, 0] ∧ win0_11.index t = ![t.val, 0] ∧ win0_12.index t = ![t.val, 0] :=
  (by decide +kernel : ∀ t : Fin grid0.N, win0_0.index t = ![t.val, 0] ∧ win0_7.index t = ![t.val, 0] ∧ win0_8.index t = ![t.val, 0]
    ∧ win0_9.index t = ![t.val, 0] ∧ win0_10.index t = ![t.val, 0] ∧ win0_11.index t = ![t.val, 0] ∧ win0_12.index t = ![t.val, 0])
/-- The block index of a whole operand is zero. -/
theorem idx_small : ∀ t : Fin cfg0.N, win0_1.index t = ![0, 0] ∧ win0_2.index t = ![0, 0] ∧ win0_3.index t = ![0, 0]
    ∧ win0_4.index t = ![0, 0] ∧ win0_5.index t = ![0, 0] ∧ win0_6.index t = ![0, 0] ∧ win0_13.index t = ![0, 0] ∧ win0_14.index t = ![0, 0] :=
  (by decide +kernel : ∀ t : Fin grid0.N, win0_1.index t = ![0, 0] ∧ win0_2.index t = ![0, 0] ∧ win0_3.index t = ![0, 0]
    ∧ win0_4.index t = ![0, 0] ∧ win0_5.index t = ![0, 0] ∧ win0_6.index t = ![0, 0] ∧ win0_13.index t = ![0, 0] ∧ win0_14.index t = ![0, 0])

/-- A point as a number below the count of points. -/
abbrev pt (t : Fin cfg0.N) : Fin 64 := ⟨t.val, lt_of_lt_of_eq t.isLt N_0⟩

variable (t : Fin cfg0.N)

/-- The point's block of the input is its rows. -/
theorem ib0 (r d) : (iblk m c 0 t : FVec Ideal S256x1024 .f32) (ix2 r d) = z0 m c (ix2 (row (pt t) r) d) := by
  unfold row
  blk_point [iblk, V, idx_big t]
/-- The point's block of the scale is the scale. -/
theorem ib1 (d) : (iblk m c 1 t : FVec Ideal S1x1024 .f32) (ix2 0 d) = z1 m c (ix2 0 d) := by
  blk_point [iblk, V, idx_small t]
/-- The point's block of the up weight is the weight. -/
theorem ib2 (d f) : (iblk m c 2 t : FVec Ideal S1024x5632 .bf16) (ix2 d f) = z2 m c (ix2 d f) := by
  blk_point [iblk, V, idx_small t]
/-- The point's block of the taps is the taps. -/
theorem ib3 (j f) : (iblk m c 3 t : FVec Ideal S3x2816 .f32) (ix2 j f) = z3 m c (ix2 j f) := by
  blk_point [iblk, V, idx_small t]
/-- The kernel's bias is the argument as one row. -/
theorem V_b : (V m c main_v1 : FVec Ideal S1x2816 .f32) = shapeCast S1x2816 (z4 m c) shapeCasts_S2816_S1x2816 := by
  unfold V V0
  simp only [List.flatten_cons, List.flatten_nil, List.append_nil]
  after_results
  rfl
/-- The point's block of the bias is the bias. -/
theorem ib4 (f) : (iblk m c 4 t : FVec Ideal S1x2816 .f32) (ix2 0 f) = z4 m c (ix1 f) := by
  have e1 : (iblk m c 4 t : FVec Ideal S1x2816 .f32) (ix2 0 f) = (V m c main_v1 : FVec Ideal S1x2816 .f32) (ix2 0 f) := by
    blk_ext [iblk, idx_small t]
  rw [e1, V_b]
  pointwise
/-- The point's block of the down weight is the weight. -/
theorem ib5 (f d) : (iblk m c 5 t : FVec Ideal S2816x1024 .bf16) (ix2 f d) = z5 m c (ix2 f d) := by
  blk_point [iblk, V, idx_small t]
/-- The point's block of the final scale is the scale. -/
theorem ib6 (d) : (iblk m c 6 t : FVec Ideal S1x1024 .f32) (ix2 0 d) = z6 m c (ix2 0 d) := by
  blk_point [iblk, V, idx_small t]
/-- The point's block of the target is its rows. -/
theorem ib7 (r d) : (iblk m c 7 t : FVec Ideal S256x1024 .f32) (ix2 r d) = z7 m c (ix2 (row (pt t) r) d) := by
  unfold row
  blk_point [iblk, V, idx_big t]

/-- The normed input over the whole arrays. -/
abbrev kH := fH (z0 m c) (z1 m c)
/-- The up projection over the whole arrays. -/
abbrev kU := fU (z0 m c) (z1 m c) (z2 m c)
/-- The gate over the whole arrays. -/
abbrev kG := fG (z0 m c) (z1 m c) (z2 m c) (z3 m c) (z4 m c)
/-- The activation over the whole arrays. -/
abbrev kA := fA (z0 m c) (z1 m c) (z2 m c) (z3 m c) (z4 m c)
/-- The gradient of the output over the whole arrays. -/
abbrev kDX := fDX (z0 m c) (z1 m c) (z2 m c) (z3 m c) (z4 m c) (z5 m c) (z6 m c) (z7 m c)
/-- The rows' parts of the scale's gradient over the whole arrays. -/
abbrev kDG := fDG (z0 m c) (z1 m c) (z2 m c) (z3 m c) (z4 m c) (z5 m c) (z6 m c) (z7 m c)
/-- The rows' mean square errors over the whole arrays. -/
abbrev kM := fM (z0 m c) (z1 m c) (z2 m c) (z3 m c) (z4 m c) (z5 m c) (z6 m c) (z7 m c)

/-- The carried rows after a point are the last rows of its own block. -/
theorem carry (q : Fin 8) (f : Fin 2816) : ((outsAt0 m c t.val t.isLt).2.2.2.2.2.2.2 : FVec Ideal S8x2816 .f32) (ix2 q f)
    = kU m c (row (pt t) ⟨248 + q.val, by omega⟩) ⟨f.val, by omega⟩ := by
  by_cases h : t.val % 64 = 0
  · rw [outsAt0_A m c t h]
    dsimp only
    rw [sA]
    exact U_rows (ib0 m c t) (ib1 m c t) (ib2 m c t) _ _
  · rw [outsAt0_B m c t h]
    dsimp only
    rw [sB]
    exact U_rows (ib0 m c t) (ib1 m c t) (ib2 m c t) _ _

/-- At the first point nothing is carried. -/
theorem cyA (h : t.val % 64 = 0) (q : Fin 8) (f : Fin 2816) : (fun _ => (0 : EReal) : FVec Ideal S8x2816 .f32) (ix2 q f)
    = if h : (pt t).val = 0 then 0 else kU m c (row ⟨(pt t).val - 1, by omega⟩ ⟨248 + q.val, by omega⟩) ⟨f.val, by omega⟩ := by
  rw [dif_pos]
  have := lt_of_lt_of_eq t.isLt N_0
  show t.val = 0
  omega

/-- At another point the carried rows are those of the point before. -/
theorem cyB (h : ¬t.val % 64 = 0) (q : Fin 8) (f : Fin 2816) :
    ((outsAt0 m c (t.val - 1) (Nat.lt_of_le_of_lt (Nat.sub_le _ _) t.isLt)).2.2.2.2.2.2.2 : FVec Ideal S8x2816 .f32) (ix2 q f)
    = if h : (pt t).val = 0 then 0 else kU m c (row ⟨(pt t).val - 1, by omega⟩ ⟨248 + q.val, by omega⟩) ⟨f.val, by omega⟩ := by
  rw [dif_neg (fun h' => h (by rw [show t.val = 0 from h']))]
  exact carry m c ⟨t.val - 1, Nat.lt_of_le_of_lt (Nat.sub_le _ _) t.isLt⟩ q f

/-- The block of the gradient of the output after a point. -/
theorem at8 (r : Fin 256) (d : Fin 1024) : ((outsAt0 m c t.val t.isLt).1 : FVec Ideal S256x1024 .f32) (ix2 r d)
    = kDX m c (row (pt t) r) d := by
  by_cases h : t.val % 64 = 0
  · rw [outsAt0_A m c t h]
    dsimp only
    rw [oA8]
    exact DX_rows (ib0 m c t) (ib1 m c t) (ib2 m c t) (ib3 m c t) (ib4 m c t) (ib5 m c t) (ib6 m c t) (ib7 m c t) (cyA m c t h) _ _
  · rw [outsAt0_B m c t h]
    dsimp only
    rw [oB8]
    exact DX_rows (ib0 m c t) (ib1 m c t) (ib2 m c t) (ib3 m c t) (ib4 m c t) (ib5 m c t) (ib6 m c t) (ib7 m c t) (cyB m c t h) _ _

/-- The block of the normed input after a point. -/
theorem at9 (r : Fin 256) (d : Fin 1024) : ((outsAt0 m c t.val t.isLt).2.1 : FVec Ideal S256x1024 .bf16) (ix2 r d)
    = kH m c (row (pt t) r) d := by
  by_cases h : t.val % 64 = 0
  · rw [outsAt0_A m c t h]
    dsimp only
    rw [oA9]
    exact H_rows (ib0 m c t) (ib1 m c t) _ _
  · rw [outsAt0_B m c t h]
    dsimp only
    rw [oB9]
    exact H_rows (ib0 m c t) (ib1 m c t) _ _

/-- The block of the up projection after a point. -/
theorem at10 (r : Fin 256) (d : Fin 5632) : ((outsAt0 m c t.val t.isLt).2.2.1 : FVec Ideal S256x5632 .bf16) (ix2 r d)
    = kU m c (row (pt t) r) d := by
  by_cases h : t.val % 64 = 0
  · rw [outsAt0_A m c t h]
    dsimp only
    rw [oA10]
    exact U_rows (ib0 m c t) (ib1 m c t) (ib2 m c t) _ _
  · rw [outsAt0_B m c t h]
    dsimp only
    rw [oB10]
    exact U_rows (ib0 m c t) (ib1 m c t) (ib2 m c t) _ _

/-- The block of the gate after a point. -/
theorem at11 (r : Fin 256) (d : Fin 2816) : ((outsAt0 m c t.val t.isLt).2.2.2.1 : FVec Ideal S256x2816 .bf16) (ix2 r d)
    = kG m c (row (pt t) r) d := by
  by_cases h : t.val % 64 = 0
  · rw [outsAt0_A m c t h]
    dsimp only
    rw [oA11]
    exact G_rows (ib0 m c t) (ib1 m c t) (ib2 m c t) (ib3 m c t) (ib4 m c t) (cyA m c t h) _ _
  · rw [outsAt0_B m c t h]
    dsimp only
    rw [oB11]
    exact G_rows (ib0 m c t) (ib1 m c t) (ib2 m c t) (ib3 m c t) (ib4 m c t) (cyB m c t h) _ _

/-- The block of the activation after a point. -/
theorem at12 (r : Fin 256) (d : Fin 2816) : ((outsAt0 m c t.val t.isLt).2.2.2.2.1 : FVec Ideal S256x2816 .bf16) (ix2 r d)
    = kA m c (row (pt t) r) d := by
  by_cases h : t.val % 64 = 0
  · rw [outsAt0_A m c t h]
    dsimp only
    rw [oA12]
    exact A_rows (ib0 m c t) (ib1 m c t) (ib2 m c t) (ib3 m c t) (ib4 m c t) (cyA m c t h) _ _
  · rw [outsAt0_B m c t h]
    dsimp only
    rw [oB12]
    exact A_rows (ib0 m c t) (ib1 m c t) (ib2 m c t) (ib3 m c t) (ib4 m c t) (cyB m c t h) _ _

/-- One point's part of the scale's gradient. -/
def T13 (t : Fin cfg0.N) (y : S8x1024.Idx) : EReal := ∑ q : Fin 32, kDG m c (row (pt t) ⟨q.val * 8 + (y 0).val, by have := (y 0).isLt; dsimp at this; omega⟩) (y 1)
/-- One point's part of the loss. -/
def T14 (t : Fin cfg0.N) (y : S1x1.Idx) : EReal := half * ∑ r : Fin 256, kM m c (row (pt t) r)

/-- The partial sums of the scale's gradient at the last point. -/
theorem at13 (ht : t.val % 64 = 63) (y : S8x1024.Idx) : ((outsAt0 m c t.val t.isLt).2.2.2.2.2.1 : FVec Ideal S8x1024 .f32) y = ∑ s : Fin 64, T13 m c ⟨s.val, lt_of_lt_of_eq s.isLt N_0.symm⟩ y := by
  rw [Pipeline.eq_sum_fin_of_reset_step_apply_of_flush (fun n h => ((outsAt0 m c n h).2.2.2.2.2.1 : S8x1024.Idx → EReal)) 64 (fun _ => 0) (T13 m c) ?_ ?_ t ht y, zero_add]
  · refine Finset.sum_congr rfl fun s _ => ?_
    congr 1
    ext
    have := t.isLt
    have := (pt t).isLt
    dsimp only at *
    omega
  · intro t h y
    idx_vars y
    rw [outsAt0_A m c t h]
    dsimp only
    rw [oA13]
    exact G13_rows (ib0 m c t) (ib1 m c t) (ib2 m c t) (ib3 m c t) (ib4 m c t) (ib5 m c t) (ib6 m c t) (ib7 m c t) (cyA m c t h) _ _ _
  · intro t h y
    idx_vars y
    rw [outsAt0_B m c t h]
    dsimp only
    rw [oB13]
    exact G13_rows (ib0 m c t) (ib1 m c t) (ib2 m c t) (ib3 m c t) (ib4 m c t) (ib5 m c t) (ib6 m c t) (ib7 m c t) (cyB m c t h) _ _ _

/-- The loss at the last point. -/
theorem at14 (ht : t.val % 64 = 63) (y : S1x1.Idx) : ((outsAt0 m c t.val t.isLt).2.2.2.2.2.2.1 : FVec Ideal S1x1 .f32) y = ∑ s : Fin 64, T14 m c ⟨s.val, lt_of_lt_of_eq s.isLt N_0.symm⟩ y := by
  rw [Pipeline.eq_sum_fin_of_reset_step_apply_of_flush (fun n h => ((outsAt0 m c n h).2.2.2.2.2.2.1 : S1x1.Idx → EReal)) 64 (fun _ => 0) (T14 m c) ?_ ?_ t ht y, zero_add]
  · refine Finset.sum_congr rfl fun s _ => ?_
    congr 1
    ext
    have := t.isLt
    have := (pt t).isLt
    dsimp only at *
    omega
  · intro t h y
    rw [outsAt0_A m c t h]
    dsimp only
    rw [oA14]
    exact G14_rows (ib0 m c t) (ib1 m c t) (ib2 m c t) (ib3 m c t) (ib4 m c t) (ib5 m c t) (ib6 m c t) (ib7 m c t) (cyA m c t h) _
  · intro t h y
    have ey : y = ix2 0 0 := by
      funext a
      fin_cases a <;> exact Subsingleton.elim (α := Fin 1) _ _
    subst ey
    rw [outsAt0_B m c t h]
    dsimp only
    rw [oB14]
    exact G14_rows (ib0 m c t) (ib1 m c t) (ib2 m c t) (ib3 m c t) (ib4 m c t) (ib5 m c t) (ib6 m c t) (ib7 m c t) (cyB m c t h) _

/-- The array of the gradient of the output. -/
theorem fin8 : (dats m 0 c).arrAt 8 cfg0.N = (fun y : S16384x1024.Idx => kDX m c (y 0) (y 1)) := by
  refine (dats m 0 c).arrAt_eq_of_covers 8 _ (by decide +kernel) fun t hf y => ?_
  blk_simp
  rw [after0_8]
  idx_vars y
  refine (at8 m c t y0 y1).trans ?_
  refine congrArg₂ (kDX m c) (Fin.ext ?_) (Fin.ext ?_) <;> ((try unfold row); blk_simp [idx_big t]; try omega)

/-- The array of the normed input. -/
theorem fin9 : (dats m 0 c).arrAt 9 cfg0.N = (fun y : S16384x1024.Idx => kH m c (y 0) (y 1)) := by
  refine (dats m 0 c).arrAt_eq_of_covers 9 _ (by decide +kernel) fun t hf y => ?_
  blk_simp
  rw [after0_9]
  idx_vars y
  refine (at9 m c t y0 y1).trans ?_
  refine congrArg₂ (kH m c) (Fin.ext ?_) (Fin.ext ?_) <;> ((try unfold row); blk_simp [idx_big t]; try omega)

/-- The array of the up projection. -/
theorem fin10 : (dats m 0 c).arrAt 10 cfg0.N = (fun y : S16384x5632.Idx => kU m c (y 0) (y 1)) := by
  refine (dats m 0 c).arrAt_eq_of_covers 10 _ (by decide +kernel) fun t hf y => ?_
  blk_simp
  rw [after0_10]
  idx_vars y
  refine (at10 m c t y0 y1).trans ?_
  refine congrArg₂ (kU m c) (Fin.ext ?_) (Fin.ext ?_) <;> ((try unfold row); blk_simp [idx_big t]; try omega)

/-- The array of the gate. -/
theorem fin11 : (dats m 0 c).arrAt 11 cfg0.N = (fun y : S16384x2816.Idx => kG m c (y 0) (y 1)) := by
  refine (dats m 0 c).arrAt_eq_of_covers 11 _ (by decide +kernel) fun t hf y => ?_
  blk_simp
  rw [after0_11]
  idx_vars y
  refine (at11 m c t y0 y1).trans ?_
  refine congrArg₂ (kG m c) (Fin.ext ?_) (Fin.ext ?_) <;> ((try unfold row); blk_simp [idx_big t]; try omega)

/-- The array of the activation. -/
theorem fin12 : (dats m 0 c).arrAt 12 cfg0.N = (fun y : S16384x2816.Idx => kA m c (y 0) (y 1)) := by
  refine (dats m 0 c).arrAt_eq_of_covers 12 _ (by decide +kernel) fun t hf y => ?_
  blk_simp
  rw [after0_12]
  idx_vars y
  refine (at12 m c t y0 y1).trans ?_
  refine congrArg₂ (kA m c) (Fin.ext ?_) (Fin.ext ?_) <;> ((try unfold row); blk_simp [idx_big t]; try omega)

/-- The array of the partial sums of the scale's gradient. -/
theorem fin13 : (dats m 0 c).arrAt 13 cfg0.N = (fun y : S8x1024.Idx => ∑ s : Fin 64, T13 m c ⟨s.val, lt_of_lt_of_eq s.isLt N_0.symm⟩ y) := by
  refine (dats m 0 c).arrAt_eq_of_covers 13 _ (by decide +kernel) fun t hf y => ?_
  blk_simp
  rw [after0_13]
  refine (at13 m c t ((flush0_13 t).mp hf) y).trans ?_
  refine Finset.sum_congr rfl fun s _ => congrArg _ ?_
  idx_vars y
  blk_ext [idx_small t]

/-- The array of the loss. -/
theorem fin14 : (dats m 0 c).arrAt 14 cfg0.N = (fun y : S1x1.Idx => ∑ s : Fin 64, T14 m c ⟨s.val, lt_of_lt_of_eq s.isLt N_0.symm⟩ y) := by
  refine (dats m 0 c).arrAt_eq_of_covers 14 _ (by decide +kernel) fun t hf y => ?_
  blk_simp
  rw [after0_14]
  exact at14 m c t ((flush0_14 t).mp hf) y

/-- The last host line sums the scale's partial rows. -/
theorem sum_v4 (W : Valuation τ sig (Elt Ideal)) : @Eq (FVec Ideal S1024 .f32) (StableHlo.after (List.flatten [hostOps1]) W (Proc.devRef .tc main_v4))
    (Host.reduceAdd (W (Proc.devRef .tc main_v3_5) : FVec Ideal S8x1024 .f32) (constant S_ .f32 0x00000000#32) reducesTo_S8x1024_S1024_d0 h_S_) := by
  simp only [List.flatten_cons, List.flatten_nil, List.append_nil]
  after_results

/-- The scale's gradient is the sum of its partial rows. -/
theorem W_v4 : @Eq (FVec Ideal S1024 .f32) (Pipeline.afterTail₀ cfgs (dats m) 0 (V0 m) [hostOps1] c main_v4)
    (Host.reduceAdd ((dats m 0 c).arrAt 13 cfg0.N : FVec Ideal S8x1024 .f32) (constant S_ .f32 0x00000000#32) reducesTo_S8x1024_S1024_d0 h_S_) := by
  unfold Pipeline.afterTail₀
  refine (sum_v4 _).trans ?_
  exact congrArg (fun a => Host.reduceAdd (a : FVec Ideal S8x1024 .f32) (constant S_ .f32 0x00000000#32) reducesTo_S8x1024_S1024_d0 h_S_)
    (Pipeline.withArrays_arr spec0 launch0.win.arr_inj c (V0 m c) (fun w => (dats m 0 c).arrAt w cfg0.N) 13)

/-- A point's part of the scale's gradient, by its rows. -/
theorem T13_eq (s : Fin 64) (r : Fin 8) (d : Fin 1024) : T13 m c ⟨s.val, lt_of_lt_of_eq s.isLt N_0.symm⟩ (ix2 r d) =
    ∑ q : Fin 32, (fun s => kDG m c s d) (row s ⟨q.val * 8 + r.val, by omega⟩) := rfl

/-- The scale's gradient, summed over all rows. -/
theorem res_dg (y : S1024.Idx) : @Eq EReal ((Pipeline.afterTail₀ cfgs (dats m) 0 (V0 m) [hostOps1] c main_v4 : FVec Ideal S1024 .f32) y)
    (∑ s : Fin 16384, kDG m c s (y 0)) := by
  rw [W_v4, fin13]
  idx_vars y
  pointwise
  refine Eq.trans ?_ (sum_rows (fun s => kDG m c s y0))
  refine Finset.sum_congr rfl fun r _ => Finset.sum_congr rfl fun s _ => T13_eq m c s r y0

end FfnFwd
-- ==== Proof.FwdEquation.lean ====
module

public import proofs.«01_k».proof.Proof.FwdPoints

/-! The forward kernel's results are the reference's. -/

@[expose] public section

set_option maxRecDepth 16384

noncomputable section

namespace FfnFwd

open Idealize.ShloMosaic Idealize.ShloMosaic.TcCoe Idealize.SL.Sem
open Cert.Kernel9Ideal Cert.Kernel9Ideal.Gen
open Cert.Reference9Ideal.Read
open FfnBwd (half half_eq)

variable (m : (ℓ : Loc nD τ sig) → Buf (Elt Ideal) ℓ) (c : Dev nD)

/-- A half of a sum is the sum of the halves. -/
theorem half_sum {n : ℕ} (f : Fin n → EReal) : ∑ i, half * f i = half * ∑ i, f i := by
  rw [half_eq]
  exact (FfnBwd.coe_mul_sum (by norm_num) f).symm

/-- The gradient of the output is the reference's. -/
theorem eq_8 : ((dats m 0 c).arrAt 8 cfg0.N : FVec Ideal S16384x1024 .f32) = val_main_v96 (F := Ideal) (z0 m c) (z1 m c) (z2 m c) (z3 m c) (z4 m c) (z5 m c) (z6 m c) (z7 m c) := by
  rw [fin8]
  funext y
  idx_vars y
  exact (r96 _ _ _ _ _ _ _ _ y0 y1).symm

/-- The normed input is the reference's. -/
theorem eq_9 : ((dats m 0 c).arrAt 9 cfg0.N : FVec Ideal S16384x1024 .bf16) = val_main_v97 (F := Ideal) (z0 m c) (z1 m c) := by
  rw [fin9]
  funext y
  idx_vars y
  exact (r97 _ _ y0 y1).symm

/-- The up projection is the reference's. -/
theorem eq_10 : ((dats m 0 c).arrAt 10 cfg0.N : FVec Ideal S16384x5632 .bf16) = val_main_v98 (F := Ideal) (z0 m c) (z1 m c) (z2 m c) := by
  rw [fin10]
  funext y
  idx_vars y
  exact (r98 _ _ _ y0 y1).symm

/-- The gate is the reference's. -/
theorem eq_11 : ((dats m 0 c).arrAt 11 cfg0.N : FVec Ideal S16384x2816 .bf16) = val_main_v99 (F := Ideal) (z0 m c) (z1 m c) (z2 m c) (z3 m c) (z4 m c) := by
  rw [fin11]
  funext y
  idx_vars y
  exact (r99 _ _ _ _ _ y0 y1).symm

/-- The activation is the reference's. -/
theorem eq_12 : ((dats m 0 c).arrAt 12 cfg0.N : FVec Ideal S16384x2816 .bf16) = val_main_v100 (F := Ideal) (z0 m c) (z1 m c) (z2 m c) (z3 m c) (z4 m c) := by
  rw [fin12]
  funext y
  idx_vars y
  exact (r100 _ _ _ _ _ y0 y1).symm

/-- The scale's gradient is the reference's. -/
theorem eq_13 : (Pipeline.afterTail₀ cfgs (dats m) 0 (V0 m) [hostOps1] c main_v4 : FVec Ideal S1024 .f32) = val_main_v82 (F := Ideal) (z0 m c) (z1 m c) (z2 m c) (z3 m c) (z4 m c) (z5 m c) (z6 m c) (z7 m c) := by
  funext y
  refine (res_dg m c y).trans ?_
  idx_vars y
  exact (r82 _ _ _ _ _ _ _ _ y0).symm

/-- The loss is the reference's. -/
theorem eq_14 : ((dats m 0 c).arrAt 14 cfg0.N : FVec Ideal S1x1 .f32) = val_main_v101 (F := Ideal) (z0 m c) (z1 m c) (z2 m c) (z3 m c) (z4 m c) (z5 m c) (z6 m c) (z7 m c) := by
  rw [fin14]
  funext y
  have ey : y = ix2 0 0 := by
    funext a
    fin_cases a <;> exact Subsingleton.elim (α := Fin 1) _ _
  subst ey
  refine Eq.trans ?_ (r101 _ _ _ _ _ _ _ _).symm
  have e := half_sum (fun t : Fin 64 => ∑ r : Fin 256, kM m c (row t r))
  rw [sum_all (kM m c)] at e
  exact e

end FfnFwd
-- ==== Proof.FfnFwd.lean ====
module

public import proofs.«01_k».proof.Proof.FwdEquation
public import proofs.«01_k».proof.Defs
public import proofs.«01_k».proof.Proof.Gen.Reference9Ideal.Run
public import Idealize.ShloMosaic.Adequacy
public import Idealize.ShloMosaic.Init

/-! The two runs of the forward ConvFFN and the loss end with the same results. -/

@[expose] public section

set_option maxRecDepth 16384

noncomputable section

namespace FfnFwd

open Idealize.ShloMosaic Idealize.ShloMosaic.TcCoe Idealize.SL.Sem
open Idealize.ShloMosaic.Pipeline (Dat)
open Cert.Reference9Ideal.Read

section
open Cert.Kernel9Ideal Cert.Kernel9Ideal.Gen

set_option maxHeartbeats 4000000 in
/-- The kernel's run ends with the reference's functions of the arguments. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3_0) = val_main_v96 (F := Ideal) (z0 m c) (z1 m c) (z2 m c) (z3 m c) (z4 m c) (z5 m c) (z6 m c) (z7 m c)
      ∧ r.2.mem ((c.tc : Thread nD τ).loc main_v3_1) = val_main_v97 (F := Ideal) (z0 m c) (z1 m c)
      ∧ r.2.mem ((c.tc : Thread nD τ).loc main_v3_2) = val_main_v98 (F := Ideal) (z0 m c) (z1 m c) (z2 m c)
      ∧ r.2.mem ((c.tc : Thread nD τ).loc main_v3_3) = val_main_v99 (F := Ideal) (z0 m c) (z1 m c) (z2 m c) (z3 m c) (z4 m c)
      ∧ r.2.mem ((c.tc : Thread nD τ).loc main_v3_4) = val_main_v100 (F := Ideal) (z0 m c) (z1 m c) (z2 m c) (z3 m c) (z4 m c)
      ∧ r.2.mem ((c.tc : Thread nD τ).loc main_v4) = val_main_v82 (F := Ideal) (z0 m c) (z1 m c) (z2 m c) (z3 m c) (z4 m c) (z5 m c) (z6 m c) (z7 m c)
      ∧ r.2.mem ((c.tc : Thread nD τ).loc main_v3_6) = val_main_v101 (F := Ideal) (z0 m c) (z1 m c) (z2 m c) (z3 m c) (z4 m c) (z5 m c) (z6 m c) (z7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r hr c => ⟨((hr c).1 8).trans (eq_8 m c), ((hr c).1 9).trans (eq_9 m c), ((hr c).1 10).trans (eq_10 m c),
      ((hr c).1 11).trans (eq_11 m c), ((hr c).1 12).trans (eq_12 m c),
      ((hr c).2 main_v4 (Pipeline.mem_restRefs_of main_v4 (by decide) (by decide))).trans (eq_13 m c), ((hr c).1 14).trans (eq_14 m c),
      ((hr c).1 0).trans (((dats m 0 c).arrAt_in 0 rfl _).trans ((A_eq m c 0).trans (V_main_arg0 m c))),
      ((hr c).1 1).trans (((dats m 0 c).arrAt_in 1 rfl _).trans ((A_eq m c 1).trans (V_main_arg1 m c))),
      ((hr c).2 main_arg2 (Pipeline.mem_restRefs_of main_arg2 (by decide) (by decide))).trans (W_main_arg2 m (dats m) c),
      ((hr c).1 3).trans (((dats m 0 c).arrAt_in 3 rfl _).trans ((A_eq m c 3).trans (V_main_arg3 m c))),
      ((hr c).2 main_arg4 (Pipeline.mem_restRefs_of main_arg4 (by decide) (by decide))).trans (W_main_arg4 m (dats m) c),
      ((hr c).2 main_arg5 (Pipeline.mem_restRefs_of main_arg5 (by decide) (by decide))).trans (W_main_arg5 m (dats m) c),
      ((hr c).1 6).trans (((dats m 0 c).arrAt_in 6 rfl _).trans ((A_eq m c 6).trans (V_main_arg6 m c))),
      ((hr c).1 7).trans (((dats m 0 c).arrAt_in 7 rfl _).trans ((A_eq m c 7).trans (V_main_arg7 m c)))⟩) (run_main m ρ)
end

/-- The kernel and the reference end with equal results. -/
theorem algebraic : Cert.algebraic_Kernel9Ideal_Reference9Ideal (hKernel9Ideal := Cert.Kernel9Ideal.Gen.facts)
    (hReference9Ideal := Cert.Reference9Ideal.Gen.facts) := by
  intro m g m' g' h e
  refine ⟨fun c => val_main_v96 (F := Ideal) (z0 m c) (z1 m c) (z2 m c) (z3 m c) (z4 m c) (z5 m c) (z6 m c) (z7 m c),
    fun c => val_main_v97 (F := Ideal) (z0 m c) (z1 m c),
    fun c => val_main_v98 (F := Ideal) (z0 m c) (z1 m c) (z2 m c),
    fun c => val_main_v99 (F := Ideal) (z0 m c) (z1 m c) (z2 m c) (z3 m c) (z4 m c),
    fun c => val_main_v100 (F := Ideal) (z0 m c) (z1 m c) (z2 m c) (z3 m c) (z4 m c),
    fun c => val_main_v82 (F := Ideal) (z0 m c) (z1 m c) (z2 m c) (z3 m c) (z4 m c) (z5 m c) (z6 m c) (z7 m c),
    fun c => val_main_v101 (F := Ideal) (z0 m c) (z1 m c) (z2 m c) (z3 m c) (z4 m c) (z5 m c) (z6 m c) (z7 m c), run_kernel m g,
    (θ_run _ _ _).mono (fun r hr c => ?_) (Cert.Reference9Ideal.Value.run (F := Ideal) m' g')⟩
  obtain ⟨e0, e1, e2, e3, e4, e5, e6, e7⟩ := e c
  have E0 : StableHlo.launchContents m' c (Proc.tc.devRef Cert.Reference9Ideal.main_arg0) = z0 m c := e0
  have E1 : StableHlo.launchContents m' c (Proc.tc.devRef Cert.Reference9Ideal.main_arg1) = z1 m c := e1
  have E2 : StableHlo.launchContents m' c (Proc.tc.devRef Cert.Reference9Ideal.main_arg2) = z2 m c := e2
  have E3 : StableHlo.launchContents m' c (Proc.tc.devRef Cert.Reference9Ideal.main_arg3) = z3 m c := e3
  have E4 : StableHlo.launchContents m' c (Proc.tc.devRef Cert.Reference9Ideal.main_arg4) = z4 m c := e4
  have E5 : StableHlo.launchContents m' c (Proc.tc.devRef Cert.Reference9Ideal.main_arg5) = z5 m c := e5
  have E6 : StableHlo.launchContents m' c (Proc.tc.devRef Cert.Reference9Ideal.main_arg6) = z6 m c := e6
  have E7 : StableHlo.launchContents m' c (Proc.tc.devRef Cert.Reference9Ideal.main_arg7) = z7 m c := e7
  obtain ⟨h0, h1, h2, h3, h4, h5, h6, hargs⟩ := hr c
  refine ⟨h0.trans ((val_main_v96_eq _).trans ?_), h1.trans ((val_main_v97_eq _).trans ?_), h2.trans ((val_main_v98_eq _).trans ?_),
    h3.trans ((val_main_v99_eq _).trans ?_), h4.trans ((val_main_v100_eq _).trans ?_), h5.trans ((val_main_v82_eq _).trans ?_),
    h6.trans ((val_main_v101_eq _).trans ?_), hargs⟩
  · rw [E0, E1, E2, E3, E4, E5, E6, E7]
  · rw [E0, E1]
  · rw [E0, E1, E2]
  · rw [E0, E1, E2, E3, E4]
  · rw [E0, E1, E2, E3, E4]
  · rw [E0, E1, E2, E3, E4, E5, E6, E7]
  · rw [E0, E1, E2, E3, E4, E5, E6, E7]

end FfnFwd
-- ==== Proof.MidRef.lean ====
module

public import proofs.«01_k».proof.Proof.FwdMath
public import proofs.«01_k».proof.Proof.Gen.Reference14Ideal.Read

/-! What the reference of the forward ConvFFN computes, at an index. -/

@[expose] public section

set_option maxRecDepth 16384

noncomputable section

namespace FfnMid

open Idealize.ShloMosaic Idealize.ShloMosaic.TcCoe
open Cert.Reference14Ideal Cert.Reference14Ideal.Gen Cert.Reference14Ideal.Read
open FfnFwd (rt nrm upr gat act res)
open FfnBwd (cD eps half sgK sgR)

variable (x0 : FVec Ideal S16384x1024 .f32) (x1 : FVec Ideal S1x1024 .f32) (x2 : FVec Ideal S1024x5632 .f32) (x3 : FVec Ideal S3x2816 .f32)
  (x4 : FVec Ideal S2816 .f32) (x5 : FVec Ideal S2816x1024 .f32)

/-- The normed input. -/
def fH (s : Fin 16384) (d : Fin 1024) : EReal := nrm (fun d => x0 (ix2 s d)) (fun d => x1 (ix2 0 d)) d
/-- The up projection. -/
def fU (s : Fin 16384) (f : Fin 5632) : EReal := upr (fun d => x0 (ix2 s d)) (fun d => x1 (ix2 0 d)) (fun d f => x2 (ix2 d f)) f
/-- The gated half of the up projection `k` rows before, nothing before the first row. -/
def fP (k : ℕ) (s : Fin 16384) (c : Fin 2816) : EReal :=
  if h : s.val < k then 0 else fU x0 x1 x2 ⟨s.val - k, by omega⟩ ⟨c.val, by omega⟩
/-- The gate. -/
def fG (s : Fin 16384) (c : Fin 2816) : EReal :=
  gat (fun j c => x3 (ix2 j c)) (fun c => x4 (ix1 c)) (fP x0 x1 x2 2 s) (fP x0 x1 x2 1 s) (fun c => fU x0 x1 x2 s ⟨c.val, by omega⟩) c
/-- The activation. -/
def fA (s : Fin 16384) (c : Fin 2816) : EReal := act (fG x0 x1 x2 x3 x4 s c) (fU x0 x1 x2 s ⟨2816 + c.val, by omega⟩)
/-- The output. -/
def fX (s : Fin 16384) : Fin 1024 → EReal := res (fun d => x0 (ix2 s d)) (fA x0 x1 x2 x3 x4 s) (fun c d => x5 (ix2 c d))
/-- The reference's normed input. -/
theorem r11 (s d) : val_main_v11 (F := Ideal) x0 x1 (ix2 s d) = fH x0 x1 s d := by
  unfold fH nrm rt cD eps
  pointwise [val_main_v11, val_main_v10, val_main_v9, val_main_v8, val_main_v7, val_main_v6, val_main_v5, val_main_cst_1, val_main_v4, val_main_v3, val_main_cst_0, val_main_v2, val_main_v1, val_main_cst, val_main_v0]
/-- The reference's up projection. -/
theorem r12 (s f) : val_main_v12 (F := Ideal) x0 x1 x2 (ix2 s f) = fU x0 x1 x2 s f := by
  have e : fU x0 x1 x2 s f = ∑ d : Fin 1024, fH x0 x1 s d * x2 (ix2 d f) := rfl
  rw [e]
  simp only [← r11]
  pointwise [val_main_v12]
/-- The reference's gate. -/
theorem r39 (s f) : val_main_v39 (F := Ideal) x0 x1 x2 x3 x4 (ix2 s f) = fG x0 x1 x2 x3 x4 s f := by
  unfold fG gat fP
  simp only [← r12]
  pointwise [val_main_v39, val_main_v38, val_main_v37, val_main_v36, val_main_v35, val_main_v34, val_main_v33, val_main_v32, val_main_v31, val_main_v30, val_main_v29, val_main_v28, val_main_v27, val_main_v26, val_main_v25, val_main_v24, val_main_cst_3, val_main_v23, val_main_v22, val_main_v21, val_main_v20, val_main_v19, val_main_v18, val_main_v17, val_main_v16, val_main_cst_2, val_main_v15, val_main_v14, val_main_v13]
/-- The reference's activation. -/
theorem r42 (s f) : val_main_v42 (F := Ideal) x0 x1 x2 x3 x4 (ix2 s f) = fA x0 x1 x2 x3 x4 s f := by
  unfold fA act
  rw [Pw1Fwd.sg_all]
  unfold sgR
  simp only [← r12, ← r39]
  pointwise [val_main_v42, val_main_v41, val_main_v40, val_main_call0_v5, val_main_call0_v4, val_main_call0_cst_0, val_main_call0_v3, val_main_call0_v2, val_main_call0_cst, val_main_call0_v1, val_main_call0_v0]
/-- The reference's output. -/
theorem r44 (s d) : val_main_v44 (F := Ideal) x0 x1 x2 x3 x4 x5 (ix2 s d) = fX x0 x1 x2 x3 x4 x5 s d := by
  unfold fX res
  simp only [← r42]
  pointwise [val_main_v44, val_main_v43]
/-- The second result. -/
theorem r45 (s d) : val_main_v45 (F := Ideal) x0 x1 (ix2 s d) = fH x0 x1 s d := by
  rw [← r11]
  pointwise [val_main_v45]
/-- The third result. -/
theorem r46 (s d) : val_main_v46 (F := Ideal) x0 x1 x2 (ix2 s d) = fU x0 x1 x2 s d := by
  rw [← r12]
  pointwise [val_main_v46]
/-- The fourth result. -/
theorem r47 (s d) : val_main_v47 (F := Ideal) x0 x1 x2 x3 x4 (ix2 s d) = fG x0 x1 x2 x3 x4 s d := by
  rw [← r39]
  pointwise [val_main_v47]
/-- The fifth result. -/
theorem r48 (s d) : val_main_v48 (F := Ideal) x0 x1 x2 x3 x4 (ix2 s d) = fA x0 x1 x2 x3 x4 s d := by
  rw [← r42]
  pointwise [val_main_v48]

end FfnMid
-- ==== Proof.MidBlock.lean ====
module

public import proofs.«01_k».proof.Proof.FwdMath
public import proofs.«01_k».proof.Proof.Block
public import proofs.«01_k».proof.Proof.Gen.Kernel14Ideal.Frame

/-! What one grid point of the forward call without the loss computes, element by element. -/

@[expose] public section

set_option maxRecDepth 16384

noncomputable section

namespace FfnMid

open Pieces (readAt_whole readCov_pieces read_pieces_append missL not_mem_of_missL readCov_first)
open FfnFwd (rt nrm upr gat act res)
open FfnBwd (cD eps half sgK sgR box2 whole2)
open Idealize.ShloMosaic Idealize.ShloMosaic.TcCoe Idealize.SL.Sem
open Cert.Kernel14Ideal Cert.Kernel14Ideal.Gen

section
variable (x0 : FVec Ideal S256x1024 .f32) (x1 : FVec Ideal S1x1024 .f32) (x2 : FVec Ideal S1024x5632 .bf16) (x3 : FVec Ideal S3x2816 .f32)
  (x4 : FVec Ideal S1x2816 .f32) (x5 : FVec Ideal S2816x1024 .bf16)
  (CY : FVec Ideal S8x2816 .f32)

/-- The normed block. -/
def BH (r : Fin 256) (d : Fin 1024) : EReal := nrm (fun d => x0 (ix2 r d)) (fun d => x1 (ix2 0 d)) d
/-- The up projection of a block. -/
def BU (r : Fin 256) (f : Fin 5632) : EReal := upr (fun d => x0 (ix2 r d)) (fun d => x1 (ix2 0 d)) (fun d f => x2 (ix2 d f)) f
/-- The gated half of the up projection `k` rows before, the rows before the block from `CY`. -/
def BP (k : ℕ) (r : Fin 256) (c : Fin 2816) : EReal :=
  if h : k ≤ r.val then BU x0 x1 x2 ⟨r.val - k, by omega⟩ ⟨c.val, by omega⟩
  else CY (ix2 ⟨(r.val + 8 - k) % 8, Nat.mod_lt _ (by decide)⟩ c)
/-- The gate of a block. -/
def BG (r : Fin 256) (c : Fin 2816) : EReal :=
  gat (fun j c => x3 (ix2 j c)) (fun c => x4 (ix2 0 c)) (BP x0 x1 x2 CY 2 r) (BP x0 x1 x2 CY 1 r) (fun c => BU x0 x1 x2 r ⟨c.val, by omega⟩) c
/-- The activation of a block. -/
def BA (r : Fin 256) (c : Fin 2816) : EReal := act (BG x0 x1 x2 x3 x4 CY r c) (BU x0 x1 x2 r ⟨2816 + c.val, by omega⟩)
end

section
variable {x0 : FVec Ideal S256x1024 .f32} {x1 : FVec Ideal S1x1024 .f32} {x2 : FVec Ideal S1024x5632 .bf16} {x3 : FVec Ideal S3x2816 .f32}
  {x4 : FVec Ideal S1x2816 .f32} {x5 : FVec Ideal S2816x1024 .bf16}
  {CY : FVec Ideal S8x2816 .f32}

/-- The normed block of the loaded input and scale. -/
theorem h_chunk (r d) : k0_pay2 (F := Ideal) x0 x1 (ix2 r d) = BH x0 x1 r d := by
  unfold BH nrm rt cD eps
  pointwise [k0_pay2]

/-- A chunk of the up projection. -/
theorem u_chunk {w : FVec Ideal S1024x256 .bf16} {o : ℕ} (ho : o ≤ 5376) (hw : ∀ d (c : Fin 256), w (ix2 d c) = x2 (ix2 d ⟨o + c.val, by omega⟩)) (r c : Fin 256) :
    k0_pay69 (F := Ideal) (k0_pay2 x0 x1) w (ix2 r c) = BU x0 x1 x2 r ⟨o + c.val, by omega⟩ := by
  have e : k0_pay69 (F := Ideal) (k0_pay2 x0 x1) w (ix2 r c) = ∑ d : Fin 1024, k0_pay2 (F := Ideal) x0 x1 (ix2 r d) * w (ix2 d c) := by
    generalize k0_pay2 (F := Ideal) x0 x1 = h
    pointwise [k0_pay69]
  rw [e]
  unfold BU upr
  refine Finset.sum_congr rfl fun d _ => ?_
  rw [h_chunk, hw]
  rfl
end

/-! ## The loads of one chunk of columns -/

section
variable {arg1 : Memref sig .tc .vmem S256x1024 .f32} (harg1 : arg1.IsWhole) {arg2 : Memref sig .tc .vmem S1x1024 .f32} (harg2 : arg2.IsWhole)
  {arg3 : Memref sig .tc .vmem S1024x5632 .bf16} (harg3 : arg3.IsWhole) {arg4 : Memref sig .tc .vmem S3x2816 .f32} (harg4 : arg4.IsWhole)
  {arg5 : Memref sig .tc .vmem S1x2816 .f32} (harg5 : arg5.IsWhole) {arg6 : Memref sig .tc .vmem S2816x1024 .bf16} (harg6 : arg6.IsWhole)
  (x0 : FVec Ideal S256x1024 .f32) (x1 : FVec Ideal S1x1024 .f32) (x2 : FVec Ideal S1024x5632 .bf16) (x3 : FVec Ideal S3x2816 .f32)
  (x4 : FVec Ideal S1x2816 .f32) (x5 : FVec Ideal S2816x1024 .bf16)

/-- The whole input block. -/
abbrev ldX (i : ∀ a, (![0, 0] : Fin 2 → Nat) a + S256x1024.size a ≤ S256x1024.size a) : Vec Ideal S256x1024 .f32 :=
  View.readAt (Elt Ideal) arg1.view (Rect.unit (s := S256x1024) ![0, 0] S256x1024.size i).toLoadRect (harg1.unread x0)
/-- The whole scale. -/
abbrev ldS (i : ∀ a, (![0, 0] : Fin 2 → Nat) a + S1x1024.size a ≤ S1x1024.size a) : Vec Ideal S1x1024 .f32 :=
  View.readAt (Elt Ideal) arg2.view (Rect.unit (s := S1x1024) ![0, 0] S1x1024.size i).toLoadRect (harg2.unread x1)
/-- A chunk of columns of the up weight. -/
abbrev ldW (o : ℕ) (i : ∀ a, (![0, o] : Fin 2 → Nat) a + S1024x256.size a ≤ S1024x5632.size a) : Vec Ideal S1024x256 .bf16 :=
  View.readAt (Elt Ideal) arg3.view (Rect.unit (s := S1024x5632) ![0, o] S1024x256.size i).toLoadRect (harg3.unread x2)
/-- One tap of a chunk of columns. -/
abbrev ldT (j o : ℕ) (i : ∀ a, (![j, o] : Fin 2 → Nat) a + S1x256.size a ≤ S3x2816.size a) : Vec Ideal S1x256 .f32 :=
  View.readAt (Elt Ideal) arg4.view (Rect.unit (s := S3x2816) ![j, o] S1x256.size i).toLoadRect (harg4.unread x3)
/-- The bias of a chunk of columns. -/
abbrev ldB (o : ℕ) (i : ∀ a, (![0, o] : Fin 2 → Nat) a + S1x256.size a ≤ S1x2816.size a) : Vec Ideal S1x256 .f32 :=
  View.readAt (Elt Ideal) arg5.view (Rect.unit (s := S1x2816) ![0, o] S1x256.size i).toLoadRect (harg5.unread x4)
/-- The whole down weight. -/
abbrev ldD (i : ∀ a, (![0, 0] : Fin 2 → Nat) a + S2816x1024.size a ≤ S2816x1024.size a) : Vec Ideal S2816x1024 .bf16 :=
  View.readAt (Elt Ideal) arg6.view (Rect.unit (s := S2816x1024) ![0, 0] S2816x1024.size i).toLoadRect (harg6.unread x5)

/-- A whole load of the input block is the block. -/
theorem ldX_eq (i) : ldX harg1 x0 i = x0 := by
  unfold ldX
  funext y
  idx_vars y
  rw [Memref.IsWhole.readAt_unread]
  refine congrArg x0 ?_
  idx_ext
/-- A whole load of the scale is the scale. -/
theorem ldS_eq (i) : ldS harg2 x1 i = x1 := by
  unfold ldS
  funext y
  idx_vars y
  rw [Memref.IsWhole.readAt_unread]
  refine congrArg x1 ?_
  idx_ext
/-- A whole load of the down weight is the weight. -/
theorem ldD_eq (i) : ldD harg6 x5 i = x5 := by
  unfold ldD
  funext y
  idx_vars y
  rw [Memref.IsWhole.readAt_unread]
  refine congrArg x5 ?_
  idx_ext
/-- A chunk of the up weight, at an index. -/
theorem ldW_apply (o : ℕ) (ho : o ≤ 5376) (i) (d : Fin 1024) (c : Fin 256) : ldW harg3 x2 o i (ix2 d c) = x2 (ix2 d ⟨o + c.val, by omega⟩) := by
  unfold ldW
  rw [Memref.IsWhole.readAt_unread]
  refine congrArg x2 ?_
  idx_ext
/-- A tap of a chunk of columns, at an index. -/
theorem ldT_apply (j o : ℕ) (hj : j < 3) (ho : o ≤ 2560) (i) (c : Fin 256) : ldT harg4 x3 j o i (ix2 0 c) = x3 (ix2 ⟨j, hj⟩ ⟨o + c.val, by omega⟩) := by
  unfold ldT
  rw [Memref.IsWhole.readAt_unread]
  refine congrArg x3 ?_
  idx_ext
/-- The bias of a chunk of columns, at an index. -/
theorem ldB_apply (o : ℕ) (ho : o ≤ 2560) (i) (c : Fin 256) : ldB harg5 x4 o i (ix2 0 c) = x4 (ix2 0 ⟨o + c.val, by omega⟩) := by
  unfold ldB
  rw [Memref.IsWhole.readAt_unread]
  refine congrArg x4 ?_
  idx_ext
end

/-! ## One stored piece of each kind, at a chunk of columns that starts at `o` -/

section
variable {arg1 : Memref sig .tc .vmem S256x1024 .f32} (harg1 : arg1.IsWhole) {arg2 : Memref sig .tc .vmem S1x1024 .f32} (harg2 : arg2.IsWhole)
  {arg3 : Memref sig .tc .vmem S1024x5632 .bf16} (harg3 : arg3.IsWhole) {arg4 : Memref sig .tc .vmem S3x2816 .f32} (harg4 : arg4.IsWhole)
  {arg5 : Memref sig .tc .vmem S1x2816 .f32} (harg5 : arg5.IsWhole)
  {arg13 : Memref sig .tc .vmem S264x256 .f32}
  {x0 : FVec Ideal S256x1024 .f32} {x1 : FVec Ideal S1x1024 .f32} {x2 : FVec Ideal S1024x5632 .bf16} {x3 : FVec Ideal S3x2816 .f32}
  {x4 : FVec Ideal S1x2816 .f32} (CY : FVec Ideal S8x2816 .f32)

/-- The up projection of one chunk, as loaded. -/
abbrev ugL (o : ℕ) (i1 : ∀ a, (![0, 0] : Fin 2 → Nat) a + S256x1024.size a ≤ S256x1024.size a)
    (i2 : ∀ a, (![0, 0] : Fin 2 → Nat) a + S1x1024.size a ≤ S1x1024.size a)
    (i3 : ∀ a, (![0, o] : Fin 2 → Nat) a + S1024x256.size a ≤ S1024x5632.size a) : FVec Ideal S256x256 .f32 :=
  k0_pay69 (k0_pay2 (ldX harg1 x0 i1) (ldS harg2 x1 i2)) (ldW harg3 x2 o i3)

/-- The up projection of one chunk, at an index. -/
theorem ugL_apply {o : ℕ} (ho : o ≤ 5376) (i1 i2 i3) (r c : Fin 256) :
    ugL (x0 := x0) (x1 := x1) (x2 := x2) harg1 harg2 harg3 o i1 i2 i3 (ix2 r c) = BU x0 x1 x2 r ⟨o + c.val, by omega⟩ := by
  unfold ugL
  rw [ldX_eq, ldS_eq]
  exact u_chunk ho (fun d c => ldW_apply harg3 x2 o ho i3 d c) r c

/-- The up projection of one chunk preceded by the rows `cy`, as read back. -/
abbrev exL (o : ℕ) (i1 : ∀ a, (![0, 0] : Fin 2 → Nat) a + S256x1024.size a ≤ S256x1024.size a)
    (i2 : ∀ a, (![0, 0] : Fin 2 → Nat) a + S1x1024.size a ≤ S1x1024.size a)
    (i3 : ∀ a, (![0, o] : Fin 2 → Nat) a + S1024x256.size a ≤ S1024x5632.size a)
    (ia : ∀ a, (![8, 0] : Fin 2 → Nat) a + S256x256.size a ≤ S264x256.size a)
    (ib : ∀ a, (![0, 0] : Fin 2 → Nat) a + S8x256.size a ≤ S264x256.size a)
    (ic : ∀ a, (![0, 0] : Fin 2 → Nat) a + S264x256.size a ≤ S264x256.size a)
    (cy : Vec Ideal S8x256 .f32) (rest : List (View.Piece (Elt Ideal) S264x256 .f32)) : Vec Ideal S264x256 .f32 :=
  View.readCov arg13.view (⟨Rect.unit (s := S264x256) ![8, 0] S256x256.size ia,
      k0_pay74 (k0_pay2 (ldX harg1 x0 i1) (ldS harg2 x1 i2)) (ldW harg3 x2 o i3)⟩ ::
    ⟨Rect.unit (s := S264x256) ![0, 0] S8x256.size ib, k0_pay73 cy⟩ :: rest)
    (Rect.unit (s := S264x256) ![0, 0] S264x256.size ic).toLoadRect

/-- The carried rows followed by the rows of a chunk, at an index. -/
theorem exL_apply {o : ℕ} (i1 i2 i3 ia ib ic cy rest) (r : Fin 264) (c : Fin 256) :
    exL (arg13 := arg13) (x0 := x0) (x1 := x1) (x2 := x2) harg1 harg2 harg3 o i1 i2 i3 ia ib ic cy rest (ix2 r c) =
      if h : 8 ≤ r.val then ugL (x0 := x0) (x1 := x1) (x2 := x2) harg1 harg2 harg3 o i1 i2 i3 (ix2 ⟨r.val - 8, by omega⟩ c)
      else cy (ix2 ⟨r.val % 8, Nat.mod_lt _ (by decide)⟩ c) := by
  unfold exL View.readCov
  show View.read (Elt Ideal) arg13.view _ ((Rect.unit (s := S264x256) ![0, 0] S264x256.size ic).toLoadRect.idx (ix2 r c)) = _
  have hi : (Rect.unit (s := S264x256) ![0, 0] S264x256.size ic).toLoadRect.idx (ix2 r c) = ix2 r c := by idx_ext
  rw [hi]
  by_cases h : 8 ≤ r.val
  · rw [dif_pos h, View.read_writes_cons_unit_of_mem _ _ _ _ _ _ (ix2 ⟨r.val - 8, by omega⟩ c) rfl
      (by intro a; fin_cases a
          · show r.val = 8 + (r.val - 8)
            omega
          · simp)]
    unfold ugL
    generalize k0_pay2 (F := Ideal) (ldX harg1 x0 i1) (ldS harg2 x1 i2) = hh
    pointwise [k0_pay74]
  · have hr : r.val % 8 = r.val := by omega
    rw [dif_neg h, View.read_writes_cons_unit_of_not_mem _ _ _ _ _ _ rfl (0 : Fin 2) (Or.inl (by show r.val < 8; omega)),
      View.read_writes_cons_unit_of_mem _ _ _ _ _ _ (ix2 ⟨r.val % 8, Nat.mod_lt _ (by decide)⟩ c) rfl
      (by intro a; fin_cases a
          · show r.val = 0 + r.val % 8
            omega
          · simp)]
    pointwise [k0_pay73]

/-- The extended chunk read `k` rows before. -/
theorem exL_before {o : ℕ} (ho : o ≤ 2560) (i1 i2 i3 ia ib ic cy rest)
    (hcy : ∀ r (c : Fin 256), cy (ix2 r c) = CY (ix2 r ⟨o + c.val, by omega⟩))
    (k : ℕ) (hk : 0 < k) (hk' : k < 8) (r : ℕ) (hr : r < 256) (c : Fin 256) (s : ℕ) (hs : s = r + 8 - k) (hlt : s < 264) :
    exL (arg13 := arg13) (x0 := x0) (x1 := x1) (x2 := x2) harg1 harg2 harg3 o i1 i2 i3 ia ib ic cy rest
      (ix2 ⟨s, hlt⟩ c) = BP x0 x1 x2 CY k ⟨r, hr⟩ ⟨o + c.val, by omega⟩ := by
  subst hs
  rw [exL_apply]
  unfold BP
  by_cases h : k ≤ r
  · rw [dif_pos (by show 8 ≤ r + 8 - k; omega), dif_pos h, ugL_apply harg1 harg2 harg3 (by omega)]
    congr 1
    ext
    show r + 8 - k - 8 = r - k
    omega
  · rw [dif_neg (by show ¬8 ≤ r + 8 - k; omega), dif_neg h]
    exact hcy _ _

/-! ### The stored pieces -/

variable (x0 x1 x2 x3 x4)

/-- What the normed block holds. -/
def G7 : S256x1024.Idx → Elt Ideal .bf16 := fun y => BH x0 x1 (y 0) (y 1)
/-- What the up projection's block holds. -/
def G8 : S256x5632.Idx → Elt Ideal .bf16 := fun y => BU x0 x1 x2 (y 0) (y 1)
/-- What the gate's block holds. -/
def G9 : S256x2816.Idx → Elt Ideal .bf16 := fun y => BG x0 x1 x2 x3 x4 CY (y 0) (y 1)
/-- What the activation's block holds. -/
def G10 : S256x2816.Idx → Elt Ideal .bf16 := fun y => BA x0 x1 x2 x3 x4 CY (y 0) (y 1)
/-- What the carried rows hold. -/
def GSf (r : Fin 8) (c : Fin 2816) : EReal := BU x0 x1 x2 ⟨248 + r.val, by omega⟩ ⟨c.val, by omega⟩
/-- The same as a function of the index. -/
def GS : S8x2816.Idx → Elt Ideal .f32 := fun y => GSf x0 x1 x2 (y 0) (y 1)

variable {x0 x1 x2 x3 x4}

/-- The store of the normed block. -/
theorem piece7 (i1 i2) (i : ∀ a, (![0, 0] : Fin 2 → Nat) a + S256x1024.size a ≤ S256x1024.size a) (w : S256x1024.Idx) :
    k0_pay2 (F := Ideal) (ldX harg1 x0 i1) (ldS harg2 x1 i2) w = G7 x0 x1 ((Rect.unit (s := S256x1024) ![0, 0] S256x1024.size i).emb w) := by
  idx_vars w
  have hi : (Rect.unit (s := S256x1024) ![0, 0] S256x1024.size i).emb (ix2 w0 w1) = ix2 w0 w1 := by idx_ext
  rw [hi, ldX_eq, ldS_eq]
  exact h_chunk w0 w1

/-- A store of the up projection reads back its columns. -/
theorem piece8 {o : ℕ} (ho : o ≤ 5376) (i1 i2 i3) (i : ∀ a, (![0, o] : Fin 2 → Nat) a + S256x256.size a ≤ S256x5632.size a) (w : S256x256.Idx) :
    k0_pay71 (k0_pay2 (ldX harg1 x0 i1) (ldS harg2 x1 i2)) (ldW harg3 x2 o i3) w = G8 x0 x1 x2 ((Rect.unit (s := S256x5632) ![0, o] S256x256.size i).emb w) := by
  idx_vars w
  have hi : (Rect.unit (s := S256x5632) ![0, o] S256x256.size i).emb (ix2 w0 w1) = ix2 w0 ⟨o + w1.val, by omega⟩ := by idx_ext
  rw [hi]
  exact ugL_apply harg1 harg2 harg3 ho i1 i2 i3 w0 w1

/-- A store of the carried rows reads back its columns. -/
theorem pieceS {o : ℕ} (ho : o ≤ 2560) (i1 i2 i3) (i : ∀ a, (![0, o] : Fin 2 → Nat) a + S8x256.size a ≤ S8x2816.size a) (w : S8x256.Idx) :
    k0_pay76 (k0_pay75 (k0_pay2 (ldX harg1 x0 i1) (ldS harg2 x1 i2)) (ldW harg3 x2 o i3)) w = GS x0 x1 x2 ((Rect.unit (s := S8x2816) ![0, o] S8x256.size i).emb w) := by
  idx_vars w
  have hi : (Rect.unit (s := S8x2816) ![0, o] S8x256.size i).emb (ix2 w0 w1) = ix2 w0 ⟨o + w1.val, by omega⟩ := by idx_ext
  rw [hi]
  refine Eq.trans ?_ (ugL_apply harg1 harg2 harg3 (by omega) i1 i2 i3 ⟨248 + w0.val, by omega⟩ w1)
  unfold ugL
  generalize k0_pay2 (F := Ideal) (ldX harg1 x0 i1) (ldS harg2 x1 i2) = hh
  pointwise [k0_pay76, k0_pay75]

/-- The gate of one chunk. -/
theorem gate_chunk {o : ℕ} (ho : o ≤ 2560) (i1 i2 i3 ia ib ic cy rest)
    (hcy : ∀ r (c : Fin 256), cy (ix2 r c) = CY (ix2 r ⟨o + c.val, by omega⟩)) (t0 t1 t2 b0) (r c : Fin 256) :
    k0_pay77 (ugL (x0 := x0) (x1 := x1) (x2 := x2) harg1 harg2 harg3 o i1 i2 i3)
        (exL (arg13 := arg13) (x0 := x0) (x1 := x1) (x2 := x2) harg1 harg2 harg3 o i1 i2 i3 ia ib ic cy rest)
        (ldT harg4 x3 0 o t0) (ldT harg4 x3 1 o t1) (ldT harg4 x3 2 o t2) (ldB harg5 x4 o b0) (ix2 r c) =
      BG x0 x1 x2 x3 x4 CY r ⟨o + c.val, by omega⟩ := by
  have e1 := ugL_apply (x0 := x0) (x1 := x1) (x2 := x2) harg1 harg2 harg3 (by omega : o ≤ 5376) i1 i2 i3 r c
  have e2 := fun k hk hk' => exL_before (arg13 := arg13) (x0 := x0) (x1 := x1) (x2 := x2) harg1 harg2 harg3 CY ho i1 i2 i3 ia ib ic cy rest hcy k hk hk' r.val r.2 c
  have d1 := ldT_apply harg4 x3 0 o (by omega) ho t0 c
  have d2 := ldT_apply harg4 x3 1 o (by omega) ho t1 c
  have d3 := ldT_apply harg4 x3 2 o (by omega) ho t2 c
  have d4 := ldB_apply harg5 x4 o ho b0 c
  revert e1 e2 d1 d2 d3 d4
  generalize ugL (x0 := x0) (x1 := x1) (x2 := x2) harg1 harg2 harg3 o i1 i2 i3 = ug
  generalize exL (arg13 := arg13) (x0 := x0) (x1 := x1) (x2 := x2) harg1 harg2 harg3 o i1 i2 i3 ia ib ic cy rest = ex
  generalize ldT harg4 x3 0 o t0 = a0
  generalize ldT harg4 x3 1 o t1 = a1
  generalize ldT harg4 x3 2 o t2 = a2
  generalize ldB harg5 x4 o b0 = a3
  intro e1 e2 d1 d2 d3 d4
  unfold BG gat
  pointwise [k0_pay77]
  rw [d1, d2, d3, d4, e1]
  refine Ideal.add_congr (Ideal.add_congr (Ideal.add_congr (Ideal.mul_congr rfl ?_) (Ideal.mul_congr rfl ?_)) rfl) rfl
  · exact e2 2 (by omega) (by omega) _ (by omega) _
  · exact e2 1 (by omega) (by omega) _ (by omega) _

/-- A store of the gate reads back its columns. -/
theorem piece9 {o : ℕ} (ho : o ≤ 2560) (i1 i2 i3 ia ib ic cy rest)
    (hcy : ∀ r (c : Fin 256), cy (ix2 r c) = CY (ix2 r ⟨o + c.val, by omega⟩)) (t0 t1 t2 b0)
    (i : ∀ a, (![0, o] : Fin 2 → Nat) a + S256x256.size a ≤ S256x2816.size a) (w : S256x256.Idx) :
    k0_pay78 (ugL (x0 := x0) (x1 := x1) (x2 := x2) harg1 harg2 harg3 o i1 i2 i3)
        (exL (arg13 := arg13) (x0 := x0) (x1 := x1) (x2 := x2) harg1 harg2 harg3 o i1 i2 i3 ia ib ic cy rest)
        (ldT harg4 x3 0 o t0) (ldT harg4 x3 1 o t1) (ldT harg4 x3 2 o t2) (ldB harg5 x4 o b0) w =
      G9 x0 x1 x2 x3 x4 CY ((Rect.unit (s := S256x2816) ![0, o] S256x256.size i).emb w) := by
  idx_vars w
  have hi : (Rect.unit (s := S256x2816) ![0, o] S256x256.size i).emb (ix2 w0 w1) = ix2 w0 ⟨o + w1.val, by omega⟩ := by idx_ext
  rw [hi]
  exact gate_chunk harg1 harg2 harg3 harg4 harg5 CY ho i1 i2 i3 ia ib ic cy rest hcy t0 t1 t2 b0 w0 w1

/-- A store of the activation reads back its columns. -/
theorem piece10 {o ou : ℕ} (ho : o ≤ 2560) (hou : ou = 2816 + o) (i1 i2 i3 i3' ia ib ic cy rest)
    (hcy : ∀ r (c : Fin 256), cy (ix2 r c) = CY (ix2 r ⟨o + c.val, by omega⟩)) (t0 t1 t2 b0)
    (i : ∀ a, (![0, o] : Fin 2 → Nat) a + S256x256.size a ≤ S256x2816.size a) (w : S256x256.Idx) :
    k0_pay79 (ugL (x0 := x0) (x1 := x1) (x2 := x2) harg1 harg2 harg3 o i1 i2 i3)
        (ugL (x0 := x0) (x1 := x1) (x2 := x2) harg1 harg2 harg3 ou i1 i2 i3')
        (exL (arg13 := arg13) (x0 := x0) (x1 := x1) (x2 := x2) harg1 harg2 harg3 o i1 i2 i3 ia ib ic cy rest)
        (ldT harg4 x3 0 o t0) (ldT harg4 x3 1 o t1) (ldT harg4 x3 2 o t2) (ldB harg5 x4 o b0) w =
      G10 x0 x1 x2 x3 x4 CY ((Rect.unit (s := S256x2816) ![0, o] S256x256.size i).emb w) := by
  subst hou
  idx_vars w
  have hi : (Rect.unit (s := S256x2816) ![0, o] S256x256.size i).emb (ix2 w0 w1) = ix2 w0 ⟨o + w1.val, by omega⟩ := by idx_ext
  rw [hi]
  have e1 := gate_chunk (arg13 := arg13) (x0 := x0) (x1 := x1) (x2 := x2) (x3 := x3) (x4 := x4) harg1 harg2 harg3 harg4 harg5 CY ho i1 i2 i3 ia ib ic cy rest hcy t0 t1 t2 b0 w0 w1
  have e2 := ugL_apply (x0 := x0) (x1 := x1) (x2 := x2) harg1 harg2 harg3 (by omega : 2816 + o ≤ 5376) i1 i2 i3' w0 w1
  show _ = act (BG x0 x1 x2 x3 x4 CY w0 ⟨o + w1.val, by omega⟩) (BU x0 x1 x2 w0 ⟨2816 + (o + w1.val), by omega⟩)
  have e3 : (⟨2816 + o + w1.val, by omega⟩ : Fin 5632) = ⟨2816 + (o + w1.val), by omega⟩ := by ext; simp only; omega
  rw [e3] at e2
  rw [← e1, ← e2]
  unfold act sgK half k0_pay79
  generalize k0_pay77 (F := Ideal) _ _ _ _ _ _ = g
  generalize ugL (x0 := x0) (x1 := x1) (x2 := x2) harg1 harg2 harg3 (2816 + o) i1 i2 i3' = uv
  pointwise
end

/-! ## The block's output -/

section
variable (x0 : FVec Ideal S256x1024 .f32) (x5 : FVec Ideal S2816x1024 .bf16) (a : Fin 256 → Fin 2816 → EReal)

/-- The block's output row. -/
def BX (r : Fin 256) : Fin 1024 → EReal := res (fun d => x0 (ix2 r d)) (a r) (fun c d => x5 (ix2 c d))
/-- What the block of the output holds. -/
def G6 : S256x1024.Idx → Elt Ideal .f32 := fun y => BX x0 x5 a (y 0) (y 1)

variable {a} {v : FVec Ideal S256x2816 .bf16} (hv : ∀ r c, v (ix2 r c) = a r c)

include hv in
/-- The block's output. -/
theorem tailX (r d) : k0_pay124 (F := Ideal) x0 v x5 (ix2 r d) = BX x0 x5 a r d := by
  unfold BX res
  simp only [← hv]
  pointwise [k0_pay124]
end

section
variable {arg1 : Memref sig .tc .vmem S256x1024 .f32} (harg1 : arg1.IsWhole) {arg6 : Memref sig .tc .vmem S2816x1024 .bf16} (harg6 : arg6.IsWhole)
  {x0 : FVec Ideal S256x1024 .f32} {x5 : FVec Ideal S2816x1024 .bf16}
  {a : Fin 256 → Fin 2816 → EReal} {v : Vec Ideal S256x2816 .bf16} (hv : ∀ r c, v (ix2 r c) = a r c)

include hv in
/-- The stored block of the output. -/
theorem piece6 (i1 i6) (i : ∀ a, (![0, 0] : Fin 2 → Nat) a + S256x1024.size a ≤ S256x1024.size a) (w : S256x1024.Idx) :
    k0_pay124 (F := Ideal) (ldX harg1 x0 i1) v (ldD harg6 x5 i6) w
      = G6 x0 x5 a ((Rect.unit (s := S256x1024) ![0, 0] S256x1024.size i).emb w) := by
  idx_vars w
  have hi : (Rect.unit (s := S256x1024) ![0, 0] S256x1024.size i).emb (ix2 w0 w1) = ix2 w0 w1 := by idx_ext
  rw [hi, ldX_eq, ldD_eq]
  exact tailX x0 x5 hv w0 w1
end

/-! ## The zero fills read back -/

/-- The zero fills. -/
theorem zS : ∀ x, k0_pay1 (F := Ideal) x = (0 : EReal) := by intro x; idx_vars x; pointwise [k0_pay1]
/-- The carry read where no chunk has been carried yet. -/
theorem zeroS {v : View sig .tc .vmem S8x2816 .f32} {L : List (View.Piece (Elt Ideal) S8x2816 .f32)} {o : ℕ}
    {i0 : ∀ a, (![0, 0] : Fin 2 → Nat) a + S8x2816.size a ≤ S8x2816.size a} (i : ∀ a, (![0, o] : Fin 2 → Nat) a + S8x256.size a ≤ S8x2816.size a)
    (hL : L = L.dropLast ++ [⟨Rect.unit (s := S8x2816) ![0, 0] S8x2816.size i0, k0_pay1 (F := Ideal)⟩])
    (hm : missL (s := S8x2816) ![0, o] ![8, 256] L.dropLast = true) (x : S8x256.Idx) :
    View.readCov v L (Rect.unit (s := S8x2816) ![0, o] S8x256.size i).toLoadRect x = (0 : EReal) := by
  refine readCov_first v L _ _ _ zS hL (whole2 i0) ![0, o] ![8, 256] hm (Rect.unit (s := S8x2816) ![0, o] S8x256.size i).toLoadRect x ?_
  exact box2 i x

end FfnMid
-- ==== Proof.MidCaseA.lean ====
module

public import proofs.«01_k».proof.Proof.MidBlock

/-! The contents the forward body without the loss leaves at a point that starts the carry. -/

@[expose] public section

set_option maxRecDepth 16384

noncomputable section

namespace FfnMid

open Pieces (readAt_whole readCov_pieces read_pieces_append missL not_mem_of_missL readCov_first)
open Idealize.ShloMosaic Idealize.ShloMosaic.TcCoe Idealize.SL.Sem
open Cert.Kernel14Ideal Cert.Kernel14Ideal.Gen

variable (c : Dev nD) (i : grid0.Coords) (a1 : Memref sig .tc .vmem S256x1024 .f32) (h1 : a1.IsWhole) (a2 : Memref sig .tc .vmem S1x1024 .f32) (h2 : a2.IsWhole) (a3 : Memref sig .tc .vmem S1024x5632 .bf16) (h3 : a3.IsWhole) (a4 : Memref sig .tc .vmem S3x2816 .f32) (h4 : a4.IsWhole) (a5 : Memref sig .tc .vmem S1x2816 .f32) (h5 : a5.IsWhole) (a6 : Memref sig .tc .vmem S2816x1024 .bf16) (h6 : a6.IsWhole) (a7 : Memref sig .tc .vmem S256x1024 .f32) (h7 : a7.IsWhole) (a8 : Memref sig .tc .vmem S256x1024 .bf16) (h8 : a8.IsWhole) (a9 : Memref sig .tc .vmem S256x5632 .bf16) (h9 : a9.IsWhole) (a10 : Memref sig .tc .vmem S256x2816 .bf16) (h10 : a10.IsWhole) (a11 : Memref sig .tc .vmem S256x2816 .bf16) (h11 : a11.IsWhole) (a12 : Memref sig .tc .vmem S8x2816 .f32) (h12 : a12.IsWhole) (a13 : Memref sig .tc .vmem S264x256 .f32) (h13 : a13.IsWhole) (hc0 : cond0_0 i)
    (x0 : Vec Ideal S256x1024 .f32) (x1 : Vec Ideal S1x1024 .f32) (x2 : Vec Ideal S1024x5632 .bf16) (x3 : Vec Ideal S3x2816 .f32) (x4 : Vec Ideal S1x2816 .f32) (x5 : Vec Ideal S2816x1024 .bf16)

set_option maxHeartbeats 4000000 in
/-- The stored pieces: up projection. -/
theorem pA8 : ∀ p ∈ (kernelRun0_A c i a1 h1 a2 h2 a3 h3 a4 h4 a5 h5 a6 h6 a7 h7 a8 h8 a9 h9 a10 h10 a11 h11 a12 h12 a13 h13 hc0 x0 x1 x2 x3 x4 x5).2.2.1, ∀ x : p.1.shape.Idx, p.2 x = G8 x0 x1 x2 (p.1.emb x) := by
  refine List.forall_mem_cons.2 ⟨?_, ?_⟩
  · exact fun w => piece8 h1 h2 h3 (x0 := x0) (x1 := x1) (x2 := x2) (o := 5376) (by decide) _ _ _ (by decide) w
  refine List.forall_mem_cons.2 ⟨?_, ?_⟩
  · exact fun w => piece8 h1 h2 h3 (x0 := x0) (x1 := x1) (x2 := x2) (o := 2560) (by decide) _ _ _ (by decide) w
  refine List.forall_mem_cons.2 ⟨?_, ?_⟩
  · exact fun w => piece8 h1 h2 h3 (x0 := x0) (x1 := x1) (x2 := x2) (o := 5120) (by decide) _ _ _ (by decide) w
  refine List.forall_mem_cons.2 ⟨?_, ?_⟩
  · exact fun w => piece8 h1 h2 h3 (x0 := x0) (x1 := x1) (x2 := x2) (o := 2304) (by decide) _ _ _ (by decide) w
  refine List.forall_mem_cons.2 ⟨?_, ?_⟩
  · exact fun w => piece8 h1 h2 h3 (x0 := x0) (x1 := x1) (x2 := x2) (o := 4864) (by decide) _ _ _ (by decide) w
  refine List.forall_mem_cons.2 ⟨?_, ?_⟩
  · exact fun w => piece8 h1 h2 h3 (x0 := x0) (x1 := x1) (x2 := x2) (o := 2048) (by decide) _ _ _ (by decide) w
  refine List.forall_mem_cons.2 ⟨?_, ?_⟩
  · exact fun w => piece8 h1 h2 h3 (x0 := x0) (x1 := x1) (x2 := x2) (o := 4608) (by decide) _ _ _ (by decide) w
  refine List.forall_mem_cons.2 ⟨?_, ?_⟩
  · exact fun w => piece8 h1 h2 h3 (x0 := x0) (x1 := x1) (x2 := x2) (o := 1792) (by decide) _ _ _ (by decide) w
  refine List.forall_mem_cons.2 ⟨?_, ?_⟩
  · exact fun w => piece8 h1 h2 h3 (x0 := x0) (x1 := x1) (x2 := x2) (o := 4352) (by decide) _ _ _ (by decide) w
  refine List.forall_mem_cons.2 ⟨?_, ?_⟩
  · exact fun w => piece8 h1 h2 h3 (x0 := x0) (x1 := x1) (x2 := x2) (o := 1536) (by decide) _ _ _ (by decide) w
  refine List.forall_mem_cons.2 ⟨?_, ?_⟩
  · exact fun w => piece8 h1 h2 h3 (x0 := x0) (x1 := x1) (x2 := x2) (o := 4096) (by decide) _ _ _ (by decide) w
  refine List.forall_mem_cons.2 ⟨?_, ?_⟩
  · exact fun w => piece8 h1 h2 h3 (x0 := x0) (x1 := x1) (x2 := x2) (o := 1280) (by decide) _ _ _ (by decide) w
  refine List.forall_mem_cons.2 ⟨?_, ?_⟩
  · exact fun w => piece8 h1 h2 h3 (x0 := x0) (x1 := x1) (x2 := x2) (o := 3840) (by decide) _ _ _ (by decide) w
  refine List.forall_mem_cons.2 ⟨?_, ?_⟩
  · exact fun w => piece8 h1 h2 h3 (x0 := x0) (x1 := x1) (x2 := x2) (o := 1024) (by decide) _ _ _ (by decide) w
  refine List.forall_mem_cons.2 ⟨?_, ?_⟩
  · exact fun w => piece8 h1 h2 h3 (x0 := x0) (x1 := x1) (x2 := x2) (o := 3584) (by decide) _ _ _ (by decide) w
  refine List.forall_mem_cons.2 ⟨?_, ?_⟩
  · exact fun w => piece8 h1 h2 h3 (x0 := x0) (x1 := x1) (x2 := x2) (o := 768) (by decide) _ _ _ (by decide) w
  refine List.forall_mem_cons.2 ⟨?_, ?_⟩
  · exact fun w => piece8 h1 h2 h3 (x0 := x0) (x1 := x1) (x2 := x2) (o := 3328) (by decide) _ _ _ (by decide) w
  refine List.forall_mem_cons.2 ⟨?_, ?_⟩
  · exact fun w => piece8 h1 h2 h3 (x0 := x0) (x1 := x1) (x2 := x2) (o := 512) (by decide) _ _ _ (by decide) w
  refine List.forall_mem_cons.2 ⟨?_, ?_⟩
  · exact fun w => piece8 h1 h2 h3 (x0 := x0) (x1 := x1) (x2 := x2) (o := 3072) (by decide) _ _ _ (by decide) w
  refine List.forall_mem_cons.2 ⟨?_, ?_⟩
  · exact fun w => piece8 h1 h2 h3 (x0 := x0) (x1 := x1) (x2 := x2) (o := 256) (by decide) _ _ _ (by decide) w
  refine List.forall_mem_cons.2 ⟨?_, ?_⟩
  · exact fun w => piece8 h1 h2 h3 (x0 := x0) (x1 := x1) (x2 := x2) (o := 2816) (by decide) _ _ _ (by decide) w
  refine List.forall_mem_cons.2 ⟨?_, ?_⟩
  · exact fun w => piece8 h1 h2 h3 (x0 := x0) (x1 := x1) (x2 := x2) (o := 0) (by decide) _ _ _ (by decide) w
  exact List.forall_mem_nil _

set_option maxHeartbeats 4000000 in
/-- The stored pieces: gate. -/
theorem pA9 : ∀ p ∈ (kernelRun0_A c i a1 h1 a2 h2 a3 h3 a4 h4 a5 h5 a6 h6 a7 h7 a8 h8 a9 h9 a10 h10 a11 h11 a12 h12 a13 h13 hc0 x0 x1 x2 x3 x4 x5).2.2.2.1, ∀ x : p.1.shape.Idx, p.2 x = G9 x0 x1 x2 x3 x4 (fun _ => (0 : EReal)) (p.1.emb x) := by
  refine List.forall_mem_cons.2 ⟨?_, ?_⟩
  · exact fun w => piece9 h1 h2 h3 h4 h5 (fun _ => (0 : EReal)) (x0 := x0) (x1 := x1) (x2 := x2) (x3 := x3) (x4 := x4) (o := 2560) (by decide) _ _ _ _ _ _ _ _ (fun r c => zeroS (o := 2560) (by decide) (by rfl) (by sl_kernel_rfl) (ix2 r c)) _ _ _ _ (by decide) w
  refine List.forall_mem_cons.2 ⟨?_, ?_⟩
  · exact fun w => piece9 h1 h2 h3 h4 h5 (fun _ => (0 : EReal)) (x0 := x0) (x1 := x1) (x2 := x2) (x3 := x3) (x4 := x4) (o := 2304) (by decide) _ _ _ _ _ _ _ _ (fun r c => zeroS (o := 2304) (by decide) (by rfl) (by sl_kernel_rfl) (ix2 r c)) _ _ _ _ (by decide) w
  refine List.forall_mem_cons.2 ⟨?_, ?_⟩
  · exact fun w => piece9 h1 h2 h3 h4 h5 (fun _ => (0 : EReal)) (x0 := x0) (x1 := x1) (x2 := x2) (x3 := x3) (x4 := x4) (o := 2048) (by decide) _ _ _ _ _ _ _ _ (fun r c => zeroS (o := 2048) (by decide) (by rfl) (by sl_kernel_rfl) (ix2 r c)) _ _ _ _ (by decide) w
  refine List.forall_mem_cons.2 ⟨?_, ?_⟩
  · exact fun w => piece9 h1 h2 h3 h4 h5 (fun _ => (0 : EReal)) (x0 := x0) (x1 := x1) (x2 := x2) (x3 := x3) (x4 := x4) (o := 1792) (by decide) _ _ _ _ _ _ _ _ (fun r c => zeroS (o := 1792) (by decide) (by rfl) (by sl_kernel_rfl) (ix2 r c)) _ _ _ _ (by decide) w
  refine List.forall_mem_cons.2 ⟨?_, ?_⟩
  · exact fun w => piece9 h1 h2 h3 h4 h5 (fun _ => (0 : EReal)) (x0 := x0) (x1 := x1) (x2 := x2) (x3 := x3) (x4 := x4) (o := 1536) (by decide) _ _ _ _ _ _ _ _ (fun r c => zeroS (o := 1536) (by decide) (by rfl) (by sl_kernel_rfl) (ix2 r c)) _ _ _ _ (by decide) w
  refine List.forall_mem_cons.2 ⟨?_, ?_⟩
  · exact fun w => piece9 h1 h2 h3 h4 h5 (fun _ => (0 : EReal)) (x0 := x0) (x1 := x1) (x2 := x2) (x3 := x3) (x4 := x4) (o := 1280) (by decide) _ _ _ _ _ _ _ _ (fun r c => zeroS (o := 1280) (by decide) (by rfl) (by sl_kernel_rfl) (ix2 r c)) _ _ _ _ (by decide) w
  refine List.forall_mem_cons.2 ⟨?_, ?_⟩
  · exact fun w => piece9 h1 h2 h3 h4 h5 (fun _ => (0 : EReal)) (x0 := x0) (x1 := x1) (x2 := x2) (x3 := x3) (x4 := x4) (o := 1024) (by decide) _ _ _ _ _ _ _ _ (fun r c => zeroS (o := 1024) (by decide) (by rfl) (by sl_kernel_rfl) (ix2 r c)) _ _ _ _ (by decide) w
  refine List.forall_mem_cons.2 ⟨?_, ?_⟩
  · exact fun w => piece9 h1 h2 h3 h4 h5 (fun _ => (0 : EReal)) (x0 := x0) (x1 := x1) (x2 := x2) (x3 := x3) (x4 := x4) (o := 768) (by decide) _ _ _ _ _ _ _ _ (fun r c => zeroS (o := 768) (by decide) (by rfl) (by sl_kernel_rfl) (ix2 r c)) _ _ _ _ (by decide) w
  refine List.forall_mem_cons.2 ⟨?_, ?_⟩
  · exact fun w => piece9 h1 h2 h3 h4 h5 (fun _ => (0 : EReal)) (x0 := x0) (x1 := x1) (x2 := x2) (x3 := x3) (x4 := x4) (o := 512) (by decide) _ _ _ _ _ _ _ _ (fun r c => zeroS (o := 512) (by decide) (by rfl) (by sl_kernel_rfl) (ix2 r c)) _ _ _ _ (by decide) w
  refine List.forall_mem_cons.2 ⟨?_, ?_⟩
  · exact fun w => piece9 h1 h2 h3 h4 h5 (fun _ => (0 : EReal)) (x0 := x0) (x1 := x1) (x2 := x2) (x3 := x3) (x4 := x4) (o := 256) (by decide) _ _ _ _ _ _ _ _ (fun r c => zeroS (o := 256) (by decide) (by rfl) (by sl_kernel_rfl) (ix2 r c)) _ _ _ _ (by decide) w
  refine List.forall_mem_cons.2 ⟨?_, ?_⟩
  · exact fun w => piece9 h1 h2 h3 h4 h5 (fun _ => (0 : EReal)) (x0 := x0) (x1 := x1) (x2 := x2) (x3 := x3) (x4 := x4) (o := 0) (by decide) _ _ _ _ _ _ _ _ (fun r c => zeroS (o := 0) (by decide) (by rfl) (by sl_kernel_rfl) (ix2 r c)) _ _ _ _ (by decide) w
  exact List.forall_mem_nil _

set_option maxHeartbeats 4000000 in
/-- The stored pieces: activation. -/
theorem pA10 : ∀ p ∈ (kernelRun0_A c i a1 h1 a2 h2 a3 h3 a4 h4 a5 h5 a6 h6 a7 h7 a8 h8 a9 h9 a10 h10 a11 h11 a12 h12 a13 h13 hc0 x0 x1 x2 x3 x4 x5).2.2.2.2.1, ∀ x : p.1.shape.Idx, p.2 x = G10 x0 x1 x2 x3 x4 (fun _ => (0 : EReal)) (p.1.emb x) := by
  refine List.forall_mem_cons.2 ⟨?_, ?_⟩
  · exact fun w => piece10 h1 h2 h3 h4 h5 (fun _ => (0 : EReal)) (x0 := x0) (x1 := x1) (x2 := x2) (x3 := x3) (x4 := x4) (o := 2560) (ou := 5376) (by decide) rfl _ _ _ _ _ _ _ _ _ (fun r c => zeroS (o := 2560) (by decide) (by rfl) (by sl_kernel_rfl) (ix2 r c)) _ _ _ _ (by decide) w
  refine List.forall_mem_cons.2 ⟨?_, ?_⟩
  · exact fun w => piece10 h1 h2 h3 h4 h5 (fun _ => (0 : EReal)) (x0 := x0) (x1 := x1) (x2 := x2) (x3 := x3) (x4 := x4) (o := 2304) (ou := 5120) (by decide) rfl _ _ _ _ _ _ _ _ _ (fun r c => zeroS (o := 2304) (by decide) (by rfl) (by sl_kernel_rfl) (ix2 r c)) _ _ _ _ (by decide) w
  refine List.forall_mem_cons.2 ⟨?_, ?_⟩
  · exact fun w => piece10 h1 h2 h3 h4 h5 (fun _ => (0 : EReal)) (x0 := x0) (x1 := x1) (x2 := x2) (x3 := x3) (x4 := x4) (o := 2048) (ou := 4864) (by decide) rfl _ _ _ _ _ _ _ _ _ (fun r c => zeroS (o := 2048) (by decide) (by rfl) (by sl_kernel_rfl) (ix2 r c)) _ _ _ _ (by decide) w
  refine List.forall_mem_cons.2 ⟨?_, ?_⟩
  · exact fun w => piece10 h1 h2 h3 h4 h5 (fun _ => (0 : EReal)) (x0 := x0) (x1 := x1) (x2 := x2) (x3 := x3) (x4 := x4) (o := 1792) (ou := 4608) (by decide) rfl _ _ _ _ _ _ _ _ _ (fun r c => zeroS (o := 1792) (by decide) (by rfl) (by sl_kernel_rfl) (ix2 r c)) _ _ _ _ (by decide) w
  refine List.forall_mem_cons.2 ⟨?_, ?_⟩
  · exact fun w => piece10 h1 h2 h3 h4 h5 (fun _ => (0 : EReal)) (x0 := x0) (x1 := x1) (x2 := x2) (x3 := x3) (x4 := x4) (o := 1536) (ou := 4352) (by decide) rfl _ _ _ _ _ _ _ _ _ (fun r c => zeroS (o := 1536) (by decide) (by rfl) (by sl_kernel_rfl) (ix2 r c)) _ _ _ _ (by decide) w
  refine List.forall_mem_cons.2 ⟨?_, ?_⟩
  · exact fun w => piece10 h1 h2 h3 h4 h5 (fun _ => (0 : EReal)) (x0 := x0) (x1 := x1) (x2 := x2) (x3 := x3) (x4 := x4) (o := 1280) (ou := 4096) (by decide) rfl _ _ _ _ _ _ _ _ _ (fun r c => zeroS (o := 1280) (by decide) (by rfl) (by sl_kernel_rfl) (ix2 r c)) _ _ _ _ (by decide) w
  refine List.forall_mem_cons.2 ⟨?_, ?_⟩
  · exact fun w => piece10 h1 h2 h3 h4 h5 (fun _ => (0 : EReal)) (x0 := x0) (x1 := x1) (x2 := x2) (x3 := x3) (x4 := x4) (o := 1024) (ou := 3840) (by decide) rfl _ _ _ _ _ _ _ _ _ (fun r c => zeroS (o := 1024) (by decide) (by rfl) (by sl_kernel_rfl) (ix2 r c)) _ _ _ _ (by decide) w
  refine List.forall_mem_cons.2 ⟨?_, ?_⟩
  · exact fun w => piece10 h1 h2 h3 h4 h5 (fun _ => (0 : EReal)) (x0 := x0) (x1 := x1) (x2 := x2) (x3 := x3) (x4 := x4) (o := 768) (ou := 3584) (by decide) rfl _ _ _ _ _ _ _ _ _ (fun r c => zeroS (o := 768) (by decide) (by rfl) (by sl_kernel_rfl) (ix2 r c)) _ _ _ _ (by decide) w
  refine List.forall_mem_cons.2 ⟨?_, ?_⟩
  · exact fun w => piece10 h1 h2 h3 h4 h5 (fun _ => (0 : EReal)) (x0 := x0) (x1 := x1) (x2 := x2) (x3 := x3) (x4 := x4) (o := 512) (ou := 3328) (by decide) rfl _ _ _ _ _ _ _ _ _ (fun r c => zeroS (o := 512) (by decide) (by rfl) (by sl_kernel_rfl) (ix2 r c)) _ _ _ _ (by decide) w
  refine List.forall_mem_cons.2 ⟨?_, ?_⟩
  · exact fun w => piece10 h1 h2 h3 h4 h5 (fun _ => (0 : EReal)) (x0 := x0) (x1 := x1) (x2 := x2) (x3 := x3) (x4 := x4) (o := 256) (ou := 3072) (by decide) rfl _ _ _ _ _ _ _ _ _ (fun r c => zeroS (o := 256) (by decide) (by rfl) (by sl_kernel_rfl) (ix2 r c)) _ _ _ _ (by decide) w
  refine List.forall_mem_cons.2 ⟨?_, ?_⟩
  · exact fun w => piece10 h1 h2 h3 h4 h5 (fun _ => (0 : EReal)) (x0 := x0) (x1 := x1) (x2 := x2) (x3 := x3) (x4 := x4) (o := 0) (ou := 2816) (by decide) rfl _ _ _ _ _ _ _ _ _ (fun r c => zeroS (o := 0) (by decide) (by rfl) (by sl_kernel_rfl) (ix2 r c)) _ _ _ _ (by decide) w
  exact List.forall_mem_nil _

set_option maxHeartbeats 4000000 in
/-- The stored pieces: carried rows. -/
theorem pAS : ∀ p ∈ (kernelRun0_A c i a1 h1 a2 h2 a3 h3 a4 h4 a5 h5 a6 h6 a7 h7 a8 h8 a9 h9 a10 h10 a11 h11 a12 h12 a13 h13 hc0 x0 x1 x2 x3 x4 x5).2.2.2.2.2.1.dropLast, ∀ x : p.1.shape.Idx, p.2 x = GS x0 x1 x2 (p.1.emb x) := by
  refine List.forall_mem_cons.2 ⟨?_, ?_⟩
  · exact fun w => pieceS h1 h2 h3 (x0 := x0) (x1 := x1) (x2 := x2) (o := 2560) (by decide) _ _ _ (by decide) w
  refine List.forall_mem_cons.2 ⟨?_, ?_⟩
  · exact fun w => pieceS h1 h2 h3 (x0 := x0) (x1 := x1) (x2 := x2) (o := 2304) (by decide) _ _ _ (by decide) w
  refine List.forall_mem_cons.2 ⟨?_, ?_⟩
  · exact fun w => pieceS h1 h2 h3 (x0 := x0) (x1 := x1) (x2 := x2) (o := 2048) (by decide) _ _ _ (by decide) w
  refine List.forall_mem_cons.2 ⟨?_, ?_⟩
  · exact fun w => pieceS h1 h2 h3 (x0 := x0) (x1 := x1) (x2 := x2) (o := 1792) (by decide) _ _ _ (by decide) w
  refine List.forall_mem_cons.2 ⟨?_, ?_⟩
  · exact fun w => pieceS h1 h2 h3 (x0 := x0) (x1 := x1) (x2 := x2) (o := 1536) (by decide) _ _ _ (by decide) w
  refine List.forall_mem_cons.2 ⟨?_, ?_⟩
  · exact fun w => pieceS h1 h2 h3 (x0 := x0) (x1 := x1) (x2 := x2) (o := 1280) (by decide) _ _ _ (by decide) w
  refine List.forall_mem_cons.2 ⟨?_, ?_⟩
  · exact fun w => pieceS h1 h2 h3 (x0 := x0) (x1 := x1) (x2 := x2) (o := 1024) (by decide) _ _ _ (by decide) w
  refine List.forall_mem_cons.2 ⟨?_, ?_⟩
  · exact fun w => pieceS h1 h2 h3 (x0 := x0) (x1 := x1) (x2 := x2) (o := 768) (by decide) _ _ _ (by decide) w
  refine List.forall_mem_cons.2 ⟨?_, ?_⟩
  · exact fun w => pieceS h1 h2 h3 (x0 := x0) (x1 := x1) (x2 := x2) (o := 512) (by decide) _ _ _ (by decide) w
  refine List.forall_mem_cons.2 ⟨?_, ?_⟩
  · exact fun w => pieceS h1 h2 h3 (x0 := x0) (x1 := x1) (x2 := x2) (o := 256) (by decide) _ _ _ (by decide) w
  refine List.forall_mem_cons.2 ⟨?_, ?_⟩
  · exact fun w => pieceS h1 h2 h3 (x0 := x0) (x1 := x1) (x2 := x2) (o := 0) (by decide) _ _ _ (by decide) w
  exact List.forall_mem_nil _

set_option maxHeartbeats 4000000 in
/-- The stored pieces: normed input. -/
theorem pA7 : ∀ p ∈ (kernelRun0_A c i a1 h1 a2 h2 a3 h3 a4 h4 a5 h5 a6 h6 a7 h7 a8 h8 a9 h9 a10 h10 a11 h11 a12 h12 a13 h13 hc0 x0 x1 x2 x3 x4 x5).2.1, ∀ x : p.1.shape.Idx, p.2 x = G7 x0 x1 (p.1.emb x) := by
  refine List.forall_mem_cons.2 ⟨?_, ?_⟩
  · exact fun w => piece7 h1 h2 _ _ (by decide) w
  exact List.forall_mem_nil _

set_option maxHeartbeats 4000000 in
/-- The stored pieces: output. -/
theorem pA6 : ∀ p ∈ (kernelRun0_A c i a1 h1 a2 h2 a3 h3 a4 h4 a5 h5 a6 h6 a7 h7 a8 h8 a9 h9 a10 h10 a11 h11 a12 h12 a13 h13 hc0 x0 x1 x2 x3 x4 x5).1, ∀ x : p.1.shape.Idx, p.2 x = G6 x0 x5 (BA x0 x1 x2 x3 x4 (fun _ => (0 : EReal))) (p.1.emb x) := by
  refine List.forall_mem_cons.2 ⟨?_, ?_⟩
  · exact fun w => piece6 h1 h6 (a := (BA x0 x1 x2 x3 x4 (fun _ => (0 : EReal)))) (fun r f => readCov_pieces a11.view (kernelRun0_A c i a1 h1 a2 h2 a3 h3 a4 h4 a5 h5 a6 h6 a7 h7 a8 h8 a9 h9 a10 h10 a11 h11 a12 h12 a13 h13 hc0 x0 x1 x2 x3 x4 x5).2.2.2.2.1 (G10 x0 x1 x2 x3 x4 (fun _ => (0 : EReal))) (pA10 c i a1 h1 a2 h2 a3 h3 a4 h4 a5 h5 a6 h6 a7 h7 a8 h8 a9 h9 a10 h10 a11 h11 a12 h12 a13 h13 hc0 x0 x1 x2 x3 x4 x5) (cover0_A_10 c i a1 h1 a2 h2 a3 h3 a4 h4 a5 h5 a6 h6 a7 h7 a8 h8 a9 h9 a10 h10 a11 h11 a12 h12 a13 h13 hc0 x0 x1 x2 x3 x4 x5) (Rect.unit (s := S256x2816) ![0, 0] S256x2816.size inb_S256x2816_S256x2816_0_0).toLoadRect (ix2 r f) (ix2 r f) (by idx_ext)) _ _ (by decide) w
  exact List.forall_mem_nil _

/-- What the point leaves: output. -/
theorem oA6 : out0_A_6 c i a1 h1 a2 h2 a3 h3 a4 h4 a5 h5 a6 h6 a7 h7 a8 h8 a9 h9 a10 h10 a11 h11 a12 h12 a13 h13 hc0 x0 x1 x2 x3 x4 x5 = G6 x0 x5 (BA x0 x1 x2 x3 x4 (fun _ => (0 : EReal))) := by
  funext y
  unfold out0_A_6
  exact View.read_writes_apply_of_pieces _ _ _ _ (pA6 c i a1 h1 a2 h2 a3 h3 a4 h4 a5 h5 a6 h6 a7 h7 a8 h8 a9 h9 a10 h10 a11 h11 a12 h12 a13 h13 hc0 x0 x1 x2 x3 x4 x5) y (cover0_A_6 c i a1 h1 a2 h2 a3 h3 a4 h4 a5 h5 a6 h6 a7 h7 a8 h8 a9 h9 a10 h10 a11 h11 a12 h12 a13 h13 hc0 x0 x1 x2 x3 x4 x5 y)

/-- What the point leaves: normed input. -/
theorem oA7 : out0_A_7 c i a1 h1 a2 h2 a3 h3 a4 h4 a5 h5 a6 h6 a7 h7 a8 h8 a9 h9 a10 h10 a11 h11 a12 h12 a13 h13 hc0 x0 x1 x2 x3 x4 x5 = G7 x0 x1 := by
  funext y
  unfold out0_A_7
  exact View.read_writes_apply_of_pieces _ _ _ _ (pA7 c i a1 h1 a2 h2 a3 h3 a4 h4 a5 h5 a6 h6 a7 h7 a8 h8 a9 h9 a10 h10 a11 h11 a12 h12 a13 h13 hc0 x0 x1 x2 x3 x4 x5) y (cover0_A_7 c i a1 h1 a2 h2 a3 h3 a4 h4 a5 h5 a6 h6 a7 h7 a8 h8 a9 h9 a10 h10 a11 h11 a12 h12 a13 h13 hc0 x0 x1 x2 x3 x4 x5 y)

/-- What the point leaves: up projection. -/
theorem oA8 : out0_A_8 c i a1 h1 a2 h2 a3 h3 a4 h4 a5 h5 a6 h6 a7 h7 a8 h8 a9 h9 a10 h10 a11 h11 a12 h12 a13 h13 hc0 x0 x1 x2 x3 x4 x5 = G8 x0 x1 x2 := by
  funext y
  unfold out0_A_8
  exact View.read_writes_apply_of_pieces _ _ _ _ (pA8 c i a1 h1 a2 h2 a3 h3 a4 h4 a5 h5 a6 h6 a7 h7 a8 h8 a9 h9 a10 h10 a11 h11 a12 h12 a13 h13 hc0 x0 x1 x2 x3 x4 x5) y (cover0_A_8 c i a1 h1 a2 h2 a3 h3 a4 h4 a5 h5 a6 h6 a7 h7 a8 h8 a9 h9 a10 h10 a11 h11 a12 h12 a13 h13 hc0 x0 x1 x2 x3 x4 x5 y)

/-- What the point leaves: gate. -/
theorem oA9 : out0_A_9 c i a1 h1 a2 h2 a3 h3 a4 h4 a5 h5 a6 h6 a7 h7 a8 h8 a9 h9 a10 h10 a11 h11 a12 h12 a13 h13 hc0 x0 x1 x2 x3 x4 x5 = G9 x0 x1 x2 x3 x4 (fun _ => (0 : EReal)) := by
  funext y
  unfold out0_A_9
  exact View.read_writes_apply_of_pieces _ _ _ _ (pA9 c i a1 h1 a2 h2 a3 h3 a4 h4 a5 h5 a6 h6 a7 h7 a8 h8 a9 h9 a10 h10 a11 h11 a12 h12 a13 h13 hc0 x0 x1 x2 x3 x4 x5) y (cover0_A_9 c i a1 h1 a2 h2 a3 h3 a4 h4 a5 h5 a6 h6 a7 h7 a8 h8 a9 h9 a10 h10 a11 h11 a12 h12 a13 h13 hc0 x0 x1 x2 x3 x4 x5 y)

/-- What the point leaves: activation. -/
theorem oA10 : out0_A_10 c i a1 h1 a2 h2 a3 h3 a4 h4 a5 h5 a6 h6 a7 h7 a8 h8 a9 h9 a10 h10 a11 h11 a12 h12 a13 h13 hc0 x0 x1 x2 x3 x4 x5 = G10 x0 x1 x2 x3 x4 (fun _ => (0 : EReal)) := by
  funext y
  unfold out0_A_10
  exact View.read_writes_apply_of_pieces _ _ _ _ (pA10 c i a1 h1 a2 h2 a3 h3 a4 h4 a5 h5 a6 h6 a7 h7 a8 h8 a9 h9 a10 h10 a11 h11 a12 h12 a13 h13 hc0 x0 x1 x2 x3 x4 x5) y (cover0_A_10 c i a1 h1 a2 h2 a3 h3 a4 h4 a5 h5 a6 h6 a7 h7 a8 h8 a9 h9 a10 h10 a11 h11 a12 h12 a13 h13 hc0 x0 x1 x2 x3 x4 x5 y)

/-- What the point leaves: carried rows. -/
theorem sA : sout0_A_0 c i a1 h1 a2 h2 a3 h3 a4 h4 a5 h5 a6 h6 a7 h7 a8 h8 a9 h9 a10 h10 a11 h11 a12 h12 a13 h13 hc0 x0 x1 x2 x3 x4 x5 = GS x0 x1 x2 := by
  funext y
  unfold sout0_A_0
  have e : (kernelRun0_A c i a1 h1 a2 h2 a3 h3 a4 h4 a5 h5 a6 h6 a7 h7 a8 h8 a9 h9 a10 h10 a11 h11 a12 h12 a13 h13 hc0 x0 x1 x2 x3 x4 x5).2.2.2.2.2.1 = ((kernelRun0_A c i a1 h1 a2 h2 a3 h3 a4 h4 a5 h5 a6 h6 a7 h7 a8 h8 a9 h9 a10 h10 a11 h11 a12 h12 a13 h13 hc0 x0 x1 x2 x3 x4 x5).2.2.2.2.2.1).dropLast ++ [((kernelRun0_A c i a1 h1 a2 h2 a3 h3 a4 h4 a5 h5 a6 h6 a7 h7 a8 h8 a9 h9 a10 h10 a11 h11 a12 h12 a13 h13 hc0 x0 x1 x2 x3 x4 x5).2.2.2.2.2.1).getLast (List.cons_ne_nil _ _)] := (List.dropLast_append_getLast _).symm
  rw [e]
  exact read_pieces_append _ _ _ _ _ (pAS c i a1 h1 a2 h2 a3 h3 a4 h4 a5 h5 a6 h6 a7 h7 a8 h8 a9 h9 a10 h10 a11 h11 a12 h12 a13 h13 hc0 x0 x1 x2 x3 x4 x5) (View.cover_of_tiledL _ S8x256.size (by sl_kernel_rfl)) y

end FfnMid
-- ==== Proof.MidCaseB.lean ====
module

public import proofs.«01_k».proof.Proof.MidBlock

/-! The contents the forward body without the loss leaves at a point that continues the carry. -/

@[expose] public section

set_option maxRecDepth 16384

noncomputable section

namespace FfnMid

open Pieces (readAt_whole readCov_pieces read_pieces_append missL not_mem_of_missL readCov_first)
open Idealize.ShloMosaic Idealize.ShloMosaic.TcCoe Idealize.SL.Sem
open Cert.Kernel14Ideal Cert.Kernel14Ideal.Gen

variable (c : Dev nD) (i : grid0.Coords) (a1 : Memref sig .tc .vmem S256x1024 .f32) (h1 : a1.IsWhole) (a2 : Memref sig .tc .vmem S1x1024 .f32) (h2 : a2.IsWhole) (a3 : Memref sig .tc .vmem S1024x5632 .bf16) (h3 : a3.IsWhole) (a4 : Memref sig .tc .vmem S3x2816 .f32) (h4 : a4.IsWhole) (a5 : Memref sig .tc .vmem S1x2816 .f32) (h5 : a5.IsWhole) (a6 : Memref sig .tc .vmem S2816x1024 .bf16) (h6 : a6.IsWhole) (a7 : Memref sig .tc .vmem S256x1024 .f32) (h7 : a7.IsWhole) (a8 : Memref sig .tc .vmem S256x1024 .bf16) (h8 : a8.IsWhole) (a9 : Memref sig .tc .vmem S256x5632 .bf16) (h9 : a9.IsWhole) (a10 : Memref sig .tc .vmem S256x2816 .bf16) (h10 : a10.IsWhole) (a11 : Memref sig .tc .vmem S256x2816 .bf16) (h11 : a11.IsWhole) (a12 : Memref sig .tc .vmem S8x2816 .f32) (h12 : a12.IsWhole) (a13 : Memref sig .tc .vmem S264x256 .f32) (h13 : a13.IsWhole) (hc0 : ¬cond0_0 i)
    (x0 : Vec Ideal S256x1024 .f32) (x1 : Vec Ideal S1x1024 .f32) (x2 : Vec Ideal S1024x5632 .bf16) (x3 : Vec Ideal S3x2816 .f32) (x4 : Vec Ideal S1x2816 .f32) (x5 : Vec Ideal S2816x1024 .bf16) (xs0 : Vec Ideal S8x2816 .f32)

set_option maxHeartbeats 4000000 in
/-- The stored pieces: up projection. -/
theorem pB8 : ∀ p ∈ (kernelRun0_B c i a1 h1 a2 h2 a3 h3 a4 h4 a5 h5 a6 h6 a7 h7 a8 h8 a9 h9 a10 h10 a11 h11 a12 h12 a13 h13 hc0 x0 x1 x2 x3 x4 x5 xs0).2.2.1, ∀ x : p.1.shape.Idx, p.2 x = G8 x0 x1 x2 (p.1.emb x) := by
  refine List.forall_mem_cons.2 ⟨?_, ?_⟩
  · exact fun w => piece8 h1 h2 h3 (x0 := x0) (x1 := x1) (x2 := x2) (o := 5376) (by decide) _ _ _ (by decide) w
  refine List.forall_mem_cons.2 ⟨?_, ?_⟩
  · exact fun w => piece8 h1 h2 h3 (x0 := x0) (x1 := x1) (x2 := x2) (o := 2560) (by decide) _ _ _ (by decide) w
  refine List.forall_mem_cons.2 ⟨?_, ?_⟩
  · exact fun w => piece8 h1 h2 h3 (x0 := x0) (x1 := x1) (x2 := x2) (o := 5120) (by decide) _ _ _ (by decide) w
  refine List.forall_mem_cons.2 ⟨?_, ?_⟩
  · exact fun w => piece8 h1 h2 h3 (x0 := x0) (x1 := x1) (x2 := x2) (o := 2304) (by decide) _ _ _ (by decide) w
  refine List.forall_mem_cons.2 ⟨?_, ?_⟩
  · exact fun w => piece8 h1 h2 h3 (x0 := x0) (x1 := x1) (x2 := x2) (o := 4864) (by decide) _ _ _ (by decide) w
  refine List.forall_mem_cons.2 ⟨?_, ?_⟩
  · exact fun w => piece8 h1 h2 h3 (x0 := x0) (x1 := x1) (x2 := x2) (o := 2048) (by decide) _ _ _ (by decide) w
  refine List.forall_mem_cons.2 ⟨?_, ?_⟩
  · exact fun w => piece8 h1 h2 h3 (x0 := x0) (x1 := x1) (x2 := x2) (o := 4608) (by decide) _ _ _ (by decide) w
  refine List.forall_mem_cons.2 ⟨?_, ?_⟩
  · exact fun w => piece8 h1 h2 h3 (x0 := x0) (x1 := x1) (x2 := x2) (o := 1792) (by decide) _ _ _ (by decide) w
  refine List.forall_mem_cons.2 ⟨?_, ?_⟩
  · exact fun w => piece8 h1 h2 h3 (x0 := x0) (x1 := x1) (x2 := x2) (o := 4352) (by decide) _ _ _ (by decide) w
  refine List.forall_mem_cons.2 ⟨?_, ?_⟩
  · exact fun w => piece8 h1 h2 h3 (x0 := x0) (x1 := x1) (x2 := x2) (o := 1536) (by decide) _ _ _ (by decide) w
  refine List.forall_mem_cons.2 ⟨?_, ?_⟩
  · exact fun w => piece8 h1 h2 h3 (x0 := x0) (x1 := x1) (x2 := x2) (o := 4096) (by decide) _ _ _ (by decide) w
  refine List.forall_mem_cons.2 ⟨?_, ?_⟩
  · exact fun w => piece8 h1 h2 h3 (x0 := x0) (x1 := x1) (x2 := x2) (o := 1280) (by decide) _ _ _ (by decide) w
  refine List.forall_mem_cons.2 ⟨?_, ?_⟩
  · exact fun w => piece8 h1 h2 h3 (x0 := x0) (x1 := x1) (x2 := x2) (o := 3840) (by decide) _ _ _ (by decide) w
  refine List.forall_mem_cons.2 ⟨?_, ?_⟩
  · exact fun w => piece8 h1 h2 h3 (x0 := x0) (x1 := x1) (x2 := x2) (o := 1024) (by decide) _ _ _ (by decide) w
  refine List.forall_mem_cons.2 ⟨?_, ?_⟩
  · exact fun w => piece8 h1 h2 h3 (x0 := x0) (x1 := x1) (x2 := x2) (o := 3584) (by decide) _ _ _ (by decide) w
  refine List.forall_mem_cons.2 ⟨?_, ?_⟩
  · exact fun w => piece8 h1 h2 h3 (x0 := x0) (x1 := x1) (x2 := x2) (o := 768) (by decide) _ _ _ (by decide) w
  refine List.forall_mem_cons.2 ⟨?_, ?_⟩
  · exact fun w => piece8 h1 h2 h3 (x0 := x0) (x1 := x1) (x2 := x2) (o := 3328) (by decide) _ _ _ (by decide) w
  refine List.forall_mem_cons.2 ⟨?_, ?_⟩
  · exact fun w => piece8 h1 h2 h3 (x0 := x0) (x1 := x1) (x2 := x2) (o := 512) (by decide) _ _ _ (by decide) w
  refine List.forall_mem_cons.2 ⟨?_, ?_⟩
  · exact fun w => piece8 h1 h2 h3 (x0 := x0) (x1 := x1) (x2 := x2) (o := 3072) (by decide) _ _ _ (by decide) w
  refine List.forall_mem_cons.2 ⟨?_, ?_⟩
  · exact fun w => piece8 h1 h2 h3 (x0 := x0) (x1 := x1) (x2 := x2) (o := 256) (by decide) _ _ _ (by decide) w
  refine List.forall_mem_cons.2 ⟨?_, ?_⟩
  · exact fun w => piece8 h1 h2 h3 (x0 := x0) (x1 := x1) (x2 := x2) (o := 2816) (by decide) _ _ _ (by decide) w
  refine List.forall_mem_cons.2 ⟨?_, ?_⟩
  · exact fun w => piece8 h1 h2 h3 (x0 := x0) (x1 := x1) (x2 := x2) (o := 0) (by decide) _ _ _ (by decide) w
  exact List.forall_mem_nil _

set_option maxHeartbeats 4000000 in
/-- The stored pieces: gate. -/
theorem pB9 : ∀ p ∈ (kernelRun0_B c i a1 h1 a2 h2 a3 h3 a4 h4 a5 h5 a6 h6 a7 h7 a8 h8 a9 h9 a10 h10 a11 h11 a12 h12 a13 h13 hc0 x0 x1 x2 x3 x4 x5 xs0).2.2.2.1, ∀ x : p.1.shape.Idx, p.2 x = G9 x0 x1 x2 x3 x4 xs0 (p.1.emb x) := by
  refine List.forall_mem_cons.2 ⟨?_, ?_⟩
  · exact fun w => piece9 h1 h2 h3 h4 h5 xs0 (x0 := x0) (x1 := x1) (x2 := x2) (x3 := x3) (x4 := x4) (o := 2560) (by decide) _ _ _ _ _ _ _ _ (fun r c => readAt_whole h12 xs0 _ _ _ (by idx_ext)) _ _ _ _ (by decide) w
  refine List.forall_mem_cons.2 ⟨?_, ?_⟩
  · exact fun w => piece9 h1 h2 h3 h4 h5 xs0 (x0 := x0) (x1 := x1) (x2 := x2) (x3 := x3) (x4 := x4) (o := 2304) (by decide) _ _ _ _ _ _ _ _ (fun r c => readAt_whole h12 xs0 _ _ _ (by idx_ext)) _ _ _ _ (by decide) w
  refine List.forall_mem_cons.2 ⟨?_, ?_⟩
  · exact fun w => piece9 h1 h2 h3 h4 h5 xs0 (x0 := x0) (x1 := x1) (x2 := x2) (x3 := x3) (x4 := x4) (o := 2048) (by decide) _ _ _ _ _ _ _ _ (fun r c => readAt_whole h12 xs0 _ _ _ (by idx_ext)) _ _ _ _ (by decide) w
  refine List.forall_mem_cons.2 ⟨?_, ?_⟩
  · exact fun w => piece9 h1 h2 h3 h4 h5 xs0 (x0 := x0) (x1 := x1) (x2 := x2) (x3 := x3) (x4 := x4) (o := 1792) (by decide) _ _ _ _ _ _ _ _ (fun r c => readAt_whole h12 xs0 _ _ _ (by idx_ext)) _ _ _ _ (by decide) w
  refine List.forall_mem_cons.2 ⟨?_, ?_⟩
  · exact fun w => piece9 h1 h2 h3 h4 h5 xs0 (x0 := x0) (x1 := x1) (x2 := x2) (x3 := x3) (x4 := x4) (o := 1536) (by decide) _ _ _ _ _ _ _ _ (fun r c => readAt_whole h12 xs0 _ _ _ (by idx_ext)) _ _ _ _ (by decide) w
  refine List.forall_mem_cons.2 ⟨?_, ?_⟩
  · exact fun w => piece9 h1 h2 h3 h4 h5 xs0 (x0 := x0) (x1 := x1) (x2 := x2) (x3 := x3) (x4 := x4) (o := 1280) (by decide) _ _ _ _ _ _ _ _ (fun r c => readAt_whole h12 xs0 _ _ _ (by idx_ext)) _ _ _ _ (by decide) w
  refine List.forall_mem_cons.2 ⟨?_, ?_⟩
  · exact fun w => piece9 h1 h2 h3 h4 h5 xs0 (x0 := x0) (x1 := x1) (x2 := x2) (x3 := x3) (x4 := x4) (o := 1024) (by decide) _ _ _ _ _ _ _ _ (fun r c => readAt_whole h12 xs0 _ _ _ (by idx_ext)) _ _ _ _ (by decide) w
  refine List.forall_mem_cons.2 ⟨?_, ?_⟩
  · exact fun w => piece9 h1 h2 h3 h4 h5 xs0 (x0 := x0) (x1 := x1) (x2 := x2) (x3 := x3) (x4 := x4) (o := 768) (by decide) _ _ _ _ _ _ _ _ (fun r c => readAt_whole h12 xs0 _ _ _ (by idx_ext)) _ _ _ _ (by decide) w
  refine List.forall_mem_cons.2 ⟨?_, ?_⟩
  · exact fun w => piece9 h1 h2 h3 h4 h5 xs0 (x0 := x0) (x1 := x1) (x2 := x2) (x3 := x3) (x4 := x4) (o := 512) (by decide) _ _ _ _ _ _ _ _ (fun r c => readAt_whole h12 xs0 _ _ _ (by idx_ext)) _ _ _ _ (by decide) w
  refine List.forall_mem_cons.2 ⟨?_, ?_⟩
  · exact fun w => piece9 h1 h2 h3 h4 h5 xs0 (x0 := x0) (x1 := x1) (x2 := x2) (x3 := x3) (x4 := x4) (o := 256) (by decide) _ _ _ _ _ _ _ _ (fun r c => readAt_whole h12 xs0 _ _ _ (by idx_ext)) _ _ _ _ (by decide) w
  refine List.forall_mem_cons.2 ⟨?_, ?_⟩
  · exact fun w => piece9 h1 h2 h3 h4 h5 xs0 (x0 := x0) (x1 := x1) (x2 := x2) (x3 := x3) (x4 := x4) (o := 0) (by decide) _ _ _ _ _ _ _ _ (fun r c => readAt_whole h12 xs0 _ _ _ (by idx_ext)) _ _ _ _ (by decide) w
  exact List.forall_mem_nil _

set_option maxHeartbeats 4000000 in
/-- The stored pieces: activation. -/
theorem pB10 : ∀ p ∈ (kernelRun0_B c i a1 h1 a2 h2 a3 h3 a4 h4 a5 h5 a6 h6 a7 h7 a8 h8 a9 h9 a10 h10 a11 h11 a12 h12 a13 h13 hc0 x0 x1 x2 x3 x4 x5 xs0).2.2.2.2.1, ∀ x : p.1.shape.Idx, p.2 x = G10 x0 x1 x2 x3 x4 xs0 (p.1.emb x) := by
  refine List.forall_mem_cons.2 ⟨?_, ?_⟩
  · exact fun w => piece10 h1 h2 h3 h4 h5 xs0 (x0 := x0) (x1 := x1) (x2 := x2) (x3 := x3) (x4 := x4) (o := 2560) (ou := 5376) (by decide) rfl _ _ _ _ _ _ _ _ _ (fun r c => readAt_whole h12 xs0 _ _ _ (by idx_ext)) _ _ _ _ (by decide) w
  refine List.forall_mem_cons.2 ⟨?_, ?_⟩
  · exact fun w => piece10 h1 h2 h3 h4 h5 xs0 (x0 := x0) (x1 := x1) (x2 := x2) (x3 := x3) (x4 := x4) (o := 2304) (ou := 5120) (by decide) rfl _ _ _ _ _ _ _ _ _ (fun r c => readAt_whole h12 xs0 _ _ _ (by idx_ext)) _ _ _ _ (by decide) w
  refine List.forall_mem_cons.2 ⟨?_, ?_⟩
  · exact fun w => piece10 h1 h2 h3 h4 h5 xs0 (x0 := x0) (x1 := x1) (x2 := x2) (x3 := x3) (x4 := x4) (o := 2048) (ou := 4864) (by decide) rfl _ _ _ _ _ _ _ _ _ (fun r c => readAt_whole h12 xs0 _ _ _ (by idx_ext)) _ _ _ _ (by decide) w
  refine List.forall_mem_cons.2 ⟨?_, ?_⟩
  · exact fun w => piece10 h1 h2 h3 h4 h5 xs0 (x0 := x0) (x1 := x1) (x2 := x2) (x3 := x3) (x4 := x4) (o := 1792) (ou := 4608) (by decide) rfl _ _ _ _ _ _ _ _ _ (fun r c => readAt_whole h12 xs0 _ _ _ (by idx_ext)) _ _ _ _ (by decide) w
  refine List.forall_mem_cons.2 ⟨?_, ?_⟩
  · exact fun w => piece10 h1 h2 h3 h4 h5 xs0 (x0 := x0) (x1 := x1) (x2 := x2) (x3 := x3) (x4 := x4) (o := 1536) (ou := 4352) (by decide) rfl _ _ _ _ _ _ _ _ _ (fun r c => readAt_whole h12 xs0 _ _ _ (by idx_ext)) _ _ _ _ (by decide) w
  refine List.forall_mem_cons.2 ⟨?_, ?_⟩
  · exact fun w => piece10 h1 h2 h3 h4 h5 xs0 (x0 := x0) (x1 := x1) (x2 := x2) (x3 := x3) (x4 := x4) (o := 1280) (ou := 4096) (by decide) rfl _ _ _ _ _ _ _ _ _ (fun r c => readAt_whole h12 xs0 _ _ _ (by idx_ext)) _ _ _ _ (by decide) w
  refine List.forall_mem_cons.2 ⟨?_, ?_⟩
  · exact fun w => piece10 h1 h2 h3 h4 h5 xs0 (x0 := x0) (x1 := x1) (x2 := x2) (x3 := x3) (x4 := x4) (o := 1024) (ou := 3840) (by decide) rfl _ _ _ _ _ _ _ _ _ (fun r c => readAt_whole h12 xs0 _ _ _ (by idx_ext)) _ _ _ _ (by decide) w
  refine List.forall_mem_cons.2 ⟨?_, ?_⟩
  · exact fun w => piece10 h1 h2 h3 h4 h5 xs0 (x0 := x0) (x1 := x1) (x2 := x2) (x3 := x3) (x4 := x4) (o := 768) (ou := 3584) (by decide) rfl _ _ _ _ _ _ _ _ _ (fun r c => readAt_whole h12 xs0 _ _ _ (by idx_ext)) _ _ _ _ (by decide) w
  refine List.forall_mem_cons.2 ⟨?_, ?_⟩
  · exact fun w => piece10 h1 h2 h3 h4 h5 xs0 (x0 := x0) (x1 := x1) (x2 := x2) (x3 := x3) (x4 := x4) (o := 512) (ou := 3328) (by decide) rfl _ _ _ _ _ _ _ _ _ (fun r c => readAt_whole h12 xs0 _ _ _ (by idx_ext)) _ _ _ _ (by decide) w
  refine List.forall_mem_cons.2 ⟨?_, ?_⟩
  · exact fun w => piece10 h1 h2 h3 h4 h5 xs0 (x0 := x0) (x1 := x1) (x2 := x2) (x3 := x3) (x4 := x4) (o := 256) (ou := 3072) (by decide) rfl _ _ _ _ _ _ _ _ _ (fun r c => readAt_whole h12 xs0 _ _ _ (by idx_ext)) _ _ _ _ (by decide) w
  refine List.forall_mem_cons.2 ⟨?_, ?_⟩
  · exact fun w => piece10 h1 h2 h3 h4 h5 xs0 (x0 := x0) (x1 := x1) (x2 := x2) (x3 := x3) (x4 := x4) (o := 0) (ou := 2816) (by decide) rfl _ _ _ _ _ _ _ _ _ (fun r c => readAt_whole h12 xs0 _ _ _ (by idx_ext)) _ _ _ _ (by decide) w
  exact List.forall_mem_nil _

set_option maxHeartbeats 4000000 in
/-- The stored pieces: carried rows. -/
theorem pBS : ∀ p ∈ (kernelRun0_B c i a1 h1 a2 h2 a3 h3 a4 h4 a5 h5 a6 h6 a7 h7 a8 h8 a9 h9 a10 h10 a11 h11 a12 h12 a13 h13 hc0 x0 x1 x2 x3 x4 x5 xs0).2.2.2.2.2.1, ∀ x : p.1.shape.Idx, p.2 x = GS x0 x1 x2 (p.1.emb x) := by
  refine List.forall_mem_cons.2 ⟨?_, ?_⟩
  · exact fun w => pieceS h1 h2 h3 (x0 := x0) (x1 := x1) (x2 := x2) (o := 2560) (by decide) _ _ _ (by decide) w
  refine List.forall_mem_cons.2 ⟨?_, ?_⟩
  · exact fun w => pieceS h1 h2 h3 (x0 := x0) (x1 := x1) (x2 := x2) (o := 2304) (by decide) _ _ _ (by decide) w
  refine List.forall_mem_cons.2 ⟨?_, ?_⟩
  · exact fun w => pieceS h1 h2 h3 (x0 := x0) (x1 := x1) (x2 := x2) (o := 2048) (by decide) _ _ _ (by decide) w
  refine List.forall_mem_cons.2 ⟨?_, ?_⟩
  · exact fun w => pieceS h1 h2 h3 (x0 := x0) (x1 := x1) (x2 := x2) (o := 1792) (by decide) _ _ _ (by decide) w
  refine List.forall_mem_cons.2 ⟨?_, ?_⟩
  · exact fun w => pieceS h1 h2 h3 (x0 := x0) (x1 := x1) (x2 := x2) (o := 1536) (by decide) _ _ _ (by decide) w
  refine List.forall_mem_cons.2 ⟨?_, ?_⟩
  · exact fun w => pieceS h1 h2 h3 (x0 := x0) (x1 := x1) (x2 := x2) (o := 1280) (by decide) _ _ _ (by decide) w
  refine List.forall_mem_cons.2 ⟨?_, ?_⟩
  · exact fun w => pieceS h1 h2 h3 (x0 := x0) (x1 := x1) (x2 := x2) (o := 1024) (by decide) _ _ _ (by decide) w
  refine List.forall_mem_cons.2 ⟨?_, ?_⟩
  · exact fun w => pieceS h1 h2 h3 (x0 := x0) (x1 := x1) (x2 := x2) (o := 768) (by decide) _ _ _ (by decide) w
  refine List.forall_mem_cons.2 ⟨?_, ?_⟩
  · exact fun w => pieceS h1 h2 h3 (x0 := x0) (x1 := x1) (x2 := x2) (o := 512) (by decide) _ _ _ (by decide) w
  refine List.forall_mem_cons.2 ⟨?_, ?_⟩
  · exact fun w => pieceS h1 h2 h3 (x0 := x0) (x1 := x1) (x2 := x2) (o := 256) (by decide) _ _ _ (by decide) w
  refine List.forall_mem_cons.2 ⟨?_, ?_⟩
  · exact fun w => pieceS h1 h2 h3 (x0 := x0) (x1 := x1) (x2 := x2) (o := 0) (by decide) _ _ _ (by decide) w
  exact List.forall_mem_nil _

set_option maxHeartbeats 4000000 in
/-- The stored pieces: normed input. -/
theorem pB7 : ∀ p ∈ (kernelRun0_B c i a1 h1 a2 h2 a3 h3 a4 h4 a5 h5 a6 h6 a7 h7 a8 h8 a9 h9 a10 h10 a11 h11 a12 h12 a13 h13 hc0 x0 x1 x2 x3 x4 x5 xs0).2.1, ∀ x : p.1.shape.Idx, p.2 x = G7 x0 x1 (p.1.emb x) := by
  refine List.forall_mem_cons.2 ⟨?_, ?_⟩
  · exact fun w => piece7 h1 h2 _ _ (by decide) w
  exact List.forall_mem_nil _

set_option maxHeartbeats 4000000 in
/-- The stored pieces: output. -/
theorem pB6 : ∀ p ∈ (kernelRun0_B c i a1 h1 a2 h2 a3 h3 a4 h4 a5 h5 a6 h6 a7 h7 a8 h8 a9 h9 a10 h10 a11 h11 a12 h12 a13 h13 hc0 x0 x1 x2 x3 x4 x5 xs0).1, ∀ x : p.1.shape.Idx, p.2 x = G6 x0 x5 (BA x0 x1 x2 x3 x4 xs0) (p.1.emb x) := by
  refine List.forall_mem_cons.2 ⟨?_, ?_⟩
  · exact fun w => piece6 h1 h6 (a := (BA x0 x1 x2 x3 x4 xs0)) (fun r f => readCov_pieces a11.view (kernelRun0_B c i a1 h1 a2 h2 a3 h3 a4 h4 a5 h5 a6 h6 a7 h7 a8 h8 a9 h9 a10 h10 a11 h11 a12 h12 a13 h13 hc0 x0 x1 x2 x3 x4 x5 xs0).2.2.2.2.1 (G10 x0 x1 x2 x3 x4 xs0) (pB10 c i a1 h1 a2 h2 a3 h3 a4 h4 a5 h5 a6 h6 a7 h7 a8 h8 a9 h9 a10 h10 a11 h11 a12 h12 a13 h13 hc0 x0 x1 x2 x3 x4 x5 xs0) (cover0_B_10 c i a1 h1 a2 h2 a3 h3 a4 h4 a5 h5 a6 h6 a7 h7 a8 h8 a9 h9 a10 h10 a11 h11 a12 h12 a13 h13 hc0 x0 x1 x2 x3 x4 x5 xs0) (Rect.unit (s := S256x2816) ![0, 0] S256x2816.size inb_S256x2816_S256x2816_0_0).toLoadRect (ix2 r f) (ix2 r f) (by idx_ext)) _ _ (by decide) w
  exact List.forall_mem_nil _

/-- What the point leaves: output. -/
theorem oB6 : out0_B_6 c i a1 h1 a2 h2 a3 h3 a4 h4 a5 h5 a6 h6 a7 h7 a8 h8 a9 h9 a10 h10 a11 h11 a12 h12 a13 h13 hc0 x0 x1 x2 x3 x4 x5 xs0 = G6 x0 x5 (BA x0 x1 x2 x3 x4 xs0) := by
  funext y
  unfold out0_B_6
  exact View.read_writes_apply_of_pieces _ _ _ _ (pB6 c i a1 h1 a2 h2 a3 h3 a4 h4 a5 h5 a6 h6 a7 h7 a8 h8 a9 h9 a10 h10 a11 h11 a12 h12 a13 h13 hc0 x0 x1 x2 x3 x4 x5 xs0) y (cover0_B_6 c i a1 h1 a2 h2 a3 h3 a4 h4 a5 h5 a6 h6 a7 h7 a8 h8 a9 h9 a10 h10 a11 h11 a12 h12 a13 h13 hc0 x0 x1 x2 x3 x4 x5 xs0 y)

/-- What the point leaves: normed input. -/
theorem oB7 : out0_B_7 c i a1 h1 a2 h2 a3 h3 a4 h4 a5 h5 a6 h6 a7 h7 a8 h8 a9 h9 a10 h10 a11 h11 a12 h12 a13 h13 hc0 x0 x1 x2 x3 x4 x5 xs0 = G7 x0 x1 := by
  funext y
  unfold out0_B_7
  exact View.read_writes_apply_of_pieces _ _ _ _ (pB7 c i a1 h1 a2 h2 a3 h3 a4 h4 a5 h5 a6 h6 a7 h7 a8 h8 a9 h9 a10 h10 a11 h11 a12 h12 a13 h13 hc0 x0 x1 x2 x3 x4 x5 xs0) y (cover0_B_7 c i a1 h1 a2 h2 a3 h3 a4 h4 a5 h5 a6 h6 a7 h7 a8 h8 a9 h9 a10 h10 a11 h11 a12 h12 a13 h13 hc0 x0 x1 x2 x3 x4 x5 xs0 y)

/-- What the point leaves: up projection. -/
theorem oB8 : out0_B_8 c i a1 h1 a2 h2 a3 h3 a4 h4 a5 h5 a6 h6 a7 h7 a8 h8 a9 h9 a10 h10 a11 h11 a12 h12 a13 h13 hc0 x0 x1 x2 x3 x4 x5 xs0 = G8 x0 x1 x2 := by
  funext y
  unfold out0_B_8
  exact View.read_writes_apply_of_pieces _ _ _ _ (pB8 c i a1 h1 a2 h2 a3 h3 a4 h4 a5 h5 a6 h6 a7 h7 a8 h8 a9 h9 a10 h10 a11 h11 a12 h12 a13 h13 hc0 x0 x1 x2 x3 x4 x5 xs0) y (cover0_B_8 c i a1 h1 a2 h2 a3 h3 a4 h4 a5 h5 a6 h6 a7 h7 a8 h8 a9 h9 a10 h10 a11 h11 a12 h12 a13 h13 hc0 x0 x1 x2 x3 x4 x5 xs0 y)

/-- What the point leaves: gate. -/
theorem oB9 : out0_B_9 c i a1 h1 a2 h2 a3 h3 a4 h4 a5 h5 a6 h6 a7 h7 a8 h8 a9 h9 a10 h10 a11 h11 a12 h12 a13 h13 hc0 x0 x1 x2 x3 x4 x5 xs0 = G9 x0 x1 x2 x3 x4 xs0 := by
  funext y
  unfold out0_B_9
  exact View.read_writes_apply_of_pieces _ _ _ _ (pB9 c i a1 h1 a2 h2 a3 h3 a4 h4 a5 h5 a6 h6 a7 h7 a8 h8 a9 h9 a10 h10 a11 h11 a12 h12 a13 h13 hc0 x0 x1 x2 x3 x4 x5 xs0) y (cover0_B_9 c i a1 h1 a2 h2 a3 h3 a4 h4 a5 h5 a6 h6 a7 h7 a8 h8 a9 h9 a10 h10 a11 h11 a12 h12 a13 h13 hc0 x0 x1 x2 x3 x4 x5 xs0 y)

/-- What the point leaves: activation. -/
theorem oB10 : out0_B_10 c i a1 h1 a2 h2 a3 h3 a4 h4 a5 h5 a6 h6 a7 h7 a8 h8 a9 h9 a10 h10 a11 h11 a12 h12 a13 h13 hc0 x0 x1 x2 x3 x4 x5 xs0 = G10 x0 x1 x2 x3 x4 xs0 := by
  funext y
  unfold out0_B_10
  exact View.read_writes_apply_of_pieces _ _ _ _ (pB10 c i a1 h1 a2 h2 a3 h3 a4 h4 a5 h5 a6 h6 a7 h7 a8 h8 a9 h9 a10 h10 a11 h11 a12 h12 a13 h13 hc0 x0 x1 x2 x3 x4 x5 xs0) y (cover0_B_10 c i a1 h1 a2 h2 a3 h3 a4 h4 a5 h5 a6 h6 a7 h7 a8 h8 a9 h9 a10 h10 a11 h11 a12 h12 a13 h13 hc0 x0 x1 x2 x3 x4 x5 xs0 y)

/-- What the point leaves: carried rows. -/
theorem sB : sout0_B_0 c i a1 h1 a2 h2 a3 h3 a4 h4 a5 h5 a6 h6 a7 h7 a8 h8 a9 h9 a10 h10 a11 h11 a12 h12 a13 h13 hc0 x0 x1 x2 x3 x4 x5 xs0 = GS x0 x1 x2 := by
  funext y
  unfold sout0_B_0
  exact View.read_writes_apply_of_pieces _ _ _ _ (pBS c i a1 h1 a2 h2 a3 h3 a4 h4 a5 h5 a6 h6 a7 h7 a8 h8 a9 h9 a10 h10 a11 h11 a12 h12 a13 h13 hc0 x0 x1 x2 x3 x4 x5 xs0) y (scover0_B_0 c i a1 h1 a2 h2 a3 h3 a4 h4 a5 h5 a6 h6 a7 h7 a8 h8 a9 h9 a10 h10 a11 h11 a12 h12 a13 h13 hc0 x0 x1 x2 x3 x4 x5 xs0 y)

end FfnMid
-- ==== Proof.MidPoints.lean ====
module

public import proofs.«01_k».proof.Proof.MidRef
public import proofs.«01_k».proof.Proof.MidCaseA
public import proofs.«01_k».proof.Proof.MidCaseB
public import Idealize.ShloMosaic.Lib.Pipeline.ValueKit

/-! What the arrays of the forward ConvFFN without the loss hold after the grid. -/

@[expose] public section

set_option maxRecDepth 16384

noncomputable section

namespace FfnMid

open Idealize.ShloMosaic Idealize.ShloMosaic.TcCoe Idealize.SL.Sem
open Idealize.ShloMosaic.Pipeline (Dat)
open Cert.Kernel14Ideal Cert.Kernel14Ideal.Gen
open FfnFwd (rt nrm upr gat act res)

/-- The row of the arrays the block of point `t` holds at `r`. -/
def row (t : Fin 64) (r : Fin 256) : Fin 16384 := ⟨t.val * 256 + r.val, by omega⟩

section
variable {z0 : FVec Ideal S16384x1024 .f32} {z1 : FVec Ideal S1x1024 .f32} {z2 : FVec Ideal S1024x5632 .f32} {z3 : FVec Ideal S3x2816 .f32}
  {z4 : FVec Ideal S2816 .f32} {z5 : FVec Ideal S2816x1024 .f32}
  {x0 : FVec Ideal S256x1024 .f32} {x1 : FVec Ideal S1x1024 .f32} {x2 : FVec Ideal S1024x5632 .bf16} {x3 : FVec Ideal S3x2816 .f32}
  {x4 : FVec Ideal S1x2816 .f32} {x5 : FVec Ideal S2816x1024 .bf16}
  {cy : FVec Ideal S8x2816 .f32} {t : Fin 64}
  (h0 : ∀ r d, x0 (ix2 r d) = z0 (ix2 (row t r) d)) (h1 : ∀ d, x1 (ix2 0 d) = z1 (ix2 0 d)) (h2 : ∀ d f, x2 (ix2 d f) = z2 (ix2 d f))
  (h3 : ∀ j f, x3 (ix2 j f) = z3 (ix2 j f)) (h4 : ∀ f, x4 (ix2 0 f) = z4 (ix1 f)) (h5 : ∀ f d, x5 (ix2 f d) = z5 (ix2 f d))
  (hcy : ∀ (q : Fin 8) (c : Fin 2816), cy (ix2 q c) = if h : t.val = 0 then 0 else fU z0 z1 z2 (row ⟨t.val - 1, by omega⟩ ⟨248 + q.val, by omega⟩) ⟨c.val, by omega⟩)

include h0 h1 in
/-- The normed input, by rows of the block. -/
theorem H_rows (r d) : BH x0 x1 r d = fH z0 z1 (row t r) d := by
  unfold BH fH
  simp only [h0, h1]

include h0 h1 h2 in
/-- The up projection, by rows of the block. -/
theorem U_rows (r f) : BU x0 x1 x2 r f = fU z0 z1 z2 (row t r) f := by
  unfold BU fU
  simp only [h0, h1, h2]

include h0 h1 h2 hcy in
/-- The shifted up projection, by rows of the block. -/
theorem P_rows {k : ℕ} (hk : k < 8) (hk0 : 0 < k) (r c) : BP x0 x1 x2 cy k r c = fP z0 z1 z2 k (row t r) c := by
  unfold BP fP
  by_cases h : k ≤ r.val
  · rw [dif_pos h, U_rows h0 h1 h2, dif_neg (by unfold row; dsimp only; omega)]
    congr 1
    unfold row
    ext
    dsimp only
    omega
  · rw [dif_neg h, hcy]
    by_cases h' : t.val = 0
    · rw [dif_pos h', dif_pos (by unfold row; dsimp only; omega)]
    · rw [dif_neg h', dif_neg (by unfold row; dsimp only; omega)]
      congr 1
      unfold row
      ext
      dsimp only
      omega

include h0 h1 h2 h3 h4 hcy in
/-- The gate, by rows of the block. -/
theorem G_rows (r c) : BG x0 x1 x2 x3 x4 cy r c = fG z0 z1 z2 z3 z4 (row t r) c := by
  unfold BG fG gat
  simp only [P_rows h0 h1 h2 hcy (show 2 < 8 by decide) (by decide), P_rows h0 h1 h2 hcy (show 1 < 8 by decide) (by decide), U_rows h0 h1 h2, h3, h4]

include h0 h1 h2 h3 h4 hcy in
/-- The activation, by rows of the block. -/
theorem A_rows (r c) : BA x0 x1 x2 x3 x4 cy r c = fA z0 z1 z2 z3 z4 (row t r) c := by
  unfold BA fA
  rw [G_rows h0 h1 h2 h3 h4 hcy, U_rows h0 h1 h2]

include h0 h1 h2 h3 h4 h5 hcy in
/-- The output, by rows of the block. -/
theorem X_rows (r) : BX x0 x5 (BA x0 x1 x2 x3 x4 cy) r = fX z0 z1 z2 z3 z4 z5 (row t r) := by
  funext d
  unfold BX fX res
  simp only [A_rows h0 h1 h2 h3 h4 hcy, h0, h5]

end

variable (m : (ℓ : Loc nD τ sig) → Buf (Elt Ideal) ℓ) (c : Dev nD)

/-- The input at launch. -/
abbrev z0 : FVec Ideal S16384x1024 .f32 := m ((c.tc : Thread nD τ).loc main_arg0)
/-- The scale at launch. -/
abbrev z1 : FVec Ideal S1x1024 .f32 := m ((c.tc : Thread nD τ).loc main_arg1)
/-- The up weight at launch. -/
abbrev z2 : FVec Ideal S1024x5632 .f32 := m ((c.tc : Thread nD τ).loc main_arg2)
/-- The taps at launch. -/
abbrev z3 : FVec Ideal S3x2816 .f32 := m ((c.tc : Thread nD τ).loc main_arg3)
/-- The bias at launch. -/
abbrev z4 : FVec Ideal S2816 .f32 := m ((c.tc : Thread nD τ).loc main_arg4)
/-- The down weight at launch. -/
abbrev z5 : FVec Ideal S2816x1024 .f32 := m ((c.tc : Thread nD τ).loc main_arg5)
/-- The block index of an operand cut into row blocks. -/
theorem idx_big : ∀ t : Fin cfg0.N, win0_0.index t = ![t.val, 0] ∧ win0_6.index t = ![t.val, 0] ∧ win0_7.index t = ![t.val, 0] ∧ win0_8.index t = ![t.val, 0] ∧ win0_9.index t = ![t.val, 0] ∧ win0_10.index t = ![t.val, 0] :=
  (by decide +kernel : ∀ t : Fin grid0.N, win0_0.index t = ![t.val, 0] ∧ win0_6.index t = ![t.val, 0] ∧ win0_7.index t = ![t.val, 0] ∧ win0_8.index t = ![t.val, 0] ∧ win0_9.index t = ![t.val, 0] ∧ win0_10.index t = ![t.val, 0])
/-- The block index of a whole operand is zero. -/
theorem idx_small : ∀ t : Fin cfg0.N, win0_1.index t = ![0, 0] ∧ win0_2.index t = ![0, 0] ∧ win0_3.index t = ![0, 0] ∧ win0_4.index t = ![0, 0] ∧ win0_5.index t = ![0, 0] :=
  (by decide +kernel : ∀ t : Fin grid0.N, win0_1.index t = ![0, 0] ∧ win0_2.index t = ![0, 0] ∧ win0_3.index t = ![0, 0] ∧ win0_4.index t = ![0, 0] ∧ win0_5.index t = ![0, 0])

/-- A point as a number below the count of points. -/
abbrev pt (t : Fin cfg0.N) : Fin 64 := ⟨t.val, lt_of_lt_of_eq t.isLt N_0⟩

variable (t : Fin cfg0.N)

/-- The point's block of the input is its rows. -/
theorem ib0 (r d) : (iblk m c 0 t : FVec Ideal S256x1024 .f32) (ix2 r d) = z0 m c (ix2 (row (pt t) r) d) := by
  unfold row
  blk_point [iblk, V, idx_big t]
/-- The point's block of the scale is the scale. -/
theorem ib1 (d) : (iblk m c 1 t : FVec Ideal S1x1024 .f32) (ix2 0 d) = z1 m c (ix2 0 d) := by
  blk_point [iblk, V, idx_small t]
/-- The point's block of the up weight is the weight. -/
theorem ib2 (d f) : (iblk m c 2 t : FVec Ideal S1024x5632 .bf16) (ix2 d f) = z2 m c (ix2 d f) := by
  blk_point [iblk, V, idx_small t]
/-- The point's block of the taps is the taps. -/
theorem ib3 (j f) : (iblk m c 3 t : FVec Ideal S3x2816 .f32) (ix2 j f) = z3 m c (ix2 j f) := by
  blk_point [iblk, V, idx_small t]
/-- The kernel's bias is the argument as one row. -/
theorem V_b : (V m c main_v1 : FVec Ideal S1x2816 .f32) = shapeCast S1x2816 (z4 m c) shapeCasts_S2816_S1x2816 := by
  unfold V
  after_results
  rfl
/-- The point's block of the bias is the bias. -/
theorem ib4 (f) : (iblk m c 4 t : FVec Ideal S1x2816 .f32) (ix2 0 f) = z4 m c (ix1 f) := by
  have e1 : (iblk m c 4 t : FVec Ideal S1x2816 .f32) (ix2 0 f) = (V m c main_v1 : FVec Ideal S1x2816 .f32) (ix2 0 f) := by
    blk_ext [iblk, idx_small t]
  rw [e1, V_b]
  pointwise
/-- The point's block of the down weight is the weight. -/
theorem ib5 (f d) : (iblk m c 5 t : FVec Ideal S2816x1024 .bf16) (ix2 f d) = z5 m c (ix2 f d) := by
  blk_point [iblk, V, idx_small t]
/-- The normed input over the whole arrays. -/
abbrev kH := fH (z0 m c) (z1 m c)
/-- The up projection over the whole arrays. -/
abbrev kU := fU (z0 m c) (z1 m c) (z2 m c)
/-- The gate over the whole arrays. -/
abbrev kG := fG (z0 m c) (z1 m c) (z2 m c) (z3 m c) (z4 m c)
/-- The activation over the whole arrays. -/
abbrev kA := fA (z0 m c) (z1 m c) (z2 m c) (z3 m c) (z4 m c)
/-- The output over the whole arrays. -/
abbrev kX := fX (z0 m c) (z1 m c) (z2 m c) (z3 m c) (z4 m c) (z5 m c)

/-- The carried rows after a point are the last rows of its own block. -/
theorem carry (q : Fin 8) (f : Fin 2816) : ((outsAt0 m c t.val t.isLt).2.2.2.2.2 : FVec Ideal S8x2816 .f32) (ix2 q f)
    = kU m c (row (pt t) ⟨248 + q.val, by omega⟩) ⟨f.val, by omega⟩ := by
  by_cases h : t.val % 64 = 0
  · rw [outsAt0_A m c t h]
    dsimp only
    rw [sA]
    exact U_rows (ib0 m c t) (ib1 m c t) (ib2 m c t) _ _
  · rw [outsAt0_B m c t h]
    dsimp only
    rw [sB]
    exact U_rows (ib0 m c t) (ib1 m c t) (ib2 m c t) _ _

/-- At the first point nothing is carried. -/
theorem cyA (h : t.val % 64 = 0) (q : Fin 8) (f : Fin 2816) : (fun _ => (0 : EReal) : FVec Ideal S8x2816 .f32) (ix2 q f)
    = if h : (pt t).val = 0 then 0 else kU m c (row ⟨(pt t).val - 1, by omega⟩ ⟨248 + q.val, by omega⟩) ⟨f.val, by omega⟩ := by
  rw [dif_pos]
  have := lt_of_lt_of_eq t.isLt N_0
  show t.val = 0
  omega

/-- At another point the carried rows are those of the point before. -/
theorem cyB (h : ¬t.val % 64 = 0) (q : Fin 8) (f : Fin 2816) :
    ((outsAt0 m c (t.val - 1) (Nat.lt_of_le_of_lt (Nat.sub_le _ _) t.isLt)).2.2.2.2.2 : FVec Ideal S8x2816 .f32) (ix2 q f)
    = if h : (pt t).val = 0 then 0 else kU m c (row ⟨(pt t).val - 1, by omega⟩ ⟨248 + q.val, by omega⟩) ⟨f.val, by omega⟩ := by
  rw [dif_neg (fun h' => h (by rw [show t.val = 0 from h']))]
  exact carry m c ⟨t.val - 1, Nat.lt_of_le_of_lt (Nat.sub_le _ _) t.isLt⟩ q f

/-- The block of the output after a point. -/
theorem at6 (r : Fin 256) (d : Fin 1024) : ((outsAt0 m c t.val t.isLt).1 : FVec Ideal S256x1024 .f32) (ix2 r d)
    = kX m c (row (pt t) r) d := by
  by_cases h : t.val % 64 = 0
  · rw [outsAt0_A m c t h]
    dsimp only
    rw [oA6]
    exact congrFun (X_rows (ib0 m c t) (ib1 m c t) (ib2 m c t) (ib3 m c t) (ib4 m c t) (ib5 m c t) (cyA m c t h) _) _
  · rw [outsAt0_B m c t h]
    dsimp only
    rw [oB6]
    exact congrFun (X_rows (ib0 m c t) (ib1 m c t) (ib2 m c t) (ib3 m c t) (ib4 m c t) (ib5 m c t) (cyB m c t h) _) _

/-- The block of the normed input after a point. -/
theorem at7 (r : Fin 256) (d : Fin 1024) : ((outsAt0 m c t.val t.isLt).2.1 : FVec Ideal S256x1024 .bf16) (ix2 r d)
    = kH m c (row (pt t) r) d := by
  by_cases h : t.val % 64 = 0
  · rw [outsAt0_A m c t h]
    dsimp only
    rw [oA7]
    exact H_rows (ib0 m c t) (ib1 m c t) _ _
  · rw [outsAt0_B m c t h]
    dsimp only
    rw [oB7]
    exact H_rows (ib0 m c t) (ib1 m c t) _ _

/-- The block of the up projection after a point. -/
theorem at8 (r : Fin 256) (d : Fin 5632) : ((outsAt0 m c t.val t.isLt).2.2.1 : FVec Ideal S256x5632 .bf16) (ix2 r d)
    = kU m c (row (pt t) r) d := by
  by_cases h : t.val % 64 = 0
  · rw [outsAt0_A m c t h]
    dsimp only
    rw [oA8]
    exact U_rows (ib0 m c t) (ib1 m c t) (ib2 m c t) _ _
  · rw [outsAt0_B m c t h]
    dsimp only
    rw [oB8]
    exact U_rows (ib0 m c t) (ib1 m c t) (ib2 m c t) _ _

/-- The block of the gate after a point. -/
theorem at9 (r : Fin 256) (d : Fin 2816) : ((outsAt0 m c t.val t.isLt).2.2.2.1 : FVec Ideal S256x2816 .bf16) (ix2 r d)
    = kG m c (row (pt t) r) d := by
  by_cases h : t.val % 64 = 0
  · rw [outsAt0_A m c t h]
    dsimp only
    rw [oA9]
    exact G_rows (ib0 m c t) (ib1 m c t) (ib2 m c t) (ib3 m c t) (ib4 m c t) (cyA m c t h) _ _
  · rw [outsAt0_B m c t h]
    dsimp only
    rw [oB9]
    exact G_rows (ib0 m c t) (ib1 m c t) (ib2 m c t) (ib3 m c t) (ib4 m c t) (cyB m c t h) _ _

/-- The block of the activation after a point. -/
theorem at10 (r : Fin 256) (d : Fin 2816) : ((outsAt0 m c t.val t.isLt).2.2.2.2.1 : FVec Ideal S256x2816 .bf16) (ix2 r d)
    = kA m c (row (pt t) r) d := by
  by_cases h : t.val % 64 = 0
  · rw [outsAt0_A m c t h]
    dsimp only
    rw [oA10]
    exact A_rows (ib0 m c t) (ib1 m c t) (ib2 m c t) (ib3 m c t) (ib4 m c t) (cyA m c t h) _ _
  · rw [outsAt0_B m c t h]
    dsimp only
    rw [oB10]
    exact A_rows (ib0 m c t) (ib1 m c t) (ib2 m c t) (ib3 m c t) (ib4 m c t) (cyB m c t h) _ _

/-- The array of the output. -/
theorem fin6 : (dats m 0 c).arrAt 6 cfg0.N = (fun y : S16384x1024.Idx => kX m c (y 0) (y 1)) := by
  refine (dats m 0 c).arrAt_eq_of_covers 6 _ (by decide +kernel) fun t hf y => ?_
  blk_simp
  rw [after0_6]
  idx_vars y
  refine (at6 m c t y0 y1).trans ?_
  refine congrArg₂ (kX m c) (Fin.ext ?_) (Fin.ext ?_) <;> ((try unfold row); blk_simp [idx_big t]; try omega)

/-- The array of the normed input. -/
theorem fin7 : (dats m 0 c).arrAt 7 cfg0.N = (fun y : S16384x1024.Idx => kH m c (y 0) (y 1)) := by
  refine (dats m 0 c).arrAt_eq_of_covers 7 _ (by decide +kernel) fun t hf y => ?_
  blk_simp
  rw [after0_7]
  idx_vars y
  refine (at7 m c t y0 y1).trans ?_
  refine congrArg₂ (kH m c) (Fin.ext ?_) (Fin.ext ?_) <;> ((try unfold row); blk_simp [idx_big t]; try omega)

/-- The array of the up projection. -/
theorem fin8 : (dats m 0 c).arrAt 8 cfg0.N = (fun y : S16384x5632.Idx => kU m c (y 0) (y 1)) := by
  refine (dats m 0 c).arrAt_eq_of_covers 8 _ (by decide +kernel) fun t hf y => ?_
  blk_simp
  rw [after0_8]
  idx_vars y
  refine (at8 m c t y0 y1).trans ?_
  refine congrArg₂ (kU m c) (Fin.ext ?_) (Fin.ext ?_) <;> ((try unfold row); blk_simp [idx_big t]; try omega)

/-- The array of the gate. -/
theorem fin9 : (dats m 0 c).arrAt 9 cfg0.N = (fun y : S16384x2816.Idx => kG m c (y 0) (y 1)) := by
  refine (dats m 0 c).arrAt_eq_of_covers 9 _ (by decide +kernel) fun t hf y => ?_
  blk_simp
  rw [after0_9]
  idx_vars y
  refine (at9 m c t y0 y1).trans ?_
  refine congrArg₂ (kG m c) (Fin.ext ?_) (Fin.ext ?_) <;> ((try unfold row); blk_simp [idx_big t]; try omega)

/-- The array of the activation. -/
theorem fin10 : (dats m 0 c).arrAt 10 cfg0.N = (fun y : S16384x2816.Idx => kA m c (y 0) (y 1)) := by
  refine (dats m 0 c).arrAt_eq_of_covers 10 _ (by decide +kernel) fun t hf y => ?_
  blk_simp
  rw [after0_10]
  idx_vars y
  refine (at10 m c t y0 y1).trans ?_
  refine congrArg₂ (kA m c) (Fin.ext ?_) (Fin.ext ?_) <;> ((try unfold row); blk_simp [idx_big t]; try omega)

end FfnMid
-- ==== Proof.FfnMid.lean ====
module

public import proofs.«01_k».proof.Proof.MidPoints
public import proofs.«01_k».proof.Defs
public import proofs.«01_k».proof.Proof.Gen.Reference14Ideal.Run
public import Idealize.ShloMosaic.Adequacy
public import Idealize.ShloMosaic.Init

/-! The two runs of the forward ConvFFN end with the same results. -/

@[expose] public section

set_option maxRecDepth 16384

noncomputable section

namespace FfnMid

open Idealize.ShloMosaic Idealize.ShloMosaic.TcCoe Idealize.SL.Sem
open Idealize.ShloMosaic.Pipeline (Dat)
open Cert.Reference14Ideal.Read

section
open Cert.Kernel14Ideal Cert.Kernel14Ideal.Gen

variable (m : (ℓ : Loc nD τ sig) → Buf (Elt Ideal) ℓ) (c : Dev nD)

/-- The output is the reference's. -/
theorem eq_6 : ((dats m 0 c).arrAt 6 cfg0.N : FVec Ideal S16384x1024 .f32) = val_main_v44 (F := Ideal) (z0 m c) (z1 m c) (z2 m c) (z3 m c) (z4 m c) (z5 m c) := by
  rw [fin6]
  funext y
  idx_vars y
  exact (r44 _ _ _ _ _ _ y0 y1).symm

/-- The normed input is the reference's. -/
theorem eq_7 : ((dats m 0 c).arrAt 7 cfg0.N : FVec Ideal S16384x1024 .bf16) = val_main_v45 (F := Ideal) (z0 m c) (z1 m c) := by
  rw [fin7]
  funext y
  idx_vars y
  exact (r45 _ _ y0 y1).symm

/-- The up projection is the reference's. -/
theorem eq_8 : ((dats m 0 c).arrAt 8 cfg0.N : FVec Ideal S16384x5632 .bf16) = val_main_v46 (F := Ideal) (z0 m c) (z1 m c) (z2 m c) := by
  rw [fin8]
  funext y
  idx_vars y
  exact (r46 _ _ _ y0 y1).symm

/-- The gate is the reference's. -/
theorem eq_9 : ((dats m 0 c).arrAt 9 cfg0.N : FVec Ideal S16384x2816 .bf16) = val_main_v47 (F := Ideal) (z0 m c) (z1 m c) (z2 m c) (z3 m c) (z4 m c) := by
  rw [fin9]
  funext y
  idx_vars y
  exact (r47 _ _ _ _ _ y0 y1).symm

/-- The activation is the reference's. -/
theorem eq_10 : ((dats m 0 c).arrAt 10 cfg0.N : FVec Ideal S16384x2816 .bf16) = val_main_v48 (F := Ideal) (z0 m c) (z1 m c) (z2 m c) (z3 m c) (z4 m c) := by
  rw [fin10]
  funext y
  idx_vars y
  exact (r48 _ _ _ _ _ y0 y1).symm

end

section
open Cert.Kernel14Ideal Cert.Kernel14Ideal.Gen

set_option maxHeartbeats 4000000 in
/-- The kernel's run ends with the reference's functions of the arguments. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3_0) = val_main_v44 (F := Ideal) (z0 m c) (z1 m c) (z2 m c) (z3 m c) (z4 m c) (z5 m c)
      ∧ r.2.mem ((c.tc : Thread nD τ).loc main_v3_1) = val_main_v45 (F := Ideal) (z0 m c) (z1 m c)
      ∧ r.2.mem ((c.tc : Thread nD τ).loc main_v3_2) = val_main_v46 (F := Ideal) (z0 m c) (z1 m c) (z2 m c)
      ∧ r.2.mem ((c.tc : Thread nD τ).loc main_v3_3) = val_main_v47 (F := Ideal) (z0 m c) (z1 m c) (z2 m c) (z3 m c) (z4 m c)
      ∧ r.2.mem ((c.tc : Thread nD τ).loc main_v3_4) = val_main_v48 (F := Ideal) (z0 m c) (z1 m c) (z2 m c) (z3 m c) (z4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r hr c => ⟨((hr c).1 6).trans (eq_6 m c), ((hr c).1 7).trans (eq_7 m c), ((hr c).1 8).trans (eq_8 m c), ((hr c).1 9).trans (eq_9 m c), ((hr c).1 10).trans (eq_10 m c),
      ((hr c).1 0).trans (((dats m 0 c).arrAt_in 0 rfl _).trans ((A_eq m c 0).trans (V_main_arg0 m c))),
      ((hr c).1 1).trans (((dats m 0 c).arrAt_in 1 rfl _).trans ((A_eq m c 1).trans (V_main_arg1 m c))),
      ((hr c).2 main_arg2 (Pipeline.mem_restRefs_of main_arg2 (by decide) (by decide))).trans (V_main_arg2 m c),
      ((hr c).1 3).trans (((dats m 0 c).arrAt_in 3 rfl _).trans ((A_eq m c 3).trans (V_main_arg3 m c))),
      ((hr c).2 main_arg4 (Pipeline.mem_restRefs_of main_arg4 (by decide) (by decide))).trans (V_main_arg4 m c),
      ((hr c).2 main_arg5 (Pipeline.mem_restRefs_of main_arg5 (by decide) (by decide))).trans (V_main_arg5 m c)⟩) (run_main m ρ)
end

/-- The kernel and the reference end with equal results. -/
theorem algebraic : Cert.algebraic_Kernel14Ideal_Reference14Ideal (hKernel14Ideal := Cert.Kernel14Ideal.Gen.facts)
    (hReference14Ideal := Cert.Reference14Ideal.Gen.facts) := by
  intro m g m' g' h e
  refine ⟨fun c => val_main_v44 (F := Ideal) (z0 m c) (z1 m c) (z2 m c) (z3 m c) (z4 m c) (z5 m c),
    fun c => val_main_v45 (F := Ideal) (z0 m c) (z1 m c),
    fun c => val_main_v46 (F := Ideal) (z0 m c) (z1 m c) (z2 m c),
    fun c => val_main_v47 (F := Ideal) (z0 m c) (z1 m c) (z2 m c) (z3 m c) (z4 m c),
    fun c => val_main_v48 (F := Ideal) (z0 m c) (z1 m c) (z2 m c) (z3 m c) (z4 m c), run_kernel m g,
    (θ_run _ _ _).mono (fun r hr c => ?_) (Cert.Reference14Ideal.Value.run (F := Ideal) m' g')⟩
  obtain ⟨e0, e1, e2, e3, e4, e5⟩ := e c
  obtain ⟨h0, h1, h2, h3, h4, hargs⟩ := hr c
  refine ⟨h0.trans ((val_main_v44_eq _ _).trans ?_),
    h1.trans ((val_main_v45_eq _ _).trans ?_), h2.trans ((val_main_v46_eq _ _ _).trans ?_),
    h3.trans ((val_main_v47_eq _ _).trans ?_), h4.trans ((val_main_v48_eq _ _).trans ?_), hargs⟩
  · rw [e0, e1, e2, e3, e4, e5]
  · rw [e0, e1]
  · rw [e0, e1, e2]
  · rw [e0, e1, e2, e3, e4]
  · rw [e0, e1, e2, e3, e4]

end FfnMid
-- ==== Proof.AdamwQkv.lean ====
module

public import proofs.«01_k».proof.Defs
public import proofs.«01_k».proof.Proof.Gen.Kernel15Ideal.Frame
public import proofs.«01_k».proof.Proof.Gen.Reference15Ideal.Run
public import proofs.«01_k».proof.Proof.Gen.Reference15Ideal.Read
public import Idealize.ShloMosaic.Lib.Pipeline.ValueKit
public import Idealize.ShloMosaic.Lib.Claim

/-! The optimiser's step of the projection before the attention. -/

@[expose] public section

set_option maxRecDepth 16384

noncomputable section

namespace AdamwQkv

open Idealize.ShloMosaic Idealize.ShloMosaic.TcCoe Idealize.SL.Sem
open Idealize.ShloMosaic.Pipeline (Dat)
open Cert.Kernel15Ideal Cert.Kernel15Ideal.Gen
open Cert.Reference15Ideal.Read

/-- A constant of the step, by its bits. -/
abbrev k (b : BitVec 32) : EReal := FloatOps.ofBits (F := Ideal) .f32 b

/-- The new mean of one entry, from its gradient and its mean. -/
def sM (g m : EReal) : EReal := k 0x3F666666#32 * m + k 0x3DCCCCCD#32 * g
/-- The new square mean of one entry, from its gradient and its square mean. -/
def sV (g v : EReal) : EReal := k 0x3F7FBE77#32 * v + k 0x3A83126F#32 * (g * g)
/-- The change of one entry of the weight. -/
def sU (w g m v : EReal) : EReal :=
  k 0xBA83126F#32 * (Ideal.div (Ideal.div (sM g m) (k 0x3F26BD02#32)) (Ideal.sqrt (Ideal.div (sV g v) (k 0x3C231ACC#32)) + k 0x322BCC77#32) + k 0x3C23D70A#32 * w)

variable (m : (ℓ : Loc nD τ sig) → Buf (Elt Ideal) ℓ) (c : Dev nD)

/-- The weight at launch. -/
abbrev z0 : FVec Ideal S1x1024x320 .f32 := m ((c.tc : Thread nD τ).loc main_arg0)
/-- The gradient at launch. -/
abbrev z1 : FVec Ideal S1x1024x320 .f32 := m ((c.tc : Thread nD τ).loc main_arg1)
/-- The mean at launch. -/
abbrev z2 : FVec Ideal S1x1024x320 .f32 := m ((c.tc : Thread nD τ).loc main_arg2)
/-- The square mean at launch. -/
abbrev z3 : FVec Ideal S1x1024x320 .f32 := m ((c.tc : Thread nD τ).loc main_arg3)

/-- The block indices: every window is a block of rows of one layer. -/
theorem idx : ∀ t : Fin cfg0.N, win0_0.index t = ![t.val / 2, t.val % 2, 0] ∧ win0_1.index t = ![t.val / 2, t.val % 2, 0] ∧ win0_2.index t = ![t.val / 2, t.val % 2, 0] ∧ win0_3.index t = ![t.val / 2, t.val % 2, 0] ∧ win0_4.index t = ![t.val / 2, t.val % 2, 0] ∧ win0_5.index t = ![t.val / 2, t.val % 2, 0] ∧ win0_6.index t = ![t.val / 2, t.val % 2, 0] :=
  (by decide +kernel : ∀ t : Fin grid0.N, win0_0.index t = ![t.val / 2, t.val % 2, 0] ∧ win0_1.index t = ![t.val / 2, t.val % 2, 0] ∧ win0_2.index t = ![t.val / 2, t.val % 2, 0] ∧ win0_3.index t = ![t.val / 2, t.val % 2, 0] ∧ win0_4.index t = ![t.val / 2, t.val % 2, 0] ∧ win0_5.index t = ![t.val / 2, t.val % 2, 0] ∧ win0_6.index t = ![t.val / 2, t.val % 2, 0])

/-- The layer of the arrays the block of point `t` holds. -/
def lay (t : Fin 2) : Fin 1 := ⟨t.val / 2, by omega⟩
/-- The row of the arrays the block of point `t` holds at `r`. -/
def row (t : Fin 2) (r : Fin 512) : Fin 1024 := ⟨t.val % 2 * 512 + r.val, by omega⟩

/-- A point as a number below the count of points. -/
abbrev pt (t : Fin cfg0.N) : Fin 2 := ⟨t.val, lt_of_lt_of_eq t.isLt N_0⟩

variable (t : Fin cfg0.N)

/-- The point's block of the weight is its rows. -/
theorem ib0 (r d) : (iblk m c 0 t : FVec Ideal S1x512x320 .f32) (ix3 0 r d) = z0 m c (ix3 (lay (pt t)) (row (pt t) r) d) := by
  unfold lay row
  blk_point [iblk, V, idx t]
/-- The point's block of the gradient is its rows. -/
theorem ib1 (r d) : (iblk m c 1 t : FVec Ideal S1x512x320 .f32) (ix3 0 r d) = z1 m c (ix3 (lay (pt t)) (row (pt t) r) d) := by
  unfold lay row
  blk_point [iblk, V, idx t]
/-- The point's block of the mean is its rows. -/
theorem ib2 (r d) : (iblk m c 2 t : FVec Ideal S1x512x320 .f32) (ix3 0 r d) = z2 m c (ix3 (lay (pt t)) (row (pt t) r) d) := by
  unfold lay row
  blk_point [iblk, V, idx t]
/-- The point's block of the square mean is its rows. -/
theorem ib3 (r d) : (iblk m c 3 t : FVec Ideal S1x512x320 .f32) (ix3 0 r d) = z3 m c (ix3 (lay (pt t)) (row (pt t) r) d) := by
  unfold lay row
  blk_point [iblk, V, idx t]

/-- A block of the new mean. -/
theorem pM (r d) : k0_pay1 (F := Ideal) (iblk m c 1 t) (iblk m c 2 t) (ix3 0 r d)
    = sM (z1 m c (ix3 (lay (pt t)) (row (pt t) r) d)) (z2 m c (ix3 (lay (pt t)) (row (pt t) r) d)) := by
  unfold sM
  simp only [← ib1 m c t, ← ib2 m c t]
  pointwise [k0_pay1]
/-- A block of the new square mean. -/
theorem pV (r d) : k0_pay2 (F := Ideal) (iblk m c 1 t) (iblk m c 3 t) (ix3 0 r d)
    = sV (z1 m c (ix3 (lay (pt t)) (row (pt t) r) d)) (z3 m c (ix3 (lay (pt t)) (row (pt t) r) d)) := by
  unfold sV
  simp only [← ib1 m c t, ← ib3 m c t]
  pointwise [k0_pay2]
/-- A block of the change. -/
theorem pU (r d) : k0_pay3 (F := Ideal) (iblk m c 0 t) (iblk m c 1 t) (iblk m c 2 t) (iblk m c 3 t) (ix3 0 r d)
    = sU (z0 m c (ix3 (lay (pt t)) (row (pt t) r) d)) (z1 m c (ix3 (lay (pt t)) (row (pt t) r) d))
        (z2 m c (ix3 (lay (pt t)) (row (pt t) r) d)) (z3 m c (ix3 (lay (pt t)) (row (pt t) r) d)) := by
  unfold sU
  simp only [← pM m c t, ← pV m c t, ← ib0 m c t]
  pointwise [k0_pay3]

/-- An entry of the arrays after the step, from the four at launch. -/
def gM (x1 x2 : FVec Ideal S1x1024x320 .f32) (l : Fin 1) (r : Fin 1024) (d : Fin 320) : EReal := sM (x1 (ix3 l r d)) (x2 (ix3 l r d))
/-- An entry of the new square mean. -/
def gV (x1 x3 : FVec Ideal S1x1024x320 .f32) (l : Fin 1) (r : Fin 1024) (d : Fin 320) : EReal := sV (x1 (ix3 l r d)) (x3 (ix3 l r d))
/-- An entry of the change. -/
def gU (x0 x1 x2 x3 : FVec Ideal S1x1024x320 .f32) (l : Fin 1) (r : Fin 1024) (d : Fin 320) : EReal :=
  sU (x0 (ix3 l r d)) (x1 (ix3 l r d)) (x2 (ix3 l r d)) (x3 (ix3 l r d))

/-- Two entries at equal places are equal. -/
theorem at_eq {f : Fin 1 → Fin 1024 → Fin 320 → EReal} {a a' : Fin 1} {b b' : Fin 1024} {d d' : Fin 320} (ha : a = a') (hb : b = b') (hd : d = d') :
    f a b d = f a' b' d' := by rw [ha, hb, hd]

/-- The array of the change. -/
theorem fin4 : (dats m 0 c).arrAt 4 cfg0.N = (fun y : S1x1024x320.Idx => gU (z0 m c) (z1 m c) (z2 m c) (z3 m c) (y 0) (y 1) (y 2)) := by
  refine (dats m 0 c).arrAt_eq_of_covers 4 _ (by decide +kernel) fun t hf y => ?_
  blk_simp
  rw [after0_4]
  idx_vars y
  have e : (out0_4 (iblk m c 0 t) (iblk m c 1 t) (iblk m c 2 t) (iblk m c 3 t) : FVec Ideal S1x512x320 .f32) (ix3 y0 y1 y2)
      = gU (z0 m c) (z1 m c) (z2 m c) (z3 m c) (lay (pt t)) (row (pt t) y1) y2 := by
    obtain rfl : y0 = 0 := Subsingleton.elim _ _
    frame_out
    exact pU m c t y1 y2
  refine e.trans ?_
  refine at_eq (f := gU (z0 m c) (z1 m c) (z2 m c) (z3 m c)) (Fin.ext ?_) (Fin.ext ?_) (Fin.ext ?_) <;> ((try unfold lay); (try unfold row); blk_simp [idx t]; try omega)

/-- The array of the new mean. -/
theorem fin5 : (dats m 0 c).arrAt 5 cfg0.N = (fun y : S1x1024x320.Idx => gM (z1 m c) (z2 m c) (y 0) (y 1) (y 2)) := by
  refine (dats m 0 c).arrAt_eq_of_covers 5 _ (by decide +kernel) fun t hf y => ?_
  blk_simp
  rw [after0_5]
  idx_vars y
  have e : (out0_5 (iblk m c 0 t) (iblk m c 1 t) (iblk m c 2 t) (iblk m c 3 t) : FVec Ideal S1x512x320 .f32) (ix3 y0 y1 y2)
      = gM (z1 m c) (z2 m c) (lay (pt t)) (row (pt t) y1) y2 := by
    obtain rfl : y0 = 0 := Subsingleton.elim _ _
    frame_out
    exact pM m c t y1 y2
  refine e.trans ?_
  refine at_eq (f := gM (z1 m c) (z2 m c)) (Fin.ext ?_) (Fin.ext ?_) (Fin.ext ?_) <;> ((try unfold lay); (try unfold row); blk_simp [idx t]; try omega)

/-- The array of the new square mean. -/
theorem fin6 : (dats m 0 c).arrAt 6 cfg0.N = (fun y : S1x1024x320.Idx => gV (z1 m c) (z3 m c) (y 0) (y 1) (y 2)) := by
  refine (dats m 0 c).arrAt_eq_of_covers 6 _ (by decide +kernel) fun t hf y => ?_
  blk_simp
  rw [after0_6]
  idx_vars y
  have e : (out0_6 (iblk m c 0 t) (iblk m c 1 t) (iblk m c 2 t) (iblk m c 3 t) : FVec Ideal S1x512x320 .f32) (ix3 y0 y1 y2)
      = gV (z1 m c) (z3 m c) (lay (pt t)) (row (pt t) y1) y2 := by
    obtain rfl : y0 = 0 := Subsingleton.elim _ _
    frame_out
    exact pV m c t y1 y2
  refine e.trans ?_
  refine at_eq (f := gV (z1 m c) (z3 m c)) (Fin.ext ?_) (Fin.ext ?_) (Fin.ext ?_) <;> ((try unfold lay); (try unfold row); blk_simp [idx t]; try omega)

section
variable (x0 x1 x2 x3 : FVec Ideal S1x1024x320 .f32)

/-- The reference's new mean. -/
theorem qM (l r d) : val_main_v4 (F := Ideal) x1 x2 (ix3 l r d) = gM x1 x2 l r d := by
  unfold gM sM
  pointwise [val_main_v4, val_main_v3, val_main_v2, val_main_v1, val_main_v0, val_main_cst, val_main_cst_0]
/-- The reference's new square mean. -/
theorem qV (l r d) : val_main_v10 (F := Ideal) x1 x3 (ix3 l r d) = gV x1 x3 l r d := by
  unfold gV sV
  pointwise [val_main_v10, val_main_v9, val_main_v8, val_main_v7, val_main_v6, val_main_v5, val_main_cst_1, val_main_cst_2]
/-- The reference's change. -/
theorem qU (l r d) : val_main_v23 (F := Ideal) x0 x1 x2 x3 (ix3 l r d) = gU x0 x1 x2 x3 l r d := by
  have eM := qM x1 x2 l r d
  have eV := qV x1 x3 l r d
  unfold gM at eM
  unfold gV at eV
  unfold gU sU
  rw [← eM, ← eV]
  pointwise [val_main_v23, val_main_v22, val_main_v21, val_main_v20, val_main_v19, val_main_v18, val_main_v17, val_main_v16, val_main_v15, val_main_v14, val_main_v13, val_main_v12, val_main_v11,
    val_main_cst_3, val_main_cst_4, val_main_cst_5, val_main_cst_6, val_main_cst_7]
end

/-- Result 0 of the kernel is the reference's. -/
theorem eq_4 : ((dats m 0 c).arrAt 4 cfg0.N : FVec Ideal S1x1024x320 .f32) = val_main_v23 (F := Ideal) (z0 m c) (z1 m c) (z2 m c) (z3 m c) := by
  rw [fin4]
  funext y
  idx_vars y
  exact (qU _ _ _ _ y0 y1 y2).symm

/-- Result 1 of the kernel is the reference's. -/
theorem eq_5 : ((dats m 0 c).arrAt 5 cfg0.N : FVec Ideal S1x1024x320 .f32) = val_main_v4 (F := Ideal) (z1 m c) (z2 m c) := by
  rw [fin5]
  funext y
  idx_vars y
  exact (qM _ _ y0 y1 y2).symm

/-- Result 2 of the kernel is the reference's. -/
theorem eq_6 : ((dats m 0 c).arrAt 6 cfg0.N : FVec Ideal S1x1024x320 .f32) = val_main_v10 (F := Ideal) (z1 m c) (z3 m c) := by
  rw [fin6]
  funext y
  idx_vars y
  exact (qV _ _ y0 y1 y2).symm

/-- The kernel's run ends with the reference's functions of the arguments. -/
theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = val_main_v23 (F := Ideal) (z0 m c) (z1 m c) (z2 m c) (z3 m c)
      ∧ r.2.mem ((c.tc : Thread nD τ).loc main_v0_1) = val_main_v4 (F := Ideal) (z1 m c) (z2 m c)
      ∧ r.2.mem ((c.tc : Thread nD τ).loc main_v0_2) = val_main_v10 (F := Ideal) (z1 m c) (z3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c => ⟨((hr c).1 4).trans (eq_4 m c), ((hr c).1 5).trans (eq_5 m c), ((hr c).1 6).trans (eq_6 m c),
      ((hr c).1 0).trans (((dats m 0 c).arrAt_in 0 rfl _).trans ((A_eq m c 0).trans (V_main_arg0 m c))),
      ((hr c).1 1).trans (((dats m 0 c).arrAt_in 1 rfl _).trans ((A_eq m c 1).trans (V_main_arg1 m c))),
      ((hr c).1 2).trans (((dats m 0 c).arrAt_in 2 rfl _).trans ((A_eq m c 2).trans (V_main_arg2 m c))),
      ((hr c).1 3).trans (((dats m 0 c).arrAt_in 3 rfl _).trans ((A_eq m c 3).trans (V_main_arg3 m c)))⟩) (run_main m ρ)

/-- The kernel and the reference end with equal results. -/
theorem algebraic : Cert.algebraic_Kernel15Ideal_Reference15Ideal (hKernel15Ideal := Cert.Kernel15Ideal.Gen.facts)
    (hReference15Ideal := Cert.Reference15Ideal.Gen.facts) := by
  intro m g m' g' h e
  refine ⟨fun c => val_main_v23 (F := Ideal) (z0 m c) (z1 m c) (z2 m c) (z3 m c), fun c => val_main_v4 (F := Ideal) (z1 m c) (z2 m c), fun c => val_main_v10 (F := Ideal) (z1 m c) (z3 m c), run_kernel m g,
    (θ_run _ _ _).mono (fun r hr c => ?_) (Cert.Reference15Ideal.Value.run (F := Ideal) m' g')⟩
  obtain ⟨e0, e1, e2, e3⟩ := e c
  obtain ⟨h0, h1, h2, hargs⟩ := hr c
  refine ⟨h0.trans ((val_main_v23_eq _ _ _ _).trans ?_), h1.trans ((val_main_v4_eq _ _).trans ?_), h2.trans ((val_main_v10_eq _ _).trans ?_), hargs⟩
  · rw [e0, e1, e2, e3]
  · rw [e1, e2]
  · rw [e1, e3]

end AdamwQkv

end
-- ==== Proof.AdamwO.lean ====
module

public import proofs.«01_k».proof.Defs
public import proofs.«01_k».proof.Proof.Gen.Kernel16Ideal.Frame
public import proofs.«01_k».proof.Proof.Gen.Reference16Ideal.Run
public import proofs.«01_k».proof.Proof.Gen.Reference16Ideal.Read
public import Idealize.ShloMosaic.Lib.Pipeline.ValueKit
public import Idealize.ShloMosaic.Lib.Claim

/-! The optimiser's step of the projections after the attention and after the convolution. -/

@[expose] public section

set_option maxRecDepth 16384

noncomputable section

namespace AdamwO

open Idealize.ShloMosaic Idealize.ShloMosaic.TcCoe Idealize.SL.Sem
open Idealize.ShloMosaic.Pipeline (Dat)
open Cert.Kernel16Ideal Cert.Kernel16Ideal.Gen
open Cert.Reference16Ideal.Read

/-- A constant of the step, by its bits. -/
abbrev k (b : BitVec 32) : EReal := FloatOps.ofBits (F := Ideal) .f32 b

/-- The new mean of one entry, from its gradient and its mean. -/
def sM (g m : EReal) : EReal := k 0x3F666666#32 * m + k 0x3DCCCCCD#32 * g
/-- The new square mean of one entry, from its gradient and its square mean. -/
def sV (g v : EReal) : EReal := k 0x3F7FBE77#32 * v + k 0x3A83126F#32 * (g * g)
/-- The change of one entry of the weight. -/
def sU (w g m v : EReal) : EReal :=
  k 0xBA83126F#32 * (Ideal.div (Ideal.div (sM g m) (k 0x3F26BD02#32)) (Ideal.sqrt (Ideal.div (sV g v) (k 0x3C231ACC#32)) + k 0x322BCC77#32) + k 0x3C23D70A#32 * w)

variable (m : (ℓ : Loc nD τ sig) → Buf (Elt Ideal) ℓ) (c : Dev nD)

/-- The weight at launch. -/
abbrev z0 : FVec Ideal S1x256x1024 .f32 := m ((c.tc : Thread nD τ).loc main_arg0)
/-- The gradient at launch. -/
abbrev z1 : FVec Ideal S1x256x1024 .f32 := m ((c.tc : Thread nD τ).loc main_arg1)
/-- The mean at launch. -/
abbrev z2 : FVec Ideal S1x256x1024 .f32 := m ((c.tc : Thread nD τ).loc main_arg2)
/-- The square mean at launch. -/
abbrev z3 : FVec Ideal S1x256x1024 .f32 := m ((c.tc : Thread nD τ).loc main_arg3)

/-- The block indices: every window is a block of rows of one layer. -/
theorem idx : ∀ t : Fin cfg0.N, win0_0.index t = ![t.val / 1, t.val % 1, 0] ∧ win0_1.index t = ![t.val / 1, t.val % 1, 0] ∧ win0_2.index t = ![t.val / 1, t.val % 1, 0] ∧ win0_3.index t = ![t.val / 1, t.val % 1, 0] ∧ win0_4.index t = ![t.val / 1, t.val % 1, 0] ∧ win0_5.index t = ![t.val / 1, t.val % 1, 0] ∧ win0_6.index t = ![t.val / 1, t.val % 1, 0] :=
  (by decide +kernel : ∀ t : Fin grid0.N, win0_0.index t = ![t.val / 1, t.val % 1, 0] ∧ win0_1.index t = ![t.val / 1, t.val % 1, 0] ∧ win0_2.index t = ![t.val / 1, t.val % 1, 0] ∧ win0_3.index t = ![t.val / 1, t.val % 1, 0] ∧ win0_4.index t = ![t.val / 1, t.val % 1, 0] ∧ win0_5.index t = ![t.val / 1, t.val % 1, 0] ∧ win0_6.index t = ![t.val / 1, t.val % 1, 0])

/-- The layer of the arrays the block of point `t` holds. -/
def lay (t : Fin 1) : Fin 1 := ⟨t.val / 1, by omega⟩
/-- The row of the arrays the block of point `t` holds at `r`. -/
def row (t : Fin 1) (r : Fin 256) : Fin 256 := ⟨t.val % 1 * 256 + r.val, by omega⟩

/-- A point as a number below the count of points. -/
abbrev pt (t : Fin cfg0.N) : Fin 1 := ⟨t.val, lt_of_lt_of_eq t.isLt N_0⟩

variable (t : Fin cfg0.N)

/-- The point's block of the weight is its rows. -/
theorem ib0 (r d) : (iblk m c 0 t : FVec Ideal S1x256x1024 .f32) (ix3 0 r d) = z0 m c (ix3 (lay (pt t)) (row (pt t) r) d) := by
  unfold lay row
  blk_point [iblk, V, idx t]
/-- The point's block of the gradient is its rows. -/
theorem ib1 (r d) : (iblk m c 1 t : FVec Ideal S1x256x1024 .f32) (ix3 0 r d) = z1 m c (ix3 (lay (pt t)) (row (pt t) r) d) := by
  unfold lay row
  blk_point [iblk, V, idx t]
/-- The point's block of the mean is its rows. -/
theorem ib2 (r d) : (iblk m c 2 t : FVec Ideal S1x256x1024 .f32) (ix3 0 r d) = z2 m c (ix3 (lay (pt t)) (row (pt t) r) d) := by
  unfold lay row
  blk_point [iblk, V, idx t]
/-- The point's block of the square mean is its rows. -/
theorem ib3 (r d) : (iblk m c 3 t : FVec Ideal S1x256x1024 .f32) (ix3 0 r d) = z3 m c (ix3 (lay (pt t)) (row (pt t) r) d) := by
  unfold lay row
  blk_point [iblk, V, idx t]

/-- A block of the new mean. -/
theorem pM (r d) : k0_pay1 (F := Ideal) (iblk m c 1 t) (iblk m c 2 t) (ix3 0 r d)
    = sM (z1 m c (ix3 (lay (pt t)) (row (pt t) r) d)) (z2 m c (ix3 (lay (pt t)) (row (pt t) r) d)) := by
  unfold sM
  simp only [← ib1 m c t, ← ib2 m c t]
  pointwise [k0_pay1]
/-- A block of the new square mean. -/
theorem pV (r d) : k0_pay2 (F := Ideal) (iblk m c 1 t) (iblk m c 3 t) (ix3 0 r d)
    = sV (z1 m c (ix3 (lay (pt t)) (row (pt t) r) d)) (z3 m c (ix3 (lay (pt t)) (row (pt t) r) d)) := by
  unfold sV
  simp only [← ib1 m c t, ← ib3 m c t]
  pointwise [k0_pay2]
/-- A block of the change. -/
theorem pU (r d) : k0_pay3 (F := Ideal) (iblk m c 0 t) (iblk m c 1 t) (iblk m c 2 t) (iblk m c 3 t) (ix3 0 r d)
    = sU (z0 m c (ix3 (lay (pt t)) (row (pt t) r) d)) (z1 m c (ix3 (lay (pt t)) (row (pt t) r) d))
        (z2 m c (ix3 (lay (pt t)) (row (pt t) r) d)) (z3 m c (ix3 (lay (pt t)) (row (pt t) r) d)) := by
  unfold sU
  simp only [← pM m c t, ← pV m c t, ← ib0 m c t]
  pointwise [k0_pay3]

/-- An entry of the arrays after the step, from the four at launch. -/
def gM (x1 x2 : FVec Ideal S1x256x1024 .f32) (l : Fin 1) (r : Fin 256) (d : Fin 1024) : EReal := sM (x1 (ix3 l r d)) (x2 (ix3 l r d))
/-- An entry of the new square mean. -/
def gV (x1 x3 : FVec Ideal S1x256x1024 .f32) (l : Fin 1) (r : Fin 256) (d : Fin 1024) : EReal := sV (x1 (ix3 l r d)) (x3 (ix3 l r d))
/-- An entry of the change. -/
def gU (x0 x1 x2 x3 : FVec Ideal S1x256x1024 .f32) (l : Fin 1) (r : Fin 256) (d : Fin 1024) : EReal :=
  sU (x0 (ix3 l r d)) (x1 (ix3 l r d)) (x2 (ix3 l r d)) (x3 (ix3 l r d))

/-- Two entries at equal places are equal. -/
theorem at_eq {f : Fin 1 → Fin 256 → Fin 1024 → EReal} {a a' : Fin 1} {b b' : Fin 256} {d d' : Fin 1024} (ha : a = a') (hb : b = b') (hd : d = d') :
    f a b d = f a' b' d' := by rw [ha, hb, hd]

/-- The array of the change. -/
theorem fin4 : (dats m 0 c).arrAt 4 cfg0.N = (fun y : S1x256x1024.Idx => gU (z0 m c) (z1 m c) (z2 m c) (z3 m c) (y 0) (y 1) (y 2)) := by
  refine (dats m 0 c).arrAt_eq_of_covers 4 _ (by decide +kernel) fun t hf y => ?_
  blk_simp
  rw [after0_4]
  idx_vars y
  have e : (out0_4 (iblk m c 0 t) (iblk m c 1 t) (iblk m c 2 t) (iblk m c 3 t) : FVec Ideal S1x256x1024 .f32) (ix3 y0 y1 y2)
      = gU (z0 m c) (z1 m c) (z2 m c) (z3 m c) (lay (pt t)) (row (pt t) y1) y2 := by
    obtain rfl : y0 = 0 := Subsingleton.elim _ _
    frame_out
    exact pU m c t y1 y2
  refine e.trans ?_
  refine at_eq (f := gU (z0 m c) (z1 m c) (z2 m c) (z3 m c)) (Fin.ext ?_) (Fin.ext ?_) (Fin.ext ?_) <;> ((try unfold lay); (try unfold row); blk_simp [idx t]; try omega)

/-- The array of the new mean. -/
theorem fin5 : (dats m 0 c).arrAt 5 cfg0.N = (fun y : S1x256x1024.Idx => gM (z1 m c) (z2 m c) (y 0) (y 1) (y 2)) := by
  refine (dats m 0 c).arrAt_eq_of_covers 5 _ (by decide +kernel) fun t hf y => ?_
  blk_simp
  rw [after0_5]
  idx_vars y
  have e : (out0_5 (iblk m c 0 t) (iblk m c 1 t) (iblk m c 2 t) (iblk m c 3 t) : FVec Ideal S1x256x1024 .f32) (ix3 y0 y1 y2)
      = gM (z1 m c) (z2 m c) (lay (pt t)) (row (pt t) y1) y2 := by
    obtain rfl : y0 = 0 := Subsingleton.elim _ _
    frame_out
    exact pM m c t y1 y2
  refine e.trans ?_
  refine at_eq (f := gM (z1 m c) (z2 m c)) (Fin.ext ?_) (Fin.ext ?_) (Fin.ext ?_) <;> ((try unfold lay); (try unfold row); blk_simp [idx t]; try omega)

/-- The array of the new square mean. -/
theorem fin6 : (dats m 0 c).arrAt 6 cfg0.N = (fun y : S1x256x1024.Idx => gV (z1 m c) (z3 m c) (y 0) (y 1) (y 2)) := by
  refine (dats m 0 c).arrAt_eq_of_covers 6 _ (by decide +kernel) fun t hf y => ?_
  blk_simp
  rw [after0_6]
  idx_vars y
  have e : (out0_6 (iblk m c 0 t) (iblk m c 1 t) (iblk m c 2 t) (iblk m c 3 t) : FVec Ideal S1x256x1024 .f32) (ix3 y0 y1 y2)
      = gV (z1 m c) (z3 m c) (lay (pt t)) (row (pt t) y1) y2 := by
    obtain rfl : y0 = 0 := Subsingleton.elim _ _
    frame_out
    exact pV m c t y1 y2
  refine e.trans ?_
  refine at_eq (f := gV (z1 m c) (z3 m c)) (Fin.ext ?_) (Fin.ext ?_) (Fin.ext ?_) <;> ((try unfold lay); (try unfold row); blk_simp [idx t]; try omega)

section
variable (x0 x1 x2 x3 : FVec Ideal S1x256x1024 .f32)

/-- The reference's new mean. -/
theorem qM (l r d) : val_main_v4 (F := Ideal) x1 x2 (ix3 l r d) = gM x1 x2 l r d := by
  unfold gM sM
  pointwise [val_main_v4, val_main_v3, val_main_v2, val_main_v1, val_main_v0, val_main_cst, val_main_cst_0]
/-- The reference's new square mean. -/
theorem qV (l r d) : val_main_v10 (F := Ideal) x1 x3 (ix3 l r d) = gV x1 x3 l r d := by
  unfold gV sV
  pointwise [val_main_v10, val_main_v9, val_main_v8, val_main_v7, val_main_v6, val_main_v5, val_main_cst_1, val_main_cst_2]
/-- The reference's change. -/
theorem qU (l r d) : val_main_v23 (F := Ideal) x0 x1 x2 x3 (ix3 l r d) = gU x0 x1 x2 x3 l r d := by
  have eM := qM x1 x2 l r d
  have eV := qV x1 x3 l r d
  unfold gM at eM
  unfold gV at eV
  unfold gU sU
  rw [← eM, ← eV]
  pointwise [val_main_v23, val_main_v22, val_main_v21, val_main_v20, val_main_v19, val_main_v18, val_main_v17, val_main_v16, val_main_v15, val_main_v14, val_main_v13, val_main_v12, val_main_v11,
    val_main_cst_3, val_main_cst_4, val_main_cst_5, val_main_cst_6, val_main_cst_7]
end

/-- Result 0 of the kernel is the reference's. -/
theorem eq_4 : ((dats m 0 c).arrAt 4 cfg0.N : FVec Ideal S1x256x1024 .f32) = val_main_v23 (F := Ideal) (z0 m c) (z1 m c) (z2 m c) (z3 m c) := by
  rw [fin4]
  funext y
  idx_vars y
  exact (qU _ _ _ _ y0 y1 y2).symm

/-- Result 1 of the kernel is the reference's. -/
theorem eq_5 : ((dats m 0 c).arrAt 5 cfg0.N : FVec Ideal S1x256x1024 .f32) = val_main_v4 (F := Ideal) (z1 m c) (z2 m c) := by
  rw [fin5]
  funext y
  idx_vars y
  exact (qM _ _ y0 y1 y2).symm

/-- Result 2 of the kernel is the reference's. -/
theorem eq_6 : ((dats m 0 c).arrAt 6 cfg0.N : FVec Ideal S1x256x1024 .f32) = val_main_v10 (F := Ideal) (z1 m c) (z3 m c) := by
  rw [fin6]
  funext y
  idx_vars y
  exact (qV _ _ y0 y1 y2).symm

/-- The kernel's run ends with the reference's functions of the arguments. -/
theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = val_main_v23 (F := Ideal) (z0 m c) (z1 m c) (z2 m c) (z3 m c)
      ∧ r.2.mem ((c.tc : Thread nD τ).loc main_v0_1) = val_main_v4 (F := Ideal) (z1 m c) (z2 m c)
      ∧ r.2.mem ((c.tc : Thread nD τ).loc main_v0_2) = val_main_v10 (F := Ideal) (z1 m c) (z3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c => ⟨((hr c).1 4).trans (eq_4 m c), ((hr c).1 5).trans (eq_5 m c), ((hr c).1 6).trans (eq_6 m c),
      ((hr c).1 0).trans (((dats m 0 c).arrAt_in 0 rfl _).trans ((A_eq m c 0).trans (V_main_arg0 m c))),
      ((hr c).1 1).trans (((dats m 0 c).arrAt_in 1 rfl _).trans ((A_eq m c 1).trans (V_main_arg1 m c))),
      ((hr c).1 2).trans (((dats m 0 c).arrAt_in 2 rfl _).trans ((A_eq m c 2).trans (V_main_arg2 m c))),
      ((hr c).1 3).trans (((dats m 0 c).arrAt_in 3 rfl _).trans ((A_eq m c 3).trans (V_main_arg3 m c)))⟩) (run_main m ρ)

/-- The kernel and the reference end with equal results. -/
theorem algebraic : Cert.algebraic_Kernel16Ideal_Reference16Ideal (hKernel16Ideal := Cert.Kernel16Ideal.Gen.facts)
    (hReference16Ideal := Cert.Reference16Ideal.Gen.facts) := by
  intro m g m' g' h e
  refine ⟨fun c => val_main_v23 (F := Ideal) (z0 m c) (z1 m c) (z2 m c) (z3 m c), fun c => val_main_v4 (F := Ideal) (z1 m c) (z2 m c), fun c => val_main_v10 (F := Ideal) (z1 m c) (z3 m c), run_kernel m g,
    (θ_run _ _ _).mono (fun r hr c => ?_) (Cert.Reference16Ideal.Value.run (F := Ideal) m' g')⟩
  obtain ⟨e0, e1, e2, e3⟩ := e c
  obtain ⟨h0, h1, h2, hargs⟩ := hr c
  refine ⟨h0.trans ((val_main_v23_eq _ _ _ _).trans ?_), h1.trans ((val_main_v4_eq _ _).trans ?_), h2.trans ((val_main_v10_eq _ _).trans ?_), hargs⟩
  · rw [e0, e1, e2, e3]
  · rw [e1, e2]
  · rw [e1, e3]

end AdamwO

end
-- ==== Proof.AdamwPw1.lean ====
module

public import proofs.«01_k».proof.Defs
public import proofs.«01_k».proof.Proof.Gen.Kernel17Ideal.Frame
public import proofs.«01_k».proof.Proof.Gen.Reference17Ideal.Run
public import proofs.«01_k».proof.Proof.Gen.Reference17Ideal.Read
public import Idealize.ShloMosaic.Lib.Pipeline.ValueKit
public import Idealize.ShloMosaic.Lib.Claim

/-! The optimiser's step of the projection before the convolution. -/

@[expose] public section

set_option maxRecDepth 16384

noncomputable section

namespace AdamwPw1

open Idealize.ShloMosaic Idealize.ShloMosaic.TcCoe Idealize.SL.Sem
open Idealize.ShloMosaic.Pipeline (Dat)
open Cert.Kernel17Ideal Cert.Kernel17Ideal.Gen
open Cert.Reference17Ideal.Read

/-- A constant of the step, by its bits. -/
abbrev k (b : BitVec 32) : EReal := FloatOps.ofBits (F := Ideal) .f32 b

/-- The new mean of one entry, from its gradient and its mean. -/
def sM (g m : EReal) : EReal := k 0x3F666666#32 * m + k 0x3DCCCCCD#32 * g
/-- The new square mean of one entry, from its gradient and its square mean. -/
def sV (g v : EReal) : EReal := k 0x3F7FBE77#32 * v + k 0x3A83126F#32 * (g * g)
/-- The change of one entry of the weight. -/
def sU (w g m v : EReal) : EReal :=
  k 0xBA83126F#32 * (Ideal.div (Ideal.div (sM g m) (k 0x3F26BD02#32)) (Ideal.sqrt (Ideal.div (sV g v) (k 0x3C231ACC#32)) + k 0x322BCC77#32) + k 0x3C23D70A#32 * w)

variable (m : (ℓ : Loc nD τ sig) → Buf (Elt Ideal) ℓ) (c : Dev nD)

/-- The weight at launch. -/
abbrev z0 : FVec Ideal S1x1024x512 .f32 := m ((c.tc : Thread nD τ).loc main_arg0)
/-- The gradient at launch. -/
abbrev z1 : FVec Ideal S1x1024x512 .f32 := m ((c.tc : Thread nD τ).loc main_arg1)
/-- The mean at launch. -/
abbrev z2 : FVec Ideal S1x1024x512 .f32 := m ((c.tc : Thread nD τ).loc main_arg2)
/-- The square mean at launch. -/
abbrev z3 : FVec Ideal S1x1024x512 .f32 := m ((c.tc : Thread nD τ).loc main_arg3)

/-- The block indices: every window is a block of rows of one layer. -/
theorem idx : ∀ t : Fin cfg0.N, win0_0.index t = ![t.val / 2, t.val % 2, 0] ∧ win0_1.index t = ![t.val / 2, t.val % 2, 0] ∧ win0_2.index t = ![t.val / 2, t.val % 2, 0] ∧ win0_3.index t = ![t.val / 2, t.val % 2, 0] ∧ win0_4.index t = ![t.val / 2, t.val % 2, 0] ∧ win0_5.index t = ![t.val / 2, t.val % 2, 0] ∧ win0_6.index t = ![t.val / 2, t.val % 2, 0] :=
  (by decide +kernel : ∀ t : Fin grid0.N, win0_0.index t = ![t.val / 2, t.val % 2, 0] ∧ win0_1.index t = ![t.val / 2, t.val % 2, 0] ∧ win0_2.index t = ![t.val / 2, t.val % 2, 0] ∧ win0_3.index t = ![t.val / 2, t.val % 2, 0] ∧ win0_4.index t = ![t.val / 2, t.val % 2, 0] ∧ win0_5.index t = ![t.val / 2, t.val % 2, 0] ∧ win0_6.index t = ![t.val / 2, t.val % 2, 0])

/-- The layer of the arrays the block of point `t` holds. -/
def lay (t : Fin 2) : Fin 1 := ⟨t.val / 2, by omega⟩
/-- The row of the arrays the block of point `t` holds at `r`. -/
def row (t : Fin 2) (r : Fin 512) : Fin 1024 := ⟨t.val % 2 * 512 + r.val, by omega⟩

/-- A point as a number below the count of points. -/
abbrev pt (t : Fin cfg0.N) : Fin 2 := ⟨t.val, lt_of_lt_of_eq t.isLt N_0⟩

variable (t : Fin cfg0.N)

/-- The point's block of the weight is its rows. -/
theorem ib0 (r d) : (iblk m c 0 t : FVec Ideal S1x512x512 .f32) (ix3 0 r d) = z0 m c (ix3 (lay (pt t)) (row (pt t) r) d) := by
  unfold lay row
  blk_point [iblk, V, idx t]
/-- The point's block of the gradient is its rows. -/
theorem ib1 (r d) : (iblk m c 1 t : FVec Ideal S1x512x512 .f32) (ix3 0 r d) = z1 m c (ix3 (lay (pt t)) (row (pt t) r) d) := by
  unfold lay row
  blk_point [iblk, V, idx t]
/-- The point's block of the mean is its rows. -/
theorem ib2 (r d) : (iblk m c 2 t : FVec Ideal S1x512x512 .f32) (ix3 0 r d) = z2 m c (ix3 (lay (pt t)) (row (pt t) r) d) := by
  unfold lay row
  blk_point [iblk, V, idx t]
/-- The point's block of the square mean is its rows. -/
theorem ib3 (r d) : (iblk m c 3 t : FVec Ideal S1x512x512 .f32) (ix3 0 r d) = z3 m c (ix3 (lay (pt t)) (row (pt t) r) d) := by
  unfold lay row
  blk_point [iblk, V, idx t]

/-- A block of the new mean. -/
theorem pM (r d) : k0_pay1 (F := Ideal) (iblk m c 1 t) (iblk m c 2 t) (ix3 0 r d)
    = sM (z1 m c (ix3 (lay (pt t)) (row (pt t) r) d)) (z2 m c (ix3 (lay (pt t)) (row (pt t) r) d)) := by
  unfold sM
  simp only [← ib1 m c t, ← ib2 m c t]
  pointwise [k0_pay1]
/-- A block of the new square mean. -/
theorem pV (r d) : k0_pay2 (F := Ideal) (iblk m c 1 t) (iblk m c 3 t) (ix3 0 r d)
    = sV (z1 m c (ix3 (lay (pt t)) (row (pt t) r) d)) (z3 m c (ix3 (lay (pt t)) (row (pt t) r) d)) := by
  unfold sV
  simp only [← ib1 m c t, ← ib3 m c t]
  pointwise [k0_pay2]
/-- A block of the change. -/
theorem pU (r d) : k0_pay3 (F := Ideal) (iblk m c 0 t) (iblk m c 1 t) (iblk m c 2 t) (iblk m c 3 t) (ix3 0 r d)
    = sU (z0 m c (ix3 (lay (pt t)) (row (pt t) r) d)) (z1 m c (ix3 (lay (pt t)) (row (pt t) r) d))
        (z2 m c (ix3 (lay (pt t)) (row (pt t) r) d)) (z3 m c (ix3 (lay (pt t)) (row (pt t) r) d)) := by
  unfold sU
  simp only [← pM m c t, ← pV m c t, ← ib0 m c t]
  pointwise [k0_pay3]

/-- An entry of the arrays after the step, from the four at launch. -/
def gM (x1 x2 : FVec Ideal S1x1024x512 .f32) (l : Fin 1) (r : Fin 1024) (d : Fin 512) : EReal := sM (x1 (ix3 l r d)) (x2 (ix3 l r d))
/-- An entry of the new square mean. -/
def gV (x1 x3 : FVec Ideal S1x1024x512 .f32) (l : Fin 1) (r : Fin 1024) (d : Fin 512) : EReal := sV (x1 (ix3 l r d)) (x3 (ix3 l r d))
/-- An entry of the change. -/
def gU (x0 x1 x2 x3 : FVec Ideal S1x1024x512 .f32) (l : Fin 1) (r : Fin 1024) (d : Fin 512) : EReal :=
  sU (x0 (ix3 l r d)) (x1 (ix3 l r d)) (x2 (ix3 l r d)) (x3 (ix3 l r d))

/-- Two entries at equal places are equal. -/
theorem at_eq {f : Fin 1 → Fin 1024 → Fin 512 → EReal} {a a' : Fin 1} {b b' : Fin 1024} {d d' : Fin 512} (ha : a = a') (hb : b = b') (hd : d = d') :
    f a b d = f a' b' d' := by rw [ha, hb, hd]

/-- The array of the change. -/
theorem fin4 : (dats m 0 c).arrAt 4 cfg0.N = (fun y : S1x1024x512.Idx => gU (z0 m c) (z1 m c) (z2 m c) (z3 m c) (y 0) (y 1) (y 2)) := by
  refine (dats m 0 c).arrAt_eq_of_covers 4 _ (by decide +kernel) fun t hf y => ?_
  blk_simp
  rw [after0_4]
  idx_vars y
  have e : (out0_4 (iblk m c 0 t) (iblk m c 1 t) (iblk m c 2 t) (iblk m c 3 t) : FVec Ideal S1x512x512 .f32) (ix3 y0 y1 y2)
      = gU (z0 m c) (z1 m c) (z2 m c) (z3 m c) (lay (pt t)) (row (pt t) y1) y2 := by
    obtain rfl : y0 = 0 := Subsingleton.elim _ _
    frame_out
    exact pU m c t y1 y2
  refine e.trans ?_
  refine at_eq (f := gU (z0 m c) (z1 m c) (z2 m c) (z3 m c)) (Fin.ext ?_) (Fin.ext ?_) (Fin.ext ?_) <;> ((try unfold lay); (try unfold row); blk_simp [idx t]; try omega)

/-- The array of the new mean. -/
theorem fin5 : (dats m 0 c).arrAt 5 cfg0.N = (fun y : S1x1024x512.Idx => gM (z1 m c) (z2 m c) (y 0) (y 1) (y 2)) := by
  refine (dats m 0 c).arrAt_eq_of_covers 5 _ (by decide +kernel) fun t hf y => ?_
  blk_simp
  rw [after0_5]
  idx_vars y
  have e : (out0_5 (iblk m c 0 t) (iblk m c 1 t) (iblk m c 2 t) (iblk m c 3 t) : FVec Ideal S1x512x512 .f32) (ix3 y0 y1 y2)
      = gM (z1 m c) (z2 m c) (lay (pt t)) (row (pt t) y1) y2 := by
    obtain rfl : y0 = 0 := Subsingleton.elim _ _
    frame_out
    exact pM m c t y1 y2
  refine e.trans ?_
  refine at_eq (f := gM (z1 m c) (z2 m c)) (Fin.ext ?_) (Fin.ext ?_) (Fin.ext ?_) <;> ((try unfold lay); (try unfold row); blk_simp [idx t]; try omega)

/-- The array of the new square mean. -/
theorem fin6 : (dats m 0 c).arrAt 6 cfg0.N = (fun y : S1x1024x512.Idx => gV (z1 m c) (z3 m c) (y 0) (y 1) (y 2)) := by
  refine (dats m 0 c).arrAt_eq_of_covers 6 _ (by decide +kernel) fun t hf y => ?_
  blk_simp
  rw [after0_6]
  idx_vars y
  have e : (out0_6 (iblk m c 0 t) (iblk m c 1 t) (iblk m c 2 t) (iblk m c 3 t) : FVec Ideal S1x512x512 .f32) (ix3 y0 y1 y2)
      = gV (z1 m c) (z3 m c) (lay (pt t)) (row (pt t) y1) y2 := by
    obtain rfl : y0 = 0 := Subsingleton.elim _ _
    frame_out
    exact pV m c t y1 y2
  refine e.trans ?_
  refine at_eq (f := gV (z1 m c) (z3 m c)) (Fin.ext ?_) (Fin.ext ?_) (Fin.ext ?_) <;> ((try unfold lay); (try unfold row); blk_simp [idx t]; try omega)

section
variable (x0 x1 x2 x3 : FVec Ideal S1x1024x512 .f32)

/-- The reference's new mean. -/
theorem qM (l r d) : val_main_v4 (F := Ideal) x1 x2 (ix3 l r d) = gM x1 x2 l r d := by
  unfold gM sM
  pointwise [val_main_v4, val_main_v3, val_main_v2, val_main_v1, val_main_v0, val_main_cst, val_main_cst_0]
/-- The reference's new square mean. -/
theorem qV (l r d) : val_main_v10 (F := Ideal) x1 x3 (ix3 l r d) = gV x1 x3 l r d := by
  unfold gV sV
  pointwise [val_main_v10, val_main_v9, val_main_v8, val_main_v7, val_main_v6, val_main_v5, val_main_cst_1, val_main_cst_2]
/-- The reference's change. -/
theorem qU (l r d) : val_main_v23 (F := Ideal) x0 x1 x2 x3 (ix3 l r d) = gU x0 x1 x2 x3 l r d := by
  have eM := qM x1 x2 l r d
  have eV := qV x1 x3 l r d
  unfold gM at eM
  unfold gV at eV
  unfold gU sU
  rw [← eM, ← eV]
  pointwise [val_main_v23, val_main_v22, val_main_v21, val_main_v20, val_main_v19, val_main_v18, val_main_v17, val_main_v16, val_main_v15, val_main_v14, val_main_v13, val_main_v12, val_main_v11,
    val_main_cst_3, val_main_cst_4, val_main_cst_5, val_main_cst_6, val_main_cst_7]
end

/-- Result 0 of the kernel is the reference's. -/
theorem eq_4 : ((dats m 0 c).arrAt 4 cfg0.N : FVec Ideal S1x1024x512 .f32) = val_main_v23 (F := Ideal) (z0 m c) (z1 m c) (z2 m c) (z3 m c) := by
  rw [fin4]
  funext y
  idx_vars y
  exact (qU _ _ _ _ y0 y1 y2).symm

/-- Result 1 of the kernel is the reference's. -/
theorem eq_5 : ((dats m 0 c).arrAt 5 cfg0.N : FVec Ideal S1x1024x512 .f32) = val_main_v4 (F := Ideal) (z1 m c) (z2 m c) := by
  rw [fin5]
  funext y
  idx_vars y
  exact (qM _ _ y0 y1 y2).symm

/-- Result 2 of the kernel is the reference's. -/
theorem eq_6 : ((dats m 0 c).arrAt 6 cfg0.N : FVec Ideal S1x1024x512 .f32) = val_main_v10 (F := Ideal) (z1 m c) (z3 m c) := by
  rw [fin6]
  funext y
  idx_vars y
  exact (qV _ _ y0 y1 y2).symm

/-- The kernel's run ends with the reference's functions of the arguments. -/
theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = val_main_v23 (F := Ideal) (z0 m c) (z1 m c) (z2 m c) (z3 m c)
      ∧ r.2.mem ((c.tc : Thread nD τ).loc main_v0_1) = val_main_v4 (F := Ideal) (z1 m c) (z2 m c)
      ∧ r.2.mem ((c.tc : Thread nD τ).loc main_v0_2) = val_main_v10 (F := Ideal) (z1 m c) (z3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c => ⟨((hr c).1 4).trans (eq_4 m c), ((hr c).1 5).trans (eq_5 m c), ((hr c).1 6).trans (eq_6 m c),
      ((hr c).1 0).trans (((dats m 0 c).arrAt_in 0 rfl _).trans ((A_eq m c 0).trans (V_main_arg0 m c))),
      ((hr c).1 1).trans (((dats m 0 c).arrAt_in 1 rfl _).trans ((A_eq m c 1).trans (V_main_arg1 m c))),
      ((hr c).1 2).trans (((dats m 0 c).arrAt_in 2 rfl _).trans ((A_eq m c 2).trans (V_main_arg2 m c))),
      ((hr c).1 3).trans (((dats m 0 c).arrAt_in 3 rfl _).trans ((A_eq m c 3).trans (V_main_arg3 m c)))⟩) (run_main m ρ)

/-- The kernel and the reference end with equal results. -/
theorem algebraic : Cert.algebraic_Kernel17Ideal_Reference17Ideal (hKernel17Ideal := Cert.Kernel17Ideal.Gen.facts)
    (hReference17Ideal := Cert.Reference17Ideal.Gen.facts) := by
  intro m g m' g' h e
  refine ⟨fun c => val_main_v23 (F := Ideal) (z0 m c) (z1 m c) (z2 m c) (z3 m c), fun c => val_main_v4 (F := Ideal) (z1 m c) (z2 m c), fun c => val_main_v10 (F := Ideal) (z1 m c) (z3 m c), run_kernel m g,
    (θ_run _ _ _).mono (fun r hr c => ?_) (Cert.Reference17Ideal.Value.run (F := Ideal) m' g')⟩
  obtain ⟨e0, e1, e2, e3⟩ := e c
  obtain ⟨h0, h1, h2, hargs⟩ := hr c
  refine ⟨h0.trans ((val_main_v23_eq _ _ _ _).trans ?_), h1.trans ((val_main_v4_eq _ _).trans ?_), h2.trans ((val_main_v10_eq _ _).trans ?_), hargs⟩
  · rw [e0, e1, e2, e3]
  · rw [e1, e2]
  · rw [e1, e3]

end AdamwPw1

end
-- ==== Proof.AdamwUp.lean ====
module

public import proofs.«01_k».proof.Defs
public import proofs.«01_k».proof.Proof.Gen.Kernel18Ideal.Frame
public import proofs.«01_k».proof.Proof.Gen.Reference18Ideal.Run
public import proofs.«01_k».proof.Proof.Gen.Reference18Ideal.Read
public import Idealize.ShloMosaic.Lib.Pipeline.ValueKit
public import Idealize.ShloMosaic.Lib.Claim

/-! The optimiser's step of the feed-forward blocks' first weight. -/

@[expose] public section

set_option maxRecDepth 16384

noncomputable section

namespace AdamwUp

open Idealize.ShloMosaic Idealize.ShloMosaic.TcCoe Idealize.SL.Sem
open Idealize.ShloMosaic.Pipeline (Dat)
open Cert.Kernel18Ideal Cert.Kernel18Ideal.Gen
open Cert.Reference18Ideal.Read

/-- A constant of the step, by its bits. -/
abbrev k (b : BitVec 32) : EReal := FloatOps.ofBits (F := Ideal) .f32 b

/-- The new mean of one entry, from its gradient and its mean. -/
def sM (g m : EReal) : EReal := k 0x3F666666#32 * m + k 0x3DCCCCCD#32 * g
/-- The new square mean of one entry, from its gradient and its square mean. -/
def sV (g v : EReal) : EReal := k 0x3F7FBE77#32 * v + k 0x3A83126F#32 * (g * g)
/-- The change of one entry of the weight. -/
def sU (w g m v : EReal) : EReal :=
  k 0xBA83126F#32 * (Ideal.div (Ideal.div (sM g m) (k 0x3F26BD02#32)) (Ideal.sqrt (Ideal.div (sV g v) (k 0x3C231ACC#32)) + k 0x322BCC77#32) + k 0x3C23D70A#32 * w)

variable (m : (ℓ : Loc nD τ sig) → Buf (Elt Ideal) ℓ) (c : Dev nD)

/-- The weight at launch. -/
abbrev z0 : FVec Ideal S2x1024x1408 .f32 := m ((c.tc : Thread nD τ).loc main_arg0)
/-- The gradient at launch. -/
abbrev z1 : FVec Ideal S2x1024x1408 .f32 := m ((c.tc : Thread nD τ).loc main_arg1)
/-- The mean at launch. -/
abbrev z2 : FVec Ideal S2x1024x1408 .f32 := m ((c.tc : Thread nD τ).loc main_arg2)
/-- The square mean at launch. -/
abbrev z3 : FVec Ideal S2x1024x1408 .f32 := m ((c.tc : Thread nD τ).loc main_arg3)

/-- The block indices: every window is a block of rows of one layer. -/
theorem idx : ∀ t : Fin cfg0.N, win0_0.index t = ![t.val / 8, t.val % 8, 0] ∧ win0_1.index t = ![t.val / 8, t.val % 8, 0] ∧ win0_2.index t = ![t.val / 8, t.val % 8, 0] ∧ win0_3.index t = ![t.val / 8, t.val % 8, 0] ∧ win0_4.index t = ![t.val / 8, t.val % 8, 0] ∧ win0_5.index t = ![t.val / 8, t.val % 8, 0] ∧ win0_6.index t = ![t.val / 8, t.val % 8, 0] :=
  (by decide +kernel : ∀ t : Fin grid0.N, win0_0.index t = ![t.val / 8, t.val % 8, 0] ∧ win0_1.index t = ![t.val / 8, t.val % 8, 0] ∧ win0_2.index t = ![t.val / 8, t.val % 8, 0] ∧ win0_3.index t = ![t.val / 8, t.val % 8, 0] ∧ win0_4.index t = ![t.val / 8, t.val % 8, 0] ∧ win0_5.index t = ![t.val / 8, t.val % 8, 0] ∧ win0_6.index t = ![t.val / 8, t.val % 8, 0])

/-- The layer of the arrays the block of point `t` holds. -/
def lay (t : Fin 16) : Fin 2 := ⟨t.val / 8, by omega⟩
/-- The row of the arrays the block of point `t` holds at `r`. -/
def row (t : Fin 16) (r : Fin 128) : Fin 1024 := ⟨t.val % 8 * 128 + r.val, by omega⟩

/-- A point as a number below the count of points. -/
abbrev pt (t : Fin cfg0.N) : Fin 16 := ⟨t.val, lt_of_lt_of_eq t.isLt N_0⟩

variable (t : Fin cfg0.N)

/-- The point's block of the weight is its rows. -/
theorem ib0 (r d) : (iblk m c 0 t : FVec Ideal S1x128x1408 .f32) (ix3 0 r d) = z0 m c (ix3 (lay (pt t)) (row (pt t) r) d) := by
  unfold lay row
  blk_point [iblk, V, idx t]
/-- The point's block of the gradient is its rows. -/
theorem ib1 (r d) : (iblk m c 1 t : FVec Ideal S1x128x1408 .f32) (ix3 0 r d) = z1 m c (ix3 (lay (pt t)) (row (pt t) r) d) := by
  unfold lay row
  blk_point [iblk, V, idx t]
/-- The point's block of the mean is its rows. -/
theorem ib2 (r d) : (iblk m c 2 t : FVec Ideal S1x128x1408 .f32) (ix3 0 r d) = z2 m c (ix3 (lay (pt t)) (row (pt t) r) d) := by
  unfold lay row
  blk_point [iblk, V, idx t]
/-- The point's block of the square mean is its rows. -/
theorem ib3 (r d) : (iblk m c 3 t : FVec Ideal S1x128x1408 .f32) (ix3 0 r d) = z3 m c (ix3 (lay (pt t)) (row (pt t) r) d) := by
  unfold lay row
  blk_point [iblk, V, idx t]

/-- A block of the new mean. -/
theorem pM (r d) : k0_pay1 (F := Ideal) (iblk m c 1 t) (iblk m c 2 t) (ix3 0 r d)
    = sM (z1 m c (ix3 (lay (pt t)) (row (pt t) r) d)) (z2 m c (ix3 (lay (pt t)) (row (pt t) r) d)) := by
  unfold sM
  simp only [← ib1 m c t, ← ib2 m c t]
  pointwise [k0_pay1]
/-- A block of the new square mean. -/
theorem pV (r d) : k0_pay2 (F := Ideal) (iblk m c 1 t) (iblk m c 3 t) (ix3 0 r d)
    = sV (z1 m c (ix3 (lay (pt t)) (row (pt t) r) d)) (z3 m c (ix3 (lay (pt t)) (row (pt t) r) d)) := by
  unfold sV
  simp only [← ib1 m c t, ← ib3 m c t]
  pointwise [k0_pay2]
/-- A block of the change. -/
theorem pU (r d) : k0_pay3 (F := Ideal) (iblk m c 0 t) (iblk m c 1 t) (iblk m c 2 t) (iblk m c 3 t) (ix3 0 r d)
    = sU (z0 m c (ix3 (lay (pt t)) (row (pt t) r) d)) (z1 m c (ix3 (lay (pt t)) (row (pt t) r) d))
        (z2 m c (ix3 (lay (pt t)) (row (pt t) r) d)) (z3 m c (ix3 (lay (pt t)) (row (pt t) r) d)) := by
  unfold sU
  simp only [← pM m c t, ← pV m c t, ← ib0 m c t]
  pointwise [k0_pay3]

/-- An entry of the arrays after the step, from the four at launch. -/
def gM (x1 x2 : FVec Ideal S2x1024x1408 .f32) (l : Fin 2) (r : Fin 1024) (d : Fin 1408) : EReal := sM (x1 (ix3 l r d)) (x2 (ix3 l r d))
/-- An entry of the new square mean. -/
def gV (x1 x3 : FVec Ideal S2x1024x1408 .f32) (l : Fin 2) (r : Fin 1024) (d : Fin 1408) : EReal := sV (x1 (ix3 l r d)) (x3 (ix3 l r d))
/-- An entry of the change. -/
def gU (x0 x1 x2 x3 : FVec Ideal S2x1024x1408 .f32) (l : Fin 2) (r : Fin 1024) (d : Fin 1408) : EReal :=
  sU (x0 (ix3 l r d)) (x1 (ix3 l r d)) (x2 (ix3 l r d)) (x3 (ix3 l r d))

/-- Two entries at equal places are equal. -/
theorem at_eq {f : Fin 2 → Fin 1024 → Fin 1408 → EReal} {a a' : Fin 2} {b b' : Fin 1024} {d d' : Fin 1408} (ha : a = a') (hb : b = b') (hd : d = d') :
    f a b d = f a' b' d' := by rw [ha, hb, hd]

/-- The array of the change. -/
theorem fin4 : (dats m 0 c).arrAt 4 cfg0.N = (fun y : S2x1024x1408.Idx => gU (z0 m c) (z1 m c) (z2 m c) (z3 m c) (y 0) (y 1) (y 2)) := by
  refine (dats m 0 c).arrAt_eq_of_covers 4 _ (by decide +kernel) fun t hf y => ?_
  blk_simp
  rw [after0_4]
  idx_vars y
  have e : (out0_4 (iblk m c 0 t) (iblk m c 1 t) (iblk m c 2 t) (iblk m c 3 t) : FVec Ideal S1x128x1408 .f32) (ix3 y0 y1 y2)
      = gU (z0 m c) (z1 m c) (z2 m c) (z3 m c) (lay (pt t)) (row (pt t) y1) y2 := by
    obtain rfl : y0 = 0 := Subsingleton.elim _ _
    frame_out
    exact pU m c t y1 y2
  refine e.trans ?_
  refine at_eq (f := gU (z0 m c) (z1 m c) (z2 m c) (z3 m c)) (Fin.ext ?_) (Fin.ext ?_) (Fin.ext ?_) <;> ((try unfold lay); (try unfold row); blk_simp [idx t]; try omega)

/-- The array of the new mean. -/
theorem fin5 : (dats m 0 c).arrAt 5 cfg0.N = (fun y : S2x1024x1408.Idx => gM (z1 m c) (z2 m c) (y 0) (y 1) (y 2)) := by
  refine (dats m 0 c).arrAt_eq_of_covers 5 _ (by decide +kernel) fun t hf y => ?_
  blk_simp
  rw [after0_5]
  idx_vars y
  have e : (out0_5 (iblk m c 0 t) (iblk m c 1 t) (iblk m c 2 t) (iblk m c 3 t) : FVec Ideal S1x128x1408 .f32) (ix3 y0 y1 y2)
      = gM (z1 m c) (z2 m c) (lay (pt t)) (row (pt t) y1) y2 := by
    obtain rfl : y0 = 0 := Subsingleton.elim _ _
    frame_out
    exact pM m c t y1 y2
  refine e.trans ?_
  refine at_eq (f := gM (z1 m c) (z2 m c)) (Fin.ext ?_) (Fin.ext ?_) (Fin.ext ?_) <;> ((try unfold lay); (try unfold row); blk_simp [idx t]; try omega)

/-- The array of the new square mean. -/
theorem fin6 : (dats m 0 c).arrAt 6 cfg0.N = (fun y : S2x1024x1408.Idx => gV (z1 m c) (z3 m c) (y 0) (y 1) (y 2)) := by
  refine (dats m 0 c).arrAt_eq_of_covers 6 _ (by decide +kernel) fun t hf y => ?_
  blk_simp
  rw [after0_6]
  idx_vars y
  have e : (out0_6 (iblk m c 0 t) (iblk m c 1 t) (iblk m c 2 t) (iblk m c 3 t) : FVec Ideal S1x128x1408 .f32) (ix3 y0 y1 y2)
      = gV (z1 m c) (z3 m c) (lay (pt t)) (row (pt t) y1) y2 := by
    obtain rfl : y0 = 0 := Subsingleton.elim _ _
    frame_out
    exact pV m c t y1 y2
  refine e.trans ?_
  refine at_eq (f := gV (z1 m c) (z3 m c)) (Fin.ext ?_) (Fin.ext ?_) (Fin.ext ?_) <;> ((try unfold lay); (try unfold row); blk_simp [idx t]; try omega)

section
variable (x0 x1 x2 x3 : FVec Ideal S2x1024x1408 .f32)

/-- The reference's new mean. -/
theorem qM (l r d) : val_main_v4 (F := Ideal) x1 x2 (ix3 l r d) = gM x1 x2 l r d := by
  unfold gM sM
  pointwise [val_main_v4, val_main_v3, val_main_v2, val_main_v1, val_main_v0, val_main_cst, val_main_cst_0]
/-- The reference's new square mean. -/
theorem qV (l r d) : val_main_v10 (F := Ideal) x1 x3 (ix3 l r d) = gV x1 x3 l r d := by
  unfold gV sV
  pointwise [val_main_v10, val_main_v9, val_main_v8, val_main_v7, val_main_v6, val_main_v5, val_main_cst_1, val_main_cst_2]
/-- The reference's change. -/
theorem qU (l r d) : val_main_v23 (F := Ideal) x0 x1 x2 x3 (ix3 l r d) = gU x0 x1 x2 x3 l r d := by
  have eM := qM x1 x2 l r d
  have eV := qV x1 x3 l r d
  unfold gM at eM
  unfold gV at eV
  unfold gU sU
  rw [← eM, ← eV]
  pointwise [val_main_v23, val_main_v22, val_main_v21, val_main_v20, val_main_v19, val_main_v18, val_main_v17, val_main_v16, val_main_v15, val_main_v14, val_main_v13, val_main_v12, val_main_v11,
    val_main_cst_3, val_main_cst_4, val_main_cst_5, val_main_cst_6, val_main_cst_7]
end

/-- Result 0 of the kernel is the reference's. -/
theorem eq_4 : ((dats m 0 c).arrAt 4 cfg0.N : FVec Ideal S2x1024x1408 .f32) = val_main_v23 (F := Ideal) (z0 m c) (z1 m c) (z2 m c) (z3 m c) := by
  rw [fin4]
  funext y
  idx_vars y
  exact (qU _ _ _ _ y0 y1 y2).symm

/-- Result 1 of the kernel is the reference's. -/
theorem eq_5 : ((dats m 0 c).arrAt 5 cfg0.N : FVec Ideal S2x1024x1408 .f32) = val_main_v4 (F := Ideal) (z1 m c) (z2 m c) := by
  rw [fin5]
  funext y
  idx_vars y
  exact (qM _ _ y0 y1 y2).symm

/-- Result 2 of the kernel is the reference's. -/
theorem eq_6 : ((dats m 0 c).arrAt 6 cfg0.N : FVec Ideal S2x1024x1408 .f32) = val_main_v10 (F := Ideal) (z1 m c) (z3 m c) := by
  rw [fin6]
  funext y
  idx_vars y
  exact (qV _ _ y0 y1 y2).symm

/-- The kernel's run ends with the reference's functions of the arguments. -/
theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = val_main_v23 (F := Ideal) (z0 m c) (z1 m c) (z2 m c) (z3 m c)
      ∧ r.2.mem ((c.tc : Thread nD τ).loc main_v0_1) = val_main_v4 (F := Ideal) (z1 m c) (z2 m c)
      ∧ r.2.mem ((c.tc : Thread nD τ).loc main_v0_2) = val_main_v10 (F := Ideal) (z1 m c) (z3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c => ⟨((hr c).1 4).trans (eq_4 m c), ((hr c).1 5).trans (eq_5 m c), ((hr c).1 6).trans (eq_6 m c),
      ((hr c).1 0).trans (((dats m 0 c).arrAt_in 0 rfl _).trans ((A_eq m c 0).trans (V_main_arg0 m c))),
      ((hr c).1 1).trans (((dats m 0 c).arrAt_in 1 rfl _).trans ((A_eq m c 1).trans (V_main_arg1 m c))),
      ((hr c).1 2).trans (((dats m 0 c).arrAt_in 2 rfl _).trans ((A_eq m c 2).trans (V_main_arg2 m c))),
      ((hr c).1 3).trans (((dats m 0 c).arrAt_in 3 rfl _).trans ((A_eq m c 3).trans (V_main_arg3 m c)))⟩) (run_main m ρ)

/-- The kernel and the reference end with equal results. -/
theorem algebraic : Cert.algebraic_Kernel18Ideal_Reference18Ideal (hKernel18Ideal := Cert.Kernel18Ideal.Gen.facts)
    (hReference18Ideal := Cert.Reference18Ideal.Gen.facts) := by
  intro m g m' g' h e
  refine ⟨fun c => val_main_v23 (F := Ideal) (z0 m c) (z1 m c) (z2 m c) (z3 m c), fun c => val_main_v4 (F := Ideal) (z1 m c) (z2 m c), fun c => val_main_v10 (F := Ideal) (z1 m c) (z3 m c), run_kernel m g,
    (θ_run _ _ _).mono (fun r hr c => ?_) (Cert.Reference18Ideal.Value.run (F := Ideal) m' g')⟩
  obtain ⟨e0, e1, e2, e3⟩ := e c
  obtain ⟨h0, h1, h2, hargs⟩ := hr c
  refine ⟨h0.trans ((val_main_v23_eq _ _ _ _).trans ?_), h1.trans ((val_main_v4_eq _ _).trans ?_), h2.trans ((val_main_v10_eq _ _).trans ?_), hargs⟩
  · rw [e0, e1, e2, e3]
  · rw [e1, e2]
  · rw [e1, e3]

end AdamwUp

end
-- ==== Proof.AdamwDown.lean ====
module

public import proofs.«01_k».proof.Defs
public import proofs.«01_k».proof.Proof.Gen.Kernel19Ideal.Frame
public import proofs.«01_k».proof.Proof.Gen.Reference19Ideal.Run
public import proofs.«01_k».proof.Proof.Gen.Reference19Ideal.Read
public import Idealize.ShloMosaic.Lib.Pipeline.ValueKit
public import Idealize.ShloMosaic.Lib.Claim

/-! The optimiser's step of the feed-forward blocks' second weight. -/

@[expose] public section

set_option maxRecDepth 16384

noncomputable section

namespace AdamwDown

open Idealize.ShloMosaic Idealize.ShloMosaic.TcCoe Idealize.SL.Sem
open Idealize.ShloMosaic.Pipeline (Dat)
open Cert.Kernel19Ideal Cert.Kernel19Ideal.Gen
open Cert.Reference19Ideal.Read

/-- A constant of the step, by its bits. -/
abbrev k (b : BitVec 32) : EReal := FloatOps.ofBits (F := Ideal) .f32 b

/-- The new mean of one entry, from its gradient and its mean. -/
def sM (g m : EReal) : EReal := k 0x3F666666#32 * m + k 0x3DCCCCCD#32 * g
/-- The new square mean of one entry, from its gradient and its square mean. -/
def sV (g v : EReal) : EReal := k 0x3F7FBE77#32 * v + k 0x3A83126F#32 * (g * g)
/-- The change of one entry of the weight. -/
def sU (w g m v : EReal) : EReal :=
  k 0xBA83126F#32 * (Ideal.div (Ideal.div (sM g m) (k 0x3F26BD02#32)) (Ideal.sqrt (Ideal.div (sV g v) (k 0x3C231ACC#32)) + k 0x322BCC77#32) + k 0x3C23D70A#32 * w)

variable (m : (ℓ : Loc nD τ sig) → Buf (Elt Ideal) ℓ) (c : Dev nD)

/-- The weight at launch. -/
abbrev z0 : FVec Ideal S2x704x1024 .f32 := m ((c.tc : Thread nD τ).loc main_arg0)
/-- The gradient at launch. -/
abbrev z1 : FVec Ideal S2x704x1024 .f32 := m ((c.tc : Thread nD τ).loc main_arg1)
/-- The mean at launch. -/
abbrev z2 : FVec Ideal S2x704x1024 .f32 := m ((c.tc : Thread nD τ).loc main_arg2)
/-- The square mean at launch. -/
abbrev z3 : FVec Ideal S2x704x1024 .f32 := m ((c.tc : Thread nD τ).loc main_arg3)

/-- The block indices: every window is a block of rows of one layer. -/
theorem idx : ∀ t : Fin cfg0.N, win0_0.index t = ![t.val / 4, t.val % 4, 0] ∧ win0_1.index t = ![t.val / 4, t.val % 4, 0] ∧ win0_2.index t = ![t.val / 4, t.val % 4, 0] ∧ win0_3.index t = ![t.val / 4, t.val % 4, 0] ∧ win0_4.index t = ![t.val / 4, t.val % 4, 0] ∧ win0_5.index t = ![t.val / 4, t.val % 4, 0] ∧ win0_6.index t = ![t.val / 4, t.val % 4, 0] :=
  (by decide +kernel : ∀ t : Fin grid0.N, win0_0.index t = ![t.val / 4, t.val % 4, 0] ∧ win0_1.index t = ![t.val / 4, t.val % 4, 0] ∧ win0_2.index t = ![t.val / 4, t.val % 4, 0] ∧ win0_3.index t = ![t.val / 4, t.val % 4, 0] ∧ win0_4.index t = ![t.val / 4, t.val % 4, 0] ∧ win0_5.index t = ![t.val / 4, t.val % 4, 0] ∧ win0_6.index t = ![t.val / 4, t.val % 4, 0])

/-- The layer of the arrays the block of point `t` holds. -/
def lay (t : Fin 8) : Fin 2 := ⟨t.val / 4, by omega⟩
/-- The row of the arrays the block of point `t` holds at `r`. -/
def row (t : Fin 8) (r : Fin 176) : Fin 704 := ⟨t.val % 4 * 176 + r.val, by omega⟩

/-- A point as a number below the count of points. -/
abbrev pt (t : Fin cfg0.N) : Fin 8 := ⟨t.val, lt_of_lt_of_eq t.isLt N_0⟩

variable (t : Fin cfg0.N)

/-- The point's block of the weight is its rows. -/
theorem ib0 (r d) : (iblk m c 0 t : FVec Ideal S1x176x1024 .f32) (ix3 0 r d) = z0 m c (ix3 (lay (pt t)) (row (pt t) r) d) := by
  unfold lay row
  blk_point [iblk, V, idx t]
/-- The point's block of the gradient is its rows. -/
theorem ib1 (r d) : (iblk m c 1 t : FVec Ideal S1x176x1024 .f32) (ix3 0 r d) = z1 m c (ix3 (lay (pt t)) (row (pt t) r) d) := by
  unfold lay row
  blk_point [iblk, V, idx t]
/-- The point's block of the mean is its rows. -/
theorem ib2 (r d) : (iblk m c 2 t : FVec Ideal S1x176x1024 .f32) (ix3 0 r d) = z2 m c (ix3 (lay (pt t)) (row (pt t) r) d) := by
  unfold lay row
  blk_point [iblk, V, idx t]
/-- The point's block of the square mean is its rows. -/
theorem ib3 (r d) : (iblk m c 3 t : FVec Ideal S1x176x1024 .f32) (ix3 0 r d) = z3 m c (ix3 (lay (pt t)) (row (pt t) r) d) := by
  unfold lay row
  blk_point [iblk, V, idx t]

/-- A block of the new mean. -/
theorem pM (r d) : k0_pay1 (F := Ideal) (iblk m c 1 t) (iblk m c 2 t) (ix3 0 r d)
    = sM (z1 m c (ix3 (lay (pt t)) (row (pt t) r) d)) (z2 m c (ix3 (lay (pt t)) (row (pt t) r) d)) := by
  unfold sM
  simp only [← ib1 m c t, ← ib2 m c t]
  pointwise [k0_pay1]
/-- A block of the new square mean. -/
theorem pV (r d) : k0_pay2 (F := Ideal) (iblk m c 1 t) (iblk m c 3 t) (ix3 0 r d)
    = sV (z1 m c (ix3 (lay (pt t)) (row (pt t) r) d)) (z3 m c (ix3 (lay (pt t)) (row (pt t) r) d)) := by
  unfold sV
  simp only [← ib1 m c t, ← ib3 m c t]
  pointwise [k0_pay2]
/-- A block of the change. -/
theorem pU (r d) : k0_pay3 (F := Ideal) (iblk m c 0 t) (iblk m c 1 t) (iblk m c 2 t) (iblk m c 3 t) (ix3 0 r d)
    = sU (z0 m c (ix3 (lay (pt t)) (row (pt t) r) d)) (z1 m c (ix3 (lay (pt t)) (row (pt t) r) d))
        (z2 m c (ix3 (lay (pt t)) (row (pt t) r) d)) (z3 m c (ix3 (lay (pt t)) (row (pt t) r) d)) := by
  unfold sU
  simp only [← pM m c t, ← pV m c t, ← ib0 m c t]
  pointwise [k0_pay3]

/-- An entry of the arrays after the step, from the four at launch. -/
def gM (x1 x2 : FVec Ideal S2x704x1024 .f32) (l : Fin 2) (r : Fin 704) (d : Fin 1024) : EReal := sM (x1 (ix3 l r d)) (x2 (ix3 l r d))
/-- An entry of the new square mean. -/
def gV (x1 x3 : FVec Ideal S2x704x1024 .f32) (l : Fin 2) (r : Fin 704) (d : Fin 1024) : EReal := sV (x1 (ix3 l r d)) (x3 (ix3 l r d))
/-- An entry of the change. -/
def gU (x0 x1 x2 x3 : FVec Ideal S2x704x1024 .f32) (l : Fin 2) (r : Fin 704) (d : Fin 1024) : EReal :=
  sU (x0 (ix3 l r d)) (x1 (ix3 l r d)) (x2 (ix3 l r d)) (x3 (ix3 l r d))

/-- Two entries at equal places are equal. -/
theorem at_eq {f : Fin 2 → Fin 704 → Fin 1024 → EReal} {a a' : Fin 2} {b b' : Fin 704} {d d' : Fin 1024} (ha : a = a') (hb : b = b') (hd : d = d') :
    f a b d = f a' b' d' := by rw [ha, hb, hd]

/-- The array of the change. -/
theorem fin4 : (dats m 0 c).arrAt 4 cfg0.N = (fun y : S2x704x1024.Idx => gU (z0 m c) (z1 m c) (z2 m c) (z3 m c) (y 0) (y 1) (y 2)) := by
  refine (dats m 0 c).arrAt_eq_of_covers 4 _ (by decide +kernel) fun t hf y => ?_
  blk_simp
  rw [after0_4]
  idx_vars y
  have e : (out0_4 (iblk m c 0 t) (iblk m c 1 t) (iblk m c 2 t) (iblk m c 3 t) : FVec Ideal S1x176x1024 .f32) (ix3 y0 y1 y2)
      = gU (z0 m c) (z1 m c) (z2 m c) (z3 m c) (lay (pt t)) (row (pt t) y1) y2 := by
    obtain rfl : y0 = 0 := Subsingleton.elim _ _
    frame_out
    exact pU m c t y1 y2
  refine e.trans ?_
  refine at_eq (f := gU (z0 m c) (z1 m c) (z2 m c) (z3 m c)) (Fin.ext ?_) (Fin.ext ?_) (Fin.ext ?_) <;> ((try unfold lay); (try unfold row); blk_simp [idx t]; try omega)

/-- The array of the new mean. -/
theorem fin5 : (dats m 0 c).arrAt 5 cfg0.N = (fun y : S2x704x1024.Idx => gM (z1 m c) (z2 m c) (y 0) (y 1) (y 2)) := by
  refine (dats m 0 c).arrAt_eq_of_covers 5 _ (by decide +kernel) fun t hf y => ?_
  blk_simp
  rw [after0_5]
  idx_vars y
  have e : (out0_5 (iblk m c 0 t) (iblk m c 1 t) (iblk m c 2 t) (iblk m c 3 t) : FVec Ideal S1x176x1024 .f32) (ix3 y0 y1 y2)
      = gM (z1 m c) (z2 m c) (lay (pt t)) (row (pt t) y1) y2 := by
    obtain rfl : y0 = 0 := Subsingleton.elim _ _
    frame_out
    exact pM m c t y1 y2
  refine e.trans ?_
  refine at_eq (f := gM (z1 m c) (z2 m c)) (Fin.ext ?_) (Fin.ext ?_) (Fin.ext ?_) <;> ((try unfold lay); (try unfold row); blk_simp [idx t]; try omega)

/-- The array of the new square mean. -/
theorem fin6 : (dats m 0 c).arrAt 6 cfg0.N = (fun y : S2x704x1024.Idx => gV (z1 m c) (z3 m c) (y 0) (y 1) (y 2)) := by
  refine (dats m 0 c).arrAt_eq_of_covers 6 _ (by decide +kernel) fun t hf y => ?_
  blk_simp
  rw [after0_6]
  idx_vars y
  have e : (out0_6 (iblk m c 0 t) (iblk m c 1 t) (iblk m c 2 t) (iblk m c 3 t) : FVec Ideal S1x176x1024 .f32) (ix3 y0 y1 y2)
      = gV (z1 m c) (z3 m c) (lay (pt t)) (row (pt t) y1) y2 := by
    obtain rfl : y0 = 0 := Subsingleton.elim _ _
    frame_out
    exact pV m c t y1 y2
  refine e.trans ?_
  refine at_eq (f := gV (z1 m c) (z3 m c)) (Fin.ext ?_) (Fin.ext ?_) (Fin.ext ?_) <;> ((try unfold lay); (try unfold row); blk_simp [idx t]; try omega)

section
variable (x0 x1 x2 x3 : FVec Ideal S2x704x1024 .f32)

/-- The reference's new mean. -/
theorem qM (l r d) : val_main_v4 (F := Ideal) x1 x2 (ix3 l r d) = gM x1 x2 l r d := by
  unfold gM sM
  pointwise [val_main_v4, val_main_v3, val_main_v2, val_main_v1, val_main_v0, val_main_cst, val_main_cst_0]
/-- The reference's new square mean. -/
theorem qV (l r d) : val_main_v10 (F := Ideal) x1 x3 (ix3 l r d) = gV x1 x3 l r d := by
  unfold gV sV
  pointwise [val_main_v10, val_main_v9, val_main_v8, val_main_v7, val_main_v6, val_main_v5, val_main_cst_1, val_main_cst_2]
/-- The reference's change. -/
theorem qU (l r d) : val_main_v23 (F := Ideal) x0 x1 x2 x3 (ix3 l r d) = gU x0 x1 x2 x3 l r d := by
  have eM := qM x1 x2 l r d
  have eV := qV x1 x3 l r d
  unfold gM at eM
  unfold gV at eV
  unfold gU sU
  rw [← eM, ← eV]
  pointwise [val_main_v23, val_main_v22, val_main_v21, val_main_v20, val_main_v19, val_main_v18, val_main_v17, val_main_v16, val_main_v15, val_main_v14, val_main_v13, val_main_v12, val_main_v11,
    val_main_cst_3, val_main_cst_4, val_main_cst_5, val_main_cst_6, val_main_cst_7]
end

/-- Result 0 of the kernel is the reference's. -/
theorem eq_4 : ((dats m 0 c).arrAt 4 cfg0.N : FVec Ideal S2x704x1024 .f32) = val_main_v23 (F := Ideal) (z0 m c) (z1 m c) (z2 m c) (z3 m c) := by
  rw [fin4]
  funext y
  idx_vars y
  exact (qU _ _ _ _ y0 y1 y2).symm

/-- Result 1 of the kernel is the reference's. -/
theorem eq_5 : ((dats m 0 c).arrAt 5 cfg0.N : FVec Ideal S2x704x1024 .f32) = val_main_v4 (F := Ideal) (z1 m c) (z2 m c) := by
  rw [fin5]
  funext y
  idx_vars y
  exact (qM _ _ y0 y1 y2).symm

/-- Result 2 of the kernel is the reference's. -/
theorem eq_6 : ((dats m 0 c).arrAt 6 cfg0.N : FVec Ideal S2x704x1024 .f32) = val_main_v10 (F := Ideal) (z1 m c) (z3 m c) := by
  rw [fin6]
  funext y
  idx_vars y
  exact (qV _ _ y0 y1 y2).symm

/-- The kernel's run ends with the reference's functions of the arguments. -/
theorem run_kernel (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = val_main_v23 (F := Ideal) (z0 m c) (z1 m c) (z2 m c) (z3 m c)
      ∧ r.2.mem ((c.tc : Thread nD τ).loc main_v0_1) = val_main_v4 (F := Ideal) (z1 m c) (z2 m c)
      ∧ r.2.mem ((c.tc : Thread nD τ).loc main_v0_2) = val_main_v10 (F := Ideal) (z1 m c) (z3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r hr c => ⟨((hr c).1 4).trans (eq_4 m c), ((hr c).1 5).trans (eq_5 m c), ((hr c).1 6).trans (eq_6 m c),
      ((hr c).1 0).trans (((dats m 0 c).arrAt_in 0 rfl _).trans ((A_eq m c 0).trans (V_main_arg0 m c))),
      ((hr c).1 1).trans (((dats m 0 c).arrAt_in 1 rfl _).trans ((A_eq m c 1).trans (V_main_arg1 m c))),
      ((hr c).1 2).trans (((dats m 0 c).arrAt_in 2 rfl _).trans ((A_eq m c 2).trans (V_main_arg2 m c))),
      ((hr c).1 3).trans (((dats m 0 c).arrAt_in 3 rfl _).trans ((A_eq m c 3).trans (V_main_arg3 m c)))⟩) (run_main m ρ)

/-- The kernel and the reference end with equal results. -/
theorem algebraic : Cert.algebraic_Kernel19Ideal_Reference19Ideal (hKernel19Ideal := Cert.Kernel19Ideal.Gen.facts)
    (hReference19Ideal := Cert.Reference19Ideal.Gen.facts) := by
  intro m g m' g' h e
  refine ⟨fun c => val_main_v23 (F := Ideal) (z0 m c) (z1 m c) (z2 m c) (z3 m c), fun c => val_main_v4 (F := Ideal) (z1 m c) (z2 m c), fun c => val_main_v10 (F := Ideal) (z1 m c) (z3 m c), run_kernel m g,
    (θ_run _ _ _).mono (fun r hr c => ?_) (Cert.Reference19Ideal.Value.run (F := Ideal) m' g')⟩
  obtain ⟨e0, e1, e2, e3⟩ := e c
  obtain ⟨h0, h1, h2, hargs⟩ := hr c
  refine ⟨h0.trans ((val_main_v23_eq _ _ _ _).trans ?_), h1.trans ((val_main_v4_eq _ _).trans ?_), h2.trans ((val_main_v10_eq _ _).trans ?_), hargs⟩
  · rw [e0, e1, e2, e3]
  · rw [e1, e2]
  · rw [e1, e3]

end AdamwDown

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Reference19Ideal.Read
public import proofs.«01_k».proof.Proof.Run
public import proofs.«01_k».proof.Proof.WgradUp
public import proofs.«01_k».proof.Proof.WgradDown
public import proofs.«01_k».proof.Proof.QkvBwd
public import proofs.«01_k».proof.Proof.WgradPw1
public import proofs.«01_k».proof.Proof.WgradPw2
public import proofs.«01_k».proof.Proof.WgradQ
public import proofs.«01_k».proof.Proof.WgradKv
public import proofs.«01_k».proof.Proof.AttnOutBwd
public import proofs.«01_k».proof.Proof.AttnOutFwd
public import proofs.«01_k».proof.Proof.QkvFwd
public import proofs.«01_k».proof.Proof.Pw1Fwd
public import proofs.«01_k».proof.Proof.FfnFwd
public import proofs.«01_k».proof.Proof.FfnMid
public import proofs.«01_k».proof.Proof.AdamwQkv
public import proofs.«01_k».proof.Proof.AdamwO
public import proofs.«01_k».proof.Proof.AdamwPw1
public import proofs.«01_k».proof.Proof.AdamwUp
public import proofs.«01_k».proof.Proof.AdamwDown
public import Idealize.ShloMosaic.Adequacy
public import Idealize.ShloMosaic.Init

@[expose] public section

noncomputable section

namespace Cert.Proof

open Idealize.ShloMosaic Idealize.SL.Sem Cert.Kernel

/-- The reference of call 1 runs, leaves its arguments as they were, and has no counter. -/
theorem frame_ref : Cert.quiescent_ReferenceIdeal (hReferenceIdeal := Cert.ReferenceIdeal.Gen.facts) := fun m ρ _ =>
  (θ_run _ _ _).mono (fun r h => ⟨fun c => (h c).2.2.2.2.2, sem_eq_zero_of_no_sems rfl r.2⟩) (Cert.ReferenceIdeal.Value.run (F := Ideal) m ρ)

/-- The reference of call 2 runs, leaves its arguments as they were, and has no counter. -/
theorem frame_ref2 : Cert.quiescent_Reference2Ideal (hReference2Ideal := Cert.Reference2Ideal.Gen.facts) := fun m ρ _ =>
  (θ_run _ _ _).mono (fun r h => ⟨fun c => (h c).2, sem_eq_zero_of_no_sems rfl r.2⟩) (Cert.Reference2Ideal.Value.run (F := Ideal) m ρ)

/-- The reference of call 3 runs, leaves its arguments as they were, and has no counter. -/
theorem frame_ref3 : Cert.quiescent_Reference3Ideal (hReference3Ideal := Cert.Reference3Ideal.Gen.facts) := fun m ρ _ =>
  (θ_run _ _ _).mono (fun r h => ⟨fun c => (h c).2, sem_eq_zero_of_no_sems rfl r.2⟩) (Cert.Reference3Ideal.Value.run (F := Ideal) m ρ)

/-- The reference of call 4 runs, leaves its arguments as they were, and has no counter. -/
theorem frame_ref4 : Cert.quiescent_Reference4Ideal (hReference4Ideal := Cert.Reference4Ideal.Gen.facts) := fun m ρ _ =>
  (θ_run _ _ _).mono (fun r h => ⟨fun c => (h c).2.2.2.2, sem_eq_zero_of_no_sems rfl r.2⟩) (Cert.Reference4Ideal.Value.run (F := Ideal) m ρ)

/-- The reference of call 5 runs, leaves its arguments as they were, and has no counter. -/
theorem frame_ref5 : Cert.quiescent_Reference5Ideal (hReference5Ideal := Cert.Reference5Ideal.Gen.facts) := fun m ρ _ =>
  (θ_run _ _ _).mono (fun r h => ⟨fun c => (h c).2, sem_eq_zero_of_no_sems rfl r.2⟩) (Cert.Reference5Ideal.Value.run (F := Ideal) m ρ)

/-- The reference of call 6 runs, leaves its arguments as they were, and has no counter. -/
theorem frame_ref6 : Cert.quiescent_Reference6Ideal (hReference6Ideal := Cert.Reference6Ideal.Gen.facts) := fun m ρ _ =>
  (θ_run _ _ _).mono (fun r h => ⟨fun c => (h c).2, sem_eq_zero_of_no_sems rfl r.2⟩) (Cert.Reference6Ideal.Value.run (F := Ideal) m ρ)

/-- The reference of call 7 runs, leaves its arguments as they were, and has no counter. -/
theorem frame_ref7 : Cert.quiescent_Reference7Ideal (hReference7Ideal := Cert.Reference7Ideal.Gen.facts) := fun m ρ _ =>
  (θ_run _ _ _).mono (fun r h => ⟨fun c => (h c).2, sem_eq_zero_of_no_sems rfl r.2⟩) (Cert.Reference7Ideal.Value.run (F := Ideal) m ρ)

/-- The reference of call 8 runs, leaves its arguments as they were, and has no counter. -/
theorem frame_ref8 : Cert.quiescent_Reference8Ideal (hReference8Ideal := Cert.Reference8Ideal.Gen.facts) := fun m ρ _ =>
  (θ_run _ _ _).mono (fun r h => ⟨fun c => (h c).2, sem_eq_zero_of_no_sems rfl r.2⟩) (Cert.Reference8Ideal.Value.run (F := Ideal) m ρ)

/-- The reference of call 10 runs, leaves its arguments as they were, and has no counter. -/
theorem frame_ref10 : Cert.quiescent_Reference10Ideal (hReference10Ideal := Cert.Reference10Ideal.Gen.facts) := fun m ρ _ =>
  (θ_run _ _ _).mono (fun r h => ⟨fun c => (h c).2.2, sem_eq_zero_of_no_sems rfl r.2⟩) (Cert.Reference10Ideal.Value.run (F := Ideal) m ρ)

/-- The reference of call 11 runs, leaves its arguments as they were, and has no counter. -/
theorem frame_ref11 : Cert.quiescent_Reference11Ideal (hReference11Ideal := Cert.Reference11Ideal.Gen.facts) := fun m ρ _ =>
  (θ_run _ _ _).mono (fun r h => ⟨fun c => (h c).2, sem_eq_zero_of_no_sems rfl r.2⟩) (Cert.Reference11Ideal.Value.run (F := Ideal) m ρ)

/-- The reference of call 12 runs, leaves its arguments as they were, and has no counter. -/
theorem frame_ref12 : Cert.quiescent_Reference12Ideal (hReference12Ideal := Cert.Reference12Ideal.Gen.facts) := fun m ρ _ =>
  (θ_run _ _ _).mono (fun r h => ⟨fun c => (h c).2.2, sem_eq_zero_of_no_sems rfl r.2⟩) (Cert.Reference12Ideal.Value.run (F := Ideal) m ρ)

/-- The reference of call 13 runs, leaves its arguments as they were, and has no counter. -/
theorem frame_ref13 : Cert.quiescent_Reference13Ideal (hReference13Ideal := Cert.Reference13Ideal.Gen.facts) := fun m ρ _ =>
  (θ_run _ _ _).mono (fun r h => ⟨fun c => (h c).2.2.2, sem_eq_zero_of_no_sems rfl r.2⟩) (Cert.Reference13Ideal.Value.run (F := Ideal) m ρ)

/-- The reference of call 9 runs, leaves its arguments as they were, and has no counter. -/
theorem frame_ref9 : Cert.quiescent_Reference9Ideal (hReference9Ideal := Cert.Reference9Ideal.Gen.facts) := fun m ρ _ =>
  (θ_run _ _ _).mono (fun r h => ⟨fun c => (h c).2.2.2.2.2.2.2, sem_eq_zero_of_no_sems rfl r.2⟩) (Cert.Reference9Ideal.Value.run (F := Ideal) m ρ)

/-- The reference of call 14 runs, leaves its arguments as they were, and has no counter. -/
theorem frame_ref14 : Cert.quiescent_Reference14Ideal (hReference14Ideal := Cert.Reference14Ideal.Gen.facts) := fun m ρ _ =>
  (θ_run _ _ _).mono (fun r h => ⟨fun c => (h c).2.2.2.2.2, sem_eq_zero_of_no_sems rfl r.2⟩) (Cert.Reference14Ideal.Value.run (F := Ideal) m ρ)

/-- The reference of call 15 runs, leaves its arguments as they were, and has no counter. -/
theorem frame_ref15 : Cert.quiescent_Reference15Ideal (hReference15Ideal := Cert.Reference15Ideal.Gen.facts) := fun m ρ _ =>
  (θ_run _ _ _).mono (fun r h => ⟨fun c => (h c).2.2.2, sem_eq_zero_of_no_sems rfl r.2⟩) (Cert.Reference15Ideal.Value.run (F := Ideal) m ρ)

/-- The reference of call 16 runs, leaves its arguments as they were, and has no counter. -/
theorem frame_ref16 : Cert.quiescent_Reference16Ideal (hReference16Ideal := Cert.Reference16Ideal.Gen.facts) := fun m ρ _ =>
  (θ_run _ _ _).mono (fun r h => ⟨fun c => (h c).2.2.2, sem_eq_zero_of_no_sems rfl r.2⟩) (Cert.Reference16Ideal.Value.run (F := Ideal) m ρ)

/-- The reference of call 17 runs, leaves its arguments as they were, and has no counter. -/
theorem frame_ref17 : Cert.quiescent_Reference17Ideal (hReference17Ideal := Cert.Reference17Ideal.Gen.facts) := fun m ρ _ =>
  (θ_run _ _ _).mono (fun r h => ⟨fun c => (h c).2.2.2, sem_eq_zero_of_no_sems rfl r.2⟩) (Cert.Reference17Ideal.Value.run (F := Ideal) m ρ)

/-- The reference of call 18 runs, leaves its arguments as they were, and has no counter. -/
theorem frame_ref18 : Cert.quiescent_Reference18Ideal (hReference18Ideal := Cert.Reference18Ideal.Gen.facts) := fun m ρ _ =>
  (θ_run _ _ _).mono (fun r h => ⟨fun c => (h c).2.2.2, sem_eq_zero_of_no_sems rfl r.2⟩) (Cert.Reference18Ideal.Value.run (F := Ideal) m ρ)

/-- The reference of call 19 runs, leaves its arguments as they were, and has no counter. -/
theorem frame_ref19 : Cert.quiescent_Reference19Ideal (hReference19Ideal := Cert.Reference19Ideal.Gen.facts) := fun m ρ _ =>
  (θ_run _ _ _).mono (fun r h => ⟨fun c => (h c).2.2.2, sem_eq_zero_of_no_sems rfl r.2⟩) (Cert.Reference19Ideal.Value.run (F := Ideal) m ρ)

/-- The programs run to the end, leave their arguments as they were, and every counter at zero; each call and its reference end
    with equal results. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel9.Gen.facts, Cert.Kernel9Ideal.Gen.facts, Cert.Reference9Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Pre_finite.Gen.facts,
    fun m ρ _ => Cert.Kernel.Gen.frame m ρ, fun m ρ _ => Cert.KernelIdeal.Gen.frame m ρ, fun m ρ _ => Cert.KernelIdeal.Gen.frame m ρ, frame_ref, fun m ρ _ => frame_ref m ρ trivial,
    fun m ρ _ => Cert.Kernel2.Gen.frame m ρ, fun m ρ _ => Cert.Kernel2Ideal.Gen.frame m ρ, frame_ref2,
    fun m ρ _ => Cert.Kernel3.Gen.frame m ρ, fun m ρ _ => Cert.Kernel3Ideal.Gen.frame m ρ, frame_ref3,
    fun m ρ _ => Cert.Kernel4.Gen.frame m ρ, fun m ρ _ => Cert.Kernel4Ideal.Gen.frame m ρ, frame_ref4,
    fun m ρ _ => Cert.Kernel5.Gen.frame m ρ, fun m ρ _ => Cert.Kernel5Ideal.Gen.frame m ρ, frame_ref5,
    fun m ρ _ => Cert.Kernel6.Gen.frame m ρ, fun m ρ _ => Cert.Kernel6Ideal.Gen.frame m ρ, frame_ref6,
    fun m ρ _ => Cert.Kernel7.Gen.frame m ρ, fun m ρ _ => Cert.Kernel7Ideal.Gen.frame m ρ, frame_ref7,
    fun m ρ _ => Cert.Kernel8.Gen.frame m ρ, fun m ρ _ => Cert.Kernel8Ideal.Gen.frame m ρ, frame_ref8,
    fun m ρ _ => Cert.Kernel10.Gen.frame m ρ, fun m ρ _ => Cert.Kernel10Ideal.Gen.frame m ρ, frame_ref10,
    fun m ρ _ => Cert.Kernel11.Gen.frame m ρ, fun m ρ _ => Cert.Kernel11Ideal.Gen.frame m ρ, frame_ref11,
    fun m ρ _ => Cert.Kernel12.Gen.frame m ρ, fun m ρ _ => Cert.Kernel12Ideal.Gen.frame m ρ, frame_ref12,
    fun m ρ _ => Cert.Kernel13.Gen.frame m ρ, fun m ρ _ => Cert.Kernel13Ideal.Gen.frame m ρ, frame_ref13,
    fun m ρ _ => Cert.Kernel9.Gen.frame m ρ, fun m ρ _ => Cert.Kernel9Ideal.Gen.frame m ρ, frame_ref9,
    fun m ρ _ => Cert.Kernel14.Gen.frame m ρ, fun m ρ _ => Cert.Kernel14Ideal.Gen.frame m ρ, frame_ref14,
    fun m ρ _ => Cert.Kernel15.Gen.frame m ρ, fun m ρ _ => Cert.Kernel15Ideal.Gen.frame m ρ, frame_ref15,
    fun m ρ _ => Cert.Kernel16.Gen.frame m ρ, fun m ρ _ => Cert.Kernel16Ideal.Gen.frame m ρ, frame_ref16,
    fun m ρ _ => Cert.Kernel17.Gen.frame m ρ, fun m ρ _ => Cert.Kernel17Ideal.Gen.frame m ρ, frame_ref17,
    fun m ρ _ => Cert.Kernel18.Gen.frame m ρ, fun m ρ _ => Cert.Kernel18Ideal.Gen.frame m ρ, frame_ref18,
    fun m ρ _ => Cert.Kernel19.Gen.frame m ρ, fun m ρ _ => Cert.Kernel19Ideal.Gen.frame m ρ, frame_ref19,
    trivial, FfnBwd.algebraic,
    trivial, WgradUp.algebraic,
    trivial, WgradDown.algebraic,
    trivial, QkvBwd.algebraic,
    trivial, WgradPw1.algebraic,
    trivial, WgradPw2.algebraic,
    trivial, WgradQ.algebraic,
    trivial, WgradKv.algebraic,
    trivial, AttnOutBwd.algebraic,
    trivial, AttnOutFwd.algebraic,
    trivial, QkvFwd.algebraic,
    trivial, Pw1Fwd.algebraic,
    trivial, FfnFwd.algebraic,
    trivial, FfnMid.algebraic,
    trivial, AdamwQkv.algebraic,
    trivial, AdamwO.algebraic,
    trivial, AdamwPw1.algebraic,
    trivial, AdamwUp.algebraic,
    trivial, AdamwDown.algebraic⟩

end Cert.Proof

end
